-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6)
      ∧ r.2.mem ((c.tc : Thread Cert.Kernel25.nD Cert.Kernel25.τ).loc Cert.Kernel25.main_arg7) = m ((c.tc : Thread Cert.Kernel25.nD Cert.Kernel25.τ).loc Cert.Kernel25.main_arg7))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5)
      ∧ r.2.mem ((c.tc : Thread Cert.Kernel26.nD Cert.Kernel26.τ).loc Cert.Kernel26.main_arg6) = m ((c.tc : Thread Cert.Kernel26.nD Cert.Kernel26.τ).loc Cert.Kernel26.main_arg6)
      ∧ r.2.mem ((c.tc : Thread Cert.Kernel26.nD Cert.Kernel26.τ).loc Cert.Kernel26.main_arg7) = m ((c.tc : Thread Cert.Kernel26.nD Cert.Kernel26.τ).loc Cert.Kernel26.main_arg7))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
      ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
      ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5)
      ∧ r.2.mem ((c.tc : Thread Cert.Reference26Ideal.nD Cert.Reference26Ideal.τ).loc Cert.Reference26Ideal.main_arg6) = m ((c.tc : Thread Cert.Reference26Ideal.nD Cert.Reference26Ideal.τ).loc Cert.Reference26Ideal.main_arg6)
      ∧ r.2.mem ((c.tc : Thread Cert.Reference26Ideal.nD Cert.Reference26Ideal.τ).loc Cert.Reference26Ideal.main_arg7) = m ((c.tc : Thread Cert.Reference26Ideal.nD Cert.Reference26Ideal.τ).loc Cert.Reference26Ideal.main_arg7))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v7_0)) (v1 : (c : Dev Cert.Kernel13Ideal.nD) → Buf (Elt Ideal) ((c.tc : Thread Cert.Kernel13Ideal.nD Cert.Kernel13Ideal.τ).loc Cert.Kernel13Ideal.main_v7_1)) (v2 : (c : Dev Cert.Kernel13Ideal.nD) → Buf (Elt Ideal) ((c.tc : Thread Cert.Kernel13Ideal.nD Cert.Kernel13Ideal.τ).loc Cert.Kernel13Ideal.main_v7_2)) (v3 : (c : Dev Cert.Kernel13Ideal.nD) → Buf (Elt Ideal) ((c.tc : Thread Cert.Kernel13Ideal.nD Cert.Kernel13Ideal.τ).loc Cert.Kernel13Ideal.main_v7_3)) (v4 : (c : Dev Cert.Kernel13Ideal.nD) → Buf (Elt Ideal) ((c.tc : Thread Cert.Kernel13Ideal.nD Cert.Kernel13Ideal.τ).loc Cert.Kernel13Ideal.main_v7_4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v7_0) = v0 c
          ∧ r.2.mem ((c.tc : Thread Cert.Kernel13Ideal.nD Cert.Kernel13Ideal.τ).loc Cert.Kernel13Ideal.main_v7_1) = v1 c
          ∧ r.2.mem ((c.tc : Thread Cert.Kernel13Ideal.nD Cert.Kernel13Ideal.τ).loc Cert.Kernel13Ideal.main_v7_2) = v2 c
          ∧ r.2.mem ((c.tc : Thread Cert.Kernel13Ideal.nD Cert.Kernel13Ideal.τ).loc Cert.Kernel13Ideal.main_v7_3) = v3 c
          ∧ r.2.mem ((c.tc : Thread Cert.Kernel13Ideal.nD Cert.Kernel13Ideal.τ).loc Cert.Kernel13Ideal.main_v7_4) = v4 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v33) = v0 c
          ∧ r.2.mem ((c.tc : Thread Cert.Reference13Ideal.nD Cert.Reference13Ideal.τ).loc Cert.Reference13Ideal.main_v34) = v1 c
          ∧ r.2.mem ((c.tc : Thread Cert.Reference13Ideal.nD Cert.Reference13Ideal.τ).loc Cert.Reference13Ideal.main_v35) = v2 c
          ∧ r.2.mem ((c.tc : Thread Cert.Reference13Ideal.nD Cert.Reference13Ideal.τ).loc Cert.Reference13Ideal.main_v36) = v3 c
          ∧ r.2.mem ((c.tc : Thread Cert.Reference13Ideal.nD Cert.Reference13Ideal.τ).loc Cert.Reference13Ideal.main_v37) = v4 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)) →
    ∃ (v0 : (c : Dev Cert.Kernel18Ideal.nD) → Buf (Elt Ideal) ((c.tc : Thread Cert.Kernel18Ideal.nD Cert.Kernel18Ideal.τ).loc Cert.Kernel18Ideal.main_v6_0)) (v1 : (c : Dev Cert.Kernel18Ideal.nD) → Buf (Elt Ideal) ((c.tc : Thread Cert.Kernel18Ideal.nD Cert.Kernel18Ideal.τ).loc Cert.Kernel18Ideal.main_v6_1)) (v2 : (c : Dev Cert.Kernel18Ideal.nD) → Buf (Elt Ideal) ((c.tc : Thread Cert.Kernel18Ideal.nD Cert.Kernel18Ideal.τ).loc Cert.Kernel18Ideal.main_v6_2)) (v3 : (c : Dev Cert.Kernel18Ideal.nD) → Buf (Elt Ideal) ((c.tc : Thread Cert.Kernel18Ideal.nD Cert.Kernel18Ideal.τ).loc Cert.Kernel18Ideal.main_v6_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v6_0) = v0 c
          ∧ r.2.mem ((c.tc : Thread Cert.Kernel18Ideal.nD Cert.Kernel18Ideal.τ).loc Cert.Kernel18Ideal.main_v6_1) = v1 c
          ∧ r.2.mem ((c.tc : Thread Cert.Kernel18Ideal.nD Cert.Kernel18Ideal.τ).loc Cert.Kernel18Ideal.main_v6_2) = v2 c
          ∧ r.2.mem ((c.tc : Thread Cert.Kernel18Ideal.nD Cert.Kernel18Ideal.τ).loc Cert.Kernel18Ideal.main_v6_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v20) = v0 c
          ∧ r.2.mem ((c.tc : Thread Cert.Reference18Ideal.nD Cert.Reference18Ideal.τ).loc Cert.Reference18Ideal.main_v0) = v1 c
          ∧ r.2.mem ((c.tc : Thread Cert.Reference18Ideal.nD Cert.Reference18Ideal.τ).loc Cert.Reference18Ideal.main_v1) = v2 c
          ∧ r.2.mem ((c.tc : Thread Cert.Reference18Ideal.nD Cert.Reference18Ideal.τ).loc Cert.Reference18Ideal.main_v21) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v8)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v8) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v7_0)) (v1 : (c : Dev Cert.Kernel16Ideal.nD) → Buf (Elt Ideal) ((c.tc : Thread Cert.Kernel16Ideal.nD Cert.Kernel16Ideal.τ).loc Cert.Kernel16Ideal.main_v7_1)) (v2 : (c : Dev Cert.Kernel16Ideal.nD) → Buf (Elt Ideal) ((c.tc : Thread Cert.Kernel16Ideal.nD Cert.Kernel16Ideal.τ).loc Cert.Kernel16Ideal.main_v7_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v7_0) = v0 c
          ∧ r.2.mem ((c.tc : Thread Cert.Kernel16Ideal.nD Cert.Kernel16Ideal.τ).loc Cert.Kernel16Ideal.main_v7_1) = v1 c
          ∧ r.2.mem ((c.tc : Thread Cert.Kernel16Ideal.nD Cert.Kernel16Ideal.τ).loc Cert.Kernel16Ideal.main_v7_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v13) = v0 c
          ∧ r.2.mem ((c.tc : Thread Cert.Reference16Ideal.nD Cert.Reference16Ideal.τ).loc Cert.Reference16Ideal.main_v17) = v1 c
          ∧ r.2.mem ((c.tc : Thread Cert.Reference16Ideal.nD Cert.Reference16Ideal.τ).loc Cert.Reference16Ideal.main_v21) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v5_0)) (v1 : (c : Dev Cert.Kernel19Ideal.nD) → Buf (Elt Ideal) ((c.tc : Thread Cert.Kernel19Ideal.nD Cert.Kernel19Ideal.τ).loc Cert.Kernel19Ideal.main_v5_1)) (v2 : (c : Dev Cert.Kernel19Ideal.nD) → Buf (Elt Ideal) ((c.tc : Thread Cert.Kernel19Ideal.nD Cert.Kernel19Ideal.τ).loc Cert.Kernel19Ideal.main_v5_2)) (v3 : (c : Dev Cert.Kernel19Ideal.nD) → Buf (Elt Ideal) ((c.tc : Thread Cert.Kernel19Ideal.nD Cert.Kernel19Ideal.τ).loc Cert.Kernel19Ideal.main_v5_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v5_0) = v0 c
          ∧ r.2.mem ((c.tc : Thread Cert.Kernel19Ideal.nD Cert.Kernel19Ideal.τ).loc Cert.Kernel19Ideal.main_v5_1) = v1 c
          ∧ r.2.mem ((c.tc : Thread Cert.Kernel19Ideal.nD Cert.Kernel19Ideal.τ).loc Cert.Kernel19Ideal.main_v5_2) = v2 c
          ∧ r.2.mem ((c.tc : Thread Cert.Kernel19Ideal.nD Cert.Kernel19Ideal.τ).loc Cert.Kernel19Ideal.main_v5_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v17) = v0 c
          ∧ r.2.mem ((c.tc : Thread Cert.Reference19Ideal.nD Cert.Reference19Ideal.τ).loc Cert.Reference19Ideal.main_v18) = v1 c
          ∧ r.2.mem ((c.tc : Thread Cert.Reference19Ideal.nD Cert.Reference19Ideal.τ).loc Cert.Reference19Ideal.main_v19) = v2 c
          ∧ r.2.mem ((c.tc : Thread Cert.Reference19Ideal.nD Cert.Reference19Ideal.τ).loc Cert.Reference19Ideal.main_v20) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)) (v2 : (c : Dev Cert.Kernel15Ideal.nD) → Buf (Elt Ideal) ((c.tc : Thread Cert.Kernel15Ideal.nD Cert.Kernel15Ideal.τ).loc Cert.Kernel15Ideal.main_v4_2)) (v3 : (c : Dev Cert.Kernel15Ideal.nD) → Buf (Elt Ideal) ((c.tc : Thread Cert.Kernel15Ideal.nD Cert.Kernel15Ideal.τ).loc Cert.Kernel15Ideal.main_v4_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_v4_2) = v2 c
          ∧ r.2.mem ((c.tc : Thread Cert.Kernel15Ideal.nD Cert.Kernel15Ideal.τ).loc Cert.Kernel15Ideal.main_v4_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v46) = v0 c
          ∧ r.2.mem ((c.tc : Thread Cert.Reference15Ideal.nD Cert.Reference15Ideal.τ).loc Cert.Reference15Ideal.main_v47) = v1 c
          ∧ r.2.mem ((c.tc : Thread Cert.Reference15Ideal.nD Cert.Reference15Ideal.τ).loc Cert.Reference15Ideal.main_v50) = v2 c
          ∧ r.2.mem ((c.tc : Thread Cert.Reference15Ideal.nD Cert.Reference15Ideal.τ).loc Cert.Reference15Ideal.main_v53) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v2_0)) (v1 : (c : Dev Cert.Kernel21Ideal.nD) → Buf (Elt Ideal) ((c.tc : Thread Cert.Kernel21Ideal.nD Cert.Kernel21Ideal.τ).loc Cert.Kernel21Ideal.main_v2_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2_0) = v0 c
          ∧ r.2.mem ((c.tc : Thread Cert.Kernel21Ideal.nD Cert.Kernel21Ideal.τ).loc Cert.Kernel21Ideal.main_v2_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v16) = v0 c
          ∧ r.2.mem ((c.tc : Thread Cert.Reference21Ideal.nD Cert.Reference21Ideal.τ).loc Cert.Reference21Ideal.main_v18) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)) →
    ∃ (v0 : (c : Dev Cert.Kernel22Ideal.nD) → Buf (Elt Ideal) ((c.tc : Thread Cert.Kernel22Ideal.nD Cert.Kernel22Ideal.τ).loc Cert.Kernel22Ideal.main_v0_2)) (v1 : (c : Dev Cert.Kernel22Ideal.nD) → Buf (Elt Ideal) ((c.tc : Thread Cert.Kernel22Ideal.nD Cert.Kernel22Ideal.τ).loc Cert.Kernel22Ideal.main_v0_3)) (v2 : (c : Dev Cert.Kernel22Ideal.nD) → Buf (Elt Ideal) ((c.tc : Thread Cert.Kernel22Ideal.nD Cert.Kernel22Ideal.τ).loc Cert.Kernel22Ideal.main_v0_4)) (v3 : (c : Dev Cert.Kernel22Ideal.nD) → Buf (Elt Ideal) ((c.tc : Thread Cert.Kernel22Ideal.nD Cert.Kernel22Ideal.τ).loc Cert.Kernel22Ideal.main_v0_5)) (v4 : (c : Dev Cert.Kernel22Ideal.nD) → Buf (Elt Ideal) ((c.tc : Thread Cert.Kernel22Ideal.nD Cert.Kernel22Ideal.τ).loc Cert.Kernel22Ideal.main_v0_6)) (v5 : (c : Dev Cert.Kernel22Ideal.nD) → Buf (Elt Ideal) ((c.tc : Thread Cert.Kernel22Ideal.nD Cert.Kernel22Ideal.τ).loc Cert.Kernel22Ideal.main_v0_7)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_2) = v0 c
          ∧ r.2.mem ((c.tc : Thread Cert.Kernel22Ideal.nD Cert.Kernel22Ideal.τ).loc Cert.Kernel22Ideal.main_v0_3) = v1 c
          ∧ r.2.mem ((c.tc : Thread Cert.Kernel22Ideal.nD Cert.Kernel22Ideal.τ).loc Cert.Kernel22Ideal.main_v0_4) = v2 c
          ∧ r.2.mem ((c.tc : Thread Cert.Kernel22Ideal.nD Cert.Kernel22Ideal.τ).loc Cert.Kernel22Ideal.main_v0_5) = v3 c
          ∧ r.2.mem ((c.tc : Thread Cert.Kernel22Ideal.nD Cert.Kernel22Ideal.τ).loc Cert.Kernel22Ideal.main_v0_6) = v4 c
          ∧ r.2.mem ((c.tc : Thread Cert.Kernel22Ideal.nD Cert.Kernel22Ideal.τ).loc Cert.Kernel22Ideal.main_v0_7) = v5 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v47) = v1 c
          ∧ r.2.mem ((c.tc : Thread Cert.Reference22Ideal.nD Cert.Reference22Ideal.τ).loc Cert.Reference22Ideal.main_v4) = v2 c
          ∧ r.2.mem ((c.tc : Thread Cert.Reference22Ideal.nD Cert.Reference22Ideal.τ).loc Cert.Reference22Ideal.main_v28) = v3 c
          ∧ r.2.mem ((c.tc : Thread Cert.Reference22Ideal.nD Cert.Reference22Ideal.τ).loc Cert.Reference22Ideal.main_v10) = v4 c
          ∧ r.2.mem ((c.tc : Thread Cert.Reference22Ideal.nD Cert.Reference22Ideal.τ).loc Cert.Reference22Ideal.main_v34) = v5 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_1)) (v1 : (c : Dev Cert.Kernel23Ideal.nD) → Buf (Elt Ideal) ((c.tc : Thread Cert.Kernel23Ideal.nD Cert.Kernel23Ideal.τ).loc Cert.Kernel23Ideal.main_v0_2)) (v2 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_1) = v0 c
          ∧ r.2.mem ((c.tc : Thread Cert.Kernel23Ideal.nD Cert.Kernel23Ideal.τ).loc Cert.Kernel23Ideal.main_v0_2) = v1 c
          ∧ r.2.mem ((c.tc : Thread Cert.Kernel23Ideal.nD Cert.Kernel23Ideal.τ).loc Cert.Kernel23Ideal.main_v0_3) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_1)) (v1 : (c : Dev Cert.Kernel24Ideal.nD) → Buf (Elt Ideal) ((c.tc : Thread Cert.Kernel24Ideal.nD Cert.Kernel24Ideal.τ).loc Cert.Kernel24Ideal.main_v0_2)) (v2 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_1) = v0 c
          ∧ r.2.mem ((c.tc : Thread Cert.Kernel24Ideal.nD Cert.Kernel24Ideal.τ).loc Cert.Kernel24Ideal.main_v0_2) = v1 c
          ∧ r.2.mem ((c.tc : Thread Cert.Kernel24Ideal.nD Cert.Kernel24Ideal.τ).loc Cert.Kernel24Ideal.main_v0_3) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)
      ∧ m' ((c.tc : Thread Cert.Reference25Ideal.nD Cert.Reference25Ideal.τ).loc Cert.Reference25Ideal.main_arg7) = m ((c.tc : Thread Cert.Kernel25Ideal.nD Cert.Kernel25Ideal.τ).loc Cert.Kernel25Ideal.main_arg7)) →
    ∃ (v0 : (c : Dev Cert.Kernel25Ideal.nD) → Buf (Elt Ideal) ((c.tc : Thread Cert.Kernel25Ideal.nD Cert.Kernel25Ideal.τ).loc Cert.Kernel25Ideal.main_v0_2)) (v1 : (c : Dev Cert.Kernel25Ideal.nD) → Buf (Elt Ideal) ((c.tc : Thread Cert.Kernel25Ideal.nD Cert.Kernel25Ideal.τ).loc Cert.Kernel25Ideal.main_v0_3)) (v2 : (c : Dev Cert.Kernel25Ideal.nD) → Buf (Elt Ideal) ((c.tc : Thread Cert.Kernel25Ideal.nD Cert.Kernel25Ideal.τ).loc Cert.Kernel25Ideal.main_v0_4)) (v3 : (c : Dev Cert.Kernel25Ideal.nD) → Buf (Elt Ideal) ((c.tc : Thread Cert.Kernel25Ideal.nD Cert.Kernel25Ideal.τ).loc Cert.Kernel25Ideal.main_v0_5)) (v4 : (c : Dev Cert.Kernel25Ideal.nD) → Buf (Elt Ideal) ((c.tc : Thread Cert.Kernel25Ideal.nD Cert.Kernel25Ideal.τ).loc Cert.Kernel25Ideal.main_v0_6)) (v5 : (c : Dev Cert.Kernel25Ideal.nD) → Buf (Elt Ideal) ((c.tc : Thread Cert.Kernel25Ideal.nD Cert.Kernel25Ideal.τ).loc Cert.Kernel25Ideal.main_v0_7)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_2) = v0 c
          ∧ r.2.mem ((c.tc : Thread Cert.Kernel25Ideal.nD Cert.Kernel25Ideal.τ).loc Cert.Kernel25Ideal.main_v0_3) = v1 c
          ∧ r.2.mem ((c.tc : Thread Cert.Kernel25Ideal.nD Cert.Kernel25Ideal.τ).loc Cert.Kernel25Ideal.main_v0_4) = v2 c
          ∧ r.2.mem ((c.tc : Thread Cert.Kernel25Ideal.nD Cert.Kernel25Ideal.τ).loc Cert.Kernel25Ideal.main_v0_5) = v3 c
          ∧ r.2.mem ((c.tc : Thread Cert.Kernel25Ideal.nD Cert.Kernel25Ideal.τ).loc Cert.Kernel25Ideal.main_v0_6) = v4 c
          ∧ r.2.mem ((c.tc : Thread Cert.Kernel25Ideal.nD Cert.Kernel25Ideal.τ).loc Cert.Kernel25Ideal.main_v0_7) = v5 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
          ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v47) = v1 c
          ∧ r.2.mem ((c.tc : Thread Cert.Reference25Ideal.nD Cert.Reference25Ideal.τ).loc Cert.Reference25Ideal.main_v4) = v2 c
          ∧ r.2.mem ((c.tc : Thread Cert.Reference25Ideal.nD Cert.Reference25Ideal.τ).loc Cert.Reference25Ideal.main_v28) = v3 c
          ∧ r.2.mem ((c.tc : Thread Cert.Reference25Ideal.nD Cert.Reference25Ideal.τ).loc Cert.Reference25Ideal.main_v10) = v4 c
          ∧ r.2.mem ((c.tc : Thread Cert.Reference25Ideal.nD Cert.Reference25Ideal.τ).loc Cert.Reference25Ideal.main_v34) = v5 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6)
          ∧ r.2.mem ((c.tc : Thread Cert.Reference25Ideal.nD Cert.Reference25Ideal.τ).loc Cert.Reference25Ideal.main_arg7) = m' ((c.tc : Thread Cert.Reference25Ideal.nD Cert.Reference25Ideal.τ).loc Cert.Reference25Ideal.main_arg7))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)
      ∧ m' ((c.tc : Thread Cert.Reference26Ideal.nD Cert.Reference26Ideal.τ).loc Cert.Reference26Ideal.main_arg6) = m ((c.tc : Thread Cert.Kernel26Ideal.nD Cert.Kernel26Ideal.τ).loc Cert.Kernel26Ideal.main_arg6)
      ∧ m' ((c.tc : Thread Cert.Reference26Ideal.nD Cert.Reference26Ideal.τ).loc Cert.Reference26Ideal.main_arg7) = m ((c.tc : Thread Cert.Kernel26Ideal.nD Cert.Kernel26Ideal.τ).loc Cert.Kernel26Ideal.main_arg7)) →
    ∃ (v0 : (c : Dev Cert.Kernel26Ideal.nD) → Buf (Elt Ideal) ((c.tc : Thread Cert.Kernel26Ideal.nD Cert.Kernel26Ideal.τ).loc Cert.Kernel26Ideal.main_v0_2)) (v1 : (c : Dev Cert.Kernel26Ideal.nD) → Buf (Elt Ideal) ((c.tc : Thread Cert.Kernel26Ideal.nD Cert.Kernel26Ideal.τ).loc Cert.Kernel26Ideal.main_v0_3)) (v2 : (c : Dev Cert.Kernel26Ideal.nD) → Buf (Elt Ideal) ((c.tc : Thread Cert.Kernel26Ideal.nD Cert.Kernel26Ideal.τ).loc Cert.Kernel26Ideal.main_v0_4)) (v3 : (c : Dev Cert.Kernel26Ideal.nD) → Buf (Elt Ideal) ((c.tc : Thread Cert.Kernel26Ideal.nD Cert.Kernel26Ideal.τ).loc Cert.Kernel26Ideal.main_v0_5)) (v4 : (c : Dev Cert.Kernel26Ideal.nD) → Buf (Elt Ideal) ((c.tc : Thread Cert.Kernel26Ideal.nD Cert.Kernel26Ideal.τ).loc Cert.Kernel26Ideal.main_v0_6)) (v5 : (c : Dev Cert.Kernel26Ideal.nD) → Buf (Elt Ideal) ((c.tc : Thread Cert.Kernel26Ideal.nD Cert.Kernel26Ideal.τ).loc Cert.Kernel26Ideal.main_v0_7)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_2) = v0 c
          ∧ r.2.mem ((c.tc : Thread Cert.Kernel26Ideal.nD Cert.Kernel26Ideal.τ).loc Cert.Kernel26Ideal.main_v0_3) = v1 c
          ∧ r.2.mem ((c.tc : Thread Cert.Kernel26Ideal.nD Cert.Kernel26Ideal.τ).loc Cert.Kernel26Ideal.main_v0_4) = v2 c
          ∧ r.2.mem ((c.tc : Thread Cert.Kernel26Ideal.nD Cert.Kernel26Ideal.τ).loc Cert.Kernel26Ideal.main_v0_5) = v3 c
          ∧ r.2.mem ((c.tc : Thread Cert.Kernel26Ideal.nD Cert.Kernel26Ideal.τ).loc Cert.Kernel26Ideal.main_v0_6) = v4 c
          ∧ r.2.mem ((c.tc : Thread Cert.Kernel26Ideal.nD Cert.Kernel26Ideal.τ).loc Cert.Kernel26Ideal.main_v0_7) = v5 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
          ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
          ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v47) = v1 c
          ∧ r.2.mem ((c.tc : Thread Cert.Reference26Ideal.nD Cert.Reference26Ideal.τ).loc Cert.Reference26Ideal.main_v4) = v2 c
          ∧ r.2.mem ((c.tc : Thread Cert.Reference26Ideal.nD Cert.Reference26Ideal.τ).loc Cert.Reference26Ideal.main_v28) = v3 c
          ∧ r.2.mem ((c.tc : Thread Cert.Reference26Ideal.nD Cert.Reference26Ideal.τ).loc Cert.Reference26Ideal.main_v10) = v4 c
          ∧ r.2.mem ((c.tc : Thread Cert.Reference26Ideal.nD Cert.Reference26Ideal.τ).loc Cert.Reference26Ideal.main_v34) = v5 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5)
          ∧ r.2.mem ((c.tc : Thread Cert.Reference26Ideal.nD Cert.Reference26Ideal.τ).loc Cert.Reference26Ideal.main_arg6) = m' ((c.tc : Thread Cert.Reference26Ideal.nD Cert.Reference26Ideal.τ).loc Cert.Reference26Ideal.main_arg6)
          ∧ r.2.mem ((c.tc : Thread Cert.Reference26Ideal.nD Cert.Reference26Ideal.τ).loc Cert.Reference26Ideal.main_arg7) = m' ((c.tc : Thread Cert.Reference26Ideal.nD Cert.Reference26Ideal.τ).loc Cert.Reference26Ideal.main_arg7))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v1_0)) (v1 : (c : Dev Cert.Kernel27Ideal.nD) → Buf (Elt Ideal) ((c.tc : Thread Cert.Kernel27Ideal.nD Cert.Kernel27Ideal.τ).loc Cert.Kernel27Ideal.main_v1_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1_0) = v0 c
          ∧ r.2.mem ((c.tc : Thread Cert.Kernel27Ideal.nD Cert.Kernel27Ideal.τ).loc Cert.Kernel27Ideal.main_v1_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v14) = v0 c
          ∧ r.2.mem ((c.tc : Thread Cert.Reference27Ideal.nD Cert.Reference27Ideal.τ).loc Cert.Reference27Ideal.main_v16) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel18 : Cert.Kernel18.Facts) (hKernel18Ideal : Cert.Kernel18Ideal.Facts) (hReference18Ideal : Cert.Reference18Ideal.Facts) (hKernel17 : Cert.Kernel17.Facts) (hKernel17Ideal : Cert.Kernel17Ideal.Facts) (hReference17Ideal : Cert.Reference17Ideal.Facts) (hKernel16 : Cert.Kernel16.Facts) (hKernel16Ideal : Cert.Kernel16Ideal.Facts) (hReference16Ideal : Cert.Reference16Ideal.Facts) (hKernel19 : Cert.Kernel19.Facts) (hKernel19Ideal : Cert.Kernel19Ideal.Facts) (hReference19Ideal : Cert.Reference19Ideal.Facts) (hKernel15 : Cert.Kernel15.Facts) (hKernel15Ideal : Cert.Kernel15Ideal.Facts) (hReference15Ideal : Cert.Reference15Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel18_Kernel18Ideal
    ∧ algebraic_Kernel18Ideal_Reference18Ideal (hKernel18Ideal := hKernel18Ideal) (hReference18Ideal := hReference18Ideal)
    ∧ preserves_Kernel17_Kernel17Ideal
    ∧ algebraic_Kernel17Ideal_Reference17Ideal (hKernel17Ideal := hKernel17Ideal) (hReference17Ideal := hReference17Ideal)
    ∧ preserves_Kernel16_Kernel16Ideal
    ∧ algebraic_Kernel16Ideal_Reference16Ideal (hKernel16Ideal := hKernel16Ideal) (hReference16Ideal := hReference16Ideal)
    ∧ preserves_Kernel19_Kernel19Ideal
    ∧ algebraic_Kernel19Ideal_Reference19Ideal (hKernel19Ideal := hKernel19Ideal) (hReference19Ideal := hReference19Ideal)
    ∧ preserves_Kernel15_Kernel15Ideal
    ∧ algebraic_Kernel15Ideal_Reference15Ideal (hKernel15Ideal := hKernel15Ideal) (hReference15Ideal := hReference15Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Kernel.lean ====
abbrev S2048x1024 : Shape := ⟨2, ![2048, 1024]⟩
abbrev S4x1024 : Shape := ⟨2, ![4, 1024]⟩
abbrev S1024 : Shape := ⟨1, ![1024]⟩
abbrev S16x64x64 : Shape := ⟨3, ![16, 64, 64]⟩
abbrev S16x64 : Shape := ⟨2, ![16, 64]⟩
abbrev S_ : Shape := ⟨0, ![]⟩
abbrev S3x1024 : Shape := ⟨2, ![3, 1024]⟩
abbrev S2051x1024 : Shape := ⟨2, ![2051, 1024]⟩
abbrev S1x1024 : Shape := ⟨2, ![1, 1024]⟩
abbrev S2048x16x64 : Shape := ⟨3, ![2048, 16, 64]⟩
abbrev S16x64x2048 : Shape := ⟨3, ![16, 64, 2048]⟩
abbrev S1x16x64 : Shape := ⟨3, ![1, 16, 64]⟩
abbrev S8x2x64x1x64 : Shape := ⟨5, ![8, 2, 64, 1, 64]⟩
abbrev S8x2x64x2x64 : Shape := ⟨5, ![8, 2, 64, 2, 64]⟩
abbrev S8x128x128 : Shape := ⟨3, ![8, 128, 128]⟩
abbrev S8x1024 : Shape := ⟨2, ![8, 1024]⟩
abbrev S256x1024 : Shape := ⟨2, ![256, 1024]⟩
abbrev S8x512 : Shape := ⟨2, ![8, 512]⟩
abbrev S1x512 : Shape := ⟨2, ![1, 512]⟩
abbrev S256x128 : Shape := ⟨2, ![256, 128]⟩
abbrev S1x128x128 : Shape := ⟨3, ![1, 128, 128]⟩
abbrev S128x128 : Shape := ⟨2, ![128, 128]⟩

abbrev nBuf : Space → Nat
  | .hbm => 210
  | .vmem => 31
  | .smem => 0
  | _ => 0

abbrev hbmTy0_0 (i : Nat) : BufTy := match i % 128 with
  | 0 => ⟨S2048x1024, .f32⟩
  | 1 => ⟨S2048x1024, .f32⟩
  | 2 => ⟨S2048x1024, .f32⟩
  | 3 => ⟨S4x1024, .f32⟩
  | 4 => ⟨S1024, .f32⟩
  | 5 => ⟨S16x64x64, .f32⟩
  | 6 => ⟨S16x64, .f32⟩
  | 7 => ⟨S16x64x64, .f32⟩
  | 8 => ⟨S16x64, .f32⟩
  | 9 => ⟨S1024, .f32⟩
  | 10 => ⟨S_, .f32⟩
  | 11 => ⟨S3x1024, .f32⟩
  | 12 => ⟨S2051x1024, .f32⟩
  | 13 => ⟨S1x1024, .f32⟩
  | 14 => ⟨S1024, .f32⟩
  | 15 => ⟨S2048x1024, .f32⟩
  | 16 => ⟨S1x1024, .f32⟩
  | 17 => ⟨S2048x1024, .f32⟩
  | 18 => ⟨S2048x1024, .f32⟩
  | 19 => ⟨S_, .f32⟩
  | 20 => ⟨S2048x1024, .f32⟩
  | 21 => ⟨S2048x1024, .f32⟩
  | 22 => ⟨S1x1024, .f32⟩
  | 23 => ⟨S1024, .f32⟩
  | 24 => ⟨S2048x1024, .f32⟩
  | 25 => ⟨S1x1024, .f32⟩
  | 26 => ⟨S2048x1024, .f32⟩
  | 27 => ⟨S2048x1024, .f32⟩
  | 28 => ⟨S2048x1024, .f32⟩
  | 29 => ⟨S1x1024, .f32⟩
  | 30 => ⟨S1024, .f32⟩
  | 31 => ⟨S2048x1024, .f32⟩
  | 32 => ⟨S1x1024, .f32⟩
  | 33 => ⟨S2048x1024, .f32⟩
  | 34 => ⟨S2048x1024, .f32⟩
  | 35 => ⟨S2048x1024, .f32⟩
  | 36 => ⟨S1x1024, .f32⟩
  | 37 => ⟨S1024, .f32⟩
  | 38 => ⟨S2048x1024, .f32⟩
  | 39 => ⟨S1x1024, .f32⟩
  | 40 => ⟨S2048x1024, .f32⟩
  | 41 => ⟨S2048x1024, .f32⟩
  | 42 => ⟨S2048x1024, .f32⟩
  | 43 => ⟨S1x1024, .f32⟩
  | 44 => ⟨S2048x1024, .f32⟩
  | 45 => ⟨S2048x1024, .f32⟩
  | 46 => ⟨S2048x16x64, .f32⟩
  | 47 => ⟨S16x64x2048, .f32⟩
  | 48 => ⟨S2048x16x64, .f32⟩
  | 49 => ⟨S1x16x64, .f32⟩
  | 50 => ⟨S2048x16x64, .f32⟩
  | 51 => ⟨S2048x16x64, .f32⟩
  | 52 => ⟨S16x64x2048, .f32⟩
  | 53 => ⟨S2048x16x64, .f32⟩
  | 54 => ⟨S1x16x64, .f32⟩
  | 55 => ⟨S2048x16x64, .f32⟩
  | 56 => ⟨S2048x16x64, .f32⟩
  | 57 => ⟨S2048x16x64, .f32⟩
  | 58 => ⟨S2048x16x64, .f32⟩
  | 59 => ⟨S_, .f32⟩
  | 60 => ⟨S2048x16x64, .f32⟩
  | 61 => ⟨S2048x16x64, .f32⟩
  | 62 => ⟨S_, .f32⟩
  | 63 => ⟨S2048x16x64, .f32⟩
  | 64 => ⟨S2048x16x64, .f32⟩
  | 65 => ⟨S2048x1024, .f32⟩
  | 66 => ⟨S2048x16x64, .f32⟩
  | 67 => ⟨S2048x16x64, .f32⟩
  | 68 => ⟨S_, .f32⟩
  | 69 => ⟨S2048x16x64, .f32⟩
  | 70 => ⟨S2048x16x64, .f32⟩
  | 71 => ⟨S_, .f32⟩
  | 72 => ⟨S2048x16x64, .f32⟩
  | 73 => ⟨S2048x16x64, .f32⟩
  | 74 => ⟨S2048x1024, .f32⟩
  | 75 => ⟨S1x1024, .f32⟩
  | 76 => ⟨S1x1024, .f32⟩
  | 77 => ⟨S_, .f32⟩
  | 78 => ⟨S1x1024, .f32⟩
  | 79 => ⟨S1x1024, .f32⟩
  | 80 => ⟨S1x1024, .f32⟩
  | 81 => ⟨S1x1024, .f32⟩
  | 82 => ⟨S1x1024, .i1⟩
  | 83 => ⟨S1x1024, .f32⟩
  | 84 => ⟨S1x1024, .f32⟩
  | 85 => ⟨S1x1024, .f32⟩
  | 86 => ⟨S1x1024, .f32⟩
  | 87 => ⟨S1x1024, .f32⟩
  | 88 => ⟨S1x1024, .f32⟩
  | 89 => ⟨S1x1024, .f32⟩
  | 90 => ⟨S1x1024, .f32⟩
  | 91 => ⟨S8x2x64x1x64, .f32⟩
  | 92 => ⟨S8x2x64x2x64, .f32⟩
  | 93 => ⟨S8x128x128, .f32⟩
  | 94 => ⟨S8x128x128, .i32⟩
  | 95 => ⟨S_, .i32⟩
  | 96 => ⟨S_, .i32⟩
  | 97 => ⟨S8x128x128, .i32⟩
  | 98 => ⟨S8x128x128, .i32⟩
  | 99 => ⟨S8x128x128, .i32⟩
  | 100 => ⟨S_, .i32⟩
  | 101 => ⟨S8x128x128, .i32⟩
  | 102 => ⟨S8x128x128, .i1⟩
  | 103 => ⟨S8x128x128, .i32⟩
  | 104 => ⟨S8x128x128, .i32⟩
  | 105 => ⟨S_, .i32⟩
  | 106 => ⟨S8x128x128, .i32⟩
  | 107 => ⟨S8x128x128, .i1⟩
  | 108 => ⟨S8x128x128, .i1⟩
  | 109 => ⟨S_, .i32⟩
  | 110 => ⟨S8x128x128, .i32⟩
  | 111 => ⟨S8x128x128, .i32⟩
  | 112 => ⟨S8x128x128, .i32⟩
  | 113 => ⟨S8x128x128, .i32⟩
  | 114 => ⟨S_, .i32⟩
  | 115 => ⟨S_, .i32⟩
  | 116 => ⟨S8x128x128, .i32⟩
  | 117 => ⟨S8x128x128, .i32⟩
  | 118 => ⟨S8x128x128, .i32⟩
  | 119 => ⟨S_, .i32⟩
  | 120 => ⟨S8x128x128, .i32⟩
  | 121 => ⟨S8x128x128, .i1⟩
  | 122 => ⟨S8x128x128, .i32⟩
  | 123 => ⟨S8x128x128, .i32⟩
  | 124 => ⟨S_, .i32⟩
  | 125 => ⟨S8x128x128, .i32⟩
  | 126 => ⟨S8x128x128, .i1⟩
  | 127 => ⟨S8x128x128, .i1⟩
  | _ => ⟨S2048x1024, .f32⟩

abbrev hbmTy0_1 (i : Nat) : BufTy := match i % 128 with
  | 0 => ⟨S_, .i32⟩
  | 1 => ⟨S8x128x128, .i32⟩
  | 2 => ⟨S8x128x128, .i32⟩
  | 3 => ⟨S8x128x128, .i32⟩
  | 4 => ⟨S8x128x128, .i1⟩
  | 5 => ⟨S_, .f32⟩
  | 6 => ⟨S_, .f32⟩
  | 7 => ⟨S8x128x128, .f32⟩
  | 8 => ⟨S8x128x128, .f32⟩
  | 9 => ⟨S8x128x128, .bf16⟩
  | 10 => ⟨S8x2x64x1x64, .f32⟩
  | 11 => ⟨S8x2x64x2x64, .f32⟩
  | 12 => ⟨S8x128x128, .f32⟩
  | 13 => ⟨S8x128x128, .i32⟩
  | 14 => ⟨S_, .i32⟩
  | 15 => ⟨S_, .i32⟩
  | 16 => ⟨S8x128x128, .i32⟩
  | 17 => ⟨S8x128x128, .i32⟩
  | 18 => ⟨S8x128x128, .i32⟩
  | 19 => ⟨S_, .i32⟩
  | 20 => ⟨S8x128x128, .i32⟩
  | 21 => ⟨S8x128x128, .i1⟩
  | 22 => ⟨S8x128x128, .i32⟩
  | 23 => ⟨S8x128x128, .i32⟩
  | 24 => ⟨S_, .i32⟩
  | 25 => ⟨S8x128x128, .i32⟩
  | 26 => ⟨S8x128x128, .i1⟩
  | 27 => ⟨S8x128x128, .i1⟩
  | 28 => ⟨S_, .i32⟩
  | 29 => ⟨S8x128x128, .i32⟩
  | 30 => ⟨S8x128x128, .i32⟩
  | 31 => ⟨S8x128x128, .i32⟩
  | 32 => ⟨S8x128x128, .i32⟩
  | 33 => ⟨S_, .i32⟩
  | 34 => ⟨S_, .i32⟩
  | 35 => ⟨S8x128x128, .i32⟩
  | 36 => ⟨S8x128x128, .i32⟩
  | 37 => ⟨S8x128x128, .i32⟩
  | 38 => ⟨S_, .i32⟩
  | 39 => ⟨S8x128x128, .i32⟩
  | 40 => ⟨S8x128x128, .i1⟩
  | 41 => ⟨S8x128x128, .i32⟩
  | 42 => ⟨S8x128x128, .i32⟩
  | 43 => ⟨S_, .i32⟩
  | 44 => ⟨S8x128x128, .i32⟩
  | 45 => ⟨S8x128x128, .i1⟩
  | 46 => ⟨S8x128x128, .i1⟩
  | 47 => ⟨S_, .i32⟩
  | 48 => ⟨S8x128x128, .i32⟩
  | 49 => ⟨S8x128x128, .i32⟩
  | 50 => ⟨S8x128x128, .i32⟩
  | 51 => ⟨S8x128x128, .i1⟩
  | 52 => ⟨S_, .f32⟩
  | 53 => ⟨S_, .f32⟩
  | 54 => ⟨S8x128x128, .f32⟩
  | 55 => ⟨S8x128x128, .f32⟩
  | 56 => ⟨S8x128x128, .bf16⟩
  | 57 => ⟨S1x1024, .f32⟩
  | 58 => ⟨S1x1024, .f32⟩
  | 59 => ⟨S1x1024, .f32⟩
  | 60 => ⟨S_, .f32⟩
  | 61 => ⟨S1x1024, .f32⟩
  | 62 => ⟨S1x1024, .f32⟩
  | 63 => ⟨S_, .f32⟩
  | 64 => ⟨S1x1024, .f32⟩
  | 65 => ⟨S1x1024, .f32⟩
  | 66 => ⟨S1x1024, .f32⟩
  | 67 => ⟨S2048x1024, .f32⟩
  | 68 => ⟨S2048x1024, .bf16⟩
  | 69 => ⟨S2048x1024, .bf16⟩
  | 70 => ⟨S8x1024, .f32⟩
  | 71 => ⟨S1x1024, .f32⟩
  | 72 => ⟨S1024, .f32⟩
  | 73 => ⟨S1x1024, .f32⟩
  | 74 => ⟨S1024, .f32⟩
  | 75 => ⟨S16x64, .f32⟩
  | 76 => ⟨S1x1024, .f32⟩
  | 77 => ⟨S1024, .f32⟩
  | 78 => ⟨S16x64, .f32⟩
  | 79 => ⟨S1x1024, .f32⟩
  | 80 => ⟨S1024, .f32⟩
  | 81 => ⟨S4x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S8x1024, .f32⟩
  | .local _ .vmem, ⟨13, _⟩ => ⟨S8x1024, .f32⟩
  | .local _ .vmem, ⟨14, _⟩ => ⟨S4x1024, .f32⟩
  | .local _ .vmem, ⟨15, _⟩ => ⟨S8x128x128, .bf16⟩
  | .local _ .vmem, ⟨16, _⟩ => ⟨S8x128x128, .bf16⟩
  | .local _ .vmem, ⟨17, _⟩ => ⟨S1x1024, .f32⟩
  | .local _ .vmem, ⟨18, _⟩ => ⟨S1x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S8x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S8x1024, .f32⟩
  | .local _ .vmem, ⟨30, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_1 : Ref sig .tc := ⟨.hbm, 59, rfl⟩
abbrev main_v47 : Ref sig .tc := ⟨.hbm, 60, rfl⟩
abbrev main_v48 : Ref sig .tc := ⟨.hbm, 61, rfl⟩
abbrev main_cst_2 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_3 : Ref sig .tc := ⟨.hbm, 68, rfl⟩
abbrev main_v54 : Ref sig .tc := ⟨.hbm, 69, rfl⟩
abbrev main_v55 : Ref sig .tc := ⟨.hbm, 70, rfl⟩
abbrev main_cst_4 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_v8 : Ref sig .tc := ⟨.hbm, 86, rfl⟩
abbrev main_call0_v9 : Ref sig .tc := ⟨.hbm, 87, rfl⟩
abbrev main_call0_v10 : Ref sig .tc := ⟨.hbm, 88, rfl⟩
abbrev main_call0_v11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_call1_v5 : Ref sig .tc := ⟨.hbm, 101, rfl⟩
abbrev main_call1_v6 : Ref sig .tc := ⟨.hbm, 102, rfl⟩
abbrev main_call1_v7 : Ref sig .tc := ⟨.hbm, 103, rfl⟩
abbrev main_call1_v8 : Ref sig .tc := ⟨.hbm, 104, rfl⟩
abbrev main_call1_c : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_call1_c_0 : Ref sig .tc := ⟨.hbm, 109, rfl⟩
abbrev main_call1_v12 : Ref sig .tc := ⟨.hbm, 110, rfl⟩
abbrev main_call1_v13 : Ref sig .tc := ⟨.hbm, 111, rfl⟩
abbrev main_v66 : Ref sig .tc := ⟨.hbm, 112, rfl⟩
abbrev main_v67 : Ref sig .tc := ⟨.hbm, 113, rfl⟩
abbrev main_c_5 : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_call2_v5 : Ref sig .tc := ⟨.hbm, 120, rfl⟩
abbrev main_call2_v6 : Ref sig .tc := ⟨.hbm, 121, rfl⟩
abbrev main_call2_v7 : Ref sig .tc := ⟨.hbm, 122, rfl⟩
abbrev main_call2_v8 : Ref sig .tc := ⟨.hbm, 123, rfl⟩
abbrev main_call2_c : Ref sig .tc := ⟨.hbm, 124, rfl⟩
abbrev main_call2_v9 : Ref sig .tc := ⟨.hbm, 125, rfl⟩
abbrev main_call2_v10 : Ref sig .tc := ⟨.hbm, 126, rfl⟩
abbrev main_call2_v11 : Ref sig .tc := ⟨.hbm, 127, rfl⟩
abbrev main_call2_c_0 : Ref sig .tc := ⟨.hbm, 128, rfl⟩
abbrev main_call2_v12 : Ref sig .tc := ⟨.hbm, 129, rfl⟩
abbrev main_call2_v13 : Ref sig .tc := ⟨.hbm, 130, rfl⟩
abbrev main_v68 : Ref sig .tc := ⟨.hbm, 131, rfl⟩
abbrev main_v69 : Ref sig .tc := ⟨.hbm, 132, rfl⟩
abbrev main_cst_6 : Ref sig .tc := ⟨.hbm, 133, rfl⟩
abbrev main_call3_v0 : Ref sig .tc := ⟨.hbm, 134, rfl⟩
abbrev main_call3_v1 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_c_7 : Ref sig .tc := ⟨.hbm, 142, rfl⟩
abbrev main_call4_v0 : Ref sig .tc := ⟨.hbm, 143, rfl⟩
abbrev main_call4_v1 : Ref sig .tc := ⟨.hbm, 144, rfl⟩
abbrev main_call4_v2 : Ref sig .tc := ⟨.hbm, 145, rfl⟩
abbrev main_call4_v3 : Ref sig .tc := ⟨.hbm, 146, rfl⟩
abbrev main_call4_v4 : Ref sig .tc := ⟨.hbm, 147, rfl⟩
abbrev main_call4_v5 : Ref sig .tc := ⟨.hbm, 148, rfl⟩
abbrev main_call4_v6 : Ref sig .tc := ⟨.hbm, 149, rfl⟩
abbrev main_call4_v7 : Ref sig .tc := ⟨.hbm, 150, rfl⟩
abbrev main_call4_v8 : Ref sig .tc := ⟨.hbm, 151, rfl⟩
abbrev main_call4_c : Ref sig .tc := ⟨.hbm, 152, rfl⟩
abbrev main_call4_v9 : Ref sig .tc := ⟨.hbm, 153, rfl⟩
abbrev main_call4_v10 : Ref sig .tc := ⟨.hbm, 154, rfl⟩
abbrev main_call4_v11 : Ref sig .tc := ⟨.hbm, 155, rfl⟩
abbrev main_call4_c_0 : Ref sig .tc := ⟨.hbm, 156, rfl⟩
abbrev main_call4_v12 : Ref sig .tc := ⟨.hbm, 157, rfl⟩
abbrev main_call4_v13 : Ref sig .tc := ⟨.hbm, 158, rfl⟩
abbrev main_v76 : Ref sig .tc := ⟨.hbm, 159, rfl⟩
abbrev main_v77 : Ref sig .tc := ⟨.hbm, 160, rfl⟩
abbrev main_c_8 : Ref sig .tc := ⟨.hbm, 161, rfl⟩
abbrev main_call5_v0 : Ref sig .tc := ⟨.hbm, 162, rfl⟩
abbrev main_call5_v1 : Ref sig .tc := ⟨.hbm, 163, rfl⟩
abbrev main_call5_v2 : Ref sig .tc := ⟨.hbm, 164, rfl⟩
abbrev main_call5_v3 : Ref sig .tc := ⟨.hbm, 165, rfl⟩
abbrev main_call5_v4 : Ref sig .tc := ⟨.hbm, 166, rfl⟩
abbrev main_call5_v5 : Ref sig .tc := ⟨.hbm, 167, rfl⟩
abbrev main_call5_v6 : Ref sig .tc := ⟨.hbm, 168, rfl⟩
abbrev main_call5_v7 : Ref sig .tc := ⟨.hbm, 169, rfl⟩
abbrev main_call5_v8 : Ref sig .tc := ⟨.hbm, 170, rfl⟩
abbrev main_call5_c : Ref sig .tc := ⟨.hbm, 171, rfl⟩
abbrev main_call5_v9 : Ref sig .tc := ⟨.hbm, 172, rfl⟩
abbrev main_call5_v10 : Ref sig .tc := ⟨.hbm, 173, rfl⟩
abbrev main_call5_v11 : Ref sig .tc := ⟨.hbm, 174, rfl⟩
abbrev main_call5_c_0 : Ref sig .tc := ⟨.hbm, 175, rfl⟩
abbrev main_call5_v12 : Ref sig .tc := ⟨.hbm, 176, rfl⟩
abbrev main_call5_v13 : Ref sig .tc := ⟨.hbm, 177, rfl⟩
abbrev main_v78 : Ref sig .tc := ⟨.hbm, 178, rfl⟩
abbrev main_v79 : Ref sig .tc := ⟨.hbm, 179, rfl⟩
abbrev main_cst_9 : Ref sig .tc := ⟨.hbm, 180, rfl⟩
abbrev main_call6_v0 : Ref sig .tc := ⟨.hbm, 181, rfl⟩
abbrev main_call6_v1 : Ref sig .tc := ⟨.hbm, 182, rfl⟩
abbrev main_v80 : Ref sig .tc := ⟨.hbm, 183, rfl⟩
abbrev main_v81 : Ref sig .tc := ⟨.hbm, 184, rfl⟩
abbrev main_v82 : Ref sig .tc := ⟨.hbm, 185, rfl⟩
abbrev main_v83 : Ref sig .tc := ⟨.hbm, 186, rfl⟩
abbrev main_v84 : Ref sig .tc := ⟨.hbm, 187, rfl⟩
abbrev main_cst_10 : Ref sig .tc := ⟨.hbm, 188, rfl⟩
abbrev main_v85 : Ref sig .tc := ⟨.hbm, 189, rfl⟩
abbrev main_v86 : Ref sig .tc := ⟨.hbm, 190, rfl⟩
abbrev main_cst_11 : Ref sig .tc := ⟨.hbm, 191, rfl⟩
abbrev main_v87 : Ref sig .tc := ⟨.hbm, 192, rfl⟩
abbrev main_v88 : Ref sig .tc := ⟨.hbm, 193, rfl⟩
abbrev main_v89 : Ref sig .tc := ⟨.hbm, 194, rfl⟩
abbrev main_v90_0 : Ref sig .tc := ⟨.hbm, 195, rfl⟩
abbrev main_v90_1 : Ref sig .tc := ⟨.hbm, 196, rfl⟩
abbrev main_v90_2 : Ref sig .tc := ⟨.hbm, 197, rfl⟩
abbrev main_v90_3 : Ref sig .tc := ⟨.hbm, 198, rfl⟩
abbrev main_v91 : Ref sig .tc := ⟨.hbm, 199, rfl⟩
abbrev main_v92 : Ref sig .tc := ⟨.hbm, 200, rfl⟩
abbrev main_v93 : Ref sig .tc := ⟨.hbm, 201, rfl⟩
abbrev main_v94 : Ref sig .tc := ⟨.hbm, 202, rfl⟩
abbrev main_v95 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_v100 : Ref sig .tc := ⟨.hbm, 208, rfl⟩
abbrev main_v101 : Ref sig .tc := ⟨.hbm, 209, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_14 : BitVec 32 := 0#32
  let c32_i32 : BitVec 32 := 32#32
  let v27 : BitVec 32 := Scalar.addi c0_i32_14 c32_i32
  let c1_i32 : BitVec 32 := 1#32
  ⟨c0_i32_14, v27, c1_i32⟩
def k0_mult1 (k0_t1 : Fin k0_t1_loop.trips) : BitVec 32 :=
  let c31_i32 : BitVec 32 := 31#32
  let c0_i32_14 : BitVec 32 := 0#32
  let c1_i32 : BitVec 32 := 1#32
  let arg22 : BitVec 32 := Scf.iv c0_i32_14 c1_i32 k0_t1
  let v214 : BitVec 32 := Scalar.subi c31_i32 arg22
  let c8_i32 : BitVec 32 := 8#32
  let v215 : BitVec 32 := Scalar.muli v214 c8_i32
  v215
def k0_off1 (k0_t1 : Fin k0_t1_loop.trips) : Fin 2 → Nat :=
  let c31_i32 : BitVec 32 := 31#32
  let c0_i32_14 : BitVec 32 := 0#32
  let c1_i32 : BitVec 32 := 1#32
  let arg22 : BitVec 32 := Scf.iv c0_i32_14 c1_i32 k0_t1
  let v214 : BitVec 32 := Scalar.subi c31_i32 arg22
  let c8_i32 : BitVec 32 := 8#32
  let v215 : BitVec 32 := Scalar.muli v214 c8_i32
  let v216 : BitVec 32 := v215
  let v217 : Index := Scalar.indexCast v216
  let c0_160 : Index := 0#32
  ![v217.toNat, 0]
@[reducible] def k0_t2_loop : Scf.Loop 32 :=
  let c0_i32_19 : BitVec 32 := 0#32
  let c32_i32_20 : BitVec 32 := 32#32
  let v33 : BitVec 32 := Scalar.addi c0_i32_19 c32_i32_20
  let c1_i32_21 : BitVec 32 := 1#32
  ⟨c0_i32_19, v33, c1_i32_21⟩
def k0_mult2 (k0_t2 : Fin k0_t2_loop.trips) : BitVec 32 :=
  let c31_i32 : BitVec 32 := 31#32
  let c0_i32_19 : BitVec 32 := 0#32
  let c1_i32_21 : BitVec 32 := 1#32
  let arg22 : BitVec 32 := Scf.iv c0_i32_19 c1_i32_21 k0_t2
  let v214 : BitVec 32 := Scalar.subi c31_i32 arg22
  let c8_i32 : BitVec 32 := 8#32
  let v215 : BitVec 32 := Scalar.muli v214 c8_i32
  v215
def k0_off2 (k0_t2 : Fin k0_t2_loop.trips) : Fin 2 → Nat :=
  let c31_i32 : BitVec 32 := 31#32
  let c0_i32_19 : BitVec 32 := 0#32
  let c1_i32_21 : BitVec 32 := 1#32
  let arg22 : BitVec 32 := Scf.iv c0_i32_19 c1_i32_21 k0_t2
  let v214 : BitVec 32 := Scalar.subi c31_i32 arg22
  let c8_i32 : BitVec 32 := 8#32
  let v215 : BitVec 32 := Scalar.muli v214 c8_i32
  let v216 : BitVec 32 := v215
  let v217 : Index := Scalar.indexCast v216
  let c512_160 : Index := 512#32
  ![v217.toNat, 512]
@[reducible] def k0_t3_loop : Scf.Loop 32 :=
  let c0_i32_132 : BitVec 32 := 0#32
  let c32_i32_133 : BitVec 32 := 32#32
  let v184 : BitVec 32 := Scalar.addi c0_i32_132 c32_i32_133
  let c1_i32_134 : BitVec 32 := 1#32
  ⟨c0_i32_132, v184, c1_i32_134⟩
def k0_mult3 (k0_t3 : Fin k0_t3_loop.trips) : BitVec 32 :=
  let c0_i32_132 : BitVec 32 := 0#32
  let c1_i32_134 : BitVec 32 := 1#32
  let arg22 : BitVec 32 := Scf.iv c0_i32_132 c1_i32_134 k0_t3
  let c8_i32 : BitVec 32 := 8#32
  let v214 : BitVec 32 := Scalar.muli arg22 c8_i32
  v214
def k0_off3 (k0_t3 : Fin k0_t3_loop.trips) : Fin 2 → Nat :=
  let c0_i32_132 : BitVec 32 := 0#32
  let c1_i32_134 : BitVec 32 := 1#32
  let arg22 : BitVec 32 := Scf.iv c0_i32_132 c1_i32_134 k0_t3
  let c8_i32 : BitVec 32 := 8#32
  let v214 : BitVec 32 := Scalar.muli arg22 c8_i32
  let v215 : BitVec 32 := v214
  let v216 : Index := Scalar.indexCast v215
  let c0_160 : Index := 0#32
  ![v216.toNat, 0]
def k0_mult4 (k0_t3 : Fin k0_t3_loop.trips) : BitVec 32 :=
  let c0_i32_132 : BitVec 32 := 0#32
  let c1_i32_134 : BitVec 32 := 1#32
  let arg22 : BitVec 32 := Scf.iv c0_i32_132 c1_i32_134 k0_t3
  let c1_i32_161 : BitVec 32 := 1#32
  let v219 : BitVec 32 := Scalar.addi arg22 c1_i32_161
  let c31_i32_162 : BitVec 32 := 31#32
  let v220 : BitVec 32 := Scalar.minsi v219 c31_i32_162
  let c8_i32_163 : BitVec 32 := 8#32
  let v221 : BitVec 32 := Scalar.muli v220 c8_i32_163
  v221
def k0_off4 (k0_t3 : Fin k0_t3_loop.trips) : Fin 2 → Nat :=
  let c0_i32_132 : BitVec 32 := 0#32
  let c1_i32_134 : BitVec 32 := 1#32
  let arg22 : BitVec 32 := Scf.iv c0_i32_132 c1_i32_134 k0_t3
  let c1_i32_161 : BitVec 32 := 1#32
  let v219 : BitVec 32 := Scalar.addi arg22 c1_i32_161
  let c31_i32_162 : BitVec 32 := 31#32
  let v220 : BitVec 32 := Scalar.minsi v219 c31_i32_162
  let c8_i32_163 : BitVec 32 := 8#32
  let v221 : BitVec 32 := Scalar.muli v220 c8_i32_163
  let v222 : BitVec 32 := v221
  let v223 : Index := Scalar.indexCast v222
  let c0_164 : Index := 0#32
  ![v223.toNat, 0]
def k0_mult5 (k0_t3 : Fin k0_t3_loop.trips) : BitVec 32 :=
  let c0_i32_132 : BitVec 32 := 0#32
  let c1_i32_134 : BitVec 32 := 1#32
  let arg22 : BitVec 32 := Scf.iv c0_i32_132 c1_i32_134 k0_t3
  let c1_i32_167 : BitVec 32 := 1#32
  let v229 : BitVec 32 := Scalar.subi arg22 c1_i32_167
  let c0_i32_168 : BitVec 32 := 0#32
  let v230 : BitVec 32 := Scalar.maxsi v229 c0_i32_168
  let c8_i32_169 : BitVec 32 := 8#32
  let v231 : BitVec 32 := Scalar.muli v230 c8_i32_169
  v231
def k0_off5 (k0_t3 : Fin k0_t3_loop.trips) : Fin 2 → Nat :=
  let c0_i32_132 : BitVec 32 := 0#32
  let c1_i32_134 : BitVec 32 := 1#32
  let arg22 : BitVec 32 := Scf.iv c0_i32_132 c1_i32_134 k0_t3
  let c1_i32_167 : BitVec 32 := 1#32
  let v229 : BitVec 32 := Scalar.subi arg22 c1_i32_167
  let c0_i32_168 : BitVec 32 := 0#32
  let v230 : BitVec 32 := Scalar.maxsi v229 c0_i32_168
  let c8_i32_169 : BitVec 32 := 8#32
  let v231 : BitVec 32 := Scalar.muli v230 c8_i32_169
  let v232 : BitVec 32 := v231
  let v233 : Index := Scalar.indexCast v232
  let c0_170 : Index := 0#32
  ![v233.toNat, 0]
def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Kernel2.lean ====
abbrev S2048x1024 : Shape := ⟨2, ![2048, 1024]⟩
abbrev S1024x2816 : Shape := ⟨2, ![1024, 2816]⟩
abbrev S2048x2816 : Shape := ⟨2, ![2048, 2816]⟩
abbrev S2048x4x704 : Shape := ⟨3, ![2048, 4, 704]⟩
abbrev S4x2048x704 : Shape := ⟨3, ![4, 2048, 704]⟩
abbrev S4x704x1024 : Shape := ⟨3, ![4, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 8
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S2048x2816, .f32⟩
  | .hbm, ⟨3, _⟩ => ⟨S2048x2816, .bf16⟩
  | .hbm, ⟨4, _⟩ => ⟨S2048x4x704, .bf16⟩
  | .hbm, ⟨5, _⟩ => ⟨S4x2048x704, .bf16⟩
  | .hbm, ⟨6, _⟩ => ⟨S2048x1024, .bf16⟩
  | .hbm, ⟨7, _⟩ => ⟨S4x704x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S1x704x1024, .f32⟩
  | .local _ .vmem, ⟨4, _⟩ => ⟨S1x704x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S2048x1024 : Shape := ⟨2, ![2048, 1024]⟩
abbrev S1024x2816 : Shape := ⟨2, ![1024, 2816]⟩
abbrev S2048x2816 : Shape := ⟨2, ![2048, 2816]⟩
abbrev S2816x1024 : Shape := ⟨2, ![2816, 1024]⟩
abbrev S4x704x1024 : Shape := ⟨3, ![4, 704, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S2048x2816, .f32⟩
  | .hbm, ⟨3, _⟩ => ⟨S2048x2816, .f32⟩
  | .hbm, ⟨4, _⟩ => ⟨S2816x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S2048x1024 : Shape := ⟨2, ![2048, 1024]⟩
abbrev S1024x2816 : Shape := ⟨2, ![1024, 2816]⟩
abbrev S2048x2816 : Shape := ⟨2, ![2048, 2816]⟩
abbrev S2048x4x704 : Shape := ⟨3, ![2048, 4, 704]⟩
abbrev S4x2048x704 : Shape := ⟨3, ![4, 2048, 704]⟩
abbrev S4x704x1024 : Shape := ⟨3, ![4, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 8
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S2048x2816, .f32⟩
  | .hbm, ⟨3, _⟩ => ⟨S2048x2816, .bf16⟩
  | .hbm, ⟨4, _⟩ => ⟨S2048x4x704, .bf16⟩
  | .hbm, ⟨5, _⟩ => ⟨S4x2048x704, .bf16⟩
  | .hbm, ⟨6, _⟩ => ⟨S2048x1024, .bf16⟩
  | .hbm, ⟨7, _⟩ => ⟨S4x704x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S1x704x1024, .f32⟩
  | .local _ .vmem, ⟨4, _⟩ => ⟨S1x704x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S2048x1024 : Shape := ⟨2, ![2048, 1024]⟩
abbrev S1024x2816 : Shape := ⟨2, ![1024, 2816]⟩
abbrev S2048x2816 : Shape := ⟨2, ![2048, 2816]⟩
abbrev S2816x1024 : Shape := ⟨2, ![2816, 1024]⟩
abbrev S4x704x1024 : Shape := ⟨3, ![4, 704, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S2048x2816, .f32⟩
  | .hbm, ⟨3, _⟩ => ⟨S2048x2816, .f32⟩
  | .hbm, ⟨4, _⟩ => ⟨S2816x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S2048x2816 : Shape := ⟨2, ![2048, 2816]⟩
abbrev S2816x1024 : Shape := ⟨2, ![2816, 1024]⟩
abbrev S2048x1024 : Shape := ⟨2, ![2048, 1024]⟩
abbrev S2048x4x704 : Shape := ⟨3, ![2048, 4, 704]⟩
abbrev S4x2048x704 : Shape := ⟨3, ![4, 2048, 704]⟩
abbrev S4x704x1024 : Shape := ⟨3, ![4, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x2816, .bf16⟩
  | .hbm, ⟨4, _⟩ => ⟨S2048x4x704, .bf16⟩
  | .hbm, ⟨5, _⟩ => ⟨S4x2048x704, .bf16⟩
  | .hbm, ⟨6, _⟩ => ⟨S4x704x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .f32⟩
  | .local _ .vmem, ⟨3, _⟩ => ⟨S1x704x1024, .f32⟩
  | .local _ .vmem, ⟨4, _⟩ => ⟨S1x704x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩
abbrev S4x704x1024 : Shape := ⟨3, ![4, 704, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S1024x2816, .f32⟩
  | .hbm, ⟨5, _⟩ => ⟨S2816x1024, .f32⟩
  | .hbm, ⟨6, _⟩ => ⟨S4x704x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S2048x1024 : Shape := ⟨2, ![2048, 1024]⟩
abbrev S1024x3584 : Shape := ⟨2, ![1024, 3584]⟩
abbrev S2048x3584 : Shape := ⟨2, ![2048, 3584]⟩
abbrev S4x512x896 : Shape := ⟨3, ![4, 512, 896]⟩
abbrev S2048x512 : Shape := ⟨2, ![2048, 512]⟩
abbrev S2048x896 : Shape := ⟨2, ![2048, 896]⟩
abbrev S1x512x896 : Shape := ⟨3, ![1, 512, 896]⟩
abbrev S512x896 : Shape := ⟨2, ![512, 896]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x3584, .f32⟩
  | .hbm, ⟨2, _⟩ => ⟨S2048x3584, .f32⟩
  | .hbm, ⟨3, _⟩ => ⟨S2048x1024, .bf16⟩
  | .hbm, ⟨4, _⟩ => ⟨S2048x3584, .bf16⟩
  | .hbm, ⟨5, _⟩ => ⟨S4x512x896, .f32⟩
  | .local _ .vmem, ⟨0, _⟩ => ⟨S2048x512, .bf16⟩
  | .local _ .vmem, ⟨1, _⟩ => ⟨S2048x896, .bf16⟩
  | .local _ .vmem, ⟨2, _⟩ => ⟨S2048x896, .bf16⟩
  | .local _ .vmem, ⟨3, _⟩ => ⟨S1x512x896, .f32⟩
  | .local _ .vmem, ⟨4, _⟩ => ⟨S1x512x896, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S2048x1024 : Shape := ⟨2, ![2048, 1024]⟩
abbrev S1024x3584 : Shape := ⟨2, ![1024, 3584]⟩
abbrev S2048x3584 : Shape := ⟨2, ![2048, 3584]⟩
abbrev S3584x1024 : Shape := ⟨2, ![3584, 1024]⟩
abbrev S512x3584 : Shape := ⟨2, ![512, 3584]⟩
abbrev S512x4x896 : Shape := ⟨3, ![512, 4, 896]⟩
abbrev S4x512x896 : Shape := ⟨3, ![4, 512, 896]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3584, .f32⟩
  | .hbm, ⟨2, _⟩ => ⟨S2048x3584, .f32⟩
  | .hbm, ⟨3, _⟩ => ⟨S2048x3584, .f32⟩
  | .hbm, ⟨4, _⟩ => ⟨S3584x1024, .f32⟩
  | .hbm, ⟨5, _⟩ => ⟨S1024x3584, .f32⟩
  | .hbm, ⟨6, _⟩ => ⟨S512x3584, .f32⟩
  | .hbm, ⟨7, _⟩ => ⟨S512x4x896, .f32⟩
  | .hbm, ⟨8, _⟩ => ⟨S4x512x896, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2048x1024 : Shape := ⟨2, ![2048, 1024]⟩
abbrev S1024x3584 : Shape := ⟨2, ![1024, 3584]⟩
abbrev S2048x3584 : Shape := ⟨2, ![2048, 3584]⟩
abbrev S4x512x896 : Shape := ⟨3, ![4, 512, 896]⟩
abbrev S2048x512 : Shape := ⟨2, ![2048, 512]⟩
abbrev S2048x896 : Shape := ⟨2, ![2048, 896]⟩
abbrev S1x512x896 : Shape := ⟨3, ![1, 512, 896]⟩
abbrev S512x896 : Shape := ⟨2, ![512, 896]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x3584, .f32⟩
  | .hbm, ⟨2, _⟩ => ⟨S2048x3584, .f32⟩
  | .hbm, ⟨3, _⟩ => ⟨S2048x1024, .bf16⟩
  | .hbm, ⟨4, _⟩ => ⟨S2048x3584, .bf16⟩
  | .hbm, ⟨5, _⟩ => ⟨S4x512x896, .f32⟩
  | .local _ .vmem, ⟨0, _⟩ => ⟨S2048x512, .bf16⟩
  | .local _ .vmem, ⟨1, _⟩ => ⟨S2048x896, .bf16⟩
  | .local _ .vmem, ⟨2, _⟩ => ⟨S2048x896, .bf16⟩
  | .local _ .vmem, ⟨3, _⟩ => ⟨S1x512x896, .f32⟩
  | .local _ .vmem, ⟨4, _⟩ => ⟨S1x512x896, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S2048x1024 : Shape := ⟨2, ![2048, 1024]⟩
abbrev S1024x3584 : Shape := ⟨2, ![1024, 3584]⟩
abbrev S2048x3584 : Shape := ⟨2, ![2048, 3584]⟩
abbrev S3584x1024 : Shape := ⟨2, ![3584, 1024]⟩
abbrev S512x3584 : Shape := ⟨2, ![512, 3584]⟩
abbrev S512x4x896 : Shape := ⟨3, ![512, 4, 896]⟩
abbrev S4x512x896 : Shape := ⟨3, ![4, 512, 896]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3584, .f32⟩
  | .hbm, ⟨2, _⟩ => ⟨S2048x3584, .f32⟩
  | .hbm, ⟨3, _⟩ => ⟨S2048x3584, .f32⟩
  | .hbm, ⟨4, _⟩ => ⟨S3584x1024, .f32⟩
  | .hbm, ⟨5, _⟩ => ⟨S1024x3584, .f32⟩
  | .hbm, ⟨6, _⟩ => ⟨S512x3584, .f32⟩
  | .hbm, ⟨7, _⟩ => ⟨S512x4x896, .f32⟩
  | .hbm, ⟨8, _⟩ => ⟨S4x512x896, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .bf16⟩
  | .hbm, ⟨4, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .bf16⟩
  | .hbm, ⟨4, _⟩ => ⟨S2048x1024, .bf16⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference9Ideal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S2048x256 : Shape := ⟨2, ![2048, 256]⟩
abbrev S256x1024 : Shape := ⟨2, ![256, 1024]⟩
abbrev S2048x1024 : Shape := ⟨2, ![2048, 1024]⟩
abbrev S4x256x256 : Shape := ⟨3, ![4, 256, 256]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 5
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S256x1024, .f32⟩
  | .hbm, ⟨2, _⟩ => ⟨S2048x1024, .f32⟩
  | .hbm, ⟨3, _⟩ => ⟨S2048x1024, .bf16⟩
  | .hbm, ⟨4, _⟩ => ⟨S4x256x256, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S1x256x256, .f32⟩
  | .local _ .vmem, ⟨5, _⟩ => ⟨S1x256x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference10Ideal.lean ====
abbrev S2048x256 : Shape := ⟨2, ![2048, 256]⟩
abbrev S256x1024 : Shape := ⟨2, ![256, 1024]⟩
abbrev S2048x1024 : Shape := ⟨2, ![2048, 1024]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 8
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x1024, .f32⟩
  | .hbm, ⟨2, _⟩ => ⟨S2048x1024, .f32⟩
  | .hbm, ⟨3, _⟩ => ⟨S2048x1024, .f32⟩
  | .hbm, ⟨4, _⟩ => ⟨S1024x256, .f32⟩
  | .hbm, ⟨5, _⟩ => ⟨S256x1024, .f32⟩
  | .hbm, ⟨6, _⟩ => ⟨S256x4x256, .f32⟩
  | .hbm, ⟨7, _⟩ => ⟨S4x256x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S2048x512 : Shape := ⟨2, ![2048, 512]⟩
abbrev S512x1024 : Shape := ⟨2, ![512, 1024]⟩
abbrev S2048x1024 : Shape := ⟨2, ![2048, 1024]⟩
abbrev S4x512x256 : Shape := ⟨3, ![4, 512, 256]⟩
abbrev S1024x512 : Shape := ⟨2, ![1024, 512]⟩
abbrev S1024x256 : Shape := ⟨2, ![1024, 256]⟩
abbrev S1x512x256 : Shape := ⟨3, ![1, 512, 256]⟩
abbrev S512x256 : Shape := ⟨2, ![512, 256]⟩

abbrev nBuf : Space → Nat
  | .hbm => 6
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x1024, .f32⟩
  | .hbm, ⟨3, _⟩ => ⟨S2048x512, .bf16⟩
  | .hbm, ⟨4, _⟩ => ⟨S2048x1024, .bf16⟩
  | .hbm, ⟨5, _⟩ => ⟨S4x512x256, .f32⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S1x512x256, .f32⟩
  | .local _ .vmem, ⟨5, _⟩ => ⟨S1x512x256, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference11Ideal.lean ====
abbrev S2048x512 : Shape := ⟨2, ![2048, 512]⟩
abbrev S512x1024 : Shape := ⟨2, ![512, 1024]⟩
abbrev S2048x1024 : Shape := ⟨2, ![2048, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x1024, .f32⟩
  | .hbm, ⟨3, _⟩ => ⟨S2048x1024, .f32⟩
  | .hbm, ⟨4, _⟩ => ⟨S1024x512, .f32⟩
  | .hbm, ⟨5, _⟩ => ⟨S512x1024, .f32⟩
  | .hbm, ⟨6, _⟩ => ⟨S512x4x256, .f32⟩
  | .hbm, ⟨7, _⟩ => ⟨S4x512x256, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S2048x512 : Shape := ⟨2, ![2048, 512]⟩
abbrev S512x512 : Shape := ⟨2, ![512, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S512x512, .f32⟩
  | .hbm, ⟨2, _⟩ => ⟨S2048x512, .f32⟩
  | .hbm, ⟨3, _⟩ => ⟨S2048x512, .bf16⟩
  | .hbm, ⟨4, _⟩ => ⟨S2048x512, .bf16⟩
  | .hbm, ⟨5, _⟩ => ⟨S512x512, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference12Ideal.lean ====
abbrev S2048x512 : Shape := ⟨2, ![2048, 512]⟩
abbrev S512x512 : Shape := ⟨2, ![512, 512]⟩

abbrev nBuf : Space → Nat
  | .hbm => 6
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x512, .f32⟩
  | .hbm, ⟨2, _⟩ => ⟨S2048x512, .f32⟩
  | .hbm, ⟨3, _⟩ => ⟨S2048x512, .f32⟩
  | .hbm, ⟨4, _⟩ => ⟨S512x512, .f32⟩
  | .hbm, ⟨5, _⟩ => ⟨S512x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S2048x1024 : Shape := ⟨2, ![2048, 1024]⟩
abbrev S2048x2048 : Shape := ⟨2, ![2048, 2048]⟩
abbrev S2048x512 : Shape := ⟨2, ![2048, 512]⟩
abbrev S512x1024 : Shape := ⟨2, ![512, 1024]⟩
abbrev S1024x1024 : Shape := ⟨2, ![1024, 1024]⟩
abbrev S512x4x256 : Shape := ⟨3, ![512, 4, 256]⟩
abbrev S4x512x256 : Shape := ⟨3, ![4, 512, 256]⟩
abbrev S256x1024 : Shape := ⟨2, ![256, 1024]⟩
abbrev S256x2048 : Shape := ⟨2, ![256, 2048]⟩
abbrev S256x512 : Shape := ⟨2, ![256, 512]⟩
abbrev S256x256 : Shape := ⟨2, ![256, 256]⟩
abbrev S1x512x256 : Shape := ⟨3, ![1, 512, 256]⟩
abbrev S512x256 : Shape := ⟨2, ![512, 256]⟩

abbrev nBuf : Space → Nat
  | .hbm => 19
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x512, .f32⟩
  | .hbm, ⟨3, _⟩ => ⟨S2048x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S2048x1024, .f32⟩
  | .hbm, ⟨8, _⟩ => ⟨S2048x1024, .f32⟩
  | .hbm, ⟨9, _⟩ => ⟨S512x1024, .bf16⟩
  | .hbm, ⟨10, _⟩ => ⟨S512x4x256, .bf16⟩
  | .hbm, ⟨11, _⟩ => ⟨S4x512x256, .bf16⟩
  | .hbm, ⟨12, _⟩ => ⟨S1024x1024, .bf16⟩
  | .hbm, ⟨13, _⟩ => ⟨S1024x1024, .bf16⟩
  | .hbm, ⟨14, _⟩ => ⟨S2048x512, .f32⟩
  | .hbm, ⟨15, _⟩ => ⟨S2048x1024, .f32⟩
  | .hbm, ⟨16, _⟩ => ⟨S2048x2048, .f32⟩
  | .hbm, ⟨17, _⟩ => ⟨S2048x1024, .bf16⟩
  | .hbm, ⟨18, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S4x512x256, .bf16⟩
  | .local _ .vmem, ⟨9, _⟩ => ⟨S1024x1024, .bf16⟩
  | .local _ .vmem, ⟨10, _⟩ => ⟨S1024x1024, .bf16⟩
  | .local _ .vmem, ⟨11, _⟩ => ⟨S256x512, .f32⟩
  | .local _ .vmem, ⟨12, _⟩ => ⟨S256x512, .f32⟩
  | .local _ .vmem, ⟨13, _⟩ => ⟨S256x1024, .f32⟩
  | .local _ .vmem, ⟨14, _⟩ => ⟨S256x1024, .f32⟩
  | .local _ .vmem, ⟨15, _⟩ => ⟨S256x2048, .f32⟩
  | .local _ .vmem, ⟨16, _⟩ => ⟨S256x2048, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference13Ideal.lean ====
abbrev S2048x1024 : Shape := ⟨2, ![2048, 1024]⟩
abbrev S2048x2048 : Shape := ⟨2, ![2048, 2048]⟩
abbrev S2048x512 : Shape := ⟨2, ![2048, 512]⟩
abbrev S512x1024 : Shape := ⟨2, ![512, 1024]⟩
abbrev S1024x1024 : Shape := ⟨2, ![1024, 1024]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x512, .f32⟩
  | .hbm, ⟨3, _⟩ => ⟨S2048x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x512, .f32⟩
  | .hbm, ⟨47, _⟩ => ⟨S2048x1024, .f32⟩
  | .hbm, ⟨48, _⟩ => ⟨S2048x2048, .f32⟩
  | .hbm, ⟨49, _⟩ => ⟨S2048x1024, .bf16⟩
  | .hbm, ⟨50, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel18.lean ====
abbrev S2048x1024 : Shape := ⟨2, ![2048, 1024]⟩
abbrev S2048x512 : Shape := ⟨2, ![2048, 512]⟩
abbrev S2048x2048 : Shape := ⟨2, ![2048, 2048]⟩
abbrev S512x1024 : Shape := ⟨2, ![512, 1024]⟩
abbrev S1024x1024 : Shape := ⟨2, ![1024, 1024]⟩
abbrev S512x4x256 : Shape := ⟨3, ![512, 4, 256]⟩
abbrev S4x512x256 : Shape := ⟨3, ![4, 512, 256]⟩
abbrev S256x1024 : Shape := ⟨2, ![256, 1024]⟩
abbrev S256x512 : Shape := ⟨2, ![256, 512]⟩
abbrev S256x2048 : Shape := ⟨2, ![256, 2048]⟩
abbrev S1x512x256 : Shape := ⟨3, ![1, 512, 256]⟩
abbrev S512x256 : Shape := ⟨2, ![512, 256]⟩
abbrev S256x256 : Shape := ⟨2, ![256, 256]⟩

abbrev nBuf : Space → Nat
  | .hbm => 17
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x1024, .f32⟩
  | .hbm, ⟨3, _⟩ => ⟨S2048x2048, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S2048x512, .bf16⟩
  | .hbm, ⟨8, _⟩ => ⟨S512x1024, .bf16⟩
  | .hbm, ⟨9, _⟩ => ⟨S512x4x256, .bf16⟩
  | .hbm, ⟨10, _⟩ => ⟨S4x512x256, .bf16⟩
  | .hbm, ⟨11, _⟩ => ⟨S1024x1024, .bf16⟩
  | .hbm, ⟨12, _⟩ => ⟨S1024x1024, .bf16⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S256x2048, .f32⟩
  | .local _ .vmem, ⟨7, _⟩ => ⟨S256x2048, .f32⟩
  | .local _ .vmem, ⟨8, _⟩ => ⟨S4x512x256, .bf16⟩
  | .local _ .vmem, ⟨9, _⟩ => ⟨S1024x1024, .bf16⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference18Ideal.lean ====
abbrev S2048x1024 : Shape := ⟨2, ![2048, 1024]⟩
abbrev S2048x512 : Shape := ⟨2, ![2048, 512]⟩
abbrev S2048x2048 : Shape := ⟨2, ![2048, 2048]⟩
abbrev S512x1024 : Shape := ⟨2, ![512, 1024]⟩
abbrev S1024x1024 : Shape := ⟨2, ![1024, 1024]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x1024, .f32⟩
  | .hbm, ⟨3, _⟩ => ⟨S2048x2048, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Kernel17.lean ====
abbrev S2048x1024 : Shape := ⟨2, ![2048, 1024]⟩
abbrev S2048x2816 : Shape := ⟨2, ![2048, 2816]⟩
abbrev S2816x1024 : Shape := ⟨2, ![2816, 1024]⟩
abbrev S2048x4x704 : Shape := ⟨3, ![2048, 4, 704]⟩
abbrev S4x2048x704 : Shape := ⟨3, ![4, 2048, 704]⟩
abbrev S4x704x1024 : Shape := ⟨3, ![4, 704, 1024]⟩
abbrev S512x1024 : Shape := ⟨2, ![512, 1024]⟩
abbrev S4x512x704 : Shape := ⟨3, ![4, 512, 704]⟩
abbrev S4 : Shape := ⟨1, ![4]⟩
abbrev S1 : Shape := ⟨1, ![1]⟩
abbrev S_ : Shape := ⟨0, ![]⟩
abbrev S1x704x1024 : Shape := ⟨3, ![1, 704, 1024]⟩
abbrev S704x1024 : Shape := ⟨2, ![704, 1024]⟩
abbrev S1x512x704 : Shape := ⟨3, ![1, 512, 704]⟩
abbrev S512x704 : Shape := ⟨2, ![512, 704]⟩

abbrev nBuf : Space → Nat
  | .hbm => 13
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2048x2816, .f32⟩
  | .hbm, ⟨3, _⟩ => ⟨S2816x1024, .f32⟩
  | .hbm, ⟨4, _⟩ => ⟨S2048x2816, .bf16⟩
  | .hbm, ⟨5, _⟩ => ⟨S2048x4x704, .bf16⟩
  | .hbm, ⟨6, _⟩ => ⟨S4x2048x704, .bf16⟩
  | .hbm, ⟨7, _⟩ => ⟨S2048x2816, .bf16⟩
  | .hbm, ⟨8, _⟩ => ⟨S2048x4x704, .bf16⟩
  | .hbm, ⟨9, _⟩ => ⟨S4x2048x704, .bf16⟩
  | .hbm, ⟨10, _⟩ => ⟨S2816x1024, .bf16⟩
  | .hbm, ⟨11, _⟩ => ⟨S4x704x1024, .bf16⟩
  | .hbm, ⟨12, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S4x512x704, .bf16⟩
  | .local _ .vmem, ⟨3, _⟩ => ⟨S4x512x704, .bf16⟩
  | .local _ .vmem, ⟨4, _⟩ => ⟨S4x512x704, .bf16⟩
  | .local _ .vmem, ⟨5, _⟩ => ⟨S4x512x704, .bf16⟩
  | .local _ .vmem, ⟨6, _⟩ => ⟨S512x1024, .f32⟩
  | .local _ .vmem, ⟨7, _⟩ => ⟨S512x1024, .f32⟩
  | .local _ .vmem, ⟨8, _⟩ => ⟨S4x704x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference17Ideal.lean ====
abbrev S2048x1024 : Shape := ⟨2, ![2048, 1024]⟩
abbrev S2048x2816 : Shape := ⟨2, ![2048, 2816]⟩
abbrev S2816x1024 : Shape := ⟨2, ![2816, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2048x2816, .f32⟩
  | .hbm, ⟨3, _⟩ => ⟨S2816x1024, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S2048x1024, .f32⟩
  | .hbm, ⟨15, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩

abbrev nD : Nat := 1
abbrev τ : Topo := Topo.v7x

variable {F : FTy → Type} [FloatOps F]
-- ==== Kernel16.lean ====
abbrev S2048x1024 : Shape := ⟨2, ![2048, 1024]⟩
abbrev S1024 : Shape := ⟨1, ![1024]⟩
abbrev S1024x2816 : Shape := ⟨2, ![1024, 2816]⟩
abbrev S1x1024 : Shape := ⟨2, ![1, 1024]⟩
abbrev S2816x1024 : Shape := ⟨2, ![2816, 1024]⟩
abbrev S4x704x1024 : Shape := ⟨3, ![4, 704, 1024]⟩
abbrev S4x2048x704 : Shape := ⟨3, ![4, 2048, 704]⟩
abbrev S256x1024 : Shape := ⟨2, ![256, 1024]⟩
abbrev S4x256x704 : Shape := ⟨3, ![4, 256, 704]⟩
abbrev S8 : Shape := ⟨1, ![8]⟩
abbrev S1 : Shape := ⟨1, ![1]⟩
abbrev S_ : Shape := ⟨0, ![]⟩
abbrev S1x704x1024 : Shape := ⟨3, ![1, 704, 1024]⟩
abbrev S704x1024 : Shape := ⟨2, ![704, 1024]⟩
abbrev S256 : Shape := ⟨1, ![256]⟩
abbrev S256x1 : Shape := ⟨2, ![256, 1]⟩
abbrev S256x704 : Shape := ⟨2, ![256, 704]⟩
abbrev S1x256x704 : Shape := ⟨3, ![1, 256, 704]⟩

abbrev nBuf : Space → Nat
  | .hbm => 14
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S1x1024, .f32⟩
  | .hbm, ⟨5, _⟩ => ⟨S2816x1024, .f32⟩
  | .hbm, ⟨6, _⟩ => ⟨S2816x1024, .bf16⟩
  | .hbm, ⟨7, _⟩ => ⟨S4x704x1024, .bf16⟩
  | .hbm, ⟨8, _⟩ => ⟨S2816x1024, .f32⟩
  | .hbm, ⟨9, _⟩ => ⟨S2816x1024, .bf16⟩
  | .hbm, ⟨10, _⟩ => ⟨S4x704x1024, .bf16⟩
  | .hbm, ⟨11, _⟩ => ⟨S2048x1024, .bf16⟩
  | .hbm, ⟨12, _⟩ => ⟨S4x2048x704, .bf16⟩
  | .hbm, ⟨13, _⟩ => ⟨S4x2048x704, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S4x256x704, .bf16⟩
  | .local _ .vmem, ⟨6, _⟩ => ⟨S4x256x704, .bf16⟩
  | .local _ .vmem, ⟨7, _⟩ => ⟨S4x256x704, .bf16⟩
  | .local _ .vmem, ⟨8, _⟩ => ⟨S4x256x704, .bf16⟩
  | .local _ .vmem, ⟨9, _⟩ => ⟨S4x704x1024, .bf16⟩
  | .local _ .vmem, ⟨10, _⟩ => ⟨S4x704x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference16Ideal.lean ====
abbrev S2048x1024 : Shape := ⟨2, ![2048, 1024]⟩
abbrev S1024 : Shape := ⟨1, ![1024]⟩
abbrev S1024x2816 : Shape := ⟨2, ![1024, 2816]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2816 : Shape := ⟨2, ![2048, 2816]⟩
abbrev S2048x4x704 : Shape := ⟨3, ![2048, 4, 704]⟩
abbrev S4x2048x704 : Shape := ⟨3, ![4, 2048, 704]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x1024, .bf16⟩
  | .hbm, ⟨21, _⟩ => ⟨S2048x2816, .f32⟩
  | .hbm, ⟨22, _⟩ => ⟨S2048x4x704, .f32⟩
  | .hbm, ⟨23, _⟩ => ⟨S4x2048x704, .f32⟩
  | .hbm, ⟨24, _⟩ => ⟨S4x2048x704, .bf16⟩
  | .hbm, ⟨25, _⟩ => ⟨S2048x2816, .f32⟩
  | .hbm, ⟨26, _⟩ => ⟨S2048x4x704, .f32⟩
  | .hbm, ⟨27, _⟩ => ⟨S4x2048x704, .f32⟩
  | .hbm, ⟨28, _⟩ => ⟨S4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel19.lean ====
abbrev S2048x1024 : Shape := ⟨2, ![2048, 1024]⟩
abbrev S1024 : Shape := ⟨1, ![1024]⟩
abbrev S1024x3584 : Shape := ⟨2, ![1024, 3584]⟩
abbrev S3584 : Shape := ⟨1, ![3584]⟩
abbrev S1x1024 : Shape := ⟨2, ![1, 1024]⟩
abbrev S1024x4x896 : Shape := ⟨3, ![1024, 4, 896]⟩
abbrev S4x1024x896 : Shape := ⟨3, ![4, 1024, 896]⟩
abbrev S1x3584 : Shape := ⟨2, ![1, 3584]⟩
abbrev S2048x512 : Shape := ⟨2, ![2048, 512]⟩
abbrev S2048x2048 : Shape := ⟨2, ![2048, 2048]⟩
abbrev S256x1024 : Shape := ⟨2, ![256, 1024]⟩
abbrev S256x512 : Shape := ⟨2, ![256, 512]⟩
abbrev S256x2048 : Shape := ⟨2, ![256, 2048]⟩
abbrev S4 : Shape := ⟨1, ![4]⟩
abbrev S1 : Shape := ⟨1, ![1]⟩
abbrev S_ : Shape := ⟨0, ![]⟩
abbrev S1x1024x896 : Shape := ⟨3, ![1, 1024, 896]⟩
abbrev S1024x896 : Shape := ⟨2, ![1024, 896]⟩
abbrev S256 : Shape := ⟨1, ![256]⟩
abbrev S256x1 : Shape := ⟨2, ![256, 1]⟩
abbrev S256x896 : Shape := ⟨2, ![256, 896]⟩
abbrev S1x896 : Shape := ⟨2, ![1, 896]⟩
abbrev S256x384 : Shape := ⟨2, ![256, 384]⟩
abbrev S256x640 : Shape := ⟨2, ![256, 640]⟩
abbrev S256x256 : Shape := ⟨2, ![256, 256]⟩

abbrev nBuf : Space → Nat
  | .hbm => 13
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x3584, .f32⟩
  | .hbm, ⟨3, _⟩ => ⟨S3584, .f32⟩
  | .hbm, ⟨4, _⟩ => ⟨S1x1024, .f32⟩
  | .hbm, ⟨5, _⟩ => ⟨S1024x3584, .bf16⟩
  | .hbm, ⟨6, _⟩ => ⟨S1024x4x896, .bf16⟩
  | .hbm, ⟨7, _⟩ => ⟨S4x1024x896, .bf16⟩
  | .hbm, ⟨8, _⟩ => ⟨S1x3584, .f32⟩
  | .hbm, ⟨9, _⟩ => ⟨S2048x1024, .bf16⟩
  | .hbm, ⟨10, _⟩ => ⟨S2048x512, .f32⟩
  | .hbm, ⟨11, _⟩ => ⟨S2048x1024, .f32⟩
  | .hbm, ⟨12, _⟩ => ⟨S2048x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x3584, .f32⟩
  | .local _ .vmem, ⟨4, _⟩ => ⟨S256x1024, .bf16⟩
  | .local _ .vmem, ⟨5, _⟩ => ⟨S256x1024, .bf16⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x2048, .f32⟩
  | .local _ .vmem, ⟨11, _⟩ => ⟨S256x2048, .f32⟩
  | .local _ .vmem, ⟨12, _⟩ => ⟨S4x1024x896, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S2048x1024 : Shape := ⟨2, ![2048, 1024]⟩
abbrev S1024 : Shape := ⟨1, ![1024]⟩
abbrev S1024x3584 : Shape := ⟨2, ![1024, 3584]⟩
abbrev S3584 : Shape := ⟨1, ![3584]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x3584 : Shape := ⟨2, ![2048, 3584]⟩
abbrev S1x3584 : Shape := ⟨2, ![1, 3584]⟩
abbrev S2048x512 : Shape := ⟨2, ![2048, 512]⟩
abbrev S2048x2048 : Shape := ⟨2, ![2048, 2048]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x3584, .f32⟩
  | .hbm, ⟨3, _⟩ => ⟨S3584, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x3584, .f32⟩
  | .hbm, ⟨21, _⟩ => ⟨S1x3584, .f32⟩
  | .hbm, ⟨22, _⟩ => ⟨S2048x3584, .f32⟩
  | .hbm, ⟨23, _⟩ => ⟨S2048x3584, .f32⟩
  | .hbm, ⟨24, _⟩ => ⟨S2048x1024, .bf16⟩
  | .hbm, ⟨25, _⟩ => ⟨S2048x512, .f32⟩
  | .hbm, ⟨26, _⟩ => ⟨S2048x1024, .f32⟩
  | .hbm, ⟨27, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel15.lean ====
abbrev S2048x1024 : Shape := ⟨2, ![2048, 1024]⟩
abbrev S2048x512 : Shape := ⟨2, ![2048, 512]⟩
abbrev S2048x2048 : Shape := ⟨2, ![2048, 2048]⟩
abbrev S1024 : Shape := ⟨1, ![1024]⟩
abbrev S1024x3584 : Shape := ⟨2, ![1024, 3584]⟩
abbrev S1x1024 : Shape := ⟨2, ![1, 1024]⟩
abbrev S1024x4x896 : Shape := ⟨3, ![1024, 4, 896]⟩
abbrev S4x1024x896 : Shape := ⟨3, ![4, 1024, 896]⟩
abbrev S2048x3584 : Shape := ⟨2, ![2048, 3584]⟩
abbrev S8x1024 : Shape := ⟨2, ![8, 1024]⟩
abbrev S8x3584 : Shape := ⟨2, ![8, 3584]⟩
abbrev S256x1024 : Shape := ⟨2, ![256, 1024]⟩
abbrev S256x512 : Shape := ⟨2, ![256, 512]⟩
abbrev S256x2048 : Shape := ⟨2, ![256, 2048]⟩
abbrev S256x3584 : Shape := ⟨2, ![256, 3584]⟩
abbrev S4 : Shape := ⟨1, ![4]⟩
abbrev S1 : Shape := ⟨1, ![1]⟩
abbrev S_ : Shape := ⟨0, ![]⟩
abbrev S1x1024x896 : Shape := ⟨3, ![1, 1024, 896]⟩
abbrev S1024x896 : Shape := ⟨2, ![1024, 896]⟩
abbrev S1x512 : Shape := ⟨2, ![1, 512]⟩
abbrev S512 : Shape := ⟨1, ![512]⟩
abbrev S1x2048 : Shape := ⟨2, ![1, 2048]⟩
abbrev S2048 : Shape := ⟨1, ![2048]⟩
abbrev S256x896 : Shape := ⟨2, ![256, 896]⟩
abbrev S256 : Shape := ⟨1, ![256]⟩
abbrev S256x1 : Shape := ⟨2, ![256, 1]⟩

abbrev nBuf : Space → Nat
  | .hbm => 15
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x512, .f32⟩
  | .hbm, ⟨3, _⟩ => ⟨S2048x1024, .f32⟩
  | .hbm, ⟨4, _⟩ => ⟨S2048x2048, .f32⟩
  | .hbm, ⟨5, _⟩ => ⟨S1024, .f32⟩
  | .hbm, ⟨6, _⟩ => ⟨S1024x3584, .f32⟩
  | .hbm, ⟨7, _⟩ => ⟨S1x1024, .f32⟩
  | .hbm, ⟨8, _⟩ => ⟨S1024x3584, .bf16⟩
  | .hbm, ⟨9, _⟩ => ⟨S1024x4x896, .bf16⟩
  | .hbm, ⟨10, _⟩ => ⟨S4x1024x896, .bf16⟩
  | .hbm, ⟨11, _⟩ => ⟨S2048x1024, .f32⟩
  | .hbm, ⟨12, _⟩ => ⟨S2048x3584, .bf16⟩
  | .hbm, ⟨13, _⟩ => ⟨S8x1024, .f32⟩
  | .hbm, ⟨14, _⟩ => ⟨S8x3584, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x2048, .f32⟩
  | .local _ .vmem, ⟨9, _⟩ => ⟨S256x2048, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x3584, .bf16⟩
  | .local _ .vmem, ⟨14, _⟩ => ⟨S256x3584, .bf16⟩
  | .local _ .vmem, ⟨15, _⟩ => ⟨S8x1024, .f32⟩
  | .local _ .vmem, ⟨16, _⟩ => ⟨S8x3584, .f32⟩
  | .local _ .vmem, ⟨17, _⟩ => ⟨S4x1024x896, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3584 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x3584 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference15Ideal.lean ====
abbrev S2048x1024 : Shape := ⟨2, ![2048, 1024]⟩
abbrev S2048x512 : Shape := ⟨2, ![2048, 512]⟩
abbrev S2048x2048 : Shape := ⟨2, ![2048, 2048]⟩
abbrev S1024 : Shape := ⟨1, ![1024]⟩
abbrev S1024x3584 : Shape := ⟨2, ![1024, 3584]⟩
abbrev S2048x3584 : Shape := ⟨2, ![2048, 3584]⟩
abbrev S_ : Shape := ⟨0, ![]⟩
abbrev S3584 : Shape := ⟨1, ![3584]⟩
abbrev S2048 : Shape := ⟨1, ![2048]⟩
abbrev S2048x1 : Shape := ⟨2, ![2048, 1]⟩
abbrev S1x1024 : Shape := ⟨2, ![1, 1024]⟩
abbrev S1x3584 : Shape := ⟨2, ![1, 3584]⟩
abbrev S7x1024 : Shape := ⟨2, ![7, 1024]⟩
abbrev S8x1024 : Shape := ⟨2, ![8, 1024]⟩
abbrev S7x3584 : Shape := ⟨2, ![7, 3584]⟩
abbrev S8x3584 : Shape := ⟨2, ![8, 3584]⟩

abbrev nBuf : Space → Nat
  | .hbm => 75
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x512, .f32⟩
  | .hbm, ⟨3, _⟩ => ⟨S2048x1024, .f32⟩
  | .hbm, ⟨4, _⟩ => ⟨S2048x2048, .f32⟩
  | .hbm, ⟨5, _⟩ => ⟨S1024, .f32⟩
  | .hbm, ⟨6, _⟩ => ⟨S1024x3584, .f32⟩
  | .hbm, ⟨7, _⟩ => ⟨S2048x3584, .f32⟩
  | .hbm, ⟨8, _⟩ => ⟨S_, .f32⟩
  | .hbm, ⟨9, _⟩ => ⟨S3584, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x3584, .f32⟩
  | .hbm, ⟨31, _⟩ => ⟨S1x3584, .f32⟩
  | .hbm, ⟨32, _⟩ => ⟨S2048x3584, .f32⟩
  | .hbm, ⟨33, _⟩ => ⟨S2048x3584, .f32⟩
  | .hbm, ⟨34, _⟩ => ⟨S_, .f32⟩
  | .hbm, ⟨35, _⟩ => ⟨S3584, .f32⟩
  | .hbm, ⟨36, _⟩ => ⟨S1x3584, .f32⟩
  | .hbm, ⟨37, _⟩ => ⟨S_, .f32⟩
  | .hbm, ⟨38, _⟩ => ⟨S3584, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S2048x1024, .f32⟩
  | .hbm, ⟨49, _⟩ => ⟨S_, .f32⟩
  | .hbm, ⟨50, _⟩ => ⟨S2048, .f32⟩
  | .hbm, ⟨51, _⟩ => ⟨S2048x1, .f32⟩
  | .hbm, ⟨52, _⟩ => ⟨S2048x1024, .f32⟩
  | .hbm, ⟨53, _⟩ => ⟨S2048x1024, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S_, .f32⟩
  | .hbm, ⟨59, _⟩ => ⟨S2048, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x3584, .bf16⟩
  | .hbm, ⟨67, _⟩ => ⟨S1x1024, .f32⟩
  | .hbm, ⟨68, _⟩ => ⟨S_, .f32⟩
  | .hbm, ⟨69, _⟩ => ⟨S7x1024, .f32⟩
  | .hbm, ⟨70, _⟩ => ⟨S8x1024, .f32⟩
  | .hbm, ⟨71, _⟩ => ⟨S1x3584, .f32⟩
  | .hbm, ⟨72, _⟩ => ⟨S_, .f32⟩
  | .hbm, ⟨73, _⟩ => ⟨S7x3584, .f32⟩
  | .hbm, ⟨74, _⟩ => ⟨S8x3584, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_cst_10 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Kernel21.lean ====
abbrev S2048x1024 : Shape := ⟨2, ![2048, 1024]⟩
abbrev S64x1024 : Shape := ⟨2, ![64, 1024]⟩
abbrev S1024x1024 : Shape := ⟨2, ![1024, 1024]⟩
abbrev S8x128x128 : Shape := ⟨3, ![8, 128, 128]⟩
abbrev S1x128x128 : Shape := ⟨3, ![1, 128, 128]⟩
abbrev S128x128 : Shape := ⟨2, ![128, 128]⟩
abbrev S1024x128 : Shape := ⟨2, ![1024, 128]⟩
abbrev S2x64x128 : Shape := ⟨3, ![2, 64, 128]⟩
abbrev S64x128 : Shape := ⟨2, ![64, 128]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .bf16⟩
  | .hbm, ⟨4, _⟩ => ⟨S2048x1024, .bf16⟩
  | .hbm, ⟨5, _⟩ => ⟨S64x1024, .f32⟩
  | .hbm, ⟨6, _⟩ => ⟨S64x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S64x1024, .f32⟩
  | .local _ .vmem, ⟨7, _⟩ => ⟨S64x1024, .f32⟩
  | .local _ .vmem, ⟨8, _⟩ => ⟨S8x128x128, .f32⟩
  | .local _ .vmem, ⟨9, _⟩ => ⟨S8x128x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v153 : BitVec 1 := Scalar.cmpi .eq arg0 c1_i32
  let v154 : BitVec 32 := Scalar.extui v153
  let c0_i32_110 : BitVec 32 := 0#32
  let v155 : BitVec 1 := Scalar.cmpi .ne v154 c0_i32_110
  v155

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference21Ideal.lean ====
abbrev S2048x1024 : Shape := ⟨2, ![2048, 1024]⟩
abbrev S_ : Shape := ⟨0, ![]⟩
abbrev S16x64x64 : Shape := ⟨3, ![16, 64, 64]⟩
abbrev S2048x16x64 : Shape := ⟨3, ![2048, 16, 64]⟩
abbrev S16x64x2048 : Shape := ⟨3, ![16, 64, 2048]⟩
abbrev S64x16x64 : Shape := ⟨3, ![64, 16, 64]⟩
abbrev S64x1024 : Shape := ⟨2, ![64, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S_, .f32⟩
  | .hbm, ⟨4, _⟩ => ⟨S16x64x64, .f32⟩
  | .hbm, ⟨5, _⟩ => ⟨S2048x16x64, .f32⟩
  | .hbm, ⟨6, _⟩ => ⟨S16x64x2048, .f32⟩
  | .hbm, ⟨7, _⟩ => ⟨S2048x16x64, .f32⟩
  | .hbm, ⟨8, _⟩ => ⟨S2048x16x64, .f32⟩
  | .hbm, ⟨9, _⟩ => ⟨S16x64x2048, .f32⟩
  | .hbm, ⟨10, _⟩ => ⟨S2048x16x64, .f32⟩
  | .hbm, ⟨11, _⟩ => ⟨S2048x16x64, .f32⟩
  | .hbm, ⟨12, _⟩ => ⟨S2048x16x64, .f32⟩
  | .hbm, ⟨13, _⟩ => ⟨S16x64x2048, .f32⟩
  | .hbm, ⟨14, _⟩ => ⟨S16x64x64, .f32⟩
  | .hbm, ⟨15, _⟩ => ⟨S16x64x64, .f32⟩
  | .hbm, ⟨16, _⟩ => ⟨S16x64x2048, .f32⟩
  | .hbm, ⟨17, _⟩ => ⟨S16x64x64, .f32⟩
  | .hbm, ⟨18, _⟩ => ⟨S16x64x64, .f32⟩
  | .hbm, ⟨19, _⟩ => ⟨S64x16x64, .f32⟩
  | .hbm, ⟨20, _⟩ => ⟨S64x1024, .f32⟩
  | .hbm, ⟨21, _⟩ => ⟨S64x16x64, .f32⟩
  | .hbm, ⟨22, _⟩ => ⟨S64x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Kernel22.lean ====
abbrev S128x512 : Shape := ⟨2, ![128, 512]⟩
abbrev S1024x896 : Shape := ⟨2, ![1024, 896]⟩
abbrev S32x512 : Shape := ⟨2, ![32, 512]⟩
abbrev S256x896 : Shape := ⟨2, ![256, 896]⟩

abbrev nBuf : Space → Nat
  | .hbm => 16
  | .vmem => 32
  | .smem => 0
  | _ => 0

abbrev bufTy : (tb : Table) → Fin (tcTables nBuf tb) → BufTy
  | .hbm, ⟨0, _⟩ => ⟨S128x512, .f32⟩
  | .hbm, ⟨1, _⟩ => ⟨S1024x896, .f32⟩
  | .hbm, ⟨2, _⟩ => ⟨S128x512, .f32⟩
  | .hbm, ⟨3, _⟩ => ⟨S1024x896, .f32⟩
  | .hbm, ⟨4, _⟩ => ⟨S128x512, .f32⟩
  | .hbm, ⟨5, _⟩ => ⟨S1024x896, .f32⟩
  | .hbm, ⟨6, _⟩ => ⟨S128x512, .f32⟩
  | .hbm, ⟨7, _⟩ => ⟨S1024x896, .f32⟩
  | .hbm, ⟨8, _⟩ => ⟨S128x512, .f32⟩
  | .hbm, ⟨9, _⟩ => ⟨S1024x896, .f32⟩
  | .hbm, ⟨10, _⟩ => ⟨S128x512, .f32⟩
  | .hbm, ⟨11, _⟩ => ⟨S1024x896, .f32⟩
  | .hbm, ⟨12, _⟩ => ⟨S128x512, .f32⟩
  | .hbm, ⟨13, _⟩ => ⟨S1024x896, .f32⟩
  | .hbm, ⟨14, _⟩ => ⟨S128x512, .f32⟩
  | .hbm, ⟨15, _⟩ => ⟨S1024x896, .f32⟩
  | .local _ .vmem, ⟨0, _⟩ => ⟨S32x512, .f32⟩
  | .local _ .vmem, ⟨1, _⟩ => ⟨S32x512, .f32⟩
  | .local _ .vmem, ⟨2, _⟩ => ⟨S256x896, .f32⟩
  | .local _ .vmem, ⟨3, _⟩ => ⟨S256x896, .f32⟩
  | .local _ .vmem, ⟨4, _⟩ => ⟨S32x512, .f32⟩
  | .local _ .vmem, ⟨5, _⟩ => ⟨S32x512, .f32⟩
  | .local _ .vmem, ⟨6, _⟩ => ⟨S256x896, .f32⟩
  | .local _ .vmem, ⟨7, _⟩ => ⟨S256x896, .f32⟩
  | .local _ .vmem, ⟨8, _⟩ => ⟨S32x512, .f32⟩
  | .local _ .vmem, ⟨9, _⟩ => ⟨S32x512, .f32⟩
  | .local _ .vmem, ⟨10, _⟩ => ⟨S256x896, .f32⟩
  | .local _ .vmem, ⟨11, _⟩ => ⟨S256x896, .f32⟩
  | .local _ .vmem, ⟨12, _⟩ => ⟨S32x512, .f32⟩
  | .local _ .vmem, ⟨13, _⟩ => ⟨S32x512, .f32⟩
  | .local _ .vmem, ⟨14, _⟩ => ⟨S256x896, .f32⟩
  | .local _ .vmem, ⟨15, _⟩ => ⟨S256x896, .f32⟩
  | .local _ .vmem, ⟨16, _⟩ => ⟨S32x512, .f32⟩
  | .local _ .vmem, ⟨17, _⟩ => ⟨S32x512, .f32⟩
  | .local _ .vmem, ⟨18, _⟩ => ⟨S256x896, .f32⟩
  | .local _ .vmem, ⟨19, _⟩ => ⟨S256x896, .f32⟩
  | .local _ .vmem, ⟨20, _⟩ => ⟨S32x512, .f32⟩
  | .local _ .vmem, ⟨21, _⟩ => ⟨S32x512, .f32⟩
  | .local _ .vmem, ⟨22, _⟩ => ⟨S256x896, .f32⟩
  | .local _ .vmem, ⟨23, _⟩ => ⟨S256x896, .f32⟩
  | .local _ .vmem, ⟨24, _⟩ => ⟨S32x512, .f32⟩
  | .local _ .vmem, ⟨25, _⟩ => ⟨S32x512, .f32⟩
  | .local _ .vmem, ⟨26, _⟩ => ⟨S256x896, .f32⟩
  | .local _ .vmem, ⟨27, _⟩ => ⟨S256x896, .f32⟩
  | .local _ .vmem, ⟨28, _⟩ => ⟨S32x512, .f32⟩
  | .local _ .vmem, ⟨29, _⟩ => ⟨S32x512, .f32⟩
  | .local _ .vmem, ⟨30, _⟩ => ⟨S256x896, .f32⟩
  | .local _ .vmem, ⟨31, _⟩ => ⟨S256x896, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x896 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x896 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x896 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x896 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference22Ideal.lean ====
abbrev S128x512 : Shape := ⟨2, ![128, 512]⟩
abbrev S1024x896 : Shape := ⟨2, ![1024, 896]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S1024x896, .f32⟩
  | .hbm, ⟨2, _⟩ => ⟨S128x512, .f32⟩
  | .hbm, ⟨3, _⟩ => ⟨S1024x896, .f32⟩
  | .hbm, ⟨4, _⟩ => ⟨S128x512, .f32⟩
  | .hbm, ⟨5, _⟩ => ⟨S1024x896, .f32⟩
  | .hbm, ⟨6, _⟩ => ⟨S128x512, .f32⟩
  | .hbm, ⟨7, _⟩ => ⟨S1024x896, .f32⟩
  | .hbm, ⟨8, _⟩ => ⟨S_, .f32⟩
  | .hbm, ⟨9, _⟩ => ⟨S128x512, .f32⟩
  | .hbm, ⟨10, _⟩ => ⟨S128x512, .f32⟩
  | .hbm, ⟨11, _⟩ => ⟨S_, .f32⟩
  | .hbm, ⟨12, _⟩ => ⟨S128x512, .f32⟩
  | .hbm, ⟨13, _⟩ => ⟨S128x512, .f32⟩
  | .hbm, ⟨14, _⟩ => ⟨S128x512, .f32⟩
  | .hbm, ⟨15, _⟩ => ⟨S_, .f32⟩
  | .hbm, ⟨16, _⟩ => ⟨S128x512, .f32⟩
  | .hbm, ⟨17, _⟩ => ⟨S128x512, .f32⟩
  | .hbm, ⟨18, _⟩ => ⟨S128x512, .f32⟩
  | .hbm, ⟨19, _⟩ => ⟨S_, .f32⟩
  | .hbm, ⟨20, _⟩ => ⟨S128x512, .f32⟩
  | .hbm, ⟨21, _⟩ => ⟨S128x512, .f32⟩
  | .hbm, ⟨22, _⟩ => ⟨S128x512, .f32⟩
  | .hbm, ⟨23, _⟩ => ⟨S_, .f32⟩
  | .hbm, ⟨24, _⟩ => ⟨S128x512, .f32⟩
  | .hbm, ⟨25, _⟩ => ⟨S128x512, .f32⟩
  | .hbm, ⟨26, _⟩ => ⟨S_, .f32⟩
  | .hbm, ⟨27, _⟩ => ⟨S128x512, .f32⟩
  | .hbm, ⟨28, _⟩ => ⟨S128x512, .f32⟩
  | .hbm, ⟨29, _⟩ => ⟨S128x512, .f32⟩
  | .hbm, ⟨30, _⟩ => ⟨S_, .f32⟩
  | .hbm, ⟨31, _⟩ => ⟨S128x512, .f32⟩
  | .hbm, ⟨32, _⟩ => ⟨S128x512, .f32⟩
  | .hbm, ⟨33, _⟩ => ⟨S128x512, .f32⟩
  | .hbm, ⟨34, _⟩ => ⟨S_, .f32⟩
  | .hbm, ⟨35, _⟩ => ⟨S128x512, .f32⟩
  | .hbm, ⟨36, _⟩ => ⟨S128x512, .f32⟩
  | .hbm, ⟨37, _⟩ => ⟨S128x512, .f32⟩
  | .hbm, ⟨38, _⟩ => ⟨S_, .f32⟩
  | .hbm, ⟨39, _⟩ => ⟨S128x512, .f32⟩
  | .hbm, ⟨40, _⟩ => ⟨S128x512, .f32⟩
  | .hbm, ⟨41, _⟩ => ⟨S_, .f32⟩
  | .hbm, ⟨42, _⟩ => ⟨S1024x896, .f32⟩
  | .hbm, ⟨43, _⟩ => ⟨S1024x896, .f32⟩
  | .hbm, ⟨44, _⟩ => ⟨S_, .f32⟩
  | .hbm, ⟨45, _⟩ => ⟨S1024x896, .f32⟩
  | .hbm, ⟨46, _⟩ => ⟨S1024x896, .f32⟩
  | .hbm, ⟨47, _⟩ => ⟨S1024x896, .f32⟩
  | .hbm, ⟨48, _⟩ => ⟨S_, .f32⟩
  | .hbm, ⟨49, _⟩ => ⟨S1024x896, .f32⟩
  | .hbm, ⟨50, _⟩ => ⟨S1024x896, .f32⟩
  | .hbm, ⟨51, _⟩ => ⟨S1024x896, .f32⟩
  | .hbm, ⟨52, _⟩ => ⟨S_, .f32⟩
  | .hbm, ⟨53, _⟩ => ⟨S1024x896, .f32⟩
  | .hbm, ⟨54, _⟩ => ⟨S1024x896, .f32⟩
  | .hbm, ⟨55, _⟩ => ⟨S1024x896, .f32⟩
  | .hbm, ⟨56, _⟩ => ⟨S_, .f32⟩
  | .hbm, ⟨57, _⟩ => ⟨S1024x896, .f32⟩
  | .hbm, ⟨58, _⟩ => ⟨S1024x896, .f32⟩
  | .hbm, ⟨59, _⟩ => ⟨S_, .f32⟩
  | .hbm, ⟨60, _⟩ => ⟨S1024x896, .f32⟩
  | .hbm, ⟨61, _⟩ => ⟨S1024x896, .f32⟩
  | .hbm, ⟨62, _⟩ => ⟨S1024x896, .f32⟩
  | .hbm, ⟨63, _⟩ => ⟨S_, .f32⟩
  | .hbm, ⟨64, _⟩ => ⟨S1024x896, .f32⟩
  | .hbm, ⟨65, _⟩ => ⟨S1024x896, .f32⟩
  | .hbm, ⟨66, _⟩ => ⟨S1024x896, .f32⟩
  | .hbm, ⟨67, _⟩ => ⟨S_, .f32⟩
  | .hbm, ⟨68, _⟩ => ⟨S1024x896, .f32⟩
  | .hbm, ⟨69, _⟩ => ⟨S1024x896, .f32⟩
  | .hbm, ⟨70, _⟩ => ⟨S1024x896, .f32⟩
  | .hbm, ⟨71, _⟩ => ⟨S_, .f32⟩
  | .hbm, ⟨72, _⟩ => ⟨S1024x896, .f32⟩
  | .hbm, ⟨73, _⟩ => ⟨S1024x896, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Kernel23.lean ====
abbrev S704x1024 : Shape := ⟨2, ![704, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S256x1024 : Shape := ⟨2, ![256, 1024]⟩
abbrev S64x1024 : Shape := ⟨2, ![64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference24Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S256x1024 : Shape := ⟨2, ![256, 1024]⟩
abbrev S256x256 : Shape := ⟨2, ![256, 256]⟩
abbrev S64x1024 : Shape := ⟨2, ![64, 1024]⟩
abbrev S64x256 : Shape := ⟨2, ![64, 256]⟩

abbrev nBuf : Space → Nat
  | .hbm => 16
  | .vmem => 32
  | .smem => 0
  | _ => 0

abbrev bufTy : (tb : Table) → Fin (tcTables nBuf tb) → BufTy
  | .hbm, ⟨0, _⟩ => ⟨S256x1024, .f32⟩
  | .hbm, ⟨1, _⟩ => ⟨S256x256, .f32⟩
  | .hbm, ⟨2, _⟩ => ⟨S256x1024, .f32⟩
  | .hbm, ⟨3, _⟩ => ⟨S256x256, .f32⟩
  | .hbm, ⟨4, _⟩ => ⟨S256x1024, .f32⟩
  | .hbm, ⟨5, _⟩ => ⟨S256x256, .f32⟩
  | .hbm, ⟨6, _⟩ => ⟨S256x1024, .f32⟩
  | .hbm, ⟨7, _⟩ => ⟨S256x256, .f32⟩
  | .hbm, ⟨8, _⟩ => ⟨S256x1024, .f32⟩
  | .hbm, ⟨9, _⟩ => ⟨S256x256, .f32⟩
  | .hbm, ⟨10, _⟩ => ⟨S256x1024, .f32⟩
  | .hbm, ⟨11, _⟩ => ⟨S256x256, .f32⟩
  | .hbm, ⟨12, _⟩ => ⟨S256x1024, .f32⟩
  | .hbm, ⟨13, _⟩ => ⟨S256x256, .f32⟩
  | .hbm, ⟨14, _⟩ => ⟨S256x1024, .f32⟩
  | .hbm, ⟨15, _⟩ => ⟨S256x256, .f32⟩
  | .local _ .vmem, ⟨0, _⟩ => ⟨S64x1024, .f32⟩
  | .local _ .vmem, ⟨1, _⟩ => ⟨S64x1024, .f32⟩
  | .local _ .vmem, ⟨2, _⟩ => ⟨S64x256, .f32⟩
  | .local _ .vmem, ⟨3, _⟩ => ⟨S64x256, .f32⟩
  | .local _ .vmem, ⟨4, _⟩ => ⟨S64x1024, .f32⟩
  | .local _ .vmem, ⟨5, _⟩ => ⟨S64x1024, .f32⟩
  | .local _ .vmem, ⟨6, _⟩ => ⟨S64x256, .f32⟩
  | .local _ .vmem, ⟨7, _⟩ => ⟨S64x256, .f32⟩
  | .local _ .vmem, ⟨8, _⟩ => ⟨S64x1024, .f32⟩
  | .local _ .vmem, ⟨9, _⟩ => ⟨S64x1024, .f32⟩
  | .local _ .vmem, ⟨10, _⟩ => ⟨S64x256, .f32⟩
  | .local _ .vmem, ⟨11, _⟩ => ⟨S64x256, .f32⟩
  | .local _ .vmem, ⟨12, _⟩ => ⟨S64x1024, .f32⟩
  | .local _ .vmem, ⟨13, _⟩ => ⟨S64x1024, .f32⟩
  | .local _ .vmem, ⟨14, _⟩ => ⟨S64x256, .f32⟩
  | .local _ .vmem, ⟨15, _⟩ => ⟨S64x256, .f32⟩
  | .local _ .vmem, ⟨16, _⟩ => ⟨S64x1024, .f32⟩
  | .local _ .vmem, ⟨17, _⟩ => ⟨S64x1024, .f32⟩
  | .local _ .vmem, ⟨18, _⟩ => ⟨S64x256, .f32⟩
  | .local _ .vmem, ⟨19, _⟩ => ⟨S64x256, .f32⟩
  | .local _ .vmem, ⟨20, _⟩ => ⟨S64x1024, .f32⟩
  | .local _ .vmem, ⟨21, _⟩ => ⟨S64x1024, .f32⟩
  | .local _ .vmem, ⟨22, _⟩ => ⟨S64x256, .f32⟩
  | .local _ .vmem, ⟨23, _⟩ => ⟨S64x256, .f32⟩
  | .local _ .vmem, ⟨24, _⟩ => ⟨S64x1024, .f32⟩
  | .local _ .vmem, ⟨25, _⟩ => ⟨S64x1024, .f32⟩
  | .local _ .vmem, ⟨26, _⟩ => ⟨S64x256, .f32⟩
  | .local _ .vmem, ⟨27, _⟩ => ⟨S64x256, .f32⟩
  | .local _ .vmem, ⟨28, _⟩ => ⟨S64x1024, .f32⟩
  | .local _ .vmem, ⟨29, _⟩ => ⟨S64x1024, .f32⟩
  | .local _ .vmem, ⟨30, _⟩ => ⟨S64x256, .f32⟩
  | .local _ .vmem, ⟨31, _⟩ => ⟨S64x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference25Ideal.lean ====
abbrev S256x1024 : Shape := ⟨2, ![256, 1024]⟩
abbrev S256x256 : Shape := ⟨2, ![256, 256]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x256, .f32⟩
  | .hbm, ⟨2, _⟩ => ⟨S256x1024, .f32⟩
  | .hbm, ⟨3, _⟩ => ⟨S256x256, .f32⟩
  | .hbm, ⟨4, _⟩ => ⟨S256x1024, .f32⟩
  | .hbm, ⟨5, _⟩ => ⟨S256x256, .f32⟩
  | .hbm, ⟨6, _⟩ => ⟨S256x1024, .f32⟩
  | .hbm, ⟨7, _⟩ => ⟨S256x256, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x256, .f32⟩
  | .hbm, ⟨43, _⟩ => ⟨S256x256, .f32⟩
  | .hbm, ⟨44, _⟩ => ⟨S_, .f32⟩
  | .hbm, ⟨45, _⟩ => ⟨S256x256, .f32⟩
  | .hbm, ⟨46, _⟩ => ⟨S256x256, .f32⟩
  | .hbm, ⟨47, _⟩ => ⟨S256x256, .f32⟩
  | .hbm, ⟨48, _⟩ => ⟨S_, .f32⟩
  | .hbm, ⟨49, _⟩ => ⟨S256x256, .f32⟩
  | .hbm, ⟨50, _⟩ => ⟨S256x256, .f32⟩
  | .hbm, ⟨51, _⟩ => ⟨S256x256, .f32⟩
  | .hbm, ⟨52, _⟩ => ⟨S_, .f32⟩
  | .hbm, ⟨53, _⟩ => ⟨S256x256, .f32⟩
  | .hbm, ⟨54, _⟩ => ⟨S256x256, .f32⟩
  | .hbm, ⟨55, _⟩ => ⟨S256x256, .f32⟩
  | .hbm, ⟨56, _⟩ => ⟨S_, .f32⟩
  | .hbm, ⟨57, _⟩ => ⟨S256x256, .f32⟩
  | .hbm, ⟨58, _⟩ => ⟨S256x256, .f32⟩
  | .hbm, ⟨59, _⟩ => ⟨S_, .f32⟩
  | .hbm, ⟨60, _⟩ => ⟨S256x256, .f32⟩
  | .hbm, ⟨61, _⟩ => ⟨S256x256, .f32⟩
  | .hbm, ⟨62, _⟩ => ⟨S256x256, .f32⟩
  | .hbm, ⟨63, _⟩ => ⟨S_, .f32⟩
  | .hbm, ⟨64, _⟩ => ⟨S256x256, .f32⟩
  | .hbm, ⟨65, _⟩ => ⟨S256x256, .f32⟩
  | .hbm, ⟨66, _⟩ => ⟨S256x256, .f32⟩
  | .hbm, ⟨67, _⟩ => ⟨S_, .f32⟩
  | .hbm, ⟨68, _⟩ => ⟨S256x256, .f32⟩
  | .hbm, ⟨69, _⟩ => ⟨S256x256, .f32⟩
  | .hbm, ⟨70, _⟩ => ⟨S256x256, .f32⟩
  | .hbm, ⟨71, _⟩ => ⟨S_, .f32⟩
  | .hbm, ⟨72, _⟩ => ⟨S256x256, .f32⟩
  | .hbm, ⟨73, _⟩ => ⟨S256x256, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Kernel26.lean ====
abbrev S512x256 : Shape := ⟨2, ![512, 256]⟩
abbrev S256x1024 : Shape := ⟨2, ![256, 1024]⟩
abbrev S128x256 : Shape := ⟨2, ![128, 256]⟩
abbrev S64x1024 : Shape := ⟨2, ![64, 1024]⟩

abbrev nBuf : Space → Nat
  | .hbm => 16
  | .vmem => 32
  | .smem => 0
  | _ => 0

abbrev bufTy : (tb : Table) → Fin (tcTables nBuf tb) → BufTy
  | .hbm, ⟨0, _⟩ => ⟨S512x256, .f32⟩
  | .hbm, ⟨1, _⟩ => ⟨S256x1024, .f32⟩
  | .hbm, ⟨2, _⟩ => ⟨S512x256, .f32⟩
  | .hbm, ⟨3, _⟩ => ⟨S256x1024, .f32⟩
  | .hbm, ⟨4, _⟩ => ⟨S512x256, .f32⟩
  | .hbm, ⟨5, _⟩ => ⟨S256x1024, .f32⟩
  | .hbm, ⟨6, _⟩ => ⟨S512x256, .f32⟩
  | .hbm, ⟨7, _⟩ => ⟨S256x1024, .f32⟩
  | .hbm, ⟨8, _⟩ => ⟨S512x256, .f32⟩
  | .hbm, ⟨9, _⟩ => ⟨S256x1024, .f32⟩
  | .hbm, ⟨10, _⟩ => ⟨S512x256, .f32⟩
  | .hbm, ⟨11, _⟩ => ⟨S256x1024, .f32⟩
  | .hbm, ⟨12, _⟩ => ⟨S512x256, .f32⟩
  | .hbm, ⟨13, _⟩ => ⟨S256x1024, .f32⟩
  | .hbm, ⟨14, _⟩ => ⟨S512x256, .f32⟩
  | .hbm, ⟨15, _⟩ => ⟨S256x1024, .f32⟩
  | .local _ .vmem, ⟨0, _⟩ => ⟨S128x256, .f32⟩
  | .local _ .vmem, ⟨1, _⟩ => ⟨S128x256, .f32⟩
  | .local _ .vmem, ⟨2, _⟩ => ⟨S64x1024, .f32⟩
  | .local _ .vmem, ⟨3, _⟩ => ⟨S64x1024, .f32⟩
  | .local _ .vmem, ⟨4, _⟩ => ⟨S128x256, .f32⟩
  | .local _ .vmem, ⟨5, _⟩ => ⟨S128x256, .f32⟩
  | .local _ .vmem, ⟨6, _⟩ => ⟨S64x1024, .f32⟩
  | .local _ .vmem, ⟨7, _⟩ => ⟨S64x1024, .f32⟩
  | .local _ .vmem, ⟨8, _⟩ => ⟨S128x256, .f32⟩
  | .local _ .vmem, ⟨9, _⟩ => ⟨S128x256, .f32⟩
  | .local _ .vmem, ⟨10, _⟩ => ⟨S64x1024, .f32⟩
  | .local _ .vmem, ⟨11, _⟩ => ⟨S64x1024, .f32⟩
  | .local _ .vmem, ⟨12, _⟩ => ⟨S128x256, .f32⟩
  | .local _ .vmem, ⟨13, _⟩ => ⟨S128x256, .f32⟩
  | .local _ .vmem, ⟨14, _⟩ => ⟨S64x1024, .f32⟩
  | .local _ .vmem, ⟨15, _⟩ => ⟨S64x1024, .f32⟩
  | .local _ .vmem, ⟨16, _⟩ => ⟨S128x256, .f32⟩
  | .local _ .vmem, ⟨17, _⟩ => ⟨S128x256, .f32⟩
  | .local _ .vmem, ⟨18, _⟩ => ⟨S64x1024, .f32⟩
  | .local _ .vmem, ⟨19, _⟩ => ⟨S64x1024, .f32⟩
  | .local _ .vmem, ⟨20, _⟩ => ⟨S128x256, .f32⟩
  | .local _ .vmem, ⟨21, _⟩ => ⟨S128x256, .f32⟩
  | .local _ .vmem, ⟨22, _⟩ => ⟨S64x1024, .f32⟩
  | .local _ .vmem, ⟨23, _⟩ => ⟨S64x1024, .f32⟩
  | .local _ .vmem, ⟨24, _⟩ => ⟨S128x256, .f32⟩
  | .local _ .vmem, ⟨25, _⟩ => ⟨S128x256, .f32⟩
  | .local _ .vmem, ⟨26, _⟩ => ⟨S64x1024, .f32⟩
  | .local _ .vmem, ⟨27, _⟩ => ⟨S64x1024, .f32⟩
  | .local _ .vmem, ⟨28, _⟩ => ⟨S128x256, .f32⟩
  | .local _ .vmem, ⟨29, _⟩ => ⟨S128x256, .f32⟩
  | .local _ .vmem, ⟨30, _⟩ => ⟨S64x1024, .f32⟩
  | .local _ .vmem, ⟨31, _⟩ => ⟨S64x1024, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference26Ideal.lean ====
abbrev S512x256 : Shape := ⟨2, ![512, 256]⟩
abbrev S256x1024 : Shape := ⟨2, ![256, 1024]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x1024, .f32⟩
  | .hbm, ⟨2, _⟩ => ⟨S512x256, .f32⟩
  | .hbm, ⟨3, _⟩ => ⟨S256x1024, .f32⟩
  | .hbm, ⟨4, _⟩ => ⟨S512x256, .f32⟩
  | .hbm, ⟨5, _⟩ => ⟨S256x1024, .f32⟩
  | .hbm, ⟨6, _⟩ => ⟨S512x256, .f32⟩
  | .hbm, ⟨7, _⟩ => ⟨S256x1024, .f32⟩
  | .hbm, ⟨8, _⟩ => ⟨S_, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S512x256, .f32⟩
  | .hbm, ⟨23, _⟩ => ⟨S_, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | .hbm, ⟨37, _⟩ => ⟨S512x256, .f32⟩
  | .hbm, ⟨38, _⟩ => ⟨S_, .f32⟩
  | .hbm, ⟨39, _⟩ => ⟨S512x256, .f32⟩
  | .hbm, ⟨40, _⟩ => ⟨S512x256, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S_, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S_, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S_, .f32⟩
  | .hbm, ⟨53, _⟩ => ⟨S256x1024, .f32⟩
  | .hbm, ⟨54, _⟩ => ⟨S256x1024, .f32⟩
  | .hbm, ⟨55, _⟩ => ⟨S256x1024, .f32⟩
  | .hbm, ⟨56, _⟩ => ⟨S_, .f32⟩
  | .hbm, ⟨57, _⟩ => ⟨S256x1024, .f32⟩
  | .hbm, ⟨58, _⟩ => ⟨S256x1024, .f32⟩
  | .hbm, ⟨59, _⟩ => ⟨S_, .f32⟩
  | .hbm, ⟨60, _⟩ => ⟨S256x1024, .f32⟩
  | .hbm, ⟨61, _⟩ => ⟨S256x1024, .f32⟩
  | .hbm, ⟨62, _⟩ => ⟨S256x1024, .f32⟩
  | .hbm, ⟨63, _⟩ => ⟨S_, .f32⟩
  | .hbm, ⟨64, _⟩ => ⟨S256x1024, .f32⟩
  | .hbm, ⟨65, _⟩ => ⟨S256x1024, .f32⟩
  | .hbm, ⟨66, _⟩ => ⟨S256x1024, .f32⟩
  | .hbm, ⟨67, _⟩ => ⟨S_, .f32⟩
  | .hbm, ⟨68, _⟩ => ⟨S256x1024, .f32⟩
  | .hbm, ⟨69, _⟩ => ⟨S256x1024, .f32⟩
  | .hbm, ⟨70, _⟩ => ⟨S256x1024, .f32⟩
  | .hbm, ⟨71, _⟩ => ⟨S_, .f32⟩
  | .hbm, ⟨72, _⟩ => ⟨S256x1024, .f32⟩
  | .hbm, ⟨73, _⟩ => ⟨S256x1024, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Kernel27.lean ====
abbrev S2048x512 : Shape := ⟨2, ![2048, 512]⟩
abbrev S2048x2048 : Shape := ⟨2, ![2048, 2048]⟩
abbrev S16x2048 : Shape := ⟨2, ![16, 2048]⟩
abbrev S1024x512 : Shape := ⟨2, ![1024, 512]⟩
abbrev S1024x2048 : Shape := ⟨2, ![1024, 2048]⟩
abbrev S4x128x512 : Shape := ⟨3, ![4, 128, 512]⟩
abbrev S1x128x512 : Shape := ⟨3, ![1, 128, 512]⟩
abbrev S128x512 : Shape := ⟨2, ![128, 512]⟩
abbrev S1024x128 : Shape := ⟨2, ![1024, 128]⟩
abbrev S8x16x512 : Shape := ⟨3, ![8, 16, 512]⟩
abbrev S16x512 : Shape := ⟨2, ![16, 512]⟩

abbrev nBuf : Space → Nat
  | .hbm => 6
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S2048x2048, .f32⟩
  | .hbm, ⟨3, _⟩ => ⟨S2048x512, .bf16⟩
  | .hbm, ⟨4, _⟩ => ⟨S16x2048, .f32⟩
  | .hbm, ⟨5, _⟩ => ⟨S16x2048, .f32⟩
  | .local _ .vmem, ⟨0, _⟩ => ⟨S1024x512, .bf16⟩
  | .local _ .vmem, ⟨1, _⟩ => ⟨S1024x512, .bf16⟩
  | .local _ .vmem, ⟨2, _⟩ => ⟨S1024x2048, .f32⟩
  | .local _ .vmem, ⟨3, _⟩ => ⟨S1024x2048, .f32⟩
  | .local _ .vmem, ⟨4, _⟩ => ⟨S1024x2048, .f32⟩
  | .local _ .vmem, ⟨5, _⟩ => ⟨S1024x2048, .f32⟩
  | .local _ .vmem, ⟨6, _⟩ => ⟨S16x2048, .f32⟩
  | .local _ .vmem, ⟨7, _⟩ => ⟨S16x2048, .f32⟩
  | .local _ .vmem, ⟨8, _⟩ => ⟨S4x128x512, .f32⟩
  | .local _ .vmem, ⟨9, _⟩ => ⟨S4x128x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v81 : BitVec 1 := Scalar.cmpi .eq arg0 c1_i32
  let v82 : BitVec 32 := Scalar.extui v81
  let c0_i32_58 : BitVec 32 := 0#32
  let v83 : BitVec 1 := Scalar.cmpi .ne v82 c0_i32_58
  v83

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference27Ideal.lean ====
abbrev S2048x512 : Shape := ⟨2, ![2048, 512]⟩
abbrev S2048x2048 : Shape := ⟨2, ![2048, 2048]⟩
abbrev S_ : Shape := ⟨0, ![]⟩
abbrev S32x16x64 : Shape := ⟨3, ![32, 16, 64]⟩
abbrev S2048x32x64 : Shape := ⟨3, ![2048, 32, 64]⟩
abbrev S32x16x2048 : Shape := ⟨3, ![32, 16, 2048]⟩
abbrev S2048x32x16 : Shape := ⟨3, ![2048, 32, 16]⟩
abbrev S16x32x64 : Shape := ⟨3, ![16, 32, 64]⟩
abbrev S16x2048 : Shape := ⟨2, ![16, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S32x16x64, .f32⟩
  | .hbm, ⟨5, _⟩ => ⟨S2048x32x64, .f32⟩
  | .hbm, ⟨6, _⟩ => ⟨S32x16x2048, .f32⟩
  | .hbm, ⟨7, _⟩ => ⟨S2048x32x16, .f32⟩
  | .hbm, ⟨8, _⟩ => ⟨S2048x32x64, .f32⟩
  | .hbm, ⟨9, _⟩ => ⟨S32x16x2048, .f32⟩
  | .hbm, ⟨10, _⟩ => ⟨S2048x32x16, .f32⟩
  | .hbm, ⟨11, _⟩ => ⟨S2048x32x16, .f32⟩
  | .hbm, ⟨12, _⟩ => ⟨S2048x32x16, .f32⟩
  | .hbm, ⟨13, _⟩ => ⟨S32x16x2048, .f32⟩
  | .hbm, ⟨14, _⟩ => ⟨S32x16x64, .f32⟩
  | .hbm, ⟨15, _⟩ => ⟨S32x16x2048, .f32⟩
  | .hbm, ⟨16, _⟩ => ⟨S32x16x64, .f32⟩
  | .hbm, ⟨17, _⟩ => ⟨S16x32x64, .f32⟩
  | .hbm, ⟨18, _⟩ => ⟨S16x2048, .f32⟩
  | .hbm, ⟨19, _⟩ => ⟨S16x32x64, .f32⟩
  | .hbm, ⟨20, _⟩ => ⟨S16x2048, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Proof.LruKit.lean ====
module

public import proofs.«01_k».proof.Proof.Gen.KernelIdeal.Loops
public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body clears its carried buffers exactly when this holds of the grid point. -/
abbrev cond0_0 (i : grid0.Coords) : Prop := (Scalar.cmpi .ne (Scalar.extui (Scalar.cmpi .eq (BitVec.ofNat 32 (i 0).val) 0#32)) 0#32) = 1#1
/-- The condition holds at the first grid step and at no other. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! Each window's staging buffer at a grid step, and that it is a whole buffer. -/

abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x128x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x1024 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x1024 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S8x1024 .f32 := win0_15.stage (cfg0.slots t 15)
abbrev hs0_15 (t : Fin cfg0.N) : (ms0_15 t).IsWhole := hstage0_15 ((cfg0.slots t 15).cast nbuf0_15)
/-! The five scratch buffers. -/

abbrev scM0_0 : Memref sig .tc .vmem S256x1024 .f32 := Memref.whole cc0_scratch0
abbrev scM0_1 : Memref sig .tc .vmem S256x1024 .f32 := Memref.whole cc0_scratch1
abbrev scM0_2 : Memref sig .tc .vmem S256x1024 .f32 := Memref.whole cc0_scratch2
abbrev scM0_3 : Memref sig .tc .vmem S8x1024 .f32 := Memref.whole cc0_scratch3
abbrev scM0_4 : Memref sig .tc .vmem S8x1024 .f32 := Memref.whole cc0_scratch4

/-- What surrounds the windows: the five scratch buffers and the generator's register, at any contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Lru

end
-- ==== Proof.LruLoops.lean ====
module

public import proofs.«01_k».proof.Proof.LruKit
public import Idealize.ShloMosaic.Lib.Pipeline.Value
public import Idealize.ShloMosaic.Lib.ValueIdxCore

@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The eight rows of the left half that trip `k` of the scan visits. -/
abbrev rect1 (k : Fin k0_t1_loop.trips) : Rect S256x1024 := Rect.unit (k0_off1 k) S8x512.size (k0_off1_inb k)

/-- What trip `k` of the scan over the left half hands on: the weighted running gradient at its first row. -/
def next1 (v25 : IVec S8x512 32) (A D : Vec F S256x1024 .f32) (k : Fin k0_t1_loop.trips) (acc : Vec F S8x512 .f32) : Vec F S8x512 .f32 :=
  k0_pay38 acc (k0_pay8 v25 (View.ld A (rect1 k))) (k0_pay10 v25 (View.ld A (rect1 k)) (View.ld D (rect1 k)))
    (k0_pay11 v25 (View.ld A (rect1 k)))

/-- What trip `k` of the scan over the left half stores. -/
def store1 (v25 : IVec S8x512 32) (A D : Vec F S256x1024 .f32) (k : Fin k0_t1_loop.trips) (acc : Vec F S8x512 .f32) : Vec F S8x512 .f32 :=
  k0_pay37 acc (View.ld D (rect1 k)) (k0_pay8 v25 (View.ld A (rect1 k)))
    (k0_pay10 v25 (View.ld A (rect1 k)) (View.ld D (rect1 k))) (k0_pay11 v25 (View.ld A (rect1 k)))

/-- The scan over the left half before trip `n`: the carried value and the blocks stored so far, the latest first. -/
def scan1 (v25 : IVec S8x512 32) (A D : Vec F S256x1024 .f32) (init : Vec F S8x512 .f32) : ℕ → Vec F S8x512 .f32 × List (View.Piece (Elt F) S256x1024 .f32)
  | 0 => (init, [])
  | k + 1 =>
    if h : k < k0_t1_loop.trips then
      (next1 v25 A D ⟨k, h⟩ (scan1 v25 A D init k).1,
        ⟨rect1 ⟨k, h⟩, store1 v25 A D ⟨k, h⟩ (scan1 v25 A D init k).1⟩ :: (scan1 v25 A D init k).2)
    else scan1 v25 A D init k

set_option maxHeartbeats 1000000 in
theorem trip1_eq (c : Dev nD) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x1024 .f32) (harg4 : arg4.IsWhole)
    (arg5 : Memref sig .tc .vmem S256x1024 .f32) (harg5 : arg5.IsWhole) (arg6 : Memref sig .tc .vmem S256x1024 .f32) (harg6 : arg6.IsWhole)
    (arg7 : Memref sig .tc .vmem S8x1024 .f32) (harg7 : arg7.IsWhole) (arg8 : Memref sig .tc .vmem S4x1024 .f32) (harg8 : arg8.IsWhole)
    (arg9 : Memref sig .tc .vmem S8x128x128 .bf16) (harg9 : arg9.IsWhole) (arg10 : Memref sig .tc .vmem S8x128x128 .bf16) (harg10 : arg10.IsWhole)
    (arg11 : Memref sig .tc .vmem S1x1024 .f32) (harg11 : arg11.IsWhole) (arg12 : Memref sig .tc .vmem S1x1024 .f32) (harg12 : arg12.IsWhole)
    (arg13 : Memref sig .tc .vmem S256x1024 .f32) (harg13 : arg13.IsWhole) (arg14 : Memref sig .tc .vmem S256x1024 .bf16) (harg14 : arg14.IsWhole)
    (arg15 : Memref sig .tc .vmem S256x1024 .bf16) (harg15 : arg15.IsWhole) (arg16 : Memref sig .tc .vmem S8x1024 .f32) (harg16 : arg16.IsWhole)
    (arg17 : Memref sig .tc .vmem S256x1024 .f32) (harg17 : arg17.IsWhole) (arg18 : Memref sig .tc .vmem S256x1024 .f32) (harg18 : arg18.IsWhole)
    (arg19 : Memref sig .tc .vmem S256x1024 .f32) (harg19 : arg19.IsWhole) (arg20 : Memref sig .tc .vmem S8x1024 .f32) (harg20 : arg20.IsWhole)
    (arg21 : Memref sig .tc .vmem S8x1024 .f32) (harg21 : arg21.IsWhole)
    (v25 : IVec S8x512 32) (X1 : BufTy.Contents (Elt F) arg1.view.ty) (X17 : BufTy.Contents (Elt F) arg17.view.ty)
    (k : Fin k0_t1_loop.trips) (acc : Vec F S8x512 .f32) :
    tripR_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v25 X1 X17 k acc
      = next1 v25 (arg17.view.read (Elt F) X17) (arg1.view.read (Elt F) X1) k acc ∧
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v25 X1 X17 k acc
      = [⟨rect1 k, store1 v25 (arg17.view.read (Elt F) X17) (arg1.view.read (Elt F) X1) k acc⟩] := by
  unfold tripR_k0_t1 tripL_k0_t1 trip_k0_t1
  exact ⟨rfl, rfl⟩

set_option maxHeartbeats 1000000 in
theorem st1_eq (c : Dev nD) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x1024 .f32) (harg4 : arg4.IsWhole)
    (arg5 : Memref sig .tc .vmem S256x1024 .f32) (harg5 : arg5.IsWhole) (arg6 : Memref sig .tc .vmem S256x1024 .f32) (harg6 : arg6.IsWhole)
    (arg7 : Memref sig .tc .vmem S8x1024 .f32) (harg7 : arg7.IsWhole) (arg8 : Memref sig .tc .vmem S4x1024 .f32) (harg8 : arg8.IsWhole)
    (arg9 : Memref sig .tc .vmem S8x128x128 .bf16) (harg9 : arg9.IsWhole) (arg10 : Memref sig .tc .vmem S8x128x128 .bf16) (harg10 : arg10.IsWhole)
    (arg11 : Memref sig .tc .vmem S1x1024 .f32) (harg11 : arg11.IsWhole) (arg12 : Memref sig .tc .vmem S1x1024 .f32) (harg12 : arg12.IsWhole)
    (arg13 : Memref sig .tc .vmem S256x1024 .f32) (harg13 : arg13.IsWhole) (arg14 : Memref sig .tc .vmem S256x1024 .bf16) (harg14 : arg14.IsWhole)
    (arg15 : Memref sig .tc .vmem S256x1024 .bf16) (harg15 : arg15.IsWhole) (arg16 : Memref sig .tc .vmem S8x1024 .f32) (harg16 : arg16.IsWhole)
    (arg17 : Memref sig .tc .vmem S256x1024 .f32) (harg17 : arg17.IsWhole) (arg18 : Memref sig .tc .vmem S256x1024 .f32) (harg18 : arg18.IsWhole)
    (arg19 : Memref sig .tc .vmem S256x1024 .f32) (harg19 : arg19.IsWhole) (arg20 : Memref sig .tc .vmem S8x1024 .f32) (harg20 : arg20.IsWhole)
    (arg21 : Memref sig .tc .vmem S8x1024 .f32) (harg21 : arg21.IsWhole)
    (v25 : IVec S8x512 32) (X1 : BufTy.Contents (Elt F) arg1.view.ty) (X17 : BufTy.Contents (Elt F) arg17.view.ty)
    (init : Vec F S8x512 .f32) (n : ℕ) (hn : n ≤ k0_t1_loop.trips) :
    st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v25 X1 X17 init n
      = scan1 v25 (arg17.view.read (Elt F) X17) (arg1.view.read (Elt F) X1) init n := by
  induction n with
  | zero => rfl
  | succ k ih =>
    have hk : k < k0_t1_loop.trips := hn
    have h := trip1_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v25 X1 X17 ⟨k, hk⟩
    rw [st_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v25 X1 X17 init ⟨k, hk⟩]
    dsimp only
    rw [ih (Nat.le_of_lt hk), (h _).1, (h _).2, scan1, dif_pos hk]
    rfl

/-- The eight rows of the right half that trip `k` of the scan visits. -/
abbrev rect2 (k : Fin k0_t2_loop.trips) : Rect S256x1024 := Rect.unit (k0_off2 k) S8x512.size (k0_off2_inb k)

/-- What trip `k` of the scan over the right half hands on: the weighted running gradient at its first row. -/
def next2 (v25 : IVec S8x512 32) (A D : Vec F S256x1024 .f32) (k : Fin k0_t2_loop.trips) (acc : Vec F S8x512 .f32) : Vec F S8x512 .f32 :=
  k0_pay42 acc (k0_pay15 v25 (View.ld A (rect2 k))) (k0_pay17 v25 (View.ld A (rect2 k)) (View.ld D (rect2 k)))
    (k0_pay18 v25 (View.ld A (rect2 k)))

/-- What trip `k` of the scan over the right half stores. -/
def store2 (v25 : IVec S8x512 32) (A D : Vec F S256x1024 .f32) (k : Fin k0_t2_loop.trips) (acc : Vec F S8x512 .f32) : Vec F S8x512 .f32 :=
  k0_pay41 v25 acc (View.ld D (rect2 k)) (k0_pay15 v25 (View.ld A (rect2 k)))
    (k0_pay17 v25 (View.ld A (rect2 k)) (View.ld D (rect2 k))) (k0_pay18 v25 (View.ld A (rect2 k)))

/-- The scan over the right half before trip `n`: the carried value and the blocks stored so far, the latest first. -/
def scan2 (v25 : IVec S8x512 32) (A D : Vec F S256x1024 .f32) (init : Vec F S8x512 .f32) : ℕ → Vec F S8x512 .f32 × List (View.Piece (Elt F) S256x1024 .f32)
  | 0 => (init, [])
  | k + 1 =>
    if h : k < k0_t2_loop.trips then
      (next2 v25 A D ⟨k, h⟩ (scan2 v25 A D init k).1,
        ⟨rect2 ⟨k, h⟩, store2 v25 A D ⟨k, h⟩ (scan2 v25 A D init k).1⟩ :: (scan2 v25 A D init k).2)
    else scan2 v25 A D init k

set_option maxHeartbeats 1000000 in
theorem trip2_eq (c : Dev nD) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x1024 .f32) (harg4 : arg4.IsWhole)
    (arg5 : Memref sig .tc .vmem S256x1024 .f32) (harg5 : arg5.IsWhole) (arg6 : Memref sig .tc .vmem S256x1024 .f32) (harg6 : arg6.IsWhole)
    (arg7 : Memref sig .tc .vmem S8x1024 .f32) (harg7 : arg7.IsWhole) (arg8 : Memref sig .tc .vmem S4x1024 .f32) (harg8 : arg8.IsWhole)
    (arg9 : Memref sig .tc .vmem S8x128x128 .bf16) (harg9 : arg9.IsWhole) (arg10 : Memref sig .tc .vmem S8x128x128 .bf16) (harg10 : arg10.IsWhole)
    (arg11 : Memref sig .tc .vmem S1x1024 .f32) (harg11 : arg11.IsWhole) (arg12 : Memref sig .tc .vmem S1x1024 .f32) (harg12 : arg12.IsWhole)
    (arg13 : Memref sig .tc .vmem S256x1024 .f32) (harg13 : arg13.IsWhole) (arg14 : Memref sig .tc .vmem S256x1024 .bf16) (harg14 : arg14.IsWhole)
    (arg15 : Memref sig .tc .vmem S256x1024 .bf16) (harg15 : arg15.IsWhole) (arg16 : Memref sig .tc .vmem S8x1024 .f32) (harg16 : arg16.IsWhole)
    (arg17 : Memref sig .tc .vmem S256x1024 .f32) (harg17 : arg17.IsWhole) (arg18 : Memref sig .tc .vmem S256x1024 .f32) (harg18 : arg18.IsWhole)
    (arg19 : Memref sig .tc .vmem S256x1024 .f32) (harg19 : arg19.IsWhole) (arg20 : Memref sig .tc .vmem S8x1024 .f32) (harg20 : arg20.IsWhole)
    (arg21 : Memref sig .tc .vmem S8x1024 .f32) (harg21 : arg21.IsWhole)
    (v4 : FVec F S1x1024 .f32) (v6 v8 v10 v15 v21 : FVec F S256x1024 .f32) (v25 : IVec S8x512 32) (X1 : BufTy.Contents (Elt F) arg1.view.ty) (X17 : BufTy.Contents (Elt F) arg17.view.ty)
    (k : Fin k0_t2_loop.trips) (acc : Vec F S8x512 .f32) :
    tripR_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v6 v8 v10 v15 v21 v25 X1 X17 k acc
      = next2 v25 (arg17.view.read (Elt F) X17) (arg1.view.read (Elt F) X1) k acc ∧
    tripL_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v6 v8 v10 v15 v21 v25 X1 X17 k acc
      = [⟨rect2 k, store2 v25 (arg17.view.read (Elt F) X17) (arg1.view.read (Elt F) X1) k acc⟩] := by
  unfold tripR_k0_t2 tripL_k0_t2 trip_k0_t2
  exact ⟨rfl, rfl⟩

set_option maxHeartbeats 1000000 in
theorem st2_eq (c : Dev nD) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x1024 .f32) (harg4 : arg4.IsWhole)
    (arg5 : Memref sig .tc .vmem S256x1024 .f32) (harg5 : arg5.IsWhole) (arg6 : Memref sig .tc .vmem S256x1024 .f32) (harg6 : arg6.IsWhole)
    (arg7 : Memref sig .tc .vmem S8x1024 .f32) (harg7 : arg7.IsWhole) (arg8 : Memref sig .tc .vmem S4x1024 .f32) (harg8 : arg8.IsWhole)
    (arg9 : Memref sig .tc .vmem S8x128x128 .bf16) (harg9 : arg9.IsWhole) (arg10 : Memref sig .tc .vmem S8x128x128 .bf16) (harg10 : arg10.IsWhole)
    (arg11 : Memref sig .tc .vmem S1x1024 .f32) (harg11 : arg11.IsWhole) (arg12 : Memref sig .tc .vmem S1x1024 .f32) (harg12 : arg12.IsWhole)
    (arg13 : Memref sig .tc .vmem S256x1024 .f32) (harg13 : arg13.IsWhole) (arg14 : Memref sig .tc .vmem S256x1024 .bf16) (harg14 : arg14.IsWhole)
    (arg15 : Memref sig .tc .vmem S256x1024 .bf16) (harg15 : arg15.IsWhole) (arg16 : Memref sig .tc .vmem S8x1024 .f32) (harg16 : arg16.IsWhole)
    (arg17 : Memref sig .tc .vmem S256x1024 .f32) (harg17 : arg17.IsWhole) (arg18 : Memref sig .tc .vmem S256x1024 .f32) (harg18 : arg18.IsWhole)
    (arg19 : Memref sig .tc .vmem S256x1024 .f32) (harg19 : arg19.IsWhole) (arg20 : Memref sig .tc .vmem S8x1024 .f32) (harg20 : arg20.IsWhole)
    (arg21 : Memref sig .tc .vmem S8x1024 .f32) (harg21 : arg21.IsWhole)
    (v4 : FVec F S1x1024 .f32) (v6 v8 v10 v15 v21 : FVec F S256x1024 .f32) (v25 : IVec S8x512 32) (X1 : BufTy.Contents (Elt F) arg1.view.ty) (X17 : BufTy.Contents (Elt F) arg17.view.ty)
    (init : Vec F S8x512 .f32) (n : ℕ) (hn : n ≤ k0_t2_loop.trips) :
    st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v6 v8 v10 v15 v21 v25 X1 X17 init n
      = scan2 v25 (arg17.view.read (Elt F) X17) (arg1.view.read (Elt F) X1) init n := by
  induction n with
  | zero => rfl
  | succ k ih =>
    have hk : k < k0_t2_loop.trips := hn
    have h := trip2_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v6 v8 v10 v15 v21 v25 X1 X17 ⟨k, hk⟩
    rw [st_k0_t2_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v6 v8 v10 v15 v21 v25 X1 X17 init ⟨k, hk⟩]
    dsimp only
    rw [ih (Nat.le_of_lt hk), (h _).1, (h _).2, scan2, dif_pos hk]
    rfl

/-- The eight rows that trip `k` of the convolution's loop visits. -/
abbrev rect3 (k : Fin k0_t3_loop.trips) : Rect S256x1024 := Rect.unit (k0_off3 k) S8x1024.size (k0_off3_inb k)
/-- The eight rows after them. -/
abbrev rect4 (k : Fin k0_t3_loop.trips) : Rect S256x1024 := Rect.unit (k0_off4 k) S8x1024.size (k0_off4_inb k)
/-- The eight rows before them. -/
abbrev rect5 (k : Fin k0_t3_loop.trips) : Rect S256x1024 := Rect.unit (k0_off5 k) S8x1024.size (k0_off5_inb k)

/-- The eight rows of the convolution's input before the ones trip `k` visits: the halo at the first trip, itself
    zero in the first tile of the sequence. -/
def before3 (arg0 : BitVec 32) (U : Vec F S256x1024 .f32) (halo : Vec F S8x1024 .f32) (k : Fin k0_t3_loop.trips) : FVec F S8x1024 .f32 :=
  k0_pay20 (k0_pay65 arg0 halo) 0#32 1#32 k (View.ld U (rect5 k))

/-- The eight rows of the gradient after the ones trip `k` visits: the next tile's first rows at the last trip. -/
def after3 (Xd : Vec F S256x1024 .f32) (nxt : Vec F S8x1024 .f32) (k : Fin k0_t3_loop.trips) : Vec F S8x1024 .f32 :=
  k0_pay19 nxt 0#32 1#32 k (View.ld Xd (rect4 k))

/-- The four partial sums of the convolution's weight gradient after trip `k`. -/
def next3 (arg0 : BitVec 32) (U Xd : Vec F S256x1024 .f32) (v173 : IVec S8x1024 32) (w0 w1 w2 w3 : Vec F S1x1024 .f32) (halo nxt : Vec F S8x1024 .f32) (k : Fin k0_t3_loop.trips) (acc : FVec F S8x1024 .f32 × FVec F S8x1024 .f32 × FVec F S8x1024 .f32 × FVec F S8x1024 .f32) : FVec F S8x1024 .f32 × FVec F S8x1024 .f32 × FVec F S8x1024 .f32 × FVec F S8x1024 .f32 :=
  (k0_pay69 acc.1 (View.ld Xd (rect3 k)) (View.ld U (rect3 k)) (before3 arg0 U halo k),
    k0_pay67 acc.2.1 (View.ld Xd (rect3 k)) (View.ld U (rect3 k)) (before3 arg0 U halo k),
    k0_pay23 v173 (k0_pay65 arg0 halo) 0#32 1#32 k acc.2.2.1 (View.ld Xd (rect3 k)) (View.ld U (rect3 k)) (View.ld U (rect5 k)),
    k0_pay21 acc.2.2.2 (View.ld Xd (rect3 k)) (View.ld U (rect3 k)))

/-- The gradient of the convolution's input that trip `k` stores. -/
def store3 (arg0 : BitVec 32) (U Xd : Vec F S256x1024 .f32) (v173 : IVec S8x1024 32) (w0 w1 w2 w3 : Vec F S1x1024 .f32) (halo nxt : Vec F S8x1024 .f32) (k : Fin k0_t3_loop.trips) : FVec F S8x1024 .f32 :=
  k0_pay68 w0 w1 (View.ld Xd (rect3 k)) (after3 Xd nxt k)
    (k0_pay22 v173 w2 w3 nxt 0#32 1#32 k (View.ld Xd (rect3 k)) (View.ld Xd (rect4 k))) (k0_pay24 v173)

/-- The convolution's loop before trip `n`: the four partial sums and the blocks stored so far, the latest first. -/
def scan3 (arg0 : BitVec 32) (U Xd : Vec F S256x1024 .f32) (v173 : IVec S8x1024 32) (w0 w1 w2 w3 : Vec F S1x1024 .f32) (halo nxt : Vec F S8x1024 .f32) (init : FVec F S8x1024 .f32 × FVec F S8x1024 .f32 × FVec F S8x1024 .f32 × FVec F S8x1024 .f32) : ℕ → (FVec F S8x1024 .f32 × FVec F S8x1024 .f32 × FVec F S8x1024 .f32 × FVec F S8x1024 .f32) × List (View.Piece (Elt F) S256x1024 .f32)
  | 0 => (init, [])
  | k + 1 =>
    if h : k < k0_t3_loop.trips then
      (next3 arg0 U Xd v173 w0 w1 w2 w3 halo nxt ⟨k, h⟩ (scan3 arg0 U Xd v173 w0 w1 w2 w3 halo nxt init k).1,
        ⟨rect3 ⟨k, h⟩, store3 arg0 U Xd v173 w0 w1 w2 w3 halo nxt ⟨k, h⟩⟩ :: (scan3 arg0 U Xd v173 w0 w1 w2 w3 halo nxt init k).2)
    else scan3 arg0 U Xd v173 w0 w1 w2 w3 halo nxt init k

set_option maxHeartbeats 1000000 in
theorem trip3_eq (c : Dev nD) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x1024 .f32) (harg4 : arg4.IsWhole)
    (arg5 : Memref sig .tc .vmem S256x1024 .f32) (harg5 : arg5.IsWhole) (arg6 : Memref sig .tc .vmem S256x1024 .f32) (harg6 : arg6.IsWhole)
    (arg7 : Memref sig .tc .vmem S8x1024 .f32) (harg7 : arg7.IsWhole) (arg8 : Memref sig .tc .vmem S4x1024 .f32) (harg8 : arg8.IsWhole)
    (arg9 : Memref sig .tc .vmem S8x128x128 .bf16) (harg9 : arg9.IsWhole) (arg10 : Memref sig .tc .vmem S8x128x128 .bf16) (harg10 : arg10.IsWhole)
    (arg11 : Memref sig .tc .vmem S1x1024 .f32) (harg11 : arg11.IsWhole) (arg12 : Memref sig .tc .vmem S1x1024 .f32) (harg12 : arg12.IsWhole)
    (arg13 : Memref sig .tc .vmem S256x1024 .f32) (harg13 : arg13.IsWhole) (arg14 : Memref sig .tc .vmem S256x1024 .bf16) (harg14 : arg14.IsWhole)
    (arg15 : Memref sig .tc .vmem S256x1024 .bf16) (harg15 : arg15.IsWhole) (arg16 : Memref sig .tc .vmem S8x1024 .f32) (harg16 : arg16.IsWhole)
    (arg17 : Memref sig .tc .vmem S256x1024 .f32) (harg17 : arg17.IsWhole) (arg18 : Memref sig .tc .vmem S256x1024 .f32) (harg18 : arg18.IsWhole)
    (arg19 : Memref sig .tc .vmem S256x1024 .f32) (harg19 : arg19.IsWhole) (arg20 : Memref sig .tc .vmem S8x1024 .f32) (harg20 : arg20.IsWhole)
    (arg21 : Memref sig .tc .vmem S8x1024 .f32) (harg21 : arg21.IsWhole)
    (arg0 : BitVec 32) (v163 : FVec F S256x1024 .f32) (v173 : IVec S8x1024 32) (w0 w1 w2 w3 : Vec F S1x1024 .f32) (halo nxt : Vec F S8x1024 .f32)
    (X6 : BufTy.Contents (Elt F) arg6.view.ty) (X19 : BufTy.Contents (Elt F) arg19.view.ty)
    (k : Fin k0_t3_loop.trips) (acc : FVec F S8x1024 .f32 × FVec F S8x1024 .f32 × FVec F S8x1024 .f32 × FVec F S8x1024 .f32) :
    tripR_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v163 v173 w0 w1 w2 w3 halo nxt X6 X19 k acc = next3 arg0 (arg6.view.read (Elt F) X6) (arg19.view.read (Elt F) X19) v173 w0 w1 w2 w3 halo nxt k acc ∧
    tripL_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v163 v173 w0 w1 w2 w3 halo nxt X6 X19 k acc = [⟨rect3 k, store3 arg0 (arg6.view.read (Elt F) X6) (arg19.view.read (Elt F) X19) v173 w0 w1 w2 w3 halo nxt k⟩] := by
  unfold tripR_k0_t3 tripL_k0_t3 trip_k0_t3
  exact ⟨rfl, rfl⟩

set_option maxHeartbeats 1000000 in
theorem st3_eq (c : Dev nD) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x1024 .f32) (harg4 : arg4.IsWhole)
    (arg5 : Memref sig .tc .vmem S256x1024 .f32) (harg5 : arg5.IsWhole) (arg6 : Memref sig .tc .vmem S256x1024 .f32) (harg6 : arg6.IsWhole)
    (arg7 : Memref sig .tc .vmem S8x1024 .f32) (harg7 : arg7.IsWhole) (arg8 : Memref sig .tc .vmem S4x1024 .f32) (harg8 : arg8.IsWhole)
    (arg9 : Memref sig .tc .vmem S8x128x128 .bf16) (harg9 : arg9.IsWhole) (arg10 : Memref sig .tc .vmem S8x128x128 .bf16) (harg10 : arg10.IsWhole)
    (arg11 : Memref sig .tc .vmem S1x1024 .f32) (harg11 : arg11.IsWhole) (arg12 : Memref sig .tc .vmem S1x1024 .f32) (harg12 : arg12.IsWhole)
    (arg13 : Memref sig .tc .vmem S256x1024 .f32) (harg13 : arg13.IsWhole) (arg14 : Memref sig .tc .vmem S256x1024 .bf16) (harg14 : arg14.IsWhole)
    (arg15 : Memref sig .tc .vmem S256x1024 .bf16) (harg15 : arg15.IsWhole) (arg16 : Memref sig .tc .vmem S8x1024 .f32) (harg16 : arg16.IsWhole)
    (arg17 : Memref sig .tc .vmem S256x1024 .f32) (harg17 : arg17.IsWhole) (arg18 : Memref sig .tc .vmem S256x1024 .f32) (harg18 : arg18.IsWhole)
    (arg19 : Memref sig .tc .vmem S256x1024 .f32) (harg19 : arg19.IsWhole) (arg20 : Memref sig .tc .vmem S8x1024 .f32) (harg20 : arg20.IsWhole)
    (arg21 : Memref sig .tc .vmem S8x1024 .f32) (harg21 : arg21.IsWhole)
    (arg0 : BitVec 32) (v163 : FVec F S256x1024 .f32) (v173 : IVec S8x1024 32) (w0 w1 w2 w3 : Vec F S1x1024 .f32) (halo nxt : Vec F S8x1024 .f32)
    (X6 : BufTy.Contents (Elt F) arg6.view.ty) (X19 : BufTy.Contents (Elt F) arg19.view.ty)
    (init : FVec F S8x1024 .f32 × FVec F S8x1024 .f32 × FVec F S8x1024 .f32 × FVec F S8x1024 .f32) (n : ℕ) (hn : n ≤ k0_t3_loop.trips) :
    st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v163 v173 w0 w1 w2 w3 halo nxt X6 X19 init n = scan3 arg0 (arg6.view.read (Elt F) X6) (arg19.view.read (Elt F) X19) v173 w0 w1 w2 w3 halo nxt init n := by
  induction n with
  | zero => rfl
  | succ k ih =>
    have hk : k < k0_t3_loop.trips := hn
    have h := trip3_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v163 v173 w0 w1 w2 w3 halo nxt X6 X19 ⟨k, hk⟩
    rw [st_k0_t3_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v163 v173 w0 w1 w2 w3 halo nxt X6 X19 init ⟨k, hk⟩]
    dsimp only
    rw [ih (Nat.le_of_lt hk), (h _).1, (h _).2, scan3, dif_pos hk]
    rfl

/-! ### Where the trips' rows lie, and that they cover the tile -/

theorem trips1 : k0_t1_loop.trips = 32 := by decide +kernel
theorem trips2 : k0_t2_loop.trips = 32 := by decide +kernel
theorem trips3 : k0_t3_loop.trips = 32 := by decide +kernel
theorem off1_eq : ∀ k : Fin k0_t1_loop.trips, k0_off1 k = ![8 * (31 - k.val), 0] := by decide +kernel
theorem off2_eq : ∀ k : Fin k0_t2_loop.trips, k0_off2 k = ![8 * (31 - k.val), 512] := by decide +kernel
theorem off3_eq : ∀ k : Fin k0_t3_loop.trips, k0_off3 k = ![8 * k.val, 0] := by decide +kernel
theorem off4_eq : ∀ k : Fin k0_t3_loop.trips, k0_off4 k = ![8 * min (k.val + 1) 31, 0] := by decide +kernel
theorem off5_eq : ∀ k : Fin k0_t3_loop.trips, k0_off5 k = ![8 * (k.val - 1), 0] := by decide +kernel

theorem mem_scan1 (v25 : IVec S8x512 32) (A D : Vec F S256x1024 .f32) (init : Vec F S8x512 .f32) (n : ℕ) (hn : n ≤ k0_t1_loop.trips) (p : View.Piece (Elt F) S256x1024 .f32) :
    p ∈ (scan1 v25 A D init n).2 ↔ ∃ k : Fin k0_t1_loop.trips, k.val < n ∧ p = ⟨rect1 k, store1 v25 A D k (scan1 v25 A D init k.val).1⟩ := by
  induction n with
  | zero => simp [scan1]
  | succ k ih =>
    have hk : k < k0_t1_loop.trips := hn
    rw [scan1, dif_pos hk]
    dsimp only
    rw [List.mem_cons, ih (Nat.le_of_lt hk)]
    constructor
    · rintro (rfl | ⟨j, hj, rfl⟩)
      · exact ⟨⟨k, hk⟩, Nat.lt_succ_self k, rfl⟩
      · exact ⟨j, Nat.lt_succ_of_lt hj, rfl⟩
    · rintro ⟨j, hj, rfl⟩
      rcases Nat.lt_succ_iff_lt_or_eq.mp hj with h | h
      · exact .inr ⟨j, h, rfl⟩
      · obtain rfl : j = ⟨k, hk⟩ := Fin.ext h
        exact .inl rfl

theorem mem_rect1 (k : Fin k0_t1_loop.trips) (y : S256x1024.Idx) :
    y ∈ (rect1 k).set ↔ 8 * (31 - k.val) ≤ (y 0).val ∧ (y 0).val < 8 * (31 - k.val) + 8 ∧ (y 1).val < 512 := by
  have hk : k.val < 32 := lt_of_lt_of_eq k.isLt trips1
  have hy0 : (y 0).val < 256 := (y 0).isLt
  have hy1 : (y 1).val < 1024 := (y 1).isLt
  rw [show rect1 k = Rect.unit (k0_off1 k) _ _ from rfl, Rect.mem_set_unit, Fin.forall_fin_two, off1_eq]
  simp only [Matrix.cons_val_zero, Matrix.cons_val_one, Matrix.head_cons]
  show (_ ≤ (y 0).val ∧ (y 0).val < _ + 8) ∧ (_ ≤ (y 1).val ∧ (y 1).val < _ + 512) ↔ _
  omega

theorem mem_scan2 (v25 : IVec S8x512 32) (A D : Vec F S256x1024 .f32) (init : Vec F S8x512 .f32) (n : ℕ) (hn : n ≤ k0_t2_loop.trips) (p : View.Piece (Elt F) S256x1024 .f32) :
    p ∈ (scan2 v25 A D init n).2 ↔ ∃ k : Fin k0_t2_loop.trips, k.val < n ∧ p = ⟨rect2 k, store2 v25 A D k (scan2 v25 A D init k.val).1⟩ := by
  induction n with
  | zero => simp [scan2]
  | succ k ih =>
    have hk : k < k0_t2_loop.trips := hn
    rw [scan2, dif_pos hk]
    dsimp only
    rw [List.mem_cons, ih (Nat.le_of_lt hk)]
    constructor
    · rintro (rfl | ⟨j, hj, rfl⟩)
      · exact ⟨⟨k, hk⟩, Nat.lt_succ_self k, rfl⟩
      · exact ⟨j, Nat.lt_succ_of_lt hj, rfl⟩
    · rintro ⟨j, hj, rfl⟩
      rcases Nat.lt_succ_iff_lt_or_eq.mp hj with h | h
      · exact .inr ⟨j, h, rfl⟩
      · obtain rfl : j = ⟨k, hk⟩ := Fin.ext h
        exact .inl rfl

theorem mem_rect2 (k : Fin k0_t2_loop.trips) (y : S256x1024.Idx) :
    y ∈ (rect2 k).set ↔ 8 * (31 - k.val) ≤ (y 0).val ∧ (y 0).val < 8 * (31 - k.val) + 8 ∧ 512 ≤ (y 1).val := by
  have hk : k.val < 32 := lt_of_lt_of_eq k.isLt trips2
  have hy0 : (y 0).val < 256 := (y 0).isLt
  have hy1 : (y 1).val < 1024 := (y 1).isLt
  rw [show rect2 k = Rect.unit (k0_off2 k) _ _ from rfl, Rect.mem_set_unit, Fin.forall_fin_two, off2_eq]
  simp only [Matrix.cons_val_zero, Matrix.cons_val_one, Matrix.head_cons]
  show (_ ≤ (y 0).val ∧ (y 0).val < _ + 8) ∧ (_ ≤ (y 1).val ∧ (y 1).val < _ + 512) ↔ _
  omega

theorem mem_scan3 (arg0 : BitVec 32) (U Xd : Vec F S256x1024 .f32) (v173 : IVec S8x1024 32) (w0 w1 w2 w3 : Vec F S1x1024 .f32) (halo nxt : Vec F S8x1024 .f32) (init : FVec F S8x1024 .f32 × FVec F S8x1024 .f32 × FVec F S8x1024 .f32 × FVec F S8x1024 .f32) (n : ℕ) (hn : n ≤ k0_t3_loop.trips) (p : View.Piece (Elt F) S256x1024 .f32) :
    p ∈ (scan3 arg0 U Xd v173 w0 w1 w2 w3 halo nxt init n).2 ↔ ∃ k : Fin k0_t3_loop.trips, k.val < n ∧ p = ⟨rect3 k, store3 arg0 U Xd v173 w0 w1 w2 w3 halo nxt k⟩ := by
  induction n with
  | zero => simp [scan3]
  | succ k ih =>
    have hk : k < k0_t3_loop.trips := hn
    rw [scan3, dif_pos hk]
    dsimp only
    rw [List.mem_cons, ih (Nat.le_of_lt hk)]
    constructor
    · rintro (rfl | ⟨j, hj, rfl⟩)
      · exact ⟨⟨k, hk⟩, Nat.lt_succ_self k, rfl⟩
      · exact ⟨j, Nat.lt_succ_of_lt hj, rfl⟩
    · rintro ⟨j, hj, rfl⟩
      rcases Nat.lt_succ_iff_lt_or_eq.mp hj with h | h
      · exact .inr ⟨j, h, rfl⟩
      · obtain rfl : j = ⟨k, hk⟩ := Fin.ext h
        exact .inl rfl

theorem mem_rect3 (k : Fin k0_t3_loop.trips) (y : S256x1024.Idx) :
    y ∈ (rect3 k).set ↔ 8 * k.val ≤ (y 0).val ∧ (y 0).val < 8 * k.val + 8 := by
  have hk : k.val < 32 := lt_of_lt_of_eq k.isLt trips3
  have hy0 : (y 0).val < 256 := (y 0).isLt
  have hy1 : (y 1).val < 1024 := (y 1).isLt
  rw [show rect3 k = Rect.unit (k0_off3 k) _ _ from rfl, Rect.mem_set_unit, Fin.forall_fin_two, off3_eq]
  simp only [Matrix.cons_val_zero, Matrix.cons_val_one, Matrix.head_cons]
  show (_ ≤ (y 0).val ∧ (y 0).val < _ + 8) ∧ (_ ≤ (y 1).val ∧ (y 1).val < _ + 1024) ↔ _
  omega

/-- The trip of the backward scan that visits row `y 0`. -/
def backTrip (y : S256x1024.Idx) : ℕ := 31 - (y 0).val / 8

theorem backTrip1 (y : S256x1024.Idx) : backTrip y < k0_t1_loop.trips := by rw [trips1]; unfold backTrip; omega
theorem backTrip2 (y : S256x1024.Idx) : backTrip y < k0_t2_loop.trips := by rw [trips2]; unfold backTrip; omega
theorem fwdTrip3 (y : S256x1024.Idx) : (y 0).val / 8 < k0_t3_loop.trips := by
  have hy0 : (y 0).val < 256 := (y 0).isLt
  rw [trips3]; omega

/-- An index of an 8-row block half as wide as the tile, from an index of the tile. -/
def inHalf (y : S256x1024.Idx) : S8x512.Idx :=
  ValueIdx.ix2 ⟨(y 0).val % 8, Nat.mod_lt _ (by decide)⟩ ⟨(y 1).val % 512, Nat.mod_lt _ (by decide)⟩
/-- An index of an 8-row block as wide as the tile, from an index of the tile. -/
def inRows (y : S256x1024.Idx) : S8x1024.Idx :=
  ValueIdx.ix2 ⟨(y 0).val % 8, Nat.mod_lt _ (by decide)⟩ (y 1)

theorem emb1_0 (k : Fin k0_t1_loop.trips) (x : S8x512.Idx) : (((rect1 k).emb x) 0).val = 8 * (31 - k.val) + (x 0).val := by
  show k0_off1 k 0 + 1 * (x 0).val = _
  rw [off1_eq]; simp
theorem emb1_1 (k : Fin k0_t1_loop.trips) (x : S8x512.Idx) : (((rect1 k).emb x) 1).val = 0 + (x 1).val := by
  show k0_off1 k 1 + 1 * (x 1).val = _
  rw [off1_eq]; simp
theorem inHalf_emb1 (k : Fin k0_t1_loop.trips) (x : S8x512.Idx) : inHalf ((rect1 k).emb x) = x := by
  have h0 := emb1_0 k x
  have h1 := emb1_1 k x
  have hx0 : (x 0).val < 8 := (x 0).isLt
  have hx1 : (x 1).val < 512 := (x 1).isLt
  funext a
  apply Fin.ext
  fin_cases a
  · show (((rect1 k).emb x) 0).val % 8 = (x 0).val
    omega
  · show (((rect1 k).emb x) 1).val % 512 = (x 1).val
    omega
theorem backTrip_emb1 (k : Fin k0_t1_loop.trips) (x : S8x512.Idx) : backTrip ((rect1 k).emb x) = k.val := by
  have h0 := emb1_0 k x
  have hk : k.val < 32 := lt_of_lt_of_eq k.isLt trips1
  have hx0 : (x 0).val < 8 := (x 0).isLt
  unfold backTrip
  omega

theorem emb2_0 (k : Fin k0_t2_loop.trips) (x : S8x512.Idx) : (((rect2 k).emb x) 0).val = 8 * (31 - k.val) + (x 0).val := by
  show k0_off2 k 0 + 1 * (x 0).val = _
  rw [off2_eq]; simp
theorem emb2_1 (k : Fin k0_t2_loop.trips) (x : S8x512.Idx) : (((rect2 k).emb x) 1).val = 512 + (x 1).val := by
  show k0_off2 k 1 + 1 * (x 1).val = _
  rw [off2_eq]; simp
theorem inHalf_emb2 (k : Fin k0_t2_loop.trips) (x : S8x512.Idx) : inHalf ((rect2 k).emb x) = x := by
  have h0 := emb2_0 k x
  have h1 := emb2_1 k x
  have hx0 : (x 0).val < 8 := (x 0).isLt
  have hx1 : (x 1).val < 512 := (x 1).isLt
  funext a
  apply Fin.ext
  fin_cases a
  · show (((rect2 k).emb x) 0).val % 8 = (x 0).val
    omega
  · show (((rect2 k).emb x) 1).val % 512 = (x 1).val
    omega
theorem backTrip_emb2 (k : Fin k0_t2_loop.trips) (x : S8x512.Idx) : backTrip ((rect2 k).emb x) = k.val := by
  have h0 := emb2_0 k x
  have hk : k.val < 32 := lt_of_lt_of_eq k.isLt trips2
  have hx0 : (x 0).val < 8 := (x 0).isLt
  unfold backTrip
  omega

theorem emb3_0 (k : Fin k0_t3_loop.trips) (x : S8x1024.Idx) : (((rect3 k).emb x) 0).val = 8 * k.val + (x 0).val := by
  show k0_off3 k 0 + 1 * (x 0).val = _
  rw [off3_eq]; simp
theorem emb3_1 (k : Fin k0_t3_loop.trips) (x : S8x1024.Idx) : (((rect3 k).emb x) 1).val = (x 1).val := by
  show k0_off3 k 1 + 1 * (x 1).val = _
  rw [off3_eq]; simp
theorem inRows_emb3 (k : Fin k0_t3_loop.trips) (x : S8x1024.Idx) : inRows ((rect3 k).emb x) = x := by
  have h0 := emb3_0 k x
  have h1 := emb3_1 k x
  have hx0 : (x 0).val < 8 := (x 0).isLt
  funext a
  apply Fin.ext
  fin_cases a
  · show (((rect3 k).emb x) 0).val % 8 = (x 0).val
    omega
  · exact h1

/-- The gradient with respect to the recurrence's states in one tile, from its decay, the incoming gradient and the two
    halves of the value handed back by the following tile. -/
def lamT (v25 : IVec S8x512 32) (A D : Vec F S256x1024 .f32) (l r : Vec F S8x512 .f32) : Vec F S256x1024 .f32 := fun y =>
  if (y 1).val < 512 then
    store1 v25 A D ⟨backTrip y, backTrip1 y⟩ (scan1 v25 A D l (backTrip y)).1 (inHalf y)
  else
    store2 v25 A D ⟨backTrip y, backTrip2 y⟩ (scan2 v25 A D r (backTrip y)).1 (inHalf y)

theorem cover12 (v25 : IVec S8x512 32) (A D : Vec F S256x1024 .f32) (l r : Vec F S8x512 .f32) (y : S256x1024.Idx) :
    ∃ p ∈ (scan2 v25 A D r 32).2 ++ (scan1 v25 A D l 32).2, y ∈ p.1.set := by
  have hy0 : (y 0).val < 256 := (y 0).isLt
  have hb : backTrip y < 32 := by unfold backTrip; omega
  by_cases h : (y 1).val < 512
  · refine ⟨_, List.mem_append_right _ ((mem_scan1 v25 A D l 32 (le_of_eq trips1.symm) _).mpr ⟨⟨backTrip y, backTrip1 y⟩, hb, rfl⟩), ?_⟩
    rw [mem_rect1]
    unfold backTrip
    dsimp only
    omega
  · refine ⟨_, List.mem_append_left _ ((mem_scan2 v25 A D r 32 (le_of_eq trips2.symm) _).mpr ⟨⟨backTrip y, backTrip2 y⟩, hb, rfl⟩), ?_⟩
    rw [mem_rect2]
    unfold backTrip
    dsimp only
    omega

theorem canon12 (v25 : IVec S8x512 32) (A D : Vec F S256x1024 .f32) (l r : Vec F S8x512 .f32) :
    View.canon ((scan2 v25 A D r 32).2 ++ (scan1 v25 A D l 32).2) = lamT v25 A D l r := by
  funext y
  refine View.canon_apply_of_pieces (lamT v25 A D l r) _ (fun p hp => ?_) y (cover12 v25 A D l r y)
  rcases List.mem_append.mp hp with hp | hp
  · obtain ⟨k, _, rfl⟩ := (mem_scan2 v25 A D r 32 (le_of_eq trips2.symm) p).mp hp
    intro x
    have h1 := emb2_1 k x
    have hb := backTrip_emb2 k x
    show store2 v25 A D k (scan2 v25 A D r k.val).1 x = lamT v25 A D l r ((rect2 k).emb x)
    unfold lamT
    rw [if_neg (by omega), inHalf_emb2]
    have : (⟨backTrip ((rect2 k).emb x), backTrip2 _⟩ : Fin k0_t2_loop.trips) = k := Fin.ext hb
    rw [this, hb]
  · obtain ⟨k, _, rfl⟩ := (mem_scan1 v25 A D l 32 (le_of_eq trips1.symm) p).mp hp
    intro x
    have h1 := emb1_1 k x
    have hx1 : (x 1).val < 512 := (x 1).isLt
    have hb := backTrip_emb1 k x
    show store1 v25 A D k (scan1 v25 A D l k.val).1 x = lamT v25 A D l r ((rect1 k).emb x)
    unfold lamT
    rw [if_pos (by omega), inHalf_emb1]
    have : (⟨backTrip ((rect1 k).emb x), backTrip1 _⟩ : Fin k0_t1_loop.trips) = k := Fin.ext hb
    rw [this, hb]

/-- The gradient of the convolution's input in one tile. -/
def duT (arg0 : BitVec 32) (U Xd : Vec F S256x1024 .f32) (v173 : IVec S8x1024 32) (w0 w1 w2 w3 : Vec F S1x1024 .f32) (halo nxt : Vec F S8x1024 .f32) : Vec F S256x1024 .f32 := fun y => store3 arg0 U Xd v173 w0 w1 w2 w3 halo nxt ⟨(y 0).val / 8, fwdTrip3 y⟩ (inRows y)

theorem cover3 (arg0 : BitVec 32) (U Xd : Vec F S256x1024 .f32) (v173 : IVec S8x1024 32) (w0 w1 w2 w3 : Vec F S1x1024 .f32) (halo nxt : Vec F S8x1024 .f32) (init : FVec F S8x1024 .f32 × FVec F S8x1024 .f32 × FVec F S8x1024 .f32 × FVec F S8x1024 .f32) (y : S256x1024.Idx) : ∃ p ∈ (scan3 arg0 U Xd v173 w0 w1 w2 w3 halo nxt init 32).2, y ∈ p.1.set := by
  have hy0 : (y 0).val < 256 := (y 0).isLt
  refine ⟨_, (mem_scan3 arg0 U Xd v173 w0 w1 w2 w3 halo nxt init 32 (le_of_eq trips3.symm) _).mpr ⟨⟨(y 0).val / 8, fwdTrip3 y⟩, by dsimp only; omega, rfl⟩, ?_⟩
  rw [mem_rect3]
  dsimp only
  omega

theorem canon3 (arg0 : BitVec 32) (U Xd : Vec F S256x1024 .f32) (v173 : IVec S8x1024 32) (w0 w1 w2 w3 : Vec F S1x1024 .f32) (halo nxt : Vec F S8x1024 .f32) (init : FVec F S8x1024 .f32 × FVec F S8x1024 .f32 × FVec F S8x1024 .f32 × FVec F S8x1024 .f32) : View.canon (scan3 arg0 U Xd v173 w0 w1 w2 w3 halo nxt init 32).2 = duT arg0 U Xd v173 w0 w1 w2 w3 halo nxt := by
  funext y
  refine View.canon_apply_of_pieces (duT arg0 U Xd v173 w0 w1 w2 w3 halo nxt) _ (fun p hp => ?_) y (cover3 arg0 U Xd v173 w0 w1 w2 w3 halo nxt init y)
  obtain ⟨k, _, rfl⟩ := (mem_scan3 arg0 U Xd v173 w0 w1 w2 w3 halo nxt init 32 (le_of_eq trips3.symm) p).mp hp
  intro x
  have h0 := emb3_0 k x
  have hx0 : (x 0).val < 8 := (x 0).isLt
  show store3 arg0 U Xd v173 w0 w1 w2 w3 halo nxt k x = duT arg0 U Xd v173 w0 w1 w2 w3 halo nxt ((rect3 k).emb x)
  unfold duT
  rw [inRows_emb3]
  have : (⟨(((rect3 k).emb x) 0).val / 8, fwdTrip3 _⟩ : Fin k0_t3_loop.trips) = k := Fin.ext (by dsimp only; omega)
  rw [this]

end Cert.KernelIdeal.Lru

end
-- ==== Proof.LruTile.lean ====
module

public import proofs.«01_k».proof.Proof.LruLoops

@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The row numbers of an 8-row block, half as wide as the tile. -/
abbrev rows512 : IVec S8x512 32 := iota .tc S8x512 32 [0] iota_S8x512_d0_w32
/-- The row numbers of an 8-row block as wide as the tile. -/
abbrev rows1024 : IVec S8x1024 32 := iota .tc S8x1024 32 [0] iota_S8x1024_d0_w32
/-- One. -/
abbrev oneF : F .f32 := Scalar.ofBits .f32 0x3F800000#32
/-- The left half of eight rows. -/
abbrev leftOf (s : Vec F S8x1024 .f32) : Vec F S8x512 .f32 := View.ld s (Rect.unit ![0, 0] S8x512.size inb_S8x1024_S8x512_0_0)
/-- The right half of eight rows. -/
abbrev rightOf (s : Vec F S8x1024 .f32) : Vec F S8x512 .f32 := View.ld s (Rect.unit ![0, 512] S8x512.size inb_S8x1024_S8x512_0_512)
/-- Block `k` of the eight diagonal blocks. -/
abbrev blk (x : Vec F S8x128x128 .bf16) (k : Fin 8) : Vec F S1x128x128 .bf16 :=
  View.ld x (Rect.unit ![k.val, 0, 0] S1x128x128.size (by
    intro a
    have := k.isLt
    fin_cases a <;> simp <;> omega))
/-- Row `k` of eight rows. -/
abbrev row8 (x : Vec F S8x1024 .f32) (k : Fin 8) : Vec F S1x1024 .f32 :=
  View.ld x (Rect.unit ![k.val, 0] S1x1024.size (by
    intro a
    have := k.isLt
    fin_cases a <;> simp <;> omega))
/-- Row `k` of four rows. -/
abbrev row4 (x : Vec F S4x1024 .f32) (k : Fin 4) : Vec F S1x1024 .f32 :=
  View.ld x (Rect.unit ![k.val, 0] S1x1024.size (by
    intro a
    have := k.isLt
    fin_cases a <;> simp <;> omega))

/-- The gradient with respect to the recurrence's states in one tile, from the value `s3` the following tile hands back. -/
def lam (x0 x2 : Vec F S256x1024 .f32) (x10 : Vec F S1x1024 .f32) (s3 : Vec F S8x1024 .f32) : Vec F S256x1024 .f32 := lamT rows512 (k0_pay35 x10 x2) x0 (leftOf s3) (rightOf s3)

/-- The value one tile hands back to the tile before it. -/
def carryT (x0 x2 : Vec F S256x1024 .f32) (x10 : Vec F S1x1024 .f32) (s3 : Vec F S8x1024 .f32) : Vec F S8x1024 .f32 :=
  View.canon [⟨Rect.unit ![0, 512] S8x512.size inb_S8x1024_S8x512_0_512, k0_pay43 (scan2 rows512 (k0_pay35 x10 x2) x0 (rightOf s3) 32).1⟩,
    ⟨Rect.unit ![0, 0] S8x512.size inb_S8x1024_S8x512_0_0, k0_pay39 (scan1 rows512 (k0_pay35 x10 x2) x0 (leftOf s3) 32).1⟩]

/-- The gradient with respect to the logarithm of the decay, times the recurrence gate. -/
def logT (x0 x1 x2 x3 x4 : Vec F S256x1024 .f32) (x10 : Vec F S1x1024 .f32) (s3 : Vec F S8x1024 .f32) : Vec F S256x1024 .f32 :=
  k0_pay48 (k0_pay28 x10) (k0_pay29 x2) (k0_pay30 x3) (k0_pay31 x1) (k0_pay33 x10 x2) (k0_pay34 x10 x2) (lam x0 x2 x10 s3) x4

/-- The gradient with respect to the input gate. -/
def gateT (x0 x1 x2 : Vec F S256x1024 .f32) (x10 : Vec F S1x1024 .f32) (s3 : Vec F S8x1024 .f32) : Vec F S256x1024 .f32 :=
  k0_pay44 (k0_pay31 x1) (k0_pay34 x10 x2) (lam x0 x2 x10 s3)

/-- The gradient with respect to the convolution's output in one tile. -/
def dxcT (x0 x1 x2 x3 x4 : Vec F S256x1024 .f32) (x8 x9 : Vec F S8x128x128 .bf16) (x10 : Vec F S1x1024 .f32) (s3 : Vec F S8x1024 .f32) : Vec F S256x1024 .f32 :=
  k0_pay63 (k0_pay62 (k0_pay54 (k0_pay30 x3) (gateT x0 x1 x2 x10 s3))
    (k0_pay60 (k0_pay45 (k0_pay30 x3) (k0_pay34 x10 x2) (lam x0 x2 x10 s3)) (k0_pay53 (k0_pay29 x2) (logT x0 x1 x2 x3 x4 x10 s3) oneF)
      (k0_pay57 (k0_pay29 x2) (logT x0 x1 x2 x3 x4 x10 s3) oneF (blk x8 0)) (k0_pay58 (k0_pay29 x2) (logT x0 x1 x2 x3 x4 x10 s3) oneF)
      (k0_pay59 (blk x8 1)) (blk x8 2) (blk x8 3) (blk x8 4) (blk x8 5) (blk x8 6) (blk x8 7))
    (k0_pay61 (k0_pay54 (k0_pay30 x3) (gateT x0 x1 x2 x10 s3)) (blk x9 0)) (blk x9 1) (blk x9 2) (blk x9 3) (blk x9 4) (blk x9 5) (blk x9 6) (blk x9 7))

/-- The gradient with respect to the recurrence gate's argument in one tile. -/
def dprT (x0 x1 x2 x3 x4 : Vec F S256x1024 .f32) (x10 : Vec F S1x1024 .f32) (s3 : Vec F S8x1024 .f32) : FVec F S256x1024 .bf16 := k0_pay55 (k0_pay29 x2) (logT x0 x1 x2 x3 x4 x10 s3) oneF
/-- The gradient with respect to the input gate's argument in one tile. -/
def dpiT (x0 x1 x2 x3 : Vec F S256x1024 .f32) (x10 : Vec F S1x1024 .f32) (s3 : Vec F S8x1024 .f32) : FVec F S256x1024 .bf16 := k0_pay56 (k0_pay30 x3) (gateT x0 x1 x2 x10 s3)

/-- The convolution's loop over one tile: the four partial sums of its weight gradient. -/
def sumsT (j : ℕ) (x5 Xd : Vec F S256x1024 .f32) (x6 : Vec F S8x1024 .f32) (x7 : Vec F S4x1024 .f32) (s4 : Vec F S8x1024 .f32) : FVec F S8x1024 .f32 × FVec F S8x1024 .f32 × FVec F S8x1024 .f32 × FVec F S8x1024 .f32 :=
  (scan3 (BitVec.ofNat 32 j) x5 Xd rows1024 (row4 x7 0) (row4 x7 1) (row4 x7 2) (row4 x7 3) x6 s4 (k0_pay66, k0_pay66, k0_pay66, k0_pay66) 32).1

/-- The gradient of the convolution's input in one tile, at grid step `j`. -/
def dubT (j : ℕ) (x5 Xd : Vec F S256x1024 .f32) (x6 : Vec F S8x1024 .f32) (x7 : Vec F S4x1024 .f32) (s4 : Vec F S8x1024 .f32) : Vec F S256x1024 .f32 := duT (BitVec.ofNat 32 j) x5 Xd rows1024 (row4 x7 0) (row4 x7 1) (row4 x7 2) (row4 x7 3) x6 s4

/-- The first eight rows of the gradient with respect to the convolution's output, handed back to the tile before. -/
def firstT (Xd : Vec F S256x1024 .f32) : Vec F S8x1024 .f32 := k0_pay4 (View.ld Xd (Rect.unit ![0, 0] S8x1024.size inb_S256x1024_S8x1024_0_0))

/-- The eight accumulated rows after a tile, from those before it. -/
def accT (x0 x1 x2 x3 x4 : Vec F S256x1024 .f32) (x8 x9 : Vec F S8x128x128 .bf16) (x10 : Vec F S1x1024 .f32) (s3 : Vec F S8x1024 .f32) (j : ℕ) (x5 : Vec F S256x1024 .f32) (x6 : Vec F S8x1024 .f32) (x7 : Vec F S4x1024 .f32) (s4 : Vec F S8x1024 .f32) (x11 : Vec F S1x1024 .f32) (x15 : Vec F S8x1024 .f32) : Vec F S8x1024 .f32 :=
  let Xd := dxcT x0 x1 x2 x3 x4 x8 x9 x10 s3
  let sums := sumsT j x5 Xd x6 x7 s4
  View.canon [
    ⟨Rect.unit ![7, 0] S1x1024.size inb_S8x1024_S1x1024_7_0, k0_pay3 sums.2.2.2 (row8 x15 7)⟩,
    ⟨Rect.unit ![6, 0] S1x1024.size inb_S8x1024_S1x1024_6_0, k0_pay2 sums.2.2.1 (row8 x15 6)⟩,
    ⟨Rect.unit ![5, 0] S1x1024.size inb_S8x1024_S1x1024_5_0, k0_pay1 sums.2.1 (row8 x15 5)⟩,
    ⟨Rect.unit ![4, 0] S1x1024.size inb_S8x1024_S1x1024_4_0, k0_pay70 sums.1 (row8 x15 4)⟩,
    ⟨Rect.unit ![3, 0] S1x1024.size inb_S8x1024_S1x1024_3_0, k0_pay64 Xd (row8 x15 3)⟩,
    ⟨Rect.unit ![2, 0] S1x1024.size inb_S8x1024_S1x1024_2_0, k0_pay52 (k0_pay30 x3) (gateT x0 x1 x2 x10 s3) (row8 x15 2)⟩,
    ⟨Rect.unit ![1, 0] S1x1024.size inb_S8x1024_S1x1024_1_0, k0_pay51 (k0_pay29 x2) (logT x0 x1 x2 x3 x4 x10 s3) oneF (row8 x15 1)⟩,
    ⟨Rect.unit ![0, 0] S1x1024.size inb_S8x1024_S1x1024_0_0,
      k0_pay47 (k0_pay29 x2) (k0_pay30 x3) (k0_pay31 x1) (k0_pay33 x10 x2) (k0_pay34 x10 x2) (lam x0 x2 x10 s3) x4 (row8 x15 0) x11⟩]

end Cert.KernelIdeal.Lru

end
-- ==== Proof.LruRead.lean ====
module

public import proofs.«01_k».proof.Proof.LruTile

@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → ℕ) = fun _ => 0 := by funext a; fin_cases a <;> rfl

/-- A load of the whole of a buffer reads its contents. -/
theorem readAt_whole {sig : RefSig} {κ : Kind} {sp : Space} {s : Shape} {e : EltTy} (m : Memref sig κ sp s e) (h : m.IsWhole)
    (x : s.Idx → Elt F e) {off : Fin s.rank → ℕ} (ho : off = fun _ => 0) (inb : ∀ a, off a + s.size a ≤ s.size a) :
    m.view.readAt (Elt F) (Rect.unit off s.size inb).toLoadRect (h.unread x) = x := by
  rw [View.readAt_eq_ld, h.read_unread, View.ld_unit_zero ho]

/-- A load of a part of a buffer reads that part of its contents. -/
theorem readAt_part {sig : RefSig} {κ : Kind} {sp : Space} {s : Shape} {e : EltTy} (m : Memref sig κ sp s e) (h : m.IsWhole)
    (x : s.Idx → Elt F e) (r : Rect s) : m.view.readAt (Elt F) r.toLoadRect (h.unread x) = View.ld x r := by
  rw [View.readAt_eq_ld, h.read_unread]

theorem coverHalves (a b : Vec F S8x512 .f32) (y : S8x1024.Idx) :
    ∃ p ∈ ([⟨Rect.unit ![0, 512] S8x512.size inb_S8x1024_S8x512_0_512, a⟩,
      ⟨Rect.unit ![0, 0] S8x512.size inb_S8x1024_S8x512_0_0, b⟩] : List (View.Piece (Elt F) S8x1024 .f32)), y ∈ p.1.set := by
  have h0 : (y 0).val < 8 := (y 0).isLt
  have h1 : (y 1).val < 1024 := (y 1).isLt
  by_cases h : (y 1).val < 512
  · refine ⟨_, List.mem_cons_of_mem _ (List.mem_singleton_self _), ?_⟩
    rw [Rect.mem_set_unit, Fin.forall_fin_two]
    show (0 ≤ (y 0).val ∧ (y 0).val < 0 + 8) ∧ (0 ≤ (y 1).val ∧ (y 1).val < 0 + 512)
    omega
  · refine ⟨_, List.mem_cons_self, ?_⟩
    rw [Rect.mem_set_unit, Fin.forall_fin_two]
    show (0 ≤ (y 0).val ∧ (y 0).val < 0 + 8) ∧ (512 ≤ (y 1).val ∧ (y 1).val < 512 + 512)
    omega

theorem coverRows (w7 w6 w5 w4 w3 w2 w1 w0 : Vec F S1x1024 .f32) (y : S8x1024.Idx) :
    ∃ p ∈ ([⟨Rect.unit ![7, 0] S1x1024.size inb_S8x1024_S1x1024_7_0, w7⟩,
      ⟨Rect.unit ![6, 0] S1x1024.size inb_S8x1024_S1x1024_6_0, w6⟩,
      ⟨Rect.unit ![5, 0] S1x1024.size inb_S8x1024_S1x1024_5_0, w5⟩,
      ⟨Rect.unit ![4, 0] S1x1024.size inb_S8x1024_S1x1024_4_0, w4⟩,
      ⟨Rect.unit ![3, 0] S1x1024.size inb_S8x1024_S1x1024_3_0, w3⟩,
      ⟨Rect.unit ![2, 0] S1x1024.size inb_S8x1024_S1x1024_2_0, w2⟩,
      ⟨Rect.unit ![1, 0] S1x1024.size inb_S8x1024_S1x1024_1_0, w1⟩,
      ⟨Rect.unit ![0, 0] S1x1024.size inb_S8x1024_S1x1024_0_0, w0⟩] : List (View.Piece (Elt F) S8x1024 .f32)), y ∈ p.1.set := by
  have h0 : (y 0).val < 8 := (y 0).isLt
  have h1 : (y 1).val < 1024 := (y 1).isLt
  have key : ∀ (k : ℕ) (inb : ∀ a, (![k, 0] : Fin 2 → ℕ) a + S1x1024.size a ≤ S8x1024.size a), (y 0).val = k →
      y ∈ (Rect.unit (s := S8x1024) ![k, 0] S1x1024.size inb).set := by
    intro k inb hk
    rw [Rect.mem_set_unit, Fin.forall_fin_two]
    show (k ≤ (y 0).val ∧ (y 0).val < k + 1) ∧ (0 ≤ (y 1).val ∧ (y 1).val < 0 + 1024)
    omega
  have h : (y 0).val = 7 ∨ (y 0).val = 6 ∨ (y 0).val = 5 ∨ (y 0).val = 4 ∨ (y 0).val = 3 ∨ (y 0).val = 2 ∨ (y 0).val = 1 ∨ (y 0).val = 0 := by omega
  rcases h with h | h | h | h | h | h | h | h
  · exact ⟨_, List.mem_cons_self, key _ inb_S8x1024_S1x1024_7_0 h⟩
  · exact ⟨_, List.mem_cons_of_mem _ (List.mem_cons_self), key _ inb_S8x1024_S1x1024_6_0 h⟩
  · exact ⟨_, List.mem_cons_of_mem _ (List.mem_cons_of_mem _ (List.mem_cons_self)), key _ inb_S8x1024_S1x1024_5_0 h⟩
  · exact ⟨_, List.mem_cons_of_mem _ (List.mem_cons_of_mem _ (List.mem_cons_of_mem _ (List.mem_cons_self))), key _ inb_S8x1024_S1x1024_4_0 h⟩
  · exact ⟨_, List.mem_cons_of_mem _ (List.mem_cons_of_mem _ (List.mem_cons_of_mem _ (List.mem_cons_of_mem _ (List.mem_cons_self)))), key _ inb_S8x1024_S1x1024_3_0 h⟩
  · exact ⟨_, List.mem_cons_of_mem _ (List.mem_cons_of_mem _ (List.mem_cons_of_mem _ (List.mem_cons_of_mem _ (List.mem_cons_of_mem _ (List.mem_cons_self))))), key _ inb_S8x1024_S1x1024_2_0 h⟩
  · exact ⟨_, List.mem_cons_of_mem _ (List.mem_cons_of_mem _ (List.mem_cons_of_mem _ (List.mem_cons_of_mem _ (List.mem_cons_of_mem _ (List.mem_cons_of_mem _ (List.mem_cons_self)))))), key _ inb_S8x1024_S1x1024_1_0 h⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), key _ inb_S8x1024_S1x1024_0_0 h⟩

/-- Past the pieces that hold an index, what lies under them does not matter. -/
theorem canon_append_covered {s : Shape} {e : EltTy} (L' : List (View.Piece (Elt F) s e)) :
    ∀ (L : List (View.Piece (Elt F) s e)) (y : s.Idx) (_ : ∃ p ∈ L, y ∈ p.1.set), View.canon (L ++ L') y = View.canon L y
  | [], _, h => by obtain ⟨p, hp, _⟩ := h; simp at hp
  | p :: L, y, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_covered L' L y ?_
      obtain ⟨q, hq, hy⟩ := h
      rcases List.mem_cons.mp hq with rfl | hq
      · exact absurd hy hm
      · exact ⟨q, hq, hy⟩

/-- A load of one row does not see a store into another row. -/
theorem row_skip {sig : RefSig} {κ : Kind} {sp : Space} (v : View sig κ sp S8x1024 .f32) {a b : ℕ} (hab : a ≠ b)
    (ia : ∀ x, (![a, 0] : Fin 2 → ℕ) x + S1x1024.size x ≤ S8x1024.size x) (ib : ∀ x, (![b, 0] : Fin 2 → ℕ) x + S1x1024.size x ≤ S8x1024.size x)
    (w : Vec F S1x1024 .f32) (L : List (View.Piece (Elt F) S8x1024 .f32)) :
    v.readCov (⟨Rect.unit ![a, 0] S1x1024.size ia, w⟩ :: L) (Rect.unit (s := S8x1024) ![b, 0] S1x1024.size ib).toLoadRect
      = v.readCov L (Rect.unit (s := S8x1024) ![b, 0] S1x1024.size ib).toLoadRect := by
  rw [View.readCov_eq_canon', View.readCov_eq_canon']
  funext j
  refine View.canon_cons_of_not_mem _ _ ?_
  rw [Rect.mem_set_unit]
  intro h
  have h0 := h 0
  have hj : (j 0).val < 1 := (j 0).isLt
  have e : (((Rect.unit (s := S8x1024) ![b, 0] S1x1024.size ib).toLoadRect.idx j) 0).val = b + 1 * (j 0).val := rfl
  change a ≤ (((Rect.unit (s := S8x1024) ![b, 0] S1x1024.size ib).toLoadRect.idx j) 0).val ∧ (((Rect.unit (s := S8x1024) ![b, 0] S1x1024.size ib).toLoadRect.idx j) 0).val < a + 1 at h0
  omega

/-- A load of the right half of eight rows does not see a store into the left half. -/
theorem half_skip {sig : RefSig} {κ : Kind} {sp : Space} (v : View sig κ sp S8x1024 .f32)
    (w : Vec F S8x512 .f32) (L : List (View.Piece (Elt F) S8x1024 .f32)) :
    v.readCov (⟨Rect.unit ![0, 0] S8x512.size inb_S8x1024_S8x512_0_0, w⟩ :: L) (Rect.unit (s := S8x1024) ![0, 512] S8x512.size inb_S8x1024_S8x512_0_512).toLoadRect
      = v.readCov L (Rect.unit (s := S8x1024) ![0, 512] S8x512.size inb_S8x1024_S8x512_0_512).toLoadRect := by
  rw [View.readCov_eq_canon', View.readCov_eq_canon']
  funext j
  refine View.canon_cons_of_not_mem _ _ ?_
  rw [Rect.mem_set_unit]
  intro h
  have h1 := h 1
  have e : (((Rect.unit (s := S8x1024) ![0, 512] S8x512.size inb_S8x1024_S8x512_0_512).toLoadRect.idx j) 1).val = 512 + 1 * (j 1).val := rfl
  change 0 ≤ (((Rect.unit (s := S8x1024) ![0, 512] S8x512.size inb_S8x1024_S8x512_0_512).toLoadRect.idx j) 1).val ∧ (((Rect.unit (s := S8x1024) ![0, 512] S8x512.size inb_S8x1024_S8x512_0_512).toLoadRect.idx j) 1).val < 0 + 512 at h1
  omega

/-- A load after one store of the whole buffer reads that part of what was stored. -/
theorem readCov_whole {sig : RefSig} {κ : Kind} {sp : Space} {s : Shape} {e : EltTy} (v : View sig κ sp s e)
    (w : s.Idx → Elt F e) {off : Fin s.rank → ℕ} (ho : off = fun _ => 0) (inb : ∀ a, off a + s.size a ≤ s.size a) (r : Rect s) :
    v.readCov [(⟨Rect.unit off s.size inb, w⟩ : View.Piece (Elt F) s e)] r.toLoadRect = View.ld w r := by
  rw [View.readCov_eq_canon', View.canon_unit_zero ho]

theorem st1_all (c : Dev nD) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x1024 .f32) (harg4 : arg4.IsWhole)
    (arg5 : Memref sig .tc .vmem S256x1024 .f32) (harg5 : arg5.IsWhole) (arg6 : Memref sig .tc .vmem S256x1024 .f32) (harg6 : arg6.IsWhole)
    (arg7 : Memref sig .tc .vmem S8x1024 .f32) (harg7 : arg7.IsWhole) (arg8 : Memref sig .tc .vmem S4x1024 .f32) (harg8 : arg8.IsWhole)
    (arg9 : Memref sig .tc .vmem S8x128x128 .bf16) (harg9 : arg9.IsWhole) (arg10 : Memref sig .tc .vmem S8x128x128 .bf16) (harg10 : arg10.IsWhole)
    (arg11 : Memref sig .tc .vmem S1x1024 .f32) (harg11 : arg11.IsWhole) (arg12 : Memref sig .tc .vmem S1x1024 .f32) (harg12 : arg12.IsWhole)
    (arg13 : Memref sig .tc .vmem S256x1024 .f32) (harg13 : arg13.IsWhole) (arg14 : Memref sig .tc .vmem S256x1024 .bf16) (harg14 : arg14.IsWhole)
    (arg15 : Memref sig .tc .vmem S256x1024 .bf16) (harg15 : arg15.IsWhole) (arg16 : Memref sig .tc .vmem S8x1024 .f32) (harg16 : arg16.IsWhole)
    (arg17 : Memref sig .tc .vmem S256x1024 .f32) (harg17 : arg17.IsWhole) (arg18 : Memref sig .tc .vmem S256x1024 .f32) (harg18 : arg18.IsWhole)
    (arg19 : Memref sig .tc .vmem S256x1024 .f32) (harg19 : arg19.IsWhole) (arg20 : Memref sig .tc .vmem S8x1024 .f32) (harg20 : arg20.IsWhole)
    (arg21 : Memref sig .tc .vmem S8x1024 .f32) (harg21 : arg21.IsWhole)
    (v25 : IVec S8x512 32) (X1 : BufTy.Contents (Elt F) arg1.view.ty) (X17 : BufTy.Contents (Elt F) arg17.view.ty)
    (init : Vec F S8x512 .f32) :
    st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v25 X1 X17 init (Scf.trips k0_t1_loop.lb k0_t1_loop.ub k0_t1_loop.st)
      = scan1 v25 (arg17.view.read (Elt F) X17) (arg1.view.read (Elt F) X1) init 32 := by
  have h := st1_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v25 X1 X17 init k0_t1_loop.trips (le_refl _)
  have e : Scf.trips k0_t1_loop.lb k0_t1_loop.ub k0_t1_loop.st = 32 := trips1
  rw [show k0_t1_loop.trips = 32 from trips1] at h
  rw [e]
  exact h

theorem st2_all (c : Dev nD) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x1024 .f32) (harg4 : arg4.IsWhole)
    (arg5 : Memref sig .tc .vmem S256x1024 .f32) (harg5 : arg5.IsWhole) (arg6 : Memref sig .tc .vmem S256x1024 .f32) (harg6 : arg6.IsWhole)
    (arg7 : Memref sig .tc .vmem S8x1024 .f32) (harg7 : arg7.IsWhole) (arg8 : Memref sig .tc .vmem S4x1024 .f32) (harg8 : arg8.IsWhole)
    (arg9 : Memref sig .tc .vmem S8x128x128 .bf16) (harg9 : arg9.IsWhole) (arg10 : Memref sig .tc .vmem S8x128x128 .bf16) (harg10 : arg10.IsWhole)
    (arg11 : Memref sig .tc .vmem S1x1024 .f32) (harg11 : arg11.IsWhole) (arg12 : Memref sig .tc .vmem S1x1024 .f32) (harg12 : arg12.IsWhole)
    (arg13 : Memref sig .tc .vmem S256x1024 .f32) (harg13 : arg13.IsWhole) (arg14 : Memref sig .tc .vmem S256x1024 .bf16) (harg14 : arg14.IsWhole)
    (arg15 : Memref sig .tc .vmem S256x1024 .bf16) (harg15 : arg15.IsWhole) (arg16 : Memref sig .tc .vmem S8x1024 .f32) (harg16 : arg16.IsWhole)
    (arg17 : Memref sig .tc .vmem S256x1024 .f32) (harg17 : arg17.IsWhole) (arg18 : Memref sig .tc .vmem S256x1024 .f32) (harg18 : arg18.IsWhole)
    (arg19 : Memref sig .tc .vmem S256x1024 .f32) (harg19 : arg19.IsWhole) (arg20 : Memref sig .tc .vmem S8x1024 .f32) (harg20 : arg20.IsWhole)
    (arg21 : Memref sig .tc .vmem S8x1024 .f32) (harg21 : arg21.IsWhole)
    (v4 : FVec F S1x1024 .f32) (v6 v8 v10 v15 v21 : FVec F S256x1024 .f32) (v25 : IVec S8x512 32) (X1 : BufTy.Contents (Elt F) arg1.view.ty) (X17 : BufTy.Contents (Elt F) arg17.view.ty)
    (init : Vec F S8x512 .f32) :
    st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v6 v8 v10 v15 v21 v25 X1 X17 init (Scf.trips k0_t2_loop.lb k0_t2_loop.ub k0_t2_loop.st)
      = scan2 v25 (arg17.view.read (Elt F) X17) (arg1.view.read (Elt F) X1) init 32 := by
  have h := st2_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v6 v8 v10 v15 v21 v25 X1 X17 init k0_t2_loop.trips (le_refl _)
  have e : Scf.trips k0_t2_loop.lb k0_t2_loop.ub k0_t2_loop.st = 32 := trips2
  rw [show k0_t2_loop.trips = 32 from trips2] at h
  rw [e]
  exact h

theorem st3_all (c : Dev nD) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x1024 .f32) (harg4 : arg4.IsWhole)
    (arg5 : Memref sig .tc .vmem S256x1024 .f32) (harg5 : arg5.IsWhole) (arg6 : Memref sig .tc .vmem S256x1024 .f32) (harg6 : arg6.IsWhole)
    (arg7 : Memref sig .tc .vmem S8x1024 .f32) (harg7 : arg7.IsWhole) (arg8 : Memref sig .tc .vmem S4x1024 .f32) (harg8 : arg8.IsWhole)
    (arg9 : Memref sig .tc .vmem S8x128x128 .bf16) (harg9 : arg9.IsWhole) (arg10 : Memref sig .tc .vmem S8x128x128 .bf16) (harg10 : arg10.IsWhole)
    (arg11 : Memref sig .tc .vmem S1x1024 .f32) (harg11 : arg11.IsWhole) (arg12 : Memref sig .tc .vmem S1x1024 .f32) (harg12 : arg12.IsWhole)
    (arg13 : Memref sig .tc .vmem S256x1024 .f32) (harg13 : arg13.IsWhole) (arg14 : Memref sig .tc .vmem S256x1024 .bf16) (harg14 : arg14.IsWhole)
    (arg15 : Memref sig .tc .vmem S256x1024 .bf16) (harg15 : arg15.IsWhole) (arg16 : Memref sig .tc .vmem S8x1024 .f32) (harg16 : arg16.IsWhole)
    (arg17 : Memref sig .tc .vmem S256x1024 .f32) (harg17 : arg17.IsWhole) (arg18 : Memref sig .tc .vmem S256x1024 .f32) (harg18 : arg18.IsWhole)
    (arg19 : Memref sig .tc .vmem S256x1024 .f32) (harg19 : arg19.IsWhole) (arg20 : Memref sig .tc .vmem S8x1024 .f32) (harg20 : arg20.IsWhole)
    (arg21 : Memref sig .tc .vmem S8x1024 .f32) (harg21 : arg21.IsWhole)
    (arg0 : BitVec 32) (v163 : FVec F S256x1024 .f32) (v173 : IVec S8x1024 32) (w0 w1 w2 w3 : Vec F S1x1024 .f32) (halo nxt : Vec F S8x1024 .f32)
    (X6 : BufTy.Contents (Elt F) arg6.view.ty) (X19 : BufTy.Contents (Elt F) arg19.view.ty) (init : FVec F S8x1024 .f32 × FVec F S8x1024 .f32 × FVec F S8x1024 .f32 × FVec F S8x1024 .f32) :
    st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v163 v173 w0 w1 w2 w3 halo nxt X6 X19 init (Scf.trips k0_t3_loop.lb k0_t3_loop.ub k0_t3_loop.st)
      = scan3 arg0 (arg6.view.read (Elt F) X6) (arg19.view.read (Elt F) X19) v173 w0 w1 w2 w3 halo nxt init 32 := by
  have h := st3_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v163 v173 w0 w1 w2 w3 halo nxt X6 X19 init k0_t3_loop.trips (le_refl _)
  have e : Scf.trips k0_t3_loop.lb k0_t3_loop.ub k0_t3_loop.st = 32 := trips3
  rw [show k0_t3_loop.trips = 32 from trips3] at h
  rw [e]
  exact h

end Cert.KernelIdeal.Lru

end
-- ==== Proof.LruRunFirst.lean ====
module

public import proofs.«01_k».proof.Proof.LruKit

@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One grid step of the gradient kernel at the first step of the grid: what every output block and scratch buffer holds
    afterwards, as a function of what all of them held before, with the proof that the body runs to that state. -/
def runFirst (c : Dev nD) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x1024 .f32) (harg4 : arg4.IsWhole)
    (arg5 : Memref sig .tc .vmem S256x1024 .f32) (harg5 : arg5.IsWhole) (arg6 : Memref sig .tc .vmem S256x1024 .f32) (harg6 : arg6.IsWhole)
    (arg7 : Memref sig .tc .vmem S8x1024 .f32) (harg7 : arg7.IsWhole) (arg8 : Memref sig .tc .vmem S4x1024 .f32) (harg8 : arg8.IsWhole)
    (arg9 : Memref sig .tc .vmem S8x128x128 .bf16) (harg9 : arg9.IsWhole) (arg10 : Memref sig .tc .vmem S8x128x128 .bf16) (harg10 : arg10.IsWhole)
    (arg11 : Memref sig .tc .vmem S1x1024 .f32) (harg11 : arg11.IsWhole) (arg12 : Memref sig .tc .vmem S1x1024 .f32) (harg12 : arg12.IsWhole)
    (arg13 : Memref sig .tc .vmem S256x1024 .f32) (harg13 : arg13.IsWhole) (arg14 : Memref sig .tc .vmem S256x1024 .bf16) (harg14 : arg14.IsWhole)
    (arg15 : Memref sig .tc .vmem S256x1024 .bf16) (harg15 : arg15.IsWhole) (arg16 : Memref sig .tc .vmem S8x1024 .f32) (harg16 : arg16.IsWhole)
    (arg17 : Memref sig .tc .vmem S256x1024 .f32) (harg17 : arg17.IsWhole) (arg18 : Memref sig .tc .vmem S256x1024 .f32) (harg18 : arg18.IsWhole)
    (arg19 : Memref sig .tc .vmem S256x1024 .f32) (harg19 : arg19.IsWhole) (arg20 : Memref sig .tc .vmem S8x1024 .f32) (harg20 : arg20.IsWhole)
    (arg21 : Memref sig .tc .vmem S8x1024 .f32) (harg21 : arg21.IsWhole)
    (hc0 : cond0_0 i)
    (x0 : Vec F S256x1024 .f32) (x1 : Vec F S256x1024 .f32) (x2 : Vec F S256x1024 .f32) (x3 : Vec F S256x1024 .f32) (x4 : Vec F S256x1024 .f32) (x5 : Vec F S256x1024 .f32) (x6 : Vec F S8x1024 .f32) (x7 : Vec F S4x1024 .f32) (x8 : Vec F S8x128x128 .bf16) (x9 : Vec F S8x128x128 .bf16) (x10 : Vec F S1x1024 .f32) (x11 : Vec F S1x1024 .f32) (d12 : Vec F S256x1024 .f32) (d13 : Vec F S256x1024 .bf16) (d14 : Vec F S256x1024 .bf16) (x15 : Vec F S8x1024 .f32) (s0 : Vec F S256x1024 .f32) (s1 : Vec F S256x1024 .f32) (s2 : Vec F S256x1024 .f32) (s3 : Vec F S8x1024 .f32) (s4 : Vec F S8x1024 .f32) :
    Σ' (o12 : Vec F S256x1024 .f32), Σ' (o13 : Vec F S256x1024 .bf16), Σ' (o14 : Vec F S256x1024 .bf16), Σ' (o15 : Vec F S8x1024 .f32), Σ' (e0 : Vec F S256x1024 .f32), Σ' (e1 : Vec F S256x1024 .f32), Σ' (e2 : Vec F S256x1024 .f32), Σ' (e3 : Vec F S8x1024 .f32), { e4 : Vec F S8x1024 .f32 //
    ∀ (E : Set ℕ) (K : PUnit → sProp 𝕄),
      iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare d12
        ∗ owns (c : Thread nD τ) arg14 fullShare d13
        ∗ owns (c : Thread nD τ) arg15 fullShare d14
        ∗ owns (c : Thread nD τ) arg16 fullShare x15
        ∗ owns (c : Thread nD τ) arg17 fullShare s0
        ∗ owns (c : Thread nD τ) arg18 fullShare s1
        ∗ owns (c : Thread nD τ) arg19 fullShare s2
        ∗ owns (c : Thread nD τ) arg20 fullShare s3
        ∗ owns (c : Thread nD τ) arg21 fullShare s4
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare o12
          ∗ owns (c : Thread nD τ) arg14 fullShare o13
          ∗ owns (c : Thread nD τ) arg15 fullShare o14
          ∗ owns (c : Thread nD τ) arg16 fullShare o15
          ∗ owns (c : Thread nD τ) arg17 fullShare e0
          ∗ owns (c : Thread nD τ) arg18 fullShare e1
          ∗ owns (c : Thread nD τ) arg19 fullShare e2
          ∗ owns (c : Thread nD τ) arg20 fullShare e3
          ∗ owns (c : Thread nD τ) arg21 fullShare e4) -∗ K ⟨⟩))
      ⊢ wp frame (wpE (defs₀ (F := F)) Variants.none c none) E (cc0_lru_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, ?_, fun E K => ?run⟩
  case run =>
    simp only [cc0_lru_bwd_eq_skeleton]; unfold cc0_lru_bwd_skel
    simp only [k0_part4_eq_skeleton, k0_part5_eq_skeleton, k0_part6_eq_skeleton, k0_part7_eq_skeleton, k0_part8_eq_skeleton, k0_part9_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21
    sl_exec (disch := first | sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    isplitl [H16]
    · iexists _; isplitr; swap; · iexact H16
      ipureintro; rfl
    isplitl [H17]
    · iexists _; isplitr; swap; · iexact H17
      ipureintro; rfl
    isplitl [H18]
    · iexists _; isplitr; swap; · iexact H18
      ipureintro; rfl
    isplitl [H19]
    · iexists _; isplitr; swap; · iexact H19
      ipureintro; rfl
    isplitl [H20]
    · iexists _; isplitr; swap; · iexact H20
      ipureintro; rfl
    iexists _; isplitr; swap; · iexact H21
    ipureintro; rfl

end Cert.KernelIdeal.Lru

end
-- ==== Proof.LruOutFirst.lean ====
module

public import proofs.«01_k».proof.Proof.LruRead
public import proofs.«01_k».proof.Proof.LruRunFirst

@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x1024 .f32) (harg4 : arg4.IsWhole)
    (arg5 : Memref sig .tc .vmem S256x1024 .f32) (harg5 : arg5.IsWhole) (arg6 : Memref sig .tc .vmem S256x1024 .f32) (harg6 : arg6.IsWhole)
    (arg7 : Memref sig .tc .vmem S8x1024 .f32) (harg7 : arg7.IsWhole) (arg8 : Memref sig .tc .vmem S4x1024 .f32) (harg8 : arg8.IsWhole)
    (arg9 : Memref sig .tc .vmem S8x128x128 .bf16) (harg9 : arg9.IsWhole) (arg10 : Memref sig .tc .vmem S8x128x128 .bf16) (harg10 : arg10.IsWhole)
    (arg11 : Memref sig .tc .vmem S1x1024 .f32) (harg11 : arg11.IsWhole) (arg12 : Memref sig .tc .vmem S1x1024 .f32) (harg12 : arg12.IsWhole)
    (arg13 : Memref sig .tc .vmem S256x1024 .f32) (harg13 : arg13.IsWhole) (arg14 : Memref sig .tc .vmem S256x1024 .bf16) (harg14 : arg14.IsWhole)
    (arg15 : Memref sig .tc .vmem S256x1024 .bf16) (harg15 : arg15.IsWhole) (arg16 : Memref sig .tc .vmem S8x1024 .f32) (harg16 : arg16.IsWhole)
    (arg17 : Memref sig .tc .vmem S256x1024 .f32) (harg17 : arg17.IsWhole) (arg18 : Memref sig .tc .vmem S256x1024 .f32) (harg18 : arg18.IsWhole)
    (arg19 : Memref sig .tc .vmem S256x1024 .f32) (harg19 : arg19.IsWhole) (arg20 : Memref sig .tc .vmem S8x1024 .f32) (harg20 : arg20.IsWhole)
    (arg21 : Memref sig .tc .vmem S8x1024 .f32) (harg21 : arg21.IsWhole)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21

section

variable (x0 : Vec F S256x1024 .f32) (x1 : Vec F S256x1024 .f32) (x2 : Vec F S256x1024 .f32) (x3 : Vec F S256x1024 .f32) (x4 : Vec F S256x1024 .f32) (x5 : Vec F S256x1024 .f32) (x6 : Vec F S8x1024 .f32) (x7 : Vec F S4x1024 .f32) (x8 : Vec F S8x128x128 .bf16) (x9 : Vec F S8x128x128 .bf16) (x10 : Vec F S1x1024 .f32) (x11 : Vec F S1x1024 .f32) (d12 : Vec F S256x1024 .f32) (d13 : Vec F S256x1024 .bf16) (d14 : Vec F S256x1024 .bf16) (x15 : Vec F S8x1024 .f32) (s0 : Vec F S256x1024 .f32) (s1 : Vec F S256x1024 .f32) (s2 : Vec F S256x1024 .f32) (s3 : Vec F S8x1024 .f32) (s4 : Vec F S8x1024 .f32)
include x0 x1 x2 x3 x4 x5 x6 x7 x8 x9 x10 x11 d12 d13 d14 x15 s0 s1 s2 s3 s4

set_option maxHeartbeats 4000000 in
theorem first_r :
    runFirst.sl.r c arg11 harg11 x10 = k0_pay28 x10 := by
  unfold runFirst.sl.r
  rw [readAt_whole _ _ _ zero2]

set_option maxHeartbeats 4000000 in
theorem first_r_1 :
    runFirst.sl.r_1 c arg3 harg3 x2 = k0_pay29 x2 := by
  unfold runFirst.sl.r_1
  rw [readAt_whole _ _ _ zero2]

set_option maxHeartbeats 4000000 in
theorem first_r_2 :
    runFirst.sl.r_2 c arg4 harg4 x3 = k0_pay30 x3 := by
  unfold runFirst.sl.r_2
  rw [readAt_whole _ _ _ zero2]

set_option maxHeartbeats 4000000 in
theorem first_r_3 :
    runFirst.sl.r_3 c arg2 harg2 x1 = k0_pay31 x1 := by
  unfold runFirst.sl.r_3
  rw [readAt_whole _ _ _ zero2]

set_option maxHeartbeats 4000000 in
theorem first_r_4 :
    runFirst.sl.r_4 c arg3 harg3 arg11 harg11 x2 x10 = k0_pay33 x10 x2 := by
  unfold runFirst.sl.r_4
  rw [readAt_whole _ harg11 _ zero2, readAt_whole _ harg3 _ zero2]

set_option maxHeartbeats 4000000 in
theorem first_r_5 :
    runFirst.sl.r_5 c arg3 harg3 arg11 harg11 x2 x10 = k0_pay34 x10 x2 := by
  unfold runFirst.sl.r_5
  rw [readAt_whole _ harg11 _ zero2, readAt_whole _ harg3 _ zero2]

set_option maxHeartbeats 4000000 in
theorem first_H17_1 :
    runFirst.sl.H17_1 c arg3 harg3 arg11 harg11 x2 x10 = [⟨Rect.unit ![0, 0] S256x1024.size inb_S256x1024_S256x1024_0_0, k0_pay35 x10 x2⟩] := by
  unfold runFirst.sl.H17_1
  rw [readAt_whole _ harg11 _ zero2, readAt_whole _ harg3 _ zero2]

set_option maxHeartbeats 4000000 in
theorem first_v26 :
    runFirst.sl.v26 c arg20 = leftOf (k0_pay25 (F := F)) := by
  unfold runFirst.sl.v26 runFirst.sl.H20_1
  rw [readCov_whole _ _ zero2]

set_option maxHeartbeats 4000000 in
theorem first_v32 :
    runFirst.sl.v32 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x10 = rightOf (k0_pay25 (F := F)) := by
  unfold runFirst.sl.v32 runFirst.sl.H20_2 runFirst.sl.H20_1
  rw [half_skip, readCov_whole _ _ zero2]

set_option maxHeartbeats 4000000 in
theorem first_v182 :
    runFirst.sl.v182 c arg21 = k0_pay26 (F := F) := by
  unfold runFirst.sl.v182 runFirst.sl.H21_1
  rw [View.readCov_unit_zero _ zero2]

set_option maxHeartbeats 4000000 in
theorem first_v56 :
    runFirst.sl.v56 c arg16 = row8 (k0_pay27 (F := F)) 0 := by
  unfold runFirst.sl.v56 runFirst.sl.H16_1
  exact readCov_whole _ _ zero2 _ _

set_option maxHeartbeats 4000000 in
theorem first_v76 :
    runFirst.sl.v76 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10 x11 s1 = row8 (k0_pay27 (F := F)) 1 := by
  unfold runFirst.sl.v76 runFirst.sl.H16_2 runFirst.sl.H16_1
  refine (row_skip _ (by decide) _ _ _ _).trans ?_
  exact readCov_whole _ _ zero2 _ _

set_option maxHeartbeats 4000000 in
theorem first_v82 :
    runFirst.sl.v82 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10 x11 s1 = row8 (k0_pay27 (F := F)) 2 := by
  unfold runFirst.sl.v82 runFirst.sl.H16_3 runFirst.sl.H16_2 runFirst.sl.H16_1
  refine (row_skip _ (by decide) _ _ _ _).trans ?_
  refine (row_skip _ (by decide) _ _ _ _).trans ?_
  exact readCov_whole _ _ zero2 _ _

set_option maxHeartbeats 4000000 in
theorem first_v167 :
    runFirst.sl.v167 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10 x11 s1 = row8 (k0_pay27 (F := F)) 3 := by
  unfold runFirst.sl.v167 runFirst.sl.H16_4 runFirst.sl.H16_3 runFirst.sl.H16_2 runFirst.sl.H16_1
  refine (row_skip _ (by decide) _ _ _ _).trans ?_
  refine (row_skip _ (by decide) _ _ _ _).trans ?_
  refine (row_skip _ (by decide) _ _ _ _).trans ?_
  exact readCov_whole _ _ zero2 _ _

set_option maxHeartbeats 4000000 in
theorem first_v186 :
    runFirst.sl.v186 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8 x9 x10 x11 s1 = row8 (k0_pay27 (F := F)) 4 := by
  unfold runFirst.sl.v186 runFirst.sl.H16_4 runFirst.sl.H16_3 runFirst.sl.H16_2 runFirst.sl.H16_1
  refine (row_skip _ (by decide) _ _ _ _).trans ?_
  refine (row_skip _ (by decide) _ _ _ _).trans ?_
  refine (row_skip _ (by decide) _ _ _ _).trans ?_
  refine (row_skip _ (by decide) _ _ _ _).trans ?_
  exact readCov_whole _ _ zero2 _ _

set_option maxHeartbeats 4000000 in
theorem first_v192 :
    runFirst.sl.v192 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 s1 = row8 (k0_pay27 (F := F)) 5 := by
  unfold runFirst.sl.v192 runFirst.sl.H16_6 runFirst.sl.H16_4 runFirst.sl.H16_3 runFirst.sl.H16_2 runFirst.sl.H16_1
  refine (row_skip _ (by decide) _ _ _ _).trans ?_
  refine (row_skip _ (by decide) _ _ _ _).trans ?_
  refine (row_skip _ (by decide) _ _ _ _).trans ?_
  refine (row_skip _ (by decide) _ _ _ _).trans ?_
  refine (row_skip _ (by decide) _ _ _ _).trans ?_
  exact readCov_whole _ _ zero2 _ _

set_option maxHeartbeats 4000000 in
theorem first_v198 :
    runFirst.sl.v198 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 s1 = row8 (k0_pay27 (F := F)) 6 := by
  unfold runFirst.sl.v198 runFirst.sl.H16_7 runFirst.sl.H16_6 runFirst.sl.H16_4 runFirst.sl.H16_3 runFirst.sl.H16_2 runFirst.sl.H16_1
  refine (row_skip _ (by decide) _ _ _ _).trans ?_
  refine (row_skip _ (by decide) _ _ _ _).trans ?_
  refine (row_skip _ (by decide) _ _ _ _).trans ?_
  refine (row_skip _ (by decide) _ _ _ _).trans ?_
  refine (row_skip _ (by decide) _ _ _ _).trans ?_
  refine (row_skip _ (by decide) _ _ _ _).trans ?_
  exact readCov_whole _ _ zero2 _ _

set_option maxHeartbeats 4000000 in
theorem first_v204 :
    runFirst.sl.v204 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 s1 = row8 (k0_pay27 (F := F)) 7 := by
  unfold runFirst.sl.v204 runFirst.sl.H16_8 runFirst.sl.H16_7 runFirst.sl.H16_6 runFirst.sl.H16_4 runFirst.sl.H16_3 runFirst.sl.H16_2 runFirst.sl.H16_1
  refine (row_skip _ (by decide) _ _ _ _).trans ?_
  refine (row_skip _ (by decide) _ _ _ _).trans ?_
  refine (row_skip _ (by decide) _ _ _ _).trans ?_
  refine (row_skip _ (by decide) _ _ _ _).trans ?_
  refine (row_skip _ (by decide) _ _ _ _).trans ?_
  refine (row_skip _ (by decide) _ _ _ _).trans ?_
  refine (row_skip _ (by decide) _ _ _ _).trans ?_
  exact readCov_whole _ _ zero2 _ _

set_option maxHeartbeats 4000000 in
theorem first_v38 :
    runFirst.sl.v38 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x10 s1 = lam x0 x2 x10 k0_pay25 := by
  unfold runFirst.sl.v38
  rw [st1_all, st2_all, harg1.read_unread, first_H17_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, View.read_writes_junk_eq_canon, View.canon_unit_zero zero2, first_v32 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4,
    first_v26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, View.readAt_eq_ld, View.ld_unit_zero zero2, View.read_writes_eq_canon _ _ _ (cover12 _ _ _ _ _), canon12]
  rfl

set_option maxHeartbeats 4000000 in
theorem first_r_6 :
    runFirst.sl.r_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x10 s1 = gateT x0 x1 x2 x10 k0_pay25 := by
  unfold runFirst.sl.r_6
  rw [first_r_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_v38 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  all_goals rfl

set_option maxHeartbeats 4000000 in
theorem first_r_7 :
    runFirst.sl.r_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x10 s1 = k0_pay45 (k0_pay30 x3) (k0_pay34 x10 x2) (lam x0 x2 x10 k0_pay25) := by
  unfold runFirst.sl.r_7
  rw [first_r_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_v38 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  all_goals rfl

set_option maxHeartbeats 4000000 in
theorem first_r_8 :
    runFirst.sl.r_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10 s1 = logT x0 x1 x2 x3 x4 x10 k0_pay25 := by
  unfold runFirst.sl.r_8
  rw [first_r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_v38 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, readAt_whole _ harg5 _ zero2]
  all_goals rfl

set_option maxHeartbeats 4000000 in
theorem first_r_9 :
    runFirst.sl.r_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10 s1 = k0_pay53 (k0_pay29 x2) (logT x0 x1 x2 x3 x4 x10 k0_pay25) oneF := by
  unfold runFirst.sl.r_9
  rw [first_r_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  all_goals rfl

set_option maxHeartbeats 4000000 in
theorem first_r_10 :
    runFirst.sl.r_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x10 s1 = k0_pay54 (k0_pay30 x3) (gateT x0 x1 x2 x10 k0_pay25) := by
  unfold runFirst.sl.r_10
  rw [first_r_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  all_goals rfl

set_option maxHeartbeats 4000000 in
theorem first_r_11 :
    runFirst.sl.r_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8 x10 s1 = k0_pay57 (k0_pay29 x2) (logT x0 x1 x2 x3 x4 x10 k0_pay25) oneF (blk x8 0) := by
  unfold runFirst.sl.r_11
  rw [first_r_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, readAt_part arg9]
  all_goals rfl

set_option maxHeartbeats 4000000 in
theorem first_r_12 :
    runFirst.sl.r_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10 s1 = k0_pay58 (k0_pay29 x2) (logT x0 x1 x2 x3 x4 x10 k0_pay25) oneF := by
  unfold runFirst.sl.r_12
  rw [first_r_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  all_goals rfl

set_option maxHeartbeats 4000000 in
theorem first_r_13 :
    runFirst.sl.r_13 c arg9 harg9 x8 = k0_pay59 (blk x8 1) := by
  unfold runFirst.sl.r_13
  rw [readAt_part]
  rfl

set_option maxHeartbeats 4000000 in
theorem first_r_14 :
    runFirst.sl.r_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8 x10 s1 = k0_pay60 (k0_pay45 (k0_pay30 x3) (k0_pay34 x10 x2) (lam x0 x2 x10 k0_pay25)) (k0_pay53 (k0_pay29 x2) (logT x0 x1 x2 x3 x4 x10 k0_pay25) oneF) (k0_pay57 (k0_pay29 x2) (logT x0 x1 x2 x3 x4 x10 k0_pay25) oneF (blk x8 0)) (k0_pay58 (k0_pay29 x2) (logT x0 x1 x2 x3 x4 x10 k0_pay25) oneF) (k0_pay59 (blk x8 1)) (blk x8 2) (blk x8 3) (blk x8 4) (blk x8 5) (blk x8 6) (blk x8 7) := by
  unfold runFirst.sl.r_14
  rw [first_r_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  simp only [readAt_part]
  rfl

set_option maxHeartbeats 4000000 in
theorem first_r_15 :
    runFirst.sl.r_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x9 x10 s1 = k0_pay61 (k0_pay54 (k0_pay30 x3) (gateT x0 x1 x2 x10 k0_pay25)) (blk x9 0) := by
  unfold runFirst.sl.r_15
  rw [first_r_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, readAt_part]
  all_goals rfl

set_option maxHeartbeats 4000000 in
theorem first_H19_1 :
    runFirst.sl.H19_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8 x9 x10 s1 = [⟨Rect.unit ![0, 0] S256x1024.size inb_S256x1024_S256x1024_0_0, dxcT x0 x1 x2 x3 x4 x8 x9 x10 k0_pay25⟩] := by
  unfold runFirst.sl.H19_1 runFirst.sl.r_16
  rw [first_r_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  simp only [readAt_part]
  rfl

set_option maxHeartbeats 4000000 in
theorem first_r_17 :
    runFirst.sl.r_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 s1 = (sumsT (i 0).val x5 (dxcT x0 x1 x2 x3 x4 x8 x9 x10 k0_pay25) x6 x7 k0_pay26).2.1 := by
  unfold runFirst.sl.r_17
  rw [st3_all, first_H19_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, View.read_writes_junk_eq_canon, View.canon_unit_zero zero2, harg6.read_unread, readAt_whole arg7 _ _ zero2, first_v182 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  simp only [readAt_part]
  rfl

set_option maxHeartbeats 4000000 in
theorem first_r_18 :
    runFirst.sl.r_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 s1 = (sumsT (i 0).val x5 (dxcT x0 x1 x2 x3 x4 x8 x9 x10 k0_pay25) x6 x7 k0_pay26).2.2.1 := by
  unfold runFirst.sl.r_18
  rw [st3_all, first_H19_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, View.read_writes_junk_eq_canon, View.canon_unit_zero zero2, harg6.read_unread, readAt_whole arg7 _ _ zero2, first_v182 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  simp only [readAt_part]
  rfl

set_option maxHeartbeats 4000000 in
theorem first_r_19 :
    runFirst.sl.r_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 s1 = (sumsT (i 0).val x5 (dxcT x0 x1 x2 x3 x4 x8 x9 x10 k0_pay25) x6 x7 k0_pay26).2.2.2 := by
  unfold runFirst.sl.r_19
  rw [st3_all, first_H19_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, View.read_writes_junk_eq_canon, View.canon_unit_zero zero2, harg6.read_unread, readAt_whole arg7 _ _ zero2, first_v182 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  simp only [readAt_part]
  rfl

set_option maxHeartbeats 4000000 in
theorem first_r_16 :
    runFirst.sl.r_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8 x9 x10 s1 = dxcT x0 x1 x2 x3 x4 x8 x9 x10 k0_pay25 := by
  unfold runFirst.sl.r_16
  rw [first_r_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  simp only [readAt_part]
  unfold dxcT k0_pay63
  rw [shapeCast_self]
  rfl

end

section

variable (hc0 : cond0_0 i) (x0 : Vec F S256x1024 .f32) (x1 : Vec F S256x1024 .f32) (x2 : Vec F S256x1024 .f32) (x3 : Vec F S256x1024 .f32) (x4 : Vec F S256x1024 .f32) (x5 : Vec F S256x1024 .f32) (x6 : Vec F S8x1024 .f32) (x7 : Vec F S4x1024 .f32) (x8 : Vec F S8x128x128 .bf16) (x9 : Vec F S8x128x128 .bf16) (x10 : Vec F S1x1024 .f32) (x11 : Vec F S1x1024 .f32) (d12 : Vec F S256x1024 .f32) (d13 : Vec F S256x1024 .bf16) (d14 : Vec F S256x1024 .bf16) (x15 : Vec F S8x1024 .f32) (s0 : Vec F S256x1024 .f32) (s1 : Vec F S256x1024 .f32) (s2 : Vec F S256x1024 .f32) (s3 : Vec F S8x1024 .f32) (s4 : Vec F S8x1024 .f32)
include hc0 x0 x1 x2 x3 x4 x5 x6 x7 x8 x9 x10 x11 d12 d13 d14 x15 s0 s1 s2 s3 s4

set_option maxHeartbeats 4000000 in
theorem first_e3 :
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 d12 d13 d14 x15 s0 s1 s2 s3 s4).2.2.2.2.2.2.2.1 = carryT x0 x2 x10 k0_pay25 := by
  unfold runFirst
  dsimp only
  unfold runFirst.sl.H20_2 runFirst.sl.H20_1
  rw [View.read_writes_junk_eq_canon]
  refine (funext fun y => canon_append_covered _ [_, _] y (coverHalves _ _ y)).trans ?_
  rw [st1_all, st2_all, harg1.read_unread, first_H17_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, View.read_writes_junk_eq_canon, View.canon_unit_zero zero2, first_v26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_v32 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  rfl

set_option maxHeartbeats 4000000 in
theorem first_e4 :
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 d12 d13 d14 x15 s0 s1 s2 s3 s4).2.2.2.2.2.2.2.2.1 = firstT (dxcT x0 x1 x2 x3 x4 x8 x9 x10 k0_pay25) := by
  unfold runFirst
  dsimp only
  unfold runFirst.sl.v210
  rw [View.read_writes_junk_eq_canon]
  refine (funext fun y => canon_append_covered _ [_] y ⟨_, List.mem_singleton_self _, View.mem_set_unit_zero zero2 inb_S8x1024_S8x1024_0_0 y⟩).trans ?_
  rw [first_H19_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, View.readCov_eq_canon', View.canon_unit_zero zero2, View.canon_unit_zero zero2]
  rfl

set_option maxHeartbeats 4000000 in
theorem first_o12 :
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 d12 d13 d14 x15 s0 s1 s2 s3 s4).1 = dubT (i 0).val x5 (dxcT x0 x1 x2 x3 x4 x8 x9 x10 k0_pay25) x6 x7 k0_pay26 := by
  unfold runFirst
  dsimp only
  rw [st3_all, first_H19_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, View.read_writes_junk_eq_canon, View.canon_unit_zero zero2, harg6.read_unread, readAt_whole arg7 _ _ zero2, first_v182 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, View.read_writes_eq_canon _ _ _ (cover3 _ _ _ _ _ _ _ _ _ _ _), canon3]
  simp only [readAt_part]
  rfl

set_option maxHeartbeats 4000000 in
theorem first_o13 :
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 d12 d13 d14 x15 s0 s1 s2 s3 s4).2.1 = dprT x0 x1 x2 x3 x4 x10 k0_pay25 := by
  unfold runFirst
  dsimp only
  unfold runFirst.sl.H14_1
  rw [View.read_writes_eq_canon _ _ _ (fun y => ⟨_, List.mem_singleton_self _, View.mem_set_unit_zero zero2 inb_S256x1024_S256x1024_0_0 y⟩), View.canon_unit_zero zero2, first_r_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  rfl

set_option maxHeartbeats 4000000 in
theorem first_o14 :
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 d12 d13 d14 x15 s0 s1 s2 s3 s4).2.2.1 = dpiT x0 x1 x2 x3 x10 k0_pay25 := by
  unfold runFirst
  dsimp only
  unfold runFirst.sl.H15_1
  rw [View.read_writes_eq_canon _ _ _ (fun y => ⟨_, List.mem_singleton_self _, View.mem_set_unit_zero zero2 inb_S256x1024_S256x1024_0_0 y⟩), View.canon_unit_zero zero2, first_r_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  rfl

set_option maxHeartbeats 4000000 in
theorem first_o15 :
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 d12 d13 d14 x15 s0 s1 s2 s3 s4).2.2.2.1 = accT x0 x1 x2 x3 x4 x8 x9 x10 k0_pay25 (i 0).val x5 x6 x7 k0_pay26 x11 k0_pay27 := by
  unfold runFirst
  dsimp only
  unfold runFirst.sl.H16_8 runFirst.sl.H16_7 runFirst.sl.H16_6 runFirst.sl.H16_4 runFirst.sl.H16_3 runFirst.sl.H16_2 runFirst.sl.H16_1
  rw [View.read_writes_junk_eq_canon]
  refine (funext fun y => canon_append_covered _ [_, _, _, _, _, _, _, _] y (coverRows _ _ _ _ _ _ _ _ y)).trans ?_
  rw [first_r_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_r_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_v38 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  rw [st3_all, first_H19_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, View.read_writes_junk_eq_canon, View.canon_unit_zero zero2, harg6.read_unread, readAt_whole arg7 _ _ zero2, first_v182 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, readAt_whole arg12 _ _ zero2, readAt_whole arg5 _ _ zero2]
  rw [first_v56 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_v76 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_v82 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_v167 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_v186 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_v192 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_v198 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, first_v204 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  simp only [readAt_part]
  rfl

end

end Cert.KernelIdeal.Lru

end
-- ==== Proof.LruRunLater.lean ====
module

public import proofs.«01_k».proof.Proof.LruRunFirst

@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One grid step of the gradient kernel at a later step of the grid: what every output block and scratch buffer holds
    afterwards, as a function of what all of them held before, with the proof that the body runs to that state. -/
def runLater (c : Dev nD) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x1024 .f32) (harg4 : arg4.IsWhole)
    (arg5 : Memref sig .tc .vmem S256x1024 .f32) (harg5 : arg5.IsWhole) (arg6 : Memref sig .tc .vmem S256x1024 .f32) (harg6 : arg6.IsWhole)
    (arg7 : Memref sig .tc .vmem S8x1024 .f32) (harg7 : arg7.IsWhole) (arg8 : Memref sig .tc .vmem S4x1024 .f32) (harg8 : arg8.IsWhole)
    (arg9 : Memref sig .tc .vmem S8x128x128 .bf16) (harg9 : arg9.IsWhole) (arg10 : Memref sig .tc .vmem S8x128x128 .bf16) (harg10 : arg10.IsWhole)
    (arg11 : Memref sig .tc .vmem S1x1024 .f32) (harg11 : arg11.IsWhole) (arg12 : Memref sig .tc .vmem S1x1024 .f32) (harg12 : arg12.IsWhole)
    (arg13 : Memref sig .tc .vmem S256x1024 .f32) (harg13 : arg13.IsWhole) (arg14 : Memref sig .tc .vmem S256x1024 .bf16) (harg14 : arg14.IsWhole)
    (arg15 : Memref sig .tc .vmem S256x1024 .bf16) (harg15 : arg15.IsWhole) (arg16 : Memref sig .tc .vmem S8x1024 .f32) (harg16 : arg16.IsWhole)
    (arg17 : Memref sig .tc .vmem S256x1024 .f32) (harg17 : arg17.IsWhole) (arg18 : Memref sig .tc .vmem S256x1024 .f32) (harg18 : arg18.IsWhole)
    (arg19 : Memref sig .tc .vmem S256x1024 .f32) (harg19 : arg19.IsWhole) (arg20 : Memref sig .tc .vmem S8x1024 .f32) (harg20 : arg20.IsWhole)
    (arg21 : Memref sig .tc .vmem S8x1024 .f32) (harg21 : arg21.IsWhole)
    (hc0 : ¬cond0_0 i)
    (x0 : Vec F S256x1024 .f32) (x1 : Vec F S256x1024 .f32) (x2 : Vec F S256x1024 .f32) (x3 : Vec F S256x1024 .f32) (x4 : Vec F S256x1024 .f32) (x5 : Vec F S256x1024 .f32) (x6 : Vec F S8x1024 .f32) (x7 : Vec F S4x1024 .f32) (x8 : Vec F S8x128x128 .bf16) (x9 : Vec F S8x128x128 .bf16) (x10 : Vec F S1x1024 .f32) (x11 : Vec F S1x1024 .f32) (d12 : Vec F S256x1024 .f32) (d13 : Vec F S256x1024 .bf16) (d14 : Vec F S256x1024 .bf16) (x15 : Vec F S8x1024 .f32) (s0 : Vec F S256x1024 .f32) (s1 : Vec F S256x1024 .f32) (s2 : Vec F S256x1024 .f32) (s3 : Vec F S8x1024 .f32) (s4 : Vec F S8x1024 .f32) :
    Σ' (o12 : Vec F S256x1024 .f32), Σ' (o13 : Vec F S256x1024 .bf16), Σ' (o14 : Vec F S256x1024 .bf16), Σ' (o15 : Vec F S8x1024 .f32), Σ' (e0 : Vec F S256x1024 .f32), Σ' (e1 : Vec F S256x1024 .f32), Σ' (e2 : Vec F S256x1024 .f32), Σ' (e3 : Vec F S8x1024 .f32), { e4 : Vec F S8x1024 .f32 //
    ∀ (E : Set ℕ) (K : PUnit → sProp 𝕄),
      iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare d12
        ∗ owns (c : Thread nD τ) arg14 fullShare d13
        ∗ owns (c : Thread nD τ) arg15 fullShare d14
        ∗ owns (c : Thread nD τ) arg16 fullShare x15
        ∗ owns (c : Thread nD τ) arg17 fullShare s0
        ∗ owns (c : Thread nD τ) arg18 fullShare s1
        ∗ owns (c : Thread nD τ) arg19 fullShare s2
        ∗ owns (c : Thread nD τ) arg20 fullShare s3
        ∗ owns (c : Thread nD τ) arg21 fullShare s4
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare o12
          ∗ owns (c : Thread nD τ) arg14 fullShare o13
          ∗ owns (c : Thread nD τ) arg15 fullShare o14
          ∗ owns (c : Thread nD τ) arg16 fullShare o15
          ∗ owns (c : Thread nD τ) arg17 fullShare e0
          ∗ owns (c : Thread nD τ) arg18 fullShare e1
          ∗ owns (c : Thread nD τ) arg19 fullShare e2
          ∗ owns (c : Thread nD τ) arg20 fullShare e3
          ∗ owns (c : Thread nD τ) arg21 fullShare e4) -∗ K ⟨⟩))
      ⊢ wp frame (wpE (defs₀ (F := F)) Variants.none c none) E (cc0_lru_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, ?_, fun E K => ?run⟩
  case run =>
    simp only [cc0_lru_bwd_eq_skeleton]; unfold cc0_lru_bwd_skel
    simp only [k0_part4_eq_skeleton, k0_part5_eq_skeleton, k0_part6_eq_skeleton, k0_part7_eq_skeleton, k0_part8_eq_skeleton, k0_part9_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21
    sl_exec (disch := first | sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    isplitl [H16]
    · iexists _; isplitr; swap; · iexact H16
      ipureintro; rfl
    isplitl [H17]
    · iexists _; isplitr; swap; · iexact H17
      ipureintro; rfl
    isplitl [H18]
    · iexists _; isplitr; swap; · iexact H18
      ipureintro; rfl
    isplitl [H19]
    · iexists _; isplitr; swap; · iexact H19
      ipureintro; rfl
    isplitl [H20]
    · iexists _; isplitr; swap; · iexact H20
      ipureintro; rfl
    iexists _; isplitr; swap; · iexact H21
    ipureintro; rfl

end Cert.KernelIdeal.Lru

end
-- ==== Proof.LruOutLater.lean ====
module

public import proofs.«01_k».proof.Proof.LruRead
public import proofs.«01_k».proof.Proof.LruRunLater

@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x1024 .f32) (harg4 : arg4.IsWhole)
    (arg5 : Memref sig .tc .vmem S256x1024 .f32) (harg5 : arg5.IsWhole) (arg6 : Memref sig .tc .vmem S256x1024 .f32) (harg6 : arg6.IsWhole)
    (arg7 : Memref sig .tc .vmem S8x1024 .f32) (harg7 : arg7.IsWhole) (arg8 : Memref sig .tc .vmem S4x1024 .f32) (harg8 : arg8.IsWhole)
    (arg9 : Memref sig .tc .vmem S8x128x128 .bf16) (harg9 : arg9.IsWhole) (arg10 : Memref sig .tc .vmem S8x128x128 .bf16) (harg10 : arg10.IsWhole)
    (arg11 : Memref sig .tc .vmem S1x1024 .f32) (harg11 : arg11.IsWhole) (arg12 : Memref sig .tc .vmem S1x1024 .f32) (harg12 : arg12.IsWhole)
    (arg13 : Memref sig .tc .vmem S256x1024 .f32) (harg13 : arg13.IsWhole) (arg14 : Memref sig .tc .vmem S256x1024 .bf16) (harg14 : arg14.IsWhole)
    (arg15 : Memref sig .tc .vmem S256x1024 .bf16) (harg15 : arg15.IsWhole) (arg16 : Memref sig .tc .vmem S8x1024 .f32) (harg16 : arg16.IsWhole)
    (arg17 : Memref sig .tc .vmem S256x1024 .f32) (harg17 : arg17.IsWhole) (arg18 : Memref sig .tc .vmem S256x1024 .f32) (harg18 : arg18.IsWhole)
    (arg19 : Memref sig .tc .vmem S256x1024 .f32) (harg19 : arg19.IsWhole) (arg20 : Memref sig .tc .vmem S8x1024 .f32) (harg20 : arg20.IsWhole)
    (arg21 : Memref sig .tc .vmem S8x1024 .f32) (harg21 : arg21.IsWhole)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21

section

variable (x0 : Vec F S256x1024 .f32) (x1 : Vec F S256x1024 .f32) (x2 : Vec F S256x1024 .f32) (x3 : Vec F S256x1024 .f32) (x4 : Vec F S256x1024 .f32) (x5 : Vec F S256x1024 .f32) (x6 : Vec F S8x1024 .f32) (x7 : Vec F S4x1024 .f32) (x8 : Vec F S8x128x128 .bf16) (x9 : Vec F S8x128x128 .bf16) (x10 : Vec F S1x1024 .f32) (x11 : Vec F S1x1024 .f32) (d12 : Vec F S256x1024 .f32) (d13 : Vec F S256x1024 .bf16) (d14 : Vec F S256x1024 .bf16) (x15 : Vec F S8x1024 .f32) (s0 : Vec F S256x1024 .f32) (s1 : Vec F S256x1024 .f32) (s2 : Vec F S256x1024 .f32) (s3 : Vec F S8x1024 .f32) (s4 : Vec F S8x1024 .f32)
include x0 x1 x2 x3 x4 x5 x6 x7 x8 x9 x10 x11 d12 d13 d14 x15 s0 s1 s2 s3 s4

set_option maxHeartbeats 4000000 in
theorem later_r :
    runLater.sl.r c arg11 harg11 x10 = k0_pay28 x10 := by
  unfold runLater.sl.r
  rw [readAt_whole _ _ _ zero2]

set_option maxHeartbeats 4000000 in
theorem later_r_1 :
    runLater.sl.r_1 c arg3 harg3 x2 = k0_pay29 x2 := by
  unfold runLater.sl.r_1
  rw [readAt_whole _ _ _ zero2]

set_option maxHeartbeats 4000000 in
theorem later_r_2 :
    runLater.sl.r_2 c arg4 harg4 x3 = k0_pay30 x3 := by
  unfold runLater.sl.r_2
  rw [readAt_whole _ _ _ zero2]

set_option maxHeartbeats 4000000 in
theorem later_r_3 :
    runLater.sl.r_3 c arg2 harg2 x1 = k0_pay31 x1 := by
  unfold runLater.sl.r_3
  rw [readAt_whole _ _ _ zero2]

set_option maxHeartbeats 4000000 in
theorem later_r_4 :
    runLater.sl.r_4 c arg3 harg3 arg11 harg11 x2 x10 = k0_pay33 x10 x2 := by
  unfold runLater.sl.r_4
  rw [readAt_whole _ harg11 _ zero2, readAt_whole _ harg3 _ zero2]

set_option maxHeartbeats 4000000 in
theorem later_r_5 :
    runLater.sl.r_5 c arg3 harg3 arg11 harg11 x2 x10 = k0_pay34 x10 x2 := by
  unfold runLater.sl.r_5
  rw [readAt_whole _ harg11 _ zero2, readAt_whole _ harg3 _ zero2]

set_option maxHeartbeats 4000000 in
theorem later_H17_1 :
    runLater.sl.H17_1 c arg3 harg3 arg11 harg11 x2 x10 = [⟨Rect.unit ![0, 0] S256x1024.size inb_S256x1024_S256x1024_0_0, k0_pay35 x10 x2⟩] := by
  unfold runLater.sl.H17_1
  rw [readAt_whole _ harg11 _ zero2, readAt_whole _ harg3 _ zero2]

set_option maxHeartbeats 4000000 in
theorem later_v32 :
    runLater.sl.v32 c arg20 harg20 s3 = rightOf s3 := by
  unfold runLater.sl.v32
  rw [readAt_part]

set_option maxHeartbeats 4000000 in
theorem later_v38 :
    runLater.sl.v38 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x10 s1 s3 = lam x0 x2 x10 s3 := by
  unfold runLater.sl.v38
  rw [st1_all, st2_all, harg1.read_unread, later_H17_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, View.read_writes_junk_eq_canon, View.canon_unit_zero zero2, later_v32 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4,
    readAt_part arg20, View.readAt_eq_ld, View.ld_unit_zero zero2, View.read_writes_eq_canon _ _ _ (cover12 _ _ _ _ _), canon12]
  rfl

set_option maxHeartbeats 4000000 in
theorem later_r_6 :
    runLater.sl.r_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x10 s1 s3 = gateT x0 x1 x2 x10 s3 := by
  unfold runLater.sl.r_6
  rw [later_r_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_v38 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  all_goals rfl

set_option maxHeartbeats 4000000 in
theorem later_r_7 :
    runLater.sl.r_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x10 s1 s3 = k0_pay45 (k0_pay30 x3) (k0_pay34 x10 x2) (lam x0 x2 x10 s3) := by
  unfold runLater.sl.r_7
  rw [later_r_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_v38 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  all_goals rfl

set_option maxHeartbeats 4000000 in
theorem later_r_8 :
    runLater.sl.r_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10 s1 s3 = logT x0 x1 x2 x3 x4 x10 s3 := by
  unfold runLater.sl.r_8
  rw [later_r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_v38 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, readAt_whole _ harg5 _ zero2]
  all_goals rfl

set_option maxHeartbeats 4000000 in
theorem later_r_9 :
    runLater.sl.r_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10 s1 s3 = k0_pay53 (k0_pay29 x2) (logT x0 x1 x2 x3 x4 x10 s3) oneF := by
  unfold runLater.sl.r_9
  rw [later_r_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  all_goals rfl

set_option maxHeartbeats 4000000 in
theorem later_r_10 :
    runLater.sl.r_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x10 s1 s3 = k0_pay54 (k0_pay30 x3) (gateT x0 x1 x2 x10 s3) := by
  unfold runLater.sl.r_10
  rw [later_r_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  all_goals rfl

set_option maxHeartbeats 4000000 in
theorem later_r_11 :
    runLater.sl.r_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8 x10 s1 s3 = k0_pay57 (k0_pay29 x2) (logT x0 x1 x2 x3 x4 x10 s3) oneF (blk x8 0) := by
  unfold runLater.sl.r_11
  rw [later_r_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, readAt_part arg9]
  all_goals rfl

set_option maxHeartbeats 4000000 in
theorem later_r_12 :
    runLater.sl.r_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10 s1 s3 = k0_pay58 (k0_pay29 x2) (logT x0 x1 x2 x3 x4 x10 s3) oneF := by
  unfold runLater.sl.r_12
  rw [later_r_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  all_goals rfl

set_option maxHeartbeats 4000000 in
theorem later_r_13 :
    runLater.sl.r_13 c arg9 harg9 x8 = k0_pay59 (blk x8 1) := by
  unfold runLater.sl.r_13
  rw [readAt_part]
  rfl

set_option maxHeartbeats 4000000 in
theorem later_r_14 :
    runLater.sl.r_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8 x10 s1 s3 = k0_pay60 (k0_pay45 (k0_pay30 x3) (k0_pay34 x10 x2) (lam x0 x2 x10 s3)) (k0_pay53 (k0_pay29 x2) (logT x0 x1 x2 x3 x4 x10 s3) oneF) (k0_pay57 (k0_pay29 x2) (logT x0 x1 x2 x3 x4 x10 s3) oneF (blk x8 0)) (k0_pay58 (k0_pay29 x2) (logT x0 x1 x2 x3 x4 x10 s3) oneF) (k0_pay59 (blk x8 1)) (blk x8 2) (blk x8 3) (blk x8 4) (blk x8 5) (blk x8 6) (blk x8 7) := by
  unfold runLater.sl.r_14
  rw [later_r_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  simp only [readAt_part]
  rfl

set_option maxHeartbeats 4000000 in
theorem later_r_15 :
    runLater.sl.r_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x9 x10 s1 s3 = k0_pay61 (k0_pay54 (k0_pay30 x3) (gateT x0 x1 x2 x10 s3)) (blk x9 0) := by
  unfold runLater.sl.r_15
  rw [later_r_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, readAt_part]
  all_goals rfl

set_option maxHeartbeats 4000000 in
theorem later_H19_1 :
    runLater.sl.H19_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8 x9 x10 s1 s3 = [⟨Rect.unit ![0, 0] S256x1024.size inb_S256x1024_S256x1024_0_0, dxcT x0 x1 x2 x3 x4 x8 x9 x10 s3⟩] := by
  unfold runLater.sl.H19_1 runLater.sl.r_16
  rw [later_r_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  simp only [readAt_part]
  rfl

set_option maxHeartbeats 4000000 in
theorem later_r_17 :
    runLater.sl.r_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 s1 s3 s4 = (sumsT (i 0).val x5 (dxcT x0 x1 x2 x3 x4 x8 x9 x10 s3) x6 x7 s4).2.1 := by
  unfold runLater.sl.r_17
  rw [st3_all, later_H19_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, View.read_writes_junk_eq_canon, View.canon_unit_zero zero2, harg6.read_unread, readAt_whole arg7 _ _ zero2, readAt_whole arg21 _ _ zero2]
  simp only [readAt_part]
  rfl

set_option maxHeartbeats 4000000 in
theorem later_r_18 :
    runLater.sl.r_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 s1 s3 s4 = (sumsT (i 0).val x5 (dxcT x0 x1 x2 x3 x4 x8 x9 x10 s3) x6 x7 s4).2.2.1 := by
  unfold runLater.sl.r_18
  rw [st3_all, later_H19_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, View.read_writes_junk_eq_canon, View.canon_unit_zero zero2, harg6.read_unread, readAt_whole arg7 _ _ zero2, readAt_whole arg21 _ _ zero2]
  simp only [readAt_part]
  rfl

set_option maxHeartbeats 4000000 in
theorem later_r_19 :
    runLater.sl.r_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 s1 s3 s4 = (sumsT (i 0).val x5 (dxcT x0 x1 x2 x3 x4 x8 x9 x10 s3) x6 x7 s4).2.2.2 := by
  unfold runLater.sl.r_19
  rw [st3_all, later_H19_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, View.read_writes_junk_eq_canon, View.canon_unit_zero zero2, harg6.read_unread, readAt_whole arg7 _ _ zero2, readAt_whole arg21 _ _ zero2]
  simp only [readAt_part]
  rfl

set_option maxHeartbeats 4000000 in
theorem later_r_16 :
    runLater.sl.r_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8 x9 x10 s1 s3 = dxcT x0 x1 x2 x3 x4 x8 x9 x10 s3 := by
  unfold runLater.sl.r_16
  rw [later_r_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  simp only [readAt_part]
  unfold dxcT k0_pay63
  rw [shapeCast_self]
  rfl

end

section

variable (hc0 : ¬cond0_0 i) (x0 : Vec F S256x1024 .f32) (x1 : Vec F S256x1024 .f32) (x2 : Vec F S256x1024 .f32) (x3 : Vec F S256x1024 .f32) (x4 : Vec F S256x1024 .f32) (x5 : Vec F S256x1024 .f32) (x6 : Vec F S8x1024 .f32) (x7 : Vec F S4x1024 .f32) (x8 : Vec F S8x128x128 .bf16) (x9 : Vec F S8x128x128 .bf16) (x10 : Vec F S1x1024 .f32) (x11 : Vec F S1x1024 .f32) (d12 : Vec F S256x1024 .f32) (d13 : Vec F S256x1024 .bf16) (d14 : Vec F S256x1024 .bf16) (x15 : Vec F S8x1024 .f32) (s0 : Vec F S256x1024 .f32) (s1 : Vec F S256x1024 .f32) (s2 : Vec F S256x1024 .f32) (s3 : Vec F S8x1024 .f32) (s4 : Vec F S8x1024 .f32)
include hc0 x0 x1 x2 x3 x4 x5 x6 x7 x8 x9 x10 x11 d12 d13 d14 x15 s0 s1 s2 s3 s4

set_option maxHeartbeats 4000000 in
theorem later_e3 :
    (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 d12 d13 d14 x15 s0 s1 s2 s3 s4).2.2.2.2.2.2.2.1 = carryT x0 x2 x10 s3 := by
  unfold runLater
  dsimp only
  unfold runLater.sl.H20_2
  rw [st1_all, st2_all, harg1.read_unread, later_H17_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, View.read_writes_junk_eq_canon, View.read_writes_junk_eq_canon, View.canon_unit_zero zero2, later_v32 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, readAt_part]
  rfl

set_option maxHeartbeats 4000000 in
theorem later_e4 :
    (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 d12 d13 d14 x15 s0 s1 s2 s3 s4).2.2.2.2.2.2.2.2.1 = firstT (dxcT x0 x1 x2 x3 x4 x8 x9 x10 s3) := by
  unfold runLater
  dsimp only
  unfold runLater.sl.v210
  rw [View.read_writes_eq_canon _ _ _ (fun y => ⟨_, List.mem_singleton_self _, View.mem_set_unit_zero zero2 inb_S8x1024_S8x1024_0_0 y⟩), View.canon_unit_zero zero2, later_H19_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, View.readCov_eq_canon', View.canon_unit_zero zero2]
  rfl

set_option maxHeartbeats 4000000 in
theorem later_o12 :
    (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 d12 d13 d14 x15 s0 s1 s2 s3 s4).1 = dubT (i 0).val x5 (dxcT x0 x1 x2 x3 x4 x8 x9 x10 s3) x6 x7 s4 := by
  unfold runLater
  dsimp only
  rw [st3_all, later_H19_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, View.read_writes_junk_eq_canon, View.canon_unit_zero zero2, harg6.read_unread, readAt_whole arg7 _ _ zero2, readAt_whole arg21 _ _ zero2, View.read_writes_eq_canon _ _ _ (cover3 _ _ _ _ _ _ _ _ _ _ _), canon3]
  simp only [readAt_part]
  rfl

set_option maxHeartbeats 4000000 in
theorem later_o13 :
    (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 d12 d13 d14 x15 s0 s1 s2 s3 s4).2.1 = dprT x0 x1 x2 x3 x4 x10 s3 := by
  unfold runLater
  dsimp only
  unfold runLater.sl.H14_1
  rw [View.read_writes_eq_canon _ _ _ (fun y => ⟨_, List.mem_singleton_self _, View.mem_set_unit_zero zero2 inb_S256x1024_S256x1024_0_0 y⟩), View.canon_unit_zero zero2, later_r_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  rfl

set_option maxHeartbeats 4000000 in
theorem later_o14 :
    (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 d12 d13 d14 x15 s0 s1 s2 s3 s4).2.2.1 = dpiT x0 x1 x2 x3 x10 s3 := by
  unfold runLater
  dsimp only
  unfold runLater.sl.H15_1
  rw [View.read_writes_eq_canon _ _ _ (fun y => ⟨_, List.mem_singleton_self _, View.mem_set_unit_zero zero2 inb_S256x1024_S256x1024_0_0 y⟩), View.canon_unit_zero zero2, later_r_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  rfl

set_option maxHeartbeats 4000000 in
theorem later_o15 :
    (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 d12 d13 d14 x15 s0 s1 s2 s3 s4).2.2.2.1 = accT x0 x1 x2 x3 x4 x8 x9 x10 s3 (i 0).val x5 x6 x7 s4 x11 x15 := by
  unfold runLater
  dsimp only
  rw [View.read_writes_eq_canon _ _ _ (coverRows _ _ _ _ _ _ _ _)]
  rw [later_r_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_r_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, later_v38 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4]
  rw [st3_all, later_H19_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 d12 d13 d14 x15 s0 s1 s2 s3 s4, View.read_writes_junk_eq_canon, View.canon_unit_zero zero2, harg6.read_unread, readAt_whole arg7 _ _ zero2, readAt_whole arg21 _ _ zero2, readAt_whole arg12 _ _ zero2, readAt_whole arg5 _ _ zero2]
  unfold runLater.sl.v76 runLater.sl.v82 runLater.sl.v167 runLater.sl.v186 runLater.sl.v192 runLater.sl.v198 runLater.sl.v204
  simp only [readAt_part]
  rfl

end

end Cert.KernelIdeal.Lru

end
-- ==== Proof.LruEnds.lean ====
module

public import proofs.«01_k».proof.Proof.LruOutFirst
public import proofs.«01_k».proof.Proof.LruOutLater

@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A package of nine results of which six are known is a package of the three others. -/
theorem ends_of {A B C D E0 E1 E2 E3 E4 : Type*} (P : A → B → C → D → E0 → E1 → E2 → E3 → E4 → Prop)
    (r : Σ' (a : A), Σ' (b : B), Σ' (c : C), Σ' (d : D), Σ' (e0 : E0), Σ' (e1 : E1), Σ' (e2 : E2), Σ' (e3 : E3), { e4 : E4 // P a b c d e0 e1 e2 e3 e4 })
    {a : A} {b : B} {c : C} {d : D} {e3 : E3} {e4 : E4} (ha : r.1 = a) (hb : r.2.1 = b) (hc : r.2.2.1 = c) (hd : r.2.2.2.1 = d)
    (h3 : r.2.2.2.2.2.2.2.1 = e3) (h4 : r.2.2.2.2.2.2.2.2.1 = e4) : ∃ e0 e1 e2, P a b c d e0 e1 e2 e3 e4 := by
  subst ha hb hc hd h3 h4
  exact ⟨_, _, _, r.2.2.2.2.2.2.2.2.2⟩

set_option maxHeartbeats 4000000 in
/-- The same step with its ends named by the tile functions; three scratch buffers end at some contents. -/
theorem first_ends (c : Dev nD) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x1024 .f32) (harg4 : arg4.IsWhole)
    (arg5 : Memref sig .tc .vmem S256x1024 .f32) (harg5 : arg5.IsWhole) (arg6 : Memref sig .tc .vmem S256x1024 .f32) (harg6 : arg6.IsWhole)
    (arg7 : Memref sig .tc .vmem S8x1024 .f32) (harg7 : arg7.IsWhole) (arg8 : Memref sig .tc .vmem S4x1024 .f32) (harg8 : arg8.IsWhole)
    (arg9 : Memref sig .tc .vmem S8x128x128 .bf16) (harg9 : arg9.IsWhole) (arg10 : Memref sig .tc .vmem S8x128x128 .bf16) (harg10 : arg10.IsWhole)
    (arg11 : Memref sig .tc .vmem S1x1024 .f32) (harg11 : arg11.IsWhole) (arg12 : Memref sig .tc .vmem S1x1024 .f32) (harg12 : arg12.IsWhole)
    (arg13 : Memref sig .tc .vmem S256x1024 .f32) (harg13 : arg13.IsWhole) (arg14 : Memref sig .tc .vmem S256x1024 .bf16) (harg14 : arg14.IsWhole)
    (arg15 : Memref sig .tc .vmem S256x1024 .bf16) (harg15 : arg15.IsWhole) (arg16 : Memref sig .tc .vmem S8x1024 .f32) (harg16 : arg16.IsWhole)
    (arg17 : Memref sig .tc .vmem S256x1024 .f32) (harg17 : arg17.IsWhole) (arg18 : Memref sig .tc .vmem S256x1024 .f32) (harg18 : arg18.IsWhole)
    (arg19 : Memref sig .tc .vmem S256x1024 .f32) (harg19 : arg19.IsWhole) (arg20 : Memref sig .tc .vmem S8x1024 .f32) (harg20 : arg20.IsWhole)
    (arg21 : Memref sig .tc .vmem S8x1024 .f32) (harg21 : arg21.IsWhole)
    (hc0 : cond0_0 i)
    (x0 : Vec F S256x1024 .f32) (x1 : Vec F S256x1024 .f32) (x2 : Vec F S256x1024 .f32) (x3 : Vec F S256x1024 .f32) (x4 : Vec F S256x1024 .f32) (x5 : Vec F S256x1024 .f32) (x6 : Vec F S8x1024 .f32) (x7 : Vec F S4x1024 .f32) (x8 : Vec F S8x128x128 .bf16) (x9 : Vec F S8x128x128 .bf16) (x10 : Vec F S1x1024 .f32) (x11 : Vec F S1x1024 .f32) (d12 : Vec F S256x1024 .f32) (d13 : Vec F S256x1024 .bf16) (d14 : Vec F S256x1024 .bf16) (x15 : Vec F S8x1024 .f32) (s0 : Vec F S256x1024 .f32) (s1 : Vec F S256x1024 .f32) (s2 : Vec F S256x1024 .f32) (s3 : Vec F S8x1024 .f32) (s4 : Vec F S8x1024 .f32) :
    ∃ (e0 e1 e2 : Vec F S256x1024 .f32), ∀ (E : Set ℕ) (K : PUnit → sProp 𝕄),
      iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare d12
        ∗ owns (c : Thread nD τ) arg14 fullShare d13
        ∗ owns (c : Thread nD τ) arg15 fullShare d14
        ∗ owns (c : Thread nD τ) arg16 fullShare x15
        ∗ owns (c : Thread nD τ) arg17 fullShare s0
        ∗ owns (c : Thread nD τ) arg18 fullShare s1
        ∗ owns (c : Thread nD τ) arg19 fullShare s2
        ∗ owns (c : Thread nD τ) arg20 fullShare s3
        ∗ owns (c : Thread nD τ) arg21 fullShare s4
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare (dubT (i 0).val x5 (dxcT x0 x1 x2 x3 x4 x8 x9 x10 k0_pay25) x6 x7 k0_pay26)
          ∗ owns (c : Thread nD τ) arg14 fullShare (dprT x0 x1 x2 x3 x4 x10 k0_pay25)
          ∗ owns (c : Thread nD τ) arg15 fullShare (dpiT x0 x1 x2 x3 x10 k0_pay25)
          ∗ owns (c : Thread nD τ) arg16 fullShare (accT x0 x1 x2 x3 x4 x8 x9 x10 k0_pay25 (i 0).val x5 x6 x7 k0_pay26 x11 k0_pay27)
          ∗ owns (c : Thread nD τ) arg17 fullShare e0
          ∗ owns (c : Thread nD τ) arg18 fullShare e1
          ∗ owns (c : Thread nD τ) arg19 fullShare e2
          ∗ owns (c : Thread nD τ) arg20 fullShare (carryT x0 x2 x10 k0_pay25)
          ∗ owns (c : Thread nD τ) arg21 fullShare (firstT (dxcT x0 x1 x2 x3 x4 x8 x9 x10 k0_pay25))) -∗ K ⟨⟩))
      ⊢ wp frame (wpE (defs₀ (F := F)) Variants.none c none) E (cc0_lru_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  have h := ends_of _ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 d12 d13 d14 x15 s0 s1 s2 s3 s4) (first_o12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 d12 d13 d14 x15 s0 s1 s2 s3 s4) (first_o13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 d12 d13 d14 x15 s0 s1 s2 s3 s4) (first_o14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 d12 d13 d14 x15 s0 s1 s2 s3 s4) (first_o15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 d12 d13 d14 x15 s0 s1 s2 s3 s4) (first_e3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 d12 d13 d14 x15 s0 s1 s2 s3 s4) (first_e4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 d12 d13 d14 x15 s0 s1 s2 s3 s4)
  exact h

set_option maxHeartbeats 4000000 in
/-- The same step with its ends named by the tile functions; three scratch buffers end at some contents. -/
theorem later_ends (c : Dev nD) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x1024 .f32) (harg4 : arg4.IsWhole)
    (arg5 : Memref sig .tc .vmem S256x1024 .f32) (harg5 : arg5.IsWhole) (arg6 : Memref sig .tc .vmem S256x1024 .f32) (harg6 : arg6.IsWhole)
    (arg7 : Memref sig .tc .vmem S8x1024 .f32) (harg7 : arg7.IsWhole) (arg8 : Memref sig .tc .vmem S4x1024 .f32) (harg8 : arg8.IsWhole)
    (arg9 : Memref sig .tc .vmem S8x128x128 .bf16) (harg9 : arg9.IsWhole) (arg10 : Memref sig .tc .vmem S8x128x128 .bf16) (harg10 : arg10.IsWhole)
    (arg11 : Memref sig .tc .vmem S1x1024 .f32) (harg11 : arg11.IsWhole) (arg12 : Memref sig .tc .vmem S1x1024 .f32) (harg12 : arg12.IsWhole)
    (arg13 : Memref sig .tc .vmem S256x1024 .f32) (harg13 : arg13.IsWhole) (arg14 : Memref sig .tc .vmem S256x1024 .bf16) (harg14 : arg14.IsWhole)
    (arg15 : Memref sig .tc .vmem S256x1024 .bf16) (harg15 : arg15.IsWhole) (arg16 : Memref sig .tc .vmem S8x1024 .f32) (harg16 : arg16.IsWhole)
    (arg17 : Memref sig .tc .vmem S256x1024 .f32) (harg17 : arg17.IsWhole) (arg18 : Memref sig .tc .vmem S256x1024 .f32) (harg18 : arg18.IsWhole)
    (arg19 : Memref sig .tc .vmem S256x1024 .f32) (harg19 : arg19.IsWhole) (arg20 : Memref sig .tc .vmem S8x1024 .f32) (harg20 : arg20.IsWhole)
    (arg21 : Memref sig .tc .vmem S8x1024 .f32) (harg21 : arg21.IsWhole)
    (hc0 : ¬cond0_0 i)
    (x0 : Vec F S256x1024 .f32) (x1 : Vec F S256x1024 .f32) (x2 : Vec F S256x1024 .f32) (x3 : Vec F S256x1024 .f32) (x4 : Vec F S256x1024 .f32) (x5 : Vec F S256x1024 .f32) (x6 : Vec F S8x1024 .f32) (x7 : Vec F S4x1024 .f32) (x8 : Vec F S8x128x128 .bf16) (x9 : Vec F S8x128x128 .bf16) (x10 : Vec F S1x1024 .f32) (x11 : Vec F S1x1024 .f32) (d12 : Vec F S256x1024 .f32) (d13 : Vec F S256x1024 .bf16) (d14 : Vec F S256x1024 .bf16) (x15 : Vec F S8x1024 .f32) (s0 : Vec F S256x1024 .f32) (s1 : Vec F S256x1024 .f32) (s2 : Vec F S256x1024 .f32) (s3 : Vec F S8x1024 .f32) (s4 : Vec F S8x1024 .f32) :
    ∃ (e0 e1 e2 : Vec F S256x1024 .f32), ∀ (E : Set ℕ) (K : PUnit → sProp 𝕄),
      iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare d12
        ∗ owns (c : Thread nD τ) arg14 fullShare d13
        ∗ owns (c : Thread nD τ) arg15 fullShare d14
        ∗ owns (c : Thread nD τ) arg16 fullShare x15
        ∗ owns (c : Thread nD τ) arg17 fullShare s0
        ∗ owns (c : Thread nD τ) arg18 fullShare s1
        ∗ owns (c : Thread nD τ) arg19 fullShare s2
        ∗ owns (c : Thread nD τ) arg20 fullShare s3
        ∗ owns (c : Thread nD τ) arg21 fullShare s4
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare (dubT (i 0).val x5 (dxcT x0 x1 x2 x3 x4 x8 x9 x10 s3) x6 x7 s4)
          ∗ owns (c : Thread nD τ) arg14 fullShare (dprT x0 x1 x2 x3 x4 x10 s3)
          ∗ owns (c : Thread nD τ) arg15 fullShare (dpiT x0 x1 x2 x3 x10 s3)
          ∗ owns (c : Thread nD τ) arg16 fullShare (accT x0 x1 x2 x3 x4 x8 x9 x10 s3 (i 0).val x5 x6 x7 s4 x11 x15)
          ∗ owns (c : Thread nD τ) arg17 fullShare e0
          ∗ owns (c : Thread nD τ) arg18 fullShare e1
          ∗ owns (c : Thread nD τ) arg19 fullShare e2
          ∗ owns (c : Thread nD τ) arg20 fullShare (carryT x0 x2 x10 s3)
          ∗ owns (c : Thread nD τ) arg21 fullShare (firstT (dxcT x0 x1 x2 x3 x4 x8 x9 x10 s3))) -∗ K ⟨⟩))
      ⊢ wp frame (wpE (defs₀ (F := F)) Variants.none c none) E (cc0_lru_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  have h := ends_of _ (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 d12 d13 d14 x15 s0 s1 s2 s3 s4) (later_o12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 d12 d13 d14 x15 s0 s1 s2 s3 s4) (later_o13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 d12 d13 d14 x15 s0 s1 s2 s3 s4) (later_o14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 d12 d13 d14 x15 s0 s1 s2 s3 s4) (later_o15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 d12 d13 d14 x15 s0 s1 s2 s3 s4) (later_e3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 d12 d13 d14 x15 s0 s1 s2 s3 s4) (later_e4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 d12 d13 d14 x15 s0 s1 s2 s3 s4)
  exact h

end Cert.KernelIdeal.Lru

end
-- ==== Proof.LruFrame.lean ====
module

public import proofs.«01_k».proof.Proof.LruEnds
public import proofs.«01_k».proof.Proof.Gen.KernelIdeal.Points

@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a grid step leaves: its four output blocks and the two buffers carried to the next step. -/
abbrev Left (F : FTy → Type) : Type := Vec F S256x1024 .f32 × Vec F S256x1024 .bf16 × Vec F S256x1024 .bf16 × Vec F S8x1024 .f32 × Vec F S8x1024 .f32 × Vec F S8x1024 .f32

/-- What grid step `t` leaves, from the carried buffers and the accumulated rows it starts with. -/
def leave (c : Dev nD) (t : Fin cfg0.N) (s3 s4 x15 : Vec F S8x1024 .f32) : Left F :=
  (dubT (grid0.coords t 0).val (iblk m c 5 t) (dxcT (iblk m c 0 t) (iblk m c 1 t) (iblk m c 2 t) (iblk m c 3 t) (iblk m c 4 t) (iblk m c 8 t) (iblk m c 9 t) (iblk m c 10 t) s3) (iblk m c 6 t) (iblk m c 7 t) s4,
    dprT (iblk m c 0 t) (iblk m c 1 t) (iblk m c 2 t) (iblk m c 3 t) (iblk m c 4 t) (iblk m c 10 t) s3,
    dpiT (iblk m c 0 t) (iblk m c 1 t) (iblk m c 2 t) (iblk m c 3 t) (iblk m c 10 t) s3,
    accT (iblk m c 0 t) (iblk m c 1 t) (iblk m c 2 t) (iblk m c 3 t) (iblk m c 4 t) (iblk m c 8 t) (iblk m c 9 t) (iblk m c 10 t) s3 (grid0.coords t 0).val (iblk m c 5 t) (iblk m c 6 t) (iblk m c 7 t) s4 (iblk m c 11 t) x15,
    carryT (iblk m c 0 t) (iblk m c 2 t) (iblk m c 10 t) s3,
    firstT (dxcT (iblk m c 0 t) (iblk m c 1 t) (iblk m c 2 t) (iblk m c 3 t) (iblk m c 4 t) (iblk m c 8 t) (iblk m c 9 t) (iblk m c 10 t) s3))

/-- What the steps up to position `n` leave: the first starts from zeros, a later one from what the step before left. -/
def outsAt (c : Dev nD) : (n : ℕ) → n < cfg0.N → Left F
  | 0, hn => leave m c ⟨0, hn⟩ k0_pay25 k0_pay26 k0_pay27
  | n + 1, hn =>
    let p := outsAt c n (Nat.lt_of_succ_lt hn)
    leave m c ⟨n + 1, hn⟩ p.2.2.2.2.1 p.2.2.2.2.2 p.2.2.2.1

theorem outsAt_first (c : Dev nD) (t : Fin cfg0.N) (h0 : t.val = 0) :
    outsAt m c t.val t.isLt = leave m c t k0_pay25 k0_pay26 k0_pay27 := by
  obtain ⟨n, hn⟩ := t
  cases n with
  | zero => rfl
  | succ n => exact absurd h0 (Nat.succ_ne_zero n)

theorem outsAt_later (c : Dev nD) (t : Fin cfg0.N) (h0 : t.val ≠ 0) :
    outsAt m c t.val t.isLt = leave m c t (outsAt m c (t.val - 1) (Nat.lt_of_le_of_lt (Nat.sub_le _ _) t.isLt)).2.2.2.2.1
      (outsAt m c (t.val - 1) (Nat.lt_of_le_of_lt (Nat.sub_le _ _) t.isLt)).2.2.2.2.2
      (outsAt m c (t.val - 1) (Nat.lt_of_le_of_lt (Nat.sub_le _ _) t.isLt)).2.2.2.1 := by
  obtain ⟨n, hn⟩ := t
  cases n with
  | zero => exact absurd rfl h0
  | succ n => rfl

/-- Between steps: the carried buffers hold what the step before left, the other scratch anything. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt m c n hn).2.2.2.2.1) ∗ owns (c : Thread nD τ) scM0_4 fullShare ((outsAt m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt m c n hn).2.2.2.2.1) ∗ owns (c : Thread nD τ) scM0_4 fullShare ((outsAt m c n hn).2.2.2.2.2)) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt m c (n - 1) (by omega)).2.2.2.2.1) ∗ owns (c : Thread nD τ) scM0_4 fullShare ((outsAt m c (n - 1) (by omega)).2.2.2.2.2)) ∗ (∃ r, prngReg c r)) := by
  cases n with
  | zero => exact absurd rfl hz
  | succ n => rfl

/-- The launch's data on core `c`: input blocks stay, output blocks end as `outsAt` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt m c t.val t.isLt).1
    | ⟨13, _⟩ => (outsAt m c t.val t.isLt).2.1
    | ⟨14, _⟩ => (outsAt m c t.val t.isLt).2.2.1
    | ⟨15, _⟩ => (outsAt m c t.val t.isLt).2.2.2.1
    | ⟨_ + 16, h⟩ => absurd h (Nat.not_lt.2 (Nat.le_add_left _ _))
  Φ t := PhiS m c t.val (Nat.le_of_lt_succ t.isLt)
  q w := Pipeline.shareOf spec0 w
  owed _ := 0

/-- The arrays are those the region finds. -/
theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt m c t.val t.isLt).1 := by dsimp only [dats]
theorem after0_13 (c : Dev nD) (t : Fin cfg0.N) : (dats m 0 c).after 13 t = (outsAt m c t.val t.isLt).2.1 := by dsimp only [dats]
theorem after0_14 (c : Dev nD) (t : Fin cfg0.N) : (dats m 0 c).after 14 t = (outsAt m c t.val t.isLt).2.2.1 := by dsimp only [dats]
theorem after0_15 (c : Dev nD) (t : Fin cfg0.N) : (dats m 0 c).after 15 t = (outsAt m c t.val t.isLt).2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
/-- A later step finds the accumulated rows as the step before left them. -/
theorem before0_15_B (c : Dev nD) (t : Fin cfg0.N) (h0 : ¬t.val % 8 = 0) (d) :
    (dats m 0 c).before 15 t d = (outsAt m c (t.val - 1) (Nat.lt_of_le_of_lt (Nat.sub_le _ _) t.isLt)).2.2.2.1 := by
  have hN : t.val < 8 := lt_of_lt_of_eq t.isLt (show cfg0.N = 8 from N_0)
  rw [Dat.before_out_kept _ 15 rfl t (by omega) (Bool.eq_false_iff.mpr fun h => by have := (flush0_15 _).mp h; dsimp only at this; omega)
    (fun _ => rfl) (fun _ _ => rfl)]
  dsimp only [dats]

/-- What the body starts from at step `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- What the body ends with at step `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

set_option maxHeartbeats 16000000 in
/-- The body at any step takes what it starts from to what it ends with. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.succ = PhiS m c (t.val + 1) t.isLt from rfl, PhiS_succ]
  have hN : t.val < 8 := lt_of_lt_of_eq t.isLt (show cfg0.N = 8 from N_0)
  by_cases hz : t.val = 0
  · rw [PhiS_castSucc m c t, PhiS_zero m c _ _ hz, PhiA0_eq, outsAt_first m c t hz]
    iintro ⟨⟨⟨⟨%s0, HS0⟩, ⟨%s1, HS1⟩, ⟨%s2, HS2⟩, ⟨%s3, HS3⟩, ⟨%s4, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    obtain ⟨e0, e1, e2, hw⟩ := first_ends c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((dats m 0 c).before 12 t d12) ((dats m 0 c).before 13 t d13) ((dats m 0 c).before 14 t d14) ((dats m 0 c).before 15 t d15) s0 s1 s2 s3 s4
    iapply (hw Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, H12, H13, H14, H15, HS0, HS1, HS2, HS3, HS4⟩
    isplitl [HS0 HS1 HS2 HS3 HS4 Hg]
    · isplitl [HS0 HS1 HS2 HS3 HS4]
      · isplitl [HS0]; · iexists _; iexact HS0
        isplitl [HS1]; · iexists _; iexact HS1
        isplitl [HS2]; · iexists _; iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · rw [PhiS_castSucc m c t, PhiS_pos m c _ _ hz, outsAt_later m c t hz]
    simp only [before0_15_B m c t (show ¬t.val % 8 = 0 by omega)]
    iintro ⟨⟨⟨⟨%s0, HS0⟩, ⟨%s1, HS1⟩, ⟨%s2, HS2⟩, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    obtain ⟨e0, e1, e2, hw⟩ := later_ends c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => hz (by have := (hcond0_0 t).mp h; omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((dats m 0 c).before 12 t d12) ((dats m 0 c).before 13 t d13) ((dats m 0 c).before 14 t d14) (outsAt m c (t.val - 1) (Nat.lt_of_le_of_lt (Nat.sub_le _ _) t.isLt)).2.2.2.1 s0 s1 s2 (outsAt m c (t.val - 1) (Nat.lt_of_le_of_lt (Nat.sub_le _ _) t.isLt)).2.2.2.2.1 (outsAt m c (t.val - 1) (Nat.lt_of_le_of_lt (Nat.sub_le _ _) t.isLt)).2.2.2.2.2
    iapply (hw Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, H12, H13, H14, H15, HS0, HS1, HS2, HS3, HS4⟩
    isplitl [HS0 HS1 HS2 HS3 HS4 Hg]
    · isplitl [HS0 HS1 HS2 HS3 HS4]
      · isplitl [HS0]; · iexists _; iexact HS0
        isplitl [HS1]; · iexists _; iexact HS1
        isplitl [HS2]; · iexists _; iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem defs₀_row (t : Fin cfg0.N) :
    defs₀ (F := F) .tc cfg0.body (cfg0.bodyArgs t (cfg0.slots t)) = bodyAt0 t := by
  unfold defs₀; rw [Defs.onTc_tc]

/-- The body meets its obligation at every step. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first step every scratch buffer may hold anything. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any step but before the first, what the carried buffers hold may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexact HS0
    isplitl [HS1]
    · iexact HS1
    isplitl [HS2]
    · iexact HS2
    isplitl [HS3]
    · iexists _; iexact HS3
    iexists _; iexact HS4
  iexact Hg

theorem hout (c : Dev nD) : (dats m 0 c).Φ (Fin.last cfg0.N) ⊢ Pipeline.ΦA spec0 c :=
  Phi_out m c _ (by rw [Fin.val_last]; have : cfg0.N = 8 := N_0; omega)

set_option backward.isDefEq.respectTransparency.types false in
set_option maxHeartbeats 800000 in
/-- The whole run: every execution ends, with the arrays as the launch's data say and no signal left. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The arguments end unchanged, and no signal is left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Lru

end
-- ==== Proof.Product2.lean ====
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.Value
public import Idealize.ShloMosaic.Lib.ValueIdx
public import Idealize.ShloMosaic.PureOps.Ideal.Laws

/-! The gradient of the feed-forward block's gate weight: the launch's array, index by index, is the
sum over all tokens of the two operands' products, which is what the reference's product is. -/

@[expose] public section

set_option maxRecDepth 16384

noncomputable section

namespace Cert.Proof.Product2

open Cert.Kernel2Ideal Cert.Kernel2Ideal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The tile's product -/

abbrev D := dot_S2048x704_S2048x1024_S704x1024_0_0_1_1_n_n

theorem lhs0 (i : S704x1024.Idx) (q : D.contr.Idx) : (D.lhsIdx i q 0).val = (q ⟨0, by decide⟩).val := D.lhsIdx_val_of_single rfl i q
theorem rhs0 (i : S704x1024.Idx) (q : D.contr.Idx) : (D.rhsIdx i q 0).val = (q ⟨0, by decide⟩).val := D.rhsIdx_val_of_single rfl i q
theorem lhs1 (i : S704x1024.Idx) (q : D.contr.Idx) : (D.lhsIdx i q 1).val = (i 0).val := by
  unfold DotDims.lhsIdx
  rw [dif_neg (show ¬(1 : Fin S2048x704.rank) ∈ D.lhsBatch by decide), dif_pos (show (1 : Fin S2048x704.rank) ∈ D.lhsNonContracting by decide)]
  rfl
theorem rhs1 (i : S704x1024.Idx) (q : D.contr.Idx) : (D.rhsIdx i q 1).val = (i 1).val := by
  unfold DotDims.rhsIdx
  rw [dif_neg (show ¬(1 : Fin S2048x1024.rank) ∈ D.rhsBatch by decide), dif_pos (show (1 : Fin S2048x1024.rank) ∈ D.rhsNonContracting by decide)]
  rfl

/-- The tile's product read at an index: the sum over the tokens of the tile. -/
theorem dot_apply (x : FVec Ideal S2048x704 .bf16) (y : FVec Ideal S2048x1024 .bf16) (i : S704x1024.Idx) :
    matmul D none x y (constant S704x1024 .f32 0x00000000#32) i = ∑ k : Fin 2048, (x (ix2 k (i 0)) : EReal) * y (ix2 k (i 1)) := by
  simp only [matmul]
  rw [Ideal.matmul_constant_zero_apply, ← Equiv.sum_comp (contrEquiv1 D 2048 rfl rfl).symm]
  refine Finset.sum_congr rfl fun k _ => ?_
  have hk := contrEquiv1_symm_val D 2048 rfl rfl k
  have el : D.lhsIdx i ((contrEquiv1 D 2048 rfl rfl).symm k) = ix2 k (i 0) := funext fun a => Fin.ext (by
    match a with
    | ⟨0, _⟩ => exact (lhs0 _ _).trans hk
    | ⟨1, _⟩ => exact lhs1 _ _)
  have er : D.rhsIdx i ((contrEquiv1 D 2048 rfl rfl).symm k) = ix2 k (i 1) := funext fun a => Fin.ext (by
    match a with
    | ⟨0, _⟩ => exact (rhs0 _ _).trans hk
    | ⟨1, _⟩ => exact rhs1 _ _)
  rw [el, er]; rfl

/-- What one grid point stores, read at an index. -/
theorem tile_apply (x : Vec Ideal S1x2048x704 .bf16) (y : Vec Ideal S2048x1024 .bf16) (i : S1x704x1024.Idx) :
    k0_pay1 (F := Ideal) x y i = ∑ k : Fin 2048, (x (ix3 0 k (i 1)) : EReal) * y (ix2 k (i 2)) := by
  unfold k0_pay1
  rw [shapeCast_apply _ shapeCasts_S704x1024_S1x704x1024 i (ix2 (i 1) (i 2)) (by
    rewrite [Shape.rowMajor_val_two, Shape.rowMajor_val_three]
    have h0 : (i 0).val < 1 := (i 0).isLt
    show (i 1).val * 1024 + (i 2).val = ((i 0).val * 704 + (i 1).val) * 1024 + (i 2).val
    omega), dot_apply]
  refine Finset.sum_congr rfl fun k _ => ?_
  rw [shapeCast_apply _ shapeCasts_S1x2048x704_S2048x704 (ix2 k (i 1)) (ix3 0 k (i 1)) (by
    rewrite [Shape.rowMajor_val_two, Shape.rowMajor_val_three]
    show (0 * 2048 + k.val) * 704 + (i 1).val = k.val * 704 + (i 1).val
    omega), shapeCast_self]

theorem zero2 : (![0, 0] : Fin 2 → Nat) = fun _ => 0 := funext fun a => by fin_cases a <;> rfl
theorem zero3 : (![0, 0, 0] : Fin 3 → Nat) = fun _ => 0 := funext fun a => by fin_cases a <;> rfl

theorem out_eq (x0 : Vec Ideal S1x2048x704 .bf16) (x1 : Vec Ideal S2048x1024 .bf16) : out0_2 (F := Ideal) x0 x1 = k0_pay1 x0 x1 := by
  unfold out0_2
  rw [View.canon_unit_zero zero3, View.ld_unit_zero (S := S1x2048x704) zero3, View.ld_unit_zero (S := S2048x1024) zero2]

/-! ## What the launch finds in its operands -/

/-- The launch's left operand. -/
def left (c : Dev nD) : S4x2048x704.Idx → EReal := V m c main_v2

theorem left_eq (c : Dev nD) : V m c main_v2 = transpose S4x2048x704 [1, 0, 2] (shapeCast S2048x4x704
    (truncf .bf16 (m ((c : Thread nD τ).loc main_arg2)) bitsLt_bf16_f32 : FVec Ideal S2048x2816 .bf16) shapeCasts_S2048x2816_S2048x4x704) transposes_S2048x4x704_S4x2048x704_1_0_2 := by
  after_results <;> rfl

theorem left_apply (c : Dev nD) (q : Fin 4) (k : Fin 2048) (r : Fin 704) :
    left m c (ix3 q k r) = m ((c : Thread nD τ).loc main_arg2) (ix2 k ⟨q.val * 704 + r.val, by omega⟩) := by
  unfold left
  rw [left_eq]
  refine (transpose_apply [1, 0, 2] _ transposes_S2048x4x704_S4x2048x704_1_0_2 (ix3 q k r) (ix3 k q r) (fun b => match b with
    | ⟨0, _⟩ => rfl
    | ⟨1, _⟩ => rfl
    | ⟨2, _⟩ => rfl)).trans ?_
  refine (shapeCast_apply _ shapeCasts_S2048x2816_S2048x4x704 (ix3 k q r) (ix2 k ⟨q.val * 704 + r.val, by omega⟩) ?_).trans rfl
  rewrite [Shape.rowMajor_val_two, Shape.rowMajor_val_three]
  show k.val * 2816 + (q.val * 704 + r.val) = (k.val * 4 + q.val) * 704 + r.val
  omega

/-- The launch's right operand. -/
def right (c : Dev nD) : S2048x1024.Idx → EReal := V m c main_v3

theorem right_eq (c : Dev nD) : V m c main_v3 = (truncf .bf16 (m ((c : Thread nD τ).loc main_arg0)) bitsLt_bf16_f32 : FVec Ideal S2048x1024 .bf16) := by
  rfl

theorem right_apply (c : Dev nD) (k : Fin 2048) (r : Fin 1024) :
    right m c (ix2 k r) = m ((c : Thread nD τ).loc main_arg0) (ix2 k r) := by
  unfold right
  rw [right_eq]; rfl

/-! ## The array the launch leaves -/

/-- The gradient, index by index, as sums over all the tokens. -/
def G (c : Dev nD) : Buf (Elt Ideal) ((c : Thread nD τ).loc main_v4) := fun (i : S4x704x1024.Idx) =>
  (∑ k : Fin 2048, left m c (ix3 (⟨(i 0).val, (i 0).isLt⟩ : Fin 4) k (⟨(i 1).val, (i 1).isLt⟩ : Fin 704)) * right m c (ix2 k (⟨(i 2).val, (i 2).isLt⟩ : Fin 1024)) : EReal)

theorem idx_facts : ∀ t : Fin cfg0.N, win0_0.index t = ![t.val, 0, 0] ∧ win0_1.index t = ![0, 0] ∧ win0_2.index t = ![t.val, 0, 0] :=
  (by decide +kernel : ∀ t : Fin grid0.N, _)

theorem block_left (c : Dev nD) (t : Fin cfg0.N) (k : Fin 2048) (r : Fin 704) (j : S4x2048x704.Idx)
    (h0 : (j 0).val = t.val) (h1 : (j 1).val = k.val) (h2 : (j 2).val = r.val) :
    (iblk m c 0 t : S1x2048x704.Idx → EReal) (ix3 0 k r) = left m c j := by
  have e0 := (idx_facts t).1
  refine congrArg (V m c main_v2) (funext fun a => Fin.ext ?_)
  match a with
  | ⟨0, _⟩ => refine Eq.trans (b := win0_0.index t (0 : Fin 3) * 1 + 1 * 0) rfl ?_; rw [e0]; refine Eq.trans ?_ h0.symm; show t.val * 1 + 1 * 0 = t.val; omega
  | ⟨1, _⟩ => refine Eq.trans (b := win0_0.index t (1 : Fin 3) * 2048 + 1 * k.val) rfl ?_; rw [e0]; refine Eq.trans ?_ h1.symm; show 0 * 2048 + 1 * k.val = k.val; omega
  | ⟨2, _⟩ => refine Eq.trans (b := win0_0.index t (2 : Fin 3) * 704 + 1 * r.val) rfl ?_; rw [e0]; refine Eq.trans ?_ h2.symm; show 0 * 704 + 1 * r.val = r.val; omega

theorem block_right (c : Dev nD) (t : Fin cfg0.N) (k : Fin 2048) (r : Fin 1024) (j : S2048x1024.Idx)
    (h0 : (j 0).val = k.val) (h1 : (j 1).val = r.val) :
    (iblk m c 1 t : S2048x1024.Idx → EReal) (ix2 k r) = right m c j := by
  have e1 := (idx_facts t).2.1
  refine congrArg (V m c main_v3) (funext fun a => Fin.ext ?_)
  match a with
  | ⟨0, _⟩ => refine Eq.trans (b := win0_1.index t (0 : Fin 2) * 2048 + 1 * k.val) rfl ?_; rw [e1]; refine Eq.trans ?_ h0.symm; show 0 * 2048 + 1 * k.val = k.val; omega
  | ⟨1, _⟩ => refine Eq.trans (b := win0_1.index t (1 : Fin 2) * 1024 + 1 * r.val) rfl ?_; rw [e1]; refine Eq.trans ?_ h1.symm; show 0 * 1024 + 1 * r.val = r.val; omega

theorem flushed_eq (c : Dev nD) (t : Fin cfg0.N) :
    (dats m 0 c).flushed 2 t = ((cfg0.win 2).blk t).view.read (Elt Ideal) (G m c) := by
  rw [Value.flushed2, out_eq]
  have e2 := (idx_facts t).2.2
  funext y
  have hy0 : (y 0).val < 1 := (y 0).isLt
  have hb0 : (((cfg0.win 2).blk t).view.emb y 0).val = t.val := by
    refine Eq.trans (b := win0_2.index t (0 : Fin 3) * 1 + 1 * (y 0).val) rfl ?_
    rw [e2]; show t.val * 1 + 1 * (y 0).val = t.val; omega
  have hb1 : (((cfg0.win 2).blk t).view.emb y 1).val = (y 1).val := by
    refine Eq.trans (b := win0_2.index t (1 : Fin 3) * 704 + 1 * (y 1).val) rfl ?_
    rw [e2]; show 0 * 704 + 1 * (y 1).val = (y 1).val; omega
  have hb2 : (((cfg0.win 2).blk t).view.emb y 2).val = (y 2).val := by
    refine Eq.trans (b := win0_2.index t (2 : Fin 3) * 1024 + 1 * (y 2).val) rfl ?_
    rw [e2]; show 0 * 1024 + 1 * (y 2).val = (y 2).val; omega
  show k0_pay1 (F := Ideal) (iblk m c 0 t) (iblk m c 1 t) ((cfg0.win 2).xinj (grid0.coords t) y) = G m c (((cfg0.win 2).blk t).view.emb y)
  refine (tile_apply _ _ _).trans ?_
  unfold G
  exact Finset.sum_congr rfl fun k _ => congrArg₂ (fun a b : EReal => a * b)
    (block_left m c t k ⟨(y 1).val, (y 1).isLt⟩ _ hb0 rfl hb1) (block_right m c t k ⟨(y 2).val, (y 2).isLt⟩ _ rfl hb2)

theorem mem_blk (t : Fin cfg0.N) (i : S4x704x1024.Idx) :
    i ∈ ((cfg0.win 2).blk t).view.set ↔ ∀ a : Fin 3, win0_2.index t a * S1x704x1024.size a ≤ (i a).val ∧ (i a).val < win0_2.index t a * S1x704x1024.size a + S1x704x1024.size a := by
  show i ∈ ((View.whole main_v4).slice (win0_2.rect t)).set ↔ _
  rw [View.set_slice_whole, Rect.mem_set_unit]
  exact Iff.rfl

theorem covered (i : S4x704x1024.Idx) : ∃ t : Fin cfg0.N, (cfg0.win 2).flush t = true ∧ i ∈ ((cfg0.win 2).blk t).view.set := by
  have h0 : (i 0).val < 4 := (i 0).isLt
  have h1 : (i 1).val < 704 := (i 1).isLt
  have h2 : (i 2).val < 1024 := (i 2).isLt
  refine ⟨⟨(i 0).val, lt_of_lt_of_eq h0 (show 4 = cfg0.N from N_0.symm)⟩, (by decide +kernel : ∀ t : Fin grid0.N, win0_2.flush t = true) _, ?_⟩
  rw [mem_blk]
  obtain ⟨-, -, e2⟩ := idx_facts ⟨(i 0).val, lt_of_lt_of_eq h0 (show 4 = cfg0.N from N_0.symm)⟩
  rw [e2]
  intro a
  match a with
  | ⟨0, _⟩ => show (i 0).val * 1 ≤ (i 0).val ∧ (i 0).val < (i 0).val * 1 + 1; omega
  | ⟨1, _⟩ => show 0 * 704 ≤ (i 1).val ∧ (i 1).val < 0 * 704 + 704; omega
  | ⟨2, _⟩ => show 0 * 1024 ≤ (i 2).val ∧ (i 2).val < 0 * 1024 + 1024; omega

theorem final (c : Dev nD) : (dats m 0 c).arrAt 2 cfg0.N = G m c :=
  (dats m 0 c).arrAt_eq_of_cover 2 _ (fun t _ => flushed_eq m c t) covered

/-! ## The reference's array, and the claim -/

open Cert.Reference2Ideal.Read in
theorem reference_eq (c : Dev nD) :
    val_main_v4 (F := Ideal) (m ((c : Thread nD τ).loc main_arg0)) (m ((c : Thread nD τ).loc main_arg2)) = G m c := by
  funext (i : S4x704x1024.Idx)
  have h0 : (i 0).val < 4 := (i 0).isLt
  have h1 : (i 1).val < 704 := (i 1).isLt
  have h2 : (i 2).val < 1024 := (i 2).isLt
  rw [val_main_v4_apply, val_main_v3_apply, val_main_v2_apply, val_main_v1_apply]
  unfold G
  refine Finset.sum_congr rfl fun k _ => ?_
  refine (congrArg₂ (fun a b : EReal => a * b) (Eq.trans (congrArg _ (funext fun a => Fin.ext ?_)) (left_apply m c _ _ _).symm) (Eq.trans (congrArg _ (funext fun a => Fin.ext ?_)) (right_apply m c _ _).symm))
  · match a with
    | ⟨0, _⟩ => rfl
    | ⟨1, _⟩ => show (((i 0).val * 704 + (i 1).val) * 1024 + (i 2).val) / 1024 = (i 0).val * 704 + (i 1).val; omega
  · match a with
    | ⟨0, _⟩ => rfl
    | ⟨1, _⟩ => show (((i 0).val * 704 + (i 1).val) * 1024 + (i 2).val) % 1024 = (i 2).val; omega

theorem algebraic : Cert.algebraic_Kernel2Ideal_Reference2Ideal := by
  intro m g m' g' _ hagree
  refine ⟨G m, ?_, ?_⟩
  · exact (θ_run defs _ _).mono (fun r h c => ⟨(h c).1.trans (final m c), (h c).2⟩) (Value.run_blocks m g)
  · refine (θ_run Cert.Reference2Ideal.defs _ _).mono (fun r h c => ⟨?_, (h c).2⟩) (Cert.Reference2Ideal.Value.run (F := Ideal) m' g')
    refine ((h c).1.trans (Cert.Reference2Ideal.Read.val_main_v4_eq _ _)).trans ?_
    rw [(hagree c).1, (hagree c).2.2]
    exact reference_eq m c

end Cert.Proof.Product2

end
-- ==== Proof.Product3.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.Value
public import Idealize.ShloMosaic.Lib.ValueIdx
public import Idealize.ShloMosaic.PureOps.Ideal.Laws

/-! The gradient of the feed-forward block's up weight: the launch's array, index by index, is the
sum over all tokens of the two operands' products, which is what the reference's product is. -/

@[expose] public section

set_option maxRecDepth 16384

noncomputable section

namespace Cert.Proof.Product3

open Cert.Kernel3Ideal Cert.Kernel3Ideal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The tile's product -/

abbrev D := dot_S2048x704_S2048x1024_S704x1024_0_0_1_1_n_n

theorem lhs0 (i : S704x1024.Idx) (q : D.contr.Idx) : (D.lhsIdx i q 0).val = (q ⟨0, by decide⟩).val := D.lhsIdx_val_of_single rfl i q
theorem rhs0 (i : S704x1024.Idx) (q : D.contr.Idx) : (D.rhsIdx i q 0).val = (q ⟨0, by decide⟩).val := D.rhsIdx_val_of_single rfl i q
theorem lhs1 (i : S704x1024.Idx) (q : D.contr.Idx) : (D.lhsIdx i q 1).val = (i 0).val := by
  unfold DotDims.lhsIdx
  rw [dif_neg (show ¬(1 : Fin S2048x704.rank) ∈ D.lhsBatch by decide), dif_pos (show (1 : Fin S2048x704.rank) ∈ D.lhsNonContracting by decide)]
  rfl
theorem rhs1 (i : S704x1024.Idx) (q : D.contr.Idx) : (D.rhsIdx i q 1).val = (i 1).val := by
  unfold DotDims.rhsIdx
  rw [dif_neg (show ¬(1 : Fin S2048x1024.rank) ∈ D.rhsBatch by decide), dif_pos (show (1 : Fin S2048x1024.rank) ∈ D.rhsNonContracting by decide)]
  rfl

/-- The tile's product read at an index: the sum over the tokens of the tile. -/
theorem dot_apply (x : FVec Ideal S2048x704 .bf16) (y : FVec Ideal S2048x1024 .bf16) (i : S704x1024.Idx) :
    matmul D none x y (constant S704x1024 .f32 0x00000000#32) i = ∑ k : Fin 2048, (x (ix2 k (i 0)) : EReal) * y (ix2 k (i 1)) := by
  simp only [matmul]
  rw [Ideal.matmul_constant_zero_apply, ← Equiv.sum_comp (contrEquiv1 D 2048 rfl rfl).symm]
  refine Finset.sum_congr rfl fun k _ => ?_
  have hk := contrEquiv1_symm_val D 2048 rfl rfl k
  have el : D.lhsIdx i ((contrEquiv1 D 2048 rfl rfl).symm k) = ix2 k (i 0) := funext fun a => Fin.ext (by
    match a with
    | ⟨0, _⟩ => exact (lhs0 _ _).trans hk
    | ⟨1, _⟩ => exact lhs1 _ _)
  have er : D.rhsIdx i ((contrEquiv1 D 2048 rfl rfl).symm k) = ix2 k (i 1) := funext fun a => Fin.ext (by
    match a with
    | ⟨0, _⟩ => exact (rhs0 _ _).trans hk
    | ⟨1, _⟩ => exact rhs1 _ _)
  rw [el, er]; rfl

/-- What one grid point stores, read at an index. -/
theorem tile_apply (x : Vec Ideal S1x2048x704 .bf16) (y : Vec Ideal S2048x1024 .bf16) (i : S1x704x1024.Idx) :
    k0_pay1 (F := Ideal) x y i = ∑ k : Fin 2048, (x (ix3 0 k (i 1)) : EReal) * y (ix2 k (i 2)) := by
  unfold k0_pay1
  rw [shapeCast_apply _ shapeCasts_S704x1024_S1x704x1024 i (ix2 (i 1) (i 2)) (by
    rewrite [Shape.rowMajor_val_two, Shape.rowMajor_val_three]
    have h0 : (i 0).val < 1 := (i 0).isLt
    show (i 1).val * 1024 + (i 2).val = ((i 0).val * 704 + (i 1).val) * 1024 + (i 2).val
    omega), dot_apply]
  refine Finset.sum_congr rfl fun k _ => ?_
  rw [shapeCast_apply _ shapeCasts_S1x2048x704_S2048x704 (ix2 k (i 1)) (ix3 0 k (i 1)) (by
    rewrite [Shape.rowMajor_val_two, Shape.rowMajor_val_three]
    show (0 * 2048 + k.val) * 704 + (i 1).val = k.val * 704 + (i 1).val
    omega), shapeCast_self]

theorem zero2 : (![0, 0] : Fin 2 → Nat) = fun _ => 0 := funext fun a => by fin_cases a <;> rfl
theorem zero3 : (![0, 0, 0] : Fin 3 → Nat) = fun _ => 0 := funext fun a => by fin_cases a <;> rfl

theorem out_eq (x0 : Vec Ideal S1x2048x704 .bf16) (x1 : Vec Ideal S2048x1024 .bf16) : out0_2 (F := Ideal) x0 x1 = k0_pay1 x0 x1 := by
  unfold out0_2
  rw [View.canon_unit_zero zero3, View.ld_unit_zero (S := S1x2048x704) zero3, View.ld_unit_zero (S := S2048x1024) zero2]

/-! ## What the launch finds in its operands -/

/-- The launch's left operand. -/
def left (c : Dev nD) : S4x2048x704.Idx → EReal := V m c main_v2

theorem left_eq (c : Dev nD) : V m c main_v2 = transpose S4x2048x704 [1, 0, 2] (shapeCast S2048x4x704
    (truncf .bf16 (m ((c : Thread nD τ).loc main_arg2)) bitsLt_bf16_f32 : FVec Ideal S2048x2816 .bf16) shapeCasts_S2048x2816_S2048x4x704) transposes_S2048x4x704_S4x2048x704_1_0_2 := by
  after_results <;> rfl

theorem left_apply (c : Dev nD) (q : Fin 4) (k : Fin 2048) (r : Fin 704) :
    left m c (ix3 q k r) = m ((c : Thread nD τ).loc main_arg2) (ix2 k ⟨q.val * 704 + r.val, by omega⟩) := by
  unfold left
  rw [left_eq]
  refine (transpose_apply [1, 0, 2] _ transposes_S2048x4x704_S4x2048x704_1_0_2 (ix3 q k r) (ix3 k q r) (fun b => match b with
    | ⟨0, _⟩ => rfl
    | ⟨1, _⟩ => rfl
    | ⟨2, _⟩ => rfl)).trans ?_
  refine (shapeCast_apply _ shapeCasts_S2048x2816_S2048x4x704 (ix3 k q r) (ix2 k ⟨q.val * 704 + r.val, by omega⟩) ?_).trans rfl
  rewrite [Shape.rowMajor_val_two, Shape.rowMajor_val_three]
  show k.val * 2816 + (q.val * 704 + r.val) = (k.val * 4 + q.val) * 704 + r.val
  omega

/-- The launch's right operand. -/
def right (c : Dev nD) : S2048x1024.Idx → EReal := V m c main_v3

theorem right_eq (c : Dev nD) : V m c main_v3 = (truncf .bf16 (m ((c : Thread nD τ).loc main_arg0)) bitsLt_bf16_f32 : FVec Ideal S2048x1024 .bf16) := by
  rfl

theorem right_apply (c : Dev nD) (k : Fin 2048) (r : Fin 1024) :
    right m c (ix2 k r) = m ((c : Thread nD τ).loc main_arg0) (ix2 k r) := by
  unfold right
  rw [right_eq]; rfl

/-! ## The array the launch leaves -/

/-- The gradient, index by index, as sums over all the tokens. -/
def G (c : Dev nD) : Buf (Elt Ideal) ((c : Thread nD τ).loc main_v4) := fun (i : S4x704x1024.Idx) =>
  (∑ k : Fin 2048, left m c (ix3 (⟨(i 0).val, (i 0).isLt⟩ : Fin 4) k (⟨(i 1).val, (i 1).isLt⟩ : Fin 704)) * right m c (ix2 k (⟨(i 2).val, (i 2).isLt⟩ : Fin 1024)) : EReal)

theorem idx_facts : ∀ t : Fin cfg0.N, win0_0.index t = ![t.val, 0, 0] ∧ win0_1.index t = ![0, 0] ∧ win0_2.index t = ![t.val, 0, 0] :=
  (by decide +kernel : ∀ t : Fin grid0.N, _)

theorem block_left (c : Dev nD) (t : Fin cfg0.N) (k : Fin 2048) (r : Fin 704) (j : S4x2048x704.Idx)
    (h0 : (j 0).val = t.val) (h1 : (j 1).val = k.val) (h2 : (j 2).val = r.val) :
    (iblk m c 0 t : S1x2048x704.Idx → EReal) (ix3 0 k r) = left m c j := by
  have e0 := (idx_facts t).1
  refine congrArg (V m c main_v2) (funext fun a => Fin.ext ?_)
  match a with
  | ⟨0, _⟩ => refine Eq.trans (b := win0_0.index t (0 : Fin 3) * 1 + 1 * 0) rfl ?_; rw [e0]; refine Eq.trans ?_ h0.symm; show t.val * 1 + 1 * 0 = t.val; omega
  | ⟨1, _⟩ => refine Eq.trans (b := win0_0.index t (1 : Fin 3) * 2048 + 1 * k.val) rfl ?_; rw [e0]; refine Eq.trans ?_ h1.symm; show 0 * 2048 + 1 * k.val = k.val; omega
  | ⟨2, _⟩ => refine Eq.trans (b := win0_0.index t (2 : Fin 3) * 704 + 1 * r.val) rfl ?_; rw [e0]; refine Eq.trans ?_ h2.symm; show 0 * 704 + 1 * r.val = r.val; omega

theorem block_right (c : Dev nD) (t : Fin cfg0.N) (k : Fin 2048) (r : Fin 1024) (j : S2048x1024.Idx)
    (h0 : (j 0).val = k.val) (h1 : (j 1).val = r.val) :
    (iblk m c 1 t : S2048x1024.Idx → EReal) (ix2 k r) = right m c j := by
  have e1 := (idx_facts t).2.1
  refine congrArg (V m c main_v3) (funext fun a => Fin.ext ?_)
  match a with
  | ⟨0, _⟩ => refine Eq.trans (b := win0_1.index t (0 : Fin 2) * 2048 + 1 * k.val) rfl ?_; rw [e1]; refine Eq.trans ?_ h0.symm; show 0 * 2048 + 1 * k.val = k.val; omega
  | ⟨1, _⟩ => refine Eq.trans (b := win0_1.index t (1 : Fin 2) * 1024 + 1 * r.val) rfl ?_; rw [e1]; refine Eq.trans ?_ h1.symm; show 0 * 1024 + 1 * r.val = r.val; omega

theorem flushed_eq (c : Dev nD) (t : Fin cfg0.N) :
    (dats m 0 c).flushed 2 t = ((cfg0.win 2).blk t).view.read (Elt Ideal) (G m c) := by
  rw [Value.flushed2, out_eq]
  have e2 := (idx_facts t).2.2
  funext y
  have hy0 : (y 0).val < 1 := (y 0).isLt
  have hb0 : (((cfg0.win 2).blk t).view.emb y 0).val = t.val := by
    refine Eq.trans (b := win0_2.index t (0 : Fin 3) * 1 + 1 * (y 0).val) rfl ?_
    rw [e2]; show t.val * 1 + 1 * (y 0).val = t.val; omega
  have hb1 : (((cfg0.win 2).blk t).view.emb y 1).val = (y 1).val := by
    refine Eq.trans (b := win0_2.index t (1 : Fin 3) * 704 + 1 * (y 1).val) rfl ?_
    rw [e2]; show 0 * 704 + 1 * (y 1).val = (y 1).val; omega
  have hb2 : (((cfg0.win 2).blk t).view.emb y 2).val = (y 2).val := by
    refine Eq.trans (b := win0_2.index t (2 : Fin 3) * 1024 + 1 * (y 2).val) rfl ?_
    rw [e2]; show 0 * 1024 + 1 * (y 2).val = (y 2).val; omega
  show k0_pay1 (F := Ideal) (iblk m c 0 t) (iblk m c 1 t) ((cfg0.win 2).xinj (grid0.coords t) y) = G m c (((cfg0.win 2).blk t).view.emb y)
  refine (tile_apply _ _ _).trans ?_
  unfold G
  exact Finset.sum_congr rfl fun k _ => congrArg₂ (fun a b : EReal => a * b)
    (block_left m c t k ⟨(y 1).val, (y 1).isLt⟩ _ hb0 rfl hb1) (block_right m c t k ⟨(y 2).val, (y 2).isLt⟩ _ rfl hb2)

theorem mem_blk (t : Fin cfg0.N) (i : S4x704x1024.Idx) :
    i ∈ ((cfg0.win 2).blk t).view.set ↔ ∀ a : Fin 3, win0_2.index t a * S1x704x1024.size a ≤ (i a).val ∧ (i a).val < win0_2.index t a * S1x704x1024.size a + S1x704x1024.size a := by
  show i ∈ ((View.whole main_v4).slice (win0_2.rect t)).set ↔ _
  rw [View.set_slice_whole, Rect.mem_set_unit]
  exact Iff.rfl

theorem covered (i : S4x704x1024.Idx) : ∃ t : Fin cfg0.N, (cfg0.win 2).flush t = true ∧ i ∈ ((cfg0.win 2).blk t).view.set := by
  have h0 : (i 0).val < 4 := (i 0).isLt
  have h1 : (i 1).val < 704 := (i 1).isLt
  have h2 : (i 2).val < 1024 := (i 2).isLt
  refine ⟨⟨(i 0).val, lt_of_lt_of_eq h0 (show 4 = cfg0.N from N_0.symm)⟩, (by decide +kernel : ∀ t : Fin grid0.N, win0_2.flush t = true) _, ?_⟩
  rw [mem_blk]
  obtain ⟨-, -, e2⟩ := idx_facts ⟨(i 0).val, lt_of_lt_of_eq h0 (show 4 = cfg0.N from N_0.symm)⟩
  rw [e2]
  intro a
  match a with
  | ⟨0, _⟩ => show (i 0).val * 1 ≤ (i 0).val ∧ (i 0).val < (i 0).val * 1 + 1; omega
  | ⟨1, _⟩ => show 0 * 704 ≤ (i 1).val ∧ (i 1).val < 0 * 704 + 704; omega
  | ⟨2, _⟩ => show 0 * 1024 ≤ (i 2).val ∧ (i 2).val < 0 * 1024 + 1024; omega

theorem final (c : Dev nD) : (dats m 0 c).arrAt 2 cfg0.N = G m c :=
  (dats m 0 c).arrAt_eq_of_cover 2 _ (fun t _ => flushed_eq m c t) covered

/-! ## The reference's array, and the claim -/

open Cert.Reference3Ideal.Read in
theorem reference_eq (c : Dev nD) :
    val_main_v4 (F := Ideal) (m ((c : Thread nD τ).loc main_arg0)) (m ((c : Thread nD τ).loc main_arg2)) = G m c := by
  funext (i : S4x704x1024.Idx)
  have h0 : (i 0).val < 4 := (i 0).isLt
  have h1 : (i 1).val < 704 := (i 1).isLt
  have h2 : (i 2).val < 1024 := (i 2).isLt
  rw [val_main_v4_apply, val_main_v3_apply, val_main_v2_apply, val_main_v1_apply]
  unfold G
  refine Finset.sum_congr rfl fun k _ => ?_
  refine (congrArg₂ (fun a b : EReal => a * b) (Eq.trans (congrArg _ (funext fun a => Fin.ext ?_)) (left_apply m c _ _ _).symm) (Eq.trans (congrArg _ (funext fun a => Fin.ext ?_)) (right_apply m c _ _).symm))
  · match a with
    | ⟨0, _⟩ => rfl
    | ⟨1, _⟩ => show (((i 0).val * 704 + (i 1).val) * 1024 + (i 2).val) / 1024 = (i 0).val * 704 + (i 1).val; omega
  · match a with
    | ⟨0, _⟩ => rfl
    | ⟨1, _⟩ => show (((i 0).val * 704 + (i 1).val) * 1024 + (i 2).val) % 1024 = (i 2).val; omega

theorem algebraic : Cert.algebraic_Kernel3Ideal_Reference3Ideal := by
  intro m g m' g' _ hagree
  refine ⟨G m, ?_, ?_⟩
  · exact (θ_run defs _ _).mono (fun r h c => ⟨(h c).1.trans (final m c), (h c).2⟩) (Value.run_blocks m g)
  · refine (θ_run Cert.Reference3Ideal.defs _ _).mono (fun r h c => ⟨?_, (h c).2⟩) (Cert.Reference3Ideal.Value.run (F := Ideal) m' g')
    refine ((h c).1.trans (Cert.Reference3Ideal.Read.val_main_v4_eq _ _)).trans ?_
    rw [(hagree c).1, (hagree c).2.2]
    exact reference_eq m c

end Cert.Proof.Product3

end
-- ==== Proof.Product4.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.Value
public import Idealize.ShloMosaic.Lib.ValueIdx
public import Idealize.ShloMosaic.PureOps.Ideal.Laws

/-! The gradient of the feed-forward block's down weight: the launch's array, index by index, is the
sum over all tokens of the two operands' products, which is what the reference's product is. -/

@[expose] public section

set_option maxRecDepth 16384

noncomputable section

namespace Cert.Proof.Product4

open Cert.Kernel4Ideal Cert.Kernel4Ideal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The tile's product -/

abbrev D := dot_S2048x704_S2048x1024_S704x1024_0_0_1_1_n_n

theorem lhs0 (i : S704x1024.Idx) (q : D.contr.Idx) : (D.lhsIdx i q 0).val = (q ⟨0, by decide⟩).val := D.lhsIdx_val_of_single rfl i q
theorem rhs0 (i : S704x1024.Idx) (q : D.contr.Idx) : (D.rhsIdx i q 0).val = (q ⟨0, by decide⟩).val := D.rhsIdx_val_of_single rfl i q
theorem lhs1 (i : S704x1024.Idx) (q : D.contr.Idx) : (D.lhsIdx i q 1).val = (i 0).val := by
  unfold DotDims.lhsIdx
  rw [dif_neg (show ¬(1 : Fin S2048x704.rank) ∈ D.lhsBatch by decide), dif_pos (show (1 : Fin S2048x704.rank) ∈ D.lhsNonContracting by decide)]
  rfl
theorem rhs1 (i : S704x1024.Idx) (q : D.contr.Idx) : (D.rhsIdx i q 1).val = (i 1).val := by
  unfold DotDims.rhsIdx
  rw [dif_neg (show ¬(1 : Fin S2048x1024.rank) ∈ D.rhsBatch by decide), dif_pos (show (1 : Fin S2048x1024.rank) ∈ D.rhsNonContracting by decide)]
  rfl

/-- The tile's product read at an index: the sum over the tokens of the tile. -/
theorem dot_apply (x : FVec Ideal S2048x704 .bf16) (y : FVec Ideal S2048x1024 .bf16) (i : S704x1024.Idx) :
    matmul D none x y (constant S704x1024 .f32 0x00000000#32) i = ∑ k : Fin 2048, (x (ix2 k (i 0)) : EReal) * y (ix2 k (i 1)) := by
  simp only [matmul]
  rw [Ideal.matmul_constant_zero_apply, ← Equiv.sum_comp (contrEquiv1 D 2048 rfl rfl).symm]
  refine Finset.sum_congr rfl fun k _ => ?_
  have hk := contrEquiv1_symm_val D 2048 rfl rfl k
  have el : D.lhsIdx i ((contrEquiv1 D 2048 rfl rfl).symm k) = ix2 k (i 0) := funext fun a => Fin.ext (by
    match a with
    | ⟨0, _⟩ => exact (lhs0 _ _).trans hk
    | ⟨1, _⟩ => exact lhs1 _ _)
  have er : D.rhsIdx i ((contrEquiv1 D 2048 rfl rfl).symm k) = ix2 k (i 1) := funext fun a => Fin.ext (by
    match a with
    | ⟨0, _⟩ => exact (rhs0 _ _).trans hk
    | ⟨1, _⟩ => exact rhs1 _ _)
  rw [el, er]; rfl

/-- What one grid point stores, read at an index. -/
theorem tile_apply (x : Vec Ideal S1x2048x704 .bf16) (y : Vec Ideal S2048x1024 .f32) (i : S1x704x1024.Idx) :
    k0_pay1 (F := Ideal) x y i = ∑ k : Fin 2048, (x (ix3 0 k (i 1)) : EReal) * y (ix2 k (i 2)) := by
  unfold k0_pay1
  rw [shapeCast_apply _ shapeCasts_S704x1024_S1x704x1024 i (ix2 (i 1) (i 2)) (by
    rewrite [Shape.rowMajor_val_two, Shape.rowMajor_val_three]
    have h0 : (i 0).val < 1 := (i 0).isLt
    show (i 1).val * 1024 + (i 2).val = ((i 0).val * 704 + (i 1).val) * 1024 + (i 2).val
    omega), dot_apply]
  refine Finset.sum_congr rfl fun k _ => ?_
  rw [shapeCast_apply _ shapeCasts_S1x2048x704_S2048x704 (ix2 k (i 1)) (ix3 0 k (i 1)) (by
    rewrite [Shape.rowMajor_val_two, Shape.rowMajor_val_three]
    show (0 * 2048 + k.val) * 704 + (i 1).val = k.val * 704 + (i 1).val
    omega)]
  rfl

theorem zero2 : (![0, 0] : Fin 2 → Nat) = fun _ => 0 := funext fun a => by fin_cases a <;> rfl
theorem zero3 : (![0, 0, 0] : Fin 3 → Nat) = fun _ => 0 := funext fun a => by fin_cases a <;> rfl

theorem out_eq (x0 : Vec Ideal S1x2048x704 .bf16) (x1 : Vec Ideal S2048x1024 .f32) : out0_2 (F := Ideal) x0 x1 = k0_pay1 x0 x1 := by
  unfold out0_2
  rw [View.canon_unit_zero zero3, View.ld_unit_zero (S := S1x2048x704) zero3, View.ld_unit_zero (S := S2048x1024) zero2]

/-! ## What the launch finds in its operands -/

/-- The launch's left operand. -/
def left (c : Dev nD) : S4x2048x704.Idx → EReal := V m c main_v2

theorem left_eq (c : Dev nD) : V m c main_v2 = transpose S4x2048x704 [1, 0, 2] (shapeCast S2048x4x704
    (truncf .bf16 (m ((c : Thread nD τ).loc main_arg0)) bitsLt_bf16_f32 : FVec Ideal S2048x2816 .bf16) shapeCasts_S2048x2816_S2048x4x704) transposes_S2048x4x704_S4x2048x704_1_0_2 := by
  after_results <;> rfl

theorem left_apply (c : Dev nD) (q : Fin 4) (k : Fin 2048) (r : Fin 704) :
    left m c (ix3 q k r) = m ((c : Thread nD τ).loc main_arg0) (ix2 k ⟨q.val * 704 + r.val, by omega⟩) := by
  unfold left
  rw [left_eq]
  refine (transpose_apply [1, 0, 2] _ transposes_S2048x4x704_S4x2048x704_1_0_2 (ix3 q k r) (ix3 k q r) (fun b => match b with
    | ⟨0, _⟩ => rfl
    | ⟨1, _⟩ => rfl
    | ⟨2, _⟩ => rfl)).trans ?_
  refine (shapeCast_apply _ shapeCasts_S2048x2816_S2048x4x704 (ix3 k q r) (ix2 k ⟨q.val * 704 + r.val, by omega⟩) ?_).trans rfl
  rewrite [Shape.rowMajor_val_two, Shape.rowMajor_val_three]
  show k.val * 2816 + (q.val * 704 + r.val) = (k.val * 4 + q.val) * 704 + r.val
  omega

/-- The launch's right operand. -/
def right (c : Dev nD) : S2048x1024.Idx → EReal := V m c main_arg2

theorem right_eq (c : Dev nD) : V m c main_arg2 = m ((c : Thread nD τ).loc main_arg2) := by
  rfl

theorem right_apply (c : Dev nD) (k : Fin 2048) (r : Fin 1024) :
    right m c (ix2 k r) = m ((c : Thread nD τ).loc main_arg2) (ix2 k r) := by
  unfold right
  rw [right_eq]

/-! ## The array the launch leaves -/

/-- The gradient, index by index, as sums over all the tokens. -/
def G (c : Dev nD) : Buf (Elt Ideal) ((c : Thread nD τ).loc main_v3) := fun (i : S4x704x1024.Idx) =>
  (∑ k : Fin 2048, left m c (ix3 (⟨(i 0).val, (i 0).isLt⟩ : Fin 4) k (⟨(i 1).val, (i 1).isLt⟩ : Fin 704)) * right m c (ix2 k (⟨(i 2).val, (i 2).isLt⟩ : Fin 1024)) : EReal)

theorem idx_facts : ∀ t : Fin cfg0.N, win0_0.index t = ![t.val, 0, 0] ∧ win0_1.index t = ![0, 0] ∧ win0_2.index t = ![t.val, 0, 0] :=
  (by decide +kernel : ∀ t : Fin grid0.N, _)

theorem block_left (c : Dev nD) (t : Fin cfg0.N) (k : Fin 2048) (r : Fin 704) (j : S4x2048x704.Idx)
    (h0 : (j 0).val = t.val) (h1 : (j 1).val = k.val) (h2 : (j 2).val = r.val) :
    (iblk m c 0 t : S1x2048x704.Idx → EReal) (ix3 0 k r) = left m c j := by
  have e0 := (idx_facts t).1
  refine congrArg (V m c main_v2) (funext fun a => Fin.ext ?_)
  match a with
  | ⟨0, _⟩ => refine Eq.trans (b := win0_0.index t (0 : Fin 3) * 1 + 1 * 0) rfl ?_; rw [e0]; refine Eq.trans ?_ h0.symm; show t.val * 1 + 1 * 0 = t.val; omega
  | ⟨1, _⟩ => refine Eq.trans (b := win0_0.index t (1 : Fin 3) * 2048 + 1 * k.val) rfl ?_; rw [e0]; refine Eq.trans ?_ h1.symm; show 0 * 2048 + 1 * k.val = k.val; omega
  | ⟨2, _⟩ => refine Eq.trans (b := win0_0.index t (2 : Fin 3) * 704 + 1 * r.val) rfl ?_; rw [e0]; refine Eq.trans ?_ h2.symm; show 0 * 704 + 1 * r.val = r.val; omega

theorem block_right (c : Dev nD) (t : Fin cfg0.N) (k : Fin 2048) (r : Fin 1024) (j : S2048x1024.Idx)
    (h0 : (j 0).val = k.val) (h1 : (j 1).val = r.val) :
    (iblk m c 1 t : S2048x1024.Idx → EReal) (ix2 k r) = right m c j := by
  have e1 := (idx_facts t).2.1
  refine congrArg (V m c main_arg2) (funext fun a => Fin.ext ?_)
  match a with
  | ⟨0, _⟩ => refine Eq.trans (b := win0_1.index t (0 : Fin 2) * 2048 + 1 * k.val) rfl ?_; rw [e1]; refine Eq.trans ?_ h0.symm; show 0 * 2048 + 1 * k.val = k.val; omega
  | ⟨1, _⟩ => refine Eq.trans (b := win0_1.index t (1 : Fin 2) * 1024 + 1 * r.val) rfl ?_; rw [e1]; refine Eq.trans ?_ h1.symm; show 0 * 1024 + 1 * r.val = r.val; omega

theorem flushed_eq (c : Dev nD) (t : Fin cfg0.N) :
    (dats m 0 c).flushed 2 t = ((cfg0.win 2).blk t).view.read (Elt Ideal) (G m c) := by
  rw [Value.flushed2, out_eq]
  have e2 := (idx_facts t).2.2
  funext y
  have hy0 : (y 0).val < 1 := (y 0).isLt
  have hb0 : (((cfg0.win 2).blk t).view.emb y 0).val = t.val := by
    refine Eq.trans (b := win0_2.index t (0 : Fin 3) * 1 + 1 * (y 0).val) rfl ?_
    rw [e2]; show t.val * 1 + 1 * (y 0).val = t.val; omega
  have hb1 : (((cfg0.win 2).blk t).view.emb y 1).val = (y 1).val := by
    refine Eq.trans (b := win0_2.index t (1 : Fin 3) * 704 + 1 * (y 1).val) rfl ?_
    rw [e2]; show 0 * 704 + 1 * (y 1).val = (y 1).val; omega
  have hb2 : (((cfg0.win 2).blk t).view.emb y 2).val = (y 2).val := by
    refine Eq.trans (b := win0_2.index t (2 : Fin 3) * 1024 + 1 * (y 2).val) rfl ?_
    rw [e2]; show 0 * 1024 + 1 * (y 2).val = (y 2).val; omega
  show k0_pay1 (F := Ideal) (iblk m c 0 t) (iblk m c 1 t) ((cfg0.win 2).xinj (grid0.coords t) y) = G m c (((cfg0.win 2).blk t).view.emb y)
  refine (tile_apply _ _ _).trans ?_
  unfold G
  exact Finset.sum_congr rfl fun k _ => congrArg₂ (fun a b : EReal => a * b)
    (block_left m c t k ⟨(y 1).val, (y 1).isLt⟩ _ hb0 rfl hb1) (block_right m c t k ⟨(y 2).val, (y 2).isLt⟩ _ rfl hb2)

theorem mem_blk (t : Fin cfg0.N) (i : S4x704x1024.Idx) :
    i ∈ ((cfg0.win 2).blk t).view.set ↔ ∀ a : Fin 3, win0_2.index t a * S1x704x1024.size a ≤ (i a).val ∧ (i a).val < win0_2.index t a * S1x704x1024.size a + S1x704x1024.size a := by
  show i ∈ ((View.whole main_v3).slice (win0_2.rect t)).set ↔ _
  rw [View.set_slice_whole, Rect.mem_set_unit]
  exact Iff.rfl

theorem covered (i : S4x704x1024.Idx) : ∃ t : Fin cfg0.N, (cfg0.win 2).flush t = true ∧ i ∈ ((cfg0.win 2).blk t).view.set := by
  have h0 : (i 0).val < 4 := (i 0).isLt
  have h1 : (i 1).val < 704 := (i 1).isLt
  have h2 : (i 2).val < 1024 := (i 2).isLt
  refine ⟨⟨(i 0).val, lt_of_lt_of_eq h0 (show 4 = cfg0.N from N_0.symm)⟩, (by decide +kernel : ∀ t : Fin grid0.N, win0_2.flush t = true) _, ?_⟩
  rw [mem_blk]
  obtain ⟨-, -, e2⟩ := idx_facts ⟨(i 0).val, lt_of_lt_of_eq h0 (show 4 = cfg0.N from N_0.symm)⟩
  rw [e2]
  intro a
  match a with
  | ⟨0, _⟩ => show (i 0).val * 1 ≤ (i 0).val ∧ (i 0).val < (i 0).val * 1 + 1; omega
  | ⟨1, _⟩ => show 0 * 704 ≤ (i 1).val ∧ (i 1).val < 0 * 704 + 704; omega
  | ⟨2, _⟩ => show 0 * 1024 ≤ (i 2).val ∧ (i 2).val < 0 * 1024 + 1024; omega

theorem final (c : Dev nD) : (dats m 0 c).arrAt 2 cfg0.N = G m c :=
  (dats m 0 c).arrAt_eq_of_cover 2 _ (fun t _ => flushed_eq m c t) covered

/-! ## The reference's array, and the claim -/

open Cert.Reference4Ideal.Read in
theorem reference_eq (c : Dev nD) :
    val_main_v3 (F := Ideal) (m ((c : Thread nD τ).loc main_arg0)) (m ((c : Thread nD τ).loc main_arg2)) = G m c := by
  funext (i : S4x704x1024.Idx)
  have h0 : (i 0).val < 4 := (i 0).isLt
  have h1 : (i 1).val < 704 := (i 1).isLt
  have h2 : (i 2).val < 1024 := (i 2).isLt
  rw [val_main_v3_apply, val_main_v2_apply, val_main_v1_apply]
  unfold G
  refine Finset.sum_congr rfl fun k _ => ?_
  refine (mul_comm _ _).trans (congrArg₂ (fun a b : EReal => a * b) (Eq.trans (congrArg _ (funext fun a => Fin.ext ?_)) (left_apply m c _ _ _).symm) (Eq.trans (congrArg _ (funext fun a => Fin.ext ?_)) (right_apply m c _ _).symm))
  · match a with
    | ⟨0, _⟩ => rfl
    | ⟨1, _⟩ => show (((i 0).val * 704 + (i 1).val) * 1024 + (i 2).val) / 1024 = (i 0).val * 704 + (i 1).val; omega
  · match a with
    | ⟨0, _⟩ => rfl
    | ⟨1, _⟩ => show (((i 0).val * 704 + (i 1).val) * 1024 + (i 2).val) % 1024 = (i 2).val; omega

theorem algebraic : Cert.algebraic_Kernel4Ideal_Reference4Ideal := by
  intro m g m' g' _ hagree
  refine ⟨G m, ?_, ?_⟩
  · exact (θ_run defs _ _).mono (fun r h c => ⟨(h c).1.trans (final m c), (h c).2⟩) (Value.run_blocks m g)
  · refine (θ_run Cert.Reference4Ideal.defs _ _).mono (fun r h c => ⟨?_, (h c).2⟩) (Cert.Reference4Ideal.Value.run (F := Ideal) m' g')
    refine ((h c).1.trans (Cert.Reference4Ideal.Read.val_main_v3_eq _ _)).trans ?_
    rw [(hagree c).1, (hagree c).2.2]
    exact reference_eq m c

end Cert.Proof.Product4

end
-- ==== Proof.Product5.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.Value
public import Idealize.ShloMosaic.Lib.ValueIdx
public import Idealize.ShloMosaic.PureOps.Ideal.Laws

/-! The gradient of the input projection's weight, upper half of its rows: the launch's array, index by index, is the
sum over all tokens of the two operands' products, which is what the reference's product is. -/

@[expose] public section

set_option maxRecDepth 16384

noncomputable section

namespace Cert.Proof.Product5

open Cert.Kernel5Ideal Cert.Kernel5Ideal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The tile's product -/

abbrev D := dot_S2048x512_S2048x896_S512x896_0_0_1_1_n_n

theorem lhs0 (i : S512x896.Idx) (q : D.contr.Idx) : (D.lhsIdx i q 0).val = (q ⟨0, by decide⟩).val := D.lhsIdx_val_of_single rfl i q
theorem rhs0 (i : S512x896.Idx) (q : D.contr.Idx) : (D.rhsIdx i q 0).val = (q ⟨0, by decide⟩).val := D.rhsIdx_val_of_single rfl i q
theorem lhs1 (i : S512x896.Idx) (q : D.contr.Idx) : (D.lhsIdx i q 1).val = (i 0).val := by
  unfold DotDims.lhsIdx
  rw [dif_neg (show ¬(1 : Fin S2048x512.rank) ∈ D.lhsBatch by decide), dif_pos (show (1 : Fin S2048x512.rank) ∈ D.lhsNonContracting by decide)]
  rfl
theorem rhs1 (i : S512x896.Idx) (q : D.contr.Idx) : (D.rhsIdx i q 1).val = (i 1).val := by
  unfold DotDims.rhsIdx
  rw [dif_neg (show ¬(1 : Fin S2048x896.rank) ∈ D.rhsBatch by decide), dif_pos (show (1 : Fin S2048x896.rank) ∈ D.rhsNonContracting by decide)]
  rfl

/-- The tile's product read at an index: the sum over the tokens of the tile. -/
theorem dot_apply (x : FVec Ideal S2048x512 .bf16) (y : FVec Ideal S2048x896 .bf16) (i : S512x896.Idx) :
    matmul D none x y (constant S512x896 .f32 0x00000000#32) i = ∑ k : Fin 2048, (x (ix2 k (i 0)) : EReal) * y (ix2 k (i 1)) := by
  simp only [matmul]
  rw [Ideal.matmul_constant_zero_apply, ← Equiv.sum_comp (contrEquiv1 D 2048 rfl rfl).symm]
  refine Finset.sum_congr rfl fun k _ => ?_
  have hk := contrEquiv1_symm_val D 2048 rfl rfl k
  have el : D.lhsIdx i ((contrEquiv1 D 2048 rfl rfl).symm k) = ix2 k (i 0) := funext fun a => Fin.ext (by
    match a with
    | ⟨0, _⟩ => exact (lhs0 _ _).trans hk
    | ⟨1, _⟩ => exact lhs1 _ _)
  have er : D.rhsIdx i ((contrEquiv1 D 2048 rfl rfl).symm k) = ix2 k (i 1) := funext fun a => Fin.ext (by
    match a with
    | ⟨0, _⟩ => exact (rhs0 _ _).trans hk
    | ⟨1, _⟩ => exact rhs1 _ _)
  rw [el, er]; rfl

/-- What one grid point stores, read at an index. -/
theorem tile_apply (x : Vec Ideal S2048x512 .bf16) (y : Vec Ideal S2048x896 .bf16) (i : S1x512x896.Idx) :
    k0_pay1 (F := Ideal) x y i = ∑ k : Fin 2048, (x (ix2 k (i 1)) : EReal) * y (ix2 k (i 2)) := by
  unfold k0_pay1
  rw [shapeCast_apply _ shapeCasts_S512x896_S1x512x896 i (ix2 (i 1) (i 2)) (by
    rewrite [Shape.rowMajor_val_two, Shape.rowMajor_val_three]
    have h0 : (i 0).val < 1 := (i 0).isLt
    show (i 1).val * 896 + (i 2).val = ((i 0).val * 512 + (i 1).val) * 896 + (i 2).val
    omega), dot_apply]
  refine Finset.sum_congr rfl fun k _ => ?_
  rw [shapeCast_self, shapeCast_self]

theorem zero2 : (![0, 0] : Fin 2 → Nat) = fun _ => 0 := funext fun a => by fin_cases a <;> rfl
theorem zero3 : (![0, 0, 0] : Fin 3 → Nat) = fun _ => 0 := funext fun a => by fin_cases a <;> rfl

theorem out_eq (x0 : Vec Ideal S2048x512 .bf16) (x1 : Vec Ideal S2048x896 .bf16) : out0_2 (F := Ideal) x0 x1 = k0_pay1 x0 x1 := by
  unfold out0_2
  rw [View.canon_unit_zero zero3, View.ld_unit_zero (S := S2048x512) zero2, View.ld_unit_zero (S := S2048x896) zero2]

/-! ## What the launch finds in its operands -/

/-- The launch's left operand. -/
def left (c : Dev nD) : S2048x1024.Idx → EReal := V m c main_v0

theorem left_eq (c : Dev nD) : V m c main_v0 = (truncf .bf16 (m ((c : Thread nD τ).loc main_arg0)) bitsLt_bf16_f32 : FVec Ideal S2048x1024 .bf16) := by
  rfl

theorem left_apply (c : Dev nD) (k : Fin 2048) (r : Fin 1024) :
    left m c (ix2 k r) = m ((c : Thread nD τ).loc main_arg0) (ix2 k r) := by
  unfold left
  rw [left_eq]; rfl

/-- The launch's right operand. -/
def right (c : Dev nD) : S2048x3584.Idx → EReal := V m c main_v1

theorem right_eq (c : Dev nD) : V m c main_v1 = (truncf .bf16 (m ((c : Thread nD τ).loc main_arg2)) bitsLt_bf16_f32 : FVec Ideal S2048x3584 .bf16) := by
  rfl

theorem right_apply (c : Dev nD) (k : Fin 2048) (r : Fin 3584) :
    right m c (ix2 k r) = m ((c : Thread nD τ).loc main_arg2) (ix2 k r) := by
  unfold right
  rw [right_eq]; rfl

/-! ## The array the launch leaves -/

/-- The gradient, index by index, as sums over all the tokens. -/
def G (c : Dev nD) : Buf (Elt Ideal) ((c : Thread nD τ).loc main_v2) := fun (i : S4x512x896.Idx) =>
  (∑ k : Fin 2048, left m c (ix2 k (⟨0 + (i 1).val, by have h1 : (i 1).val < 512 := (i 1).isLt; omega⟩ : Fin 1024)) * right m c (ix2 k (⟨(i 0).val * 896 + (i 2).val, by have h0 : (i 0).val < 4 := (i 0).isLt; have h2 : (i 2).val < 896 := (i 2).isLt; omega⟩ : Fin 3584)) : EReal)

theorem idx_facts : ∀ t : Fin cfg0.N, win0_0.index t = ![0, 0] ∧ win0_1.index t = ![0, t.val] ∧ win0_2.index t = ![t.val, 0, 0] :=
  (by decide +kernel : ∀ t : Fin grid0.N, _)

theorem block_left (c : Dev nD) (t : Fin cfg0.N) (k : Fin 2048) (r : Fin 512) (j : S2048x1024.Idx)
    (h0 : (j 0).val = k.val) (h1 : (j 1).val = 0 + r.val) :
    (iblk m c 0 t : S2048x512.Idx → EReal) (ix2 k r) = left m c j := by
  have e0 := (idx_facts t).1
  refine congrArg (V m c main_v0) (funext fun a => Fin.ext ?_)
  match a with
  | ⟨0, _⟩ => refine Eq.trans (b := win0_0.index t (0 : Fin 2) * 2048 + 1 * k.val) rfl ?_; rw [e0]; refine Eq.trans ?_ h0.symm; show 0 * 2048 + 1 * k.val = k.val; omega
  | ⟨1, _⟩ => refine Eq.trans (b := win0_0.index t (1 : Fin 2) * 512 + 1 * r.val) rfl ?_; rw [e0]; refine Eq.trans ?_ h1.symm; show 0 * 512 + 1 * r.val = 0 + r.val; omega

theorem block_right (c : Dev nD) (t : Fin cfg0.N) (k : Fin 2048) (r : Fin 896) (j : S2048x3584.Idx)
    (h0 : (j 0).val = k.val) (h1 : (j 1).val = t.val * 896 + r.val) :
    (iblk m c 1 t : S2048x896.Idx → EReal) (ix2 k r) = right m c j := by
  have e1 := (idx_facts t).2.1
  refine congrArg (V m c main_v1) (funext fun a => Fin.ext ?_)
  match a with
  | ⟨0, _⟩ => refine Eq.trans (b := win0_1.index t (0 : Fin 2) * 2048 + 1 * k.val) rfl ?_; rw [e1]; refine Eq.trans ?_ h0.symm; show 0 * 2048 + 1 * k.val = k.val; omega
  | ⟨1, _⟩ => refine Eq.trans (b := win0_1.index t (1 : Fin 2) * 896 + 1 * r.val) rfl ?_; rw [e1]; refine Eq.trans ?_ h1.symm; show t.val * 896 + 1 * r.val = t.val * 896 + r.val; omega

theorem flushed_eq (c : Dev nD) (t : Fin cfg0.N) :
    (dats m 0 c).flushed 2 t = ((cfg0.win 2).blk t).view.read (Elt Ideal) (G m c) := by
  rw [Value.flushed2, out_eq]
  have e2 := (idx_facts t).2.2
  funext y
  have hy0 : (y 0).val < 1 := (y 0).isLt
  have hb0 : (((cfg0.win 2).blk t).view.emb y 0).val = t.val := by
    refine Eq.trans (b := win0_2.index t (0 : Fin 3) * 1 + 1 * (y 0).val) rfl ?_
    rw [e2]; show t.val * 1 + 1 * (y 0).val = t.val; omega
  have hb1 : (((cfg0.win 2).blk t).view.emb y 1).val = (y 1).val := by
    refine Eq.trans (b := win0_2.index t (1 : Fin 3) * 512 + 1 * (y 1).val) rfl ?_
    rw [e2]; show 0 * 512 + 1 * (y 1).val = (y 1).val; omega
  have hb2 : (((cfg0.win 2).blk t).view.emb y 2).val = (y 2).val := by
    refine Eq.trans (b := win0_2.index t (2 : Fin 3) * 896 + 1 * (y 2).val) rfl ?_
    rw [e2]; show 0 * 896 + 1 * (y 2).val = (y 2).val; omega
  show k0_pay1 (F := Ideal) (iblk m c 0 t) (iblk m c 1 t) ((cfg0.win 2).xinj (grid0.coords t) y) = G m c (((cfg0.win 2).blk t).view.emb y)
  refine (tile_apply _ _ _).trans ?_
  unfold G
  exact Finset.sum_congr rfl fun k _ => congrArg₂ (fun a b : EReal => a * b)
    (block_left m c t k ⟨(y 1).val, (y 1).isLt⟩ _ rfl (congrArg (0 + ·) hb1)) (block_right m c t k ⟨(y 2).val, (y 2).isLt⟩ _ rfl (congrArg₂ (fun a b : Nat => a * 896 + b) hb0 hb2))

theorem mem_blk (t : Fin cfg0.N) (i : S4x512x896.Idx) :
    i ∈ ((cfg0.win 2).blk t).view.set ↔ ∀ a : Fin 3, win0_2.index t a * S1x512x896.size a ≤ (i a).val ∧ (i a).val < win0_2.index t a * S1x512x896.size a + S1x512x896.size a := by
  show i ∈ ((View.whole main_v2).slice (win0_2.rect t)).set ↔ _
  rw [View.set_slice_whole, Rect.mem_set_unit]
  exact Iff.rfl

theorem covered (i : S4x512x896.Idx) : ∃ t : Fin cfg0.N, (cfg0.win 2).flush t = true ∧ i ∈ ((cfg0.win 2).blk t).view.set := by
  have h0 : (i 0).val < 4 := (i 0).isLt
  have h1 : (i 1).val < 512 := (i 1).isLt
  have h2 : (i 2).val < 896 := (i 2).isLt
  refine ⟨⟨(i 0).val, lt_of_lt_of_eq h0 (show 4 = cfg0.N from N_0.symm)⟩, (by decide +kernel : ∀ t : Fin grid0.N, win0_2.flush t = true) _, ?_⟩
  rw [mem_blk]
  obtain ⟨-, -, e2⟩ := idx_facts ⟨(i 0).val, lt_of_lt_of_eq h0 (show 4 = cfg0.N from N_0.symm)⟩
  rw [e2]
  intro a
  match a with
  | ⟨0, _⟩ => show (i 0).val * 1 ≤ (i 0).val ∧ (i 0).val < (i 0).val * 1 + 1; omega
  | ⟨1, _⟩ => show 0 * 512 ≤ (i 1).val ∧ (i 1).val < 0 * 512 + 512; omega
  | ⟨2, _⟩ => show 0 * 896 ≤ (i 2).val ∧ (i 2).val < 0 * 896 + 896; omega

theorem final (c : Dev nD) : (dats m 0 c).arrAt 2 cfg0.N = G m c :=
  (dats m 0 c).arrAt_eq_of_cover 2 _ (fun t _ => flushed_eq m c t) covered

/-! ## The reference's array, and the claim -/

open Cert.Reference5Ideal.Read in
theorem reference_eq (c : Dev nD) :
    val_main_v5 (F := Ideal) (m ((c : Thread nD τ).loc main_arg0)) (m ((c : Thread nD τ).loc main_arg2)) = G m c := by
  funext (i : S4x512x896.Idx)
  have h0 : (i 0).val < 4 := (i 0).isLt
  have h1 : (i 1).val < 512 := (i 1).isLt
  have h2 : (i 2).val < 896 := (i 2).isLt
  rw [val_main_v5_apply, val_main_v4_apply, val_main_v3_apply, val_main_v2_apply, val_main_v1_apply]
  unfold G
  refine Finset.sum_congr rfl fun k _ => ?_
  refine (mul_comm _ _).trans (congrArg₂ (fun a b : EReal => a * b) (Eq.trans (congrArg _ (funext fun a => Fin.ext ?_)) (left_apply m c _ _).symm) (Eq.trans (congrArg _ (funext fun a => Fin.ext ?_)) (right_apply m c _ _).symm))
  · match a with
    | ⟨0, _⟩ => rfl
    | ⟨1, _⟩ => show (((i 1).val * 4 + (i 0).val) * 896 + (i 2).val) / 3584 = 0 + (i 1).val; omega
  · match a with
    | ⟨0, _⟩ => rfl
    | ⟨1, _⟩ => show (((i 1).val * 4 + (i 0).val) * 896 + (i 2).val) % 3584 = (i 0).val * 896 + (i 2).val; omega

theorem algebraic : Cert.algebraic_Kernel5Ideal_Reference5Ideal := by
  intro m g m' g' _ hagree
  refine ⟨G m, ?_, ?_⟩
  · exact (θ_run defs _ _).mono (fun r h c => ⟨(h c).1.trans (final m c), (h c).2⟩) (Value.run_blocks m g)
  · refine (θ_run Cert.Reference5Ideal.defs _ _).mono (fun r h c => ⟨?_, (h c).2⟩) (Cert.Reference5Ideal.Value.run (F := Ideal) m' g')
    refine ((h c).1.trans (Cert.Reference5Ideal.Read.val_main_v5_eq _ _)).trans ?_
    rw [(hagree c).1, (hagree c).2.2]
    exact reference_eq m c

end Cert.Proof.Product5

end
-- ==== Proof.Product6.lean ====
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.Value
public import Idealize.ShloMosaic.Lib.ValueIdx
public import Idealize.ShloMosaic.PureOps.Ideal.Laws

/-! The gradient of the input projection's weight, lower half of its rows: the launch's array, index by index, is the
sum over all tokens of the two operands' products, which is what the reference's product is. -/

@[expose] public section

set_option maxRecDepth 16384

noncomputable section

namespace Cert.Proof.Product6

open Cert.Kernel6Ideal Cert.Kernel6Ideal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The tile's product -/

abbrev D := dot_S2048x512_S2048x896_S512x896_0_0_1_1_n_n

theorem lhs0 (i : S512x896.Idx) (q : D.contr.Idx) : (D.lhsIdx i q 0).val = (q ⟨0, by decide⟩).val := D.lhsIdx_val_of_single rfl i q
theorem rhs0 (i : S512x896.Idx) (q : D.contr.Idx) : (D.rhsIdx i q 0).val = (q ⟨0, by decide⟩).val := D.rhsIdx_val_of_single rfl i q
theorem lhs1 (i : S512x896.Idx) (q : D.contr.Idx) : (D.lhsIdx i q 1).val = (i 0).val := by
  unfold DotDims.lhsIdx
  rw [dif_neg (show ¬(1 : Fin S2048x512.rank) ∈ D.lhsBatch by decide), dif_pos (show (1 : Fin S2048x512.rank) ∈ D.lhsNonContracting by decide)]
  rfl
theorem rhs1 (i : S512x896.Idx) (q : D.contr.Idx) : (D.rhsIdx i q 1).val = (i 1).val := by
  unfold DotDims.rhsIdx
  rw [dif_neg (show ¬(1 : Fin S2048x896.rank) ∈ D.rhsBatch by decide), dif_pos (show (1 : Fin S2048x896.rank) ∈ D.rhsNonContracting by decide)]
  rfl

/-- The tile's product read at an index: the sum over the tokens of the tile. -/
theorem dot_apply (x : FVec Ideal S2048x512 .bf16) (y : FVec Ideal S2048x896 .bf16) (i : S512x896.Idx) :
    matmul D none x y (constant S512x896 .f32 0x00000000#32) i = ∑ k : Fin 2048, (x (ix2 k (i 0)) : EReal) * y (ix2 k (i 1)) := by
  simp only [matmul]
  rw [Ideal.matmul_constant_zero_apply, ← Equiv.sum_comp (contrEquiv1 D 2048 rfl rfl).symm]
  refine Finset.sum_congr rfl fun k _ => ?_
  have hk := contrEquiv1_symm_val D 2048 rfl rfl k
  have el : D.lhsIdx i ((contrEquiv1 D 2048 rfl rfl).symm k) = ix2 k (i 0) := funext fun a => Fin.ext (by
    match a with
    | ⟨0, _⟩ => exact (lhs0 _ _).trans hk
    | ⟨1, _⟩ => exact lhs1 _ _)
  have er : D.rhsIdx i ((contrEquiv1 D 2048 rfl rfl).symm k) = ix2 k (i 1) := funext fun a => Fin.ext (by
    match a with
    | ⟨0, _⟩ => exact (rhs0 _ _).trans hk
    | ⟨1, _⟩ => exact rhs1 _ _)
  rw [el, er]; rfl

/-- What one grid point stores, read at an index. -/
theorem tile_apply (x : Vec Ideal S2048x512 .bf16) (y : Vec Ideal S2048x896 .bf16) (i : S1x512x896.Idx) :
    k0_pay1 (F := Ideal) x y i = ∑ k : Fin 2048, (x (ix2 k (i 1)) : EReal) * y (ix2 k (i 2)) := by
  unfold k0_pay1
  rw [shapeCast_apply _ shapeCasts_S512x896_S1x512x896 i (ix2 (i 1) (i 2)) (by
    rewrite [Shape.rowMajor_val_two, Shape.rowMajor_val_three]
    have h0 : (i 0).val < 1 := (i 0).isLt
    show (i 1).val * 896 + (i 2).val = ((i 0).val * 512 + (i 1).val) * 896 + (i 2).val
    omega), dot_apply]
  refine Finset.sum_congr rfl fun k _ => ?_
  rw [shapeCast_self, shapeCast_self]

theorem zero2 : (![0, 0] : Fin 2 → Nat) = fun _ => 0 := funext fun a => by fin_cases a <;> rfl
theorem zero3 : (![0, 0, 0] : Fin 3 → Nat) = fun _ => 0 := funext fun a => by fin_cases a <;> rfl

theorem out_eq (x0 : Vec Ideal S2048x512 .bf16) (x1 : Vec Ideal S2048x896 .bf16) : out0_2 (F := Ideal) x0 x1 = k0_pay1 x0 x1 := by
  unfold out0_2
  rw [View.canon_unit_zero zero3, View.ld_unit_zero (S := S2048x512) zero2, View.ld_unit_zero (S := S2048x896) zero2]

/-! ## What the launch finds in its operands -/

/-- The launch's left operand. -/
def left (c : Dev nD) : S2048x1024.Idx → EReal := V m c main_v0

theorem left_eq (c : Dev nD) : V m c main_v0 = (truncf .bf16 (m ((c : Thread nD τ).loc main_arg0)) bitsLt_bf16_f32 : FVec Ideal S2048x1024 .bf16) := by
  rfl

theorem left_apply (c : Dev nD) (k : Fin 2048) (r : Fin 1024) :
    left m c (ix2 k r) = m ((c : Thread nD τ).loc main_arg0) (ix2 k r) := by
  unfold left
  rw [left_eq]; rfl

/-- The launch's right operand. -/
def right (c : Dev nD) : S2048x3584.Idx → EReal := V m c main_v1

theorem right_eq (c : Dev nD) : V m c main_v1 = (truncf .bf16 (m ((c : Thread nD τ).loc main_arg2)) bitsLt_bf16_f32 : FVec Ideal S2048x3584 .bf16) := by
  rfl

theorem right_apply (c : Dev nD) (k : Fin 2048) (r : Fin 3584) :
    right m c (ix2 k r) = m ((c : Thread nD τ).loc main_arg2) (ix2 k r) := by
  unfold right
  rw [right_eq]; rfl

/-! ## The array the launch leaves -/

/-- The gradient, index by index, as sums over all the tokens. -/
def G (c : Dev nD) : Buf (Elt Ideal) ((c : Thread nD τ).loc main_v2) := fun (i : S4x512x896.Idx) =>
  (∑ k : Fin 2048, left m c (ix2 k (⟨512 + (i 1).val, by have h1 : (i 1).val < 512 := (i 1).isLt; omega⟩ : Fin 1024)) * right m c (ix2 k (⟨(i 0).val * 896 + (i 2).val, by have h0 : (i 0).val < 4 := (i 0).isLt; have h2 : (i 2).val < 896 := (i 2).isLt; omega⟩ : Fin 3584)) : EReal)

theorem idx_facts : ∀ t : Fin cfg0.N, win0_0.index t = ![0, 1] ∧ win0_1.index t = ![0, t.val] ∧ win0_2.index t = ![t.val, 0, 0] :=
  (by decide +kernel : ∀ t : Fin grid0.N, _)

theorem block_left (c : Dev nD) (t : Fin cfg0.N) (k : Fin 2048) (r : Fin 512) (j : S2048x1024.Idx)
    (h0 : (j 0).val = k.val) (h1 : (j 1).val = 512 + r.val) :
    (iblk m c 0 t : S2048x512.Idx → EReal) (ix2 k r) = left m c j := by
  have e0 := (idx_facts t).1
  refine congrArg (V m c main_v0) (funext fun a => Fin.ext ?_)
  match a with
  | ⟨0, _⟩ => refine Eq.trans (b := win0_0.index t (0 : Fin 2) * 2048 + 1 * k.val) rfl ?_; rw [e0]; refine Eq.trans ?_ h0.symm; show 0 * 2048 + 1 * k.val = k.val; omega
  | ⟨1, _⟩ => refine Eq.trans (b := win0_0.index t (1 : Fin 2) * 512 + 1 * r.val) rfl ?_; rw [e0]; refine Eq.trans ?_ h1.symm; show 1 * 512 + 1 * r.val = 512 + r.val; omega

theorem block_right (c : Dev nD) (t : Fin cfg0.N) (k : Fin 2048) (r : Fin 896) (j : S2048x3584.Idx)
    (h0 : (j 0).val = k.val) (h1 : (j 1).val = t.val * 896 + r.val) :
    (iblk m c 1 t : S2048x896.Idx → EReal) (ix2 k r) = right m c j := by
  have e1 := (idx_facts t).2.1
  refine congrArg (V m c main_v1) (funext fun a => Fin.ext ?_)
  match a with
  | ⟨0, _⟩ => refine Eq.trans (b := win0_1.index t (0 : Fin 2) * 2048 + 1 * k.val) rfl ?_; rw [e1]; refine Eq.trans ?_ h0.symm; show 0 * 2048 + 1 * k.val = k.val; omega
  | ⟨1, _⟩ => refine Eq.trans (b := win0_1.index t (1 : Fin 2) * 896 + 1 * r.val) rfl ?_; rw [e1]; refine Eq.trans ?_ h1.symm; show t.val * 896 + 1 * r.val = t.val * 896 + r.val; omega

theorem flushed_eq (c : Dev nD) (t : Fin cfg0.N) :
    (dats m 0 c).flushed 2 t = ((cfg0.win 2).blk t).view.read (Elt Ideal) (G m c) := by
  rw [Value.flushed2, out_eq]
  have e2 := (idx_facts t).2.2
  funext y
  have hy0 : (y 0).val < 1 := (y 0).isLt
  have hb0 : (((cfg0.win 2).blk t).view.emb y 0).val = t.val := by
    refine Eq.trans (b := win0_2.index t (0 : Fin 3) * 1 + 1 * (y 0).val) rfl ?_
    rw [e2]; show t.val * 1 + 1 * (y 0).val = t.val; omega
  have hb1 : (((cfg0.win 2).blk t).view.emb y 1).val = (y 1).val := by
    refine Eq.trans (b := win0_2.index t (1 : Fin 3) * 512 + 1 * (y 1).val) rfl ?_
    rw [e2]; show 0 * 512 + 1 * (y 1).val = (y 1).val; omega
  have hb2 : (((cfg0.win 2).blk t).view.emb y 2).val = (y 2).val := by
    refine Eq.trans (b := win0_2.index t (2 : Fin 3) * 896 + 1 * (y 2).val) rfl ?_
    rw [e2]; show 0 * 896 + 1 * (y 2).val = (y 2).val; omega
  show k0_pay1 (F := Ideal) (iblk m c 0 t) (iblk m c 1 t) ((cfg0.win 2).xinj (grid0.coords t) y) = G m c (((cfg0.win 2).blk t).view.emb y)
  refine (tile_apply _ _ _).trans ?_
  unfold G
  exact Finset.sum_congr rfl fun k _ => congrArg₂ (fun a b : EReal => a * b)
    (block_left m c t k ⟨(y 1).val, (y 1).isLt⟩ _ rfl (congrArg (512 + ·) hb1)) (block_right m c t k ⟨(y 2).val, (y 2).isLt⟩ _ rfl (congrArg₂ (fun a b : Nat => a * 896 + b) hb0 hb2))

theorem mem_blk (t : Fin cfg0.N) (i : S4x512x896.Idx) :
    i ∈ ((cfg0.win 2).blk t).view.set ↔ ∀ a : Fin 3, win0_2.index t a * S1x512x896.size a ≤ (i a).val ∧ (i a).val < win0_2.index t a * S1x512x896.size a + S1x512x896.size a := by
  show i ∈ ((View.whole main_v2).slice (win0_2.rect t)).set ↔ _
  rw [View.set_slice_whole, Rect.mem_set_unit]
  exact Iff.rfl

theorem covered (i : S4x512x896.Idx) : ∃ t : Fin cfg0.N, (cfg0.win 2).flush t = true ∧ i ∈ ((cfg0.win 2).blk t).view.set := by
  have h0 : (i 0).val < 4 := (i 0).isLt
  have h1 : (i 1).val < 512 := (i 1).isLt
  have h2 : (i 2).val < 896 := (i 2).isLt
  refine ⟨⟨(i 0).val, lt_of_lt_of_eq h0 (show 4 = cfg0.N from N_0.symm)⟩, (by decide +kernel : ∀ t : Fin grid0.N, win0_2.flush t = true) _, ?_⟩
  rw [mem_blk]
  obtain ⟨-, -, e2⟩ := idx_facts ⟨(i 0).val, lt_of_lt_of_eq h0 (show 4 = cfg0.N from N_0.symm)⟩
  rw [e2]
  intro a
  match a with
  | ⟨0, _⟩ => show (i 0).val * 1 ≤ (i 0).val ∧ (i 0).val < (i 0).val * 1 + 1; omega
  | ⟨1, _⟩ => show 0 * 512 ≤ (i 1).val ∧ (i 1).val < 0 * 512 + 512; omega
  | ⟨2, _⟩ => show 0 * 896 ≤ (i 2).val ∧ (i 2).val < 0 * 896 + 896; omega

theorem final (c : Dev nD) : (dats m 0 c).arrAt 2 cfg0.N = G m c :=
  (dats m 0 c).arrAt_eq_of_cover 2 _ (fun t _ => flushed_eq m c t) covered

/-! ## The reference's array, and the claim -/

open Cert.Reference6Ideal.Read in
theorem reference_eq (c : Dev nD) :
    val_main_v5 (F := Ideal) (m ((c : Thread nD τ).loc main_arg0)) (m ((c : Thread nD τ).loc main_arg2)) = G m c := by
  funext (i : S4x512x896.Idx)
  have h0 : (i 0).val < 4 := (i 0).isLt
  have h1 : (i 1).val < 512 := (i 1).isLt
  have h2 : (i 2).val < 896 := (i 2).isLt
  rw [val_main_v5_apply, val_main_v4_apply, val_main_v3_apply, val_main_v2_apply, val_main_v1_apply]
  unfold G
  refine Finset.sum_congr rfl fun k _ => ?_
  refine (mul_comm _ _).trans (congrArg₂ (fun a b : EReal => a * b) (Eq.trans (congrArg _ (funext fun a => Fin.ext ?_)) (left_apply m c _ _).symm) (Eq.trans (congrArg _ (funext fun a => Fin.ext ?_)) (right_apply m c _ _).symm))
  · match a with
    | ⟨0, _⟩ => rfl
    | ⟨1, _⟩ => show 512 + (((i 1).val * 4 + (i 0).val) * 896 + (i 2).val) / 3584 = 512 + (i 1).val; omega
  · match a with
    | ⟨0, _⟩ => rfl
    | ⟨1, _⟩ => show (((i 1).val * 4 + (i 0).val) * 896 + (i 2).val) % 3584 = (i 0).val * 896 + (i 2).val; omega

theorem algebraic : Cert.algebraic_Kernel6Ideal_Reference6Ideal := by
  intro m g m' g' _ hagree
  refine ⟨G m, ?_, ?_⟩
  · exact (θ_run defs _ _).mono (fun r h c => ⟨(h c).1.trans (final m c), (h c).2⟩) (Value.run_blocks m g)
  · refine (θ_run Cert.Reference6Ideal.defs _ _).mono (fun r h c => ⟨?_, (h c).2⟩) (Cert.Reference6Ideal.Value.run (F := Ideal) m' g')
    refine ((h c).1.trans (Cert.Reference6Ideal.Read.val_main_v5_eq _ _)).trans ?_
    rw [(hagree c).1, (hagree c).2.2]
    exact reference_eq m c

end Cert.Proof.Product6

end
-- ==== Proof.Product7.lean ====
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.Value
public import Idealize.ShloMosaic.Lib.ValueIdx
public import Idealize.ShloMosaic.PureOps.Ideal.Laws

/-! The gradient of the output projection's weight: the launch's array, index by index, is the
sum over all tokens of the two operands' products, which is what the reference's product is. -/

@[expose] public section

set_option maxRecDepth 16384

noncomputable section

namespace Cert.Proof.Product7

open Cert.Kernel7Ideal Cert.Kernel7Ideal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The tile's product -/

abbrev D := dot_S1024x1024_S1024x512_S1024x512_0_0_1_1_n_n

theorem lhs0 (i : S1024x512.Idx) (q : D.contr.Idx) : (D.lhsIdx i q 0).val = (q ⟨0, by decide⟩).val := D.lhsIdx_val_of_single rfl i q
theorem rhs0 (i : S1024x512.Idx) (q : D.contr.Idx) : (D.rhsIdx i q 0).val = (q ⟨0, by decide⟩).val := D.rhsIdx_val_of_single rfl i q
theorem lhs1 (i : S1024x512.Idx) (q : D.contr.Idx) : (D.lhsIdx i q 1).val = (i 0).val := by
  unfold DotDims.lhsIdx
  rw [dif_neg (show ¬(1 : Fin S1024x1024.rank) ∈ D.lhsBatch by decide), dif_pos (show (1 : Fin S1024x1024.rank) ∈ D.lhsNonContracting by decide)]
  rfl
theorem rhs1 (i : S1024x512.Idx) (q : D.contr.Idx) : (D.rhsIdx i q 1).val = (i 1).val := by
  unfold DotDims.rhsIdx
  rw [dif_neg (show ¬(1 : Fin S1024x512.rank) ∈ D.rhsBatch by decide), dif_pos (show (1 : Fin S1024x512.rank) ∈ D.rhsNonContracting by decide)]
  rfl

/-- The tile's product read at an index: the sum over the tokens of the tile. -/
theorem dot_apply (x : FVec Ideal S1024x1024 .bf16) (y : FVec Ideal S1024x512 .bf16) (i : S1024x512.Idx) :
    matmul D none x y (constant S1024x512 .f32 0x00000000#32) i = ∑ k : Fin 1024, (x (ix2 k (i 0)) : EReal) * y (ix2 k (i 1)) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx i ((contrEquiv1 D 1024 rfl rfl).symm k) = ix2 k (i 0) := funext fun a => Fin.ext (by
    match a with
    | ⟨0, _⟩ => exact (lhs0 _ _).trans hk
    | ⟨1, _⟩ => exact lhs1 _ _)
  have er : D.rhsIdx i ((contrEquiv1 D 1024 rfl rfl).symm k) = ix2 k (i 1) := funext fun a => Fin.ext (by
    match a with
    | ⟨0, _⟩ => exact (rhs0 _ _).trans hk
    | ⟨1, _⟩ => exact rhs1 _ _)
  rw [el, er]; rfl

/-- The tile of zeros a run of grid points begins with. -/
theorem zero_apply (i : S1024x512.Idx) : (k0_pay1 (F := Ideal) i : EReal) = 0 := by
  unfold k0_pay1
  rw [shapeCast_self]
  exact Ideal.ofBits_zero_f32

/-- What one grid point adds to the tile, read at an index. -/
theorem step_apply (acc : Vec Ideal S1024x512 .f32) (x : Vec Ideal S1024x1024 .bf16) (y : Vec Ideal S1024x512 .f32) (i : S1024x512.Idx) :
    (k0_pay2 (F := Ideal) acc x y i : EReal) = (acc i : EReal) + ∑ k : Fin 1024, (x (ix2 k (i 0)) : EReal) * y (ix2 k (i 1)) := by
  unfold k0_pay2
  rw [shapeCast_self]
  refine congrArg (fun b : EReal => (acc i : EReal) + b) ((dot_apply _ _ _).trans ?_)
  refine Finset.sum_congr rfl fun k _ => ?_
  rw [shapeCast_self]; rfl

/-! ## What the launch finds in its operands -/

/-- The launch's left operand. -/
def left (c : Dev nD) : S2048x1024.Idx → EReal := V m c main_v0

theorem left_eq (c : Dev nD) : V m c main_v0 = (truncf .bf16 (m ((c : Thread nD τ).loc main_arg0)) bitsLt_bf16_f32 : FVec Ideal S2048x1024 .bf16) := by
  rfl

theorem left_apply (c : Dev nD) (k : Fin 2048) (r : Fin 1024) :
    left m c (ix2 k r) = m ((c : Thread nD τ).loc main_arg0) (ix2 k r) := by
  unfold left
  rw [left_eq]; rfl

/-- The launch's right operand. -/
def right (c : Dev nD) : S2048x1024.Idx → EReal := V m c main_arg2

theorem right_eq (c : Dev nD) : V m c main_arg2 = m ((c : Thread nD τ).loc main_arg2) := by
  rfl

theorem right_apply (c : Dev nD) (k : Fin 2048) (r : Fin 1024) :
    right m c (ix2 k r) = m ((c : Thread nD τ).loc main_arg2) (ix2 k r) := by
  unfold right
  rw [right_eq]

/-! ## The array the launch leaves -/

/-- The gradient, index by index, as sums over all the tokens. -/
def G (c : Dev nD) : Buf (Elt Ideal) ((c : Thread nD τ).loc main_v1) := fun (i : S1024x1024.Idx) =>
  (∑ k : Fin 2048, left m c (ix2 k (⟨(i 0).val, (i 0).isLt⟩ : Fin 1024)) * right m c (ix2 k (⟨(i 1).val, (i 1).isLt⟩ : Fin 1024)) : EReal)

theorem idx_facts : ∀ t : Fin cfg0.N, win0_0.index t = ![t.val % 2, 0] ∧ win0_1.index t = ![t.val % 2, t.val / 2] :=
  (by decide +kernel : ∀ t : Fin grid0.N, _)

theorem block_left (c : Dev nD) (t : Fin cfg0.N) (k : Fin 1024) (r : Fin 1024) (j : S2048x1024.Idx)
    (h0 : (j 0).val = t.val % 2 * 1024 + k.val) (h1 : (j 1).val = r.val) :
    (iblk m c 0 t : S1024x1024.Idx → EReal) (ix2 k r) = left m c j := by
  have e0 := (idx_facts t).1
  refine congrArg (V m c main_v0) (funext fun a => Fin.ext ?_)
  match a with
  | ⟨0, _⟩ => refine Eq.trans (b := win0_0.index t (0 : Fin 2) * 1024 + 1 * k.val) rfl ?_; rw [e0]; refine Eq.trans ?_ h0.symm; show t.val % 2 * 1024 + 1 * k.val = t.val % 2 * 1024 + k.val; omega
  | ⟨1, _⟩ => refine Eq.trans (b := win0_0.index t (1 : Fin 2) * 1024 + 1 * r.val) rfl ?_; rw [e0]; refine Eq.trans ?_ h1.symm; show 0 * 1024 + 1 * r.val = r.val; omega

theorem block_right (c : Dev nD) (t : Fin cfg0.N) (k : Fin 1024) (r : Fin 512) (j : S2048x1024.Idx)
    (h0 : (j 0).val = t.val % 2 * 1024 + k.val) (h1 : (j 1).val = t.val / 2 * 512 + r.val) :
    (iblk m c 1 t : S1024x512.Idx → EReal) (ix2 k r) = right m c j := by
  have e1 := (idx_facts t).2
  refine congrArg (V m c main_arg2) (funext fun a => Fin.ext ?_)
  match a with
  | ⟨0, _⟩ => refine Eq.trans (b := win0_1.index t (0 : Fin 2) * 1024 + 1 * k.val) rfl ?_; rw [e1]; refine Eq.trans ?_ h0.symm; show t.val % 2 * 1024 + 1 * k.val = t.val % 2 * 1024 + k.val; omega
  | ⟨1, _⟩ => refine Eq.trans (b := win0_1.index t (1 : Fin 2) * 512 + 1 * r.val) rfl ?_; rw [e1]; refine Eq.trans ?_ h1.symm; show t.val / 2 * 512 + 1 * r.val = t.val / 2 * 512 + r.val; omega

/-- The array the runs of grid points leave is the gradient: each run is two steps from a tile of zeros, and the two
    steps' sums are the sum over all the tokens. -/
theorem final (c : Dev nD) : Value.G2 m c = G m c := by
  funext (i : S1024x1024.Idx)
  have h0 : (i 0).val < 1024 := (i 0).isLt
  have h1 : (i 1).val < 1024 := (i 1).isLt
  have hr : Value.run2Of i = (i 1).val / 512 := by
    show 2 * ((i 0).val / 1024 - 0) + 1 * ((i 1).val / 512 - 0) = (i 1).val / 512
    omega
  have hlt : 2 * Value.run2Of i + 1 < cfg0.N := by rw [hr, show cfg0.N = 4 from N_0]; omega
  have hm0 : (⟨2 * Value.run2Of i, Nat.lt_of_succ_lt hlt⟩ : Fin cfg0.N).val % 2 = 0 := by show 2 * Value.run2Of i % 2 = 0; omega
  have hm1 : (⟨2 * Value.run2Of i + 1, hlt⟩ : Fin cfg0.N).val % 2 = 1 := by show (2 * Value.run2Of i + 1) % 2 = 1; omega
  have hd0 : (⟨2 * Value.run2Of i, Nat.lt_of_succ_lt hlt⟩ : Fin cfg0.N).val / 2 = (i 1).val / 512 := by show 2 * Value.run2Of i / 2 = _; omega
  have hd1 : (⟨2 * Value.run2Of i + 1, hlt⟩ : Fin cfg0.N).val / 2 = (i 1).val / 512 := by show (2 * Value.run2Of i + 1) / 2 = _; omega
  unfold Value.G2 G
  rw [dif_pos hlt]
  refine (step_apply _ _ _ _).trans ?_
  refine (congrArg (fun a : EReal => a + _) ((step_apply _ _ _ _).trans ((congrArg (fun a : EReal => a + _) (zero_apply _)).trans (zero_add _)))).trans ?_
  refine Eq.trans ?_ (Fin.sum_univ_add (a := 1024) (b := 1024) (fun k : Fin (1024 + 1024) => left m c (ix2 k (⟨(i 0).val, (i 0).isLt⟩ : Fin 1024)) * right m c (ix2 k (⟨(i 1).val, (i 1).isLt⟩ : Fin 1024)))).symm
  refine congrArg₂ (fun a b : EReal => a + b) (Finset.sum_congr rfl fun k _ => congrArg₂ (fun a b : EReal => a * b) ?_ ?_)
    (Finset.sum_congr rfl fun k _ => congrArg₂ (fun a b : EReal => a * b) ?_ ?_)
  · refine block_left m c _ k ⟨(i 0).val % 1024, by omega⟩ _ ?_ ?_
    · rw [hm0]; show k.val = 0 * 1024 + k.val; omega
    · show (i 0).val = (i 0).val % 1024; omega
  · refine block_right m c _ k ⟨(i 1).val % 512, by omega⟩ _ ?_ ?_
    · rw [hm0]; show k.val = 0 * 1024 + k.val; omega
    · rw [hd0]; show (i 1).val = (i 1).val / 512 * 512 + (i 1).val % 512; omega
  · refine block_left m c _ k ⟨(i 0).val % 1024, by omega⟩ _ ?_ ?_
    · rw [hm1]; show 1024 + k.val = 1 * 1024 + k.val; omega
    · show (i 0).val = (i 0).val % 1024; omega
  · refine block_right m c _ k ⟨(i 1).val % 512, by omega⟩ _ ?_ ?_
    · rw [hm1]; show 1024 + k.val = 1 * 1024 + k.val; omega
    · rw [hd1]; show (i 1).val = (i 1).val / 512 * 512 + (i 1).val % 512; omega

/-! ## The reference's array, and the claim -/

open Cert.Reference7Ideal.Read in
theorem reference_eq (c : Dev nD) :
    val_main_v2 (F := Ideal) (m ((c : Thread nD τ).loc main_arg0)) (m ((c : Thread nD τ).loc main_arg2)) = G m c := by
  funext (i : S1024x1024.Idx)
  have h0 : (i 0).val < 1024 := (i 0).isLt
  have h1 : (i 1).val < 1024 := (i 1).isLt
  rw [val_main_v2_apply, val_main_v1_apply]
  unfold G
  refine Finset.sum_congr rfl fun k _ => ?_
  refine (mul_comm _ _).trans (congrArg₂ (fun a b : EReal => a * b) (Eq.trans (congrArg _ (funext fun a => Fin.ext ?_)) (left_apply m c _ _).symm) (Eq.trans (congrArg _ (funext fun a => Fin.ext ?_)) (right_apply m c _ _).symm))
  · match a with
    | ⟨0, _⟩ => rfl
    | ⟨1, _⟩ => show (i 0).val = (i 0).val; omega
  · match a with
    | ⟨0, _⟩ => rfl
    | ⟨1, _⟩ => show (i 1).val = (i 1).val; omega

theorem algebraic : Cert.algebraic_Kernel7Ideal_Reference7Ideal := by
  intro m g m' g' _ hagree
  refine ⟨G m, ?_, ?_⟩
  · exact (θ_run defs _ _).mono (fun r h c => ⟨(h c).1.trans (final m c), (h c).2⟩) (Value.run m g)
  · refine (θ_run Cert.Reference7Ideal.defs _ _).mono (fun r h c => ⟨?_, (h c).2⟩) (Cert.Reference7Ideal.Value.run (F := Ideal) m' g')
    refine ((h c).1.trans (Cert.Reference7Ideal.Read.val_main_v2_eq _ _)).trans ?_
    rw [(hagree c).1, (hagree c).2.2]
    exact reference_eq m c

end Cert.Proof.Product7

end
-- ==== Proof.Product8.lean ====
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.Value
public import Idealize.ShloMosaic.Lib.ValueIdx
public import Idealize.ShloMosaic.PureOps.Ideal.Laws

/-! The gradient of the recurrent branch's output weight: the launch's array, index by index, is the
sum over all tokens of the two operands' products, which is what the reference's product is. -/

@[expose] public section

set_option maxRecDepth 16384

noncomputable section

namespace Cert.Proof.Product8

open Cert.Kernel8Ideal Cert.Kernel8Ideal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The tile's product -/

abbrev D := dot_S1024x1024_S1024x512_S1024x512_0_0_1_1_n_n

theorem lhs0 (i : S1024x512.Idx) (q : D.contr.Idx) : (D.lhsIdx i q 0).val = (q ⟨0, by decide⟩).val := D.lhsIdx_val_of_single rfl i q
theorem rhs0 (i : S1024x512.Idx) (q : D.contr.Idx) : (D.rhsIdx i q 0).val = (q ⟨0, by decide⟩).val := D.rhsIdx_val_of_single rfl i q
theorem lhs1 (i : S1024x512.Idx) (q : D.contr.Idx) : (D.lhsIdx i q 1).val = (i 0).val := by
  unfold DotDims.lhsIdx
  rw [dif_neg (show ¬(1 : Fin S1024x1024.rank) ∈ D.lhsBatch by decide), dif_pos (show (1 : Fin S1024x1024.rank) ∈ D.lhsNonContracting by decide)]
  rfl
theorem rhs1 (i : S1024x512.Idx) (q : D.contr.Idx) : (D.rhsIdx i q 1).val = (i 1).val := by
  unfold DotDims.rhsIdx
  rw [dif_neg (show ¬(1 : Fin S1024x512.rank) ∈ D.rhsBatch by decide), dif_pos (show (1 : Fin S1024x512.rank) ∈ D.rhsNonContracting by decide)]
  rfl

/-- The tile's product read at an index: the sum over the tokens of the tile. -/
theorem dot_apply (x : FVec Ideal S1024x1024 .bf16) (y : FVec Ideal S1024x512 .bf16) (i : S1024x512.Idx) :
    matmul D none x y (constant S1024x512 .f32 0x00000000#32) i = ∑ k : Fin 1024, (x (ix2 k (i 0)) : EReal) * y (ix2 k (i 1)) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx i ((contrEquiv1 D 1024 rfl rfl).symm k) = ix2 k (i 0) := funext fun a => Fin.ext (by
    match a with
    | ⟨0, _⟩ => exact (lhs0 _ _).trans hk
    | ⟨1, _⟩ => exact lhs1 _ _)
  have er : D.rhsIdx i ((contrEquiv1 D 1024 rfl rfl).symm k) = ix2 k (i 1) := funext fun a => Fin.ext (by
    match a with
    | ⟨0, _⟩ => exact (rhs0 _ _).trans hk
    | ⟨1, _⟩ => exact rhs1 _ _)
  rw [el, er]; rfl

/-- The tile of zeros a run of grid points begins with. -/
theorem zero_apply (i : S1024x512.Idx) : (k0_pay1 (F := Ideal) i : EReal) = 0 := by
  unfold k0_pay1
  rw [shapeCast_self]
  exact Ideal.ofBits_zero_f32

/-- What one grid point adds to the tile, read at an index. -/
theorem step_apply (acc : Vec Ideal S1024x512 .f32) (x : Vec Ideal S1024x1024 .f32) (y : Vec Ideal S1024x512 .bf16) (i : S1024x512.Idx) :
    (k0_pay2 (F := Ideal) acc x y i : EReal) = (acc i : EReal) + ∑ k : Fin 1024, (x (ix2 k (i 0)) : EReal) * y (ix2 k (i 1)) := by
  unfold k0_pay2
  rw [shapeCast_self]
  refine congrArg (fun b : EReal => (acc i : EReal) + b) ((dot_apply _ _ _).trans ?_)
  refine Finset.sum_congr rfl fun k _ => ?_
  rw [shapeCast_self]; rfl

/-! ## What the launch finds in its operands -/

/-- The launch's left operand. -/
def left (c : Dev nD) : S2048x1024.Idx → EReal := V m c main_arg0

theorem left_eq (c : Dev nD) : V m c main_arg0 = m ((c : Thread nD τ).loc main_arg0) := by
  rfl

theorem left_apply (c : Dev nD) (k : Fin 2048) (r : Fin 1024) :
    left m c (ix2 k r) = m ((c : Thread nD τ).loc main_arg0) (ix2 k r) := by
  unfold left
  rw [left_eq]

/-- The launch's right operand. -/
def right (c : Dev nD) : S2048x1024.Idx → EReal := V m c main_v0

theorem right_eq (c : Dev nD) : V m c main_v0 = (truncf .bf16 (m ((c : Thread nD τ).loc main_arg2)) bitsLt_bf16_f32 : FVec Ideal S2048x1024 .bf16) := by
  rfl

theorem right_apply (c : Dev nD) (k : Fin 2048) (r : Fin 1024) :
    right m c (ix2 k r) = m ((c : Thread nD τ).loc main_arg2) (ix2 k r) := by
  unfold right
  rw [right_eq]; rfl

/-! ## The array the launch leaves -/

/-- The gradient, index by index, as sums over all the tokens. -/
def G (c : Dev nD) : Buf (Elt Ideal) ((c : Thread nD τ).loc main_v1) := fun (i : S1024x1024.Idx) =>
  (∑ k : Fin 2048, left m c (ix2 k (⟨(i 0).val, (i 0).isLt⟩ : Fin 1024)) * right m c (ix2 k (⟨(i 1).val, (i 1).isLt⟩ : Fin 1024)) : EReal)

theorem idx_facts : ∀ t : Fin cfg0.N, win0_0.index t = ![t.val % 2, 0] ∧ win0_1.index t = ![t.val % 2, t.val / 2] :=
  (by decide +kernel : ∀ t : Fin grid0.N, _)

theorem block_left (c : Dev nD) (t : Fin cfg0.N) (k : Fin 1024) (r : Fin 1024) (j : S2048x1024.Idx)
    (h0 : (j 0).val = t.val % 2 * 1024 + k.val) (h1 : (j 1).val = r.val) :
    (iblk m c 0 t : S1024x1024.Idx → EReal) (ix2 k r) = left m c j := by
  have e0 := (idx_facts t).1
  refine congrArg (V m c main_arg0) (funext fun a => Fin.ext ?_)
  match a with
  | ⟨0, _⟩ => refine Eq.trans (b := win0_0.index t (0 : Fin 2) * 1024 + 1 * k.val) rfl ?_; rw [e0]; refine Eq.trans ?_ h0.symm; show t.val % 2 * 1024 + 1 * k.val = t.val % 2 * 1024 + k.val; omega
  | ⟨1, _⟩ => refine Eq.trans (b := win0_0.index t (1 : Fin 2) * 1024 + 1 * r.val) rfl ?_; rw [e0]; refine Eq.trans ?_ h1.symm; show 0 * 1024 + 1 * r.val = r.val; omega

theorem block_right (c : Dev nD) (t : Fin cfg0.N) (k : Fin 1024) (r : Fin 512) (j : S2048x1024.Idx)
    (h0 : (j 0).val = t.val % 2 * 1024 + k.val) (h1 : (j 1).val = t.val / 2 * 512 + r.val) :
    (iblk m c 1 t : S1024x512.Idx → EReal) (ix2 k r) = right m c j := by
  have e1 := (idx_facts t).2
  refine congrArg (V m c main_v0) (funext fun a => Fin.ext ?_)
  match a with
  | ⟨0, _⟩ => refine Eq.trans (b := win0_1.index t (0 : Fin 2) * 1024 + 1 * k.val) rfl ?_; rw [e1]; refine Eq.trans ?_ h0.symm; show t.val % 2 * 1024 + 1 * k.val = t.val % 2 * 1024 + k.val; omega
  | ⟨1, _⟩ => refine Eq.trans (b := win0_1.index t (1 : Fin 2) * 512 + 1 * r.val) rfl ?_; rw [e1]; refine Eq.trans ?_ h1.symm; show t.val / 2 * 512 + 1 * r.val = t.val / 2 * 512 + r.val; omega

/-- The array the runs of grid points leave is the gradient: each run is two steps from a tile of zeros, and the two
    steps' sums are the sum over all the tokens. -/
theorem final (c : Dev nD) : Value.G2 m c = G m c := by
  funext (i : S1024x1024.Idx)
  have h0 : (i 0).val < 1024 := (i 0).isLt
  have h1 : (i 1).val < 1024 := (i 1).isLt
  have hr : Value.run2Of i = (i 1).val / 512 := by
    show 2 * ((i 0).val / 1024 - 0) + 1 * ((i 1).val / 512 - 0) = (i 1).val / 512
    omega
  have hlt : 2 * Value.run2Of i + 1 < cfg0.N := by rw [hr, show cfg0.N = 4 from N_0]; omega
  have hm0 : (⟨2 * Value.run2Of i, Nat.lt_of_succ_lt hlt⟩ : Fin cfg0.N).val % 2 = 0 := by show 2 * Value.run2Of i % 2 = 0; omega
  have hm1 : (⟨2 * Value.run2Of i + 1, hlt⟩ : Fin cfg0.N).val % 2 = 1 := by show (2 * Value.run2Of i + 1) % 2 = 1; omega
  have hd0 : (⟨2 * Value.run2Of i, Nat.lt_of_succ_lt hlt⟩ : Fin cfg0.N).val / 2 = (i 1).val / 512 := by show 2 * Value.run2Of i / 2 = _; omega
  have hd1 : (⟨2 * Value.run2Of i + 1, hlt⟩ : Fin cfg0.N).val / 2 = (i 1).val / 512 := by show (2 * Value.run2Of i + 1) / 2 = _; omega
  unfold Value.G2 G
  rw [dif_pos hlt]
  refine (step_apply _ _ _ _).trans ?_
  refine (congrArg (fun a : EReal => a + _) ((step_apply _ _ _ _).trans ((congrArg (fun a : EReal => a + _) (zero_apply _)).trans (zero_add _)))).trans ?_
  refine Eq.trans ?_ (Fin.sum_univ_add (a := 1024) (b := 1024) (fun k : Fin (1024 + 1024) => left m c (ix2 k (⟨(i 0).val, (i 0).isLt⟩ : Fin 1024)) * right m c (ix2 k (⟨(i 1).val, (i 1).isLt⟩ : Fin 1024)))).symm
  refine congrArg₂ (fun a b : EReal => a + b) (Finset.sum_congr rfl fun k _ => congrArg₂ (fun a b : EReal => a * b) ?_ ?_)
    (Finset.sum_congr rfl fun k _ => congrArg₂ (fun a b : EReal => a * b) ?_ ?_)
  · refine block_left m c _ k ⟨(i 0).val % 1024, by omega⟩ _ ?_ ?_
    · rw [hm0]; show k.val = 0 * 1024 + k.val; omega
    · show (i 0).val = (i 0).val % 1024; omega
  · refine block_right m c _ k ⟨(i 1).val % 512, by omega⟩ _ ?_ ?_
    · rw [hm0]; show k.val = 0 * 1024 + k.val; omega
    · rw [hd0]; show (i 1).val = (i 1).val / 512 * 512 + (i 1).val % 512; omega
  · refine block_left m c _ k ⟨(i 0).val % 1024, by omega⟩ _ ?_ ?_
    · rw [hm1]; show 1024 + k.val = 1 * 1024 + k.val; omega
    · show (i 0).val = (i 0).val % 1024; omega
  · refine block_right m c _ k ⟨(i 1).val % 512, by omega⟩ _ ?_ ?_
    · rw [hm1]; show 1024 + k.val = 1 * 1024 + k.val; omega
    · rw [hd1]; show (i 1).val = (i 1).val / 512 * 512 + (i 1).val % 512; omega

/-! ## The reference's array, and the claim -/

open Cert.Reference8Ideal.Read in
theorem reference_eq (c : Dev nD) :
    val_main_v2 (F := Ideal) (m ((c : Thread nD τ).loc main_arg0)) (m ((c : Thread nD τ).loc main_arg2)) = G m c := by
  funext (i : S1024x1024.Idx)
  have h0 : (i 0).val < 1024 := (i 0).isLt
  have h1 : (i 1).val < 1024 := (i 1).isLt
  rw [val_main_v2_apply, val_main_v1_apply]
  unfold G
  refine Finset.sum_congr rfl fun k _ => ?_
  refine (mul_comm _ _).trans (congrArg₂ (fun a b : EReal => a * b) (Eq.trans (congrArg _ (funext fun a => Fin.ext ?_)) (left_apply m c _ _).symm) (Eq.trans (congrArg _ (funext fun a => Fin.ext ?_)) (right_apply m c _ _).symm))
  · match a with
    | ⟨0, _⟩ => rfl
    | ⟨1, _⟩ => show (i 0).val = (i 0).val; omega
  · match a with
    | ⟨0, _⟩ => rfl
    | ⟨1, _⟩ => show (i 1).val = (i 1).val; omega

theorem algebraic : Cert.algebraic_Kernel8Ideal_Reference8Ideal := by
  intro m g m' g' _ hagree
  refine ⟨G m, ?_, ?_⟩
  · exact (θ_run defs _ _).mono (fun r h c => ⟨(h c).1.trans (final m c), (h c).2⟩) (Value.run m g)
  · refine (θ_run Cert.Reference8Ideal.defs _ _).mono (fun r h c => ⟨?_, (h c).2⟩) (Cert.Reference8Ideal.Value.run (F := Ideal) m' g')
    refine ((h c).1.trans (Cert.Reference8Ideal.Read.val_main_v2_eq _ _)).trans ?_
    rw [(hagree c).1, (hagree c).2.2]
    exact reference_eq m c

end Cert.Proof.Product8

end
-- ==== Proof.Product9.lean ====
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.Value
public import Idealize.ShloMosaic.Lib.ValueIdx
public import Idealize.ShloMosaic.PureOps.Ideal.Laws

/-! The gradient of the weight of the per-layer embedding's gate: the launch's array, index by index, is the
sum over all tokens of the two operands' products, which is what the reference's product is. -/

@[expose] public section

set_option maxRecDepth 16384

noncomputable section

namespace Cert.Proof.Product9

open Cert.Kernel9Ideal Cert.Kernel9Ideal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The tile's product -/

abbrev D := dot_S1024x1024_S1024x512_S1024x512_0_0_1_1_n_n

theorem lhs0 (i : S1024x512.Idx) (q : D.contr.Idx) : (D.lhsIdx i q 0).val = (q ⟨0, by decide⟩).val := D.lhsIdx_val_of_single rfl i q
theorem rhs0 (i : S1024x512.Idx) (q : D.contr.Idx) : (D.rhsIdx i q 0).val = (q ⟨0, by decide⟩).val := D.rhsIdx_val_of_single rfl i q
theorem lhs1 (i : S1024x512.Idx) (q : D.contr.Idx) : (D.lhsIdx i q 1).val = (i 0).val := by
  unfold DotDims.lhsIdx
  rw [dif_neg (show ¬(1 : Fin S1024x1024.rank) ∈ D.lhsBatch by decide), dif_pos (show (1 : Fin S1024x1024.rank) ∈ D.lhsNonContracting by decide)]
  rfl
theorem rhs1 (i : S1024x512.Idx) (q : D.contr.Idx) : (D.rhsIdx i q 1).val = (i 1).val := by
  unfold DotDims.rhsIdx
  rw [dif_neg (show ¬(1 : Fin S1024x512.rank) ∈ D.rhsBatch by decide), dif_pos (show (1 : Fin S1024x512.rank) ∈ D.rhsNonContracting by decide)]
  rfl

/-- The tile's product read at an index: the sum over the tokens of the tile. -/
theorem dot_apply (x : FVec Ideal S1024x1024 .bf16) (y : FVec Ideal S1024x512 .bf16) (i : S1024x512.Idx) :
    matmul D none x y (constant S1024x512 .f32 0x00000000#32) i = ∑ k : Fin 1024, (x (ix2 k (i 0)) : EReal) * y (ix2 k (i 1)) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx i ((contrEquiv1 D 1024 rfl rfl).symm k) = ix2 k (i 0) := funext fun a => Fin.ext (by
    match a with
    | ⟨0, _⟩ => exact (lhs0 _ _).trans hk
    | ⟨1, _⟩ => exact lhs1 _ _)
  have er : D.rhsIdx i ((contrEquiv1 D 1024 rfl rfl).symm k) = ix2 k (i 1) := funext fun a => Fin.ext (by
    match a with
    | ⟨0, _⟩ => exact (rhs0 _ _).trans hk
    | ⟨1, _⟩ => exact rhs1 _ _)
  rw [el, er]; rfl

/-- The tile of zeros a run of grid points begins with. -/
theorem zero_apply (i : S1024x512.Idx) : (k0_pay1 (F := Ideal) i : EReal) = 0 := by
  unfold k0_pay1
  rw [shapeCast_self]
  exact Ideal.ofBits_zero_f32

/-- What one grid point adds to the tile, read at an index. -/
theorem step_apply (acc : Vec Ideal S1024x512 .f32) (x : Vec Ideal S1024x1024 .bf16) (y : Vec Ideal S1024x512 .bf16) (i : S1024x512.Idx) :
    (k0_pay2 (F := Ideal) acc x y i : EReal) = (acc i : EReal) + ∑ k : Fin 1024, (x (ix2 k (i 0)) : EReal) * y (ix2 k (i 1)) := by
  unfold k0_pay2
  rw [shapeCast_self]
  refine congrArg (fun b : EReal => (acc i : EReal) + b) ((dot_apply _ _ _).trans ?_)
  refine Finset.sum_congr rfl fun k _ => ?_
  rw [shapeCast_self, shapeCast_self]

/-! ## What the launch finds in its operands -/

/-- The launch's left operand. -/
def left (c : Dev nD) : S2048x1024.Idx → EReal := V m c main_v0

theorem left_eq (c : Dev nD) : V m c main_v0 = (truncf .bf16 (m ((c : Thread nD τ).loc main_arg0)) bitsLt_bf16_f32 : FVec Ideal S2048x1024 .bf16) := by
  rfl

theorem left_apply (c : Dev nD) (k : Fin 2048) (r : Fin 1024) :
    left m c (ix2 k r) = m ((c : Thread nD τ).loc main_arg0) (ix2 k r) := by
  unfold left
  rw [left_eq]; rfl

/-- The launch's right operand. -/
def right (c : Dev nD) : S2048x1024.Idx → EReal := V m c main_v1

theorem right_eq (c : Dev nD) : V m c main_v1 = (truncf .bf16 (m ((c : Thread nD τ).loc main_arg2)) bitsLt_bf16_f32 : FVec Ideal S2048x1024 .bf16) := by
  rfl

theorem right_apply (c : Dev nD) (k : Fin 2048) (r : Fin 1024) :
    right m c (ix2 k r) = m ((c : Thread nD τ).loc main_arg2) (ix2 k r) := by
  unfold right
  rw [right_eq]; rfl

/-! ## The array the launch leaves -/

/-- The gradient, index by index, as sums over all the tokens. -/
def G (c : Dev nD) : Buf (Elt Ideal) ((c : Thread nD τ).loc main_v2) := fun (i : S1024x1024.Idx) =>
  (∑ k : Fin 2048, left m c (ix2 k (⟨(i 0).val, (i 0).isLt⟩ : Fin 1024)) * right m c (ix2 k (⟨(i 1).val, (i 1).isLt⟩ : Fin 1024)) : EReal)

theorem idx_facts : ∀ t : Fin cfg0.N, win0_0.index t = ![t.val % 2, 0] ∧ win0_1.index t = ![t.val % 2, t.val / 2] :=
  (by decide +kernel : ∀ t : Fin grid0.N, _)

theorem block_left (c : Dev nD) (t : Fin cfg0.N) (k : Fin 1024) (r : Fin 1024) (j : S2048x1024.Idx)
    (h0 : (j 0).val = t.val % 2 * 1024 + k.val) (h1 : (j 1).val = r.val) :
    (iblk m c 0 t : S1024x1024.Idx → EReal) (ix2 k r) = left m c j := by
  have e0 := (idx_facts t).1
  refine congrArg (V m c main_v0) (funext fun a => Fin.ext ?_)
  match a with
  | ⟨0, _⟩ => refine Eq.trans (b := win0_0.index t (0 : Fin 2) * 1024 + 1 * k.val) rfl ?_; rw [e0]; refine Eq.trans ?_ h0.symm; show t.val % 2 * 1024 + 1 * k.val = t.val % 2 * 1024 + k.val; omega
  | ⟨1, _⟩ => refine Eq.trans (b := win0_0.index t (1 : Fin 2) * 1024 + 1 * r.val) rfl ?_; rw [e0]; refine Eq.trans ?_ h1.symm; show 0 * 1024 + 1 * r.val = r.val; omega

theorem block_right (c : Dev nD) (t : Fin cfg0.N) (k : Fin 1024) (r : Fin 512) (j : S2048x1024.Idx)
    (h0 : (j 0).val = t.val % 2 * 1024 + k.val) (h1 : (j 1).val = t.val / 2 * 512 + r.val) :
    (iblk m c 1 t : S1024x512.Idx → EReal) (ix2 k r) = right m c j := by
  have e1 := (idx_facts t).2
  refine congrArg (V m c main_v1) (funext fun a => Fin.ext ?_)
  match a with
  | ⟨0, _⟩ => refine Eq.trans (b := win0_1.index t (0 : Fin 2) * 1024 + 1 * k.val) rfl ?_; rw [e1]; refine Eq.trans ?_ h0.symm; show t.val % 2 * 1024 + 1 * k.val = t.val % 2 * 1024 + k.val; omega
  | ⟨1, _⟩ => refine Eq.trans (b := win0_1.index t (1 : Fin 2) * 512 + 1 * r.val) rfl ?_; rw [e1]; refine Eq.trans ?_ h1.symm; show t.val / 2 * 512 + 1 * r.val = t.val / 2 * 512 + r.val; omega

/-- The array the runs of grid points leave is the gradient: each run is two steps from a tile of zeros, and the two
    steps' sums are the sum over all the tokens. -/
theorem final (c : Dev nD) : Value.G2 m c = G m c := by
  funext (i : S1024x1024.Idx)
  have h0 : (i 0).val < 1024 := (i 0).isLt
  have h1 : (i 1).val < 1024 := (i 1).isLt
  have hr : Value.run2Of i = (i 1).val / 512 := by
    show 2 * ((i 0).val / 1024 - 0) + 1 * ((i 1).val / 512 - 0) = (i 1).val / 512
    omega
  have hlt : 2 * Value.run2Of i + 1 < cfg0.N := by rw [hr, show cfg0.N = 4 from N_0]; omega
  have hm0 : (⟨2 * Value.run2Of i, Nat.lt_of_succ_lt hlt⟩ : Fin cfg0.N).val % 2 = 0 := by show 2 * Value.run2Of i % 2 = 0; omega
  have hm1 : (⟨2 * Value.run2Of i + 1, hlt⟩ : Fin cfg0.N).val % 2 = 1 := by show (2 * Value.run2Of i + 1) % 2 = 1; omega
  have hd0 : (⟨2 * Value.run2Of i, Nat.lt_of_succ_lt hlt⟩ : Fin cfg0.N).val / 2 = (i 1).val / 512 := by show 2 * Value.run2Of i / 2 = _; omega
  have hd1 : (⟨2 * Value.run2Of i + 1, hlt⟩ : Fin cfg0.N).val / 2 = (i 1).val / 512 := by show (2 * Value.run2Of i + 1) / 2 = _; omega
  unfold Value.G2 G
  rw [dif_pos hlt]
  refine (step_apply _ _ _ _).trans ?_
  refine (congrArg (fun a : EReal => a + _) ((step_apply _ _ _ _).trans ((congrArg (fun a : EReal => a + _) (zero_apply _)).trans (zero_add _)))).trans ?_
  refine Eq.trans ?_ (Fin.sum_univ_add (a := 1024) (b := 1024) (fun k : Fin (1024 + 1024) => left m c (ix2 k (⟨(i 0).val, (i 0).isLt⟩ : Fin 1024)) * right m c (ix2 k (⟨(i 1).val, (i 1).isLt⟩ : Fin 1024)))).symm
  refine congrArg₂ (fun a b : EReal => a + b) (Finset.sum_congr rfl fun k _ => congrArg₂ (fun a b : EReal => a * b) ?_ ?_)
    (Finset.sum_congr rfl fun k _ => congrArg₂ (fun a b : EReal => a * b) ?_ ?_)
  · refine block_left m c _ k ⟨(i 0).val % 1024, by omega⟩ _ ?_ ?_
    · rw [hm0]; show k.val = 0 * 1024 + k.val; omega
    · show (i 0).val = (i 0).val % 1024; omega
  · refine block_right m c _ k ⟨(i 1).val % 512, by omega⟩ _ ?_ ?_
    · rw [hm0]; show k.val = 0 * 1024 + k.val; omega
    · rw [hd0]; show (i 1).val = (i 1).val / 512 * 512 + (i 1).val % 512; omega
  · refine block_left m c _ k ⟨(i 0).val % 1024, by omega⟩ _ ?_ ?_
    · rw [hm1]; show 1024 + k.val = 1 * 1024 + k.val; omega
    · show (i 0).val = (i 0).val % 1024; omega
  · refine block_right m c _ k ⟨(i 1).val % 512, by omega⟩ _ ?_ ?_
    · rw [hm1]; show 1024 + k.val = 1 * 1024 + k.val; omega
    · rw [hd1]; show (i 1).val = (i 1).val / 512 * 512 + (i 1).val % 512; omega

/-! ## The reference's array, and the claim -/

open Cert.Reference9Ideal.Read in
theorem reference_eq (c : Dev nD) :
    val_main_v2 (F := Ideal) (m ((c : Thread nD τ).loc main_arg0)) (m ((c : Thread nD τ).loc main_arg2)) = G m c := by
  funext (i : S1024x1024.Idx)
  have h0 : (i 0).val < 1024 := (i 0).isLt
  have h1 : (i 1).val < 1024 := (i 1).isLt
  rw [val_main_v2_apply, val_main_v1_apply]
  unfold G
  refine Finset.sum_congr rfl fun k _ => ?_
  refine (mul_comm _ _).trans (congrArg₂ (fun a b : EReal => a * b) (Eq.trans (congrArg _ (funext fun a => Fin.ext ?_)) (left_apply m c _ _).symm) (Eq.trans (congrArg _ (funext fun a => Fin.ext ?_)) (right_apply m c _ _).symm))
  · match a with
    | ⟨0, _⟩ => rfl
    | ⟨1, _⟩ => show (i 0).val = (i 0).val; omega
  · match a with
    | ⟨0, _⟩ => rfl
    | ⟨1, _⟩ => show (i 1).val = (i 1).val; omega

theorem algebraic : Cert.algebraic_Kernel9Ideal_Reference9Ideal := by
  intro m g m' g' _ hagree
  refine ⟨G m, ?_, ?_⟩
  · exact (θ_run defs _ _).mono (fun r h c => ⟨(h c).1.trans (final m c), (h c).2⟩) (Value.run m g)
  · refine (θ_run Cert.Reference9Ideal.defs _ _).mono (fun r h c => ⟨?_, (h c).2⟩) (Cert.Reference9Ideal.Value.run (F := Ideal) m' g')
    refine ((h c).1.trans (Cert.Reference9Ideal.Read.val_main_v2_eq _ _)).trans ?_
    rw [(hagree c).1, (hagree c).2.2]
    exact reference_eq m c

end Cert.Proof.Product9

end
-- ==== Proof.Product10.lean ====
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.Value
public import Idealize.ShloMosaic.Lib.ValueIdx
public import Idealize.ShloMosaic.PureOps.Ideal.Laws

/-! The gradient of the per-layer embedding's weight: the launch's array, index by index, is the
sum over all tokens of the two operands' products, which is what the reference's product is. -/

@[expose] public section

set_option maxRecDepth 16384

noncomputable section

namespace Cert.Proof.Product10

open Cert.Kernel10Ideal Cert.Kernel10Ideal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The tile's product -/

abbrev D := dot_S1024x256_S1024x256_S256x256_0_0_1_1_n_n

theorem lhs0 (i : S256x256.Idx) (q : D.contr.Idx) : (D.lhsIdx i q 0).val = (q ⟨0, by decide⟩).val := D.lhsIdx_val_of_single rfl i q
theorem rhs0 (i : S256x256.Idx) (q : D.contr.Idx) : (D.rhsIdx i q 0).val = (q ⟨0, by decide⟩).val := D.rhsIdx_val_of_single rfl i q
theorem lhs1 (i : S256x256.Idx) (q : D.contr.Idx) : (D.lhsIdx i q 1).val = (i 0).val := by
  unfold DotDims.lhsIdx
  rw [dif_neg (show ¬(1 : Fin S1024x256.rank) ∈ D.lhsBatch by decide), dif_pos (show (1 : Fin S1024x256.rank) ∈ D.lhsNonContracting by decide)]
  rfl
theorem rhs1 (i : S256x256.Idx) (q : D.contr.Idx) : (D.rhsIdx i q 1).val = (i 1).val := by
  unfold DotDims.rhsIdx
  rw [dif_neg (show ¬(1 : Fin S1024x256.rank) ∈ D.rhsBatch by decide), dif_pos (show (1 : Fin S1024x256.rank) ∈ D.rhsNonContracting by decide)]
  rfl

/-- The tile's product read at an index: the sum over the tokens of the tile. -/
theorem dot_apply (x : FVec Ideal S1024x256 .bf16) (y : FVec Ideal S1024x256 .bf16) (i : S256x256.Idx) :
    matmul D none x y (constant S256x256 .f32 0x00000000#32) i = ∑ k : Fin 1024, (x (ix2 k (i 0)) : EReal) * y (ix2 k (i 1)) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx i ((contrEquiv1 D 1024 rfl rfl).symm k) = ix2 k (i 0) := funext fun a => Fin.ext (by
    match a with
    | ⟨0, _⟩ => exact (lhs0 _ _).trans hk
    | ⟨1, _⟩ => exact lhs1 _ _)
  have er : D.rhsIdx i ((contrEquiv1 D 1024 rfl rfl).symm k) = ix2 k (i 1) := funext fun a => Fin.ext (by
    match a with
    | ⟨0, _⟩ => exact (rhs0 _ _).trans hk
    | ⟨1, _⟩ => exact rhs1 _ _)
  rw [el, er]; rfl

/-- The tile of zeros a run of grid points begins with. -/
theorem zero_apply (i : S1x256x256.Idx) : (k0_pay1 (F := Ideal) i : EReal) = 0 := by
  unfold k0_pay1
  rw [shapeCast_apply _ shapeCasts_S256x256_S1x256x256 i (ix2 (i 1) (i 2)) (by
    rewrite [Shape.rowMajor_val_two, Shape.rowMajor_val_three]
    have h0 : (i 0).val < 1 := (i 0).isLt
    show (i 1).val * 256 + (i 2).val = ((i 0).val * 256 + (i 1).val) * 256 + (i 2).val
    omega)]
  exact Ideal.ofBits_zero_f32

/-- What one grid point adds to the tile, read at an index. -/
theorem step_apply (acc : Vec Ideal S1x256x256 .f32) (x : Vec Ideal S1024x256 .f32) (y : Vec Ideal S1024x256 .bf16) (i : S1x256x256.Idx) :
    (k0_pay2 (F := Ideal) acc x y i : EReal) = (acc i : EReal) + ∑ k : Fin 1024, (x (ix2 k (i 1)) : EReal) * y (ix2 k (i 2)) := by
  unfold k0_pay2
  rw [shapeCast_apply _ shapeCasts_S256x256_S1x256x256 i (ix2 (i 1) (i 2)) (by
    rewrite [Shape.rowMajor_val_two, Shape.rowMajor_val_three]
    have h0 : (i 0).val < 1 := (i 0).isLt
    show (i 1).val * 256 + (i 2).val = ((i 0).val * 256 + (i 1).val) * 256 + (i 2).val
    omega)]
  refine congrArg₂ (fun a b : EReal => a + b) (shapeCast_apply _ shapeCasts_S1x256x256_S256x256 (ix2 (i 1) (i 2)) i (by
    rewrite [Shape.rowMajor_val_two, Shape.rowMajor_val_three]
    have h0 : (i 0).val < 1 := (i 0).isLt
    show ((i 0).val * 256 + (i 1).val) * 256 + (i 2).val = (i 1).val * 256 + (i 2).val
    omega)) ((dot_apply _ _ _).trans ?_)
  refine Finset.sum_congr rfl fun k _ => ?_
  rw [shapeCast_self]; rfl

/-! ## What the launch finds in its operands -/

/-- The launch's left operand. -/
def left (c : Dev nD) : S2048x256.Idx → EReal := V m c main_arg0

theorem left_eq (c : Dev nD) : V m c main_arg0 = m ((c : Thread nD τ).loc main_arg0) := by
  rfl

theorem left_apply (c : Dev nD) (k : Fin 2048) (r : Fin 256) :
    left m c (ix2 k r) = m ((c : Thread nD τ).loc main_arg0) (ix2 k r) := by
  unfold left
  rw [left_eq]

/-- The launch's right operand. -/
def right (c : Dev nD) : S2048x1024.Idx → EReal := V m c main_v0

theorem right_eq (c : Dev nD) : V m c main_v0 = (truncf .bf16 (m ((c : Thread nD τ).loc main_arg2)) bitsLt_bf16_f32 : FVec Ideal S2048x1024 .bf16) := by
  rfl

theorem right_apply (c : Dev nD) (k : Fin 2048) (r : Fin 1024) :
    right m c (ix2 k r) = m ((c : Thread nD τ).loc main_arg2) (ix2 k r) := by
  unfold right
  rw [right_eq]; rfl

/-! ## The array the launch leaves -/

/-- The gradient, index by index, as sums over all the tokens. -/
def G (c : Dev nD) : Buf (Elt Ideal) ((c : Thread nD τ).loc main_v1) := fun (i : S4x256x256.Idx) =>
  (∑ k : Fin 2048, left m c (ix2 k (⟨(i 1).val, (i 1).isLt⟩ : Fin 256)) * right m c (ix2 k (⟨(i 0).val * 256 + (i 2).val, by have h0 : (i 0).val < 4 := (i 0).isLt; have h2 : (i 2).val < 256 := (i 2).isLt; omega⟩ : Fin 1024)) : EReal)

theorem idx_facts : ∀ t : Fin cfg0.N, win0_0.index t = ![t.val % 2, 0] ∧ win0_1.index t = ![t.val % 2, t.val / 2] :=
  (by decide +kernel : ∀ t : Fin grid0.N, _)

theorem block_left (c : Dev nD) (t : Fin cfg0.N) (k : Fin 1024) (r : Fin 256) (j : S2048x256.Idx)
    (h0 : (j 0).val = t.val % 2 * 1024 + k.val) (h1 : (j 1).val = r.val) :
    (iblk m c 0 t : S1024x256.Idx → EReal) (ix2 k r) = left m c j := by
  have e0 := (idx_facts t).1
  refine congrArg (V m c main_arg0) (funext fun a => Fin.ext ?_)
  match a with
  | ⟨0, _⟩ => refine Eq.trans (b := win0_0.index t (0 : Fin 2) * 1024 + 1 * k.val) rfl ?_; rw [e0]; refine Eq.trans ?_ h0.symm; show t.val % 2 * 1024 + 1 * k.val = t.val % 2 * 1024 + k.val; omega
  | ⟨1, _⟩ => refine Eq.trans (b := win0_0.index t (1 : Fin 2) * 256 + 1 * r.val) rfl ?_; rw [e0]; refine Eq.trans ?_ h1.symm; show 0 * 256 + 1 * r.val = r.val; omega

theorem block_right (c : Dev nD) (t : Fin cfg0.N) (k : Fin 1024) (r : Fin 256) (j : S2048x1024.Idx)
    (h0 : (j 0).val = t.val % 2 * 1024 + k.val) (h1 : (j 1).val = t.val / 2 * 256 + r.val) :
    (iblk m c 1 t : S1024x256.Idx → EReal) (ix2 k r) = right m c j := by
  have e1 := (idx_facts t).2
  refine congrArg (V m c main_v0) (funext fun a => Fin.ext ?_)
  match a with
  | ⟨0, _⟩ => refine Eq.trans (b := win0_1.index t (0 : Fin 2) * 1024 + 1 * k.val) rfl ?_; rw [e1]; refine Eq.trans ?_ h0.symm; show t.val % 2 * 1024 + 1 * k.val = t.val % 2 * 1024 + k.val; omega
  | ⟨1, _⟩ => refine Eq.trans (b := win0_1.index t (1 : Fin 2) * 256 + 1 * r.val) rfl ?_; rw [e1]; refine Eq.trans ?_ h1.symm; show t.val / 2 * 256 + 1 * r.val = t.val / 2 * 256 + r.val; omega

/-- The array the runs of grid points leave is the gradient: each run is two steps from a tile of zeros, and the two
    steps' sums are the sum over all the tokens. -/
theorem final (c : Dev nD) : Value.G2 m c = G m c := by
  funext (i : S4x256x256.Idx)
  have h0 : (i 0).val < 4 := (i 0).isLt
  have h1 : (i 1).val < 256 := (i 1).isLt
  have h2 : (i 2).val < 256 := (i 2).isLt
  have hr : Value.run2Of i = (i 0).val := by
    show 1 * ((i 0).val / 1 - 0) + 1 * ((i 1).val / 256 - 0) + 1 * ((i 2).val / 256 - 0) = (i 0).val
    omega
  have hlt : 2 * Value.run2Of i + 1 < cfg0.N := by rw [hr, show cfg0.N = 8 from N_0]; omega
  have hm0 : (⟨2 * Value.run2Of i, Nat.lt_of_succ_lt hlt⟩ : Fin cfg0.N).val % 2 = 0 := by show 2 * Value.run2Of i % 2 = 0; omega
  have hm1 : (⟨2 * Value.run2Of i + 1, hlt⟩ : Fin cfg0.N).val % 2 = 1 := by show (2 * Value.run2Of i + 1) % 2 = 1; omega
  have hd0 : (⟨2 * Value.run2Of i, Nat.lt_of_succ_lt hlt⟩ : Fin cfg0.N).val / 2 = (i 0).val := by show 2 * Value.run2Of i / 2 = _; omega
  have hd1 : (⟨2 * Value.run2Of i + 1, hlt⟩ : Fin cfg0.N).val / 2 = (i 0).val := by show (2 * Value.run2Of i + 1) / 2 = _; omega
  unfold Value.G2 G
  rw [dif_pos hlt]
  refine (step_apply _ _ _ _).trans ?_
  refine (congrArg (fun a : EReal => a + _) ((step_apply _ _ _ _).trans ((congrArg (fun a : EReal => a + _) (zero_apply _)).trans (zero_add _)))).trans ?_
  refine Eq.trans ?_ (Fin.sum_univ_add (a := 1024) (b := 1024) (fun k : Fin (1024 + 1024) => left m c (ix2 k (⟨(i 1).val, (i 1).isLt⟩ : Fin 256)) * right m c (ix2 k (⟨(i 0).val * 256 + (i 2).val, by have h0 : (i 0).val < 4 := (i 0).isLt; have h2 : (i 2).val < 256 := (i 2).isLt; omega⟩ : Fin 1024)))).symm
  refine congrArg₂ (fun a b : EReal => a + b) (Finset.sum_congr rfl fun k _ => congrArg₂ (fun a b : EReal => a * b) ?_ ?_)
    (Finset.sum_congr rfl fun k _ => congrArg₂ (fun a b : EReal => a * b) ?_ ?_)
  · refine block_left m c _ k ⟨(i 1).val % 256, by omega⟩ _ ?_ ?_
    · rw [hm0]; show k.val = 0 * 1024 + k.val; omega
    · show (i 1).val = (i 1).val % 256; omega
  · refine block_right m c _ k ⟨(i 2).val % 256, by omega⟩ _ ?_ ?_
    · rw [hm0]; show k.val = 0 * 1024 + k.val; omega
    · rw [hd0]; show (i 0).val * 256 + (i 2).val = (i 0).val * 256 + (i 2).val % 256; omega
  · refine block_left m c _ k ⟨(i 1).val % 256, by omega⟩ _ ?_ ?_
    · rw [hm1]; show 1024 + k.val = 1 * 1024 + k.val; omega
    · show (i 1).val = (i 1).val % 256; omega
  · refine block_right m c _ k ⟨(i 2).val % 256, by omega⟩ _ ?_ ?_
    · rw [hm1]; show 1024 + k.val = 1 * 1024 + k.val; omega
    · rw [hd1]; show (i 0).val * 256 + (i 2).val = (i 0).val * 256 + (i 2).val % 256; omega

/-! ## The reference's array, and the claim -/

open Cert.Reference10Ideal.Read in
theorem reference_eq (c : Dev nD) :
    val_main_v4 (F := Ideal) (m ((c : Thread nD τ).loc main_arg0)) (m ((c : Thread nD τ).loc main_arg2)) = G m c := by
  funext (i : S4x256x256.Idx)
  have h0 : (i 0).val < 4 := (i 0).isLt
  have h1 : (i 1).val < 256 := (i 1).isLt
  have h2 : (i 2).val < 256 := (i 2).isLt
  rw [val_main_v4_apply, val_main_v3_apply, val_main_v2_apply, val_main_v1_apply]
  unfold G
  refine Finset.sum_congr rfl fun k _ => ?_
  refine (mul_comm _ _).trans (congrArg₂ (fun a b : EReal => a * b) (Eq.trans (congrArg _ (funext fun a => Fin.ext ?_)) (left_apply m c _ _).symm) (Eq.trans (congrArg _ (funext fun a => Fin.ext ?_)) (right_apply m c _ _).symm))
  · match a with
    | ⟨0, _⟩ => rfl
    | ⟨1, _⟩ => show (((i 1).val * 4 + (i 0).val) * 256 + (i 2).val) / 1024 = (i 1).val; omega
  · match a with
    | ⟨0, _⟩ => rfl
    | ⟨1, _⟩ => show (((i 1).val * 4 + (i 0).val) * 256 + (i 2).val) % 1024 = (i 0).val * 256 + (i 2).val; omega

theorem algebraic : Cert.algebraic_Kernel10Ideal_Reference10Ideal := by
  intro m g m' g' _ hagree
  refine ⟨G m, ?_, ?_⟩
  · exact (θ_run defs _ _).mono (fun r h c => ⟨(h c).1.trans (final m c), (h c).2⟩) (Value.run m g)
  · refine (θ_run Cert.Reference10Ideal.defs _ _).mono (fun r h c => ⟨?_, (h c).2⟩) (Cert.Reference10Ideal.Value.run (F := Ideal) m' g')
    refine ((h c).1.trans (Cert.Reference10Ideal.Read.val_main_v4_eq _ _)).trans ?_
    rw [(hagree c).1, (hagree c).2.2]
    exact reference_eq m c

end Cert.Proof.Product10

end
-- ==== Proof.Product11.lean ====
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.Value
public import Idealize.ShloMosaic.Lib.ValueIdx
public import Idealize.ShloMosaic.PureOps.Ideal.Laws

/-! The gradient of the state-space branch's output weight: the launch's array, index by index, is the
sum over all tokens of the two operands' products, which is what the reference's product is. -/

@[expose] public section

set_option maxRecDepth 16384

noncomputable section

namespace Cert.Proof.Product11

open Cert.Kernel11Ideal Cert.Kernel11Ideal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The tile's product -/

abbrev D := dot_S1024x512_S1024x256_S512x256_0_0_1_1_n_n

theorem lhs0 (i : S512x256.Idx) (q : D.contr.Idx) : (D.lhsIdx i q 0).val = (q ⟨0, by decide⟩).val := D.lhsIdx_val_of_single rfl i q
theorem rhs0 (i : S512x256.Idx) (q : D.contr.Idx) : (D.rhsIdx i q 0).val = (q ⟨0, by decide⟩).val := D.rhsIdx_val_of_single rfl i q
theorem lhs1 (i : S512x256.Idx) (q : D.contr.Idx) : (D.lhsIdx i q 1).val = (i 0).val := by
  unfold DotDims.lhsIdx
  rw [dif_neg (show ¬(1 : Fin S1024x512.rank) ∈ D.lhsBatch by decide), dif_pos (show (1 : Fin S1024x512.rank) ∈ D.lhsNonContracting by decide)]
  rfl
theorem rhs1 (i : S512x256.Idx) (q : D.contr.Idx) : (D.rhsIdx i q 1).val = (i 1).val := by
  unfold DotDims.rhsIdx
  rw [dif_neg (show ¬(1 : Fin S1024x256.rank) ∈ D.rhsBatch by decide), dif_pos (show (1 : Fin S1024x256.rank) ∈ D.rhsNonContracting by decide)]
  rfl

/-- The tile's product read at an index: the sum over the tokens of the tile. -/
theorem dot_apply (x : FVec Ideal S1024x512 .bf16) (y : FVec Ideal S1024x256 .bf16) (i : S512x256.Idx) :
    matmul D none x y (constant S512x256 .f32 0x00000000#32) i = ∑ k : Fin 1024, (x (ix2 k (i 0)) : EReal) * y (ix2 k (i 1)) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx i ((contrEquiv1 D 1024 rfl rfl).symm k) = ix2 k (i 0) := funext fun a => Fin.ext (by
    match a with
    | ⟨0, _⟩ => exact (lhs0 _ _).trans hk
    | ⟨1, _⟩ => exact lhs1 _ _)
  have er : D.rhsIdx i ((contrEquiv1 D 1024 rfl rfl).symm k) = ix2 k (i 1) := funext fun a => Fin.ext (by
    match a with
    | ⟨0, _⟩ => exact (rhs0 _ _).trans hk
    | ⟨1, _⟩ => exact rhs1 _ _)
  rw [el, er]; rfl

/-- The tile of zeros a run of grid points begins with. -/
theorem zero_apply (i : S1x512x256.Idx) : (k0_pay1 (F := Ideal) i : EReal) = 0 := by
  unfold k0_pay1
  rw [shapeCast_apply _ shapeCasts_S512x256_S1x512x256 i (ix2 (i 1) (i 2)) (by
    rewrite [Shape.rowMajor_val_two, Shape.rowMajor_val_three]
    have h0 : (i 0).val < 1 := (i 0).isLt
    show (i 1).val * 256 + (i 2).val = ((i 0).val * 512 + (i 1).val) * 256 + (i 2).val
    omega)]
  exact Ideal.ofBits_zero_f32

/-- What one grid point adds to the tile, read at an index. -/
theorem step_apply (acc : Vec Ideal S1x512x256 .f32) (x : Vec Ideal S1024x512 .bf16) (y : Vec Ideal S1024x256 .bf16) (i : S1x512x256.Idx) :
    (k0_pay2 (F := Ideal) acc x y i : EReal) = (acc i : EReal) + ∑ k : Fin 1024, (x (ix2 k (i 1)) : EReal) * y (ix2 k (i 2)) := by
  unfold k0_pay2
  rw [shapeCast_apply _ shapeCasts_S512x256_S1x512x256 i (ix2 (i 1) (i 2)) (by
    rewrite [Shape.rowMajor_val_two, Shape.rowMajor_val_three]
    have h0 : (i 0).val < 1 := (i 0).isLt
    show (i 1).val * 256 + (i 2).val = ((i 0).val * 512 + (i 1).val) * 256 + (i 2).val
    omega)]
  refine congrArg₂ (fun a b : EReal => a + b) (shapeCast_apply _ shapeCasts_S1x512x256_S512x256 (ix2 (i 1) (i 2)) i (by
    rewrite [Shape.rowMajor_val_two, Shape.rowMajor_val_three]
    have h0 : (i 0).val < 1 := (i 0).isLt
    show ((i 0).val * 512 + (i 1).val) * 256 + (i 2).val = (i 1).val * 256 + (i 2).val
    omega)) ((dot_apply _ _ _).trans ?_)
  refine Finset.sum_congr rfl fun k _ => ?_
  rw [shapeCast_self, shapeCast_self]

/-! ## What the launch finds in its operands -/

/-- The launch's left operand. -/
def left (c : Dev nD) : S2048x512.Idx → EReal := V m c main_v0

theorem left_eq (c : Dev nD) : V m c main_v0 = (truncf .bf16 (m ((c : Thread nD τ).loc main_arg0)) bitsLt_bf16_f32 : FVec Ideal S2048x512 .bf16) := by
  rfl

theorem left_apply (c : Dev nD) (k : Fin 2048) (r : Fin 512) :
    left m c (ix2 k r) = m ((c : Thread nD τ).loc main_arg0) (ix2 k r) := by
  unfold left
  rw [left_eq]; rfl

/-- The launch's right operand. -/
def right (c : Dev nD) : S2048x1024.Idx → EReal := V m c main_v1

theorem right_eq (c : Dev nD) : V m c main_v1 = (truncf .bf16 (m ((c : Thread nD τ).loc main_arg2)) bitsLt_bf16_f32 : FVec Ideal S2048x1024 .bf16) := by
  rfl

theorem right_apply (c : Dev nD) (k : Fin 2048) (r : Fin 1024) :
    right m c (ix2 k r) = m ((c : Thread nD τ).loc main_arg2) (ix2 k r) := by
  unfold right
  rw [right_eq]; rfl

/-! ## The array the launch leaves -/

/-- The gradient, index by index, as sums over all the tokens. -/
def G (c : Dev nD) : Buf (Elt Ideal) ((c : Thread nD τ).loc main_v2) := fun (i : S4x512x256.Idx) =>
  (∑ k : Fin 2048, left m c (ix2 k (⟨(i 1).val, (i 1).isLt⟩ : Fin 512)) * right m c (ix2 k (⟨(i 0).val * 256 + (i 2).val, by have h0 : (i 0).val < 4 := (i 0).isLt; have h2 : (i 2).val < 256 := (i 2).isLt; omega⟩ : Fin 1024)) : EReal)

theorem idx_facts : ∀ t : Fin cfg0.N, win0_0.index t = ![t.val % 2, 0] ∧ win0_1.index t = ![t.val % 2, t.val / 2] :=
  (by decide +kernel : ∀ t : Fin grid0.N, _)

theorem block_left (c : Dev nD) (t : Fin cfg0.N) (k : Fin 1024) (r : Fin 512) (j : S2048x512.Idx)
    (h0 : (j 0).val = t.val % 2 * 1024 + k.val) (h1 : (j 1).val = r.val) :
    (iblk m c 0 t : S1024x512.Idx → EReal) (ix2 k r) = left m c j := by
  have e0 := (idx_facts t).1
  refine congrArg (V m c main_v0) (funext fun a => Fin.ext ?_)
  match a with
  | ⟨0, _⟩ => refine Eq.trans (b := win0_0.index t (0 : Fin 2) * 1024 + 1 * k.val) rfl ?_; rw [e0]; refine Eq.trans ?_ h0.symm; show t.val % 2 * 1024 + 1 * k.val = t.val % 2 * 1024 + k.val; omega
  | ⟨1, _⟩ => refine Eq.trans (b := win0_0.index t (1 : Fin 2) * 512 + 1 * r.val) rfl ?_; rw [e0]; refine Eq.trans ?_ h1.symm; show 0 * 512 + 1 * r.val = r.val; omega

theorem block_right (c : Dev nD) (t : Fin cfg0.N) (k : Fin 1024) (r : Fin 256) (j : S2048x1024.Idx)
    (h0 : (j 0).val = t.val % 2 * 1024 + k.val) (h1 : (j 1).val = t.val / 2 * 256 + r.val) :
    (iblk m c 1 t : S1024x256.Idx → EReal) (ix2 k r) = right m c j := by
  have e1 := (idx_facts t).2
  refine congrArg (V m c main_v1) (funext fun a => Fin.ext ?_)
  match a with
  | ⟨0, _⟩ => refine Eq.trans (b := win0_1.index t (0 : Fin 2) * 1024 + 1 * k.val) rfl ?_; rw [e1]; refine Eq.trans ?_ h0.symm; show t.val % 2 * 1024 + 1 * k.val = t.val % 2 * 1024 + k.val; omega
  | ⟨1, _⟩ => refine Eq.trans (b := win0_1.index t (1 : Fin 2) * 256 + 1 * r.val) rfl ?_; rw [e1]; refine Eq.trans ?_ h1.symm; show t.val / 2 * 256 + 1 * r.val = t.val / 2 * 256 + r.val; omega

/-- The array the runs of grid points leave is the gradient: each run is two steps from a tile of zeros, and the two
    steps' sums are the sum over all the tokens. -/
theorem final (c : Dev nD) : Value.G2 m c = G m c := by
  funext (i : S4x512x256.Idx)
  have h0 : (i 0).val < 4 := (i 0).isLt
  have h1 : (i 1).val < 512 := (i 1).isLt
  have h2 : (i 2).val < 256 := (i 2).isLt
  have hr : Value.run2Of i = (i 0).val := by
    show 1 * ((i 0).val / 1 - 0) + 1 * ((i 1).val / 512 - 0) + 1 * ((i 2).val / 256 - 0) = (i 0).val
    omega
  have hlt : 2 * Value.run2Of i + 1 < cfg0.N := by rw [hr, show cfg0.N = 8 from N_0]; omega
  have hm0 : (⟨2 * Value.run2Of i, Nat.lt_of_succ_lt hlt⟩ : Fin cfg0.N).val % 2 = 0 := by show 2 * Value.run2Of i % 2 = 0; omega
  have hm1 : (⟨2 * Value.run2Of i + 1, hlt⟩ : Fin cfg0.N).val % 2 = 1 := by show (2 * Value.run2Of i + 1) % 2 = 1; omega
  have hd0 : (⟨2 * Value.run2Of i, Nat.lt_of_succ_lt hlt⟩ : Fin cfg0.N).val / 2 = (i 0).val := by show 2 * Value.run2Of i / 2 = _; omega
  have hd1 : (⟨2 * Value.run2Of i + 1, hlt⟩ : Fin cfg0.N).val / 2 = (i 0).val := by show (2 * Value.run2Of i + 1) / 2 = _; omega
  unfold Value.G2 G
  rw [dif_pos hlt]
  refine (step_apply _ _ _ _).trans ?_
  refine (congrArg (fun a : EReal => a + _) ((step_apply _ _ _ _).trans ((congrArg (fun a : EReal => a + _) (zero_apply _)).trans (zero_add _)))).trans ?_
  refine Eq.trans ?_ (Fin.sum_univ_add (a := 1024) (b := 1024) (fun k : Fin (1024 + 1024) => left m c (ix2 k (⟨(i 1).val, (i 1).isLt⟩ : Fin 512)) * right m c (ix2 k (⟨(i 0).val * 256 + (i 2).val, by have h0 : (i 0).val < 4 := (i 0).isLt; have h2 : (i 2).val < 256 := (i 2).isLt; omega⟩ : Fin 1024)))).symm
  refine congrArg₂ (fun a b : EReal => a + b) (Finset.sum_congr rfl fun k _ => congrArg₂ (fun a b : EReal => a * b) ?_ ?_)
    (Finset.sum_congr rfl fun k _ => congrArg₂ (fun a b : EReal => a * b) ?_ ?_)
  · refine block_left m c _ k ⟨(i 1).val % 512, by omega⟩ _ ?_ ?_
    · rw [hm0]; show k.val = 0 * 1024 + k.val; omega
    · show (i 1).val = (i 1).val % 512; omega
  · refine block_right m c _ k ⟨(i 2).val % 256, by omega⟩ _ ?_ ?_
    · rw [hm0]; show k.val = 0 * 1024 + k.val; omega
    · rw [hd0]; show (i 0).val * 256 + (i 2).val = (i 0).val * 256 + (i 2).val % 256; omega
  · refine block_left m c _ k ⟨(i 1).val % 512, by omega⟩ _ ?_ ?_
    · rw [hm1]; show 1024 + k.val = 1 * 1024 + k.val; omega
    · show (i 1).val = (i 1).val % 512; omega
  · refine block_right m c _ k ⟨(i 2).val % 256, by omega⟩ _ ?_ ?_
    · rw [hm1]; show 1024 + k.val = 1 * 1024 + k.val; omega
    · rw [hd1]; show (i 0).val * 256 + (i 2).val = (i 0).val * 256 + (i 2).val % 256; omega

/-! ## The reference's array, and the claim -/

open Cert.Reference11Ideal.Read in
theorem reference_eq (c : Dev nD) :
    val_main_v4 (F := Ideal) (m ((c : Thread nD τ).loc main_arg0)) (m ((c : Thread nD τ).loc main_arg2)) = G m c := by
  funext (i : S4x512x256.Idx)
  have h0 : (i 0).val < 4 := (i 0).isLt
  have h1 : (i 1).val < 512 := (i 1).isLt
  have h2 : (i 2).val < 256 := (i 2).isLt
  rw [val_main_v4_apply, val_main_v3_apply, val_main_v2_apply, val_main_v1_apply]
  unfold G
  refine Finset.sum_congr rfl fun k _ => ?_
  refine (mul_comm _ _).trans (congrArg₂ (fun a b : EReal => a * b) (Eq.trans (congrArg _ (funext fun a => Fin.ext ?_)) (left_apply m c _ _).symm) (Eq.trans (congrArg _ (funext fun a => Fin.ext ?_)) (right_apply m c _ _).symm))
  · match a with
    | ⟨0, _⟩ => rfl
    | ⟨1, _⟩ => show (((i 1).val * 4 + (i 0).val) * 256 + (i 2).val) / 1024 = (i 1).val; omega
  · match a with
    | ⟨0, _⟩ => rfl
    | ⟨1, _⟩ => show (((i 1).val * 4 + (i 0).val) * 256 + (i 2).val) % 1024 = (i 0).val * 256 + (i 2).val; omega

theorem algebraic : Cert.algebraic_Kernel11Ideal_Reference11Ideal := by
  intro m g m' g' _ hagree
  refine ⟨G m, ?_, ?_⟩
  · exact (θ_run defs _ _).mono (fun r h c => ⟨(h c).1.trans (final m c), (h c).2⟩) (Value.run m g)
  · refine (θ_run Cert.Reference11Ideal.defs _ _).mono (fun r h c => ⟨?_, (h c).2⟩) (Cert.Reference11Ideal.Value.run (F := Ideal) m' g')
    refine ((h c).1.trans (Cert.Reference11Ideal.Read.val_main_v4_eq _ _)).trans ?_
    rw [(hagree c).1, (hagree c).2.2]
    exact reference_eq m c

end Cert.Proof.Product11

end
-- ==== Proof.Product12.lean ====
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.Value
public import Idealize.ShloMosaic.Lib.ValueIdx
public import Idealize.ShloMosaic.PureOps.Ideal.Laws

/-! The gradient of the state-space branch's gating weight: the launch's array, index by index, is the
sum over all tokens of the two operands' products, which is what the reference's product is. -/

@[expose] public section

set_option maxRecDepth 16384

noncomputable section

namespace Cert.Proof.Product12

open Cert.Kernel12Ideal Cert.Kernel12Ideal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The tile's product -/

abbrev D := dot_S1024x512_S1024x512_S512x512_0_0_1_1_n_n

theorem lhs0 (i : S512x512.Idx) (q : D.contr.Idx) : (D.lhsIdx i q 0).val = (q ⟨0, by decide⟩).val := D.lhsIdx_val_of_single rfl i q
theorem rhs0 (i : S512x512.Idx) (q : D.contr.Idx) : (D.rhsIdx i q 0).val = (q ⟨0, by decide⟩).val := D.rhsIdx_val_of_single rfl i q
theorem lhs1 (i : S512x512.Idx) (q : D.contr.Idx) : (D.lhsIdx i q 1).val = (i 0).val := by
  unfold DotDims.lhsIdx
  rw [dif_neg (show ¬(1 : Fin S1024x512.rank) ∈ D.lhsBatch by decide), dif_pos (show (1 : Fin S1024x512.rank) ∈ D.lhsNonContracting by decide)]
  rfl
theorem rhs1 (i : S512x512.Idx) (q : D.contr.Idx) : (D.rhsIdx i q 1).val = (i 1).val := by
  unfold DotDims.rhsIdx
  rw [dif_neg (show ¬(1 : Fin S1024x512.rank) ∈ D.rhsBatch by decide), dif_pos (show (1 : Fin S1024x512.rank) ∈ D.rhsNonContracting by decide)]
  rfl

/-- The tile's product read at an index: the sum over the tokens of the tile. -/
theorem dot_apply (x : FVec Ideal S1024x512 .bf16) (y : FVec Ideal S1024x512 .bf16) (i : S512x512.Idx) :
    matmul D none x y (constant S512x512 .f32 0x00000000#32) i = ∑ k : Fin 1024, (x (ix2 k (i 0)) : EReal) * y (ix2 k (i 1)) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx i ((contrEquiv1 D 1024 rfl rfl).symm k) = ix2 k (i 0) := funext fun a => Fin.ext (by
    match a with
    | ⟨0, _⟩ => exact (lhs0 _ _).trans hk
    | ⟨1, _⟩ => exact lhs1 _ _)
  have er : D.rhsIdx i ((contrEquiv1 D 1024 rfl rfl).symm k) = ix2 k (i 1) := funext fun a => Fin.ext (by
    match a with
    | ⟨0, _⟩ => exact (rhs0 _ _).trans hk
    | ⟨1, _⟩ => exact rhs1 _ _)
  rw [el, er]; rfl

/-- The tile of zeros a run of grid points begins with. -/
theorem zero_apply (i : S512x512.Idx) : (k0_pay1 (F := Ideal) i : EReal) = 0 := by
  unfold k0_pay1
  rw [shapeCast_self]
  exact Ideal.ofBits_zero_f32

/-- What one grid point adds to the tile, read at an index. -/
theorem step_apply (acc : Vec Ideal S512x512 .f32) (x : Vec Ideal S1024x512 .bf16) (y : Vec Ideal S1024x512 .bf16) (i : S512x512.Idx) :
    (k0_pay2 (F := Ideal) acc x y i : EReal) = (acc i : EReal) + ∑ k : Fin 1024, (x (ix2 k (i 0)) : EReal) * y (ix2 k (i 1)) := by
  unfold k0_pay2
  rw [shapeCast_self]
  refine congrArg (fun b : EReal => (acc i : EReal) + b) ((dot_apply _ _ _).trans ?_)
  refine Finset.sum_congr rfl fun k _ => ?_
  rw [shapeCast_self, shapeCast_self]

/-! ## What the launch finds in its operands -/

/-- The launch's left operand. -/
def left (c : Dev nD) : S2048x512.Idx → EReal := V m c main_v0

theorem left_eq (c : Dev nD) : V m c main_v0 = (truncf .bf16 (m ((c : Thread nD τ).loc main_arg0)) bitsLt_bf16_f32 : FVec Ideal S2048x512 .bf16) := by
  rfl

theorem left_apply (c : Dev nD) (k : Fin 2048) (r : Fin 512) :
    left m c (ix2 k r) = m ((c : Thread nD τ).loc main_arg0) (ix2 k r) := by
  unfold left
  rw [left_eq]; rfl

/-- The launch's right operand. -/
def right (c : Dev nD) : S2048x512.Idx → EReal := V m c main_v1

theorem right_eq (c : Dev nD) : V m c main_v1 = (truncf .bf16 (m ((c : Thread nD τ).loc main_arg2)) bitsLt_bf16_f32 : FVec Ideal S2048x512 .bf16) := by
  rfl

theorem right_apply (c : Dev nD) (k : Fin 2048) (r : Fin 512) :
    right m c (ix2 k r) = m ((c : Thread nD τ).loc main_arg2) (ix2 k r) := by
  unfold right
  rw [right_eq]; rfl

/-! ## The array the launch leaves -/

/-- The gradient, index by index, as sums over all the tokens. -/
def G (c : Dev nD) : Buf (Elt Ideal) ((c : Thread nD τ).loc main_v2) := fun (i : S512x512.Idx) =>
  (∑ k : Fin 2048, left m c (ix2 k (⟨(i 0).val, (i 0).isLt⟩ : Fin 512)) * right m c (ix2 k (⟨(i 1).val, (i 1).isLt⟩ : Fin 512)) : EReal)

theorem idx_facts : ∀ t : Fin cfg0.N, win0_0.index t = ![t.val % 2, 0] ∧ win0_1.index t = ![t.val % 2, t.val / 2] :=
  (by decide +kernel : ∀ t : Fin grid0.N, _)

theorem block_left (c : Dev nD) (t : Fin cfg0.N) (k : Fin 1024) (r : Fin 512) (j : S2048x512.Idx)
    (h0 : (j 0).val = t.val % 2 * 1024 + k.val) (h1 : (j 1).val = r.val) :
    (iblk m c 0 t : S1024x512.Idx → EReal) (ix2 k r) = left m c j := by
  have e0 := (idx_facts t).1
  refine congrArg (V m c main_v0) (funext fun a => Fin.ext ?_)
  match a with
  | ⟨0, _⟩ => refine Eq.trans (b := win0_0.index t (0 : Fin 2) * 1024 + 1 * k.val) rfl ?_; rw [e0]; refine Eq.trans ?_ h0.symm; show t.val % 2 * 1024 + 1 * k.val = t.val % 2 * 1024 + k.val; omega
  | ⟨1, _⟩ => refine Eq.trans (b := win0_0.index t (1 : Fin 2) * 512 + 1 * r.val) rfl ?_; rw [e0]; refine Eq.trans ?_ h1.symm; show 0 * 512 + 1 * r.val = r.val; omega

theorem block_right (c : Dev nD) (t : Fin cfg0.N) (k : Fin 1024) (r : Fin 512) (j : S2048x512.Idx)
    (h0 : (j 0).val = t.val % 2 * 1024 + k.val) (h1 : (j 1).val = t.val / 2 * 512 + r.val) :
    (iblk m c 1 t : S1024x512.Idx → EReal) (ix2 k r) = right m c j := by
  have e1 := (idx_facts t).2
  refine congrArg (V m c main_v1) (funext fun a => Fin.ext ?_)
  match a with
  | ⟨0, _⟩ => refine Eq.trans (b := win0_1.index t (0 : Fin 2) * 1024 + 1 * k.val) rfl ?_; rw [e1]; refine Eq.trans ?_ h0.symm; show t.val % 2 * 1024 + 1 * k.val = t.val % 2 * 1024 + k.val; omega
  | ⟨1, _⟩ => refine Eq.trans (b := win0_1.index t (1 : Fin 2) * 512 + 1 * r.val) rfl ?_; rw [e1]; refine Eq.trans ?_ h1.symm; show t.val / 2 * 512 + 1 * r.val = t.val / 2 * 512 + r.val; omega

/-- The array the runs of grid points leave is the gradient: each run is two steps from a tile of zeros, and the two
    steps' sums are the sum over all the tokens. -/
theorem final (c : Dev nD) : Value.G2 m c = G m c := by
  funext (i : S512x512.Idx)
  have h0 : (i 0).val < 512 := (i 0).isLt
  have h1 : (i 1).val < 512 := (i 1).isLt
  have hr : Value.run2Of i = 0 := by
    show 1 * ((i 0).val / 512 - 0) + 1 * ((i 1).val / 512 - 0) = 0
    omega
  have hlt : 2 * Value.run2Of i + 1 < cfg0.N := by rw [hr, show cfg0.N = 2 from N_0]; omega
  have hm0 : (⟨2 * Value.run2Of i, Nat.lt_of_succ_lt hlt⟩ : Fin cfg0.N).val % 2 = 0 := by show 2 * Value.run2Of i % 2 = 0; omega
  have hm1 : (⟨2 * Value.run2Of i + 1, hlt⟩ : Fin cfg0.N).val % 2 = 1 := by show (2 * Value.run2Of i + 1) % 2 = 1; omega
  have hd0 : (⟨2 * Value.run2Of i, Nat.lt_of_succ_lt hlt⟩ : Fin cfg0.N).val / 2 = 0 := by show 2 * Value.run2Of i / 2 = _; omega
  have hd1 : (⟨2 * Value.run2Of i + 1, hlt⟩ : Fin cfg0.N).val / 2 = 0 := by show (2 * Value.run2Of i + 1) / 2 = _; omega
  unfold Value.G2 G
  rw [dif_pos hlt]
  refine (step_apply _ _ _ _).trans ?_
  refine (congrArg (fun a : EReal => a + _) ((step_apply _ _ _ _).trans ((congrArg (fun a : EReal => a + _) (zero_apply _)).trans (zero_add _)))).trans ?_
  refine Eq.trans ?_ (Fin.sum_univ_add (a := 1024) (b := 1024) (fun k : Fin (1024 + 1024) => left m c (ix2 k (⟨(i 0).val, (i 0).isLt⟩ : Fin 512)) * right m c (ix2 k (⟨(i 1).val, (i 1).isLt⟩ : Fin 512)))).symm
  refine congrArg₂ (fun a b : EReal => a + b) (Finset.sum_congr rfl fun k _ => congrArg₂ (fun a b : EReal => a * b) ?_ ?_)
    (Finset.sum_congr rfl fun k _ => congrArg₂ (fun a b : EReal => a * b) ?_ ?_)
  · refine block_left m c _ k ⟨(i 0).val % 512, by omega⟩ _ ?_ ?_
    · rw [hm0]; show k.val = 0 * 1024 + k.val; omega
    · show (i 0).val = (i 0).val % 512; omega
  · refine block_right m c _ k ⟨(i 1).val % 512, by omega⟩ _ ?_ ?_
    · rw [hm0]; show k.val = 0 * 1024 + k.val; omega
    · rw [hd0]; show (i 1).val = 0 * 512 + (i 1).val % 512; omega
  · refine block_left m c _ k ⟨(i 0).val % 512, by omega⟩ _ ?_ ?_
    · rw [hm1]; show 1024 + k.val = 1 * 1024 + k.val; omega
    · show (i 0).val = (i 0).val % 512; omega
  · refine block_right m c _ k ⟨(i 1).val % 512, by omega⟩ _ ?_ ?_
    · rw [hm1]; show 1024 + k.val = 1 * 1024 + k.val; omega
    · rw [hd1]; show (i 1).val = 0 * 512 + (i 1).val % 512; omega

/-! ## The reference's array, and the claim -/

open Cert.Reference12Ideal.Read in
theorem reference_eq (c : Dev nD) :
    val_main_v2 (F := Ideal) (m ((c : Thread nD τ).loc main_arg0)) (m ((c : Thread nD τ).loc main_arg2)) = G m c := by
  funext (i : S512x512.Idx)
  have h0 : (i 0).val < 512 := (i 0).isLt
  have h1 : (i 1).val < 512 := (i 1).isLt
  rw [val_main_v2_apply, val_main_v1_apply]
  unfold G
  refine Finset.sum_congr rfl fun k _ => ?_
  refine (mul_comm _ _).trans (congrArg₂ (fun a b : EReal => a * b) (Eq.trans (congrArg _ (funext fun a => Fin.ext ?_)) (left_apply m c _ _).symm) (Eq.trans (congrArg _ (funext fun a => Fin.ext ?_)) (right_apply m c _ _).symm))
  · match a with
    | ⟨0, _⟩ => rfl
    | ⟨1, _⟩ => show (i 0).val = (i 0).val; omega
  · match a with
    | ⟨0, _⟩ => rfl
    | ⟨1, _⟩ => show (i 1).val = (i 1).val; omega

theorem algebraic : Cert.algebraic_Kernel12Ideal_Reference12Ideal := by
  intro m g m' g' _ hagree
  refine ⟨G m, ?_, ?_⟩
  · exact (θ_run defs _ _).mono (fun r h c => ⟨(h c).1.trans (final m c), (h c).2⟩) (Value.run m g)
  · refine (θ_run Cert.Reference12Ideal.defs _ _).mono (fun r h c => ⟨?_, (h c).2⟩) (Cert.Reference12Ideal.Value.run (F := Ideal) m' g')
    refine ((h c).1.trans (Cert.Reference12Ideal.Read.val_main_v2_eq _ _)).trans ?_
    rw [(hagree c).1, (hagree c).2.2]
    exact reference_eq m c

end Cert.Proof.Product12

end
-- ==== Proof.Shared.lean ====
module

public import proofs.«01_k».proof.Defs
public import Idealize.ShloMosaic.Lib.Pipeline.Value
public import Idealize.ShloMosaic.Lib.ValueIdx
public import Idealize.ShloMosaic.Lib.MatmulPlain
public import Idealize.ShloMosaic.PureOps.Ideal.Laws

/-! Facts about products, sums and constants over the reals that several of the calls' proofs use. -/

@[expose] public section

noncomputable section

namespace Cert.Proof.Shared

open Idealize.ShloMosaic Idealize.ShloMosaic.ValueIdx

theorem ofBits_one : Ideal.ofBits .f32 0x3F800000#32 = 1 := by
  simp [Ideal.ofBits, Ideal.ieee]
  rw [← EReal.coe_mul]
  norm_num

/-- A product with the right operand transposed, into zeros, read at an index. -/
theorem product_nt {M K N : ℕ} {φ₁ φ₂ : FTy} (x : FVec Ideal ⟨2, ![M, K]⟩ φ₁) (y : FVec Ideal ⟨2, ![N, K]⟩ φ₂) (r : Fin M) (j : Fin N) :
    matmul (DotDims.transposedRhs M K N) none x y (constant ⟨2, ![M, N]⟩ .f32 0x00000000#32) (ix2 r j)
      = ∑ k : Fin K, (x (ix2 r k) : EReal) * y (ix2 j k) := by
  simp only [matmul]
  rw [Ideal.matmul_transposedRhs_apply]
  exact (congrArg (· + _) Ideal.ofBits_zero_f32).trans (zero_add _)

/-- A product of two untransposed operands, into zeros, read at an index. -/
theorem product_nn {M K N : ℕ} {φ₁ φ₂ : FTy} (x : FVec Ideal ⟨2, ![M, K]⟩ φ₁) (y : FVec Ideal ⟨2, ![K, N]⟩ φ₂) (r : Fin M) (j : Fin N) :
    matmul (DotDims.plain M K N) none x y (constant ⟨2, ![M, N]⟩ .f32 0x00000000#32) (ix2 r j)
      = ∑ k : Fin K, (x (ix2 r k) : EReal) * y (ix2 k j) := by
  simp only [matmul]
  rw [Ideal.matmul_plain_apply]
  exact (congrArg (· + _) Ideal.ofBits_zero_f32).trans (zero_add _)

/-- A sum over four equal runs of an index, one run after the other. -/
theorem sum_runs (n : ℕ) (f : Fin (n + n + n + n) → EReal) :
    ∑ j, f j = (((∑ k : Fin n, f ⟨k.val, by omega⟩) + ∑ k : Fin n, f ⟨n + k.val, by omega⟩)
      + ∑ k : Fin n, f ⟨n + n + k.val, by omega⟩) + ∑ k : Fin n, f ⟨n + n + n + k.val, by omega⟩ := by
  rw [Fin.sum_univ_add (a := n + n + n) (b := n) f]
  refine congrArg₂ (fun a b : EReal => a + b) ?_ rfl
  rw [Fin.sum_univ_add (a := n + n) (b := n)]
  refine congrArg₂ (fun a b : EReal => a + b) ?_ rfl
  rw [Fin.sum_univ_add (a := n) (b := n)]
  rfl

end Cert.Proof.Shared

end
-- ==== Proof.MergeBack.lean ====
module

public import proofs.«01_k».proof.Defs
public import proofs.«01_k».proof.Proof.Shared
public import proofs.«01_k».proof.Proof.Gen.Kernel13Ideal.Value
public import proofs.«01_k».proof.Proof.Gen.Reference13Ideal.Run
public import proofs.«01_k».proof.Proof.Gen.Reference13Ideal.Read

/-! The backward pass of the merged branches: what each grid point writes, index by index, is the
derivative the reference takes of the gated sum and of the products before and after it. -/

@[expose] public section

set_option maxRecDepth 16384

noncomputable section

namespace Cert.Proof.MergeBack

open Cert.Kernel13Ideal Cert.Kernel13Ideal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arguments, and the arrays as functions of them -/

abbrev a0 (c : Dev nD) : S2048x1024.Idx → EReal := m ((c : Thread nD τ).loc main_arg0)
abbrev a1 (c : Dev nD) : S2048x2048.Idx → EReal := m ((c : Thread nD τ).loc main_arg1)
abbrev a2 (c : Dev nD) : S2048x512.Idx → EReal := m ((c : Thread nD τ).loc main_arg2)
abbrev a3 (c : Dev nD) : S2048x1024.Idx → EReal := m ((c : Thread nD τ).loc main_arg3)
abbrev a4 (c : Dev nD) : S512x1024.Idx → EReal := m ((c : Thread nD τ).loc main_arg4)
abbrev a5 (c : Dev nD) : S1024x1024.Idx → EReal := m ((c : Thread nD τ).loc main_arg5)
abbrev a6 (c : Dev nD) : S1024x1024.Idx → EReal := m ((c : Thread nD τ).loc main_arg6)

/-- The cotangent of the merged branches. -/
def dm (c : Dev nD) (n : Fin 2048) (j : Fin 1024) : EReal := ∑ k : Fin 1024, a0 m c (ix2 n k) * a6 m c (ix2 j k)
/-- The two branches' projections. -/
def pa (c : Dev nD) (n : Fin 2048) (j : Fin 1024) : EReal := ∑ k : Fin 512, a2 m c (ix2 n k) * a4 m c (ix2 k j)
def pb (c : Dev nD) (n : Fin 2048) (j : Fin 1024) : EReal := ∑ k : Fin 1024, a3 m c (ix2 n k) * a5 m c (ix2 k j)
/-- The two gates. -/
def ga (c : Dev nD) (n : Fin 2048) (j : Fin 1024) : EReal := Ideal.logistic (a1 m c (ix2 n (⟨j.val, by omega⟩ : Fin 2048)))
def gb (c : Dev nD) (n : Fin 2048) (j : Fin 1024) : EReal := Ideal.logistic (a1 m c (ix2 n (⟨1024 + j.val, by omega⟩ : Fin 2048)))
def dpa (c : Dev nD) (n : Fin 2048) (j : Fin 1024) : EReal := dm m c n j * ga m c n j
def dpb (c : Dev nD) (n : Fin 2048) (j : Fin 1024) : EReal := dm m c n j * gb m c n j
def dga (c : Dev nD) (n : Fin 2048) (j : Fin 1024) : EReal := dm m c n j * pa m c n j * ga m c n j * (1 - ga m c n j)
def dgb (c : Dev nD) (n : Fin 2048) (j : Fin 1024) : EReal := dm m c n j * pb m c n j * gb m c n j * (1 - gb m c n j)
/-- The cotangent of both gates' inputs, side by side. -/
def dgp (c : Dev nD) (n j : Fin 2048) : EReal :=
  if h : j.val < 1024 then dga m c n ⟨j.val, h⟩ else dgb m c n ⟨j.val - 1024, by omega⟩

def G7 (c : Dev nD) : Buf (Elt Ideal) ((c : Thread nD τ).loc main_v7_0) := fun (i : S2048x512.Idx) =>
  (∑ j : Fin 1024, dpa m c (i 0) j * a4 m c (ix2 (i 1) j) : EReal)
def G8 (c : Dev nD) : Buf (Elt Ideal) ((c : Thread nD τ).loc main_v7_1) := fun (i : S2048x1024.Idx) =>
  (∑ j : Fin 1024, dpb m c (i 0) j * a5 m c (ix2 (i 1) j) : EReal)
def G9 (c : Dev nD) : Buf (Elt Ideal) ((c : Thread nD τ).loc main_v7_2) := fun (i : S2048x2048.Idx) => (dgp m c (i 0) (i 1) : EReal)
def G10 (c : Dev nD) : Buf (Elt Ideal) ((c : Thread nD τ).loc main_v7_3) := fun (i : S2048x1024.Idx) => (dpa m c (i 0) (i 1) : EReal)
def G11 (c : Dev nD) : Buf (Elt Ideal) ((c : Thread nD τ).loc main_v7_4) := fun (i : S2048x1024.Idx) => (dpb m c (i 0) (i 1) : EReal)

/-! ## What the launch finds in its operands -/

theorem operand0 (c : Dev nD) : (V m c main_arg0 : S2048x1024.Idx → EReal) = a0 m c := by rfl
theorem operand1 (c : Dev nD) : (V m c main_arg1 : S2048x2048.Idx → EReal) = a1 m c := by rfl
open Cert.Reference13Ideal.Read in
theorem operand2 (c : Dev nD) (n : Fin 2048) (j : Fin 1024) : (V m c main_v0 : S2048x1024.Idx → EReal) (ix2 n j) = pa m c n j := by
  have e : (V m c main_v0 : S2048x1024.Idx → EReal) = val_main_v0 (F := Ideal) (a2 m c) (a4 m c) := by rfl
  rw [e]
  refine (val_main_v0_apply (a2 m c) (a4 m c) (ix2 n j)).trans (Finset.sum_congr rfl fun k _ => ?_)
  refine congrArg₂ (fun a b : EReal => a * b) (congrArg (a2 m c) (funext fun a => ?_)) (congrArg (a4 m c) (funext fun a => ?_)) <;>
    (match a with
      | ⟨0, _⟩ => rfl
      | ⟨1, _⟩ => rfl)
open Cert.Reference13Ideal.Read in
theorem operand3 (c : Dev nD) (n : Fin 2048) (j : Fin 1024) : (V m c main_v1 : S2048x1024.Idx → EReal) (ix2 n j) = pb m c n j := by
  have e : (V m c main_v1 : S2048x1024.Idx → EReal) = val_main_v1 (F := Ideal) (a3 m c) (a5 m c) := by rfl
  rw [e]
  refine (val_main_v1_apply (a3 m c) (a5 m c) (ix2 n j)).trans (Finset.sum_congr rfl fun k _ => ?_)
  refine congrArg₂ (fun a b : EReal => a * b) (congrArg (a3 m c) (funext fun a => ?_)) (congrArg (a5 m c) (funext fun a => ?_)) <;>
    (match a with
      | ⟨0, _⟩ => rfl
      | ⟨1, _⟩ => rfl)
theorem operand5 (c : Dev nD) : (V m c main_v5 : S1024x1024.Idx → EReal) = a5 m c := by rfl
theorem operand6 (c : Dev nD) : (V m c main_v6 : S1024x1024.Idx → EReal) = a6 m c := by rfl

theorem operand4_eq (c : Dev nD) : V m c main_v4 = transpose S4x512x256 [1, 0, 2] (shapeCast S512x4x256
    (truncf .bf16 (m ((c : Thread nD τ).loc main_arg4)) bitsLt_bf16_f32 : FVec Ideal S512x1024 .bf16) shapeCasts_S512x1024_S512x4x256) transposes_S512x4x256_S4x512x256_1_0_2 := by
  after_results <;> rfl

theorem operand4 (c : Dev nD) (q : Fin 4) (i : Fin 512) (k : Fin 256) :
    (V m c main_v4 : S4x512x256.Idx → EReal) (ix3 q i k) = a4 m c (ix2 i (⟨q.val * 256 + k.val, by omega⟩ : Fin 1024)) := by
  rw [operand4_eq]
  refine (transpose_apply [1, 0, 2] _ transposes_S512x4x256_S4x512x256_1_0_2 (ix3 q i k) (ix3 i q k) (fun b => match b with
    | ⟨0, _⟩ => rfl
    | ⟨1, _⟩ => rfl
    | ⟨2, _⟩ => rfl)).trans ?_
  refine (shapeCast_apply _ shapeCasts_S512x1024_S512x4x256 (ix3 i q k) (ix2 i ⟨q.val * 256 + k.val, by omega⟩) ?_).trans rfl
  rewrite [Shape.rowMajor_val_two, Shape.rowMajor_val_three]
  show i.val * 1024 + (q.val * 256 + k.val) = (i.val * 4 + q.val) * 256 + k.val
  omega

/-! ## The windows' blocks -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)

theorem block0 (c : Dev nD) (t : Fin cfg0.N) (r : Fin 256) (k : Fin 1024) (n : Fin 2048) (h : n.val = t.val * 256 + r.val) :
    (iblk m c 0 t : S256x1024.Idx → EReal) (ix2 r k) = (V m c main_arg0 : S2048x1024.Idx → EReal) (ix2 n k) := by
  have e := idx0 t
  refine congrArg (V m c main_arg0) (funext fun a => Fin.ext ?_)
  match a with
  | ⟨0, _⟩ => refine Eq.trans (b := win0_0.index t (0 : Fin 2) * 256 + 1 * r.val) rfl ?_; rw [e]; refine Eq.trans ?_ h.symm; show t.val * 256 + 1 * r.val = t.val * 256 + r.val; omega
  | ⟨1, _⟩ => refine Eq.trans (b := win0_0.index t (1 : Fin 2) * 1024 + 1 * k.val) rfl ?_; rw [e]; show 0 * 1024 + 1 * k.val = k.val; omega

theorem block1 (c : Dev nD) (t : Fin cfg0.N) (r : Fin 256) (k : Fin 2048) (n : Fin 2048) (h : n.val = t.val * 256 + r.val) :
    (iblk m c 1 t : S256x2048.Idx → EReal) (ix2 r k) = (V m c main_arg1 : S2048x2048.Idx → EReal) (ix2 n k) := by
  have e := idx1 t
  refine congrArg (V m c main_arg1) (funext fun a => Fin.ext ?_)
  match a with
  | ⟨0, _⟩ => refine Eq.trans (b := win0_1.index t (0 : Fin 2) * 256 + 1 * r.val) rfl ?_; rw [e]; refine Eq.trans ?_ h.symm; show t.val * 256 + 1 * r.val = t.val * 256 + r.val; omega
  | ⟨1, _⟩ => refine Eq.trans (b := win0_1.index t (1 : Fin 2) * 2048 + 1 * k.val) rfl ?_; rw [e]; show 0 * 2048 + 1 * k.val = k.val; omega

theorem block2 (c : Dev nD) (t : Fin cfg0.N) (r : Fin 256) (k : Fin 1024) (n : Fin 2048) (h : n.val = t.val * 256 + r.val) :
    (iblk m c 2 t : S256x1024.Idx → EReal) (ix2 r k) = (V m c main_v0 : S2048x1024.Idx → EReal) (ix2 n k) := by
  have e := idx2 t
  refine congrArg (V m c main_v0) (funext fun a => Fin.ext ?_)
  match a with
  | ⟨0, _⟩ => refine Eq.trans (b := win0_2.index t (0 : Fin 2) * 256 + 1 * r.val) rfl ?_; rw [e]; refine Eq.trans ?_ h.symm; show t.val * 256 + 1 * r.val = t.val * 256 + r.val; omega
  | ⟨1, _⟩ => refine Eq.trans (b := win0_2.index t (1 : Fin 2) * 1024 + 1 * k.val) rfl ?_; rw [e]; show 0 * 1024 + 1 * k.val = k.val; omega

theorem block3 (c : Dev nD) (t : Fin cfg0.N) (r : Fin 256) (k : Fin 1024) (n : Fin 2048) (h : n.val = t.val * 256 + r.val) :
    (iblk m c 3 t : S256x1024.Idx → EReal) (ix2 r k) = (V m c main_v1 : S2048x1024.Idx → EReal) (ix2 n k) := by
  have e := idx3 t
  refine congrArg (V m c main_v1) (funext fun a => Fin.ext ?_)
  match a with
  | ⟨0, _⟩ => refine Eq.trans (b := win0_3.index t (0 : Fin 2) * 256 + 1 * r.val) rfl ?_; rw [e]; refine Eq.trans ?_ h.symm; show t.val * 256 + 1 * r.val = t.val * 256 + r.val; omega
  | ⟨1, _⟩ => refine Eq.trans (b := win0_3.index t (1 : Fin 2) * 1024 + 1 * k.val) rfl ?_; rw [e]; show 0 * 1024 + 1 * k.val = k.val; omega

theorem block4 (c : Dev nD) (t : Fin cfg0.N) (j : S4x512x256.Idx) :
    (iblk m c 4 t : S4x512x256.Idx → EReal) j = (V m c main_v4 : S4x512x256.Idx → EReal) j := by
  have e := idx4 t
  refine congrArg (V m c main_v4) (funext fun a => Fin.ext ?_)
  match a with
  | ⟨0, _⟩ => refine Eq.trans (b := win0_4.index t (0 : Fin 3) * 4 + 1 * (j 0).val) rfl ?_; rw [e]; show 0 * 4 + 1 * (j 0).val = (j 0).val; omega
  | ⟨1, _⟩ => refine Eq.trans (b := win0_4.index t (1 : Fin 3) * 512 + 1 * (j 1).val) rfl ?_; rw [e]; show 0 * 512 + 1 * (j 1).val = (j 1).val; omega
  | ⟨2, _⟩ => refine Eq.trans (b := win0_4.index t (2 : Fin 3) * 256 + 1 * (j 2).val) rfl ?_; rw [e]; show 0 * 256 + 1 * (j 2).val = (j 2).val; omega

theorem block5 (c : Dev nD) (t : Fin cfg0.N) (j : S1024x1024.Idx) :
    (iblk m c 5 t : S1024x1024.Idx → EReal) j = (V m c main_v5 : S1024x1024.Idx → EReal) j := by
  have e := idx5 t
  refine congrArg (V m c main_v5) (funext fun a => Fin.ext ?_)
  match a with
  | ⟨0, _⟩ => refine Eq.trans (b := win0_5.index t (0 : Fin 2) * 1024 + 1 * (j 0).val) rfl ?_; rw [e]; show 0 * 1024 + 1 * (j 0).val = (j 0).val; omega
  | ⟨1, _⟩ => refine Eq.trans (b := win0_5.index t (1 : Fin 2) * 1024 + 1 * (j 1).val) rfl ?_; rw [e]; show 0 * 1024 + 1 * (j 1).val = (j 1).val; omega

theorem block6 (c : Dev nD) (t : Fin cfg0.N) (j : S1024x1024.Idx) :
    (iblk m c 6 t : S1024x1024.Idx → EReal) j = (V m c main_v6 : S1024x1024.Idx → EReal) j := by
  have e := idx6 t
  refine congrArg (V m c main_v6) (funext fun a => Fin.ext ?_)
  match a with
  | ⟨0, _⟩ => refine Eq.trans (b := win0_6.index t (0 : Fin 2) * 1024 + 1 * (j 0).val) rfl ?_; rw [e]; show 0 * 1024 + 1 * (j 0).val = (j 0).val; omega
  | ⟨1, _⟩ => refine Eq.trans (b := win0_6.index t (1 : Fin 2) * 1024 + 1 * (j 1).val) rfl ?_; rw [e]; show 0 * 1024 + 1 * (j 1).val = (j 1).val; omega

theorem emb7_row (t : Fin cfg0.N) (y : S256x512.Idx) : (((cfg0.win 7).blk t).view.emb y 0).val = t.val * 256 + (y 0).val := by
  refine Eq.trans (b := win0_7.index t (0 : Fin 2) * 256 + 1 * (y 0).val) rfl ?_
  rw [idx7 t]; show t.val * 256 + 1 * (y 0).val = t.val * 256 + (y 0).val; omega
theorem emb7_col (t : Fin cfg0.N) (y : S256x512.Idx) : (((cfg0.win 7).blk t).view.emb y 1).val = (y 1).val := by
  refine Eq.trans (b := win0_7.index t (1 : Fin 2) * 512 + 1 * (y 1).val) rfl ?_
  rw [idx7 t]; show 0 * 512 + 1 * (y 1).val = (y 1).val; omega

theorem covered7 (i : S2048x512.Idx) : ∃ t : Fin cfg0.N, (cfg0.win 7).flush t = true ∧ i ∈ ((cfg0.win 7).blk t).view.set := by
  have h0 : (i 0).val < 2048 := (i 0).isLt
  have h1 : (i 1).val < 512 := (i 1).isLt
  refine ⟨⟨(i 0).val / 256, lt_of_lt_of_eq (show (i 0).val / 256 < 8 by omega) (show 8 = cfg0.N from N_0.symm)⟩, flush0_7 _, ?_⟩
  have hm : ∀ t : Fin cfg0.N, i ∈ ((cfg0.win 7).blk t).view.set ↔ ∀ a : Fin 2, win0_7.index t a * S256x512.size a ≤ (i a).val ∧ (i a).val < win0_7.index t a * S256x512.size a + S256x512.size a := fun t => by
    show i ∈ ((View.whole main_v7_0).slice (win0_7.rect t)).set ↔ _
    rw [View.set_slice_whole, Rect.mem_set_unit]
    exact Iff.rfl
  rw [hm, idx7]
  intro a
  match a with
  | ⟨0, _⟩ => show (i 0).val / 256 * 256 ≤ (i 0).val ∧ (i 0).val < (i 0).val / 256 * 256 + 256; omega
  | ⟨1, _⟩ => show 0 * 512 ≤ (i 1).val ∧ (i 1).val < 0 * 512 + 512; omega

theorem emb8_row (t : Fin cfg0.N) (y : S256x1024.Idx) : (((cfg0.win 8).blk t).view.emb y 0).val = t.val * 256 + (y 0).val := by
  refine Eq.trans (b := win0_8.index t (0 : Fin 2) * 256 + 1 * (y 0).val) rfl ?_
  rw [idx8 t]; show t.val * 256 + 1 * (y 0).val = t.val * 256 + (y 0).val; omega
theorem emb8_col (t : Fin cfg0.N) (y : S256x1024.Idx) : (((cfg0.win 8).blk t).view.emb y 1).val = (y 1).val := by
  refine Eq.trans (b := win0_8.index t (1 : Fin 2) * 1024 + 1 * (y 1).val) rfl ?_
  rw [idx8 t]; show 0 * 1024 + 1 * (y 1).val = (y 1).val; omega

theorem covered8 (i : S2048x1024.Idx) : ∃ t : Fin cfg0.N, (cfg0.win 8).flush t = true ∧ i ∈ ((cfg0.win 8).blk t).view.set := by
  have h0 : (i 0).val < 2048 := (i 0).isLt
  have h1 : (i 1).val < 1024 := (i 1).isLt
  refine ⟨⟨(i 0).val / 256, lt_of_lt_of_eq (show (i 0).val / 256 < 8 by omega) (show 8 = cfg0.N from N_0.symm)⟩, flush0_8 _, ?_⟩
  have hm : ∀ t : Fin cfg0.N, i ∈ ((cfg0.win 8).blk t).view.set ↔ ∀ a : Fin 2, win0_8.index t a * S256x1024.size a ≤ (i a).val ∧ (i a).val < win0_8.index t a * S256x1024.size a + S256x1024.size a := fun t => by
    show i ∈ ((View.whole main_v7_1).slice (win0_8.rect t)).set ↔ _
    rw [View.set_slice_whole, Rect.mem_set_unit]
    exact Iff.rfl
  rw [hm, idx8]
  intro a
  match a with
  | ⟨0, _⟩ => show (i 0).val / 256 * 256 ≤ (i 0).val ∧ (i 0).val < (i 0).val / 256 * 256 + 256; omega
  | ⟨1, _⟩ => show 0 * 1024 ≤ (i 1).val ∧ (i 1).val < 0 * 1024 + 1024; omega

theorem emb9_row (t : Fin cfg0.N) (y : S256x2048.Idx) : (((cfg0.win 9).blk t).view.emb y 0).val = t.val * 256 + (y 0).val := by
  refine Eq.trans (b := win0_9.index t (0 : Fin 2) * 256 + 1 * (y 0).val) rfl ?_
  rw [idx9 t]; show t.val * 256 + 1 * (y 0).val = t.val * 256 + (y 0).val; omega
theorem emb9_col (t : Fin cfg0.N) (y : S256x2048.Idx) : (((cfg0.win 9).blk t).view.emb y 1).val = (y 1).val := by
  refine Eq.trans (b := win0_9.index t (1 : Fin 2) * 2048 + 1 * (y 1).val) rfl ?_
  rw [idx9 t]; show 0 * 2048 + 1 * (y 1).val = (y 1).val; omega

theorem covered9 (i : S2048x2048.Idx) : ∃ t : Fin cfg0.N, (cfg0.win 9).flush t = true ∧ i ∈ ((cfg0.win 9).blk t).view.set := by
  have h0 : (i 0).val < 2048 := (i 0).isLt
  have h1 : (i 1).val < 2048 := (i 1).isLt
  refine ⟨⟨(i 0).val / 256, lt_of_lt_of_eq (show (i 0).val / 256 < 8 by omega) (show 8 = cfg0.N from N_0.symm)⟩, flush0_9 _, ?_⟩
  have hm : ∀ t : Fin cfg0.N, i ∈ ((cfg0.win 9).blk t).view.set ↔ ∀ a : Fin 2, win0_9.index t a * S256x2048.size a ≤ (i a).val ∧ (i a).val < win0_9.index t a * S256x2048.size a + S256x2048.size a := fun t => by
    show i ∈ ((View.whole main_v7_2).slice (win0_9.rect t)).set ↔ _
    rw [View.set_slice_whole, Rect.mem_set_unit]
    exact Iff.rfl
  rw [hm, idx9]
  intro a
  match a with
  | ⟨0, _⟩ => show (i 0).val / 256 * 256 ≤ (i 0).val ∧ (i 0).val < (i 0).val / 256 * 256 + 256; omega
  | ⟨1, _⟩ => show 0 * 2048 ≤ (i 1).val ∧ (i 1).val < 0 * 2048 + 2048; omega

theorem emb10_row (t : Fin cfg0.N) (y : S256x1024.Idx) : (((cfg0.win 10).blk t).view.emb y 0).val = t.val * 256 + (y 0).val := by
  refine Eq.trans (b := win0_10.index t (0 : Fin 2) * 256 + 1 * (y 0).val) rfl ?_
  rw [idx10 t]; show t.val * 256 + 1 * (y 0).val = t.val * 256 + (y 0).val; omega
theorem emb10_col (t : Fin cfg0.N) (y : S256x1024.Idx) : (((cfg0.win 10).blk t).view.emb y 1).val = (y 1).val := by
  refine Eq.trans (b := win0_10.index t (1 : Fin 2) * 1024 + 1 * (y 1).val) rfl ?_
  rw [idx10 t]; show 0 * 1024 + 1 * (y 1).val = (y 1).val; omega

theorem covered10 (i : S2048x1024.Idx) : ∃ t : Fin cfg0.N, (cfg0.win 10).flush t = true ∧ i ∈ ((cfg0.win 10).blk t).view.set := by
  have h0 : (i 0).val < 2048 := (i 0).isLt
  have h1 : (i 1).val < 1024 := (i 1).isLt
  refine ⟨⟨(i 0).val / 256, lt_of_lt_of_eq (show (i 0).val / 256 < 8 by omega) (show 8 = cfg0.N from N_0.symm)⟩, flush0_10 _, ?_⟩
  have hm : ∀ t : Fin cfg0.N, i ∈ ((cfg0.win 10).blk t).view.set ↔ ∀ a : Fin 2, win0_10.index t a * S256x1024.size a ≤ (i a).val ∧ (i a).val < win0_10.index t a * S256x1024.size a + S256x1024.size a := fun t => by
    show i ∈ ((View.whole main_v7_3).slice (win0_10.rect t)).set ↔ _
    rw [View.set_slice_whole, Rect.mem_set_unit]
    exact Iff.rfl
  rw [hm, idx10]
  intro a
  match a with
  | ⟨0, _⟩ => show (i 0).val / 256 * 256 ≤ (i 0).val ∧ (i 0).val < (i 0).val / 256 * 256 + 256; omega
  | ⟨1, _⟩ => show 0 * 1024 ≤ (i 1).val ∧ (i 1).val < 0 * 1024 + 1024; omega

theorem emb11_row (t : Fin cfg0.N) (y : S256x1024.Idx) : (((cfg0.win 11).blk t).view.emb y 0).val = t.val * 256 + (y 0).val := by
  refine Eq.trans (b := win0_11.index t (0 : Fin 2) * 256 + 1 * (y 0).val) rfl ?_
  rw [idx11 t]; show t.val * 256 + 1 * (y 0).val = t.val * 256 + (y 0).val; omega
theorem emb11_col (t : Fin cfg0.N) (y : S256x1024.Idx) : (((cfg0.win 11).blk t).view.emb y 1).val = (y 1).val := by
  refine Eq.trans (b := win0_11.index t (1 : Fin 2) * 1024 + 1 * (y 1).val) rfl ?_
  rw [idx11 t]; show 0 * 1024 + 1 * (y 1).val = (y 1).val; omega

theorem covered11 (i : S2048x1024.Idx) : ∃ t : Fin cfg0.N, (cfg0.win 11).flush t = true ∧ i ∈ ((cfg0.win 11).blk t).view.set := by
  have h0 : (i 0).val < 2048 := (i 0).isLt
  have h1 : (i 1).val < 1024 := (i 1).isLt
  refine ⟨⟨(i 0).val / 256, lt_of_lt_of_eq (show (i 0).val / 256 < 8 by omega) (show 8 = cfg0.N from N_0.symm)⟩, flush0_11 _, ?_⟩
  have hm : ∀ t : Fin cfg0.N, i ∈ ((cfg0.win 11).blk t).view.set ↔ ∀ a : Fin 2, win0_11.index t a * S256x1024.size a ≤ (i a).val ∧ (i a).val < win0_11.index t a * S256x1024.size a + S256x1024.size a := fun t => by
    show i ∈ ((View.whole main_v7_4).slice (win0_11.rect t)).set ↔ _
    rw [View.set_slice_whole, Rect.mem_set_unit]
    exact Iff.rfl
  rw [hm, idx11]
  intro a
  match a with
  | ⟨0, _⟩ => show (i 0).val / 256 * 256 ≤ (i 0).val ∧ (i 0).val < (i 0).val / 256 * 256 + 256; omega
  | ⟨1, _⟩ => show 0 * 1024 ≤ (i 1).val ∧ (i 1).val < 0 * 1024 + 1024; omega

/-! ## What a grid point computes, on its blocks -/

theorem zero2 : (![0, 0] : Fin 2 → Nat) = fun _ => 0 := funext fun a => by fin_cases a <;> rfl

theorem pay3_apply (x0 : Vec Ideal S256x1024 .f32) (x6 : Vec Ideal S1024x1024 .bf16) (r : Fin 256) (j : Fin 1024) :
    k0_pay3 (F := Ideal) x0 x6 (ix2 r j) = ∑ k : Fin 1024, (x0 (ix2 r k) : EReal) * x6 (ix2 j k) := by
  unfold k0_pay3
  rw [shapeCast_self]
  exact Shared.product_nt (M := 256) (K := 1024) (N := 1024) (φ₁ := .bf16) (φ₂ := .bf16) x0 x6 r j

theorem pay4_apply (x1 : Vec Ideal S256x2048 .f32) (r : Fin 256) (j : Fin 1024) :
    k0_pay4 (F := Ideal) x1 (ix2 r j) = Ideal.logistic (x1 (ix2 r (⟨j.val, by omega⟩ : Fin 2048))) := by
  unfold k0_pay4
  refine congrArg Ideal.logistic (extractStridedSlice_apply ![0, 0] _ _ (ix2 r j) (ix2 r (⟨j.val, by omega⟩ : Fin 2048)) (fun a => match a with
    | ⟨0, _⟩ => by show r.val = 0 + r.val; omega
    | ⟨1, _⟩ => by show j.val = 0 + j.val; omega))

theorem pay5_apply (x1 : Vec Ideal S256x2048 .f32) (r : Fin 256) (j : Fin 1024) :
    k0_pay5 (F := Ideal) x1 (ix2 r j) = Ideal.logistic (x1 (ix2 r (⟨1024 + j.val, by omega⟩ : Fin 2048))) := by
  unfold k0_pay5
  refine congrArg Ideal.logistic (extractStridedSlice_apply ![0, 1024] _ _ (ix2 r j) (ix2 r (⟨1024 + j.val, by omega⟩ : Fin 2048)) (fun a => match a with
    | ⟨0, _⟩ => by show r.val = 0 + r.val; omega
    | ⟨1, _⟩ => by show 1024 + j.val = 1024 + j.val; omega))

theorem pay6_apply (x0 : Vec Ideal S256x1024 .f32) (x6 : Vec Ideal S1024x1024 .bf16) (x1 : Vec Ideal S256x2048 .f32) (i : S256x1024.Idx) :
    (k0_pay6 (F := Ideal) x0 x6 x1 i : EReal) = (k0_pay3 (F := Ideal) x0 x6 i : EReal) * k0_pay4 (F := Ideal) x1 i := rfl
theorem pay7_apply (x0 : Vec Ideal S256x1024 .f32) (x6 : Vec Ideal S1024x1024 .bf16) (x1 : Vec Ideal S256x2048 .f32) (i : S256x1024.Idx) :
    (k0_pay7 (F := Ideal) x0 x6 x1 i : EReal) = (k0_pay3 (F := Ideal) x0 x6 i : EReal) * k0_pay5 (F := Ideal) x1 i := rfl
theorem pay10_apply (x0 : Vec Ideal S256x1024 .f32) (x6 : Vec Ideal S1024x1024 .bf16) (x1 : Vec Ideal S256x2048 .f32) (x2 : Vec Ideal S256x1024 .f32) (i : S256x1024.Idx) :
    (k0_pay10 (F := Ideal) x0 x6 x1 x2 i : EReal) = (k0_pay3 (F := Ideal) x0 x6 i : EReal) * x2 i * k0_pay4 (F := Ideal) x1 i * (1 - k0_pay4 (F := Ideal) x1 i) := by
  unfold k0_pay10
  rw [shapeCast_self]
  exact congrArg (fun u : EReal => (k0_pay3 (F := Ideal) x0 x6 i : EReal) * x2 i * k0_pay4 (F := Ideal) x1 i * (u - k0_pay4 (F := Ideal) x1 i)) Shared.ofBits_one
theorem pay11_apply (x0 : Vec Ideal S256x1024 .f32) (x6 : Vec Ideal S1024x1024 .bf16) (x1 : Vec Ideal S256x2048 .f32) (x3 : Vec Ideal S256x1024 .f32) (i : S256x1024.Idx) :
    (k0_pay11 (F := Ideal) x0 x6 x1 x3 i : EReal) = (k0_pay3 (F := Ideal) x0 x6 i : EReal) * x3 i * k0_pay5 (F := Ideal) x1 i * (1 - k0_pay5 (F := Ideal) x1 i) := by
  unfold k0_pay11
  rw [shapeCast_self]
  exact congrArg (fun u : EReal => (k0_pay3 (F := Ideal) x0 x6 i : EReal) * x3 i * k0_pay5 (F := Ideal) x1 i * (u - k0_pay5 (F := Ideal) x1 i)) Shared.ofBits_one

/-- One of the four runs of columns: its product, from the slice of the left operand and one slab of the right. -/
theorem run_apply (o : Nat) (ho : o + 256 ≤ 1024) (x : FVec Ideal S256x1024 .bf16) (w : Vec Ideal S1x512x256 .bf16) (hs : S256x1024.Slices ![0, o] S256x256) (r : Fin 256) (i : Fin 512) :
    matmul dot_S256x256_S512x256_S256x512_1_1_0_0_n_n none (extractStridedSlice S256x256 ![0, o] x hs : FVec Ideal S256x256 .bf16) (shapeCast S512x256 w shapeCasts_S1x512x256_S512x256 : FVec Ideal S512x256 .bf16)
        (constant S256x512 .f32 0x00000000#32) (ix2 r i)
      = ∑ k : Fin 256, (x (ix2 r (⟨o + k.val, by omega⟩ : Fin 1024)) : EReal) * w (ix3 0 i k) := by
  refine (Shared.product_nt (M := 256) (K := 256) (N := 512) (φ₁ := .bf16) (φ₂ := .bf16) _ _ r i).trans (Finset.sum_congr rfl fun k _ => ?_)
  refine congrArg₂ (fun a b : EReal => a * b) ?_ ?_
  · exact extractStridedSlice_apply ![0, o] _ _ (ix2 r k) (ix2 r (⟨o + k.val, by omega⟩ : Fin 1024)) (fun a => match a with
      | ⟨0, _⟩ => by show r.val = 0 + r.val; omega
      | ⟨1, _⟩ => rfl)
  · exact shapeCast_apply _ shapeCasts_S1x512x256_S512x256 (ix2 i k) (ix3 0 i k) (by
      rewrite [Shape.rowMajor_val_two, Shape.rowMajor_val_three]
      show (0 * 512 + i.val) * 256 + k.val = i.val * 256 + k.val
      omega)

theorem pay1_apply (x : FVec Ideal S256x1024 .bf16) (w0 w1 w2 w3 : Vec Ideal S1x512x256 .bf16) (r : Fin 256) (i : Fin 512) :
    (k0_pay1 (F := Ideal) x w0 w1 w2 w3 (ix2 r i) : EReal) =
      (((∑ k : Fin 256, (x (ix2 r (⟨0 + k.val, by omega⟩ : Fin 1024)) : EReal) * w0 (ix3 0 i k)) + ∑ k : Fin 256, (x (ix2 r (⟨256 + k.val, by omega⟩ : Fin 1024)) : EReal) * w1 (ix3 0 i k))
        + ∑ k : Fin 256, (x (ix2 r (⟨512 + k.val, by omega⟩ : Fin 1024)) : EReal) * w2 (ix3 0 i k)) + ∑ k : Fin 256, (x (ix2 r (⟨768 + k.val, by omega⟩ : Fin 1024)) : EReal) * w3 (ix3 0 i k) := by
  unfold k0_pay1
  rw [shapeCast_self]
  refine congrArg₂ (fun a b : EReal => a + b) (congrArg₂ (fun a b : EReal => a + b) (congrArg₂ (fun a b : EReal => a + b) ?_ ?_) ?_) ?_
  · refine Eq.trans (congrArg₂ (fun a b : EReal => a + b) Ideal.ofBits_zero_f32 (run_apply 0 (by omega) x w0 _ r i)) (zero_add _)
  · exact run_apply 256 (by omega) x w1 _ r i
  · exact run_apply 512 (by omega) x w2 _ r i
  · exact run_apply 768 (by omega) x w3 _ r i

/-- The four slabs of the weight as the body loads them. -/
theorem slab (q : Nat) (hq : q < 4) (x4 : Vec Ideal S4x512x256 .bf16) (h : ∀ a, (![q, 0, 0] : Fin 3 → Nat) a + S1x512x256.size a ≤ S4x512x256.size a) (i : Fin 512) (k : Fin 256) :
    View.ld x4 (Rect.unit (s := S4x512x256) ![q, 0, 0] S1x512x256.size h) (ix3 0 i k) = x4 (ix3 (⟨q, hq⟩ : Fin 4) i k) := by
  refine congrArg x4 (funext fun a => Fin.ext ?_)
  match a with
  | ⟨0, _⟩ => show q + 1 * 0 = q; omega
  | ⟨1, _⟩ => show 0 + 1 * i.val = i.val; omega
  | ⟨2, _⟩ => show 0 + 1 * k.val = k.val; omega

/-! ## The same, on the blocks of a point -/

theorem dm_eq (c : Dev nD) (t : Fin cfg0.N) (r : Fin 256) (j : Fin 1024) (n : Fin 2048) (h : n.val = t.val * 256 + r.val) :
    k0_pay3 (F := Ideal) (iblk m c 0 t) (iblk m c 6 t) (ix2 r j) = dm m c n j := by
  refine (pay3_apply _ _ r j).trans (Finset.sum_congr rfl fun k _ => ?_)
  exact congrArg₂ (fun a b : EReal => a * b) ((block0 m c t r k n h).trans (congrFun (operand0 m c) _)) ((block6 m c t (ix2 j k)).trans (congrFun (operand6 m c) _))

theorem ga_eq (c : Dev nD) (t : Fin cfg0.N) (r : Fin 256) (j : Fin 1024) (n : Fin 2048) (h : n.val = t.val * 256 + r.val) :
    k0_pay4 (F := Ideal) (iblk m c 1 t) (ix2 r j) = ga m c n j := by
  refine (pay4_apply _ r j).trans (congrArg Ideal.logistic ?_)
  exact (block1 m c t r (⟨j.val, by omega⟩ : Fin 2048) n h).trans (congrFun (operand1 m c) _)

theorem gb_eq (c : Dev nD) (t : Fin cfg0.N) (r : Fin 256) (j : Fin 1024) (n : Fin 2048) (h : n.val = t.val * 256 + r.val) :
    k0_pay5 (F := Ideal) (iblk m c 1 t) (ix2 r j) = gb m c n j := by
  refine (pay5_apply _ r j).trans (congrArg Ideal.logistic ?_)
  exact (block1 m c t r (⟨1024 + j.val, by omega⟩ : Fin 2048) n h).trans (congrFun (operand1 m c) _)

theorem dpa_eq (c : Dev nD) (t : Fin cfg0.N) (r : Fin 256) (j : Fin 1024) (n : Fin 2048) (h : n.val = t.val * 256 + r.val) :
    (k0_pay6 (F := Ideal) (iblk m c 0 t) (iblk m c 6 t) (iblk m c 1 t) (ix2 r j) : EReal) = dpa m c n j :=
  (pay6_apply _ _ _ _).trans (congrArg₂ (fun a b : EReal => a * b) (dm_eq m c t r j n h) (ga_eq m c t r j n h))

theorem dpb_eq (c : Dev nD) (t : Fin cfg0.N) (r : Fin 256) (j : Fin 1024) (n : Fin 2048) (h : n.val = t.val * 256 + r.val) :
    (k0_pay7 (F := Ideal) (iblk m c 0 t) (iblk m c 6 t) (iblk m c 1 t) (ix2 r j) : EReal) = dpb m c n j :=
  (pay7_apply _ _ _ _).trans (congrArg₂ (fun a b : EReal => a * b) (dm_eq m c t r j n h) (gb_eq m c t r j n h))

theorem dga_eq (c : Dev nD) (t : Fin cfg0.N) (r : Fin 256) (j : Fin 1024) (n : Fin 2048) (h : n.val = t.val * 256 + r.val) :
    (k0_pay10 (F := Ideal) (iblk m c 0 t) (iblk m c 6 t) (iblk m c 1 t) (iblk m c 2 t) (ix2 r j) : EReal) = dga m c n j := by
  refine (pay10_apply _ _ _ _ _).trans ?_
  refine congrArg₂ (fun a b : EReal => a * b) (congrArg₂ (fun a b : EReal => a * b) (congrArg₂ (fun a b : EReal => a * b) (dm_eq m c t r j n h) ?_) (ga_eq m c t r j n h)) (congrArg (fun b : EReal => 1 - b) (ga_eq m c t r j n h))
  exact (block2 m c t r j n h).trans (operand2 m c n j)

theorem dgb_eq (c : Dev nD) (t : Fin cfg0.N) (r : Fin 256) (j : Fin 1024) (n : Fin 2048) (h : n.val = t.val * 256 + r.val) :
    (k0_pay11 (F := Ideal) (iblk m c 0 t) (iblk m c 6 t) (iblk m c 1 t) (iblk m c 3 t) (ix2 r j) : EReal) = dgb m c n j := by
  refine (pay11_apply _ _ _ _ _).trans ?_
  refine congrArg₂ (fun a b : EReal => a * b) (congrArg₂ (fun a b : EReal => a * b) (congrArg₂ (fun a b : EReal => a * b) (dm_eq m c t r j n h) ?_) (gb_eq m c t r j n h)) (congrArg (fun b : EReal => 1 - b) (gb_eq m c t r j n h))
  exact (block3 m c t r j n h).trans (operand3 m c n j)

/-! ## What a grid point writes back -/

theorem flushed7_eq (c : Dev nD) (t : Fin cfg0.N) : (dats m 0 c).flushed 7 t = ((cfg0.win 7).blk t).view.read (Elt Ideal) (G7 m c) := by
  rw [Value.flushed7]
  unfold out0_7
  rw [View.canon_unit_zero zero2, View.ld_unit_zero (S := S256x1024) zero2, View.ld_unit_zero (S := S1024x1024) zero2, View.ld_unit_zero (S := S256x2048) zero2]
  funext (y : S256x512.Idx)
  have hr := emb7_row t y
  have hc : (((cfg0.win 7).blk t).view.emb y 1 : Fin 512) = y 1 := Fin.ext (emb7_col t y)
  show (k0_pay1 (F := Ideal) _ _ _ _ _ y : EReal) = ∑ j : Fin 1024, dpa m c (((cfg0.win 7).blk t).view.emb y 0) j * a4 m c (ix2 (((cfg0.win 7).blk t).view.emb y 1) j)
  rw [hc]
  generalize (((cfg0.win 7).blk t).view.emb y 0 : Fin 2048) = n at hr ⊢
  refine Eq.trans (congrArg _ (show y = ix2 (y 0) (y 1) from eq_ix2 y)) ((pay1_apply _ _ _ _ _ (y 0) (y 1)).trans ?_)
  refine Eq.trans ?_ (Shared.sum_runs 256 (fun j : Fin 1024 => dpa m c n j * a4 m c (ix2 (y 1) j))).symm
  have term : ∀ (q : Nat) (hq : q < 4) (h : ∀ a, (![q, 0, 0] : Fin 3 → Nat) a + S1x512x256.size a ≤ S4x512x256.size a) (k : Fin 256) (j : Fin 1024), j.val = q * 256 + k.val →
      (k0_pay6 (F := Ideal) (iblk m c 0 t) (iblk m c 6 t) (iblk m c 1 t) (ix2 (y 0) j) : EReal) * View.ld (iblk m c 4 t : Vec Ideal S4x512x256 .bf16) (Rect.unit (s := S4x512x256) ![q, 0, 0] S1x512x256.size h) (ix3 0 (y 1) k)
        = dpa m c n j * a4 m c (ix2 (y 1) j) := fun q hq h k j hj => by
    refine congrArg₂ (fun a b : EReal => a * b) (dpa_eq m c t (y 0) j n hr) ?_
    refine (slab q hq _ h (y 1) k).trans ((block4 m c t _).trans ((operand4 m c ⟨q, hq⟩ (y 1) k).trans (congrArg (fun u : Fin 1024 => a4 m c (ix2 (y 1) u)) (Fin.ext hj.symm))))
  refine congrArg₂ (fun a b : EReal => a + b) (congrArg₂ (fun a b : EReal => a + b) (congrArg₂ (fun a b : EReal => a + b) ?_ ?_) ?_) ?_
  · exact Finset.sum_congr rfl fun k _ => (term 0 (by omega) _ k _ (by show 0 + k.val = 0 * 256 + k.val; omega)).trans (congrArg (fun u : Fin 1024 => dpa m c n u * a4 m c (ix2 (y 1) u)) (Fin.ext (show 0 + k.val = k.val by omega)))
  · exact Finset.sum_congr rfl fun k _ => term 1 (by omega) _ k _ (by show 256 + k.val = 1 * 256 + k.val; omega)
  · exact Finset.sum_congr rfl fun k _ => term 2 (by omega) _ k _ (by show 512 + k.val = 2 * 256 + k.val; omega)
  · exact Finset.sum_congr rfl fun k _ => term 3 (by omega) _ k _ (by show 768 + k.val = 3 * 256 + k.val; omega)

theorem pay2_apply (x : FVec Ideal S256x1024 .bf16) (x5 : Vec Ideal S1024x1024 .bf16) (r : Fin 256) (i : Fin 1024) :
    (k0_pay2 (F := Ideal) x x5 (ix2 r i) : EReal) = ∑ k : Fin 1024, (x (ix2 r k) : EReal) * x5 (ix2 i k) := by
  unfold k0_pay2
  rw [shapeCast_self, shapeCast_self]
  exact Shared.product_nt (M := 256) (K := 1024) (N := 1024) (φ₁ := .bf16) (φ₂ := .bf16) x x5 r i

theorem flushed8_eq (c : Dev nD) (t : Fin cfg0.N) : (dats m 0 c).flushed 8 t = ((cfg0.win 8).blk t).view.read (Elt Ideal) (G8 m c) := by
  rw [Value.flushed8]
  unfold out0_8
  rw [View.canon_unit_zero zero2, View.ld_unit_zero (S := S256x1024) zero2, View.ld_unit_zero (S := S1024x1024) zero2, View.ld_unit_zero (S := S1024x1024) zero2, View.ld_unit_zero (S := S256x2048) zero2]
  funext (y : S256x1024.Idx)
  have hr := emb8_row t y
  have hc : (((cfg0.win 8).blk t).view.emb y 1 : Fin 1024) = y 1 := Fin.ext (emb8_col t y)
  show (k0_pay2 (F := Ideal) _ _ y : EReal) = ∑ j : Fin 1024, dpb m c (((cfg0.win 8).blk t).view.emb y 0) j * a5 m c (ix2 (((cfg0.win 8).blk t).view.emb y 1) j)
  rw [hc]
  refine Eq.trans (congrArg _ (show y = ix2 (y 0) (y 1) from eq_ix2 y)) ((pay2_apply _ _ (y 0) (y 1)).trans (Finset.sum_congr rfl fun j _ => ?_))
  exact congrArg₂ (fun a b : EReal => a * b) (dpb_eq m c t (y 0) j _ hr) ((block5 m c t (ix2 (y 1) j)).trans (congrFun (operand5 m c) _))

theorem flushed9_eq (c : Dev nD) (t : Fin cfg0.N) : (dats m 0 c).flushed 9 t = ((cfg0.win 9).blk t).view.read (Elt Ideal) (G9 m c) := by
  rw [Value.flushed9]
  funext (y : S256x2048.Idx)
  have hr := emb9_row t y
  have hc : (((cfg0.win 9).blk t).view.emb y 1 : Fin 2048) = y 1 := Fin.ext (emb9_col t y)
  show (out0_9 (F := Ideal) _ _ _ _ _ _ _ y : EReal) = dgp m c (((cfg0.win 9).blk t).view.emb y 0) (((cfg0.win 9).blk t).view.emb y 1)
  rw [hc]
  generalize hn : (((cfg0.win 9).blk t).view.emb y 0 : Fin 2048) = n at hr ⊢
  have hrow : ∀ z : S256x2048.Idx, ∃ n' : Fin 2048, n'.val = t.val * 256 + (z 0).val := fun z => by
    have h0 : (z 0).val < 256 := (z 0).isLt
    have ht : t.val < 8 := lt_of_lt_of_eq t.isLt (show cfg0.N = 8 from N_0)
    exact ⟨⟨t.val * 256 + (z 0).val, by omega⟩, rfl⟩
  have whole : ∀ z : S256x2048.Idx, out0_9 (F := Ideal) (iblk m c 0 t) (iblk m c 1 t) (iblk m c 2 t) (iblk m c 3 t) (iblk m c 4 t) (iblk m c 5 t) (iblk m c 6 t) z
      = (dgp m c (Classical.choose (hrow z)) (z 1) : EReal) := fun z => by
    unfold out0_9
    rw [View.ld_unit_zero (S := S256x1024) zero2, View.ld_unit_zero (S := S1024x1024) zero2, View.ld_unit_zero (S := S256x2048) zero2, View.ld_unit_zero (S := S256x1024) zero2, View.ld_unit_zero (S := S256x1024) zero2]
    refine View.canon_apply_of_pieces (Val := Elt Ideal) (e := .f32) (fun z : S256x2048.Idx => (dgp m c (Classical.choose (hrow z)) (z 1) : EReal)) _ ?_ z (cover0_9 _ _ z)
    intro pc hpc
    rcases List.mem_cons.mp hpc with rfl | hpc
    · intro (x : S256x1024.Idx)
      have hs := Classical.choose_spec (hrow (r0_4.emb x))
      have hx : (x 0).val < 256 := (x 0).isLt
      have e0 : (r0_4.emb x 0).val = (x 0).val := by show 0 + 1 * (x 0).val = (x 0).val; omega
      have e1 : (r0_4.emb x 1).val = 1024 + (x 1).val := by show 1024 + 1 * (x 1).val = 1024 + (x 1).val; omega
      show (k0_pay11 (F := Ideal) _ _ _ _ x : EReal) = dgp m c (Classical.choose (hrow (r0_4.emb x))) (r0_4.emb x 1)
      generalize Classical.choose (hrow (r0_4.emb x)) = n' at hs ⊢
      unfold dgp
      rw [dif_neg (show ¬(r0_4.emb x 1).val < 1024 by omega)]
      refine Eq.trans (congrArg _ (show x = ix2 (x 0) (x 1) from eq_ix2 x)) ((dgb_eq m c t (x 0) (x 1) n' (hs.trans (by rw [e0]))).trans (congrArg (dgb m c n') (Fin.ext ?_)))
      show (x 1).val = (r0_4.emb x 1).val - 1024
      omega
    rcases List.mem_cons.mp hpc with rfl | hpc
    · intro (x : S256x1024.Idx)
      have hs := Classical.choose_spec (hrow (r0_3.emb x))
      have hx : (x 1).val < 1024 := (x 1).isLt
      have e0 : (r0_3.emb x 0).val = (x 0).val := by show 0 + 1 * (x 0).val = (x 0).val; omega
      have e1 : (r0_3.emb x 1).val = (x 1).val := by show 0 + 1 * (x 1).val = (x 1).val; omega
      show (k0_pay10 (F := Ideal) _ _ _ _ x : EReal) = dgp m c (Classical.choose (hrow (r0_3.emb x))) (r0_3.emb x 1)
      generalize Classical.choose (hrow (r0_3.emb x)) = n' at hs ⊢
      unfold dgp
      rw [dif_pos (show (r0_3.emb x 1).val < 1024 by omega)]
      exact Eq.trans (congrArg _ (show x = ix2 (x 0) (x 1) from eq_ix2 x)) ((dga_eq m c t (x 0) (x 1) n' (hs.trans (by rw [e0]))).trans (congrArg (dga m c n') (Fin.ext e1.symm)))
    nomatch hpc
  refine (whole y).trans (congrArg (fun u => dgp m c u (y 1)) (Fin.ext ?_))
  exact (Classical.choose_spec (hrow y)).trans hr.symm

theorem flushed10_eq (c : Dev nD) (t : Fin cfg0.N) : (dats m 0 c).flushed 10 t = ((cfg0.win 10).blk t).view.read (Elt Ideal) (G10 m c) := by
  rw [Value.flushed10]
  unfold out0_10
  rw [View.canon_unit_zero zero2, View.ld_unit_zero (S := S256x1024) zero2, View.ld_unit_zero (S := S1024x1024) zero2, View.ld_unit_zero (S := S256x2048) zero2]
  funext (y : S256x1024.Idx)
  have hr := emb10_row t y
  have hc : (((cfg0.win 10).blk t).view.emb y 1 : Fin 1024) = y 1 := Fin.ext (emb10_col t y)
  show (k0_pay8 (F := Ideal) _ _ _ y : EReal) = dpa m c (((cfg0.win 10).blk t).view.emb y 0) (((cfg0.win 10).blk t).view.emb y 1)
  rw [hc]
  unfold k0_pay8
  rw [shapeCast_self]
  exact Eq.trans (congrArg _ (show y = ix2 (y 0) (y 1) from eq_ix2 y)) (dpa_eq m c t (y 0) (y 1) _ hr)

theorem flushed11_eq (c : Dev nD) (t : Fin cfg0.N) : (dats m 0 c).flushed 11 t = ((cfg0.win 11).blk t).view.read (Elt Ideal) (G11 m c) := by
  rw [Value.flushed11]
  unfold out0_11
  rw [View.canon_unit_zero zero2, View.ld_unit_zero (S := S256x1024) zero2, View.ld_unit_zero (S := S1024x1024) zero2, View.ld_unit_zero (S := S256x2048) zero2]
  funext (y : S256x1024.Idx)
  have hr := emb11_row t y
  have hc : (((cfg0.win 11).blk t).view.emb y 1 : Fin 1024) = y 1 := Fin.ext (emb11_col t y)
  show (k0_pay9 (F := Ideal) _ _ _ y : EReal) = dpb m c (((cfg0.win 11).blk t).view.emb y 0) (((cfg0.win 11).blk t).view.emb y 1)
  rw [hc]
  unfold k0_pay9
  rw [shapeCast_self]
  exact Eq.trans (congrArg _ (show y = ix2 (y 0) (y 1) from eq_ix2 y)) (dpb_eq m c t (y 0) (y 1) _ hr)

theorem final7 (c : Dev nD) : (dats m 0 c).arrAt 7 cfg0.N = G7 m c :=
  (dats m 0 c).arrAt_eq_of_cover 7 _ (fun t _ => flushed7_eq m c t) covered7
theorem final8 (c : Dev nD) : (dats m 0 c).arrAt 8 cfg0.N = G8 m c :=
  (dats m 0 c).arrAt_eq_of_cover 8 _ (fun t _ => flushed8_eq m c t) covered8
theorem final9 (c : Dev nD) : (dats m 0 c).arrAt 9 cfg0.N = G9 m c :=
  (dats m 0 c).arrAt_eq_of_cover 9 _ (fun t _ => flushed9_eq m c t) covered9
theorem final10 (c : Dev nD) : (dats m 0 c).arrAt 10 cfg0.N = G10 m c :=
  (dats m 0 c).arrAt_eq_of_cover 10 _ (fun t _ => flushed10_eq m c t) covered10
theorem final11 (c : Dev nD) : (dats m 0 c).arrAt 11 cfg0.N = G11 m c :=
  (dats m 0 c).arrAt_eq_of_cover 11 _ (fun t _ => flushed11_eq m c t) covered11

/-! ## The reference's arrays, and the claim -/

open Cert.Reference13Ideal.Read

theorem ref_dm (c : Dev nD) (n : Fin 2048) (j : Fin 1024) : val_main_v26 (F := Ideal) (a0 m c) (a6 m c) (ix2 n j) = dm m c n j := by
  refine (val_main_v26_apply _ _ _).trans (Finset.sum_congr rfl fun k _ => ?_)
  refine congrArg₂ (fun a b : EReal => a * b) (congrArg (a0 m c) (funext fun a => ?_)) (congrArg (a6 m c) (funext fun a => ?_)) <;>
    (match a with
      | ⟨0, _⟩ => rfl
      | ⟨1, _⟩ => rfl)

theorem ref_pa (c : Dev nD) (n : Fin 2048) (j : Fin 1024) : val_main_v0 (F := Ideal) (a2 m c) (a4 m c) (ix2 n j) = pa m c n j := by
  refine (val_main_v0_apply _ _ _).trans (Finset.sum_congr rfl fun k _ => ?_)
  refine congrArg₂ (fun a b : EReal => a * b) (congrArg (a2 m c) (funext fun a => ?_)) (congrArg (a4 m c) (funext fun a => ?_)) <;>
    (match a with
      | ⟨0, _⟩ => rfl
      | ⟨1, _⟩ => rfl)

theorem ref_pb (c : Dev nD) (n : Fin 2048) (j : Fin 1024) : val_main_v1 (F := Ideal) (a3 m c) (a5 m c) (ix2 n j) = pb m c n j := by
  refine (val_main_v1_apply _ _ _).trans (Finset.sum_congr rfl fun k _ => ?_)
  refine congrArg₂ (fun a b : EReal => a * b) (congrArg (a3 m c) (funext fun a => ?_)) (congrArg (a5 m c) (funext fun a => ?_)) <;>
    (match a with
      | ⟨0, _⟩ => rfl
      | ⟨1, _⟩ => rfl)

theorem ref_ga (c : Dev nD) (n : Fin 2048) (j : Fin 1024) : val_main_v9 (F := Ideal) (a1 m c) (ix2 n j) = ga m c n j := by
  rw [val_main_v9_apply, val_main_v8_apply, val_main_v7_apply, val_main_v6_apply, val_main_v5_apply, val_main_v4_apply, val_main_v2_apply]
  have e : a1 m c (idx_main_v2 (ix2 n j)) = a1 m c (ix2 n (⟨j.val, by omega⟩ : Fin 2048)) := congrArg (a1 m c) (funext fun a => by
    match a with
    | ⟨0, _⟩ => rfl
    | ⟨1, _⟩ => rfl)
  rw [e]
  exact congrArg₂ (fun u v : EReal => Ideal.div u (v + Ideal.exp (-a1 m c (ix2 n (⟨j.val, by omega⟩ : Fin 2048))))) Shared.ofBits_one Shared.ofBits_one

theorem ref_gb (c : Dev nD) (n : Fin 2048) (j : Fin 1024) : val_main_v19 (F := Ideal) (a1 m c) (ix2 n j) = gb m c n j := by
  rw [val_main_v19_apply, val_main_v18_apply, val_main_v17_apply, val_main_v16_apply, val_main_v15_apply, val_main_v14_apply, val_main_v3_apply]
  have e : a1 m c (idx_main_v3 (ix2 n j)) = a1 m c (ix2 n (⟨1024 + j.val, by omega⟩ : Fin 2048)) := congrArg (a1 m c) (funext fun a => by
    match a with
    | ⟨0, _⟩ => rfl
    | ⟨1, _⟩ => exact Fin.ext (by show _ = 1024 + j.val; first | rfl | exact Nat.add_comm _ _))
  rw [e]
  exact congrArg₂ (fun u v : EReal => Ideal.div u (v + Ideal.exp (-a1 m c (ix2 n (⟨1024 + j.val, by omega⟩ : Fin 2048))))) Shared.ofBits_one Shared.ofBits_one

theorem ref_dpa (c : Dev nD) (n : Fin 2048) (j : Fin 1024) : (val_main_v30 (F := Ideal) (a0 m c) (a1 m c) (a6 m c) (ix2 n j) : EReal) = dpa m c n j := by
  rw [val_main_v30_apply]
  exact (congrArg₂ (fun a b : EReal => a * b) (ref_ga m c n j) (ref_dm m c n j)).trans (mul_comm _ _)

theorem ref_dpb (c : Dev nD) (n : Fin 2048) (j : Fin 1024) : (val_main_v27 (F := Ideal) (a0 m c) (a1 m c) (a6 m c) (ix2 n j) : EReal) = dpb m c n j := by
  rw [val_main_v27_apply]
  exact (congrArg₂ (fun a b : EReal => a * b) (ref_gb m c n j) (ref_dm m c n j)).trans (mul_comm _ _)

theorem ref_dga (c : Dev nD) (n : Fin 2048) (j : Fin 1024) : (val_main_v32 (F := Ideal) (a0 m c) (a1 m c) (a2 m c) (a4 m c) (a6 m c) (ix2 n j) : EReal) = dga m c n j := by
  rw [val_main_v32_apply, val_main_v31_apply, val_main_v12_apply, val_main_v11_apply, val_main_v10_apply, ref_dm, ref_pa, ref_ga]
  exact (congrArg (fun u : EReal => dm m c n j * pa m c n j * (ga m c n j * (u - ga m c n j))) Shared.ofBits_one).trans (mul_assoc _ _ _).symm

theorem ref_dgb (c : Dev nD) (n : Fin 2048) (j : Fin 1024) : (val_main_v29 (F := Ideal) (a0 m c) (a1 m c) (a3 m c) (a5 m c) (a6 m c) (ix2 n j) : EReal) = dgb m c n j := by
  rw [val_main_v29_apply, val_main_v28_apply, val_main_v22_apply, val_main_v21_apply, val_main_v20_apply, ref_dm, ref_pb, ref_gb]
  exact (congrArg (fun u : EReal => dm m c n j * pb m c n j * (gb m c n j * (u - gb m c n j))) Shared.ofBits_one).trans (mul_assoc _ _ _).symm

theorem ref7 (c : Dev nD) : val_main_v33 (F := Ideal) (a0 m c) (a1 m c) (a4 m c) (a6 m c) = G7 m c := by
  funext (i : S2048x512.Idx)
  refine (val_main_v33_apply _ _ _ _ _).trans (Finset.sum_congr rfl fun k _ => ?_)
  refine congrArg₂ (fun a b : EReal => a * b) (Eq.trans (congrArg _ (funext fun a => ?_)) (ref_dpa m c (i 0) k)) (congrArg (a4 m c) (funext fun a => ?_)) <;>
    (match a with
      | ⟨0, _⟩ => rfl
      | ⟨1, _⟩ => rfl)

theorem ref8 (c : Dev nD) : val_main_v34 (F := Ideal) (a0 m c) (a1 m c) (a5 m c) (a6 m c) = G8 m c := by
  funext (i : S2048x1024.Idx)
  refine (val_main_v34_apply _ _ _ _ _).trans (Finset.sum_congr rfl fun k _ => ?_)
  refine congrArg₂ (fun a b : EReal => a * b) (Eq.trans (congrArg _ (funext fun a => ?_)) (ref_dpb m c (i 0) k)) (congrArg (a5 m c) (funext fun a => ?_)) <;>
    (match a with
      | ⟨0, _⟩ => rfl
      | ⟨1, _⟩ => rfl)

theorem ref10 (c : Dev nD) : val_main_v36 (F := Ideal) (a0 m c) (a1 m c) (a6 m c) = G10 m c := by
  funext (i : S2048x1024.Idx)
  exact Eq.trans (congrArg _ (show i = ix2 (i 0) (i 1) from eq_ix2 i)) (ref_dpa m c (i 0) (i 1))

theorem ref11 (c : Dev nD) : val_main_v37 (F := Ideal) (a0 m c) (a1 m c) (a6 m c) = G11 m c := by
  funext (i : S2048x1024.Idx)
  exact Eq.trans (congrArg _ (show i = ix2 (i 0) (i 1) from eq_ix2 i)) (ref_dpb m c (i 0) (i 1))

theorem ref9 (c : Dev nD) : val_main_v35 (F := Ideal) (a0 m c) (a1 m c) (a2 m c) (a3 m c) (a4 m c) (a5 m c) (a6 m c) = G9 m c := by
  funext (i : S2048x2048.Idx)
  have h1 : (i 1).val < 2048 := (i 1).isLt
  show (val_main_v35 (F := Ideal) _ _ _ _ _ _ _ i : EReal) = dgp m c (i 0) (i 1)
  unfold val_main_v35 dgp
  split
  next h =>
    exact (concatenate_pair_apply_left (t := S2048x2048) (s₁ := S2048x1024) (s₂ := S2048x1024) (1 : Fin 2) _ _ _ i rfl (ix2 (i 0) (⟨(i 1).val, h⟩ : Fin 1024)) (fun b => match b with
      | ⟨0, _⟩ => rfl
      | ⟨1, _⟩ => rfl)).trans (ref_dga m c (i 0) ⟨(i 1).val, h⟩)
  next h =>
    exact (concatenate_pair_apply_right (t := S2048x2048) (s₁ := S2048x1024) (s₂ := S2048x1024) (1 : Fin 2) _ _ _ i rfl rfl (ix2 (i 0) (⟨(i 1).val - 1024, by omega⟩ : Fin 1024)) (fun b hb => match b with
      | ⟨0, _⟩ => rfl
      | ⟨1, _⟩ => absurd rfl hb) (show (i 1).val - 1024 + 1024 = (i 1).val by omega)).trans (ref_dgb m c (i 0) ⟨(i 1).val - 1024, by omega⟩)

theorem algebraic : Cert.algebraic_Kernel13Ideal_Reference13Ideal := by
  intro m g m' g' _ hagree
  refine ⟨G7 m, G8 m, G9 m, G10 m, G11 m, ?_, ?_⟩
  · exact (θ_run defs _ _).mono (fun r h c => ⟨(h c).1.trans (final7 m c), (h c).2.1.trans (final8 m c), (h c).2.2.1.trans (final9 m c),
      (h c).2.2.2.1.trans (final10 m c), (h c).2.2.2.2.1.trans (final11 m c), (h c).2.2.2.2.2⟩) (Value.run_blocks m g)
  · refine (θ_run Cert.Reference13Ideal.defs _ _).mono (fun r h c => ?_) (Cert.Reference13Ideal.Value.run (F := Ideal) m' g')
    obtain ⟨e0, e1, e2, e3, e4, e5, e6⟩ := hagree c
    refine ⟨((h c).1.trans (val_main_v33_eq _ _ _ _)).trans ?_, ((h c).2.1.trans (val_main_v34_eq _ _ _ _)).trans ?_, ((h c).2.2.1.trans (val_main_v35_eq _ _ _ _ _ _ _)).trans ?_,
      ((h c).2.2.2.1.trans (val_main_v36_eq _ _ _)).trans ?_, ((h c).2.2.2.2.1.trans (val_main_v37_eq _ _ _)).trans ?_, (h c).2.2.2.2.2⟩
    · rw [e0, e1, e4, e6]; exact ref7 m c
    · rw [e0, e1, e5, e6]; exact ref8 m c
    · rw [e0, e1, e2, e3, e4, e5, e6]; exact ref9 m c
    · rw [e0, e1, e6]; exact ref10 m c
    · rw [e0, e1, e6]; exact ref11 m c

end Cert.Proof.MergeBack

end
-- ==== Proof.MergeForward.lean ====
module

public import proofs.«01_k».proof.Defs
public import proofs.«01_k».proof.Proof.Shared
public import proofs.«01_k».proof.Proof.Gen.Kernel18Ideal.Value
public import proofs.«01_k».proof.Proof.Gen.Reference18Ideal.Run
public import proofs.«01_k».proof.Proof.Gen.Reference18Ideal.Read

/-! The merged branches: what each grid point writes, index by index, is the reference's gated sum of
the two projections, and its product added to the residual. -/

@[expose] public section

set_option maxRecDepth 16384

noncomputable section

namespace Cert.Proof.MergeForward

open Cert.Kernel18Ideal Cert.Kernel18Ideal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arguments, and the arrays as functions of them -/

abbrev a0 (c : Dev nD) : S2048x1024.Idx → EReal := m ((c : Thread nD τ).loc main_arg0)
abbrev a1 (c : Dev nD) : S2048x512.Idx → EReal := m ((c : Thread nD τ).loc main_arg1)
abbrev a2 (c : Dev nD) : S2048x1024.Idx → EReal := m ((c : Thread nD τ).loc main_arg2)
abbrev a3 (c : Dev nD) : S2048x2048.Idx → EReal := m ((c : Thread nD τ).loc main_arg3)
abbrev a4 (c : Dev nD) : S512x1024.Idx → EReal := m ((c : Thread nD τ).loc main_arg4)
abbrev a5 (c : Dev nD) : S1024x1024.Idx → EReal := m ((c : Thread nD τ).loc main_arg5)
abbrev a6 (c : Dev nD) : S1024x1024.Idx → EReal := m ((c : Thread nD τ).loc main_arg6)

/-- The two branches' projections. -/
def pa (c : Dev nD) (n : Fin 2048) (j : Fin 1024) : EReal := ∑ k : Fin 512, a1 m c (ix2 n k) * a4 m c (ix2 k j)
def pb (c : Dev nD) (n : Fin 2048) (j : Fin 1024) : EReal := ∑ k : Fin 1024, a2 m c (ix2 n k) * a5 m c (ix2 k j)
/-- The two gates. -/
def ga (c : Dev nD) (n : Fin 2048) (j : Fin 1024) : EReal := Ideal.logistic (a3 m c (ix2 n (⟨j.val, by omega⟩ : Fin 2048)))
def gb (c : Dev nD) (n : Fin 2048) (j : Fin 1024) : EReal := Ideal.logistic (a3 m c (ix2 n (⟨1024 + j.val, by omega⟩ : Fin 2048)))
/-- The gated sum. -/
def mg (c : Dev nD) (n : Fin 2048) (j : Fin 1024) : EReal := ga m c n j * pa m c n j + gb m c n j * pb m c n j
/-- The residual stream after the block. -/
def xo (c : Dev nD) (n : Fin 2048) (j : Fin 1024) : EReal := a0 m c (ix2 n j) + ∑ k : Fin 1024, mg m c n k * a6 m c (ix2 k j)

def G7 (c : Dev nD) : Buf (Elt Ideal) ((c : Thread nD τ).loc main_v6_0) := fun (i : S2048x1024.Idx) => (xo m c (i 0) (i 1) : EReal)
def G8 (c : Dev nD) : Buf (Elt Ideal) ((c : Thread nD τ).loc main_v6_1) := fun (i : S2048x1024.Idx) => (pa m c (i 0) (i 1) : EReal)
def G9 (c : Dev nD) : Buf (Elt Ideal) ((c : Thread nD τ).loc main_v6_2) := fun (i : S2048x1024.Idx) => (pb m c (i 0) (i 1) : EReal)
def G10 (c : Dev nD) : Buf (Elt Ideal) ((c : Thread nD τ).loc main_v6_3) := fun (i : S2048x1024.Idx) => (mg m c (i 0) (i 1) : EReal)

/-! ## What the launch finds in its operands -/

theorem operand0 (c : Dev nD) : (V m c main_arg0 : S2048x1024.Idx → EReal) = a0 m c := by rfl
theorem operand1 (c : Dev nD) : (V m c main_v0 : S2048x512.Idx → EReal) = a1 m c := by rfl
theorem operand2 (c : Dev nD) : (V m c main_arg2 : S2048x1024.Idx → EReal) = a2 m c := by rfl
theorem operand3 (c : Dev nD) : (V m c main_arg3 : S2048x2048.Idx → EReal) = a3 m c := by rfl
theorem operand5 (c : Dev nD) : (V m c main_v4 : S1024x1024.Idx → EReal) = a5 m c := by rfl
theorem operand6 (c : Dev nD) : (V m c main_v5 : S1024x1024.Idx → EReal) = a6 m c := by rfl

theorem operand4_eq (c : Dev nD) : V m c main_v3 = transpose S4x512x256 [1, 0, 2] (shapeCast S512x4x256
    (truncf .bf16 (m ((c : Thread nD τ).loc main_arg4)) bitsLt_bf16_f32 : FVec Ideal S512x1024 .bf16) shapeCasts_S512x1024_S512x4x256) transposes_S512x4x256_S4x512x256_1_0_2 := by
  after_results <;> rfl

theorem operand4 (c : Dev nD) (q : Fin 4) (i : Fin 512) (k : Fin 256) :
    (V m c main_v3 : S4x512x256.Idx → EReal) (ix3 q i k) = a4 m c (ix2 i (⟨q.val * 256 + k.val, by omega⟩ : Fin 1024)) := by
  rw [operand4_eq]
  refine (transpose_apply [1, 0, 2] _ transposes_S512x4x256_S4x512x256_1_0_2 (ix3 q i k) (ix3 i q k) (fun b => match b with
    | ⟨0, _⟩ => rfl
    | ⟨1, _⟩ => rfl
    | ⟨2, _⟩ => rfl)).trans ?_
  refine (shapeCast_apply _ shapeCasts_S512x1024_S512x4x256 (ix3 i q k) (ix2 i ⟨q.val * 256 + k.val, by omega⟩) ?_).trans rfl
  rewrite [Shape.rowMajor_val_two, Shape.rowMajor_val_three]
  show i.val * 1024 + (q.val * 256 + k.val) = (i.val * 4 + q.val) * 256 + k.val
  omega

/-! ## The windows' blocks -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)

theorem block0 (c : Dev nD) (t : Fin cfg0.N) (r : Fin 256) (k : Fin 1024) (n : Fin 2048) (h : n.val = t.val * 256 + r.val) :
    (iblk m c 0 t : S256x1024.Idx → EReal) (ix2 r k) = (V m c main_arg0 : S2048x1024.Idx → EReal) (ix2 n k) := by
  have e := idx0 t
  refine congrArg (V m c main_arg0) (funext fun a => Fin.ext ?_)
  match a with
  | ⟨0, _⟩ => refine Eq.trans (b := win0_0.index t (0 : Fin 2) * 256 + 1 * r.val) rfl ?_; rw [e]; refine Eq.trans ?_ h.symm; show t.val * 256 + 1 * r.val = t.val * 256 + r.val; omega
  | ⟨1, _⟩ => refine Eq.trans (b := win0_0.index t (1 : Fin 2) * 1024 + 1 * k.val) rfl ?_; rw [e]; show 0 * 1024 + 1 * k.val = k.val; omega

theorem block1 (c : Dev nD) (t : Fin cfg0.N) (r : Fin 256) (k : Fin 512) (n : Fin 2048) (h : n.val = t.val * 256 + r.val) :
    (iblk m c 1 t : S256x512.Idx → EReal) (ix2 r k) = (V m c main_v0 : S2048x512.Idx → EReal) (ix2 n k) := by
  have e := idx1 t
  refine congrArg (V m c main_v0) (funext fun a => Fin.ext ?_)
  match a with
  | ⟨0, _⟩ => refine Eq.trans (b := win0_1.index t (0 : Fin 2) * 256 + 1 * r.val) rfl ?_; rw [e]; refine Eq.trans ?_ h.symm; show t.val * 256 + 1 * r.val = t.val * 256 + r.val; omega
  | ⟨1, _⟩ => refine Eq.trans (b := win0_1.index t (1 : Fin 2) * 512 + 1 * k.val) rfl ?_; rw [e]; show 0 * 512 + 1 * k.val = k.val; omega

theorem block2 (c : Dev nD) (t : Fin cfg0.N) (r : Fin 256) (k : Fin 1024) (n : Fin 2048) (h : n.val = t.val * 256 + r.val) :
    (iblk m c 2 t : S256x1024.Idx → EReal) (ix2 r k) = (V m c main_arg2 : S2048x1024.Idx → EReal) (ix2 n k) := by
  have e := idx2 t
  refine congrArg (V m c main_arg2) (funext fun a => Fin.ext ?_)
  match a with
  | ⟨0, _⟩ => refine Eq.trans (b := win0_2.index t (0 : Fin 2) * 256 + 1 * r.val) rfl ?_; rw [e]; refine Eq.trans ?_ h.symm; show t.val * 256 + 1 * r.val = t.val * 256 + r.val; omega
  | ⟨1, _⟩ => refine Eq.trans (b := win0_2.index t (1 : Fin 2) * 1024 + 1 * k.val) rfl ?_; rw [e]; show 0 * 1024 + 1 * k.val = k.val; omega

theorem block3 (c : Dev nD) (t : Fin cfg0.N) (r : Fin 256) (k : Fin 2048) (n : Fin 2048) (h : n.val = t.val * 256 + r.val) :
    (iblk m c 3 t : S256x2048.Idx → EReal) (ix2 r k) = (V m c main_arg3 : S2048x2048.Idx → EReal) (ix2 n k) := by
  have e := idx3 t
  refine congrArg (V m c main_arg3) (funext fun a => Fin.ext ?_)
  match a with
  | ⟨0, _⟩ => refine Eq.trans (b := win0_3.index t (0 : Fin 2) * 256 + 1 * r.val) rfl ?_; rw [e]; refine Eq.trans ?_ h.symm; show t.val * 256 + 1 * r.val = t.val * 256 + r.val; omega
  | ⟨1, _⟩ => refine Eq.trans (b := win0_3.index t (1 : Fin 2) * 2048 + 1 * k.val) rfl ?_; rw [e]; show 0 * 2048 + 1 * k.val = k.val; omega

theorem block4 (c : Dev nD) (t : Fin cfg0.N) (j : S4x512x256.Idx) :
    (iblk m c 4 t : S4x512x256.Idx → EReal) j = (V m c main_v3 : S4x512x256.Idx → EReal) j := by
  have e := idx4 t
  refine congrArg (V m c main_v3) (funext fun a => Fin.ext ?_)
  match a with
  | ⟨0, _⟩ => refine Eq.trans (b := win0_4.index t (0 : Fin 3) * 4 + 1 * (j 0).val) rfl ?_; rw [e]; show 0 * 4 + 1 * (j 0).val = (j 0).val; omega
  | ⟨1, _⟩ => refine Eq.trans (b := win0_4.index t (1 : Fin 3) * 512 + 1 * (j 1).val) rfl ?_; rw [e]; show 0 * 512 + 1 * (j 1).val = (j 1).val; omega
  | ⟨2, _⟩ => refine Eq.trans (b := win0_4.index t (2 : Fin 3) * 256 + 1 * (j 2).val) rfl ?_; rw [e]; show 0 * 256 + 1 * (j 2).val = (j 2).val; omega

theorem block5 (c : Dev nD) (t : Fin cfg0.N) (j : S1024x1024.Idx) :
    (iblk m c 5 t : S1024x1024.Idx → EReal) j = (V m c main_v4 : S1024x1024.Idx → EReal) j := by
  have e := idx5 t
  refine congrArg (V m c main_v4) (funext fun a => Fin.ext ?_)
  match a with
  | ⟨0, _⟩ => refine Eq.trans (b := win0_5.index t (0 : Fin 2) * 1024 + 1 * (j 0).val) rfl ?_; rw [e]; show 0 * 1024 + 1 * (j 0).val = (j 0).val; omega
  | ⟨1, _⟩ => refine Eq.trans (b := win0_5.index t (1 : Fin 2) * 1024 + 1 * (j 1).val) rfl ?_; rw [e]; show 0 * 1024 + 1 * (j 1).val = (j 1).val; omega

theorem block6 (c : Dev nD) (t : Fin cfg0.N) (j : S1024x1024.Idx) :
    (iblk m c 6 t : S1024x1024.Idx → EReal) j = (V m c main_v5 : S1024x1024.Idx → EReal) j := by
  have e := idx6 t
  refine congrArg (V m c main_v5) (funext fun a => Fin.ext ?_)
  match a with
  | ⟨0, _⟩ => refine Eq.trans (b := win0_6.index t (0 : Fin 2) * 1024 + 1 * (j 0).val) rfl ?_; rw [e]; show 0 * 1024 + 1 * (j 0).val = (j 0).val; omega
  | ⟨1, _⟩ => refine Eq.trans (b := win0_6.index t (1 : Fin 2) * 1024 + 1 * (j 1).val) rfl ?_; rw [e]; show 0 * 1024 + 1 * (j 1).val = (j 1).val; omega

theorem emb7_row (t : Fin cfg0.N) (y : S256x1024.Idx) : (((cfg0.win 7).blk t).view.emb y 0).val = t.val * 256 + (y 0).val := by
  refine Eq.trans (b := win0_7.index t (0 : Fin 2) * 256 + 1 * (y 0).val) rfl ?_
  rw [idx7 t]; show t.val * 256 + 1 * (y 0).val = t.val * 256 + (y 0).val; omega
theorem emb7_col (t : Fin cfg0.N) (y : S256x1024.Idx) : (((cfg0.win 7).blk t).view.emb y 1).val = (y 1).val := by
  refine Eq.trans (b := win0_7.index t (1 : Fin 2) * 1024 + 1 * (y 1).val) rfl ?_
  rw [idx7 t]; show 0 * 1024 + 1 * (y 1).val = (y 1).val; omega

theorem covered7 (i : S2048x1024.Idx) : ∃ t : Fin cfg0.N, (cfg0.win 7).flush t = true ∧ i ∈ ((cfg0.win 7).blk t).view.set := by
  have h0 : (i 0).val < 2048 := (i 0).isLt
  have h1 : (i 1).val < 1024 := (i 1).isLt
  refine ⟨⟨(i 0).val / 256, lt_of_lt_of_eq (show (i 0).val / 256 < 8 by omega) (show 8 = cfg0.N from N_0.symm)⟩, flush0_7 _, ?_⟩
  have hm : ∀ t : Fin cfg0.N, i ∈ ((cfg0.win 7).blk t).view.set ↔ ∀ a : Fin 2, win0_7.index t a * S256x1024.size a ≤ (i a).val ∧ (i a).val < win0_7.index t a * S256x1024.size a + S256x1024.size a := fun t => by
    show i ∈ ((View.whole main_v6_0).slice (win0_7.rect t)).set ↔ _
    rw [View.set_slice_whole, Rect.mem_set_unit]
    exact Iff.rfl
  rw [hm, idx7]
  intro a
  match a with
  | ⟨0, _⟩ => show (i 0).val / 256 * 256 ≤ (i 0).val ∧ (i 0).val < (i 0).val / 256 * 256 + 256; omega
  | ⟨1, _⟩ => show 0 * 1024 ≤ (i 1).val ∧ (i 1).val < 0 * 1024 + 1024; omega

theorem emb8_row (t : Fin cfg0.N) (y : S256x1024.Idx) : (((cfg0.win 8).blk t).view.emb y 0).val = t.val * 256 + (y 0).val := by
  refine Eq.trans (b := win0_8.index t (0 : Fin 2) * 256 + 1 * (y 0).val) rfl ?_
  rw [idx8 t]; show t.val * 256 + 1 * (y 0).val = t.val * 256 + (y 0).val; omega
theorem emb8_col (t : Fin cfg0.N) (y : S256x1024.Idx) : (((cfg0.win 8).blk t).view.emb y 1).val = (y 1).val := by
  refine Eq.trans (b := win0_8.index t (1 : Fin 2) * 1024 + 1 * (y 1).val) rfl ?_
  rw [idx8 t]; show 0 * 1024 + 1 * (y 1).val = (y 1).val; omega

theorem covered8 (i : S2048x1024.Idx) : ∃ t : Fin cfg0.N, (cfg0.win 8).flush t = true ∧ i ∈ ((cfg0.win 8).blk t).view.set := by
  have h0 : (i 0).val < 2048 := (i 0).isLt
  have h1 : (i 1).val < 1024 := (i 1).isLt
  refine ⟨⟨(i 0).val / 256, lt_of_lt_of_eq (show (i 0).val / 256 < 8 by omega) (show 8 = cfg0.N from N_0.symm)⟩, flush0_8 _, ?_⟩
  have hm : ∀ t : Fin cfg0.N, i ∈ ((cfg0.win 8).blk t).view.set ↔ ∀ a : Fin 2, win0_8.index t a * S256x1024.size a ≤ (i a).val ∧ (i a).val < win0_8.index t a * S256x1024.size a + S256x1024.size a := fun t => by
    show i ∈ ((View.whole main_v6_1).slice (win0_8.rect t)).set ↔ _
    rw [View.set_slice_whole, Rect.mem_set_unit]
    exact Iff.rfl
  rw [hm, idx8]
  intro a
  match a with
  | ⟨0, _⟩ => show (i 0).val / 256 * 256 ≤ (i 0).val ∧ (i 0).val < (i 0).val / 256 * 256 + 256; omega
  | ⟨1, _⟩ => show 0 * 1024 ≤ (i 1).val ∧ (i 1).val < 0 * 1024 + 1024; omega

theorem emb9_row (t : Fin cfg0.N) (y : S256x1024.Idx) : (((cfg0.win 9).blk t).view.emb y 0).val = t.val * 256 + (y 0).val := by
  refine Eq.trans (b := win0_9.index t (0 : Fin 2) * 256 + 1 * (y 0).val) rfl ?_
  rw [idx9 t]; show t.val * 256 + 1 * (y 0).val = t.val * 256 + (y 0).val; omega
theorem emb9_col (t : Fin cfg0.N) (y : S256x1024.Idx) : (((cfg0.win 9).blk t).view.emb y 1).val = (y 1).val := by
  refine Eq.trans (b := win0_9.index t (1 : Fin 2) * 1024 + 1 * (y 1).val) rfl ?_
  rw [idx9 t]; show 0 * 1024 + 1 * (y 1).val = (y 1).val; omega

theorem covered9 (i : S2048x1024.Idx) : ∃ t : Fin cfg0.N, (cfg0.win 9).flush t = true ∧ i ∈ ((cfg0.win 9).blk t).view.set := by
  have h0 : (i 0).val < 2048 := (i 0).isLt
  have h1 : (i 1).val < 1024 := (i 1).isLt
  refine ⟨⟨(i 0).val / 256, lt_of_lt_of_eq (show (i 0).val / 256 < 8 by omega) (show 8 = cfg0.N from N_0.symm)⟩, flush0_9 _, ?_⟩
  have hm : ∀ t : Fin cfg0.N, i ∈ ((cfg0.win 9).blk t).view.set ↔ ∀ a : Fin 2, win0_9.index t a * S256x1024.size a ≤ (i a).val ∧ (i a).val < win0_9.index t a * S256x1024.size a + S256x1024.size a := fun t => by
    show i ∈ ((View.whole main_v6_2).slice (win0_9.rect t)).set ↔ _
    rw [View.set_slice_whole, Rect.mem_set_unit]
    exact Iff.rfl
  rw [hm, idx9]
  intro a
  match a with
  | ⟨0, _⟩ => show (i 0).val / 256 * 256 ≤ (i 0).val ∧ (i 0).val < (i 0).val / 256 * 256 + 256; omega
  | ⟨1, _⟩ => show 0 * 1024 ≤ (i 1).val ∧ (i 1).val < 0 * 1024 + 1024; omega

theorem emb10_row (t : Fin cfg0.N) (y : S256x1024.Idx) : (((cfg0.win 10).blk t).view.emb y 0).val = t.val * 256 + (y 0).val := by
  refine Eq.trans (b := win0_10.index t (0 : Fin 2) * 256 + 1 * (y 0).val) rfl ?_
  rw [idx10 t]; show t.val * 256 + 1 * (y 0).val = t.val * 256 + (y 0).val; omega
theorem emb10_col (t : Fin cfg0.N) (y : S256x1024.Idx) : (((cfg0.win 10).blk t).view.emb y 1).val = (y 1).val := by
  refine Eq.trans (b := win0_10.index t (1 : Fin 2) * 1024 + 1 * (y 1).val) rfl ?_
  rw [idx10 t]; show 0 * 1024 + 1 * (y 1).val = (y 1).val; omega

theorem covered10 (i : S2048x1024.Idx) : ∃ t : Fin cfg0.N, (cfg0.win 10).flush t = true ∧ i ∈ ((cfg0.win 10).blk t).view.set := by
  have h0 : (i 0).val < 2048 := (i 0).isLt
  have h1 : (i 1).val < 1024 := (i 1).isLt
  refine ⟨⟨(i 0).val / 256, lt_of_lt_of_eq (show (i 0).val / 256 < 8 by omega) (show 8 = cfg0.N from N_0.symm)⟩, flush0_10 _, ?_⟩
  have hm : ∀ t : Fin cfg0.N, i ∈ ((cfg0.win 10).blk t).view.set ↔ ∀ a : Fin 2, win0_10.index t a * S256x1024.size a ≤ (i a).val ∧ (i a).val < win0_10.index t a * S256x1024.size a + S256x1024.size a := fun t => by
    show i ∈ ((View.whole main_v6_3).slice (win0_10.rect t)).set ↔ _
    rw [View.set_slice_whole, Rect.mem_set_unit]
    exact Iff.rfl
  rw [hm, idx10]
  intro a
  match a with
  | ⟨0, _⟩ => show (i 0).val / 256 * 256 ≤ (i 0).val ∧ (i 0).val < (i 0).val / 256 * 256 + 256; omega
  | ⟨1, _⟩ => show 0 * 1024 ≤ (i 1).val ∧ (i 1).val < 0 * 1024 + 1024; omega

/-! ## What a grid point computes, on its blocks -/

theorem zero2 : (![0, 0] : Fin 2 → Nat) = fun _ => 0 := funext fun a => by fin_cases a <;> rfl

/-- A load of the whole of a buffer reads its contents. -/
theorem load_whole {S : Shape} {e : EltTy} {b : Memref sig .tc .vmem S e} (h : b.IsWhole) {off : Fin S.rank → Nat} (hz : off = fun _ => 0)
    (inb : ∀ a, off a + S.size a ≤ S.size a) (X : S.Idx → Elt Ideal e) :
    View.readAt (Elt Ideal) b.view (Rect.unit off S.size inb).toLoadRect (h.unread X) = X :=
  funext fun x => (congrFun (h.read_unread X) _).trans (congrFun (View.ld_unit_zero hz inb X) x)

/-- A load of one slab of the first weight. -/
theorem load_slab {b : Memref sig .tc .vmem S4x512x256 .bf16} (h : b.IsWhole) (q : Nat)
    (inb : ∀ a, (![q, 0, 0] : Fin 3 → Nat) a + S1x512x256.size a ≤ S4x512x256.size a) (X : Vec Ideal S4x512x256 .bf16) :
    View.readAt (Elt Ideal) b.view (Rect.unit (s := S4x512x256) ![q, 0, 0] S1x512x256.size inb).toLoadRect (h.unread X)
      = View.ld X (Rect.unit (s := S4x512x256) ![q, 0, 0] S1x512x256.size inb) :=
  funext fun x => congrFun (h.read_unread X) _

theorem slab (q : Nat) (hq : q < 4) (x4 : Vec Ideal S4x512x256 .bf16) (h : ∀ a, (![q, 0, 0] : Fin 3 → Nat) a + S1x512x256.size a ≤ S4x512x256.size a) (i : Fin 512) (k : Fin 256) :
    View.ld x4 (Rect.unit (s := S4x512x256) ![q, 0, 0] S1x512x256.size h) (ix3 0 i k) = x4 (ix3 (⟨q, hq⟩ : Fin 4) i k) := by
  refine congrArg x4 (funext fun a => Fin.ext ?_)
  match a with
  | ⟨0, _⟩ => show q + 1 * 0 = q; omega
  | ⟨1, _⟩ => show 0 + 1 * i.val = i.val; omega
  | ⟨2, _⟩ => show 0 + 1 * k.val = k.val; omega

/-- The columns of the first projection that one slab gives. -/
theorem columns_apply (x : Vec Ideal S256x512 .bf16) (w : Vec Ideal S1x512x256 .bf16) (r : Fin 256) (k : Fin 256) :
    matmul dot_S256x512_S512x256_S256x256_1_0_0_1_n_n none (k0_pay4 x : FVec Ideal S256x512 .bf16) (shapeCast S512x256 w shapeCasts_S1x512x256_S512x256 : FVec Ideal S512x256 .bf16)
        (constant S256x256 .f32 0x00000000#32) (ix2 r k)
      = ∑ i : Fin 512, (x (ix2 r i) : EReal) * w (ix3 0 i k) := by
  unfold k0_pay4
  rw [shapeCast_self]
  refine (Shared.product_nn (M := 256) (K := 512) (N := 256) (φ₁ := .bf16) (φ₂ := .bf16) _ _ r k).trans (Finset.sum_congr rfl fun i _ => ?_)
  refine congrArg (fun b : EReal => (x (ix2 r i) : EReal) * b) ?_
  exact shapeCast_apply _ shapeCasts_S1x512x256_S512x256 (ix2 i k) (ix3 0 i k) (by
    rewrite [Shape.rowMajor_val_two, Shape.rowMajor_val_three]
    show (0 * 512 + i.val) * 256 + k.val = i.val * 256 + k.val
    omega)

/-- What the four stores leave in the first projection's block. -/
def stored (x : Vec Ideal S256x512 .bf16) (w : Vec Ideal S4x512x256 .bf16) : List (View.Piece (Elt Ideal) S256x1024 .f32) :=
  [⟨Rect.unit ![0, 768] ![256, 256] inb_S256x1024_S256x256_0_768, k0_pay8 (F := Ideal) x (View.ld w (Rect.unit (s := S4x512x256) ![3, 0, 0] S1x512x256.size inb_S4x512x256_S1x512x256_3_0_0))⟩,
   ⟨Rect.unit ![0, 512] ![256, 256] inb_S256x1024_S256x256_0_512, k0_pay7 (F := Ideal) x (View.ld w (Rect.unit (s := S4x512x256) ![2, 0, 0] S1x512x256.size inb_S4x512x256_S1x512x256_2_0_0))⟩,
   ⟨Rect.unit ![0, 256] ![256, 256] inb_S256x1024_S256x256_0_256, k0_pay6 (F := Ideal) x (View.ld w (Rect.unit (s := S4x512x256) ![1, 0, 0] S1x512x256.size inb_S4x512x256_S1x512x256_1_0_0))⟩,
   ⟨Rect.unit ![0, 0] ![256, 256] inb_S256x1024_S256x256_0_0, k0_pay5 (F := Ideal) x (View.ld w (Rect.unit (s := S4x512x256) ![0, 0, 0] S1x512x256.size inb_S4x512x256_S1x512x256_0_0_0))⟩]

/-- The first projection's block, by the slab a column lies in. -/
def whole (x : Vec Ideal S256x512 .bf16) (w : Vec Ideal S4x512x256 .bf16) (y : S256x1024.Idx) : EReal :=
  ∑ i : Fin 512, (x (ix2 (y 0) i) : EReal) * w (ix3 (⟨(y 1).val / 256, by have h : (y 1).val < 1024 := (y 1).isLt; omega⟩ : Fin 4) i (⟨(y 1).val % 256, Nat.mod_lt _ (by omega)⟩ : Fin 256))

theorem part (q o : Nat) (hq : q < 4) (ho : o = q * 256) (x : Vec Ideal S256x512 .bf16) (w : Vec Ideal S4x512x256 .bf16)
    (h : ∀ a, (![q, 0, 0] : Fin 3 → Nat) a + S1x512x256.size a ≤ S4x512x256.size a)
    (inb : ∀ a, (![0, o] : Fin 2 → Nat) a + S256x256.size a ≤ S256x1024.size a) (z : S256x256.Idx) :
    ∑ i : Fin 512, (x (ix2 (z 0) i) : EReal) * View.ld w (Rect.unit (s := S4x512x256) ![q, 0, 0] S1x512x256.size h) (ix3 0 i (z 1))
      = whole x w ((Rect.unit (s := S256x1024) ![0, o] S256x256.size inb).emb z) := by
  have h1 : (z 1).val < 256 := (z 1).isLt
  refine Finset.sum_congr rfl fun i _ => ?_
  refine congrArg₂ (fun a b : EReal => a * b) (congrArg (fun u : Fin 256 => (x (ix2 u i) : EReal)) (Fin.ext ?_)) ?_
  · show (z 0).val = 0 + 1 * (z 0).val; omega
  · refine (slab q hq w h i (z 1)).trans ?_
    refine congrArg₂ (fun (u : Fin 4) (v : Fin 256) => (w (ix3 u i v) : EReal)) (Fin.ext ?_) (Fin.ext ?_)
    · show q = (o + 1 * (z 1).val) / 256; omega
    · show (z 1).val = (o + 1 * (z 1).val) % 256; omega

theorem stored_eq (x : Vec Ideal S256x512 .bf16) (w : Vec Ideal S4x512x256 .bf16) (y : S256x1024.Idx) :
    View.canon (Val := Elt Ideal) (e := .f32) (stored x w) y = whole x w y := by
  refine View.canon_apply_of_pieces (Val := Elt Ideal) (e := .f32) (fun z : S256x1024.Idx => whole x w z) _ ?_ y ?_
  · intro pc hpc
    unfold stored at hpc
    rcases List.mem_cons.mp hpc with rfl | hpc
    · intro (z : S256x256.Idx)
      exact (Eq.trans (congrArg _ (show z = ix2 (z 0) (z 1) from eq_ix2 z)) (columns_apply x _ (z 0) (z 1))).trans (part 3 768 (by omega) rfl x w _ inb_S256x1024_S256x256_0_768 z)
    rcases List.mem_cons.mp hpc with rfl | hpc
    · intro (z : S256x256.Idx)
      exact (Eq.trans (congrArg _ (show z = ix2 (z 0) (z 1) from eq_ix2 z)) (columns_apply x _ (z 0) (z 1))).trans (part 2 512 (by omega) rfl x w _ inb_S256x1024_S256x256_0_512 z)
    rcases List.mem_cons.mp hpc with rfl | hpc
    · intro (z : S256x256.Idx)
      exact (Eq.trans (congrArg _ (show z = ix2 (z 0) (z 1) from eq_ix2 z)) (columns_apply x _ (z 0) (z 1))).trans (part 1 256 (by omega) rfl x w _ inb_S256x1024_S256x256_0_256 z)
    rcases List.mem_cons.mp hpc with rfl | hpc
    · intro (z : S256x256.Idx)
      exact (Eq.trans (congrArg _ (show z = ix2 (z 0) (z 1) from eq_ix2 z)) (columns_apply x _ (z 0) (z 1))).trans (part 0 0 (by omega) rfl x w _ inb_S256x1024_S256x256_0_0 z)
    nomatch hpc
  · have h0 : (y 0).val < 256 := (y 0).isLt
    have h1 : (y 1).val < 1024 := (y 1).isLt
    have mem : ∀ (o : Nat) (inb : ∀ a, (![0, o] : Fin 2 → Nat) a + S256x256.size a ≤ S256x1024.size a), o ≤ (y 1).val → (y 1).val < o + 256 →
        y ∈ (Rect.unit (s := S256x1024) ![0, o] S256x256.size inb).set := fun o inb ha hb => by
      rw [Rect.mem_set_unit]
      intro a
      match a with
      | ⟨0, _⟩ => show 0 ≤ (y 0).val ∧ (y 0).val < 0 + 256; omega
      | ⟨1, _⟩ => exact ⟨ha, hb⟩
    unfold stored
    by_cases e3 : 768 ≤ (y 1).val
    · exact ⟨_, .head _, mem 768 inb_S256x1024_S256x256_0_768 e3 (by omega)⟩
    by_cases e2 : 512 ≤ (y 1).val
    · exact ⟨_, .tail _ (.head _), mem 512 inb_S256x1024_S256x256_0_512 e2 (by omega)⟩
    by_cases e1 : 256 ≤ (y 1).val
    · exact ⟨_, .tail _ (.tail _ (.head _)), mem 256 inb_S256x1024_S256x256_0_256 e1 (by omega)⟩
    exact ⟨_, .tail _ (.tail _ (.tail _ (.head _))), mem 0 inb_S256x1024_S256x256_0_0 (by omega) (by omega)⟩

theorem pay9_apply (x : Vec Ideal S256x1024 .f32) (w : Vec Ideal S1024x1024 .bf16) (r : Fin 256) (j : Fin 1024) :
    (k0_pay9 (F := Ideal) x w (ix2 r j) : EReal) = ∑ k : Fin 1024, (x (ix2 r k) : EReal) * w (ix2 k j) := by
  unfold k0_pay9
  rw [shapeCast_self]
  exact Shared.product_nn (M := 256) (K := 1024) (N := 1024) (φ₁ := .bf16) (φ₂ := .bf16) _ w r j

theorem pay1_apply (p : FVec Ideal S256x1024 .f32) (g : Vec Ideal S256x2048 .f32) (a : Vec Ideal S256x1024 .f32) (r : Fin 256) (j : Fin 1024) :
    (k0_pay1 (F := Ideal) p g a (ix2 r j) : EReal) = Ideal.logistic (g (ix2 r (⟨j.val, by omega⟩ : Fin 2048))) * (a (ix2 r j) : EReal)
      + Ideal.logistic (g (ix2 r (⟨1024 + j.val, by omega⟩ : Fin 2048))) * (p (ix2 r j) : EReal) := by
  unfold k0_pay1
  rw [shapeCast_self]
  refine congrArg₂ (fun u v : EReal => Ideal.logistic u * (a (ix2 r j) : EReal) + Ideal.logistic v * (p (ix2 r j) : EReal)) ?_ ?_
  · exact extractStridedSlice_apply ![0, 0] _ _ (ix2 r j) (ix2 r (⟨j.val, by omega⟩ : Fin 2048)) (fun a => match a with
    | ⟨0, _⟩ => by show r.val = 0 + r.val; omega
    | ⟨1, _⟩ => by show j.val = 0 + j.val; omega)
  · exact extractStridedSlice_apply ![0, 1024] _ _ (ix2 r j) (ix2 r (⟨1024 + j.val, by omega⟩ : Fin 2048)) (fun a => match a with
    | ⟨0, _⟩ => by show r.val = 0 + r.val; omega
    | ⟨1, _⟩ => by show 1024 + j.val = 1024 + j.val; omega)

theorem pay3_apply (p : FVec Ideal S256x1024 .f32) (g : Vec Ideal S256x2048 .f32) (a x : Vec Ideal S256x1024 .f32) (w : Vec Ideal S1024x1024 .bf16) (r : Fin 256) (j : Fin 1024) :
    (k0_pay3 (F := Ideal) p g a x w (ix2 r j) : EReal) = (x (ix2 r j) : EReal) + ∑ k : Fin 1024, (k0_pay1 (F := Ideal) p g a (ix2 r k) : EReal) * w (ix2 k j) := by
  unfold k0_pay3
  rw [shapeCast_self]
  exact congrArg (fun u : EReal => (x (ix2 r j) : EReal) + u) (Shared.product_nn (M := 256) (K := 1024) (N := 1024) (φ₁ := .bf16) (φ₂ := .bf16) _ w r j)

/-! ## The same, on the blocks of a point -/

/-- The first projection's block at a point, and the second's. -/
abbrev qa (c : Dev nD) (t : Fin cfg0.N) : Vec Ideal S256x1024 .f32 := View.canon (Val := Elt Ideal) (e := .f32) (stored (iblk m c 1 t) (iblk m c 4 t))
abbrev qb (c : Dev nD) (t : Fin cfg0.N) : FVec Ideal S256x1024 .f32 := k0_pay9 (F := Ideal) (iblk m c 2 t) (iblk m c 5 t)

theorem pa_eq (c : Dev nD) (t : Fin cfg0.N) (r : Fin 256) (j : Fin 1024) (n : Fin 2048) (h : n.val = t.val * 256 + r.val) :
    (qa m c t (ix2 r j) : EReal) = pa m c n j := by
  refine (stored_eq _ _ _).trans (Finset.sum_congr rfl fun k _ => ?_)
  refine congrArg₂ (fun a b : EReal => a * b) ((block1 m c t r k n h).trans (congrFun (operand1 m c) _)) ?_
  refine (block4 m c t _).trans ((operand4 m c _ k _).trans (congrArg (fun u : Fin 1024 => a4 m c (ix2 k u)) (Fin.ext ?_)))
  show j.val / 256 * 256 + j.val % 256 = j.val
  omega

theorem pb_eq (c : Dev nD) (t : Fin cfg0.N) (r : Fin 256) (j : Fin 1024) (n : Fin 2048) (h : n.val = t.val * 256 + r.val) :
    (qb m c t (ix2 r j) : EReal) = pb m c n j := by
  refine (pay9_apply _ _ r j).trans (Finset.sum_congr rfl fun k _ => ?_)
  exact congrArg₂ (fun a b : EReal => a * b) ((block2 m c t r k n h).trans (congrFun (operand2 m c) _)) ((block5 m c t (ix2 k j)).trans (congrFun (operand5 m c) _))

theorem mg_eq (c : Dev nD) (t : Fin cfg0.N) (r : Fin 256) (j : Fin 1024) (n : Fin 2048) (h : n.val = t.val * 256 + r.val) :
    (k0_pay1 (F := Ideal) (qb m c t) (iblk m c 3 t) (qa m c t) (ix2 r j) : EReal) = mg m c n j := by
  refine (pay1_apply _ _ _ r j).trans ?_
  refine congrArg₂ (fun a b : EReal => a + b) (congrArg₂ (fun a b : EReal => a * b) (congrArg Ideal.logistic ?_) (pa_eq m c t r j n h)) (congrArg₂ (fun a b : EReal => a * b) (congrArg Ideal.logistic ?_) (pb_eq m c t r j n h))
  · exact (block3 m c t r (⟨j.val, by omega⟩ : Fin 2048) n h).trans (congrFun (operand3 m c) _)
  · exact (block3 m c t r (⟨1024 + j.val, by omega⟩ : Fin 2048) n h).trans (congrFun (operand3 m c) _)

theorem xo_eq (c : Dev nD) (t : Fin cfg0.N) (r : Fin 256) (j : Fin 1024) (n : Fin 2048) (h : n.val = t.val * 256 + r.val) :
    (k0_pay3 (F := Ideal) (qb m c t) (iblk m c 3 t) (qa m c t) (iblk m c 0 t) (iblk m c 6 t) (ix2 r j) : EReal) = xo m c n j := by
  refine (pay3_apply _ _ _ _ _ r j).trans ?_
  refine congrArg₂ (fun a b : EReal => a + b) ((block0 m c t r j n h).trans (congrFun (operand0 m c) _)) (Finset.sum_congr rfl fun k _ => ?_)
  exact congrArg₂ (fun a b : EReal => a * b) (mg_eq m c t r k n h) ((block6 m c t (ix2 k j)).trans (congrFun (operand6 m c) _))

/-! ## What a grid point writes back -/

/-- The first projection's block as the body reads it back. -/
theorem pieces_eq (c : Dev nD) (t : Fin cfg0.N) :
    kernelRun0_A.sl.H8_4 c (ms0_1 t) (hs0_1 t) (ms0_4 t) (hs0_4 t) (iblk m c 1 t) (iblk m c 4 t) = stored (iblk m c 1 t) (iblk m c 4 t) := by
  unfold kernelRun0_A.sl.H8_4 stored
  rw [load_whole (S := S256x512) (hs0_1 t) zero2, load_slab (hs0_4 t) 3, load_slab (hs0_4 t) 2, load_slab (hs0_4 t) 1, load_slab (hs0_4 t) 0]

theorem back_eq (c : Dev nD) (t : Fin cfg0.N) :
    kernelRun0_A.sl.v27 c (ms0_1 t) (hs0_1 t) (ms0_4 t) (hs0_4 t) (ms0_8 t) (iblk m c 1 t) (iblk m c 4 t) = qa m c t := by
  unfold kernelRun0_A.sl.v27
  rw [View.readCov_eq_canon', pieces_eq]
  exact View.ld_unit_zero (S := S256x1024) (Val := Elt Ideal) zero2 inb_S256x1024_S256x1024_0_0 (qa m c t)

theorem other_eq (c : Dev nD) (t : Fin cfg0.N) :
    kernelRun0_A.sl.r c (ms0_2 t) (hs0_2 t) (ms0_5 t) (hs0_5 t) (iblk m c 2 t) (iblk m c 5 t) = qb m c t := by
  unfold kernelRun0_A.sl.r
  rw [load_whole (S := S256x1024) (hs0_2 t) zero2, load_whole (S := S1024x1024) (hs0_5 t) zero2]

theorem flushed7_eq (c : Dev nD) (t : Fin cfg0.N) : (dats m 0 c).flushed 7 t = ((cfg0.win 7).blk t).view.read (Elt Ideal) (G7 m c) := by
  rw [Value.flushed7_A]
  unfold out0_A_7
  rw [View.read_writes_junk_eq_canon]
  dsimp only [kernelRun0_A]
  rw [View.canon_unit_zero (S := S256x1024) zero2, load_whole (S := S256x2048) (hs0_3 t) zero2, load_whole (S := S256x1024) (hs0_0 t) zero2, load_whole (S := S1024x1024) (hs0_6 t) zero2, back_eq, other_eq]
  funext (y : S256x1024.Idx)
  have hr := emb7_row t y
  have hc : (((cfg0.win 7).blk t).view.emb y 1 : Fin 1024) = y 1 := Fin.ext (emb7_col t y)
  show (k0_pay3 (F := Ideal) _ _ _ _ _ y : EReal) = xo m c (((cfg0.win 7).blk t).view.emb y 0) (((cfg0.win 7).blk t).view.emb y 1)
  rw [hc]
  exact Eq.trans (congrArg _ (show y = ix2 (y 0) (y 1) from eq_ix2 y)) (xo_eq m c t (y 0) (y 1) _ hr)

theorem flushed8_eq (c : Dev nD) (t : Fin cfg0.N) : (dats m 0 c).flushed 8 t = ((cfg0.win 8).blk t).view.read (Elt Ideal) (G8 m c) := by
  rw [Value.flushed8_A]
  unfold out0_A_8
  rw [View.read_writes_junk_eq_canon]
  dsimp only [kernelRun0_A]
  rw [pieces_eq]
  funext (y : S256x1024.Idx)
  have hr := emb8_row t y
  have hc : (((cfg0.win 8).blk t).view.emb y 1 : Fin 1024) = y 1 := Fin.ext (emb8_col t y)
  show (qa m c t y : EReal) = pa m c (((cfg0.win 8).blk t).view.emb y 0) (((cfg0.win 8).blk t).view.emb y 1)
  rw [hc]
  exact Eq.trans (congrArg _ (show y = ix2 (y 0) (y 1) from eq_ix2 y)) (pa_eq m c t (y 0) (y 1) _ hr)

theorem flushed9_eq (c : Dev nD) (t : Fin cfg0.N) : (dats m 0 c).flushed 9 t = ((cfg0.win 9).blk t).view.read (Elt Ideal) (G9 m c) := by
  rw [Value.flushed9_A]
  unfold out0_A_9
  rw [View.read_writes_junk_eq_canon]
  dsimp only [kernelRun0_A]
  rw [View.canon_unit_zero (S := S256x1024) zero2, other_eq]
  funext (y : S256x1024.Idx)
  have hr := emb9_row t y
  have hc : (((cfg0.win 9).blk t).view.emb y 1 : Fin 1024) = y 1 := Fin.ext (emb9_col t y)
  show (qb m c t y : EReal) = pb m c (((cfg0.win 9).blk t).view.emb y 0) (((cfg0.win 9).blk t).view.emb y 1)
  rw [hc]
  exact Eq.trans (congrArg _ (show y = ix2 (y 0) (y 1) from eq_ix2 y)) (pb_eq m c t (y 0) (y 1) _ hr)

theorem flushed10_eq (c : Dev nD) (t : Fin cfg0.N) : (dats m 0 c).flushed 10 t = ((cfg0.win 10).blk t).view.read (Elt Ideal) (G10 m c) := by
  rw [Value.flushed10_A]
  unfold out0_A_10
  rw [View.read_writes_junk_eq_canon]
  dsimp only [kernelRun0_A]
  rw [View.canon_unit_zero (S := S256x1024) zero2, load_whole (S := S256x2048) (hs0_3 t) zero2, back_eq, other_eq]
  funext (y : S256x1024.Idx)
  have hr := emb10_row t y
  have hc : (((cfg0.win 10).blk t).view.emb y 1 : Fin 1024) = y 1 := Fin.ext (emb10_col t y)
  show (k0_pay2 (F := Ideal) _ _ _ y : EReal) = mg m c (((cfg0.win 10).blk t).view.emb y 0) (((cfg0.win 10).blk t).view.emb y 1)
  rw [hc]
  unfold k0_pay2
  rw [shapeCast_self]
  exact Eq.trans (congrArg _ (show y = ix2 (y 0) (y 1) from eq_ix2 y)) (mg_eq m c t (y 0) (y 1) _ hr)

theorem final7 (c : Dev nD) : (dats m 0 c).arrAt 7 cfg0.N = G7 m c :=
  (dats m 0 c).arrAt_eq_of_cover 7 _ (fun t _ => flushed7_eq m c t) covered7
theorem final8 (c : Dev nD) : (dats m 0 c).arrAt 8 cfg0.N = G8 m c :=
  (dats m 0 c).arrAt_eq_of_cover 8 _ (fun t _ => flushed8_eq m c t) covered8
theorem final9 (c : Dev nD) : (dats m 0 c).arrAt 9 cfg0.N = G9 m c :=
  (dats m 0 c).arrAt_eq_of_cover 9 _ (fun t _ => flushed9_eq m c t) covered9
theorem final10 (c : Dev nD) : (dats m 0 c).arrAt 10 cfg0.N = G10 m c :=
  (dats m 0 c).arrAt_eq_of_cover 10 _ (fun t _ => flushed10_eq m c t) covered10

/-! ## The reference's arrays, and the claim -/

open Cert.Reference18Ideal.Read

theorem ref_pa (c : Dev nD) (n : Fin 2048) (j : Fin 1024) : val_main_v0 (F := Ideal) (a1 m c) (a4 m c) (ix2 n j) = pa m c n j := by
  refine (val_main_v0_apply _ _ _).trans (Finset.sum_congr rfl fun k _ => ?_)
  refine congrArg₂ (fun a b : EReal => a * b) (congrArg (a1 m c) (funext fun a => ?_)) (congrArg (a4 m c) (funext fun a => ?_)) <;>
    (match a with
      | ⟨0, _⟩ => rfl
      | ⟨1, _⟩ => rfl)

theorem ref_pb (c : Dev nD) (n : Fin 2048) (j : Fin 1024) : val_main_v1 (F := Ideal) (a2 m c) (a5 m c) (ix2 n j) = pb m c n j := by
  refine (val_main_v1_apply _ _ _).trans (Finset.sum_congr rfl fun k _ => ?_)
  refine congrArg₂ (fun a b : EReal => a * b) (congrArg (a2 m c) (funext fun a => ?_)) (congrArg (a5 m c) (funext fun a => ?_)) <;>
    (match a with
      | ⟨0, _⟩ => rfl
      | ⟨1, _⟩ => rfl)

theorem ref_ga (c : Dev nD) (n : Fin 2048) (j : Fin 1024) : val_main_v8 (F := Ideal) (a3 m c) (ix2 n j) = ga m c n j := by
  rw [val_main_v8_apply, val_main_v7_apply, val_main_v6_apply, val_main_v5_apply, val_main_v4_apply, val_main_v3_apply, val_main_v2_apply]
  have e : a3 m c (idx_main_v2 (ix2 n j)) = a3 m c (ix2 n (⟨j.val, by omega⟩ : Fin 2048)) := congrArg (a3 m c) (funext fun a => by
    match a with
    | ⟨0, _⟩ => rfl
    | ⟨1, _⟩ => rfl)
  rw [e]
  exact congrArg₂ (fun u v : EReal => Ideal.div u (v + Ideal.exp (-a3 m c (ix2 n (⟨j.val, by omega⟩ : Fin 2048))))) Shared.ofBits_one Shared.ofBits_one

theorem ref_gb (c : Dev nD) (n : Fin 2048) (j : Fin 1024) : val_main_v16 (F := Ideal) (a3 m c) (ix2 n j) = gb m c n j := by
  rw [val_main_v16_apply, val_main_v15_apply, val_main_v14_apply, val_main_v13_apply, val_main_v12_apply, val_main_v11_apply, val_main_v10_apply]
  have e : a3 m c (idx_main_v10 (ix2 n j)) = a3 m c (ix2 n (⟨1024 + j.val, by omega⟩ : Fin 2048)) := congrArg (a3 m c) (funext fun a => by
    match a with
    | ⟨0, _⟩ => rfl
    | ⟨1, _⟩ => exact Fin.ext (by show _ = 1024 + j.val; first | rfl | exact Nat.add_comm _ _))
  rw [e]
  exact congrArg₂ (fun u v : EReal => Ideal.div u (v + Ideal.exp (-a3 m c (ix2 n (⟨1024 + j.val, by omega⟩ : Fin 2048))))) Shared.ofBits_one Shared.ofBits_one

theorem ref_mg (c : Dev nD) (n : Fin 2048) (j : Fin 1024) : (val_main_v18 (F := Ideal) (a1 m c) (a2 m c) (a3 m c) (a4 m c) (a5 m c) (ix2 n j) : EReal) = mg m c n j := by
  rw [val_main_v18_apply, val_main_v17_apply, val_main_v9_apply, ref_pa, ref_pb, ref_ga, ref_gb]
  rfl

theorem ref7 (c : Dev nD) : val_main_v20 (F := Ideal) (a0 m c) (a1 m c) (a2 m c) (a3 m c) (a4 m c) (a5 m c) (a6 m c) = G7 m c := by
  funext (i : S2048x1024.Idx)
  refine (val_main_v20_apply _ _ _ _ _ _ _ _).trans ?_
  refine congrArg₂ (fun a b : EReal => a + b) (congrArg (a0 m c) (show i = ix2 (i 0) (i 1) from eq_ix2 i)) ((val_main_v19_apply _ _ _ _ _ _ _).trans (Finset.sum_congr rfl fun k _ => ?_))
  refine congrArg₂ (fun a b : EReal => a * b) (Eq.trans (congrArg _ (funext fun a => ?_)) (ref_mg m c (i 0) k)) (congrArg (a6 m c) (funext fun a => ?_)) <;>
    (match a with
      | ⟨0, _⟩ => rfl
      | ⟨1, _⟩ => rfl)

theorem ref8 (c : Dev nD) : val_main_v0 (F := Ideal) (a1 m c) (a4 m c) = G8 m c := by
  funext (i : S2048x1024.Idx)
  exact Eq.trans (congrArg _ (show i = ix2 (i 0) (i 1) from eq_ix2 i)) (ref_pa m c (i 0) (i 1))

theorem ref9 (c : Dev nD) : val_main_v1 (F := Ideal) (a2 m c) (a5 m c) = G9 m c := by
  funext (i : S2048x1024.Idx)
  exact Eq.trans (congrArg _ (show i = ix2 (i 0) (i 1) from eq_ix2 i)) (ref_pb m c (i 0) (i 1))

theorem ref10 (c : Dev nD) : val_main_v21 (F := Ideal) (a1 m c) (a2 m c) (a3 m c) (a4 m c) (a5 m c) = G10 m c := by
  funext (i : S2048x1024.Idx)
  exact Eq.trans (congrArg _ (show i = ix2 (i 0) (i 1) from eq_ix2 i)) (ref_mg m c (i 0) (i 1))

theorem algebraic : Cert.algebraic_Kernel18Ideal_Reference18Ideal := by
  intro m g m' g' _ hagree
  refine ⟨G7 m, G8 m, G9 m, G10 m, ?_, ?_⟩
  · exact (θ_run defs _ _).mono (fun r h c => ⟨(h c).1.trans (final7 m c), (h c).2.1.trans (final8 m c), (h c).2.2.1.trans (final9 m c),
      (h c).2.2.2.1.trans (final10 m c), (h c).2.2.2.2⟩) (Value.run_blocks m g)
  · refine (θ_run Cert.Reference18Ideal.defs _ _).mono (fun r h c => ?_) (Cert.Reference18Ideal.Value.run (F := Ideal) m' g')
    obtain ⟨e0, e1, e2, e3, e4, e5, e6⟩ := hagree c
    refine ⟨((h c).1.trans (val_main_v20_eq _ _ _ _ _ _ _)).trans ?_, ((h c).2.1.trans (val_main_v0_eq _ _)).trans ?_, ((h c).2.2.1.trans (val_main_v1_eq _ _)).trans ?_,
      ((h c).2.2.2.1.trans (val_main_v21_eq _ _ _ _ _)).trans ?_, (h c).2.2.2.2⟩
    · rw [e0, e1, e2, e3, e4, e5, e6]; exact ref7 m c
    · rw [e1, e4]; exact ref8 m c
    · rw [e2, e5]; exact ref9 m c
    · rw [e1, e2, e3, e4, e5]; exact ref10 m c

end Cert.Proof.MergeForward

end
-- ==== Proof.Resident.lean ====
module

public import Mathlib.Data.Finset.Piecewise

/-! What the calls that keep their weights in scratch share. -/

@[expose] public section

/-- Four sets that cover everything, each overwritten with `g` in turn, leave `g`. -/
theorem piecewise_four {ι : Type} [DecidableEq ι] {δ : ι → Type} (s0 s1 s2 s3 : Finset ι) (f g : ∀ i, δ i)
    (h : ∀ i, i ∈ s0 ∨ i ∈ s1 ∨ i ∈ s2 ∨ i ∈ s3) :
    s3.piecewise g (s2.piecewise g (s1.piecewise g (s0.piecewise g f))) = g := by
  funext i
  by_cases h3 : i ∈ s3
  · rw [Finset.piecewise_eq_of_mem _ _ _ h3]
  rw [Finset.piecewise_eq_of_notMem _ _ _ h3]
  by_cases h2 : i ∈ s2
  · rw [Finset.piecewise_eq_of_mem _ _ _ h2]
  rw [Finset.piecewise_eq_of_notMem _ _ _ h2]
  by_cases h1 : i ∈ s1
  · rw [Finset.piecewise_eq_of_mem _ _ _ h1]
  rw [Finset.piecewise_eq_of_notMem _ _ _ h1]
  rcases h i with h0 | h' | h' | h'
  · rw [Finset.piecewise_eq_of_mem _ _ _ h0]
  · exact absurd h' h1
  · exact absurd h' h2
  · exact absurd h' h3

end
-- ==== Proof.FfnDownRun.lean ====
module

public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Skeleton
public import proofs.«01_k».proof.Proof.Resident
public import proofs.«01_k».proof.Defs
public import Idealize.ShloMosaic.Lib.Claim
public import Idealize.ShloMosaic.Lib.Pipeline.FrameBody
public import Idealize.ShloMosaic.Lib.Ring
public import Idealize.ShloMosaic.Lib.WordCmp
public import Idealize.ShloMosaic.Adequacy

/-!
The frame of the feed-forward down projection: the weights, left in device memory, are copied into scratch at the first grid step
and stay there; every later step finds them as the first left them.
-/

@[expose] public section

set_option maxRecDepth 16384

noncomputable section

namespace Cert.Kernel17Ideal.Resident

open Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The test the body makes for the first grid step. -/
abbrev AtFirst (i : grid0.Coords) : Prop := (Scalar.cmpi .ne (Scalar.extui (Scalar.cmpi .eq (BitVec.ofNat 32 (i 0).val) 0#32)) 0#32) = 1#1

theorem atFirst_iff (t : Fin cfg0.N) : AtFirst (grid0.coords t) ↔ t.val = 0 :=
  (fun t => by
    have ht : t.val < 4 := Nat.lt_of_lt_of_eq t.isLt N_0
    have e0 : (grid0.coords t 0).val = t.val / 1 % 4 := Pipeline.Grid.coords_val t 0 (by decide) rfl
    have e1 : t.val / 1 % 4 = t.val := by omega
    simp only [AtFirst, e0, e1]
    word_cmp
   : ∀ t : Fin grid0.N, AtFirst (grid0.coords t) ↔ t.val = 0) t

/-- What buffer `M` can hold on device `c`, and the buffer held whole at `f`. -/
abbrev Held (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Held (F := F) c M) : sProp 𝕄 :=
  M.view.loc (c : Thread nD τ) ↦{fullShare} f

theorem held_congr {c : Dev nD} {sp : Space} {S : Shape} {e : EltTy} {M : Memref sig .tc sp S e} {f f' : Held (F := F) c M} (h : f = f') :
    held (F := F) c M f ⊢ held (F := F) c M f' := by
  rw [h]

abbrev scM0 : Memref sig .tc .vmem S4x704x1024 .bf16 := Memref.whole cc0_scratch0
abbrev hbM0 : Memref sig .tc .hbm S4x704x1024 .bf16 := Memref.whole main_v7

/-- Chunk `k` of a buffer of four. -/
abbrev chunk {sp : Space} (M : Memref sig .tc sp S4x704x1024 .bf16) (k : ℕ) (h : ∀ a, (![k, 0, 0] : Fin 3 → ℕ) a + S1x704x1024.size a ≤ S4x704x1024.size a) : Memref sig .tc sp S704x1024 .bf16 :=
  (M.slice (Rect.unit ![k, 0, 0] S1x704x1024.size h) (fun _ => rfl)).squeeze S704x1024 squeezes_S1x704x1024_S704x1024

/-- The four chunks copied in, in order, are the whole array. -/
theorem filled0 (c : Dev nD) (f : Held (F := F) c scM0) (g : Held (F := F) c hbM0) :
    ((chunk scM0 3 inb_S4x704x1024_S1x704x1024_3_0_0).view.write (Elt F) ((chunk scM0 2 inb_S4x704x1024_S1x704x1024_2_0_0).view.write (Elt F) ((chunk scM0 1 inb_S4x704x1024_S1x704x1024_1_0_0).view.write (Elt F) ((chunk scM0 0 inb_S4x704x1024_S1x704x1024_0_0_0).view.write (Elt F) f
      ((chunk scM0 0 inb_S4x704x1024_S1x704x1024_0_0_0).view.read (Elt F) g) Finset.univ)
      ((chunk scM0 1 inb_S4x704x1024_S1x704x1024_1_0_0).view.read (Elt F) g) Finset.univ)
      ((chunk scM0 2 inb_S4x704x1024_S1x704x1024_2_0_0).view.read (Elt F) g) Finset.univ)
      ((chunk scM0 3 inb_S4x704x1024_S1x704x1024_3_0_0).view.read (Elt F) g) Finset.univ) = g := by
  have mem : ∀ (k : ℕ) (h : ∀ a, (![k, 0, 0] : Fin 3 → ℕ) a + S1x704x1024.size a ≤ S4x704x1024.size a) (y : S4x704x1024.Idx), (y 0).val = k →
      y ∈ (chunk scM0 k h).view.setOn Finset.univ := by
    intro k h y e
    rw [View.setOn_univ]
    refine (Finset.ext_iff.mp ((View.set_reshape _ _).trans (View.set_slice_whole _ _)) y).mpr ?_
    rw [Rect.mem_set_unit]
    intro a
    fin_cases a
    · exact ⟨e.ge, lt_of_eq_of_lt e (Nat.lt_succ_self k)⟩
    · exact ⟨Nat.zero_le _, lt_of_lt_of_eq (y 1).isLt (by rfl)⟩
    · exact ⟨Nat.zero_le _, lt_of_lt_of_eq (y 2).isLt (by rfl)⟩
  simp only [View.write_read_eq_piecewise]
  exact piecewise_four _ _ _ _ f g fun y => by
    have hy : (y 0).val < 4 := (y 0).isLt
    rcases (by omega : (y 0).val = 0 ∨ (y 0).val = 1 ∨ (y 0).val = 2 ∨ (y 0).val = 3) with e | e | e | e
    · exact .inl (mem 0 _ y e)
    · exact .inr (.inl (mem 1 _ y e))
    · exact .inr (.inr (.inl (mem 2 _ y e)))
    · exact .inr (.inr (.inr (mem 3 _ y e)))

set_option sl_exec.dmaWindow true in
set_option maxHeartbeats 4000000 in
/-- One run of the body at any grid step: it leaves the weights in scratch whether it finds them there or copies them in. -/
def tileRun (c : Dev nD) (i : grid0.Coords) (arg1 : Memref sig .tc .vmem S512x1024 .f32) (harg1 : arg1.IsWhole) (arg2 : Memref sig .tc .vmem S4x512x704 .bf16) (harg2 : arg2.IsWhole) (arg3 : Memref sig .tc .vmem S4x512x704 .bf16) (harg3 : arg3.IsWhole) (arg5 : Memref sig .tc .vmem S512x1024 .f32) (harg5 : arg5.IsWhole)
    (x0 : Vec F S512x1024 .f32) (x1 : Vec F S4x512x704 .bf16) (x2 : Vec F S4x512x704 .bf16) (g0 : Held (F := F) c hbM0) :
    { L3 : List (View.Piece (Elt F) S512x1024 .f32) // ∀ (W : Waits sig Unit) (K : PUnit → sProp 𝕄) (pre : sProp 𝕄)
      (_ : (¬ AtFirst i ∧ pre = iprop((held (F := F) c scM0 g0))) ∨ (AtFirst i ∧ pre = iprop(((∃ f, held (F := F) c scM0 f))))),
      iprop(owns (c : Thread nD τ) arg1 fullShare x0 ∗ owns (c : Thread nD τ) arg2 fullShare x1 ∗ owns (c : Thread nD τ) arg3 fullShare x2 ∗ (∃ d, owns (c : Thread nD τ) arg5 fullShare d) ∗ pre ∗ (semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ (held (F := F) c hbM0 g0) ∗ owes (c : Thread nD τ) 0 W
        ∗ ((owns (c : Thread nD τ) arg1 fullShare x0 ∗ owns (c : Thread nD τ) arg2 fullShare x1 ∗ owns (c : Thread nD τ) arg3 fullShare x2 ∗ (∃ f, arg5.view.loc (c : Thread nD τ) ↦[arg5.view.set]{fullShare} arg5.view.writes (Elt F) f L3) ∗ (held (F := F) c scM0 g0) ∗ (semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ (held (F := F) c hbM0 g0) ∗ (∃ W', owes (c : Thread nD τ) 0 W')) -∗ K ⟨⟩))
      ⊢ wp frame (wpE (defs₀ (F := F)) Variants.none c none) Set.univ (cc0_ffn_down_fwd i arg1 harg1 arg2 harg2 arg3 harg3 (Memref.whole main_v7) (Memref.isWhole_whole _) arg5 harg5 (Memref.whole cc0_scratch0) (Memref.isWhole_whole _) cc0_scratch1) K } := by
  refine ⟨?_, fun W K pre hpre => ?run⟩
  case run =>
    simp only [cc0_ffn_down_fwd_eq_skeleton]; unfold cc0_ffn_down_fwd_skel
    simp only [k0_part1_eq_skeleton, k0_part2_eq_skeleton, k0_part3_eq_skeleton]
    unfold owns
    rcases hpre with ⟨hc, rfl⟩ | ⟨hc, rfl⟩
    · iintro ⟨⟨%f0, %hf0, H0⟩, ⟨%f1, %hf1, H1⟩, ⟨%f2, %hf2, H2⟩, ⟨%d3, %f3, -, H3⟩, HS0, ⟨Hq0, Hq1, Hq2, Hq3⟩, Hh0, HW, Hk⟩
      obtain rfl := harg1.eq_unread hf0
      obtain rfl := harg2.eq_unread hf1
      obtain rfl := harg3.eq_unread hf2
      sl_exec (disch := first | sl_exact hc)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]; · iexists _; iexact H3
      isplitl [HS0]; · iexact HS0
      isplitl [Hq0 Hq1 Hq2 Hq3]
      · isplitl [Hq0]; · iexact Hq0
        isplitl [Hq1]; · iexact Hq1
        isplitl [Hq2]; · iexact Hq2
        iexact Hq3
      isplitl [Hh0]; · iexact Hh0
      iexists _; iexact HW
    · iintro ⟨H0, H1, H2, H3, ⟨%fs0, HS0⟩, ⟨Hq0, Hq1, Hq2, Hq3⟩, Hh0, HW, Hk⟩
      sl_exec (disch := first | sl_exact hc)
      ihave HT0 := (held_congr (M := scM0) (f' := g0) ?fill0) $$ HS0
      case fill0 => exact filled0 c fs0 g0
      icases H0 with ⟨%f0, %hf0, H0⟩
      icases H1 with ⟨%f1, %hf1, H1⟩
      icases H2 with ⟨%f2, %hf2, H2⟩
      icases H3 with ⟨%d3, %f3, -, H3⟩
      obtain rfl := harg1.eq_unread hf0
      obtain rfl := harg2.eq_unread hf1
      obtain rfl := harg3.eq_unread hf2
      sl_exec
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]; · iexists _; iexact H3
      isplitl [HT0]; · iexact HT0
      isplitl [Hq0 Hq1 Hq2 Hq3]
      · isplitl [Hq0]; · iexact Hq0
        isplitl [Hq1]; · iexact Hq1
        isplitl [Hq2]; · iexact Hq2
        iexact Hq3
      isplitl [Hh0]; · iexact Hh0
      iexists _; iexact HW

/-- The stores into output 0 cover its block, so what the block held before is gone. -/
theorem cover3 (c : Dev nD) (i : grid0.Coords) (arg1 : Memref sig .tc .vmem S512x1024 .f32) (harg1 : arg1.IsWhole) (arg2 : Memref sig .tc .vmem S4x512x704 .bf16) (harg2 : arg2.IsWhole) (arg3 : Memref sig .tc .vmem S4x512x704 .bf16) (harg3 : arg3.IsWhole) (arg5 : Memref sig .tc .vmem S512x1024 .f32) (harg5 : arg5.IsWhole)
    (x0 : Vec F S512x1024 .f32) (x1 : Vec F S4x512x704 .bf16) (x2 : Vec F S4x512x704 .bf16) (g0 : Held (F := F) c hbM0) (y : S512x1024.Idx) : ∃ pc ∈ (tileRun c i arg1 harg1 arg2 harg2 arg3 harg3 arg5 harg5 x0 x1 x2 g0).1, y ∈ pc.1.set :=
  View.cover_of_tiledL (tileRun c i arg1 harg1 arg2 harg2 arg3 harg3 arg5 harg5 x0 x1 x2 g0).1 S512x1024.size (by sl_kernel_rfl) y
abbrev VO3 : View sig .tc .vmem S512x1024 .f32 := (Memref.whole cc0_stg3_0 : Memref sig .tc .vmem S512x1024 .f32).view

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x512x704 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x512x704 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1024 .f32 := win0_3.stage (cfg0.slots t 3)
abbrev hs3 (t : Fin cfg0.N) : (ms3 t).IsWhole := hstage0_3 ((cfg0.slots t 3).cast nbuf0_3)

/-- The body's run at grid step `t`, on that step's blocks. -/
abbrev runAt (c : Dev nD) (t : Fin cfg0.N) := tileRun c (grid0.coords t) (ms0 t) (hs0 t) (ms1 t) (hs1 t) (ms2 t) (hs2 t) (ms3 t) (hs3 t) (iblk m c 0 t) (iblk m c 1 t) (iblk m c 2 t) (V m c main_v7)

/-- What grid step `t` leaves in output 0's block. -/
def left3 (c : Dev nD) (t : Fin cfg0.N) : Vec F S512x1024 .f32 := VO3.read (Elt F) (VO3.writes (Elt F) VO3.junk (runAt m c t).1)

/-- The semaphores of the copies. -/
abbrev osem : Fin 4 → SemLoc sig := fun j => (![SemLoc.dma 8, SemLoc.dma 9, SemLoc.dma 10, SemLoc.dma 11] : Fin 4 → SemLoc sig) j
theorem osem_facts : Pipeline.OwnSemFacts spec0 osem := by decide
theorem osem_eq (c : Dev nD) :
    (Pipeline.ownSems0 (Ix := Unit) (Name := ℕ) (U := Pipeline.UD sig nD τ) (Lvl := ℕ) (Val := Elt F) (τ := τ) osem c : sProp 𝕄) = iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) := by
  rw [Pipeline.ownSems0_eq_of_list c osem [0, 1, 2, 3] (by decide) (by decide)]; rfl

/-- The weights as the call finds them. -/
def weights : Finset (Ref sig .tc) := {main_v7}
theorem weights_sub : weights ⊆ Pipeline.restRefs sig spec0 := by decide
theorem weights_eq (c : Dev nD) :
    (bigSep weights (fun b => ((c : Thread nD τ).loc b) ↦{fullShare} V m c b) : sProp 𝕄) = iprop(held (F := F) c hbM0 (V m c main_v7)) := by
  rw [BI.bigSep_eq_bigSepL_of_eq [main_v7] (by decide) (by decide)]; rfl

/-- What is held before the first step, and between steps. -/
theorem start_eq (c : Dev nD) :
    (Pipeline.ΦD osem spec0 weights (V m) c : sProp 𝕄) = iprop(((∃ f, held (F := F) c scM0 f)) ∗ (∃ r, prngReg c r) ∗ (semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ (held (F := F) c hbM0 (V m c main_v7))) := by
  rw [Pipeline.ΦD_eq, scopedRest0_eq, osem_eq, weights_eq]; try rfl
def between (c : Dev nD) (n : ℕ) : sProp 𝕄 :=
  if n = 0 then Pipeline.ΦD osem spec0 weights (V m) c
  else iprop((held (F := F) c scM0 (V m c main_v7)) ∗ (∃ r, prngReg c r) ∗ (semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ (held (F := F) c hbM0 (V m c main_v7)))

/-- The call's proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => left3 m c t
  Φ n := between m c n.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = left3 m c t := by dsimp only [dats]
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

set_option maxHeartbeats 1600000 in
/-- The body at grid step `t`, from what the step is given to what it leaves. -/
theorem sound_body (c : Dev nD) (t : Fin cfg0.N) :
    iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)))
    ⊢ wp frame (wpE (defs₀ (F := F)) Variants.none c none) Set.univ (bodyAt0 t)
      (fun _ => iprop((dats m 0 c).Φ t.succ ∗ (dats m 0 c).owesAt () t.succ ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t))) := by
  unfold bodyAt0
  simp only [before0, before1, before2]
  rw [after0, after1, after2, after3]
  rw [show (dats m 0 c).Φ t.castSucc = between m c t.val from rfl, show (dats m 0 c).Φ t.succ = between m c (t.val + 1) from rfl]
  rw [show between m c (t.val + 1) = iprop((held (F := F) c scM0 (V m c main_v7)) ∗ (∃ r, prngReg c r) ∗ (semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ (held (F := F) c hbM0 (V m c main_v7))) from if_neg (Nat.succ_ne_zero _)]
  unfold left3 Dat.owesAt Pipeline.owesWithin
  rw [show (dats m 0 c).owed t.castSucc = 0 from rfl, show (dats m 0 c).owed t.succ = 0 from rfl]
  by_cases h0 : t.val = 0
  · rw [show between m c t.val = Pipeline.ΦD osem spec0 weights (V m) c from if_pos h0, start_eq]
    iintro ⟨⟨HS0, Hg, ⟨Hq0, Hq1, Hq2, Hq3⟩, Hh0⟩, ⟨%W, -, HW⟩, ⟨%d0, H0⟩, ⟨%d1, H1⟩, ⟨%d2, H2⟩, ⟨%d3, H3⟩⟩
    iapply ((runAt m c t).2 W _ _ (.inr ⟨(atFirst_iff t).mpr h0, rfl⟩))
    isplitl [H0]; · iexact H0
    isplitl [H1]; · iexact H1
    isplitl [H2]; · iexact H2
    isplitl [H3]; · iexists _; iexact H3
    isplitl [HS0]; · iexact HS0
    isplitl [Hq0 Hq1 Hq2 Hq3]
    · isplitl [Hq0]; · iexact Hq0
      isplitl [Hq1]; · iexact Hq1
      isplitl [Hq2]; · iexact Hq2
      iexact Hq3
    isplitl [Hh0]; · iexact Hh0
    isplitl [HW]; · iexact HW
    iintro ⟨H0, H1, H2, ⟨%e3, H3⟩, HS0, ⟨Hq0, Hq1, Hq2, Hq3⟩, Hh0, ⟨%W', HW'⟩⟩
    isplitl [HS0 Hg Hq0 Hq1 Hq2 Hq3 Hh0]
    · isplitl [HS0]; · iexact HS0
      isplitl [Hg]; · iexact Hg
      isplitl [Hq0 Hq1 Hq2 Hq3]
      · isplitl [Hq0]; · iexact Hq0
        isplitl [Hq1]; · iexact Hq1
        isplitl [Hq2]; · iexact Hq2
        iexact Hq3
      iexact Hh0
    isplitl [HW']
    · iexists W'; isplitr; · ipureintro; exact fun _ _ => Or.inl trivial
      iexact HW'
    isplitl [H0]; · iexact H0
    isplitl [H1]; · iexact H1
    isplitl [H2]; · iexact H2
    unfold owns; iexists _; isplitr
    swap; · iexact H3
    ipureintro; exact View.read_writes_of_cover _ _ _ _ _ (cover3 c _ _ _ _ _ _ _ _ _ _ _ _ _ )
  · rw [show between m c t.val = iprop((held (F := F) c scM0 (V m c main_v7)) ∗ (∃ r, prngReg c r) ∗ (semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ (held (F := F) c hbM0 (V m c main_v7))) from if_neg h0]
    iintro ⟨⟨HS0, Hg, ⟨Hq0, Hq1, Hq2, Hq3⟩, Hh0⟩, ⟨%W, -, HW⟩, ⟨%d0, H0⟩, ⟨%d1, H1⟩, ⟨%d2, H2⟩, ⟨%d3, H3⟩⟩
    iapply ((runAt m c t).2 W _ _ (.inl ⟨fun h => h0 ((atFirst_iff t).mp h), rfl⟩))
    isplitl [H0]; · iexact H0
    isplitl [H1]; · iexact H1
    isplitl [H2]; · iexact H2
    isplitl [H3]; · iexists _; iexact H3
    isplitl [HS0]; · iexact HS0
    isplitl [Hq0 Hq1 Hq2 Hq3]
    · isplitl [Hq0]; · iexact Hq0
      isplitl [Hq1]; · iexact Hq1
      isplitl [Hq2]; · iexact Hq2
      iexact Hq3
    isplitl [Hh0]; · iexact Hh0
    isplitl [HW]; · iexact HW
    iintro ⟨H0, H1, H2, ⟨%e3, H3⟩, HS0, ⟨Hq0, Hq1, Hq2, Hq3⟩, Hh0, ⟨%W', HW'⟩⟩
    isplitl [HS0 Hg Hq0 Hq1 Hq2 Hq3 Hh0]
    · isplitl [HS0]; · iexact HS0
      isplitl [Hg]; · iexact Hg
      isplitl [Hq0 Hq1 Hq2 Hq3]
      · isplitl [Hq0]; · iexact Hq0
        isplitl [Hq1]; · iexact Hq1
        isplitl [Hq2]; · iexact Hq2
        iexact Hq3
      iexact Hh0
    isplitl [HW']
    · iexists W'; isplitr; · ipureintro; exact fun _ _ => Or.inl trivial
      iexact HW'
    isplitl [H0]; · iexact H0
    isplitl [H1]; · iexact H1
    isplitl [H2]; · iexact H2
    unfold owns; iexists _; isplitr
    swap; · iexact H3
    ipureintro; exact View.read_writes_of_cover _ _ _ _ _ (cover3 c _ _ _ _ _ _ _ _ _ _ _ _ _ )

theorem row_eq (t : Fin cfg0.N) : defs₀ (F := F) .tc cfg0.body (cfg0.bodyArgs t (cfg0.slots t)) = bodyAt0 t := by
  unfold defs₀; rw [Defs.onTc_tc]

/-- The body meets its obligation at every step. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

theorem enter (c : Dev nD) : Pipeline.ΦD osem spec0 weights (V m) c ⊢ (dats m 0 c).Φ 0 := by
  rw [show (dats m 0 c).Φ 0 = between m c 0 from rfl, show between m c 0 = Pipeline.ΦD osem spec0 weights (V m) c from if_pos rfl]

theorem leave (c : Dev nD) : (dats m 0 c).Φ (Fin.last cfg0.N) ⊢ Pipeline.ΦD osem spec0 weights (V m) c := by
  rw [show (dats m 0 c).Φ (Fin.last cfg0.N) = between m c cfg0.N from rfl, show between m c cfg0.N = iprop((held (F := F) c scM0 (V m c main_v7)) ∗ (∃ r, prngReg c r) ∗ (semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ (held (F := F) c hbM0 (V m c main_v7))) from if_neg (by rw [show cfg0.N = 4 from N_0]; decide), start_eq]
  iintro ⟨HS0, Hg⟩
  isplitl [HS0]
  · iexists _; iexact HS0
  iexact Hg

theorem reach (𝒱 : Variants) : Pipeline.HMain (Ix := Unit) (Name := ℕ) (U := Pipeline.UD sig nD τ) (Lvl := ℕ) cfgs 0 defs₀ 𝒱 m (main (F := F)) (V m) :=
  Pipeline.hmain_prefix cfgs 0 defs₀ 𝒱 m main hostOps0 hostOps0_sub hostOps0_fresh main_chain

set_option backward.isDefEq.respectTransparency.types false in
set_option maxHeartbeats 800000 in
/-- The whole run: it ends, with the arrays as the proof data say and no signal left. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ Variants.none osem_facts weights weights_sub m ρ main
    (hbody := fun c => (body_obligation m c).loose) (hshare := fun c => (dats m 0 c).share_full fun _ => rfl)
    (howed := fun _ _ => rfl) (V := V m) (hmain := reach m Variants.none) (hA := A_eq m) (hin := enter m) (hout := leave m)

/-- The arguments end as they began and no signal is left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3))
      ∧ r.2.sem = fun _ => 0) :=
  (θ_run defs _ _).mono (fun _ hh => ⟨fun c => by
    have h := hh.1
    exact ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩, hh.2⟩) (run_main m ρ)

end Cert.Kernel17Ideal.Resident

end
-- ==== Proof.Chunks.lean ====
module

public import proofs.«01_k».proof.Proof.Shared
public import Idealize.ShloMosaic.Lib.Pipeline.Value
public import Idealize.ShloMosaic.Lib.ValueIdx

/-! Arrays cut into four chunks, and loads of whole buffers and of one chunk, read at an index. -/

@[expose] public section

noncomputable section

namespace Cert.Proof.Chunks

open Idealize.ShloMosaic Idealize.ShloMosaic.ValueIdx

/-- Column chunk `q` of an array, the chunks laid one after the other. -/
theorem columns_at {A N B : ℕ} {α : Type} (hN : N = 4 * B) (x : (⟨2, ![A, N]⟩ : Shape).Idx → α)
    (h : (⟨2, ![A, N]⟩ : Shape).ShapeCasts ⟨3, ![A, 4, B]⟩) (h' : (⟨3, ![A, 4, B]⟩ : Shape).Transposes [1, 0, 2] ⟨3, ![4, A, B]⟩)
    (q : Fin 4) (i : Fin A) (k : Fin B) (j : Fin N) (hj : j.val = q.val * B + k.val) :
    transpose ⟨3, ![4, A, B]⟩ [1, 0, 2] (shapeCast ⟨3, ![A, 4, B]⟩ x h) h' (ix3 q i k) = x (ix2 i j) := by
  refine (transpose_apply [1, 0, 2] _ h' (ix3 q i k) (ix3 i q k) (fun b => match b with
    | ⟨0, _⟩ => rfl
    | ⟨1, _⟩ => rfl
    | ⟨2, _⟩ => rfl)).trans (shapeCast_apply _ h (ix3 i q k) (ix2 i j) ?_)
  rewrite [Shape.rowMajor_val_two, Shape.rowMajor_val_three]
  show i.val * N + j.val = (i.val * 4 + q.val) * B + k.val
  rw [hj, hN]; ring

/-- Row chunk `q` of an array. -/
theorem rows_at {A M B : ℕ} {α : Type} (x : (⟨2, ![M, B]⟩ : Shape).Idx → α) (h : (⟨2, ![M, B]⟩ : Shape).ShapeCasts ⟨3, ![4, A, B]⟩)
    (q : Fin 4) (i : Fin A) (k : Fin B) (j : Fin M) (hj : j.val = q.val * A + i.val) :
    shapeCast ⟨3, ![4, A, B]⟩ x h (ix3 q i k) = x (ix2 j k) := by
  refine shapeCast_apply _ h (ix3 q i k) (ix2 j k) ?_
  rewrite [Shape.rowMajor_val_two, Shape.rowMajor_val_three]
  show j.val * B + k.val = (q.val * A + i.val) * B + k.val
  rw [hj]

/-- One chunk as a matrix. -/
theorem matrix_at {A B : ℕ} {α : Type} (x : (⟨3, ![1, A, B]⟩ : Shape).Idx → α) (h : (⟨3, ![1, A, B]⟩ : Shape).ShapeCasts ⟨2, ![A, B]⟩)
    (i : Fin A) (k : Fin B) : shapeCast ⟨2, ![A, B]⟩ x h (ix2 i k) = x (ix3 0 i k) := by
  refine shapeCast_apply _ h (ix2 i k) (ix3 0 i k) ?_
  rewrite [Shape.rowMajor_val_two, Shape.rowMajor_val_three]
  show (0 * A + i.val) * B + k.val = i.val * B + k.val
  rw [Nat.zero_mul, Nat.zero_add]

/-- A matrix as one chunk. -/
theorem chunk_at {A B : ℕ} {α : Type} (x : (⟨2, ![A, B]⟩ : Shape).Idx → α) (h : (⟨2, ![A, B]⟩ : Shape).ShapeCasts ⟨3, ![1, A, B]⟩)
    (i : Fin A) (k : Fin B) : shapeCast ⟨3, ![1, A, B]⟩ x h (ix3 0 i k) = x (ix2 i k) := by
  refine shapeCast_apply _ h (ix3 0 i k) (ix2 i k) ?_
  rewrite [Shape.rowMajor_val_two, Shape.rowMajor_val_three]
  show i.val * B + k.val = (0 * A + i.val) * B + k.val
  rw [Nat.zero_mul, Nat.zero_add]

/-- Chunk `q` of an array of four chunks, loaded. -/
theorem slab_at {A B : ℕ} {e : EltTy} (X : (⟨3, ![4, A, B]⟩ : Shape).Idx → Elt Ideal e) (q : ℕ) (hq : q < 4)
    (h : ∀ a, (![q, 0, 0] : Fin 3 → ℕ) a + (![1, A, B] : Fin 3 → ℕ) a ≤ (![4, A, B] : Fin 3 → ℕ) a) (i : Fin A) (k : Fin B) :
    View.ld X (Rect.unit (s := ⟨3, ![4, A, B]⟩) ![q, 0, 0] ![1, A, B] h) (ix3 0 i k) = X (ix3 ⟨q, hq⟩ i k) := by
  refine congrArg X (funext fun a => Fin.ext ?_)
  match a with
  | ⟨0, _⟩ => show q + 1 * 0 = q; omega
  | ⟨1, _⟩ => show 0 + 1 * i.val = i.val; omega
  | ⟨2, _⟩ => show 0 + 1 * k.val = k.val; omega

theorem zero2 : (![0, 0] : Fin 2 → ℕ) = fun _ => 0 := funext fun a => by fin_cases a <;> rfl

/-- A load of a buffer reads its contents. -/
theorem load {sig : RefSig} {S : Shape} {e : EltTy} {b : Memref sig .tc .vmem S e} (h : b.IsWhole) (r : Rect S) (X : S.Idx → Elt Ideal e) :
    View.readAt (Elt Ideal) b.view r.toLoadRect (h.unread X) = View.ld X r :=
  funext fun x => congrFun (h.read_unread X) _

/-- A load of the whole of a buffer. -/
theorem load_whole {sig : RefSig} {S : Shape} {e : EltTy} {b : Memref sig .tc .vmem S e} (h : b.IsWhole) {off : Fin S.rank → ℕ} (hz : off = fun _ => 0)
    (inb : ∀ a, off a + S.size a ≤ S.size a) (X : S.Idx → Elt Ideal e) :
    View.readAt (Elt Ideal) b.view (Rect.unit off S.size inb).toLoadRect (h.unread X) = X :=
  (load h _ X).trans (View.ld_unit_zero hz inb X)

/-- An index lies in the block of 256 rows its row falls in. -/
theorem in_rows {N W : ℕ} (i : (⟨2, ![N, W]⟩ : Shape).Idx) (idx : Fin 2 → ℕ) (h : idx = ![(i 0).val / 256, 0]) :
    ∀ a : Fin 2, idx a * (![256, W] : Fin 2 → ℕ) a ≤ (i a).val ∧ (i a).val < idx a * (![256, W] : Fin 2 → ℕ) a + (![256, W] : Fin 2 → ℕ) a := by
  subst h
  have h1 : (i 1).val < W := (i 1).isLt
  intro a
  match a with
  | ⟨0, _⟩ => show (i 0).val / 256 * 256 ≤ (i 0).val ∧ (i 0).val < (i 0).val / 256 * 256 + 256; omega
  | ⟨1, _⟩ => show 0 * W ≤ (i 1).val ∧ (i 1).val < 0 * W + W; rw [Nat.zero_mul]; omega

end Cert.Proof.Chunks

end
-- ==== Proof.FfnDown.lean ====
module

public import proofs.«01_k».proof.Defs
public import proofs.«01_k».proof.Proof.Chunks
public import proofs.«01_k».proof.Proof.FfnDownRun
public import proofs.«01_k».proof.Proof.Gen.Reference17Ideal.Run
public import proofs.«01_k».proof.Proof.Gen.Reference17Ideal.Read

/-! The feed-forward down projection: what each grid step writes is the reference's residual sum, its
product taken chunk of the weights by chunk. -/

@[expose] public section

set_option maxRecDepth 16384

noncomputable section

namespace Cert.Proof.FfnDown

open Cert.Kernel17Ideal Cert.Kernel17Ideal.Gen Cert.Kernel17Ideal.Resident Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

abbrev a0 (c : Dev nD) : S2048x1024.Idx → EReal := m ((c : Thread nD τ).loc main_arg0)
abbrev a1 (c : Dev nD) : S2048x2816.Idx → EReal := m ((c : Thread nD τ).loc main_arg1)
abbrev a2 (c : Dev nD) : S2048x2816.Idx → EReal := m ((c : Thread nD τ).loc main_arg2)
abbrev a3 (c : Dev nD) : S2816x1024.Idx → EReal := m ((c : Thread nD τ).loc main_arg3)

/-- The gated activation, and the residual stream after the block. -/
def act (c : Dev nD) (n : Fin 2048) (f : Fin 2816) : EReal := a1 m c (ix2 n f) * Ideal.logistic (a1 m c (ix2 n f)) * a2 m c (ix2 n f)
def xo (c : Dev nD) (n : Fin 2048) (j : Fin 1024) : EReal := a0 m c (ix2 n j) + ∑ f : Fin 2816, act m c n f * a3 m c (ix2 f j)
def G (c : Dev nD) : Buf (Elt Ideal) ((c : Thread nD τ).loc main_v8) := fun (i : S2048x1024.Idx) => (xo m c (i 0) (i 1) : EReal)

/-! ## What the launch finds in its operands -/

theorem operand1 (c : Dev nD) (q : Fin 4) (i : Fin 2048) (k : Fin 704) (j : Fin 2816) (h : j.val = q.val * 704 + k.val) :
    (V m c main_v2 : S4x2048x704.Idx → EReal) (ix3 q i k) = a1 m c (ix2 i j) := by
  rw [show V m c main_v2 = transpose S4x2048x704 [1, 0, 2] (shapeCast S2048x4x704
    (truncf .bf16 (m ((c : Thread nD τ).loc main_arg1)) bitsLt_bf16_f32 : FVec Ideal S2048x2816 .bf16) shapeCasts_S2048x2816_S2048x4x704) transposes_S2048x4x704_S4x2048x704_1_0_2 by
    after_results <;> rfl]
  exact Chunks.columns_at (by norm_num) _ _ _ q i k j h

theorem operand2 (c : Dev nD) (q : Fin 4) (i : Fin 2048) (k : Fin 704) (j : Fin 2816) (h : j.val = q.val * 704 + k.val) :
    (V m c main_v5 : S4x2048x704.Idx → EReal) (ix3 q i k) = a2 m c (ix2 i j) := by
  rw [show V m c main_v5 = transpose S4x2048x704 [1, 0, 2] (shapeCast S2048x4x704
    (truncf .bf16 (m ((c : Thread nD τ).loc main_arg2)) bitsLt_bf16_f32 : FVec Ideal S2048x2816 .bf16) shapeCasts_S2048x2816_S2048x4x704) transposes_S2048x4x704_S4x2048x704_1_0_2 by
    after_results <;> rfl]
  exact Chunks.columns_at (by norm_num) _ _ _ q i k j h

theorem operand3 (c : Dev nD) (q : Fin 4) (i : Fin 704) (k : Fin 1024) (j : Fin 2816) (h : j.val = q.val * 704 + i.val) :
    (V m c main_v7 : S4x704x1024.Idx → EReal) (ix3 q i k) = a3 m c (ix2 j k) := by
  rw [show V m c main_v7 = shapeCast S4x704x1024
    (truncf .bf16 (m ((c : Thread nD τ).loc main_arg3)) bitsLt_bf16_f32 : FVec Ideal S2816x1024 .bf16) shapeCasts_S2816x1024_S4x704x1024 by
    rfl]
  exact Chunks.rows_at _ _ q i k j h

/-! ## The windows' blocks -/

theorem idx0 : ∀ t : Fin cfg0.N, win0_0.index t = ![t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, t.val, 0] := (by decide +kernel : ∀ t : Fin grid0.N, _)
theorem idx3 : ∀ t : Fin cfg0.N, win0_3.index t = ![t.val, 0] := (by decide +kernel : ∀ t : Fin grid0.N, _)

theorem block0 (c : Dev nD) (t : Fin cfg0.N) (r : Fin 512) (k : Fin 1024) (n : Fin 2048) (h : n.val = t.val * 512 + r.val) :
    (iblk m c 0 t : S512x1024.Idx → EReal) (ix2 r k) = a0 m c (ix2 n k) := by
  have e := idx0 t
  refine congrArg (V m c main_arg0) (funext fun a => Fin.ext ?_)
  match a with
  | ⟨0, _⟩ => refine Eq.trans (b := win0_0.index t (0 : Fin 2) * 512 + 1 * r.val) rfl ?_; rw [e]; refine Eq.trans ?_ h.symm; show t.val * 512 + 1 * r.val = t.val * 512 + r.val; omega
  | ⟨1, _⟩ => refine Eq.trans (b := win0_0.index t (1 : Fin 2) * 1024 + 1 * k.val) rfl ?_; rw [e]; show 0 * 1024 + 1 * k.val = k.val; omega

theorem block1 (c : Dev nD) (t : Fin cfg0.N) (q : Fin 4) (r : Fin 512) (k : Fin 704) (n : Fin 2048) (h : n.val = t.val * 512 + r.val) :
    (iblk m c 1 t : S4x512x704.Idx → EReal) (ix3 q r k) = (V m c main_v2 : S4x2048x704.Idx → EReal) (ix3 q n k) := by
  have e := idx1 t
  refine congrArg (V m c main_v2) (funext fun a => Fin.ext ?_)
  match a with
  | ⟨0, _⟩ => refine Eq.trans (b := win0_1.index t (0 : Fin 3) * 4 + 1 * q.val) rfl ?_; rw [e]; show 0 * 4 + 1 * q.val = q.val; omega
  | ⟨1, _⟩ => refine Eq.trans (b := win0_1.index t (1 : Fin 3) * 512 + 1 * r.val) rfl ?_; rw [e]; refine Eq.trans ?_ h.symm; show t.val * 512 + 1 * r.val = t.val * 512 + r.val; omega
  | ⟨2, _⟩ => refine Eq.trans (b := win0_1.index t (2 : Fin 3) * 704 + 1 * k.val) rfl ?_; rw [e]; show 0 * 704 + 1 * k.val = k.val; omega

theorem block2 (c : Dev nD) (t : Fin cfg0.N) (q : Fin 4) (r : Fin 512) (k : Fin 704) (n : Fin 2048) (h : n.val = t.val * 512 + r.val) :
    (iblk m c 2 t : S4x512x704.Idx → EReal) (ix3 q r k) = (V m c main_v5 : S4x2048x704.Idx → EReal) (ix3 q n k) := by
  have e := idx2 t
  refine congrArg (V m c main_v5) (funext fun a => Fin.ext ?_)
  match a with
  | ⟨0, _⟩ => refine Eq.trans (b := win0_2.index t (0 : Fin 3) * 4 + 1 * q.val) rfl ?_; rw [e]; show 0 * 4 + 1 * q.val = q.val; omega
  | ⟨1, _⟩ => refine Eq.trans (b := win0_2.index t (1 : Fin 3) * 512 + 1 * r.val) rfl ?_; rw [e]; refine Eq.trans ?_ h.symm; show t.val * 512 + 1 * r.val = t.val * 512 + r.val; omega
  | ⟨2, _⟩ => refine Eq.trans (b := win0_2.index t (2 : Fin 3) * 704 + 1 * k.val) rfl ?_; rw [e]; show 0 * 704 + 1 * k.val = k.val; omega

theorem emb3_row (t : Fin cfg0.N) (y : S512x1024.Idx) : (((cfg0.win 3).blk t).view.emb y 0).val = t.val * 512 + (y 0).val := by
  refine Eq.trans (b := win0_3.index t (0 : Fin 2) * 512 + 1 * (y 0).val) rfl ?_
  rw [idx3 t]; show t.val * 512 + 1 * (y 0).val = t.val * 512 + (y 0).val; omega
theorem emb3_col (t : Fin cfg0.N) (y : S512x1024.Idx) : (((cfg0.win 3).blk t).view.emb y 1).val = (y 1).val := by
  refine Eq.trans (b := win0_3.index t (1 : Fin 2) * 1024 + 1 * (y 1).val) rfl ?_
  rw [idx3 t]; show 0 * 1024 + 1 * (y 1).val = (y 1).val; omega

theorem covered3 (i : S2048x1024.Idx) : ∃ t : Fin cfg0.N, (cfg0.win 3).flush t = true ∧ i ∈ ((cfg0.win 3).blk t).view.set := by
  have h0 : (i 0).val < 2048 := (i 0).isLt
  have h1 : (i 1).val < 1024 := (i 1).isLt
  refine ⟨⟨(i 0).val / 512, lt_of_lt_of_eq (show (i 0).val / 512 < 4 by omega) (show 4 = cfg0.N from N_0.symm)⟩, flush0_3 _, ?_⟩
  have hm : ∀ t : Fin cfg0.N, i ∈ ((cfg0.win 3).blk t).view.set ↔ ∀ a : Fin 2, win0_3.index t a * S512x1024.size a ≤ (i a).val ∧ (i a).val < win0_3.index t a * S512x1024.size a + S512x1024.size a := fun t => by
    show i ∈ ((View.whole main_v8).slice (win0_3.rect t)).set ↔ _
    rw [View.set_slice_whole, Rect.mem_set_unit]
    exact Iff.rfl
  rw [hm, idx3]
  intro a
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega

/-! ## What a grid step computes -/

/-- One chunk's activation on a block's rows, and its part of the product. -/
def part (gs us : S4x512x704.Idx → EReal) (w : S4x704x1024.Idx → EReal) (q : Fin 4) (r : Fin 512) (j : Fin 1024) : EReal :=
  ∑ k : Fin 704, gs (ix3 q r k) * Ideal.logistic (gs (ix3 q r k)) * us (ix3 q r k) * w (ix3 q k j)

abbrev blockOf (gs : Vec Ideal S4x512x704 .bf16) (q : ℕ) (h : ∀ a, (![q, 0, 0] : Fin 3 → ℕ) a + S1x512x704.size a ≤ S4x512x704.size a) : Vec Ideal S1x512x704 .bf16 :=
  View.ld gs (Rect.unit (s := S4x512x704) ![q, 0, 0] S1x512x704.size h)
abbrev weightOf (w : Vec Ideal S4x704x1024 .bf16) (q : ℕ) (h : ∀ a, (![q, 0, 0] : Fin 3 → ℕ) a + S1x704x1024.size a ≤ S4x704x1024.size a) : Vec Ideal S1x704x1024 .bf16 :=
  View.ld w (Rect.unit (s := S4x704x1024) ![q, 0, 0] S1x704x1024.size h)

theorem pay2_apply (g u : Vec Ideal S1x512x704 .bf16) (r : Fin 512) (k : Fin 704) :
    (k0_pay2 (F := Ideal) g u (ix2 r k) : EReal) = g (ix3 0 r k) * Ideal.logistic (g (ix3 0 r k)) * u (ix3 0 r k) := by
  have eg := Chunks.matrix_at g shapeCasts_S1x512x704_S512x704 r k
  have eu := Chunks.matrix_at u shapeCasts_S1x512x704_S512x704 r k
  exact congrArg₂ (fun a b : EReal => a * Ideal.logistic a * b) eg eu

/-- A chunk's product, read at an index. -/
theorem product_at (gs us : Vec Ideal S4x512x704 .bf16) (w : Vec Ideal S4x704x1024 .bf16) (q : ℕ) (hq : q < 4) (h h' h'') (r : Fin 512) (j : Fin 1024) :
    (matmul dot_S512x704_S704x1024_S512x1024_1_0_0_1_n_n none (k0_pay2 (F := Ideal) (blockOf gs q h) (blockOf us q h'))
        (shapeCast S704x1024 (weightOf w q h'') shapeCasts_S1x704x1024_S704x1024 : FVec Ideal S704x1024 .bf16) (constant S512x1024 .f32 0x00000000#32) (ix2 r j) : EReal)
      = part gs us w ⟨q, hq⟩ r j := by
  refine (Shared.product_nn (M := 512) (K := 704) (N := 1024) (φ₁ := .bf16) (φ₂ := .bf16) _ _ r j).trans (Finset.sum_congr rfl fun k _ => ?_)
  refine congrArg₂ (fun a b : EReal => a * b) ((pay2_apply _ _ r k).trans ?_) ((Chunks.matrix_at _ _ k j).trans (Chunks.slab_at w q hq h'' k j))
  exact congrArg₂ (fun a b : EReal => a * Ideal.logistic a * b) (Chunks.slab_at gs q hq h r k) (Chunks.slab_at us q hq h' r k)

/-- What a step stores, read at an index. -/
theorem stored_at (x : Vec Ideal S512x1024 .f32) (gs us : Vec Ideal S4x512x704 .bf16) (w : Vec Ideal S4x704x1024 .bf16) (h0 h1 h2 h3 k0 k1 k2 k3) (r : Fin 512) (j : Fin 1024) :
    (k0_pay3 (F := Ideal) (k0_pay1 (F := Ideal) x (blockOf gs 0 h0) (blockOf us 0 h0) (weightOf w 0 k0)) (k0_pay2 (F := Ideal) (blockOf gs 1 h1) (blockOf us 1 h1))
        (weightOf w 1 k1) (blockOf gs 2 h2) (blockOf us 2 h2) (weightOf w 2 k2) (blockOf gs 3 h3) (blockOf us 3 h3) (weightOf w 3 k3) (ix2 r j) : EReal)
      = x (ix2 r j) + part gs us w 0 r j + part gs us w 1 r j + part gs us w 2 r j + part gs us w 3 r j := by
  unfold k0_pay3
  rw [shapeCast_self]
  exact congrArg₂ (fun a b : EReal => a + b) (congrArg₂ (fun a b : EReal => a + b) (congrArg₂ (fun a b : EReal => a + b) (congrArg (fun b : EReal => x (ix2 r j) + b)
    (product_at gs us w 0 (by omega) h0 h0 k0 r j)) (product_at gs us w 1 (by omega) h1 h1 k1 r j)) (product_at gs us w 2 (by omega) h2 h2 k2 r j)) (product_at gs us w 3 (by omega) h3 h3 k3 r j)

theorem left3_at (c : Dev nD) (t : Fin cfg0.N) (r : Fin 512) (j : Fin 1024) (n : Fin 2048) (h : n.val = t.val * 512 + r.val) :
    (left3 m c t (ix2 r j) : EReal) = xo m c n j := by
  unfold left3
  rw [View.read_writes_junk_eq_canon]
  dsimp only [runAt, tileRun]
  rw [View.canon_unit_zero (S := S512x1024) Chunks.zero2]
  unfold tileRun.sl.r tileRun.sl.r_1
  rw [Chunks.load_whole (S := S512x1024) (hs0 t) Chunks.zero2]
  simp only [Chunks.load]
  refine (stored_at (iblk m c 0 t) (iblk m c 1 t) (iblk m c 2 t) (V m c main_v7) _ _ _ _ _ _ _ _ r j).trans ?_
  have hp : ∀ q : Fin 4, part (iblk m c 1 t) (iblk m c 2 t) (V m c main_v7) q r j
      = ∑ k : Fin 704, act m c n (⟨q.val * 704 + k.val, by omega⟩ : Fin 2816) * a3 m c (ix2 (⟨q.val * 704 + k.val, by omega⟩ : Fin 2816) j) := fun q =>
    Finset.sum_congr rfl fun k _ => congrArg₂ (fun a b : EReal => a * b)
      (congrArg₂ (fun a b : EReal => a * Ideal.logistic a * b) ((block1 m c t q r k n h).trans (operand1 m c q n k _ rfl)) ((block2 m c t q r k n h).trans (operand2 m c q n k _ rfl)))
      (operand3 m c q k j _ rfl)
  rw [hp 0, hp 1, hp 2, hp 3, block0 m c t r j n h]
  unfold xo
  rw [Shared.sum_runs 704 (fun f : Fin 2816 => act m c n f * a3 m c (ix2 f j))]
  simp only [← add_assoc]
  refine congrArg₂ (fun a b : EReal => a + b) (congrArg₂ (fun a b : EReal => a + b) (congrArg₂ (fun a b : EReal => a + b) (congrArg (fun b : EReal => a0 m c (ix2 n j) + b) ?_) ?_) ?_) ?_ <;>
    refine Finset.sum_congr rfl fun k _ => congrArg (fun f : Fin 2816 => act m c n f * a3 m c (ix2 f j)) (Fin.ext ?_)
  · show 0 * 704 + k.val = k.val; omega
  · show 1 * 704 + k.val = 704 + k.val; omega
  · show 2 * 704 + k.val = 704 + 704 + k.val; omega
  · show 3 * 704 + k.val = 704 + 704 + 704 + k.val; omega

theorem flushed3_eq (c : Dev nD) (t : Fin cfg0.N) : (dats m 0 c).flushed 3 t = ((cfg0.win 3).blk t).view.read (Elt Ideal) (G m c) := by
  unfold Dat.flushed
  rw [after3]
  funext (y : S512x1024.Idx)
  have hc : (((cfg0.win 3).blk t).view.emb y 1 : Fin 1024) = y 1 := Fin.ext (emb3_col t y)
  show (left3 m c t y : EReal) = xo m c (((cfg0.win 3).blk t).view.emb y 0) (((cfg0.win 3).blk t).view.emb y 1)
  rw [hc]
  exact Eq.trans (congrArg _ (show y = ix2 (y 0) (y 1) from eq_ix2 y)) (left3_at m c t (y 0) (y 1) _ (emb3_row t y))

theorem final3 (c : Dev nD) : (dats m 0 c).arrAt 3 cfg0.N = G m c :=
  (dats m 0 c).arrAt_eq_of_cover 3 _ (fun t _ => flushed3_eq m c t) covered3

/-! ## The reference -/

open Cert.Reference17Ideal.Read in
theorem ref_act (c : Dev nD) (n : Fin 2048) (k : Fin 2816) : (val_main_v1 (F := Ideal) (a1 m c) (a2 m c) (ix2 n k) : EReal) = act m c n k := by
  rw [val_main_v1_apply, val_main_v0_apply, val_main_call0_v5_apply, val_main_call0_v4_apply, val_main_call0_cst_0_apply, val_main_call0_v3_apply, val_main_call0_v2_apply,
    val_main_call0_cst_apply, val_main_call0_v1_apply, val_main_call0_v0_apply]
  exact congrArg₂ (fun u v : EReal => a1 m c (ix2 n k) * Ideal.div u (v + Ideal.exp (-a1 m c (ix2 n k))) * a2 m c (ix2 n k)) Shared.ofBits_one Shared.ofBits_one

open Cert.Reference17Ideal.Read in
theorem ref (c : Dev nD) : val_main_v3 (F := Ideal) (a0 m c) (a1 m c) (a2 m c) (a3 m c) = G m c := by
  funext (i : S2048x1024.Idx)
  refine (val_main_v3_apply _ _ _ _ _).trans ?_
  refine congrArg₂ (fun a b : EReal => a + b) (congrArg (a0 m c) (show i = ix2 (i 0) (i 1) from eq_ix2 i)) ((val_main_v2_apply _ _ _ _).trans (Finset.sum_congr rfl fun k _ => ?_))
  refine congrArg₂ (fun a b : EReal => a * b) (Eq.trans (congrArg _ (funext fun a => ?_)) (ref_act m c (i 0) k)) (congrArg (a3 m c) (funext fun a => ?_)) <;>
    (match a with
      | ⟨0, _⟩ => rfl
      | ⟨1, _⟩ => rfl)

open Cert.Reference17Ideal.Read in
theorem algebraic : Cert.algebraic_Kernel17Ideal_Reference17Ideal := by
  intro m g m' g' _ hagree
  refine ⟨G m, ?_, ?_⟩
  · refine (θ_run defs _ _).mono (fun r hh c => ?_) (run_main (F := Ideal) m g)
    have h := hh.1 c
    exact ⟨(h.1 3).trans (final3 m c), (h.1 0).trans (((dats m 0 c).arrAt_in 0 rfl _).trans ((A_eq m c 0).trans (V_main_arg0 m c))),
      (h.2 main_arg1 (Pipeline.mem_restRefs_of main_arg1 (by decide) (by decide))).trans (V_main_arg1 m c),
      (h.2 main_arg2 (Pipeline.mem_restRefs_of main_arg2 (by decide) (by decide))).trans (V_main_arg2 m c),
      (h.2 main_arg3 (Pipeline.mem_restRefs_of main_arg3 (by decide) (by decide))).trans (V_main_arg3 m c)⟩
  · refine (θ_run Cert.Reference17Ideal.defs _ _).mono (fun r h c => ?_) (Cert.Reference17Ideal.Value.run (F := Ideal) m' g')
    obtain ⟨e0, e1, e2, e3⟩ := hagree c
    refine ⟨((h c).1.trans (val_main_v3_eq _ _ _ _)).trans ?_, (h c).2⟩
    rw [e0, e1, e2, e3]; exact ref m c

end Cert.Proof.FfnDown

end
-- ==== Proof.FfnUpRun.lean ====
module

public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Skeleton
public import proofs.«01_k».proof.Proof.Resident
public import proofs.«01_k».proof.Defs
public import Idealize.ShloMosaic.Lib.Claim
public import Idealize.ShloMosaic.Lib.Pipeline.FrameBody
public import Idealize.ShloMosaic.Lib.Ring
public import Idealize.ShloMosaic.Lib.WordCmp
public import Idealize.ShloMosaic.Adequacy

/-!
The frame of the feed-forward up projections: the weights, left in device memory, are copied into scratch at the first grid step
and stay there; every later step finds them as the first left them.
-/

@[expose] public section

set_option maxRecDepth 16384

noncomputable section

namespace Cert.Kernel16Ideal.Resident

open Cert.Kernel16Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The test the body makes for the first grid step. -/
abbrev AtFirst (i : grid0.Coords) : Prop := (Scalar.cmpi .ne (Scalar.extui (Scalar.cmpi .eq (BitVec.ofNat 32 (i 0).val) 0#32)) 0#32) = 1#1

theorem atFirst_iff (t : Fin cfg0.N) : AtFirst (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    have e1 : t.val / 1 % 8 = t.val := by omega
    simp only [AtFirst, e0, e1]
    word_cmp
   : ∀ t : Fin grid0.N, AtFirst (grid0.coords t) ↔ t.val = 0) t

/-- What buffer `M` can hold on device `c`, and the buffer held whole at `f`. -/
abbrev Held (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Held (F := F) c M) : sProp 𝕄 :=
  M.view.loc (c : Thread nD τ) ↦{fullShare} f

theorem held_congr {c : Dev nD} {sp : Space} {S : Shape} {e : EltTy} {M : Memref sig .tc sp S e} {f f' : Held (F := F) c M} (h : f = f') :
    held (F := F) c M f ⊢ held (F := F) c M f' := by
  rw [h]

abbrev scM0 : Memref sig .tc .vmem S4x704x1024 .bf16 := Memref.whole cc0_scratch0
abbrev hbM0 : Memref sig .tc .hbm S4x704x1024 .bf16 := Memref.whole main_v3
abbrev scM1 : Memref sig .tc .vmem S4x704x1024 .bf16 := Memref.whole cc0_scratch1
abbrev hbM1 : Memref sig .tc .hbm S4x704x1024 .bf16 := Memref.whole main_v6

/-- Chunk `k` of a buffer of four. -/
abbrev chunk {sp : Space} (M : Memref sig .tc sp S4x704x1024 .bf16) (k : ℕ) (h : ∀ a, (![k, 0, 0] : Fin 3 → ℕ) a + S1x704x1024.size a ≤ S4x704x1024.size a) : Memref sig .tc sp S704x1024 .bf16 :=
  (M.slice (Rect.unit ![k, 0, 0] S1x704x1024.size h) (fun _ => rfl)).squeeze S704x1024 squeezes_S1x704x1024_S704x1024

/-- The four chunks copied in, in order, are the whole array. -/
theorem filled0 (c : Dev nD) (f : Held (F := F) c scM0) (g : Held (F := F) c hbM0) :
    ((chunk scM0 3 inb_S4x704x1024_S1x704x1024_3_0_0).view.write (Elt F) ((chunk scM0 2 inb_S4x704x1024_S1x704x1024_2_0_0).view.write (Elt F) ((chunk scM0 1 inb_S4x704x1024_S1x704x1024_1_0_0).view.write (Elt F) ((chunk scM0 0 inb_S4x704x1024_S1x704x1024_0_0_0).view.write (Elt F) f
      ((chunk scM0 0 inb_S4x704x1024_S1x704x1024_0_0_0).view.read (Elt F) g) Finset.univ)
      ((chunk scM0 1 inb_S4x704x1024_S1x704x1024_1_0_0).view.read (Elt F) g) Finset.univ)
      ((chunk scM0 2 inb_S4x704x1024_S1x704x1024_2_0_0).view.read (Elt F) g) Finset.univ)
      ((chunk scM0 3 inb_S4x704x1024_S1x704x1024_3_0_0).view.read (Elt F) g) Finset.univ) = g := by
  have mem : ∀ (k : ℕ) (h : ∀ a, (![k, 0, 0] : Fin 3 → ℕ) a + S1x704x1024.size a ≤ S4x704x1024.size a) (y : S4x704x1024.Idx), (y 0).val = k →
      y ∈ (chunk scM0 k h).view.setOn Finset.univ := by
    intro k h y e
    rw [View.setOn_univ]
    refine (Finset.ext_iff.mp ((View.set_reshape _ _).trans (View.set_slice_whole _ _)) y).mpr ?_
    rw [Rect.mem_set_unit]
    intro a
    fin_cases a
    · exact ⟨e.ge, lt_of_eq_of_lt e (Nat.lt_succ_self k)⟩
    · exact ⟨Nat.zero_le _, lt_of_lt_of_eq (y 1).isLt (by rfl)⟩
    · exact ⟨Nat.zero_le _, lt_of_lt_of_eq (y 2).isLt (by rfl)⟩
  simp only [View.write_read_eq_piecewise]
  exact piecewise_four _ _ _ _ f g fun y => by
    have hy : (y 0).val < 4 := (y 0).isLt
    rcases (by omega : (y 0).val = 0 ∨ (y 0).val = 1 ∨ (y 0).val = 2 ∨ (y 0).val = 3) with e | e | e | e
    · exact .inl (mem 0 _ y e)
    · exact .inr (.inl (mem 1 _ y e))
    · exact .inr (.inr (.inl (mem 2 _ y e)))
    · exact .inr (.inr (.inr (mem 3 _ y e)))

/-- The four chunks copied in, in order, are the whole array. -/
theorem filled1 (c : Dev nD) (f : Held (F := F) c scM1) (g : Held (F := F) c hbM1) :
    ((chunk scM1 3 inb_S4x704x1024_S1x704x1024_3_0_0).view.write (Elt F) ((chunk scM1 2 inb_S4x704x1024_S1x704x1024_2_0_0).view.write (Elt F) ((chunk scM1 1 inb_S4x704x1024_S1x704x1024_1_0_0).view.write (Elt F) ((chunk scM1 0 inb_S4x704x1024_S1x704x1024_0_0_0).view.write (Elt F) f
      ((chunk scM1 0 inb_S4x704x1024_S1x704x1024_0_0_0).view.read (Elt F) g) Finset.univ)
      ((chunk scM1 1 inb_S4x704x1024_S1x704x1024_1_0_0).view.read (Elt F) g) Finset.univ)
      ((chunk scM1 2 inb_S4x704x1024_S1x704x1024_2_0_0).view.read (Elt F) g) Finset.univ)
      ((chunk scM1 3 inb_S4x704x1024_S1x704x1024_3_0_0).view.read (Elt F) g) Finset.univ) = g := by
  have mem : ∀ (k : ℕ) (h : ∀ a, (![k, 0, 0] : Fin 3 → ℕ) a + S1x704x1024.size a ≤ S4x704x1024.size a) (y : S4x704x1024.Idx), (y 0).val = k →
      y ∈ (chunk scM1 k h).view.setOn Finset.univ := by
    intro k h y e
    rw [View.setOn_univ]
    refine (Finset.ext_iff.mp ((View.set_reshape _ _).trans (View.set_slice_whole _ _)) y).mpr ?_
    rw [Rect.mem_set_unit]
    intro a
    fin_cases a
    · exact ⟨e.ge, lt_of_eq_of_lt e (Nat.lt_succ_self k)⟩
    · exact ⟨Nat.zero_le _, lt_of_lt_of_eq (y 1).isLt (by rfl)⟩
    · exact ⟨Nat.zero_le _, lt_of_lt_of_eq (y 2).isLt (by rfl)⟩
  simp only [View.write_read_eq_piecewise]
  exact piecewise_four _ _ _ _ f g fun y => by
    have hy : (y 0).val < 4 := (y 0).isLt
    rcases (by omega : (y 0).val = 0 ∨ (y 0).val = 1 ∨ (y 0).val = 2 ∨ (y 0).val = 3) with e | e | e | e
    · exact .inl (mem 0 _ y e)
    · exact .inr (.inl (mem 1 _ y e))
    · exact .inr (.inr (.inl (mem 2 _ y e)))
    · exact .inr (.inr (.inr (mem 3 _ y e)))

set_option sl_exec.dmaWindow true in
set_option maxHeartbeats 4000000 in
/-- One run of the body at any grid step: it leaves the weights in scratch whether it finds them there or copies them in. -/
def tileRun (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S4x256x704 .bf16) (harg6 : arg6.IsWhole) (arg7 : Memref sig .tc .vmem S4x256x704 .bf16) (harg7 : arg7.IsWhole)
    (x0 : Vec F S256x1024 .f32) (x1 : Vec F S1x1024 .f32) (g0 : Held (F := F) c hbM0) (g1 : Held (F := F) c hbM1) :
    Σ' (L2 : List (View.Piece (Elt F) S256x1024 .bf16)), Σ' (L3 : List (View.Piece (Elt F) S4x256x704 .bf16)), { L4 : List (View.Piece (Elt F) S4x256x704 .bf16) // ∀ (W : Waits sig Unit) (K : PUnit → sProp 𝕄) (pre : sProp 𝕄)
      (_ : (¬ AtFirst i ∧ pre = iprop((held (F := F) c scM0 g0 ∗ held (F := F) c scM1 g1))) ∨ (AtFirst i ∧ pre = iprop(((∃ f, held (F := F) c scM0 f) ∗ (∃ f, held (F := F) c scM1 f))))),
      iprop(owns (c : Thread nD τ) arg1 fullShare x0 ∗ owns (c : Thread nD τ) arg2 fullShare x1 ∗ (∃ d, owns (c : Thread nD τ) arg5 fullShare d) ∗ (∃ d, owns (c : Thread nD τ) arg6 fullShare d) ∗ (∃ d, owns (c : Thread nD τ) arg7 fullShare d) ∗ pre ∗ (semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ (held (F := F) c hbM0 g0 ∗ held (F := F) c hbM1 g1) ∗ owes (c : Thread nD τ) 0 W
        ∗ ((owns (c : Thread nD τ) arg1 fullShare x0 ∗ owns (c : Thread nD τ) arg2 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (held (F := F) c scM0 g0 ∗ held (F := F) c scM1 g1) ∗ (semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ (held (F := F) c hbM0 g0 ∗ held (F := F) c hbM1 g1) ∗ (∃ W', owes (c : Thread nD τ) 0 W')) -∗ K ⟨⟩))
      ⊢ wp frame (wpE (defs₀ (F := F)) Variants.none c none) Set.univ (cc0_ffn_up_fwd i arg1 harg1 arg2 harg2 (Memref.whole main_v3) (Memref.isWhole_whole _) (Memref.whole main_v6) (Memref.isWhole_whole _) arg5 harg5 arg6 harg6 arg7 harg7 (Memref.whole cc0_scratch0) (Memref.isWhole_whole _) (Memref.whole cc0_scratch1) (Memref.isWhole_whole _) cc0_scratch2) K } := by
  refine ⟨?_, ?_, ?_, fun W K pre hpre => ?run⟩
  case run =>
    simp only [cc0_ffn_up_fwd_eq_skeleton]; unfold cc0_ffn_up_fwd_skel
    simp only [k0_part1_eq_skeleton, k0_part2_eq_skeleton, k0_part3_eq_skeleton, k0_part4_eq_skeleton, k0_part5_eq_skeleton]
    unfold owns
    rcases hpre with ⟨hc, rfl⟩ | ⟨hc, rfl⟩
    · iintro ⟨⟨%f0, %hf0, H0⟩, ⟨%f1, %hf1, H1⟩, ⟨%d2, %f2, -, H2⟩, ⟨%d3, %f3, -, H3⟩, ⟨%d4, %f4, -, H4⟩, ⟨HS0, HS1⟩, ⟨Hq0, Hq1, Hq2, Hq3, Hq4, Hq5, Hq6, Hq7⟩, ⟨Hh0, Hh1⟩, HW, Hk⟩
      obtain rfl := harg1.eq_unread hf0
      obtain rfl := harg2.eq_unread hf1
      sl_exec (disch := first | sl_exact hc)
      sl_step
      iapply Hk
      isplitl [H0]
      · iexists _; isplitr; · ipureintro; exact harg1.read_unread _
        iexact H0
      isplitl [H1]
      · iexists _; isplitr; · ipureintro; exact harg2.read_unread _
        iexact H1
      isplitl [H2]; · iexists _; iexact H2
      isplitl [H3]; · iexists _; iexact H3
      isplitl [H4]; · iexists _; iexact H4
      isplitl [HS0 HS1]
      · isplitl [HS0]; · iexact HS0
        iexact HS1
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      isplitl [Hh0 Hh1]
      · isplitl [Hh0]; · iexact Hh0
        iexact Hh1
      iexists _; iexact HW
    · iintro ⟨H0, H1, H2, H3, H4, ⟨⟨%fs0, HS0⟩, ⟨%fs1, HS1⟩⟩, ⟨Hq0, Hq1, Hq2, Hq3, Hq4, Hq5, Hq6, Hq7⟩, ⟨Hh0, Hh1⟩, HW, Hk⟩
      sl_exec (disch := first | sl_exact hc)
      ihave HT0 := (held_congr (M := scM0) (f' := g0) ?fill0) $$ HS0
      case fill0 => exact filled0 c fs0 g0
      ihave HT1 := (held_congr (M := scM1) (f' := g1) ?fill1) $$ HS1
      case fill1 => exact filled1 c fs1 g1
      icases H0 with ⟨%f0, %hf0, H0⟩
      icases H1 with ⟨%f1, %hf1, H1⟩
      icases H2 with ⟨%d2, %f2, -, H2⟩
      icases H3 with ⟨%d3, %f3, -, H3⟩
      icases H4 with ⟨%d4, %f4, -, H4⟩
      obtain rfl := harg1.eq_unread hf0
      obtain rfl := harg2.eq_unread hf1
      sl_exec
      sl_step
      iapply Hk
      isplitl [H0]
      · iexists _; isplitr; · ipureintro; exact harg1.read_unread _
        iexact H0
      isplitl [H1]
      · iexists _; isplitr; · ipureintro; exact harg2.read_unread _
        iexact H1
      isplitl [H2]; · iexists _; iexact H2
      isplitl [H3]; · iexists _; iexact H3
      isplitl [H4]; · iexists _; iexact H4
      isplitl [HT0 HT1]
      · isplitl [HT0]; · iexact HT0
        iexact HT1
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      isplitl [Hh0 Hh1]
      · isplitl [Hh0]; · iexact Hh0
        iexact Hh1
      iexists _; iexact HW

/-- The stores into output 0 cover its block, so what the block held before is gone. -/
theorem cover2 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S4x256x704 .bf16) (harg6 : arg6.IsWhole) (arg7 : Memref sig .tc .vmem S4x256x704 .bf16) (harg7 : arg7.IsWhole)
    (x0 : Vec F S256x1024 .f32) (x1 : Vec F S1x1024 .f32) (g0 : Held (F := F) c hbM0) (g1 : Held (F := F) c hbM1) (y : S256x1024.Idx) : ∃ pc ∈ (tileRun c i arg1 harg1 arg2 harg2 arg5 harg5 arg6 harg6 arg7 harg7 x0 x1 g0 g1).1, y ∈ pc.1.set :=
  View.cover_of_tiledL (tileRun c i arg1 harg1 arg2 harg2 arg5 harg5 arg6 harg6 arg7 harg7 x0 x1 g0 g1).1 S256x1024.size (by sl_kernel_rfl) y
abbrev VO2 : View sig .tc .vmem S256x1024 .bf16 := (Memref.whole cc0_stg2_0 : Memref sig .tc .vmem S256x1024 .bf16).view

/-- The stores into output 1 cover its block, so what the block held before is gone. -/
theorem cover3 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S4x256x704 .bf16) (harg6 : arg6.IsWhole) (arg7 : Memref sig .tc .vmem S4x256x704 .bf16) (harg7 : arg7.IsWhole)
    (x0 : Vec F S256x1024 .f32) (x1 : Vec F S1x1024 .f32) (g0 : Held (F := F) c hbM0) (g1 : Held (F := F) c hbM1) (y : S4x256x704.Idx) : ∃ pc ∈ (tileRun c i arg1 harg1 arg2 harg2 arg5 harg5 arg6 harg6 arg7 harg7 x0 x1 g0 g1).2.1, y ∈ pc.1.set :=
  View.cover_of_tiledL (tileRun c i arg1 harg1 arg2 harg2 arg5 harg5 arg6 harg6 arg7 harg7 x0 x1 g0 g1).2.1 S1x256x704.size (by sl_kernel_rfl) y
abbrev VO3 : View sig .tc .vmem S4x256x704 .bf16 := (Memref.whole cc0_stg3_0 : Memref sig .tc .vmem S4x256x704 .bf16).view

/-- The stores into output 2 cover its block, so what the block held before is gone. -/
theorem cover4 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S4x256x704 .bf16) (harg6 : arg6.IsWhole) (arg7 : Memref sig .tc .vmem S4x256x704 .bf16) (harg7 : arg7.IsWhole)
    (x0 : Vec F S256x1024 .f32) (x1 : Vec F S1x1024 .f32) (g0 : Held (F := F) c hbM0) (g1 : Held (F := F) c hbM1) (y : S4x256x704.Idx) : ∃ pc ∈ (tileRun c i arg1 harg1 arg2 harg2 arg5 harg5 arg6 harg6 arg7 harg7 x0 x1 g0 g1).2.2.1, y ∈ pc.1.set :=
  View.cover_of_tiledL (tileRun c i arg1 harg1 arg2 harg2 arg5 harg5 arg6 harg6 arg7 harg7 x0 x1 g0 g1).2.2.1 S1x256x704.size (by sl_kernel_rfl) y
abbrev VO4 : View sig .tc .vmem S4x256x704 .bf16 := (Memref.whole cc0_stg4_0 : Memref sig .tc .vmem S4x256x704 .bf16).view

abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x256x704 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x256x704 .bf16 := win0_4.stage (cfg0.slots t 4)
abbrev hs4 (t : Fin cfg0.N) : (ms4 t).IsWhole := hstage0_4 ((cfg0.slots t 4).cast nbuf0_4)

/-- The body's run at grid step `t`, on that step's blocks. -/
abbrev runAt (c : Dev nD) (t : Fin cfg0.N) := tileRun c (grid0.coords t) (ms0 t) (hs0 t) (ms1 t) (hs1 t) (ms2 t) (hs2 t) (ms3 t) (hs3 t) (ms4 t) (hs4 t) (iblk m c 0 t) (iblk m c 1 t) (V m c main_v3) (V m c main_v6)

/-- What grid step `t` leaves in output 0's block. -/
def left2 (c : Dev nD) (t : Fin cfg0.N) : Vec F S256x1024 .bf16 := VO2.read (Elt F) (VO2.writes (Elt F) VO2.junk (runAt m c t).1)

/-- What grid step `t` leaves in output 1's block. -/
def left3 (c : Dev nD) (t : Fin cfg0.N) : Vec F S4x256x704 .bf16 := VO3.read (Elt F) (VO3.writes (Elt F) VO3.junk (runAt m c t).2.1)

/-- What grid step `t` leaves in output 2's block. -/
def left4 (c : Dev nD) (t : Fin cfg0.N) : Vec F S4x256x704 .bf16 := VO4.read (Elt F) (VO4.writes (Elt F) VO4.junk (runAt m c t).2.2.1)

/-- The semaphores of the copies. -/
abbrev osem : Fin 8 → SemLoc sig := fun j => (![SemLoc.dma 9, SemLoc.dma 10, SemLoc.dma 11, SemLoc.dma 12, SemLoc.dma 13, SemLoc.dma 14, SemLoc.dma 15, SemLoc.dma 16] : Fin 8 → SemLoc sig) j
theorem osem_facts : Pipeline.OwnSemFacts spec0 osem := by decide
theorem osem_eq (c : Dev nD) :
    (Pipeline.ownSems0 (Ix := Unit) (Name := ℕ) (U := Pipeline.UD sig nD τ) (Lvl := ℕ) (Val := Elt F) (τ := τ) osem c : sProp 𝕄) = iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) := by
  rw [Pipeline.ownSems0_eq_of_list c osem [0, 1, 2, 3, 4, 5, 6, 7] (by decide) (by decide)]; rfl

/-- The weights as the call finds them. -/
def weights : Finset (Ref sig .tc) := {main_v3, main_v6}
theorem weights_sub : weights ⊆ Pipeline.restRefs sig spec0 := by decide
theorem weights_eq (c : Dev nD) :
    (bigSep weights (fun b => ((c : Thread nD τ).loc b) ↦{fullShare} V m c b) : sProp 𝕄) = iprop(held (F := F) c hbM0 (V m c main_v3) ∗ held (F := F) c hbM1 (V m c main_v6)) := by
  rw [BI.bigSep_eq_bigSepL_of_eq [main_v3, main_v6] (by decide) (by decide)]; rfl

/-- What is held before the first step, and between steps. -/
theorem start_eq (c : Dev nD) :
    (Pipeline.ΦD osem spec0 weights (V m) c : sProp 𝕄) = iprop(((∃ f, held (F := F) c scM0 f) ∗ (∃ f, held (F := F) c scM1 f)) ∗ (∃ r, prngReg c r) ∗ (semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ (held (F := F) c hbM0 (V m c main_v3) ∗ held (F := F) c hbM1 (V m c main_v6))) := by
  rw [Pipeline.ΦD_eq, scopedRest0_eq, osem_eq, weights_eq]; try rfl
def between (c : Dev nD) (n : ℕ) : sProp 𝕄 :=
  if n = 0 then Pipeline.ΦD osem spec0 weights (V m) c
  else iprop((held (F := F) c scM0 (V m c main_v3) ∗ held (F := F) c scM1 (V m c main_v6)) ∗ (∃ r, prngReg c r) ∗ (semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ (held (F := F) c hbM0 (V m c main_v3) ∗ held (F := F) c hbM1 (V m c main_v6)))

/-- The call's proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => left2 m c t
    | ⟨3, _⟩ => left3 m c t
    | ⟨4, _⟩ => left4 m c t
  Φ n := between m c n.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = left2 m c t := by dsimp only [dats]
theorem after3 (c : Dev nD) (t : Fin cfg0.N) : (dats m 0 c).after 3 t = left3 m c t := by dsimp only [dats]
theorem after4 (c : Dev nD) (t : Fin cfg0.N) : (dats m 0 c).after 4 t = left4 m c t := by dsimp only [dats]
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

set_option maxHeartbeats 1600000 in
/-- The body at grid step `t`, from what the step is given to what it leaves. -/
theorem sound_body (c : Dev nD) (t : Fin cfg0.N) :
    iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)))
    ⊢ wp frame (wpE (defs₀ (F := F)) Variants.none c none) Set.univ (bodyAt0 t)
      (fun _ => iprop((dats m 0 c).Φ t.succ ∗ (dats m 0 c).owesAt () t.succ ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t))) := by
  unfold bodyAt0
  simp only [before0, before1]
  rw [after0, after1, after2, after3, after4]
  rw [show (dats m 0 c).Φ t.castSucc = between m c t.val from rfl, show (dats m 0 c).Φ t.succ = between m c (t.val + 1) from rfl]
  rw [show between m c (t.val + 1) = iprop((held (F := F) c scM0 (V m c main_v3) ∗ held (F := F) c scM1 (V m c main_v6)) ∗ (∃ r, prngReg c r) ∗ (semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ (held (F := F) c hbM0 (V m c main_v3) ∗ held (F := F) c hbM1 (V m c main_v6))) from if_neg (Nat.succ_ne_zero _)]
  unfold left2 left3 left4 Dat.owesAt Pipeline.owesWithin
  rw [show (dats m 0 c).owed t.castSucc = 0 from rfl, show (dats m 0 c).owed t.succ = 0 from rfl]
  by_cases h0 : t.val = 0
  · rw [show between m c t.val = Pipeline.ΦD osem spec0 weights (V m) c from if_pos h0, start_eq]
    iintro ⟨⟨⟨HS0, HS1⟩, Hg, ⟨Hq0, Hq1, Hq2, Hq3, Hq4, Hq5, Hq6, Hq7⟩, ⟨Hh0, Hh1⟩⟩, ⟨%W, -, HW⟩, ⟨%d0, H0⟩, ⟨%d1, H1⟩, ⟨%d2, H2⟩, ⟨%d3, H3⟩, ⟨%d4, H4⟩⟩
    iapply ((runAt m c t).2.2.2 W _ _ (.inr ⟨(atFirst_iff t).mpr h0, rfl⟩))
    isplitl [H0]; · iexact H0
    isplitl [H1]; · iexact H1
    isplitl [H2]; · iexists _; iexact H2
    isplitl [H3]; · iexists _; iexact H3
    isplitl [H4]; · iexists _; iexact H4
    isplitl [HS0 HS1]
    · isplitl [HS0]; · iexact HS0
      iexact HS1
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh0 Hh1]
    · isplitl [Hh0]; · iexact Hh0
      iexact Hh1
    isplitl [HW]; · iexact HW
    iintro ⟨H0, H1, ⟨%e2, H2⟩, ⟨%e3, H3⟩, ⟨%e4, H4⟩, ⟨HS0, HS1⟩, ⟨Hq0, Hq1, Hq2, Hq3, Hq4, Hq5, Hq6, Hq7⟩, ⟨Hh0, Hh1⟩, ⟨%W', HW'⟩⟩
    isplitl [HS0 HS1 Hg Hq0 Hq1 Hq2 Hq3 Hq4 Hq5 Hq6 Hq7 Hh0 Hh1]
    · isplitl [HS0 HS1]
      · isplitl [HS0]; · iexact HS0
        iexact HS1
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]
    · unfold owns; iexists _; isplitr
      swap; · iexact H2
      ipureintro; exact View.read_writes_of_cover _ _ _ _ _ (cover2 c _ _ _ _ _ _ _ _ _ _ _ _ _ _ _ )
    isplitl [H3]
    · unfold owns; iexists _; isplitr
      swap; · iexact H3
      ipureintro; exact View.read_writes_of_cover _ _ _ _ _ (cover3 c _ _ _ _ _ _ _ _ _ _ _ _ _ _ _ )
    unfold owns; iexists _; isplitr
    swap; · iexact H4
    ipureintro; exact View.read_writes_of_cover _ _ _ _ _ (cover4 c _ _ _ _ _ _ _ _ _ _ _ _ _ _ _ )
  · rw [show between m c t.val = iprop((held (F := F) c scM0 (V m c main_v3) ∗ held (F := F) c scM1 (V m c main_v6)) ∗ (∃ r, prngReg c r) ∗ (semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ (held (F := F) c hbM0 (V m c main_v3) ∗ held (F := F) c hbM1 (V m c main_v6))) from if_neg h0]
    iintro ⟨⟨⟨HS0, HS1⟩, Hg, ⟨Hq0, Hq1, Hq2, Hq3, Hq4, Hq5, Hq6, Hq7⟩, ⟨Hh0, Hh1⟩⟩, ⟨%W, -, HW⟩, ⟨%d0, H0⟩, ⟨%d1, H1⟩, ⟨%d2, H2⟩, ⟨%d3, H3⟩, ⟨%d4, H4⟩⟩
    iapply ((runAt m c t).2.2.2 W _ _ (.inl ⟨fun h => h0 ((atFirst_iff t).mp h), rfl⟩))
    isplitl [H0]; · iexact H0
    isplitl [H1]; · iexact H1
    isplitl [H2]; · iexists _; iexact H2
    isplitl [H3]; · iexists _; iexact H3
    isplitl [H4]; · iexists _; iexact H4
    isplitl [HS0 HS1]
    · isplitl [HS0]; · iexact HS0
      iexact HS1
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh0 Hh1]
    · isplitl [Hh0]; · iexact Hh0
      iexact Hh1
    isplitl [HW]; · iexact HW
    iintro ⟨H0, H1, ⟨%e2, H2⟩, ⟨%e3, H3⟩, ⟨%e4, H4⟩, ⟨HS0, HS1⟩, ⟨Hq0, Hq1, Hq2, Hq3, Hq4, Hq5, Hq6, Hq7⟩, ⟨Hh0, Hh1⟩, ⟨%W', HW'⟩⟩
    isplitl [HS0 HS1 Hg Hq0 Hq1 Hq2 Hq3 Hq4 Hq5 Hq6 Hq7 Hh0 Hh1]
    · isplitl [HS0 HS1]
      · isplitl [HS0]; · iexact HS0
        iexact HS1
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]
    · unfold owns; iexists _; isplitr
      swap; · iexact H2
      ipureintro; exact View.read_writes_of_cover _ _ _ _ _ (cover2 c _ _ _ _ _ _ _ _ _ _ _ _ _ _ _ )
    isplitl [H3]
    · unfold owns; iexists _; isplitr
      swap; · iexact H3
      ipureintro; exact View.read_writes_of_cover _ _ _ _ _ (cover3 c _ _ _ _ _ _ _ _ _ _ _ _ _ _ _ )
    unfold owns; iexists _; isplitr
    swap; · iexact H4
    ipureintro; exact View.read_writes_of_cover _ _ _ _ _ (cover4 c _ _ _ _ _ _ _ _ _ _ _ _ _ _ _ )

theorem row_eq (t : Fin cfg0.N) : defs₀ (F := F) .tc cfg0.body (cfg0.bodyArgs t (cfg0.slots t)) = bodyAt0 t := by
  unfold defs₀; rw [Defs.onTc_tc]

/-- The body meets its obligation at every step. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

theorem enter (c : Dev nD) : Pipeline.ΦD osem spec0 weights (V m) c ⊢ (dats m 0 c).Φ 0 := by
  rw [show (dats m 0 c).Φ 0 = between m c 0 from rfl, show between m c 0 = Pipeline.ΦD osem spec0 weights (V m) c from if_pos rfl]

theorem leave (c : Dev nD) : (dats m 0 c).Φ (Fin.last cfg0.N) ⊢ Pipeline.ΦD osem spec0 weights (V m) c := by
  rw [show (dats m 0 c).Φ (Fin.last cfg0.N) = between m c cfg0.N from rfl, show between m c cfg0.N = iprop((held (F := F) c scM0 (V m c main_v3) ∗ held (F := F) c scM1 (V m c main_v6)) ∗ (∃ r, prngReg c r) ∗ (semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ (held (F := F) c hbM0 (V m c main_v3) ∗ held (F := F) c hbM1 (V m c main_v6))) from if_neg (by rw [show cfg0.N = 8 from N_0]; decide), start_eq]
  iintro ⟨⟨HS0, HS1⟩, Hg⟩
  isplitl [HS0 HS1]
  · isplitl [HS0]; · iexists _; iexact HS0
    iexists _; iexact HS1
  iexact Hg

theorem reach (𝒱 : Variants) : Pipeline.HMain (Ix := Unit) (Name := ℕ) (U := Pipeline.UD sig nD τ) (Lvl := ℕ) cfgs 0 defs₀ 𝒱 m (main (F := F)) (V m) :=
  Pipeline.hmain_prefix cfgs 0 defs₀ 𝒱 m main hostOps0 hostOps0_sub hostOps0_fresh main_chain

set_option backward.isDefEq.respectTransparency.types false in
set_option maxHeartbeats 800000 in
/-- The whole run: it ends, with the arrays as the proof data say and no signal left. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ Variants.none osem_facts weights weights_sub m ρ main
    (hbody := fun c => (body_obligation m c).loose) (hshare := fun c => (dats m 0 c).share_full fun _ => rfl)
    (howed := fun _ _ => rfl) (V := V m) (hmain := reach m Variants.none) (hA := A_eq m) (hin := enter m) (hout := leave m)

/-- The arguments end as they began and no signal is left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3))
      ∧ r.2.sem = fun _ => 0) :=
  (θ_run defs _ _).mono (fun _ hh => ⟨fun c => by
    have h := hh.1
    exact ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩, hh.2⟩) (run_main m ρ)

end Cert.Kernel16Ideal.Resident

end
-- ==== Proof.Norm.lean ====
module

public import proofs.«01_k».proof.Proof.Shared
public import Idealize.ShloMosaic.Lib.Pipeline.Value
public import Idealize.ShloMosaic.Lib.Pointwise.Reduce
public import Idealize.ShloMosaic.Lib.ValueIdx

/-! Row sums, spreads over rows and columns, and the root-mean-square normalisation, read at an index. -/

@[expose] public section

noncomputable section

namespace Cert.Proof.Norm

open Idealize.ShloMosaic

/-- The sums of a matrix's rows, held as a column. -/
theorem row_sum {M N : ℕ} (v : FVec Ideal ⟨2, ![M, N]⟩ .f32) (h : (⟨2, ![M, N]⟩ : Shape).Reduces [1] ⟨1, ![M]⟩) (h' : (⟨1, ![M]⟩ : Shape).ShapeCasts ⟨2, ![M, 1]⟩)
    (hf) (hn) (r : Fin M) (z : Fin 1) :
    (shapeCast ⟨2, ![M, 1]⟩ (multiReduction (F := Ideal) .add [1] ⟨1, ![M]⟩ v 0x00000000#32 h hf hn) h' (ValueIdx.ix2 r z) : EReal) = ∑ k : Fin N, (v (ValueIdx.ix2 r k) : EReal) := by
  refine (shapeCast_apply _ h' (ValueIdx.ix2 r z) (ValueIdx.ix1 r) ?_).trans ((Ideal.reduceAdd_r2_a1 h v (ValueIdx.ix1 r)).trans rfl)
  rewrite [Shape.rowMajor_val_two, Shape.rowMajor_val_one]
  show r.val = r.val * 1 + z.val
  omega

/-- A column spread over a matrix's columns. -/
theorem spread {M N : ℕ} {α : Type} (x : (⟨2, ![M, 1]⟩ : Shape).Idx → α) (h : (⟨2, ![M, 1]⟩ : Shape).Broadcasts ⟨2, ![M, N]⟩) (r : Fin M) (j : Fin N) :
    broadcastTo ⟨2, ![M, N]⟩ x h (ValueIdx.ix2 r j) = x (ValueIdx.ix2 r 0) := by
  refine broadcastTo_apply x h (ValueIdx.ix2 r j) (ValueIdx.ix2 r 0) fun a => ?_
  match a with
  | ⟨0, _⟩ =>
    show r.val = if M = 1 then 0 else r.val
    split_ifs with e
    · omega
    · rfl
  | ⟨1, _⟩ => rfl

/-- A row spread over a matrix's rows. -/
theorem spread_row {M N : ℕ} {α : Type} (x : (⟨2, ![1, N]⟩ : Shape).Idx → α) (h : (⟨2, ![1, N]⟩ : Shape).Broadcasts ⟨2, ![M, N]⟩) (r : Fin M) (j : Fin N) :
    broadcastTo ⟨2, ![M, N]⟩ x h (ValueIdx.ix2 r j) = x (ValueIdx.ix2 0 j) := by
  refine broadcastTo_apply x h (ValueIdx.ix2 r j) (ValueIdx.ix2 0 j) fun a => ?_
  match a with
  | ⟨0, _⟩ => rfl
  | ⟨1, _⟩ =>
    show j.val = if N = 1 then 0 else j.val
    split_ifs with e
    · omega
    · rfl

/-- The mean of a row of 1024. -/
def mean (f : Fin 1024 → EReal) : EReal := Ideal.div (∑ k, f k) (Ideal.ofBits .f32 0x44800000#32)
/-- The factor a row of 1024 is scaled by. -/
def scale (f : Fin 1024 → EReal) : EReal := Ideal.rsqrt (mean (fun k => f k * f k) + Ideal.ofBits .f32 0x358637BD#32)

/-- The scaling factors of a block's rows, as a launch computes them. -/
theorem scale_at (x : FVec Ideal ⟨2, ![256, 1024]⟩ .f32) (h : (⟨2, ![256, 1024]⟩ : Shape).Reduces [1] ⟨1, ![256]⟩) (h' : (⟨1, ![256]⟩ : Shape).ShapeCasts ⟨2, ![256, 1]⟩)
    (hf) (hn) (r : Fin 256) (z : Fin 1) :
    (rsqrt (addf (divf (shapeCast ⟨2, ![256, 1]⟩ (multiReduction (F := Ideal) .add [1] ⟨1, ![256]⟩ (mulf x x) 0x00000000#32 h hf hn) h')
      (broadcast ⟨2, ![256, 1]⟩ (Scalar.ofBits (F := Ideal) .f32 0x44800000#32))) (broadcast ⟨2, ![256, 1]⟩ (Scalar.ofBits (F := Ideal) .f32 0x358637BD#32))) (ValueIdx.ix2 r z) : EReal)
      = scale (fun k => x (ValueIdx.ix2 r k)) :=
  congrArg (fun s : EReal => Ideal.rsqrt (Ideal.div s (Ideal.ofBits .f32 0x44800000#32) + Ideal.ofBits .f32 0x358637BD#32)) (row_sum (mulf x x) h h' hf hn r z)

/-- A row of 1024 normalised and scaled by `g`. -/
def normed {M : ℕ} (x : (⟨2, ![M, 1024]⟩ : Shape).Idx → EReal) (g : Fin 1024 → EReal) (n : Fin M) (k : Fin 1024) : EReal :=
  x (ValueIdx.ix2 n k) * scale (fun j => x (ValueIdx.ix2 n j)) * g k

/-- A block's normalised rows, as a launch computes them. -/
theorem normed_at (x : FVec Ideal ⟨2, ![256, 1024]⟩ .f32) (g : FVec Ideal ⟨2, ![1, 1024]⟩ .f32) (h : (⟨2, ![256, 1024]⟩ : Shape).Reduces [1] ⟨1, ![256]⟩)
    (h' : (⟨1, ![256]⟩ : Shape).ShapeCasts ⟨2, ![256, 1]⟩) (hs : (⟨2, ![1, 1024]⟩ : Shape).ShapeCasts ⟨2, ![1, 1024]⟩)
    (hb : (⟨2, ![256, 1]⟩ : Shape).Broadcasts ⟨2, ![256, 1024]⟩) (hb' : (⟨2, ![1, 1024]⟩ : Shape).Broadcasts ⟨2, ![256, 1024]⟩) (hf) (hn) (r : Fin 256) (k : Fin 1024) :
    (mulf (mulf x (broadcastTo ⟨2, ![256, 1024]⟩ (rsqrt (addf (divf (shapeCast ⟨2, ![256, 1]⟩ (multiReduction (F := Ideal) .add [1] ⟨1, ![256]⟩ (mulf x x) 0x00000000#32 h hf hn) h')
      (broadcast ⟨2, ![256, 1]⟩ (Scalar.ofBits (F := Ideal) .f32 0x44800000#32))) (broadcast ⟨2, ![256, 1]⟩ (Scalar.ofBits (F := Ideal) .f32 0x358637BD#32)))) hb))
        (broadcastTo ⟨2, ![256, 1024]⟩ (shapeCast ⟨2, ![1, 1024]⟩ g hs) hb') (ValueIdx.ix2 r k) : EReal)
      = normed x (fun k => g (ValueIdx.ix2 0 k)) r k := by
  rw [shapeCast_self]
  exact congrArg₂ (fun a b : EReal => a * b) (congrArg (fun a : EReal => x (ValueIdx.ix2 r k) * a) ((spread _ hb r k).trans (scale_at x h h' hf hn r 0))) (spread_row g hb' r k)

end Cert.Proof.Norm

end
-- ==== Proof.FfnUp.lean ====
module

public import proofs.«01_k».proof.Defs
public import proofs.«01_k».proof.Proof.Chunks
public import proofs.«01_k».proof.Proof.Norm
public import proofs.«01_k».proof.Proof.FfnUpRun
public import proofs.«01_k».proof.Proof.Gen.Reference16Ideal.Run
public import proofs.«01_k».proof.Proof.Gen.Reference16Ideal.Read

/-! The feed-forward up projection: each grid step writes the normalised rows and, chunk of the weights by
chunk, their two products, which are the reference's. -/

@[expose] public section

set_option maxRecDepth 16384

noncomputable section

namespace Cert.Proof.FfnUp

open Cert.Kernel16Ideal Cert.Kernel16Ideal.Gen Cert.Kernel16Ideal.Resident Idealize.ShloMosaic.TcCoe Idealize.SL.Sem
open Idealize.ShloMosaic hiding ix1 ix2 ix3 eq_ix2
open Idealize.ShloMosaic.ValueIdx
open Idealize.ShloMosaic.Pipeline (Dat)

variable (m : (ℓ : Loc nD τ sig) → Buf (Elt Ideal) ℓ)

/-! ## The results, in the arguments -/

abbrev a0 (c : Dev nD) : S2048x1024.Idx → EReal := m ((c : Thread nD τ).loc main_arg0)
abbrev a1 (c : Dev nD) : S1024.Idx → EReal := m ((c : Thread nD τ).loc main_arg1)
abbrev a2 (c : Dev nD) : S1024x2816.Idx → EReal := m ((c : Thread nD τ).loc main_arg2)
abbrev a3 (c : Dev nD) : S1024x2816.Idx → EReal := m ((c : Thread nD τ).loc main_arg3)

/-- The normalised rows, and their product with a matrix of weights. -/
def h2 (c : Dev nD) (n : Fin 2048) (k : Fin 1024) : EReal := Norm.normed (a0 m c) (fun k => a1 m c (ix1 k)) n k
def up (c : Dev nD) (w : S1024x2816.Idx → EReal) (n : Fin 2048) (j : Fin 2816) : EReal := ∑ k : Fin 1024, h2 m c n k * w (ix2 k j)
/-- Column `k` of chunk `q`. -/
def col (q : Fin 4) (k : Fin 704) : Fin 2816 := ⟨q.val * 704 + k.val, by omega⟩
def G2 (c : Dev nD) : Buf (Elt Ideal) ((c : Thread nD τ).loc main_v7_0) := fun (i : S2048x1024.Idx) => (h2 m c (i 0) (i 1) : EReal)
def G3 (c : Dev nD) : Buf (Elt Ideal) ((c : Thread nD τ).loc main_v7_1) := fun (i : S4x2048x704.Idx) => (up m c (a2 m c) (i 1) (col (i 0) (i 2)) : EReal)
def G4 (c : Dev nD) : Buf (Elt Ideal) ((c : Thread nD τ).loc main_v7_2) := fun (i : S4x2048x704.Idx) => (up m c (a3 m c) (i 1) (col (i 0) (i 2)) : EReal)

/-! ## What the launch finds in its operands -/

theorem operand1 (c : Dev nD) (k : Fin 1024) : (V m c main_v0 : S1x1024.Idx → EReal) (ix2 0 k) = a1 m c (ix1 k) := by
  rw [show V m c main_v0 = shapeCast S1x1024 (m ((c : Thread nD τ).loc main_arg1) : FVec Ideal S1024 .f32) shapeCasts_S1024_S1x1024 by rfl]
  refine shapeCast_apply _ _ (ix2 0 k) (ix1 k) ?_
  rewrite [Shape.rowMajor_val_two, Shape.rowMajor_val_one]
  show k.val = 0 * 1024 + k.val
  omega

/-- Row `k` of a chunk of the transposed weights is a column of the weights. -/
theorem weights_at (x : FVec Ideal S1024x2816 .f32) (q : Fin 4) (k : Fin 704) (i : Fin 1024) :
    (shapeCast S4x704x1024 (truncf .bf16 (transpose S2816x1024 [1, 0] x transposes_S1024x2816_S2816x1024_1_0) bitsLt_bf16_f32 : FVec Ideal S2816x1024 .bf16)
      shapeCasts_S2816x1024_S4x704x1024 (ix3 q k i) : EReal) = x (ix2 i (col q k)) :=
  (Chunks.rows_at _ _ q k i (col q k) rfl).trans (transpose_apply [1, 0] x transposes_S1024x2816_S2816x1024_1_0 (ix2 (col q k) i) (ix2 i (col q k)) fun b => match b with
    | ⟨0, _⟩ => rfl
    | ⟨1, _⟩ => rfl)

theorem operand2 (c : Dev nD) (q : Fin 4) (k : Fin 704) (i : Fin 1024) : (V m c main_v3 : S4x704x1024.Idx → EReal) (ix3 q k i) = a2 m c (ix2 i (col q k)) := by
  rw [show V m c main_v3 = shapeCast S4x704x1024 (truncf .bf16 (transpose S2816x1024 [1, 0] (m ((c : Thread nD τ).loc main_arg2) : FVec Ideal S1024x2816 .f32)
    transposes_S1024x2816_S2816x1024_1_0) bitsLt_bf16_f32 : FVec Ideal S2816x1024 .bf16) shapeCasts_S2816x1024_S4x704x1024 by rfl]
  exact weights_at _ q k i

theorem operand3 (c : Dev nD) (q : Fin 4) (k : Fin 704) (i : Fin 1024) : (V m c main_v6 : S4x704x1024.Idx → EReal) (ix3 q k i) = a3 m c (ix2 i (col q k)) := by
  rw [show V m c main_v6 = shapeCast S4x704x1024 (truncf .bf16 (transpose S2816x1024 [1, 0] (m ((c : Thread nD τ).loc main_arg3) : FVec Ideal S1024x2816 .f32)
    transposes_S1024x2816_S2816x1024_1_0) bitsLt_bf16_f32 : FVec Ideal S2816x1024 .bf16) shapeCasts_S2816x1024_S4x704x1024 by rfl]
  exact weights_at _ q k i

/-! ## The windows' blocks -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![0, t.val, 0] := (by decide +kernel : ∀ t : Fin grid0.N, _)

theorem block0 (c : Dev nD) (t : Fin cfg0.N) (r : Fin 256) (k : Fin 1024) (n : Fin 2048) (h : n.val = t.val * 256 + r.val) :
    (iblk m c 0 t : S256x1024.Idx → EReal) (ix2 r k) = a0 m c (ix2 n k) := by
  have e := idx0 t
  refine congrArg (V m c main_arg0) (funext fun a => Fin.ext ?_)
  match a with
  | ⟨0, _⟩ => refine Eq.trans (b := win0_0.index t (0 : Fin 2) * 256 + 1 * r.val) rfl ?_; rw [e]; refine Eq.trans ?_ h.symm; show t.val * 256 + 1 * r.val = t.val * 256 + r.val; omega
  | ⟨1, _⟩ => refine Eq.trans (b := win0_0.index t (1 : Fin 2) * 1024 + 1 * k.val) rfl ?_; rw [e]; show 0 * 1024 + 1 * k.val = k.val; omega

theorem block1 (c : Dev nD) (t : Fin cfg0.N) (k : Fin 1024) : (iblk m c 1 t : S1x1024.Idx → EReal) (ix2 0 k) = a1 m c (ix1 k) := by
  have e := idx1 t
  refine (congrArg (V m c main_v0) (funext fun a => Fin.ext ?_)).trans (operand1 m c k)
  match a with
  | ⟨0, _⟩ => refine Eq.trans (b := win0_1.index t (0 : Fin 2) * 1 + 1 * 0) rfl ?_; rw [e]; show 0 * 1 + 1 * 0 = 0; omega
  | ⟨1, _⟩ => refine Eq.trans (b := win0_1.index t (1 : Fin 2) * 1024 + 1 * k.val) rfl ?_; rw [e]; show 0 * 1024 + 1 * k.val = k.val; omega

theorem emb2 (t : Fin cfg0.N) (y : S256x1024.Idx) : (((cfg0.win 2).blk t).view.emb y 0).val = t.val * 256 + (y 0).val ∧ (((cfg0.win 2).blk t).view.emb y 1).val = (y 1).val := by
  constructor
  · refine Eq.trans (b := win0_2.index t (0 : Fin 2) * 256 + 1 * (y 0).val) rfl ?_
    rw [idx2 t]; show t.val * 256 + 1 * (y 0).val = t.val * 256 + (y 0).val; omega
  · refine Eq.trans (b := win0_2.index t (1 : Fin 2) * 1024 + 1 * (y 1).val) rfl ?_
    rw [idx2 t]; show 0 * 1024 + 1 * (y 1).val = (y 1).val; omega

theorem covered2 (i : S2048x1024.Idx) : ∃ t : Fin cfg0.N, (cfg0.win 2).flush t = true ∧ i ∈ ((cfg0.win 2).blk t).view.set := by
  have h0 : (i 0).val < 2048 := (i 0).isLt
  have h1 : (i 1).val < 1024 := (i 1).isLt
  refine ⟨⟨(i 0).val / 256, lt_of_lt_of_eq (show (i 0).val / 256 < 8 by omega) (show 8 = cfg0.N from N_0.symm)⟩, flush0_2 _, ?_⟩
  have hm : ∀ t : Fin cfg0.N, i ∈ ((cfg0.win 2).blk t).view.set ↔ ∀ a : Fin 2, win0_2.index t a * S256x1024.size a ≤ (i a).val ∧ (i a).val < win0_2.index t a * S256x1024.size a + S256x1024.size a := fun t => by
    show i ∈ ((View.whole main_v7_0).slice (win0_2.rect t)).set ↔ _
    rw [View.set_slice_whole, Rect.mem_set_unit]
    exact Iff.rfl
  rw [hm, idx2]
  intro a
  match a with
  | ⟨0, _⟩ => show (i 0).val / 256 * 256 ≤ (i 0).val ∧ (i 0).val < (i 0).val / 256 * 256 + 256; omega
  | ⟨1, _⟩ => show 0 * 1024 ≤ (i 1).val ∧ (i 1).val < 0 * 1024 + 1024; omega

theorem emb3 (t : Fin cfg0.N) (y : S4x256x704.Idx) : (((cfg0.win 3).blk t).view.emb y 0).val = (y 0).val ∧ (((cfg0.win 3).blk t).view.emb y 1).val = t.val * 256 + (y 1).val
    ∧ (((cfg0.win 3).blk t).view.emb y 2).val = (y 2).val := by
  refine ⟨?_, ?_, ?_⟩
  · refine Eq.trans (b := win0_3.index t (0 : Fin 3) * 4 + 1 * (y 0).val) rfl ?_
    rw [idx3 t]; show 0 * 4 + 1 * (y 0).val = (y 0).val; omega
  · refine Eq.trans (b := win0_3.index t (1 : Fin 3) * 256 + 1 * (y 1).val) rfl ?_
    rw [idx3 t]; show t.val * 256 + 1 * (y 1).val = t.val * 256 + (y 1).val; omega
  · refine Eq.trans (b := win0_3.index t (2 : Fin 3) * 704 + 1 * (y 2).val) rfl ?_
    rw [idx3 t]; show 0 * 704 + 1 * (y 2).val = (y 2).val; omega

theorem covered3 (i : S4x2048x704.Idx) : ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 704 := (i 2).isLt
  refine ⟨⟨(i 1).val / 256, lt_of_lt_of_eq (show (i 1).val / 256 < 8 by omega) (show 8 = cfg0.N from N_0.symm)⟩, flush0_3 _, ?_⟩
  have hm : ∀ t : Fin cfg0.N, i ∈ ((cfg0.win 3).blk t).view.set ↔ ∀ a : Fin 3, win0_3.index t a * S4x256x704.size a ≤ (i a).val ∧ (i a).val < win0_3.index t a * S4x256x704.size a + S4x256x704.size a := fun t => by
    show i ∈ ((View.whole main_v7_1).slice (win0_3.rect t)).set ↔ _
    rw [View.set_slice_whole, Rect.mem_set_unit]
    exact Iff.rfl
  rw [hm, idx3]
  intro a
  match a with
  | ⟨0, _⟩ => show 0 * 4 ≤ (i 0).val ∧ (i 0).val < 0 * 4 + 4; omega
  | ⟨1, _⟩ => show (i 1).val / 256 * 256 ≤ (i 1).val ∧ (i 1).val < (i 1).val / 256 * 256 + 256; omega
  | ⟨2, _⟩ => show 0 * 704 ≤ (i 2).val ∧ (i 2).val < 0 * 704 + 704; omega

theorem emb4 (t : Fin cfg0.N) (y : S4x256x704.Idx) : (((cfg0.win 4).blk t).view.emb y 0).val = (y 0).val ∧ (((cfg0.win 4).blk t).view.emb y 1).val = t.val * 256 + (y 1).val
    ∧ (((cfg0.win 4).blk t).view.emb y 2).val = (y 2).val := by
  refine ⟨?_, ?_, ?_⟩
  · refine Eq.trans (b := win0_4.index t (0 : Fin 3) * 4 + 1 * (y 0).val) rfl ?_
    rw [idx4 t]; show 0 * 4 + 1 * (y 0).val = (y 0).val; omega
  · refine Eq.trans (b := win0_4.index t (1 : Fin 3) * 256 + 1 * (y 1).val) rfl ?_
    rw [idx4 t]; show t.val * 256 + 1 * (y 1).val = t.val * 256 + (y 1).val; omega
  · refine Eq.trans (b := win0_4.index t (2 : Fin 3) * 704 + 1 * (y 2).val) rfl ?_
    rw [idx4 t]; show 0 * 704 + 1 * (y 2).val = (y 2).val; omega

theorem covered4 (i : S4x2048x704.Idx) : ∃ t : Fin cfg0.N, (cfg0.win 4).flush t = true ∧ i ∈ ((cfg0.win 4).blk t).view.set := by
  have h0 : (i 0).val < 4 := (i 0).isLt
  have h1 : (i 1).val < 2048 := (i 1).isLt
  have h2 : (i 2).val < 704 := (i 2).isLt
  refine ⟨⟨(i 1).val / 256, lt_of_lt_of_eq (show (i 1).val / 256 < 8 by omega) (show 8 = cfg0.N from N_0.symm)⟩, flush0_4 _, ?_⟩
  have hm : ∀ t : Fin cfg0.N, i ∈ ((cfg0.win 4).blk t).view.set ↔ ∀ a : Fin 3, win0_4.index t a * S4x256x704.size a ≤ (i a).val ∧ (i a).val < win0_4.index t a * S4x256x704.size a + S4x256x704.size a := fun t => by
    show i ∈ ((View.whole main_v7_2).slice (win0_4.rect t)).set ↔ _
    rw [View.set_slice_whole, Rect.mem_set_unit]
    exact Iff.rfl
  rw [hm, idx4]
  intro a
  match a with
  | ⟨0, _⟩ => show 0 * 4 ≤ (i 0).val ∧ (i 0).val < 0 * 4 + 4; omega
  | ⟨1, _⟩ => show (i 1).val / 256 * 256 ≤ (i 1).val ∧ (i 1).val < (i 1).val / 256 * 256 + 256; omega
  | ⟨2, _⟩ => show 0 * 704 ≤ (i 2).val ∧ (i 2).val < 0 * 704 + 704; omega

/-! ## What a grid step computes -/

abbrev weightOf (w : Vec Ideal S4x704x1024 .bf16) (q : ℕ) (h : ∀ a, (![q, 0, 0] : Fin 3 → ℕ) a + S1x704x1024.size a ≤ S4x704x1024.size a) : Vec Ideal S1x704x1024 .bf16 :=
  View.ld w (Rect.unit (s := S4x704x1024) ![q, 0, 0] S1x704x1024.size h)

/-- The normalised rows of a block, read at an index. -/
theorem normed_at (x : Vec Ideal S256x1024 .f32) (g : Vec Ideal S1x1024 .f32) (r : Fin 256) (k : Fin 1024) :
    (k0_pay5 (F := Ideal) x g (ix2 r k) : EReal) = Norm.normed (M := 256) x (fun k => g (ix2 0 k)) r k :=
  Norm.normed_at x g _ _ _ _ _ _ _ r k

/-- A block's product with the weights, all chunks. -/
def whole (h : FVec Ideal S256x1024 .bf16) (w : Vec Ideal S4x704x1024 .bf16) (z : S4x256x704.Idx) : EReal :=
  ∑ k : Fin 1024, (h (ix2 (z 1) k) : EReal) * w (ix3 (z 0) (z 2) k)

/-- What is stored of one chunk's product, read at an index. -/
theorem slab (h : FVec Ideal S256x1024 .bf16) (w : Vec Ideal S4x704x1024 .bf16) (q : ℕ) (hq : q < 4) (hw) (hr : ∀ a, (![q, 0, 0] : Fin 3 → ℕ) a + S1x256x704.size a ≤ S4x256x704.size a) (z : S1x256x704.Idx) :
    (k0_pay2 (F := Ideal) h (weightOf w q hw) z : EReal) = whole h w ((Rect.unit (s := S4x256x704) ![q, 0, 0] S1x256x704.size hr).emb z) := by
  have hz : (z 0).val < 1 := (z 0).isLt
  refine Eq.trans (congrArg _ (show z = ix3 0 (z 1) (z 2) from funext fun a => Fin.ext (match a with
    | ⟨0, _⟩ => show (z 0).val = 0 by omega
    | ⟨1, _⟩ => rfl
    | ⟨2, _⟩ => rfl))) ?_
  unfold k0_pay2
  refine (Chunks.chunk_at (A := 256) (B := 704) _ shapeCasts_S256x704_S1x256x704 (z 1) (z 2)).trans ?_
  refine (Shared.product_nt (M := 256) (K := 1024) (N := 704) (φ₁ := .bf16) (φ₂ := .bf16) _ _ (z 1) (z 2)).trans (Finset.sum_congr rfl fun k _ => ?_)
  refine congrArg₂ (fun a b : EReal => a * b) (congrArg (fun r : Fin 256 => (h (ix2 r k) : EReal)) (Fin.ext ?_)) (((Chunks.matrix_at _ _ (z 2) k).trans (Chunks.slab_at w q hq hw (z 2) k)).trans ?_)
  · show (z 1).val = 0 + 1 * (z 1).val; omega
  · refine congrArg w (funext fun a => Fin.ext ?_)
    match a with
    | ⟨0, _⟩ => show q = q + 1 * (z 0).val; omega
    | ⟨1, _⟩ => show (z 2).val = 0 + 1 * (z 2).val; omega
    | ⟨2, _⟩ => rfl

theorem left2_at (c : Dev nD) (t : Fin cfg0.N) (r : Fin 256) (k : Fin 1024) (n : Fin 2048) (h : n.val = t.val * 256 + r.val) :
    (left2 m c t (ix2 r k) : EReal) = h2 m c n k := by
  unfold left2
  rw [View.read_writes_junk_eq_canon]
  dsimp only [runAt, tileRun]
  rw [View.canon_unit_zero (S := S256x1024) Chunks.zero2]
  unfold k0_pay6
  rw [Chunks.load_whole (S := S256x1024) (hs0 t) Chunks.zero2, Chunks.load_whole (S := S1x1024) (hs1 t) Chunks.zero2, shapeCast_self]
  refine (normed_at (iblk m c 0 t) (iblk m c 1 t) r k).trans ?_
  unfold h2 Norm.normed
  simp only [block0 m c t r _ n h, block1 m c t]

theorem left3_at (c : Dev nD) (t : Fin cfg0.N) (y : S4x256x704.Idx) (n : Fin 2048) (h : n.val = t.val * 256 + (y 1).val) :
    (left3 m c t y : EReal) = up m c (a2 m c) n (col (y 0) (y 2)) := by
  unfold left3
  rw [View.read_writes_junk_eq_canon]
  refine (View.canon_apply_of_pieces (Val := Elt Ideal) (e := .bf16) (fun z => whole (k0_pay5 (F := Ideal) (iblk m c 0 t) (iblk m c 1 t)) (V m c main_v3) z) _ ?_ y (cover3 c (grid0.coords t) (ms0 t) (hs0 t) (ms1 t) (hs1 t) (ms2 t) (hs2 t) (ms3 t) (hs3 t) (ms4 t) (hs4 t) (iblk m c 0 t) (iblk m c 1 t) (V m c main_v3) (V m c main_v6) y)).trans ?_
  · intro pc hpc
    dsimp only [runAt, tileRun] at hpc
    unfold tileRun.sl.r_2 tileRun.sl.r_1 tileRun.sl.r at hpc
    rw [Chunks.load_whole (S := S256x1024) (hs0 t) Chunks.zero2, Chunks.load_whole (S := S1x1024) (hs1 t) Chunks.zero2] at hpc
    rcases List.mem_cons.mp hpc with rfl | hpc
    · exact fun z => slab _ (V m c main_v3) 3 (by omega) inb_S4x704x1024_S1x704x1024_3_0_0 inb_S4x256x704_S1x256x704_3_0_0 z
    rcases List.mem_cons.mp hpc with rfl | hpc
    · exact fun z => slab _ (V m c main_v3) 2 (by omega) inb_S4x704x1024_S1x704x1024_2_0_0 inb_S4x256x704_S1x256x704_2_0_0 z
    rcases List.mem_cons.mp hpc with rfl | hpc
    · exact fun z => slab _ (V m c main_v3) 1 (by omega) inb_S4x704x1024_S1x704x1024_1_0_0 inb_S4x256x704_S1x256x704_1_0_0 z
    rcases List.mem_cons.mp hpc with rfl | hpc
    · exact fun z => slab _ (V m c main_v3) 0 (by omega) inb_S4x704x1024_S1x704x1024_0_0_0 inb_S4x256x704_S1x256x704_0_0_0 z
    · exact absurd hpc List.not_mem_nil
  · refine Finset.sum_congr rfl fun k _ => congrArg₂ (fun a b : EReal => a * b) ?_ (operand2 m c (y 0) (y 2) k)
    refine (normed_at (iblk m c 0 t) (iblk m c 1 t) (y 1) k).trans ?_
    unfold h2 Norm.normed
    simp only [block0 m c t (y 1) _ n h, block1 m c t]

theorem left4_at (c : Dev nD) (t : Fin cfg0.N) (y : S4x256x704.Idx) (n : Fin 2048) (h : n.val = t.val * 256 + (y 1).val) :
    (left4 m c t y : EReal) = up m c (a3 m c) n (col (y 0) (y 2)) := by
  unfold left4
  rw [View.read_writes_junk_eq_canon]
  refine (View.canon_apply_of_pieces (Val := Elt Ideal) (e := .bf16) (fun z => whole (k0_pay5 (F := Ideal) (iblk m c 0 t) (iblk m c 1 t)) (V m c main_v6) z) _ ?_ y (cover4 c (grid0.coords t) (ms0 t) (hs0 t) (ms1 t) (hs1 t) (ms2 t) (hs2 t) (ms3 t) (hs3 t) (ms4 t) (hs4 t) (iblk m c 0 t) (iblk m c 1 t) (V m c main_v3) (V m c main_v6) y)).trans ?_
  · intro pc hpc
    dsimp only [runAt, tileRun] at hpc
    unfold tileRun.sl.r at hpc
    rw [Chunks.load_whole (S := S256x1024) (hs0 t) Chunks.zero2, Chunks.load_whole (S := S1x1024) (hs1 t) Chunks.zero2] at hpc
    rcases List.mem_cons.mp hpc with rfl | hpc
    · exact fun z => slab _ (V m c main_v6) 3 (by omega) inb_S4x704x1024_S1x704x1024_3_0_0 inb_S4x256x704_S1x256x704_3_0_0 z
    rcases List.mem_cons.mp hpc with rfl | hpc
    · exact fun z => slab _ (V m c main_v6) 2 (by omega) inb_S4x704x1024_S1x704x1024_2_0_0 inb_S4x256x704_S1x256x704_2_0_0 z
    rcases List.mem_cons.mp hpc with rfl | hpc
    · exact fun z => slab _ (V m c main_v6) 1 (by omega) inb_S4x704x1024_S1x704x1024_1_0_0 inb_S4x256x704_S1x256x704_1_0_0 z
    rcases List.mem_cons.mp hpc with rfl | hpc
    · exact fun z => slab _ (V m c main_v6) 0 (by omega) inb_S4x704x1024_S1x704x1024_0_0_0 inb_S4x256x704_S1x256x704_0_0_0 z
    · exact absurd hpc List.not_mem_nil
  · refine Finset.sum_congr rfl fun k _ => congrArg₂ (fun a b : EReal => a * b) ?_ (operand3 m c (y 0) (y 2) k)
    refine (normed_at (iblk m c 0 t) (iblk m c 1 t) (y 1) k).trans ?_
    unfold h2 Norm.normed
    simp only [block0 m c t (y 1) _ n h, block1 m c t]

theorem flushed2_eq (c : Dev nD) (t : Fin cfg0.N) : (dats m 0 c).flushed 2 t = ((cfg0.win 2).blk t).view.read (Elt Ideal) (G2 m c) := by
  unfold Dat.flushed
  rw [after2]
  funext (y : S256x1024.Idx)
  have hc : (((cfg0.win 2).blk t).view.emb y 1 : Fin 1024) = y 1 := Fin.ext (emb2 t y).2
  show (left2 m c t y : EReal) = h2 m c (((cfg0.win 2).blk t).view.emb y 0) (((cfg0.win 2).blk t).view.emb y 1)
  rw [hc]
  exact Eq.trans (congrArg _ (show y = ix2 (y 0) (y 1) from eq_ix2 y)) (left2_at m c t (y 0) (y 1) _ (emb2 t y).1)
theorem final2 (c : Dev nD) : (dats m 0 c).arrAt 2 cfg0.N = G2 m c :=
  (dats m 0 c).arrAt_eq_of_cover 2 _ (fun t _ => flushed2_eq m c t) covered2

theorem flushed3_eq (c : Dev nD) (t : Fin cfg0.N) : (dats m 0 c).flushed 3 t = ((cfg0.win 3).blk t).view.read (Elt Ideal) (G3 m c) := by
  unfold Dat.flushed
  rw [after3]
  funext (y : S4x256x704.Idx)
  have hq : (((cfg0.win 3).blk t).view.emb y 0 : Fin 4) = y 0 := Fin.ext (emb3 t y).1
  have hc : (((cfg0.win 3).blk t).view.emb y 2 : Fin 704) = y 2 := Fin.ext (emb3 t y).2.2
  show (left3 m c t y : EReal) = up m c (a2 m c) (((cfg0.win 3).blk t).view.emb y 1) (col (((cfg0.win 3).blk t).view.emb y 0) (((cfg0.win 3).blk t).view.emb y 2))
  rw [hq, hc]
  exact left3_at m c t y _ (emb3 t y).2.1
theorem final3 (c : Dev nD) : (dats m 0 c).arrAt 3 cfg0.N = G3 m c :=
  (dats m 0 c).arrAt_eq_of_cover 3 _ (fun t _ => flushed3_eq m c t) covered3

theorem flushed4_eq (c : Dev nD) (t : Fin cfg0.N) : (dats m 0 c).flushed 4 t = ((cfg0.win 4).blk t).view.read (Elt Ideal) (G4 m c) := by
  unfold Dat.flushed
  rw [after4]
  funext (y : S4x256x704.Idx)
  have hq : (((cfg0.win 4).blk t).view.emb y 0 : Fin 4) = y 0 := Fin.ext (emb4 t y).1
  have hc : (((cfg0.win 4).blk t).view.emb y 2 : Fin 704) = y 2 := Fin.ext (emb4 t y).2.2
  show (left4 m c t y : EReal) = up m c (a3 m c) (((cfg0.win 4).blk t).view.emb y 1) (col (((cfg0.win 4).blk t).view.emb y 0) (((cfg0.win 4).blk t).view.emb y 2))
  rw [hq, hc]
  exact left4_at m c t y _ (emb4 t y).2.1
theorem final4 (c : Dev nD) : (dats m 0 c).arrAt 4 cfg0.N = G4 m c :=
  (dats m 0 c).arrAt_eq_of_cover 4 _ (fun t _ => flushed4_eq m c t) covered4

/-! ## The reference -/

open Cert.Reference16Ideal.Read in
theorem ref_scale (c : Dev nD) (n : Fin 2048) (z : Fin 1) : (val_main_v7 (F := Ideal) (a0 m c) (ix2 n z) : EReal) = Norm.scale (fun k => a0 m c (ix2 n k)) := by
  have hs : (val_main_v1 (F := Ideal) (a0 m c) (ix1 n) : EReal) = ∑ k : Fin 1024, a0 m c (ix2 n k) * a0 m c (ix2 n k) := by
    rw [val_main_v1_apply, val_main_cst_apply]
    refine (congrArg (fun a : EReal => a + _) (Ideal.ofBits_zero_f32)).trans ((zero_add _).trans (Finset.sum_congr rfl fun k _ => ?_))
    exact congrArg (fun i : S2048x1024.Idx => a0 m c i * a0 m c i) (funext fun a => match a with
      | ⟨0, _⟩ => rfl
      | ⟨1, _⟩ => rfl)
  rw [val_main_v7_apply, val_main_v6_apply, val_main_v4_apply, val_main_v2_apply, val_main_v3_apply, val_main_v5_apply, val_main_cst_0_apply, val_main_cst_1_apply]
  refine congrArg (fun s : EReal => Ideal.rsqrt (Ideal.div s (Ideal.ofBits .f32 0x44800000#32) + Ideal.ofBits .f32 0x358637BD#32)) (Eq.trans (congrArg _ (funext fun a => ?_)) hs)
  match a with
  | ⟨0, _⟩ => rfl

open Cert.Reference16Ideal.Read in
theorem ref_h2 (c : Dev nD) (n : Fin 2048) (k : Fin 1024) : (val_main_v12 (F := Ideal) (a0 m c) (a1 m c) (ix2 n k) : EReal) = h2 m c n k := by
  rw [val_main_v12_apply, val_main_v9_apply, val_main_v8_apply, val_main_v11_apply, val_main_v10_apply]
  refine congrArg₂ (fun a b : EReal => a * b) (congrArg (fun b : EReal => a0 m c (ix2 n k) * b) (Eq.trans (congrArg _ (funext fun a => ?_)) (ref_scale m c n 0))) (congrArg (a1 m c) (funext fun a => ?_))
  · match a with
    | ⟨0, _⟩ => rfl
    | ⟨1, _⟩ => rfl
  · match a with
    | ⟨0, _⟩ => rfl

open Cert.Reference16Ideal.Read in
theorem ref2 (c : Dev nD) : val_main_v13 (F := Ideal) (a0 m c) (a1 m c) = G2 m c := by
  funext (i : S2048x1024.Idx)
  exact Eq.trans (congrArg (fun i => (val_main_v12 (F := Ideal) (a0 m c) (a1 m c) i : EReal)) (show i = ix2 (i 0) (i 1) from eq_ix2 i)) (ref_h2 m c (i 0) (i 1))

open Cert.Reference16Ideal.Read in
theorem ref3 (c : Dev nD) : val_main_v17 (F := Ideal) (a0 m c) (a1 m c) (a2 m c) = G3 m c := by
  funext (i : S4x2048x704.Idx)
  have h0 : (i 0).val < 4 := (i 0).isLt
  have h2' : (i 2).val < 704 := (i 2).isLt
  refine (val_main_v17_apply _ _ _ _).trans ((val_main_v16_apply _ _ _ _).trans ((val_main_v15_apply _ _ _ _).trans ((val_main_v14_apply _ _ _ _).trans ?_)))
  show (_ : EReal) = ∑ k : Fin 1024, h2 m c (i 1) k * a2 m c (ix2 k (col (i 0) (i 2)))
  refine Finset.sum_congr rfl fun k _ => ?_
  refine congrArg₂ (fun a b : EReal => a * b) (Eq.trans (congrArg _ (funext fun a => Fin.ext ?_)) (ref_h2 m c (i 1) k)) (congrArg (a2 m c) (funext fun a => Fin.ext ?_))
  · match a with
    | ⟨0, _⟩ => show (((i 1).val * 4 + (i 0).val) * 704 + (i 2).val) / 2816 = (i 1).val; omega
    | ⟨1, _⟩ => rfl
  · match a with
    | ⟨0, _⟩ => rfl
    | ⟨1, _⟩ => show (((i 1).val * 4 + (i 0).val) * 704 + (i 2).val) % 2816 = (i 0).val * 704 + (i 2).val; omega

open Cert.Reference16Ideal.Read in
theorem ref4 (c : Dev nD) : val_main_v21 (F := Ideal) (a0 m c) (a1 m c) (a3 m c) = G4 m c := by
  funext (i : S4x2048x704.Idx)
  have h0 : (i 0).val < 4 := (i 0).isLt
  have h2' : (i 2).val < 704 := (i 2).isLt
  refine (val_main_v21_apply _ _ _ _).trans ((val_main_v20_apply _ _ _ _).trans ((val_main_v19_apply _ _ _ _).trans ((val_main_v18_apply _ _ _ _).trans ?_)))
  show (_ : EReal) = ∑ k : Fin 1024, h2 m c (i 1) k * a3 m c (ix2 k (col (i 0) (i 2)))
  refine Finset.sum_congr rfl fun k _ => ?_
  refine congrArg₂ (fun a b : EReal => a * b) (Eq.trans (congrArg _ (funext fun a => Fin.ext ?_)) (ref_h2 m c (i 1) k)) (congrArg (a3 m c) (funext fun a => Fin.ext ?_))
  · match a with
    | ⟨0, _⟩ => show (((i 1).val * 4 + (i 0).val) * 704 + (i 2).val) / 2816 = (i 1).val; omega
    | ⟨1, _⟩ => rfl
  · match a with
    | ⟨0, _⟩ => rfl
    | ⟨1, _⟩ => show (((i 1).val * 4 + (i 0).val) * 704 + (i 2).val) % 2816 = (i 0).val * 704 + (i 2).val; omega

open Cert.Reference16Ideal.Read in
theorem algebraic : Cert.algebraic_Kernel16Ideal_Reference16Ideal := by
  intro m g m' g' _ hagree
  refine ⟨G2 m, G3 m, G4 m, ?_, ?_⟩
  · refine (θ_run defs _ _).mono (fun r hh c => ?_) (run_main (F := Ideal) m g)
    have h := hh.1 c
    exact ⟨(h.1 2).trans (final2 m c), (h.1 3).trans (final3 m c), (h.1 4).trans (final4 m c), (h.1 0).trans (((dats m 0 c).arrAt_in 0 rfl _).trans ((A_eq m c 0).trans (V_main_arg0 m c))),
      (h.2 main_arg1 (Pipeline.mem_restRefs_of main_arg1 (by decide) (by decide))).trans (V_main_arg1 m c),
      (h.2 main_arg2 (Pipeline.mem_restRefs_of main_arg2 (by decide) (by decide))).trans (V_main_arg2 m c),
      (h.2 main_arg3 (Pipeline.mem_restRefs_of main_arg3 (by decide) (by decide))).trans (V_main_arg3 m c)⟩
  · refine (θ_run Cert.Reference16Ideal.defs _ _).mono (fun r h c => ?_) (Cert.Reference16Ideal.Value.run (F := Ideal) m' g')
    obtain ⟨e0, e1, e2, e3⟩ := hagree c
    refine ⟨((h c).1.trans (val_main_v13_eq _ _)).trans ?_, ((h c).2.1.trans (val_main_v17_eq _ _ _)).trans ?_, ((h c).2.2.1.trans (val_main_v21_eq _ _ _)).trans ?_, (h c).2.2.2⟩
    · rw [e0, e1]; exact ref2 m c
    · rw [e0, e1, e2]; exact ref3 m c
    · rw [e0, e1, e3]; exact ref4 m c

end Cert.Proof.FfnUp

end
-- ==== Proof.InProjRun.lean ====
module

public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Skeleton
public import proofs.«01_k».proof.Proof.Resident
public import proofs.«01_k».proof.Defs
public import Idealize.ShloMosaic.Lib.Claim
public import Idealize.ShloMosaic.Lib.Pipeline.FrameBody
public import Idealize.ShloMosaic.Lib.Ring
public import Idealize.ShloMosaic.Lib.WordCmp
public import Idealize.ShloMosaic.Adequacy

/-!
The frame of the input projection: the weights, left in device memory, are copied into scratch at the first grid step
and stay there; every later step finds them as the first left them.
-/

@[expose] public section

set_option maxRecDepth 16384

noncomputable section

namespace Cert.Kernel19Ideal.Resident

open Cert.Kernel19Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The test the body makes for the first grid step. -/
abbrev AtFirst (i : grid0.Coords) : Prop := (Scalar.cmpi .ne (Scalar.extui (Scalar.cmpi .eq (BitVec.ofNat 32 (i 0).val) 0#32)) 0#32) = 1#1

theorem atFirst_iff (t : Fin cfg0.N) : AtFirst (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    have e1 : t.val / 1 % 8 = t.val := by omega
    simp only [AtFirst, e0, e1]
    word_cmp
   : ∀ t : Fin grid0.N, AtFirst (grid0.coords t) ↔ t.val = 0) t

/-- What buffer `M` can hold on device `c`, and the buffer held whole at `f`. -/
abbrev Held (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Held (F := F) c M) : sProp 𝕄 :=
  M.view.loc (c : Thread nD τ) ↦{fullShare} f

theorem held_congr {c : Dev nD} {sp : Space} {S : Shape} {e : EltTy} {M : Memref sig .tc sp S e} {f f' : Held (F := F) c M} (h : f = f') :
    held (F := F) c M f ⊢ held (F := F) c M f' := by
  rw [h]

abbrev scM0 : Memref sig .tc .vmem S4x1024x896 .bf16 := Memref.whole cc0_scratch0
abbrev hbM0 : Memref sig .tc .hbm S4x1024x896 .bf16 := Memref.whole main_v3

/-- Chunk `k` of a buffer of four. -/
abbrev chunk {sp : Space} (M : Memref sig .tc sp S4x1024x896 .bf16) (k : ℕ) (h : ∀ a, (![k, 0, 0] : Fin 3 → ℕ) a + S1x1024x896.size a ≤ S4x1024x896.size a) : Memref sig .tc sp S1024x896 .bf16 :=
  (M.slice (Rect.unit ![k, 0, 0] S1x1024x896.size h) (fun _ => rfl)).squeeze S1024x896 squeezes_S1x1024x896_S1024x896

/-- The four chunks copied in, in order, are the whole array. -/
theorem filled0 (c : Dev nD) (f : Held (F := F) c scM0) (g : Held (F := F) c hbM0) :
    ((chunk scM0 3 inb_S4x1024x896_S1x1024x896_3_0_0).view.write (Elt F) ((chunk scM0 2 inb_S4x1024x896_S1x1024x896_2_0_0).view.write (Elt F) ((chunk scM0 1 inb_S4x1024x896_S1x1024x896_1_0_0).view.write (Elt F) ((chunk scM0 0 inb_S4x1024x896_S1x1024x896_0_0_0).view.write (Elt F) f
      ((chunk scM0 0 inb_S4x1024x896_S1x1024x896_0_0_0).view.read (Elt F) g) Finset.univ)
      ((chunk scM0 1 inb_S4x1024x896_S1x1024x896_1_0_0).view.read (Elt F) g) Finset.univ)
      ((chunk scM0 2 inb_S4x1024x896_S1x1024x896_2_0_0).view.read (Elt F) g) Finset.univ)
      ((chunk scM0 3 inb_S4x1024x896_S1x1024x896_3_0_0).view.read (Elt F) g) Finset.univ) = g := by
  have mem : ∀ (k : ℕ) (h : ∀ a, (![k, 0, 0] : Fin 3 → ℕ) a + S1x1024x896.size a ≤ S4x1024x896.size a) (y : S4x1024x896.Idx), (y 0).val = k →
      y ∈ (chunk scM0 k h).view.setOn Finset.univ := by
    intro k h y e
    rw [View.setOn_univ]
    refine (Finset.ext_iff.mp ((View.set_reshape _ _).trans (View.set_slice_whole _ _)) y).mpr ?_
    rw [Rect.mem_set_unit]
    intro a
    fin_cases a
    · exact ⟨e.ge, lt_of_eq_of_lt e (Nat.lt_succ_self k)⟩
    · exact ⟨Nat.zero_le _, lt_of_lt_of_eq (y 1).isLt (by rfl)⟩
    · exact ⟨Nat.zero_le _, lt_of_lt_of_eq (y 2).isLt (by rfl)⟩
  simp only [View.write_read_eq_piecewise]
  exact piecewise_four _ _ _ _ f g fun y => by
    have hy : (y 0).val < 4 := (y 0).isLt
    rcases (by omega : (y 0).val = 0 ∨ (y 0).val = 1 ∨ (y 0).val = 2 ∨ (y 0).val = 3) with e | e | e | e
    · exact .inl (mem 0 _ y e)
    · exact .inr (.inl (mem 1 _ y e))
    · exact .inr (.inr (.inl (mem 2 _ y e)))
    · exact .inr (.inr (.inr (mem 3 _ y e)))

set_option sl_exec.dmaWindow true in
set_option maxHeartbeats 4000000 in
/-- One run of the body at any grid step: it leaves the weights in scratch whether it finds them there or copies them in. -/
def tileRun (c : Dev nD) (i : grid0.Coords) (arg1 : Memref sig .tc .vmem S256x1024 .f32) (harg1 : arg1.IsWhole) (arg2 : Memref sig .tc .vmem S1x1024 .f32) (harg2 : arg2.IsWhole) (arg4 : Memref sig .tc .vmem S1x3584 .f32) (harg4 : arg4.IsWhole) (arg5 : Memref sig .tc .vmem S256x1024 .bf16) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x2048 .f32) (harg8 : arg8.IsWhole)
    (x0 : Vec F S256x1024 .f32) (x1 : Vec F S1x1024 .f32) (x2 : Vec F S1x3584 .f32) (g0 : Held (F := F) c hbM0) :
    Σ' (L3 : List (View.Piece (Elt F) S256x1024 .bf16)), Σ' (L4 : List (View.Piece (Elt F) S256x512 .f32)), Σ' (L5 : List (View.Piece (Elt F) S256x1024 .f32)), { L6 : List (View.Piece (Elt F) S256x2048 .f32) // ∀ (W : Waits sig Unit) (K : PUnit → sProp 𝕄) (pre : sProp 𝕄)
      (_ : (¬ AtFirst i ∧ pre = iprop((held (F := F) c scM0 g0))) ∨ (AtFirst i ∧ pre = iprop(((∃ f, held (F := F) c scM0 f))))),
      iprop(owns (c : Thread nD τ) arg1 fullShare x0 ∗ owns (c : Thread nD τ) arg2 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ pre ∗ (semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ (held (F := F) c hbM0 g0) ∗ owes (c : Thread nD τ) 0 W
        ∗ ((owns (c : Thread nD τ) arg1 fullShare x0 ∗ owns (c : Thread nD τ) arg2 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (held (F := F) c scM0 g0) ∗ (semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ (held (F := F) c hbM0 g0) ∗ (∃ W', owes (c : Thread nD τ) 0 W')) -∗ K ⟨⟩))
      ⊢ wp frame (wpE (defs₀ (F := F)) Variants.none c none) Set.univ (cc0_inproj_fwd i arg1 harg1 arg2 harg2 (Memref.whole main_v3) (Memref.isWhole_whole _) arg4 harg4 arg5 harg5 arg6 harg6 arg7 harg7 arg8 harg8 (Memref.whole cc0_scratch0) (Memref.isWhole_whole _) cc0_scratch1) K } := by
  refine ⟨?_, ?_, ?_, ?_, fun W K pre hpre => ?run⟩
  case run =>
    simp only [cc0_inproj_fwd_eq_skeleton]; unfold cc0_inproj_fwd_skel
    simp only [k0_part1_eq_skeleton, k0_part2_eq_skeleton, k0_part3_eq_skeleton]
    unfold owns
    rcases hpre with ⟨hc, rfl⟩ | ⟨hc, rfl⟩
    · iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, HS0, ⟨Hq0, Hq1, Hq2, Hq3⟩, Hh0, HW, Hk⟩
      obtain rfl := harg1.eq_unread hf0
      obtain rfl := harg2.eq_unread hf1
      obtain rfl := harg4.eq_unread hf2
      sl_exec (disch := first | sl_exact hc)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg4.read_unread _
        iexact H2
      isplitl [H3]; · iexists _; iexact H3
      isplitl [H4]; · iexists _; iexact H4
      isplitl [H5]; · iexists _; iexact H5
      isplitl [H6]; · iexists _; iexact H6
      isplitl [HS0]; · iexact HS0
      isplitl [Hq0 Hq1 Hq2 Hq3]
      · isplitl [Hq0]; · iexact Hq0
        isplitl [Hq1]; · iexact Hq1
        isplitl [Hq2]; · iexact Hq2
        iexact Hq3
      isplitl [Hh0]; · iexact Hh0
      iexists _; iexact HW
    · iintro ⟨H0, H1, H2, H3, H4, H5, H6, ⟨%fs0, HS0⟩, ⟨Hq0, Hq1, Hq2, Hq3⟩, Hh0, HW, Hk⟩
      sl_exec (disch := first | sl_exact hc)
      ihave HT0 := (held_congr (M := scM0) (f' := g0) ?fill0) $$ HS0
      case fill0 => exact filled0 c fs0 g0
      icases H0 with ⟨%f0, %hf0, H0⟩
      icases H1 with ⟨%f1, %hf1, H1⟩
      icases H2 with ⟨%f2, %hf2, H2⟩
      icases H3 with ⟨%d3, %f3, -, H3⟩
      icases H4 with ⟨%d4, %f4, -, H4⟩
      icases H5 with ⟨%d5, %f5, -, H5⟩
      icases H6 with ⟨%d6, %f6, -, H6⟩
      obtain rfl := harg1.eq_unread hf0
      obtain rfl := harg2.eq_unread hf1
      obtain rfl := harg4.eq_unread hf2
      sl_exec
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg4.read_unread _
        iexact H2
      isplitl [H3]; · iexists _; iexact H3
      isplitl [H4]; · iexists _; iexact H4
      isplitl [H5]; · iexists _; iexact H5
      isplitl [H6]; · iexists _; iexact H6
      isplitl [HT0]; · iexact HT0
      isplitl [Hq0 Hq1 Hq2 Hq3]
      · isplitl [Hq0]; · iexact Hq0
        isplitl [Hq1]; · iexact Hq1
        isplitl [Hq2]; · iexact Hq2
        iexact Hq3
      isplitl [Hh0]; · iexact Hh0
      iexists _; iexact HW

/-- The stores into output 0 cover its block, so what the block held before is gone. -/
theorem cover3 (c : Dev nD) (i : grid0.Coords) (arg1 : Memref sig .tc .vmem S256x1024 .f32) (harg1 : arg1.IsWhole) (arg2 : Memref sig .tc .vmem S1x1024 .f32) (harg2 : arg2.IsWhole) (arg4 : Memref sig .tc .vmem S1x3584 .f32) (harg4 : arg4.IsWhole) (arg5 : Memref sig .tc .vmem S256x1024 .bf16) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x2048 .f32) (harg8 : arg8.IsWhole)
    (x0 : Vec F S256x1024 .f32) (x1 : Vec F S1x1024 .f32) (x2 : Vec F S1x3584 .f32) (g0 : Held (F := F) c hbM0) (y : S256x1024.Idx) : ∃ pc ∈ (tileRun c i arg1 harg1 arg2 harg2 arg4 harg4 arg5 harg5 arg6 harg6 arg7 harg7 arg8 harg8 x0 x1 x2 g0).1, y ∈ pc.1.set :=
  View.cover_of_tiledL (tileRun c i arg1 harg1 arg2 harg2 arg4 harg4 arg5 harg5 arg6 harg6 arg7 harg7 arg8 harg8 x0 x1 x2 g0).1 S256x1024.size (by sl_kernel_rfl) y
abbrev VO3 : View sig .tc .vmem S256x1024 .bf16 := (Memref.whole cc0_stg3_0 : Memref sig .tc .vmem S256x1024 .bf16).view

/-- The stores into output 1 cover its block, so what the block held before is gone. -/
theorem cover4 (c : Dev nD) (i : grid0.Coords) (arg1 : Memref sig .tc .vmem S256x1024 .f32) (harg1 : arg1.IsWhole) (arg2 : Memref sig .tc .vmem S1x1024 .f32) (harg2 : arg2.IsWhole) (arg4 : Memref sig .tc .vmem S1x3584 .f32) (harg4 : arg4.IsWhole) (arg5 : Memref sig .tc .vmem S256x1024 .bf16) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x2048 .f32) (harg8 : arg8.IsWhole)
    (x0 : Vec F S256x1024 .f32) (x1 : Vec F S1x1024 .f32) (x2 : Vec F S1x3584 .f32) (g0 : Held (F := F) c hbM0) (y : S256x512.Idx) : ∃ pc ∈ (tileRun c i arg1 harg1 arg2 harg2 arg4 harg4 arg5 harg5 arg6 harg6 arg7 harg7 arg8 harg8 x0 x1 x2 g0).2.1, y ∈ pc.1.set :=
  View.cover_of_tiledL (tileRun c i arg1 harg1 arg2 harg2 arg4 harg4 arg5 harg5 arg6 harg6 arg7 harg7 arg8 harg8 x0 x1 x2 g0).2.1 S256x512.size (by sl_kernel_rfl) y
abbrev VO4 : View sig .tc .vmem S256x512 .f32 := (Memref.whole cc0_stg4_0 : Memref sig .tc .vmem S256x512 .f32).view

/-- The stores into output 2 cover its block, so what the block held before is gone. -/
theorem cover5 (c : Dev nD) (i : grid0.Coords) (arg1 : Memref sig .tc .vmem S256x1024 .f32) (harg1 : arg1.IsWhole) (arg2 : Memref sig .tc .vmem S1x1024 .f32) (harg2 : arg2.IsWhole) (arg4 : Memref sig .tc .vmem S1x3584 .f32) (harg4 : arg4.IsWhole) (arg5 : Memref sig .tc .vmem S256x1024 .bf16) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x2048 .f32) (harg8 : arg8.IsWhole)
    (x0 : Vec F S256x1024 .f32) (x1 : Vec F S1x1024 .f32) (x2 : Vec F S1x3584 .f32) (g0 : Held (F := F) c hbM0) (y : S256x1024.Idx) : ∃ pc ∈ (tileRun c i arg1 harg1 arg2 harg2 arg4 harg4 arg5 harg5 arg6 harg6 arg7 harg7 arg8 harg8 x0 x1 x2 g0).2.2.1, y ∈ pc.1.set :=
  View.cover_of_tiledBy (tileRun c i arg1 harg1 arg2 harg2 arg4 harg4 arg5 harg5 arg6 harg6 arg7 harg7 arg8 harg8 x0 x1 x2 g0).2.2.1 ![256, 128] (by sl_kernel_rfl) y
abbrev VO5 : View sig .tc .vmem S256x1024 .f32 := (Memref.whole cc0_stg5_0 : Memref sig .tc .vmem S256x1024 .f32).view

/-- The stores into output 3 cover its block, so what the block held before is gone. -/
theorem cover6 (c : Dev nD) (i : grid0.Coords) (arg1 : Memref sig .tc .vmem S256x1024 .f32) (harg1 : arg1.IsWhole) (arg2 : Memref sig .tc .vmem S1x1024 .f32) (harg2 : arg2.IsWhole) (arg4 : Memref sig .tc .vmem S1x3584 .f32) (harg4 : arg4.IsWhole) (arg5 : Memref sig .tc .vmem S256x1024 .bf16) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x2048 .f32) (harg8 : arg8.IsWhole)
    (x0 : Vec F S256x1024 .f32) (x1 : Vec F S1x1024 .f32) (x2 : Vec F S1x3584 .f32) (g0 : Held (F := F) c hbM0) (y : S256x2048.Idx) : ∃ pc ∈ (tileRun c i arg1 harg1 arg2 harg2 arg4 harg4 arg5 harg5 arg6 harg6 arg7 harg7 arg8 harg8 x0 x1 x2 g0).2.2.2.1, y ∈ pc.1.set :=
  View.cover_of_tiledBy (tileRun c i arg1 harg1 arg2 harg2 arg4 harg4 arg5 harg5 arg6 harg6 arg7 harg7 arg8 harg8 x0 x1 x2 g0).2.2.2.1 ![256, 128] (by sl_kernel_rfl) y
abbrev VO6 : View sig .tc .vmem S256x2048 .f32 := (Memref.whole cc0_stg6_0 : Memref sig .tc .vmem S256x2048 .f32).view

abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x3584 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x2048 .f32 := win0_6.stage (cfg0.slots t 6)
abbrev hs6 (t : Fin cfg0.N) : (ms6 t).IsWhole := hstage0_6 ((cfg0.slots t 6).cast nbuf0_6)

/-- The body's run at grid step `t`, on that step's blocks. -/
abbrev runAt (c : Dev nD) (t : Fin cfg0.N) := tileRun c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (V m c main_v3)

/-- What grid step `t` leaves in output 0's block. -/
def left3 (c : Dev nD) (t : Fin cfg0.N) : Vec F S256x1024 .bf16 := VO3.read (Elt F) (VO3.writes (Elt F) VO3.junk (runAt m c t).1)

/-- What grid step `t` leaves in output 1's block. -/
def left4 (c : Dev nD) (t : Fin cfg0.N) : Vec F S256x512 .f32 := VO4.read (Elt F) (VO4.writes (Elt F) VO4.junk (runAt m c t).2.1)

/-- What grid step `t` leaves in output 2's block. -/
def left5 (c : Dev nD) (t : Fin cfg0.N) : Vec F S256x1024 .f32 := VO5.read (Elt F) (VO5.writes (Elt F) VO5.junk (runAt m c t).2.2.1)

/-- What grid step `t` leaves in output 3's block. -/
def left6 (c : Dev nD) (t : Fin cfg0.N) : Vec F S256x2048 .f32 := VO6.read (Elt F) (VO6.writes (Elt F) VO6.junk (runAt m c t).2.2.2.1)

/-- The semaphores of the copies. -/
abbrev osem : Fin 4 → SemLoc sig := fun j => (![SemLoc.dma 12, SemLoc.dma 13, SemLoc.dma 14, SemLoc.dma 15] : Fin 4 → SemLoc sig) j
theorem osem_facts : Pipeline.OwnSemFacts spec0 osem := by decide
theorem osem_eq (c : Dev nD) :
    (Pipeline.ownSems0 (Ix := Unit) (Name := ℕ) (U := Pipeline.UD sig nD τ) (Lvl := ℕ) (Val := Elt F) (τ := τ) osem c : sProp 𝕄) = iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) := by
  rw [Pipeline.ownSems0_eq_of_list c osem [0, 1, 2, 3] (by decide) (by decide)]; rfl

/-- The weights as the call finds them. -/
def weights : Finset (Ref sig .tc) := {main_v3}
theorem weights_sub : weights ⊆ Pipeline.restRefs sig spec0 := by decide
theorem weights_eq (c : Dev nD) :
    (bigSep weights (fun b => ((c : Thread nD τ).loc b) ↦{fullShare} V m c b) : sProp 𝕄) = iprop(held (F := F) c hbM0 (V m c main_v3)) := by
  rw [BI.bigSep_eq_bigSepL_of_eq [main_v3] (by decide) (by decide)]; rfl

/-- What is held before the first step, and between steps. -/
theorem start_eq (c : Dev nD) :
    (Pipeline.ΦD osem spec0 weights (V m) c : sProp 𝕄) = iprop(((∃ f, held (F := F) c scM0 f)) ∗ (∃ r, prngReg c r) ∗ (semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ (held (F := F) c hbM0 (V m c main_v3))) := by
  rw [Pipeline.ΦD_eq, scopedRest0_eq, osem_eq, weights_eq]; try rfl
def between (c : Dev nD) (n : ℕ) : sProp 𝕄 :=
  if n = 0 then Pipeline.ΦD osem spec0 weights (V m) c
  else iprop((held (F := F) c scM0 (V m c main_v3)) ∗ (∃ r, prngReg c r) ∗ (semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ (held (F := F) c hbM0 (V m c main_v3)))

/-- The call's proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => left3 m c t
    | ⟨4, _⟩ => left4 m c t
    | ⟨5, _⟩ => left5 m c t
    | ⟨6, _⟩ => left6 m c t
  Φ n := between m c n.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = left3 m c t := by dsimp only [dats]
theorem after4 (c : Dev nD) (t : Fin cfg0.N) : (dats m 0 c).after 4 t = left4 m c t := by dsimp only [dats]
theorem after5 (c : Dev nD) (t : Fin cfg0.N) : (dats m 0 c).after 5 t = left5 m c t := by dsimp only [dats]
theorem after6 (c : Dev nD) (t : Fin cfg0.N) : (dats m 0 c).after 6 t = left6 m c t := by dsimp only [dats]
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

set_option maxHeartbeats 1600000 in
/-- The body at grid step `t`, from what the step is given to what it leaves. -/
theorem sound_body (c : Dev nD) (t : Fin cfg0.N) :
    iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)))
    ⊢ wp frame (wpE (defs₀ (F := F)) Variants.none c none) Set.univ (bodyAt0 t)
      (fun _ => iprop((dats m 0 c).Φ t.succ ∗ (dats m 0 c).owesAt () t.succ ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t))) := by
  unfold bodyAt0
  simp only [before0, before1, before2]
  rw [after0, after1, after2, after3, after4, after5, after6]
  rw [show (dats m 0 c).Φ t.castSucc = between m c t.val from rfl, show (dats m 0 c).Φ t.succ = between m c (t.val + 1) from rfl]
  rw [show between m c (t.val + 1) = iprop((held (F := F) c scM0 (V m c main_v3)) ∗ (∃ r, prngReg c r) ∗ (semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ (held (F := F) c hbM0 (V m c main_v3))) from if_neg (Nat.succ_ne_zero _)]
  unfold left3 left4 left5 left6 Dat.owesAt Pipeline.owesWithin
  rw [show (dats m 0 c).owed t.castSucc = 0 from rfl, show (dats m 0 c).owed t.succ = 0 from rfl]
  by_cases h0 : t.val = 0
  · rw [show between m c t.val = Pipeline.ΦD osem spec0 weights (V m) c from if_pos h0, start_eq]
    iintro ⟨⟨HS0, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
    iapply ((runAt m c t).2.2.2.2 W _ _ (.inr ⟨(atFirst_iff t).mpr h0, rfl⟩))
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [HS0]; · iexact HS0
    isplitl [Hq0 Hq1 Hq2 Hq3]
    · isplitl [Hq0]; · iexact Hq0
      isplitl [Hq1]; · iexact Hq1
      isplitl [Hq2]; · iexact Hq2
      iexact Hq3
    isplitl [Hh0]; · iexact Hh0
    isplitl [HW]; · iexact HW
    iintro ⟨H0, H1, H2, ⟨%e3, H3⟩, ⟨%e4, H4⟩, ⟨%e5, H5⟩, ⟨%e6, H6⟩, HS0, ⟨Hq0, Hq1, Hq2, Hq3⟩, Hh0, ⟨%W', HW'⟩⟩
    isplitl [HS0 Hg Hq0 Hq1 Hq2 Hq3 Hh0]
    · isplitl [HS0]; · iexact HS0
      isplitl [Hg]; · iexact Hg
      isplitl [Hq0 Hq1 Hq2 Hq3]
      · isplitl [Hq0]; · iexact Hq0
        isplitl [Hq1]; · iexact Hq1
        isplitl [Hq2]; · iexact Hq2
        iexact Hq3
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]
    · unfold owns; iexists _; isplitr
      swap; · iexact H3
      ipureintro; exact View.read_writes_of_cover _ _ _ _ _ (cover3 c _ _ _ _ _ _ _ _ _ _ _ _ _ _ _ _ _ _ _ )
    isplitl [H4]
    · unfold owns; iexists _; isplitr
      swap; · iexact H4
      ipureintro; exact View.read_writes_of_cover _ _ _ _ _ (cover4 c _ _ _ _ _ _ _ _ _ _ _ _ _ _ _ _ _ _ _ )
    isplitl [H5]
    · unfold owns; iexists _; isplitr
      swap; · iexact H5
      ipureintro; exact View.read_writes_of_cover _ _ _ _ _ (cover5 c _ _ _ _ _ _ _ _ _ _ _ _ _ _ _ _ _ _ _ )
    unfold owns; iexists _; isplitr
    swap; · iexact H6
    ipureintro; exact View.read_writes_of_cover _ _ _ _ _ (cover6 c _ _ _ _ _ _ _ _ _ _ _ _ _ _ _ _ _ _ _ )
  · rw [show between m c t.val = iprop((held (F := F) c scM0 (V m c main_v3)) ∗ (∃ r, prngReg c r) ∗ (semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ (held (F := F) c hbM0 (V m c main_v3))) from if_neg h0]
    iintro ⟨⟨HS0, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
    iapply ((runAt m c t).2.2.2.2 W _ _ (.inl ⟨fun h => h0 ((atFirst_iff t).mp h), rfl⟩))
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [HS0]; · iexact HS0
    isplitl [Hq0 Hq1 Hq2 Hq3]
    · isplitl [Hq0]; · iexact Hq0
      isplitl [Hq1]; · iexact Hq1
      isplitl [Hq2]; · iexact Hq2
      iexact Hq3
    isplitl [Hh0]; · iexact Hh0
    isplitl [HW]; · iexact HW
    iintro ⟨H0, H1, H2, ⟨%e3, H3⟩, ⟨%e4, H4⟩, ⟨%e5, H5⟩, ⟨%e6, H6⟩, HS0, ⟨Hq0, Hq1, Hq2, Hq3⟩, Hh0, ⟨%W', HW'⟩⟩
    isplitl [HS0 Hg Hq0 Hq1 Hq2 Hq3 Hh0]
    · isplitl [HS0]; · iexact HS0
      isplitl [Hg]; · iexact Hg
      isplitl [Hq0 Hq1 Hq2 Hq3]
      · isplitl [Hq0]; · iexact Hq0
        isplitl [Hq1]; · iexact Hq1
        isplitl [Hq2]; · iexact Hq2
        iexact Hq3
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]
    · unfold owns; iexists _; isplitr
      swap; · iexact H3
      ipureintro; exact View.read_writes_of_cover _ _ _ _ _ (cover3 c _ _ _ _ _ _ _ _ _ _ _ _ _ _ _ _ _ _ _ )
    isplitl [H4]
    · unfold owns; iexists _; isplitr
      swap; · iexact H4
      ipureintro; exact View.read_writes_of_cover _ _ _ _ _ (cover4 c _ _ _ _ _ _ _ _ _ _ _ _ _ _ _ _ _ _ _ )
    isplitl [H5]
    · unfold owns; iexists _; isplitr
      swap; · iexact H5
      ipureintro; exact View.read_writes_of_cover _ _ _ _ _ (cover5 c _ _ _ _ _ _ _ _ _ _ _ _ _ _ _ _ _ _ _ )
    unfold owns; iexists _; isplitr
    swap; · iexact H6
    ipureintro; exact View.read_writes_of_cover _ _ _ _ _ (cover6 c _ _ _ _ _ _ _ _ _ _ _ _ _ _ _ _ _ _ _ )

theorem row_eq (t : Fin cfg0.N) : defs₀ (F := F) .tc cfg0.body (cfg0.bodyArgs t (cfg0.slots t)) = bodyAt0 t := by
  unfold defs₀; rw [Defs.onTc_tc]

/-- The body meets its obligation at every step. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

theorem enter (c : Dev nD) : Pipeline.ΦD osem spec0 weights (V m) c ⊢ (dats m 0 c).Φ 0 := by
  rw [show (dats m 0 c).Φ 0 = between m c 0 from rfl, show between m c 0 = Pipeline.ΦD osem spec0 weights (V m) c from if_pos rfl]

theorem leave (c : Dev nD) : (dats m 0 c).Φ (Fin.last cfg0.N) ⊢ Pipeline.ΦD osem spec0 weights (V m) c := by
  rw [show (dats m 0 c).Φ (Fin.last cfg0.N) = between m c cfg0.N from rfl, show between m c cfg0.N = iprop((held (F := F) c scM0 (V m c main_v3)) ∗ (∃ r, prngReg c r) ∗ (semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ (held (F := F) c hbM0 (V m c main_v3))) from if_neg (by rw [show cfg0.N = 8 from N_0]; decide), start_eq]
  iintro ⟨HS0, Hg⟩
  isplitl [HS0]
  · iexists _; iexact HS0
  iexact Hg

theorem reach (𝒱 : Variants) : Pipeline.HMain (Ix := Unit) (Name := ℕ) (U := Pipeline.UD sig nD τ) (Lvl := ℕ) cfgs 0 defs₀ 𝒱 m (main (F := F)) (V m) :=
  Pipeline.hmain_prefix cfgs 0 defs₀ 𝒱 m main hostOps0 hostOps0_sub hostOps0_fresh main_chain

set_option backward.isDefEq.respectTransparency.types false in
set_option maxHeartbeats 800000 in
/-- The whole run: it ends, with the arrays as the proof data say and no signal left. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ Variants.none osem_facts weights weights_sub m ρ main
    (hbody := fun c => (body_obligation m c).loose) (hshare := fun c => (dats m 0 c).share_full fun _ => rfl)
    (howed := fun _ _ => rfl) (V := V m) (hmain := reach m Variants.none) (hA := A_eq m) (hin := enter m) (hout := leave m)

/-- The arguments end as they began and no signal is left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3))
      ∧ r.2.sem = fun _ => 0) :=
  (θ_run defs _ _).mono (fun _ hh => ⟨fun c => by
    have h := hh.1
    exact ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩, hh.2⟩) (run_main m ρ)

end Cert.Kernel19Ideal.Resident

end
-- ==== Proof.InProj.lean ====
module

public import proofs.«01_k».proof.Defs
public import proofs.«01_k».proof.Proof.Chunks
public import proofs.«01_k».proof.Proof.Norm
public import proofs.«01_k».proof.Proof.InProjRun
public import proofs.«01_k».proof.Proof.Gen.Reference19Ideal.Run
public import proofs.«01_k».proof.Proof.Gen.Reference19Ideal.Read

/-! The input projection: each grid step writes the normalised rows and, chunk of the weights by chunk, the
projection's columns into the three parts they belong to, which are the reference's. -/

@[expose] public section

set_option maxRecDepth 16384

noncomputable section

namespace Cert.Proof.InProj

open Cert.Kernel19Ideal Cert.Kernel19Ideal.Gen Cert.Kernel19Ideal.Resident Idealize.ShloMosaic.TcCoe Idealize.SL.Sem
open Idealize.ShloMosaic hiding ix1 ix2 ix3 eq_ix2
open Idealize.ShloMosaic.ValueIdx
open Idealize.ShloMosaic.Pipeline (Dat)

variable (m : (ℓ : Loc nD τ sig) → Buf (Elt Ideal) ℓ)

/-! ## The results, in the arguments -/

abbrev a0 (c : Dev nD) : S2048x1024.Idx → EReal := m ((c : Thread nD τ).loc main_arg0)
abbrev a1 (c : Dev nD) : S1024.Idx → EReal := m ((c : Thread nD τ).loc main_arg1)
abbrev a2 (c : Dev nD) : S1024x3584.Idx → EReal := m ((c : Thread nD τ).loc main_arg2)
abbrev a3 (c : Dev nD) : S3584.Idx → EReal := m ((c : Thread nD τ).loc main_arg3)

/-- The normalised rows, and their projection. -/
def h1 (c : Dev nD) (n : Fin 2048) (k : Fin 1024) : EReal := Norm.normed (a0 m c) (fun k => a1 m c (ix1 k)) n k
def proj (c : Dev nD) (n : Fin 2048) (j : Fin 3584) : EReal := (∑ k : Fin 1024, h1 m c n k * a2 m c (ix2 k j)) + a3 m c (ix1 j)
/-- Column `j` of the part of the projection that starts at column `b`. -/
def col {w : ℕ} (b : ℕ) (h : b + w ≤ 3584) (j : Fin w) : Fin 3584 := ⟨b + j.val, by omega⟩
def G3 (c : Dev nD) : Buf (Elt Ideal) ((c : Thread nD τ).loc main_v5_0) := fun (i : S2048x1024.Idx) => (h1 m c (i 0) (i 1) : EReal)
def G4 (c : Dev nD) : Buf (Elt Ideal) ((c : Thread nD τ).loc main_v5_1) := fun (i : S2048x512.Idx) => (proj m c (i 0) (col (w := 512) 0 (by omega) (i 1)) : EReal)
def G5 (c : Dev nD) : Buf (Elt Ideal) ((c : Thread nD τ).loc main_v5_2) := fun (i : S2048x1024.Idx) => (proj m c (i 0) (col (w := 1024) 512 (by omega) (i 1)) : EReal)
def G6 (c : Dev nD) : Buf (Elt Ideal) ((c : Thread nD τ).loc main_v5_3) := fun (i : S2048x2048.Idx) => (proj m c (i 0) (col (w := 2048) 1536 (by omega) (i 1)) : EReal)

/-! ## What the launch finds in its operands -/

theorem operand1 (c : Dev nD) (k : Fin 1024) : (V m c main_v0 : S1x1024.Idx → EReal) (ix2 0 k) = a1 m c (ix1 k) := by
  rw [show V m c main_v0 = shapeCast S1x1024 (m ((c : Thread nD τ).loc main_arg1) : FVec Ideal S1024 .f32) shapeCasts_S1024_S1x1024 by rfl]
  refine shapeCast_apply _ _ (ix2 0 k) (ix1 k) ?_
  rewrite [Shape.rowMajor_val_two, Shape.rowMajor_val_one]
  show k.val = 0 * 1024 + k.val
  omega

theorem operand2 (c : Dev nD) (j : Fin 3584) : (V m c main_v4 : S1x3584.Idx → EReal) (ix2 0 j) = a3 m c (ix1 j) := by
  rw [show V m c main_v4 = shapeCast S1x3584 (m ((c : Thread nD τ).loc main_arg3) : FVec Ideal S3584 .f32) shapeCasts_S3584_S1x3584 by rfl]
  refine shapeCast_apply _ _ (ix2 0 j) (ix1 j) ?_
  rewrite [Shape.rowMajor_val_two, Shape.rowMajor_val_one]
  show j.val = 0 * 3584 + j.val
  omega

theorem operandW (c : Dev nD) (q : Fin 4) (i : Fin 1024) (k : Fin 896) (j : Fin 3584) (h : j.val = q.val * 896 + k.val) :
    (V m c main_v3 : S4x1024x896.Idx → EReal) (ix3 q i k) = a2 m c (ix2 i j) := by
  rw [show V m c main_v3 = transpose S4x1024x896 [1, 0, 2] (shapeCast S1024x4x896
    (truncf .bf16 (m ((c : Thread nD τ).loc main_arg2)) bitsLt_bf16_f32 : FVec Ideal S1024x3584 .bf16) shapeCasts_S1024x3584_S1024x4x896) transposes_S1024x4x896_S4x1024x896_1_0_2 by
    rfl]
  exact Chunks.columns_at (by norm_num) _ _ _ q i k j h

/-! ## The windows' blocks -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

theorem block0 (c : Dev nD) (t : Fin cfg0.N) (r : Fin 256) (k : Fin 1024) (n : Fin 2048) (h : n.val = t.val * 256 + r.val) :
    (iblk m c 0 t : S256x1024.Idx → EReal) (ix2 r k) = a0 m c (ix2 n k) := by
  have e := idx0 t
  refine congrArg (V m c main_arg0) (funext fun a => Fin.ext ?_)
  match a with
  | ⟨0, _⟩ => refine Eq.trans (b := win0_0.index t (0 : Fin 2) * 256 + 1 * r.val) rfl ?_; rw [e]; refine Eq.trans ?_ h.symm; show t.val * 256 + 1 * r.val = t.val * 256 + r.val; omega
  | ⟨1, _⟩ => refine Eq.trans (b := win0_0.index t (1 : Fin 2) * 1024 + 1 * k.val) rfl ?_; rw [e]; show 0 * 1024 + 1 * k.val = k.val; omega

theorem block1 (c : Dev nD) (t : Fin cfg0.N) (k : Fin 1024) : (iblk m c 1 t : S1x1024.Idx → EReal) (ix2 0 k) = a1 m c (ix1 k) := by
  have e := idx1 t
  refine (congrArg (V m c main_v0) (funext fun a => Fin.ext ?_)).trans (operand1 m c k)
  match a with
  | ⟨0, _⟩ => refine Eq.trans (b := win0_1.index t (0 : Fin 2) * 1 + 1 * 0) rfl ?_; rw [e]; show 0 * 1 + 1 * 0 = 0; omega
  | ⟨1, _⟩ => refine Eq.trans (b := win0_1.index t (1 : Fin 2) * 1024 + 1 * k.val) rfl ?_; rw [e]; show 0 * 1024 + 1 * k.val = k.val; omega

theorem block2 (c : Dev nD) (t : Fin cfg0.N) (j : Fin 3584) : (iblk m c 2 t : S1x3584.Idx → EReal) (ix2 0 j) = a3 m c (ix1 j) := by
  have e := idx2 t
  refine (congrArg (V m c main_v4) (funext fun a => Fin.ext ?_)).trans (operand2 m c j)
  match a with
  | ⟨0, _⟩ => refine Eq.trans (b := win0_2.index t (0 : Fin 2) * 1 + 1 * 0) rfl ?_; rw [e]; show 0 * 1 + 1 * 0 = 0; omega
  | ⟨1, _⟩ => refine Eq.trans (b := win0_2.index t (1 : Fin 2) * 3584 + 1 * j.val) rfl ?_; rw [e]; show 0 * 3584 + 1 * j.val = j.val; omega

theorem emb3 (t : Fin cfg0.N) (y : S256x1024.Idx) : (((cfg0.win 3).blk t).view.emb y 0).val = t.val * 256 + (y 0).val ∧ (((cfg0.win 3).blk t).view.emb y 1).val = (y 1).val := by
  constructor
  · refine Eq.trans (b := win0_3.index t (0 : Fin 2) * 256 + 1 * (y 0).val) rfl ?_
    rw [idx3 t]; show t.val * 256 + 1 * (y 0).val = t.val * 256 + (y 0).val; omega
  · refine Eq.trans (b := win0_3.index t (1 : Fin 2) * 1024 + 1 * (y 1).val) rfl ?_
    rw [idx3 t]; show 0 * 1024 + 1 * (y 1).val = (y 1).val; omega
theorem covered3 (i : S2048x1024.Idx) : ∃ t : Fin cfg0.N, (cfg0.win 3).flush t = true ∧ i ∈ ((cfg0.win 3).blk t).view.set := by
  have h0 : (i 0).val < 2048 := (i 0).isLt
  refine ⟨⟨(i 0).val / 256, lt_of_lt_of_eq (show (i 0).val / 256 < 8 by omega) (show 8 = cfg0.N from N_0.symm)⟩, flush0_3 _, ?_⟩
  have hm : ∀ t : Fin cfg0.N, i ∈ ((cfg0.win 3).blk t).view.set ↔ ∀ a : Fin 2, win0_3.index t a * S256x1024.size a ≤ (i a).val ∧ (i a).val < win0_3.index t a * S256x1024.size a + S256x1024.size a := fun t => by
    show i ∈ ((View.whole main_v5_0).slice (win0_3.rect t)).set ↔ _
    rw [View.set_slice_whole, Rect.mem_set_unit]
    exact Iff.rfl
  exact (hm _).mpr (Chunks.in_rows (W := 1024) i _ (idx3 _))

theorem emb4 (t : Fin cfg0.N) (y : S256x512.Idx) : (((cfg0.win 4).blk t).view.emb y 0).val = t.val * 256 + (y 0).val ∧ (((cfg0.win 4).blk t).view.emb y 1).val = (y 1).val := by
  constructor
  · refine Eq.trans (b := win0_4.index t (0 : Fin 2) * 256 + 1 * (y 0).val) rfl ?_
    rw [idx4 t]; show t.val * 256 + 1 * (y 0).val = t.val * 256 + (y 0).val; omega
  · refine Eq.trans (b := win0_4.index t (1 : Fin 2) * 512 + 1 * (y 1).val) rfl ?_
    rw [idx4 t]; show 0 * 512 + 1 * (y 1).val = (y 1).val; omega
theorem covered4 (i : S2048x512.Idx) : ∃ t : Fin cfg0.N, (cfg0.win 4).flush t = true ∧ i ∈ ((cfg0.win 4).blk t).view.set := by
  have h0 : (i 0).val < 2048 := (i 0).isLt
  refine ⟨⟨(i 0).val / 256, lt_of_lt_of_eq (show (i 0).val / 256 < 8 by omega) (show 8 = cfg0.N from N_0.symm)⟩, flush0_4 _, ?_⟩
  have hm : ∀ t : Fin cfg0.N, i ∈ ((cfg0.win 4).blk t).view.set ↔ ∀ a : Fin 2, win0_4.index t a * S256x512.size a ≤ (i a).val ∧ (i a).val < win0_4.index t a * S256x512.size a + S256x512.size a := fun t => by
    show i ∈ ((View.whole main_v5_1).slice (win0_4.rect t)).set ↔ _
    rw [View.set_slice_whole, Rect.mem_set_unit]
    exact Iff.rfl
  exact (hm _).mpr (Chunks.in_rows (W := 512) i _ (idx4 _))

theorem emb5 (t : Fin cfg0.N) (y : S256x1024.Idx) : (((cfg0.win 5).blk t).view.emb y 0).val = t.val * 256 + (y 0).val ∧ (((cfg0.win 5).blk t).view.emb y 1).val = (y 1).val := by
  constructor
  · refine Eq.trans (b := win0_5.index t (0 : Fin 2) * 256 + 1 * (y 0).val) rfl ?_
    rw [idx5 t]; show t.val * 256 + 1 * (y 0).val = t.val * 256 + (y 0).val; omega
  · refine Eq.trans (b := win0_5.index t (1 : Fin 2) * 1024 + 1 * (y 1).val) rfl ?_
    rw [idx5 t]; show 0 * 1024 + 1 * (y 1).val = (y 1).val; omega
theorem covered5 (i : S2048x1024.Idx) : ∃ t : Fin cfg0.N, (cfg0.win 5).flush t = true ∧ i ∈ ((cfg0.win 5).blk t).view.set := by
  have h0 : (i 0).val < 2048 := (i 0).isLt
  refine ⟨⟨(i 0).val / 256, lt_of_lt_of_eq (show (i 0).val / 256 < 8 by omega) (show 8 = cfg0.N from N_0.symm)⟩, flush0_5 _, ?_⟩
  have hm : ∀ t : Fin cfg0.N, i ∈ ((cfg0.win 5).blk t).view.set ↔ ∀ a : Fin 2, win0_5.index t a * S256x1024.size a ≤ (i a).val ∧ (i a).val < win0_5.index t a * S256x1024.size a + S256x1024.size a := fun t => by
    show i ∈ ((View.whole main_v5_2).slice (win0_5.rect t)).set ↔ _
    rw [View.set_slice_whole, Rect.mem_set_unit]
    exact Iff.rfl
  exact (hm _).mpr (Chunks.in_rows (W := 1024) i _ (idx5 _))

theorem emb6 (t : Fin cfg0.N) (y : S256x2048.Idx) : (((cfg0.win 6).blk t).view.emb y 0).val = t.val * 256 + (y 0).val ∧ (((cfg0.win 6).blk t).view.emb y 1).val = (y 1).val := by
  constructor
  · refine Eq.trans (b := win0_6.index t (0 : Fin 2) * 256 + 1 * (y 0).val) rfl ?_
    rw [idx6 t]; show t.val * 256 + 1 * (y 0).val = t.val * 256 + (y 0).val; omega
  · refine Eq.trans (b := win0_6.index t (1 : Fin 2) * 2048 + 1 * (y 1).val) rfl ?_
    rw [idx6 t]; show 0 * 2048 + 1 * (y 1).val = (y 1).val; omega
theorem covered6 (i : S2048x2048.Idx) : ∃ t : Fin cfg0.N, (cfg0.win 6).flush t = true ∧ i ∈ ((cfg0.win 6).blk t).view.set := by
  have h0 : (i 0).val < 2048 := (i 0).isLt
  refine ⟨⟨(i 0).val / 256, lt_of_lt_of_eq (show (i 0).val / 256 < 8 by omega) (show 8 = cfg0.N from N_0.symm)⟩, flush0_6 _, ?_⟩
  have hm : ∀ t : Fin cfg0.N, i ∈ ((cfg0.win 6).blk t).view.set ↔ ∀ a : Fin 2, win0_6.index t a * S256x2048.size a ≤ (i a).val ∧ (i a).val < win0_6.index t a * S256x2048.size a + S256x2048.size a := fun t => by
    show i ∈ ((View.whole main_v5_3).slice (win0_6.rect t)).set ↔ _
    rw [View.set_slice_whole, Rect.mem_set_unit]
    exact Iff.rfl
  exact (hm _).mpr (Chunks.in_rows (W := 2048) i _ (idx6 _))

/-! ## What a grid step computes -/

abbrev weightOf (w : Vec Ideal S4x1024x896 .bf16) (q : ℕ) (h : ∀ a, (![q, 0, 0] : Fin 3 → ℕ) a + S1x1024x896.size a ≤ S4x1024x896.size a) : Vec Ideal S1x1024x896 .bf16 :=
  View.ld w (Rect.unit (s := S4x1024x896) ![q, 0, 0] S1x1024x896.size h)
abbrev biasOf (b : Vec Ideal S1x3584 .f32) (o : ℕ) (h : ∀ a, (![0, o] : Fin 2 → ℕ) a + S1x896.size a ≤ S1x3584.size a) : Vec Ideal S1x896 .f32 :=
  View.ld b (Rect.unit (s := S1x3584) ![0, o] S1x896.size h)

/-- The normalised rows of a block, read at an index. -/
theorem normed_at (x : Vec Ideal S256x1024 .f32) (g : Vec Ideal S1x1024 .f32) (r : Fin 256) (k : Fin 1024) :
    (k0_pay2 (F := Ideal) x g (ix2 r k) : EReal) = Norm.normed (M := 256) x (fun k => g (ix2 0 k)) r k :=
  Norm.normed_at x g _ _ _ _ _ _ _ r k

/-! The parts a step stores, over the columns one chunk gives. -/
section Parts
variable (x : Vec Ideal S256x1024 .f32) (g : Vec Ideal S1x1024 .f32) (h : FVec Ideal S256x1024 .bf16) (w : Vec Ideal S1x1024x896 .bf16) (b : Vec Ideal S1x896 .f32)
theorem part_first : k0_pay6 (F := Ideal) (k0_pay5 x g w b) = extractStridedSlice S256x512 ![0, 0] (k0_pay8 (k0_pay2 x g) w b) slices_S256x896_o0_0_S256x512 := by
  unfold k0_pay6
  rw [shapeCast_self]
  rfl
theorem part_chunk0 : k0_pay4 (F := Ideal) x g w b = k0_pay8 (k0_pay2 x g) w b := rfl
theorem part_cut (z : FVec Ideal S256x896 .f32) : k0_pay7 (F := Ideal) z = extractStridedSlice S256x384 ![0, 512] z slices_S256x896_o0_512_S256x384 := by
  unfold k0_pay7
  exact shapeCast_self _ _
theorem part_chunk1 : k0_pay9 (F := Ideal) h w b = extractStridedSlice S256x640 ![0, 0] (k0_pay8 h w b) slices_S256x896_o0_0_S256x640 := by
  unfold k0_pay9
  exact shapeCast_self _ _
theorem part_rest1 : k0_pay10 (F := Ideal) h w b = extractStridedSlice S256x256 ![0, 640] (k0_pay8 h w b) slices_S256x896_o0_640_S256x256 := rfl
theorem part_chunk2 : k0_pay11 (F := Ideal) h w b = k0_pay8 h w b := rfl
theorem part_chunk3 : k0_pay1 (F := Ideal) (k0_pay12 h w) b = k0_pay8 h w b := rfl
theorem resident_load (r : Rect S4x1024x896) (X : S4x1024x896.Idx → Elt Ideal .bf16) : View.readAt (Elt Ideal) scM0.view r.toLoadRect X = View.ld X r := rfl
end Parts

/-- A block's projection, all columns. -/
def whole (h : FVec Ideal S256x1024 .bf16) (w : Vec Ideal S4x1024x896 .bf16) (b : Vec Ideal S1x3584 .f32) (r : Fin 256) (j : Fin 3584) : EReal :=
  (∑ k : Fin 1024, (h (ix2 r k) : EReal) * w (ix3 (⟨j.val / 896, by omega⟩ : Fin 4) k (⟨j.val % 896, by omega⟩ : Fin 896))) + b (ix2 0 j)

/-- The columns that one chunk of the weights gives, read at an index. -/
theorem chunk_cols (h : FVec Ideal S256x1024 .bf16) (w : Vec Ideal S4x1024x896 .bf16) (b : Vec Ideal S1x3584 .f32) (q o : ℕ) (hq : q < 4) (ho : o = q * 896) (hw) (hb)
    (r : Fin 256) (j : Fin 896) (J : Fin 3584) (hJ : J.val = o + j.val) :
    (k0_pay8 (F := Ideal) h (weightOf w q hw) (biasOf b o hb) (ix2 r j) : EReal) = whole h w b r J := by
  unfold k0_pay8
  rw [shapeCast_self (biasOf b o hb)]
  refine congrArg₂ (fun a b : EReal => a + b) ?_ ((Norm.spread_row _ broadcasts_S1x896_S256x896 r j).trans (congrArg b (funext fun a => Fin.ext ?_)))
  · refine (Shared.product_nn (M := 256) (K := 1024) (N := 896) (φ₁ := .bf16) (φ₂ := .bf16) _ _ r j).trans (Finset.sum_congr rfl fun k _ => congrArg (fun b : EReal => (h (ix2 r k) : EReal) * b) ?_)
    refine ((Chunks.matrix_at _ _ k j).trans (Chunks.slab_at w q hq hw k j)).trans (congrArg w (funext fun a => Fin.ext ?_))
    match a with
    | ⟨0, _⟩ => show q = J.val / 896; omega
    | ⟨1, _⟩ => rfl
    | ⟨2, _⟩ => show j.val = J.val % 896; omega
  · match a with
    | ⟨0, _⟩ => rfl
    | ⟨1, _⟩ => show o + 1 * j.val = J.val; omega

/-- The same of columns cut out of a chunk's and stored at column `p` of a part that starts at column `s`. -/
theorem cut_cols {W N : ℕ} (h : FVec Ideal S256x1024 .bf16) (w : Vec Ideal S4x1024x896 .bf16) (b : Vec Ideal S1x3584 .f32) (q o d p s : ℕ) (hq : q < 4) (ho : o = q * 896) (hw) (hb)
    (hN : s + N ≤ 3584) (hd : s + p = o + d) (hs : S256x896.Slices ![0, d] ⟨2, ![256, W]⟩) (hr : ∀ a, (![0, p] : Fin 2 → ℕ) a + (![256, W] : Fin 2 → ℕ) a ≤ (![256, N] : Fin 2 → ℕ) a)
    (z : (⟨2, ![256, W]⟩ : Shape).Idx) :
    (extractStridedSlice ⟨2, ![256, W]⟩ ![0, d] (k0_pay8 (F := Ideal) h (weightOf w q hw) (biasOf b o hb)) hs z : EReal)
      = (fun y : (⟨2, ![256, N]⟩ : Shape).Idx => whole h w b (y 0) (col s hN (y 1))) ((Rect.unit (s := ⟨2, ![256, N]⟩) ![0, p] ![256, W] hr).emb z) := by
  have hW : d + W ≤ 896 := hs.2 1
  have hz0 : (z 0).val < 256 := (z 0).isLt
  have hz : (z 1).val < W := (z 1).isLt
  refine (extractStridedSlice_apply ![0, d] _ hs z (ix2 (⟨(z 0).val, hz0⟩ : Fin 256) (⟨d + (z 1).val, by omega⟩ : Fin 896)) (fun a => match a with
    | ⟨0, _⟩ => by show (z 0).val = 0 + (z 0).val; omega
    | ⟨1, _⟩ => rfl)).trans ((chunk_cols h w b q o hq ho hw hb _ _ (⟨s + (p + (z 1).val), by omega⟩ : Fin 3584) (by show s + (p + (z 1).val) = o + (d + (z 1).val); omega)).trans ?_)
  refine congrArg₂ (whole h w b) (Fin.ext ?_) (Fin.ext ?_)
  · show (z 0).val = 0 + 1 * (z 0).val; omega
  · show s + (p + (z 1).val) = s + (p + 1 * (z 1).val); omega

/-- The same of a whole chunk's columns. -/
theorem all_cols {N : ℕ} (h : FVec Ideal S256x1024 .bf16) (w : Vec Ideal S4x1024x896 .bf16) (b : Vec Ideal S1x3584 .f32) (q o p s : ℕ) (hq : q < 4) (ho : o = q * 896) (hw) (hb)
    (hN : s + N ≤ 3584) (hd : s + p = o) (hr : ∀ a, (![0, p] : Fin 2 → ℕ) a + (![256, 896] : Fin 2 → ℕ) a ≤ (![256, N] : Fin 2 → ℕ) a) (z : S256x896.Idx) :
    (k0_pay8 (F := Ideal) h (weightOf w q hw) (biasOf b o hb) z : EReal)
      = (fun y : (⟨2, ![256, N]⟩ : Shape).Idx => whole h w b (y 0) (col s hN (y 1))) ((Rect.unit (s := ⟨2, ![256, N]⟩) ![0, p] ![256, 896] hr).emb z) := by
  have hz : (z 1).val < 896 := (z 1).isLt
  refine (congrArg _ (eq_ix2 z)).trans ((chunk_cols h w b q o hq ho hw hb (z 0) (z 1) (⟨s + (p + (z 1).val), by omega⟩ : Fin 3584) (by show s + (p + (z 1).val) = o + (z 1).val; omega)).trans ?_)
  refine congrArg₂ (whole h w b) (Fin.ext ?_) (Fin.ext ?_)
  · show (z 0).val = 0 + 1 * (z 0).val; omega
  · show s + (p + (z 1).val) = s + (p + 1 * (z 1).val); omega

/-- A block's projection is the whole one's rows. -/
theorem whole_at (c : Dev nD) (t : Fin cfg0.N) (r : Fin 256) (j : Fin 3584) (n : Fin 2048) (h : n.val = t.val * 256 + r.val) :
    whole (k0_pay2 (F := Ideal) (iblk m c 0 t) (iblk m c 1 t)) (V m c main_v3) (iblk m c 2 t) r j = proj m c n j := by
  refine congrArg₂ (fun a b : EReal => a + b) (Finset.sum_congr rfl fun k _ => congrArg₂ (fun a b : EReal => a * b) ?_ (operandW m c _ k _ j ?_)) (block2 m c t j)
  · refine (normed_at (iblk m c 0 t) (iblk m c 1 t) r k).trans ?_
    unfold h1 Norm.normed
    simp only [block0 m c t r _ n h, block1 m c t]
  · show j.val = j.val / 896 * 896 + j.val % 896; omega

theorem left3_at (c : Dev nD) (t : Fin cfg0.N) (r : Fin 256) (k : Fin 1024) (n : Fin 2048) (h : n.val = t.val * 256 + r.val) :
    (left3 m c t (ix2 r k) : EReal) = h1 m c n k := by
  unfold left3
  rw [View.read_writes_junk_eq_canon]
  dsimp only [runAt, tileRun]
  rw [View.canon_unit_zero (S := S256x1024) Chunks.zero2]
  unfold k0_pay3
  rw [Chunks.load_whole (S := S256x1024) (hs0 t) Chunks.zero2, Chunks.load_whole (S := S1x1024) (hs1 t) Chunks.zero2, shapeCast_self]
  refine (normed_at (iblk m c 0 t) (iblk m c 1 t) r k).trans ?_
  unfold h1 Norm.normed
  simp only [block0 m c t r _ n h, block1 m c t]

theorem left4_at (c : Dev nD) (t : Fin cfg0.N) (y : S256x512.Idx) (n : Fin 2048) (h : n.val = t.val * 256 + (y 0).val) :
    (left4 m c t y : EReal) = proj m c n (col (w := 512) 0 (by omega) (y 1)) := by
  unfold left4
  rw [View.read_writes_junk_eq_canon]
  refine (View.canon_apply_of_pieces (Val := Elt Ideal) (e := .f32) (fun z : S256x512.Idx => whole (k0_pay2 (F := Ideal) (iblk m c 0 t) (iblk m c 1 t)) (V m c main_v3) (iblk m c 2 t) (z 0) (col (w := 512) 0 (by omega) (z 1))) _ ?_ y
    (cover4 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (V m c main_v3) y)).trans ?_
  · intro pc hpc
    dsimp only [runAt, tileRun] at hpc
    unfold tileRun.sl.r_2 at hpc

    rw [Chunks.load_whole (S := S256x1024) (hs0 t) Chunks.zero2, Chunks.load_whole (S := S1x1024) (hs1 t) Chunks.zero2] at hpc
    simp only [part_first, part_chunk0, part_cut, part_chunk1, part_rest1, part_chunk2, part_chunk3, Chunks.load, resident_load] at hpc

    rcases List.mem_cons.mp hpc with rfl | hpc
    · intro z
      exact cut_cols (W := 512) (N := 512) (k0_pay2 (F := Ideal) (iblk m c 0 t) (iblk m c 1 t)) (V m c main_v3) (iblk m c 2 t) 0 0 0 0 0 (by omega) rfl inb_S4x1024x896_S1x1024x896_0_0_0 inb_S1x3584_S1x896_0_0 (by omega) rfl slices_S256x896_o0_0_S256x512 inb_S256x512_S256x512_0_0 z
    · exact absurd hpc List.not_mem_nil
  · exact whole_at m c t (y 0) _ n h

theorem left5_at (c : Dev nD) (t : Fin cfg0.N) (y : S256x1024.Idx) (n : Fin 2048) (h : n.val = t.val * 256 + (y 0).val) :
    (left5 m c t y : EReal) = proj m c n (col (w := 1024) 512 (by omega) (y 1)) := by
  unfold left5
  rw [View.read_writes_junk_eq_canon]
  refine (View.canon_apply_of_pieces (Val := Elt Ideal) (e := .f32) (fun z : S256x1024.Idx => whole (k0_pay2 (F := Ideal) (iblk m c 0 t) (iblk m c 1 t)) (V m c main_v3) (iblk m c 2 t) (z 0) (col (w := 1024) 512 (by omega) (z 1))) _ ?_ y
    (cover5 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (V m c main_v3) y)).trans ?_
  · intro pc hpc
    dsimp only [runAt, tileRun] at hpc
    unfold tileRun.sl.r tileRun.sl.r_1 at hpc

    rw [Chunks.load_whole (S := S256x1024) (hs0 t) Chunks.zero2, Chunks.load_whole (S := S1x1024) (hs1 t) Chunks.zero2] at hpc
    simp only [part_first, part_chunk0, part_cut, part_chunk1, part_rest1, part_chunk2, part_chunk3, Chunks.load, resident_load] at hpc

    rcases List.mem_cons.mp hpc with rfl | hpc
    · intro z
      exact cut_cols (W := 640) (N := 1024) (k0_pay2 (F := Ideal) (iblk m c 0 t) (iblk m c 1 t)) (V m c main_v3) (iblk m c 2 t) 1 896 0 384 512 (by omega) rfl inb_S4x1024x896_S1x1024x896_1_0_0 inb_S1x3584_S1x896_0_896 (by omega) rfl slices_S256x896_o0_0_S256x640 inb_S256x1024_S256x640_0_384 z
    rcases List.mem_cons.mp hpc with rfl | hpc
    · intro z
      exact cut_cols (W := 384) (N := 1024) (k0_pay2 (F := Ideal) (iblk m c 0 t) (iblk m c 1 t)) (V m c main_v3) (iblk m c 2 t) 0 0 512 0 512 (by omega) rfl inb_S4x1024x896_S1x1024x896_0_0_0 inb_S1x3584_S1x896_0_0 (by omega) rfl slices_S256x896_o0_512_S256x384 inb_S256x1024_S256x384_0_0 z
    · exact absurd hpc List.not_mem_nil
  · exact whole_at m c t (y 0) _ n h

theorem left6_at (c : Dev nD) (t : Fin cfg0.N) (y : S256x2048.Idx) (n : Fin 2048) (h : n.val = t.val * 256 + (y 0).val) :
    (left6 m c t y : EReal) = proj m c n (col (w := 2048) 1536 (by omega) (y 1)) := by
  unfold left6
  rw [View.read_writes_junk_eq_canon]
  refine (View.canon_apply_of_pieces (Val := Elt Ideal) (e := .f32) (fun z : S256x2048.Idx => whole (k0_pay2 (F := Ideal) (iblk m c 0 t) (iblk m c 1 t)) (V m c main_v3) (iblk m c 2 t) (z 0) (col (w := 2048) 1536 (by omega) (z 1))) _ ?_ y
    (cover6 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (V m c main_v3) y)).trans ?_
  · intro pc hpc
    dsimp only [runAt, tileRun] at hpc
    unfold tileRun.sl.r_3 tileRun.sl.r at hpc

    rw [Chunks.load_whole (S := S256x1024) (hs0 t) Chunks.zero2, Chunks.load_whole (S := S1x1024) (hs1 t) Chunks.zero2] at hpc
    simp only [part_first, part_chunk0, part_cut, part_chunk1, part_rest1, part_chunk2, part_chunk3, Chunks.load, resident_load] at hpc

    rcases List.mem_cons.mp hpc with rfl | hpc
    · intro z
      exact all_cols (N := 2048) (k0_pay2 (F := Ideal) (iblk m c 0 t) (iblk m c 1 t)) (V m c main_v3) (iblk m c 2 t) 3 2688 1152 1536 (by omega) rfl inb_S4x1024x896_S1x1024x896_3_0_0 inb_S1x3584_S1x896_0_2688 (by omega) rfl inb_S256x2048_S256x896_0_1152 z
    rcases List.mem_cons.mp hpc with rfl | hpc
    · intro z
      exact all_cols (N := 2048) (k0_pay2 (F := Ideal) (iblk m c 0 t) (iblk m c 1 t)) (V m c main_v3) (iblk m c 2 t) 2 1792 256 1536 (by omega) rfl inb_S4x1024x896_S1x1024x896_2_0_0 inb_S1x3584_S1x896_0_1792 (by omega) rfl inb_S256x2048_S256x896_0_256 z
    rcases List.mem_cons.mp hpc with rfl | hpc
    · intro z
      exact cut_cols (W := 256) (N := 2048) (k0_pay2 (F := Ideal) (iblk m c 0 t) (iblk m c 1 t)) (V m c main_v3) (iblk m c 2 t) 1 896 640 0 1536 (by omega) rfl inb_S4x1024x896_S1x1024x896_1_0_0 inb_S1x3584_S1x896_0_896 (by omega) rfl slices_S256x896_o0_640_S256x256 inb_S256x2048_S256x256_0_0 z
    · exact absurd hpc List.not_mem_nil
  · exact whole_at m c t (y 0) _ n h

theorem flushed3_eq (c : Dev nD) (t : Fin cfg0.N) : (dats m 0 c).flushed 3 t = ((cfg0.win 3).blk t).view.read (Elt Ideal) (G3 m c) := by
  unfold Dat.flushed
  rw [after3]
  funext (y : S256x1024.Idx)
  have hc : (((cfg0.win 3).blk t).view.emb y 1 : Fin 1024) = y 1 := Fin.ext (emb3 t y).2
  show (left3 m c t y : EReal) = h1 m c (((cfg0.win 3).blk t).view.emb y 0) (((cfg0.win 3).blk t).view.emb y 1)
  rw [hc]
  exact Eq.trans (congrArg _ (show y = ix2 (y 0) (y 1) from eq_ix2 y)) (left3_at m c t (y 0) (y 1) _ (emb3 t y).1)
theorem final3 (c : Dev nD) : (dats m 0 c).arrAt 3 cfg0.N = G3 m c :=
  (dats m 0 c).arrAt_eq_of_cover 3 _ (fun t _ => flushed3_eq m c t) covered3

theorem flushed4_eq (c : Dev nD) (t : Fin cfg0.N) : (dats m 0 c).flushed 4 t = ((cfg0.win 4).blk t).view.read (Elt Ideal) (G4 m c) := by
  unfold Dat.flushed
  rw [after4]
  funext (y : S256x512.Idx)
  have hc : (((cfg0.win 4).blk t).view.emb y 1 : Fin 512) = y 1 := Fin.ext (emb4 t y).2
  show (left4 m c t y : EReal) = proj m c (((cfg0.win 4).blk t).view.emb y 0) (col (w := 512) 0 (by omega) (((cfg0.win 4).blk t).view.emb y 1))
  rw [hc]
  exact left4_at m c t y _ (emb4 t y).1
theorem final4 (c : Dev nD) : (dats m 0 c).arrAt 4 cfg0.N = G4 m c :=
  (dats m 0 c).arrAt_eq_of_cover 4 _ (fun t _ => flushed4_eq m c t) covered4

theorem flushed5_eq (c : Dev nD) (t : Fin cfg0.N) : (dats m 0 c).flushed 5 t = ((cfg0.win 5).blk t).view.read (Elt Ideal) (G5 m c) := by
  unfold Dat.flushed
  rw [after5]
  funext (y : S256x1024.Idx)
  have hc : (((cfg0.win 5).blk t).view.emb y 1 : Fin 1024) = y 1 := Fin.ext (emb5 t y).2
  show (left5 m c t y : EReal) = proj m c (((cfg0.win 5).blk t).view.emb y 0) (col (w := 1024) 512 (by omega) (((cfg0.win 5).blk t).view.emb y 1))
  rw [hc]
  exact left5_at m c t y _ (emb5 t y).1
theorem final5 (c : Dev nD) : (dats m 0 c).arrAt 5 cfg0.N = G5 m c :=
  (dats m 0 c).arrAt_eq_of_cover 5 _ (fun t _ => flushed5_eq m c t) covered5

theorem flushed6_eq (c : Dev nD) (t : Fin cfg0.N) : (dats m 0 c).flushed 6 t = ((cfg0.win 6).blk t).view.read (Elt Ideal) (G6 m c) := by
  unfold Dat.flushed
  rw [after6]
  funext (y : S256x2048.Idx)
  have hc : (((cfg0.win 6).blk t).view.emb y 1 : Fin 2048) = y 1 := Fin.ext (emb6 t y).2
  show (left6 m c t y : EReal) = proj m c (((cfg0.win 6).blk t).view.emb y 0) (col (w := 2048) 1536 (by omega) (((cfg0.win 6).blk t).view.emb y 1))
  rw [hc]
  exact left6_at m c t y _ (emb6 t y).1
theorem final6 (c : Dev nD) : (dats m 0 c).arrAt 6 cfg0.N = G6 m c :=
  (dats m 0 c).arrAt_eq_of_cover 6 _ (fun t _ => flushed6_eq m c t) covered6

/-! ## The reference -/

open Cert.Reference19Ideal.Read in
theorem ref_scale (c : Dev nD) (n : Fin 2048) (z : Fin 1) : (val_main_v7 (F := Ideal) (a0 m c) (ix2 n z) : EReal) = Norm.scale (fun k => a0 m c (ix2 n k)) := by
  have hs : (val_main_v1 (F := Ideal) (a0 m c) (ix1 n) : EReal) = ∑ k : Fin 1024, a0 m c (ix2 n k) * a0 m c (ix2 n k) := by
    rw [val_main_v1_apply, val_main_cst_apply]
    refine (congrArg (fun a : EReal => a + _) (Ideal.ofBits_zero_f32)).trans ((zero_add _).trans (Finset.sum_congr rfl fun k _ => ?_))
    exact congrArg (fun i : S2048x1024.Idx => a0 m c i * a0 m c i) (funext fun a => match a with
      | ⟨0, _⟩ => rfl
      | ⟨1, _⟩ => rfl)
  rw [val_main_v7_apply, val_main_v6_apply, val_main_v4_apply, val_main_v2_apply, val_main_v3_apply, val_main_v5_apply, val_main_cst_0_apply, val_main_cst_1_apply]
  refine congrArg (fun s : EReal => Ideal.rsqrt (Ideal.div s (Ideal.ofBits .f32 0x44800000#32) + Ideal.ofBits .f32 0x358637BD#32)) (Eq.trans (congrArg _ (funext fun a => ?_)) hs)
  match a with
  | ⟨0, _⟩ => rfl

open Cert.Reference19Ideal.Read in
theorem ref_h1 (c : Dev nD) (n : Fin 2048) (k : Fin 1024) : (val_main_v12 (F := Ideal) (a0 m c) (a1 m c) (ix2 n k) : EReal) = h1 m c n k := by
  rw [val_main_v12_apply, val_main_v9_apply, val_main_v8_apply, val_main_v11_apply, val_main_v10_apply]
  refine congrArg₂ (fun a b : EReal => a * b) (congrArg (fun b : EReal => a0 m c (ix2 n k) * b) (Eq.trans (congrArg _ (funext fun a => ?_)) (ref_scale m c n 0))) (congrArg (a1 m c) (funext fun a => ?_))
  · match a with
    | ⟨0, _⟩ => rfl
    | ⟨1, _⟩ => rfl
  · match a with
    | ⟨0, _⟩ => rfl

open Cert.Reference19Ideal.Read in
theorem ref3 (c : Dev nD) : val_main_v17 (F := Ideal) (a0 m c) (a1 m c) = G3 m c := by
  funext (i : S2048x1024.Idx)
  exact Eq.trans (congrArg (fun i => (val_main_v12 (F := Ideal) (a0 m c) (a1 m c) i : EReal)) (show i = ix2 (i 0) (i 1) from eq_ix2 i)) (ref_h1 m c (i 0) (i 1))

open Cert.Reference19Ideal.Read in
theorem ref_proj (c : Dev nD) (i : (⟨2, ![2048, 3584]⟩ : Shape).Idx) : (val_main_v16 (F := Ideal) (a0 m c) (a1 m c) (a2 m c) (a3 m c) i : EReal) = proj m c (i 0) (i 1) := by
  refine (val_main_v16_apply _ _ _ _ _).trans (congrArg₂ (fun a b : EReal => a + b) ((val_main_v13_apply _ _ _ _).trans (Finset.sum_congr rfl fun k _ => ?_)) ?_)
  · refine congrArg₂ (fun a b : EReal => a * b) (Eq.trans (congrArg _ (funext fun a => ?_)) (ref_h1 m c (i 0) k)) (congrArg (a2 m c) (funext fun a => ?_)) <;>
      (match a with
        | ⟨0, _⟩ => rfl
        | ⟨1, _⟩ => rfl)
  · refine (val_main_v15_apply _ _).trans ((val_main_v14_apply _ _).trans (congrArg (a3 m c) (funext fun a => ?_)))
    match a with
    | ⟨0, _⟩ => rfl

open Cert.Reference19Ideal.Read in
theorem ref4 (c : Dev nD) : val_main_v18 (F := Ideal) (a0 m c) (a1 m c) (a2 m c) (a3 m c) = G4 m c := by
  funext (i : S2048x512.Idx)
  refine (val_main_v18_apply _ _ _ _ _).trans ((ref_proj m c _).trans (congrArg (proj m c (i 0)) (Fin.ext ?_)))
  show (i 1).val = 0 + (i 1).val; omega

open Cert.Reference19Ideal.Read in
theorem ref5 (c : Dev nD) : val_main_v19 (F := Ideal) (a0 m c) (a1 m c) (a2 m c) (a3 m c) = G5 m c := by
  funext (i : S2048x1024.Idx)
  refine (val_main_v19_apply _ _ _ _ _).trans ((ref_proj m c _).trans (congrArg (proj m c (i 0)) (Fin.ext ?_)))
  show 512 + (i 1).val = 512 + (i 1).val; exact rfl

open Cert.Reference19Ideal.Read in
theorem ref6 (c : Dev nD) : val_main_v20 (F := Ideal) (a0 m c) (a1 m c) (a2 m c) (a3 m c) = G6 m c := by
  funext (i : S2048x2048.Idx)
  refine (val_main_v20_apply _ _ _ _ _).trans ((ref_proj m c _).trans (congrArg (proj m c (i 0)) (Fin.ext ?_)))
  show 1536 + (i 1).val = 1536 + (i 1).val; exact rfl

open Cert.Reference19Ideal.Read in
theorem algebraic : Cert.algebraic_Kernel19Ideal_Reference19Ideal := by
  intro m g m' g' _ hagree
  refine ⟨G3 m, G4 m, G5 m, G6 m, ?_, ?_⟩
  · refine (θ_run defs _ _).mono (fun r hh c => ?_) (run_main (F := Ideal) m g)
    have h := hh.1 c
    exact ⟨(h.1 3).trans (final3 m c), (h.1 4).trans (final4 m c), (h.1 5).trans (final5 m c), (h.1 6).trans (final6 m c), (h.1 0).trans (((dats m 0 c).arrAt_in 0 rfl _).trans ((A_eq m c 0).trans (V_main_arg0 m c))),
      (h.2 main_arg1 (Pipeline.mem_restRefs_of main_arg1 (by decide) (by decide))).trans (V_main_arg1 m c),
      (h.2 main_arg2 (Pipeline.mem_restRefs_of main_arg2 (by decide) (by decide))).trans (V_main_arg2 m c),
      (h.2 main_arg3 (Pipeline.mem_restRefs_of main_arg3 (by decide) (by decide))).trans (V_main_arg3 m c)⟩
  · refine (θ_run Cert.Reference19Ideal.defs _ _).mono (fun r h c => ?_) (Cert.Reference19Ideal.Value.run (F := Ideal) m' g')
    obtain ⟨e0, e1, e2, e3⟩ := hagree c
    refine ⟨((h c).1.trans (val_main_v17_eq _ _)).trans ?_, ((h c).2.1.trans (val_main_v18_eq _ _ _ _)).trans ?_, ((h c).2.2.1.trans (val_main_v19_eq _ _ _ _)).trans ?_,
      ((h c).2.2.2.1.trans (val_main_v20_eq _ _ _ _)).trans ?_, (h c).2.2.2.2⟩
    · rw [e0, e1]; exact ref3 m c
    · rw [e0, e1, e2, e3]; exact ref4 m c
    · rw [e0, e1, e2, e3]; exact ref5 m c
    · rw [e0, e1, e2, e3]; exact ref6 m c

end Cert.Proof.InProj

end
-- ==== Proof.InProjBackRun.lean ====
module

public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Skeleton
public import proofs.«01_k».proof.Proof.Resident
public import proofs.«01_k».proof.Defs
public import Idealize.ShloMosaic.Lib.Claim
public import Idealize.ShloMosaic.Lib.Pipeline.FrameBody
public import Idealize.ShloMosaic.Lib.Ring
public import Idealize.ShloMosaic.Lib.WordCmp
public import Idealize.ShloMosaic.Adequacy

/-!
The frame of the input projection backward: the weights, left in device memory, are copied into scratch at the first grid step
and stay there; every later step finds them as the first left them.
-/

@[expose] public section

set_option maxRecDepth 16384

noncomputable section

namespace Cert.Kernel15Ideal.Resident

open Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The test the body makes for the first grid step. -/
abbrev AtFirst (i : grid0.Coords) : Prop := (Scalar.cmpi .ne (Scalar.extui (Scalar.cmpi .eq (BitVec.ofNat 32 (i 0).val) 0#32)) 0#32) = 1#1

theorem atFirst_iff (t : Fin cfg0.N) : AtFirst (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    have e1 : t.val / 1 % 8 = t.val := by omega
    simp only [AtFirst, e0, e1]
    word_cmp
   : ∀ t : Fin grid0.N, AtFirst (grid0.coords t) ↔ t.val = 0) t

/-- What buffer `M` can hold on device `c`, and the buffer held whole at `f`. -/
abbrev Held (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Held (F := F) c M) : sProp 𝕄 :=
  M.view.loc (c : Thread nD τ) ↦{fullShare} f

theorem held_congr {c : Dev nD} {sp : Space} {S : Shape} {e : EltTy} {M : Memref sig .tc sp S e} {f f' : Held (F := F) c M} (h : f = f') :
    held (F := F) c M f ⊢ held (F := F) c M f' := by
  rw [h]

abbrev scM0 : Memref sig .tc .vmem S4x1024x896 .bf16 := Memref.whole cc0_scratch0
abbrev hbM0 : Memref sig .tc .hbm S4x1024x896 .bf16 := Memref.whole main_v3

/-- Chunk `k` of a buffer of four. -/
abbrev chunk {sp : Space} (M : Memref sig .tc sp S4x1024x896 .bf16) (k : ℕ) (h : ∀ a, (![k, 0, 0] : Fin 3 → ℕ) a + S1x1024x896.size a ≤ S4x1024x896.size a) : Memref sig .tc sp S1024x896 .bf16 :=
  (M.slice (Rect.unit ![k, 0, 0] S1x1024x896.size h) (fun _ => rfl)).squeeze S1024x896 squeezes_S1x1024x896_S1024x896

/-- The four chunks copied in, in order, are the whole array. -/
theorem filled0 (c : Dev nD) (f : Held (F := F) c scM0) (g : Held (F := F) c hbM0) :
    ((chunk scM0 3 inb_S4x1024x896_S1x1024x896_3_0_0).view.write (Elt F) ((chunk scM0 2 inb_S4x1024x896_S1x1024x896_2_0_0).view.write (Elt F) ((chunk scM0 1 inb_S4x1024x896_S1x1024x896_1_0_0).view.write (Elt F) ((chunk scM0 0 inb_S4x1024x896_S1x1024x896_0_0_0).view.write (Elt F) f
      ((chunk scM0 0 inb_S4x1024x896_S1x1024x896_0_0_0).view.read (Elt F) g) Finset.univ)
      ((chunk scM0 1 inb_S4x1024x896_S1x1024x896_1_0_0).view.read (Elt F) g) Finset.univ)
      ((chunk scM0 2 inb_S4x1024x896_S1x1024x896_2_0_0).view.read (Elt F) g) Finset.univ)
      ((chunk scM0 3 inb_S4x1024x896_S1x1024x896_3_0_0).view.read (Elt F) g) Finset.univ) = g := by
  have mem : ∀ (k : ℕ) (h : ∀ a, (![k, 0, 0] : Fin 3 → ℕ) a + S1x1024x896.size a ≤ S4x1024x896.size a) (y : S4x1024x896.Idx), (y 0).val = k →
      y ∈ (chunk scM0 k h).view.setOn Finset.univ := by
    intro k h y e
    rw [View.setOn_univ]
    refine (Finset.ext_iff.mp ((View.set_reshape _ _).trans (View.set_slice_whole _ _)) y).mpr ?_
    rw [Rect.mem_set_unit]
    intro a
    fin_cases a
    · exact ⟨e.ge, lt_of_eq_of_lt e (Nat.lt_succ_self k)⟩
    · exact ⟨Nat.zero_le _, lt_of_lt_of_eq (y 1).isLt (by rfl)⟩
    · exact ⟨Nat.zero_le _, lt_of_lt_of_eq (y 2).isLt (by rfl)⟩
  simp only [View.write_read_eq_piecewise]
  exact piecewise_four _ _ _ _ f g fun y => by
    have hy : (y 0).val < 4 := (y 0).isLt
    rcases (by omega : (y 0).val = 0 ∨ (y 0).val = 1 ∨ (y 0).val = 2 ∨ (y 0).val = 3) with e | e | e | e
    · exact .inl (mem 0 _ y e)
    · exact .inr (.inl (mem 1 _ y e))
    · exact .inr (.inr (.inl (mem 2 _ y e)))
    · exact .inr (.inr (.inr (mem 3 _ y e)))

/-- A buffer written whole holds what was written. -/
theorem zeroed (c : Dev nD) {S : Shape} {e : EltTy} (M : Memref sig .tc .vmem S e) (h : M.IsWhole) {off : Fin S.rank → ℕ} (hz : off = fun _ => 0) (inb : ∀ a, off a + S.size a ≤ S.size a)
    (f : M.view.ty.Contents (Elt F)) (X : Vec F S e) :
    (M.view.loc (c : Thread nD τ) ↦[M.view.set]{fullShare} M.view.writes (Elt F) f [⟨Rect.unit off S.size inb, X⟩] : sProp 𝕄) ⊢ (M.view.loc (c : Thread nD τ) ↦[M.view.set]{fullShare} h.unread X) := by
  subst hz
  rw [show M.view.writes (Elt F) f [⟨Rect.unit (fun _ => 0) S.size inb, X⟩] = h.unread X from h.eq_unread (View.read_writes_whole M.view f X)]

set_option sl_exec.dmaWindow true in
set_option maxHeartbeats 4000000 in
/-- One run of the body at any grid step: it leaves the weights in scratch whether it finds them there or copies them in. -/
def tileRun (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x2048 .f32) (harg5 : arg5.IsWhole) (arg6 : Memref sig .tc .vmem S1x1024 .f32) (harg6 : arg6.IsWhole) (arg8 : Memref sig .tc .vmem S256x1024 .f32) (harg8 : arg8.IsWhole) (arg9 : Memref sig .tc .vmem S256x3584 .bf16) (harg9 : arg9.IsWhole) (arg10 : Memref sig .tc .vmem S8x1024 .f32) (harg10 : arg10.IsWhole) (arg11 : Memref sig .tc .vmem S8x3584 .f32) (harg11 : arg11.IsWhole)
    (x0 : Vec F S256x1024 .f32) (x1 : Vec F S256x1024 .f32) (x2 : Vec F S256x512 .f32) (x3 : Vec F S256x1024 .f32) (x4 : Vec F S256x2048 .f32) (x5 : Vec F S1x1024 .f32) (p8 : Vec F S8x1024 .f32) (p9 : Vec F S8x3584 .f32) (g0 : Held (F := F) c hbM0) :
    Σ' (L6 : List (View.Piece (Elt F) S256x1024 .f32)), Σ' (L7 : List (View.Piece (Elt F) S256x3584 .bf16)), Σ' (L8 : List (View.Piece (Elt F) S8x1024 .f32)), { L9 : List (View.Piece (Elt F) S8x3584 .f32) // ∀ (W : Waits sig Unit) (K : PUnit → sProp 𝕄) (pre : sProp 𝕄)
      (_ : (¬ AtFirst i ∧ pre = iprop((held (F := F) c scM0 g0) ∗ (owns (c : Thread nD τ) arg10 fullShare p8 ∗ owns (c : Thread nD τ) arg11 fullShare p9))) ∨ (AtFirst i ∧ p8 = (k0_pay2 (F := F)) ∧ p9 = (k0_pay3 (F := F)) ∧ pre = iprop(((∃ f, held (F := F) c scM0 f)) ∗ ((∃ d : Vec F S8x1024 .f32, owns (c : Thread nD τ) arg10 fullShare d) ∗ (∃ d : Vec F S8x3584 .f32, owns (c : Thread nD τ) arg11 fullShare d))))),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg8 fullShare d) ∗ (∃ d, owns (c : Thread nD τ) arg9 fullShare d) ∗ pre ∗ (semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ (held (F := F) c hbM0 g0) ∗ owes (c : Thread nD τ) 0 W
        ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread p8) L8) ∗ (arg11.view.loc (c : Thread nD τ) ↦[arg11.view.set]{fullShare} arg11.view.writes (Elt F) (harg11.unread p9) L9) ∗ (held (F := F) c scM0 g0) ∗ (semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ (held (F := F) c hbM0 g0) ∗ (∃ W', owes (c : Thread nD τ) 0 W')) -∗ K ⟨⟩))
      ⊢ wp frame (wpE (defs₀ (F := F)) Variants.none c none) Set.univ (cc0_inproj_bwd i arg1 harg1 arg2 harg2 arg3 harg3 arg4 harg4 arg5 harg5 arg6 harg6 (Memref.whole main_v3) (Memref.isWhole_whole _) arg8 harg8 arg9 harg9 arg10 harg10 arg11 harg11 (Memref.whole cc0_scratch0) (Memref.isWhole_whole _) cc0_scratch1) K } := by
  refine ⟨?_, ?_, ?_, ?_, fun W K pre hpre => ?run⟩
  case run =>
    simp only [cc0_inproj_bwd_eq_skeleton]; unfold cc0_inproj_bwd_skel
    simp only [k0_part1_eq_skeleton, k0_part2_eq_skeleton, k0_part3_eq_skeleton, k0_part4_eq_skeleton]

    rcases hpre with ⟨hc, rfl⟩ | ⟨hc, rfl, rfl, rfl⟩
    · unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨HS0, ⟨⟨%f8, %hf8, H8⟩, ⟨%f9, %hf9, H9⟩⟩⟩, ⟨Hq0, Hq1, Hq2, Hq3⟩, Hh0, HW, Hk⟩
      obtain rfl := harg1.eq_unread hf0
      obtain rfl := harg2.eq_unread hf1
      obtain rfl := harg3.eq_unread hf2
      obtain rfl := harg4.eq_unread hf3
      obtain rfl := harg5.eq_unread hf4
      obtain rfl := harg6.eq_unread hf5
      obtain rfl := harg10.eq_unread hf8
      obtain rfl := harg11.eq_unread hf9
      sl_exec (disch := first | sl_exact hc)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]; · iexists _; iexact H6
      isplitl [H7]; · iexists _; iexact H7
      isplitl [H8]; · iexact H8
      isplitl [H9]; · iexact H9
      isplitl [HS0]; · iexact HS0
      isplitl [Hq0 Hq1 Hq2 Hq3]
      · isplitl [Hq0]; · iexact Hq0
        isplitl [Hq1]; · iexact Hq1
        isplitl [Hq2]; · iexact Hq2
        iexact Hq3
      isplitl [Hh0]; · iexact Hh0
      iexists _; iexact HW
    · unfold owns
      iintro ⟨H0, H1, H2, H3, H4, H5, H6, H7, ⟨⟨%fs0, HS0⟩, ⟨⟨%d8, %f8, -, H8⟩, ⟨%d9, %f9, -, H9⟩⟩⟩, ⟨Hq0, Hq1, Hq2, Hq3⟩, Hh0, HW, Hk⟩
      sl_exec (disch := first | sl_exact hc)
      ihave HT0 := (held_congr (M := scM0) (f' := g0) ?fill0) $$ HS0
      case fill0 => exact filled0 c fs0 g0
      ihave HZ8 := (zeroed c arg10 harg10 (funext fun | 0 => rfl | 1 => rfl) _ f8 (k0_pay2 (F := F))) $$ H8
      ihave HZ9 := (zeroed c arg11 harg11 (funext fun | 0 => rfl | 1 => rfl) _ f9 (k0_pay3 (F := F))) $$ H9
      icases H0 with ⟨%f0, %hf0, H0⟩
      icases H1 with ⟨%f1, %hf1, H1⟩
      icases H2 with ⟨%f2, %hf2, H2⟩
      icases H3 with ⟨%f3, %hf3, H3⟩
      icases H4 with ⟨%f4, %hf4, H4⟩
      icases H5 with ⟨%f5, %hf5, H5⟩
      icases H6 with ⟨%d6, %f6, -, H6⟩
      icases H7 with ⟨%d7, %f7, -, H7⟩
      obtain rfl := harg1.eq_unread hf0
      obtain rfl := harg2.eq_unread hf1
      obtain rfl := harg3.eq_unread hf2
      obtain rfl := harg4.eq_unread hf3
      obtain rfl := harg5.eq_unread hf4
      obtain rfl := harg6.eq_unread hf5
      sl_exec
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]; · iexists _; iexact H6
      isplitl [H7]; · iexists _; iexact H7
      isplitl [HZ8]; · iexact HZ8
      isplitl [HZ9]; · iexact HZ9
      isplitl [HT0]; · iexact HT0
      isplitl [Hq0 Hq1 Hq2 Hq3]
      · isplitl [Hq0]; · iexact Hq0
        isplitl [Hq1]; · iexact Hq1
        isplitl [Hq2]; · iexact Hq2
        iexact Hq3
      isplitl [Hh0]; · iexact Hh0
      iexists _; iexact HW

section Run
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x2048 .f32) (harg5 : arg5.IsWhole) (arg6 : Memref sig .tc .vmem S1x1024 .f32) (harg6 : arg6.IsWhole) (arg8 : Memref sig .tc .vmem S256x1024 .f32) (harg8 : arg8.IsWhole) (arg9 : Memref sig .tc .vmem S256x3584 .bf16) (harg9 : arg9.IsWhole) (arg10 : Memref sig .tc .vmem S8x1024 .f32) (harg10 : arg10.IsWhole) (arg11 : Memref sig .tc .vmem S8x3584 .f32) (harg11 : arg11.IsWhole)
    (x0 : Vec F S256x1024 .f32) (x1 : Vec F S256x1024 .f32) (x2 : Vec F S256x512 .f32) (x3 : Vec F S256x1024 .f32) (x4 : Vec F S256x2048 .f32) (x5 : Vec F S1x1024 .f32) (p8 : Vec F S8x1024 .f32) (p9 : Vec F S8x3584 .f32) (g0 : Held (F := F) c hbM0)

/-- The stores into output 0 cover its block, so what the block held before is gone. -/
theorem cover6 (y : S256x1024.Idx) : ∃ pc ∈ (tileRun c i arg1 harg1 arg2 harg2 arg3 harg3 arg4 harg4 arg5 harg5 arg6 harg6 arg8 harg8 arg9 harg9 arg10 harg10 arg11 harg11 x0 x1 x2 x3 x4 x5 p8 p9 g0).1, y ∈ pc.1.set :=
  View.cover_of_tiledL (tileRun c i arg1 harg1 arg2 harg2 arg3 harg3 arg4 harg4 arg5 harg5 arg6 harg6 arg8 harg8 arg9 harg9 arg10 harg10 arg11 harg11 x0 x1 x2 x3 x4 x5 p8 p9 g0).1 S256x1024.size (by sl_kernel_rfl) y
abbrev VO6 : View sig .tc .vmem S256x1024 .f32 := (Memref.whole cc0_stg6_0 : Memref sig .tc .vmem S256x1024 .f32).view

/-- The stores into output 1 cover its block, so what the block held before is gone. -/
theorem cover7 (y : S256x3584.Idx) : ∃ pc ∈ (tileRun c i arg1 harg1 arg2 harg2 arg3 harg3 arg4 harg4 arg5 harg5 arg6 harg6 arg8 harg8 arg9 harg9 arg10 harg10 arg11 harg11 x0 x1 x2 x3 x4 x5 p8 p9 g0).2.1, y ∈ pc.1.set :=
  View.cover_of_tiledBy (tileRun c i arg1 harg1 arg2 harg2 arg3 harg3 arg4 harg4 arg5 harg5 arg6 harg6 arg8 harg8 arg9 harg9 arg10 harg10 arg11 harg11 x0 x1 x2 x3 x4 x5 p8 p9 g0).2.1 ![256, 512] (by sl_kernel_rfl) y
abbrev VO7 : View sig .tc .vmem S256x3584 .bf16 := (Memref.whole cc0_stg7_0 : Memref sig .tc .vmem S256x3584 .bf16).view

end Run

abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x3584 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S8x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S8x3584 .f32 := win0_9.stage (cfg0.slots t 9)
abbrev hs9 (t : Fin cfg0.N) : (ms9 t).IsWhole := hstage0_9 ((cfg0.slots t 9).cast nbuf0_9)

/-- The body's run at grid step `t`, on that step's blocks. -/
abbrev runAt (c : Dev nD) (t : Fin cfg0.N) (p8 : Vec F S8x1024 .f32) (p9 : Vec F S8x3584 .f32) := tileRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (iblk m c 0 t) (iblk m c 1 t) (iblk m c 2 t) (iblk m c 3 t) (iblk m c 4 t) (iblk m c 5 t) p8 p9 (V m c main_v3)

/-- What grid step `t` leaves in output 0's block. -/
def left6 (c : Dev nD) (t : Fin cfg0.N) (p8 : Vec F S8x1024 .f32) (p9 : Vec F S8x3584 .f32) : Vec F S256x1024 .f32 := VO6.read (Elt F) (VO6.writes (Elt F) VO6.junk (runAt m c t p8 p9).1)

/-- What grid step `t` leaves in output 1's block. -/
def left7 (c : Dev nD) (t : Fin cfg0.N) (p8 : Vec F S8x1024 .f32) (p9 : Vec F S8x3584 .f32) : Vec F S256x3584 .bf16 := VO7.read (Elt F) (VO7.writes (Elt F) VO7.junk (runAt m c t p8 p9).2.1)

/-- What grid step `t` leaves in the rows summed over the steps. -/
def left8 (c : Dev nD) (t : Fin cfg0.N) (p8 : Vec F S8x1024 .f32) (p9 : Vec F S8x3584 .f32) : Vec F S8x1024 .f32 := (ms8 t).view.read (Elt F) ((ms8 t).view.writes (Elt F) ((hs8 t).unread p8) (runAt m c t p8 p9).2.2.1)

/-- What grid step `t` leaves in the rows summed over the steps. -/
def left9 (c : Dev nD) (t : Fin cfg0.N) (p8 : Vec F S8x1024 .f32) (p9 : Vec F S8x3584 .f32) : Vec F S8x3584 .f32 := (ms9 t).view.read (Elt F) ((ms9 t).view.writes (Elt F) ((hs9 t).unread p9) (runAt m c t p8 p9).2.2.2.1)

/-- The summed rows after grid step `n`: from zero at the first, from the step before later. -/
def sums (c : Dev nD) : (n : ℕ) → n < cfg0.N → Vec F S8x1024 .f32 × Vec F S8x3584 .f32
  | 0, hn => (left8 m c ⟨0, hn⟩ (k0_pay2 (F := F)) (k0_pay3 (F := F)), left9 m c ⟨0, hn⟩ (k0_pay2 (F := F)) (k0_pay3 (F := F)))
  | n + 1, hn => (left8 m c ⟨n + 1, hn⟩ (sums c n (Nat.lt_of_succ_lt hn)).1 (sums c n (Nat.lt_of_succ_lt hn)).2, left9 m c ⟨n + 1, hn⟩ (sums c n (Nat.lt_of_succ_lt hn)).1 (sums c n (Nat.lt_of_succ_lt hn)).2)

/-- The summed rows before grid step `t`. -/
def sumsBefore (c : Dev nD) (t : Fin cfg0.N) : Vec F S8x1024 .f32 × Vec F S8x3584 .f32 :=
  if t.val = 0 then ((k0_pay2 (F := F)), (k0_pay3 (F := F))) else sums m c (t.val - 1) (Nat.lt_of_le_of_lt (Nat.sub_le _ _) t.isLt)

theorem sums_eq (c : Dev nD) (t : Fin cfg0.N) : sums m c t.val t.isLt = (left8 m c t (sumsBefore m c t).1 (sumsBefore m c t).2, left9 m c t (sumsBefore m c t).1 (sumsBefore m c t).2) := by
  obtain ⟨n, hn⟩ := t
  cases n with
  | zero => rfl
  | succ n => rfl

/-- The semaphores of the copies. -/
abbrev osem : Fin 4 → SemLoc sig := fun j => (![SemLoc.dma 17, SemLoc.dma 18, SemLoc.dma 19, SemLoc.dma 20] : Fin 4 → SemLoc sig) j
theorem osem_facts : Pipeline.OwnSemFacts spec0 osem := by decide
theorem osem_eq (c : Dev nD) :
    (Pipeline.ownSems0 (Ix := Unit) (Name := ℕ) (U := Pipeline.UD sig nD τ) (Lvl := ℕ) (Val := Elt F) (τ := τ) osem c : sProp 𝕄) = iprop(semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) := by
  rw [Pipeline.ownSems0_eq_of_list c osem [0, 1, 2, 3] (by decide) (by decide)]; rfl

/-- The weights as the call finds them. -/
def weights : Finset (Ref sig .tc) := {main_v3}
theorem weights_sub : weights ⊆ Pipeline.restRefs sig spec0 := by decide
theorem weights_eq (c : Dev nD) :
    (bigSep weights (fun b => ((c : Thread nD τ).loc b) ↦{fullShare} V m c b) : sProp 𝕄) = iprop(held (F := F) c hbM0 (V m c main_v3)) := by
  rw [BI.bigSep_eq_bigSepL_of_eq [main_v3] (by decide) (by decide)]; rfl

/-- What is held before the first step, and between steps. -/
theorem start_eq (c : Dev nD) :
    (Pipeline.ΦD osem spec0 weights (V m) c : sProp 𝕄) = iprop(((∃ f, held (F := F) c scM0 f)) ∗ (∃ r, prngReg c r) ∗ (semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ (held (F := F) c hbM0 (V m c main_v3))) := by
  rw [Pipeline.ΦD_eq, scopedRest0_eq, osem_eq, weights_eq]; try rfl
def between (c : Dev nD) (n : ℕ) : sProp 𝕄 :=
  if n = 0 then Pipeline.ΦD osem spec0 weights (V m) c
  else iprop((held (F := F) c scM0 (V m c main_v3)) ∗ (∃ r, prngReg c r) ∗ (semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ (held (F := F) c hbM0 (V m c main_v3)))

/-- The call's proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => left6 m c t (sumsBefore m c t).1 (sumsBefore m c t).2
    | ⟨7, _⟩ => left7 m c t (sumsBefore m c t).1 (sumsBefore m c t).2
    | ⟨8, _⟩ => (sums m c t.val t.isLt).1
    | ⟨9, _⟩ => (sums m c t.val t.isLt).2
  Φ n := between m c n.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = left6 m c t (sumsBefore m c t).1 (sumsBefore m c t).2 := by dsimp only [dats]
theorem after7 (c : Dev nD) (t : Fin cfg0.N) : (dats m 0 c).after 7 t = left7 m c t (sumsBefore m c t).1 (sumsBefore m c t).2 := by dsimp only [dats]
theorem after8 (c : Dev nD) (t : Fin cfg0.N) : (dats m 0 c).after 8 t = left8 m c t (sumsBefore m c t).1 (sumsBefore m c t).2 := by dsimp only [dats]; rw [sums_eq]
theorem after9 (c : Dev nD) (t : Fin cfg0.N) : (dats m 0 c).after 9 t = left9 m c t (sumsBefore m c t).1 (sumsBefore m c t).2 := by dsimp only [dats]; rw [sums_eq]
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before8 (c : Dev nD) (t : Fin cfg0.N) (h0 : t.val ≠ 0) (d) : (dats m 0 c).before 8 t d = (sumsBefore m c t).1 := by
  have hN : t.val < 8 := lt_of_lt_of_eq t.isLt (show cfg0.N = 8 from N_0)
  rw [Dat.before_out_kept _ 8 rfl t (by omega) (Bool.eq_false_iff.mpr fun h => by have := (flush0_8 _).mp h; dsimp only at this; omega)
    (fun _ => rfl) (fun _ _ => rfl)]
  unfold sumsBefore
  rw [if_neg h0]
  dsimp only [dats]
theorem before9 (c : Dev nD) (t : Fin cfg0.N) (h0 : t.val ≠ 0) (d) : (dats m 0 c).before 9 t d = (sumsBefore m c t).2 := by
  have hN : t.val < 8 := lt_of_lt_of_eq t.isLt (show cfg0.N = 8 from N_0)
  rw [Dat.before_out_kept _ 9 rfl t (by omega) (Bool.eq_false_iff.mpr fun h => by have := (flush0_9 _).mp h; dsimp only at this; omega)
    (fun _ => rfl) (fun _ _ => rfl)]
  unfold sumsBefore
  rw [if_neg h0]
  dsimp only [dats]

set_option maxHeartbeats 1600000 in
/-- The body at grid step `t`, from what the step is given to what it leaves. -/
theorem sound_body (c : Dev nD) (t : Fin cfg0.N) :
    iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)))
    ⊢ wp frame (wpE (defs₀ (F := F)) Variants.none c none) Set.univ (bodyAt0 t)
      (fun _ => iprop((dats m 0 c).Φ t.succ ∗ (dats m 0 c).owesAt () t.succ ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t) ∗ owns (c : Thread nD τ) (ms9 t) fullShare ((dats m 0 c).after 9 t))) := by
  unfold bodyAt0
  simp only [before0, before1, before2, before3, before4, before5]
  rw [after0, after1, after2, after3, after4, after5, after6, after7, after8, after9]
  rw [show (dats m 0 c).Φ t.castSucc = between m c t.val from rfl, show (dats m 0 c).Φ t.succ = between m c (t.val + 1) from rfl]
  rw [show between m c (t.val + 1) = iprop((held (F := F) c scM0 (V m c main_v3)) ∗ (∃ r, prngReg c r) ∗ (semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ (held (F := F) c hbM0 (V m c main_v3))) from if_neg (Nat.succ_ne_zero _)]
  unfold left6 left7 left8 left9 Dat.owesAt Pipeline.owesWithin
  rw [show (dats m 0 c).owed t.castSucc = 0 from rfl, show (dats m 0 c).owed t.succ = 0 from rfl]
  by_cases h0 : t.val = 0
  · rw [show between m c t.val = Pipeline.ΦD osem spec0 weights (V m) c from if_pos h0, start_eq]
    rw [show sumsBefore m c t = ((k0_pay2 (F := F)), (k0_pay3 (F := F))) from if_pos h0]; try dsimp only
    iintro ⟨⟨HS0, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runAt m c t (k0_pay2 (F := F)) (k0_pay3 (F := F))).2.2.2.2 W _ _ (.inr ⟨(atFirst_iff t).mpr h0, rfl, rfl, rfl⟩))
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0 H8 H9]
    · isplitl [HS0]; · iexact HS0
      isplitl [H8]; · iexists _; iexact H8
      iexists _; iexact H9
    isplitl [Hq0 Hq1 Hq2 Hq3]
    · isplitl [Hq0]; · iexact Hq0
      isplitl [Hq1]; · iexact Hq1
      isplitl [Hq2]; · iexact Hq2
      iexact Hq3
    isplitl [Hh0]; · iexact Hh0
    isplitl [HW]; · iexact HW
    iintro ⟨H0, H1, H2, H3, H4, H5, ⟨%e6, H6⟩, ⟨%e7, H7⟩, H8, H9, HS0, ⟨Hq0, Hq1, Hq2, Hq3⟩, Hh0, ⟨%W', HW'⟩⟩
    isplitl [HS0 Hg Hq0 Hq1 Hq2 Hq3 Hh0]
    · isplitl [HS0]; · iexact HS0
      isplitl [Hg]; · iexact Hg
      isplitl [Hq0 Hq1 Hq2 Hq3]
      · isplitl [Hq0]; · iexact Hq0
        isplitl [Hq1]; · iexact Hq1
        isplitl [Hq2]; · iexact Hq2
        iexact Hq3
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover6 c _ _ _ _ _ _ _ _ _ _ _ _ _ _ _ _ _ _ _ _ _ _ _ _ _ _ _ _ _ _ )
    isplitl [H7]
    · unfold owns; iexists _; isplitr
      swap; · iexact H7
      ipureintro; exact View.read_writes_of_cover _ _ _ _ _ (cover7 c _ _ _ _ _ _ _ _ _ _ _ _ _ _ _ _ _ _ _ _ _ _ _ _ _ _ _ _ _ _ )
    isplitl [H8]
    · unfold owns; iexists _; isplitr
      swap; · iexact H8
      ipureintro; exact rfl
    unfold owns; iexists _; isplitr
    swap; · iexact H9
    ipureintro; exact rfl
  · rw [show between m c t.val = iprop((held (F := F) c scM0 (V m c main_v3)) ∗ (∃ r, prngReg c r) ∗ (semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ (held (F := F) c hbM0 (V m c main_v3))) from if_neg h0]
    simp only [before8 m c t h0, before9 m c t h0]
    iintro ⟨⟨HS0, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runAt m c t (sumsBefore m c t).1 (sumsBefore m c t).2).2.2.2.2 W _ _ (.inl ⟨fun h => h0 ((atFirst_iff t).mp h), rfl⟩))
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0 H8 H9]
    · isplitl [HS0]; · iexact HS0
      isplitl [H8]; · iexact H8
      iexact H9
    isplitl [Hq0 Hq1 Hq2 Hq3]
    · isplitl [Hq0]; · iexact Hq0
      isplitl [Hq1]; · iexact Hq1
      isplitl [Hq2]; · iexact Hq2
      iexact Hq3
    isplitl [Hh0]; · iexact Hh0
    isplitl [HW]; · iexact HW
    iintro ⟨H0, H1, H2, H3, H4, H5, ⟨%e6, H6⟩, ⟨%e7, H7⟩, H8, H9, HS0, ⟨Hq0, Hq1, Hq2, Hq3⟩, Hh0, ⟨%W', HW'⟩⟩
    isplitl [HS0 Hg Hq0 Hq1 Hq2 Hq3 Hh0]
    · isplitl [HS0]; · iexact HS0
      isplitl [Hg]; · iexact Hg
      isplitl [Hq0 Hq1 Hq2 Hq3]
      · isplitl [Hq0]; · iexact Hq0
        isplitl [Hq1]; · iexact Hq1
        isplitl [Hq2]; · iexact Hq2
        iexact Hq3
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover6 c _ _ _ _ _ _ _ _ _ _ _ _ _ _ _ _ _ _ _ _ _ _ _ _ _ _ _ _ _ _ )
    isplitl [H7]
    · unfold owns; iexists _; isplitr
      swap; · iexact H7
      ipureintro; exact View.read_writes_of_cover _ _ _ _ _ (cover7 c _ _ _ _ _ _ _ _ _ _ _ _ _ _ _ _ _ _ _ _ _ _ _ _ _ _ _ _ _ _ )
    isplitl [H8]
    · unfold owns; iexists _; isplitr
      swap; · iexact H8
      ipureintro; exact rfl
    unfold owns; iexists _; isplitr
    swap; · iexact H9
    ipureintro; exact rfl

theorem row_eq (t : Fin cfg0.N) : defs₀ (F := F) .tc cfg0.body (cfg0.bodyArgs t (cfg0.slots t)) = bodyAt0 t := by
  unfold defs₀; rw [Defs.onTc_tc]

/-- The body meets its obligation at every step. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

theorem enter (c : Dev nD) : Pipeline.ΦD osem spec0 weights (V m) c ⊢ (dats m 0 c).Φ 0 := by
  rw [show (dats m 0 c).Φ 0 = between m c 0 from rfl, show between m c 0 = Pipeline.ΦD osem spec0 weights (V m) c from if_pos rfl]

theorem leave (c : Dev nD) : (dats m 0 c).Φ (Fin.last cfg0.N) ⊢ Pipeline.ΦD osem spec0 weights (V m) c := by
  rw [show (dats m 0 c).Φ (Fin.last cfg0.N) = between m c cfg0.N from rfl, show between m c cfg0.N = iprop((held (F := F) c scM0 (V m c main_v3)) ∗ (∃ r, prngReg c r) ∗ (semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ (held (F := F) c hbM0 (V m c main_v3))) from if_neg (by rw [show cfg0.N = 8 from N_0]; decide), start_eq]
  iintro ⟨HS0, Hg⟩
  isplitl [HS0]
  · iexists _; iexact HS0
  iexact Hg

theorem reach (𝒱 : Variants) : Pipeline.HMain (Ix := Unit) (Name := ℕ) (U := Pipeline.UD sig nD τ) (Lvl := ℕ) cfgs 0 defs₀ 𝒱 m (main (F := F)) (V m) :=
  Pipeline.hmain_prefix cfgs 0 defs₀ 𝒱 m main hostOps0 hostOps0_sub hostOps0_fresh main_chain

set_option backward.isDefEq.respectTransparency.types false in
set_option maxHeartbeats 800000 in
/-- The whole run: it ends, with the arrays as the proof data say and no signal left. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ Variants.none osem_facts weights weights_sub m ρ main
    (hbody := fun c => (body_obligation m c).loose) (hshare := fun c => (dats m 0 c).share_full fun _ => rfl)
    (howed := fun _ _ => rfl) (V := V m) (hmain := reach m Variants.none) (hA := A_eq m) (hin := enter m) (hout := leave m)

/-- The arguments end as they began and no signal is left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6))
      ∧ r.2.sem = fun _ => 0) :=
  (θ_run defs _ _).mono (fun _ hh => ⟨fun c => by
    have h := hh.1
    exact ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩, hh.2⟩) (run_main m ρ)

end Cert.Kernel15Ideal.Resident

end
-- ==== Proof.NormBack.lean ====
module

public import proofs.«01_k».proof.Proof.Shared
public import proofs.«01_k».proof.Proof.Norm

/-! The backward of a row's normalisation, and sums of a matrix's columns kept over several steps. -/

@[expose] public section

set_option maxRecDepth 16384

noncomputable section

namespace Cert.Proof.NormBack

open Idealize.ShloMosaic

/-! ## One row -/

theorem ofBits_count : Ideal.ofBits .f32 0x44800000#32 = ((1024 : ℝ) : EReal) := by
  simp [Ideal.ofBits, Ideal.ieee]
  rw [← EReal.coe_mul]
  norm_num
theorem ofBits_minus_half : Ideal.ofBits .f32 0xBF000000#32 = ((-(1 / 2) : ℝ) : EReal) := by
  simp [Ideal.ofBits, Ideal.ieee]
  rw [← EReal.coe_mul]
  norm_num
theorem ofBits_eps : ∃ e : ℝ, 0 < e ∧ Ideal.ofBits .f32 0x358637BD#32 = (e : EReal) := by
  refine ⟨_, ?_, by simp [Ideal.ofBits, Ideal.ieee]; rw [← EReal.coe_mul]⟩
  norm_num

/-- What a row's scale is the inverse root of. -/
def base (f : Fin 1024 → EReal) : EReal := Norm.mean (fun k => f k * f k) + Ideal.ofBits .f32 0x358637BD#32

theorem square_nonneg (a : EReal) : 0 ≤ a * a := by
  rcases le_total 0 a with h | h
  · exact mul_nonneg h h
  · rw [← neg_mul_neg]
    exact mul_nonneg (EReal.neg_nonneg.mpr h) (EReal.neg_nonneg.mpr h)

/-- That base is positive: a positive number or `⊤`. -/
theorem base_pos (f : Fin 1024 → EReal) : 0 < base f := by
  obtain ⟨e, he, hb⟩ := ofBits_eps
  have hm : 0 ≤ Norm.mean (fun k => f k * f k) := by
    unfold Norm.mean
    rw [ofBits_count, Ideal.div_coe (by norm_num)]
    exact mul_nonneg (Finset.sum_nonneg fun k _ => square_nonneg _) (by exact_mod_cast (by norm_num : (0 : ℝ) ≤ 1 / 1024))
  unfold base
  rw [hb]
  exact lt_of_lt_of_le (by exact_mod_cast he : (0 : EReal) < (e : EReal)) (le_add_of_nonneg_left hm)

/-- A finite factor that is not negative, taken into a sum. -/
theorem sum_mul_coe {n : ℕ} (f : Fin n → EReal) (r : ℝ) (hr : 0 ≤ r) : (∑ k, f k * (r : EReal)) = (∑ k, f k) * (r : EReal) := by
  have h : ∀ s : Finset (Fin n), (∑ k ∈ s, f k * (r : EReal)) = (∑ k ∈ s, f k) * (r : EReal) := fun s => by
    induction s using Finset.induction_on with
    | empty => simp
    | insert a s ha ih =>
      rw [Finset.sum_insert ha, Finset.sum_insert ha, ih, mul_comm (f a + _), EReal.left_distrib_of_nonneg_of_ne_top (by exact_mod_cast hr) (EReal.coe_ne_top r),
        mul_comm (f a), mul_comm (∑ k ∈ s, f k)]
  exact h _

theorem add_self (a : EReal) : a + a = ((2 : ℝ) : EReal) * a := by
  induction a with
  | bot => rw [EReal.coe_mul_bot_of_pos (by norm_num)]; rfl
  | top => rw [EReal.coe_mul_top_of_pos (by norm_num)]; rfl
  | coe x => rw [← EReal.coe_add, ← EReal.coe_mul]; congr 1; ring

/-- The gradient of one entry of a row, as the kernel writes it and as the derivative of the reference's lines does. -/
theorem entry (t : EReal) (ht : 0 < t) (x d : Fin 1024 → EReal) (k : Fin 1024) :
    Ideal.rsqrt t * (d k - (x k * Ideal.rsqrt t) * Norm.mean (fun j => d j * (x j * Ideal.rsqrt t)))
      = (d k * Ideal.rsqrt t + x k * Ideal.div ((∑ j, x j * d j) * (Ideal.ofBits .f32 0xBF000000#32 * Ideal.div (Ideal.rsqrt t) t)) (Ideal.ofBits .f32 0x44800000#32))
        + Ideal.div ((∑ j, x j * d j) * (Ideal.ofBits .f32 0xBF000000#32 * Ideal.div (Ideal.rsqrt t) t)) (Ideal.ofBits .f32 0x44800000#32) * x k := by
  obtain ⟨r, q, hr, hq, e1, e2⟩ : ∃ r q : ℝ, 0 ≤ r ∧ q = r * r * r ∧ Ideal.rsqrt t = (r : EReal) ∧ Ideal.div (Ideal.rsqrt t) t = (q : EReal) := by
    induction t with
    | bot => exact absurd ht (by simp)
    | top => exact ⟨0, 0, le_refl _, by ring, rfl, by simp [Ideal.div]⟩
    | coe t =>
      have h0 : 0 < t := by exact_mod_cast ht
      have e : Ideal.rsqrt (t : EReal) = (((Real.sqrt t)⁻¹ : ℝ) : EReal) := by
        rw [Ideal.rsqrt_coe, if_neg (not_lt.mpr h0.le), if_neg h0.ne']
      refine ⟨(Real.sqrt t)⁻¹, (Real.sqrt t)⁻¹ * (1 / t), inv_nonneg.mpr (Real.sqrt_nonneg t), ?_, e, ?_⟩
      · rw [mul_assoc, ← mul_inv, Real.mul_self_sqrt h0.le, one_div]
      · rw [Ideal.div_coe h0.ne', e, ← EReal.coe_mul]
  unfold Norm.mean
  rw [e2, e1, ofBits_count, ofBits_minus_half, Ideal.div_coe (by norm_num), Ideal.div_coe (by norm_num)]
  rw [show (∑ j, d j * (x j * (r : EReal))) = (∑ j, x j * d j) * (r : EReal) from
    (Finset.sum_congr rfl fun j _ => by rw [← mul_assoc, mul_comm (d j)]).trans (sum_mul_coe _ r hr)]
  generalize (∑ j, x j * d j) = S
  rw [mul_comm (_ * _) (x k), add_assoc, add_self, sub_eq_add_neg, EReal.left_distrib_of_nonneg_of_ne_top (by exact_mod_cast hr) (EReal.coe_ne_top r), mul_comm (d k)]
  refine congrArg (fun a : EReal => (r : EReal) * d k + a) ?_
  rw [← EReal.coe_mul, mul_neg, ← neg_mul, mul_assoc S (r : EReal), ← EReal.coe_mul, mul_assoc S, ← EReal.coe_mul, ← EReal.coe_neg]
  calc ((-r : ℝ) : EReal) * (x k * (r : EReal) * (S * ((r * (1 / 1024) : ℝ) : EReal)))
      = (x k * S) * (((-r : ℝ) : EReal) * (r : EReal) * ((r * (1 / 1024) : ℝ) : EReal)) := by ac_rfl
    _ = (x k * S) * (((2 : ℝ) : EReal) * ((-(1 / 2) * q * (1 / 1024) : ℝ) : EReal)) := by
      rw [← EReal.coe_mul, ← EReal.coe_mul, ← EReal.coe_mul, hq]
      congr 2
      ring
    _ = ((2 : ℝ) : EReal) * (x k * (S * ((-(1 / 2) * q * (1 / 1024) : ℝ) : EReal))) := by ac_rfl

/-! ## Columns -/

/-- The sums of a matrix's columns, held as a row. -/
theorem column_sum {M N : ℕ} (v : FVec Ideal ⟨2, ![M, N]⟩ .f32) (h : (⟨2, ![M, N]⟩ : Shape).Reduces [0] ⟨1, ![N]⟩) (h' : (⟨1, ![N]⟩ : Shape).ShapeCasts ⟨2, ![1, N]⟩)
    (hf) (hn) (z : Fin 1) (j : Fin N) :
    (shapeCast ⟨2, ![1, N]⟩ (multiReduction (F := Ideal) .add [0] ⟨1, ![N]⟩ v 0x00000000#32 h hf hn) h' (ValueIdx.ix2 z j) : EReal) = ∑ r : Fin M, (v (ValueIdx.ix2 r j) : EReal) := by
  refine (shapeCast_apply _ h' (ValueIdx.ix2 z j) (ValueIdx.ix1 j) ?_).trans ((Ideal.reduceAdd_r2_a0 h v (ValueIdx.ix1 j)).trans rfl)
  rewrite [Shape.rowMajor_val_two, Shape.rowMajor_val_one]
  show j.val = z.val * N + j.val
  rw [show z.val = 0 by omega, Nat.zero_mul, Nat.zero_add]

/-- A buffer after writes that agree with `G`, read where one of them lies or where it held `G`'s value before. -/
theorem read_agree {sig : RefSig} {κ : Kind} {sp : Space} {s : Shape} {e : EltTy} (v : View sig κ sp s e) (f : v.ty.Contents (Elt Ideal)) (G : s.Idx → Elt Ideal e)
    (L : List (View.Piece (Elt Ideal) s e)) (hp : ∀ p ∈ L, ∀ x, p.2 x = G (p.1.emb x)) (y : s.Idx) (hy : v.read (Elt Ideal) f y = G y ∨ ∃ p ∈ L, y ∈ p.1.set) :
    v.read (Elt Ideal) (v.writes (Elt Ideal) f L) y = G y := by
  induction L with
  | nil => exact hy.resolve_right (by rintro ⟨p, h, -⟩; exact List.not_mem_nil h)
  | cons p L ih =>
    by_cases h : y ∈ p.1.set
    · rw [← Rect.map_emb_univ] at h
      obtain ⟨x, -, rfl⟩ := Finset.mem_map.mp h
      exact (View.read_writes_cons_emb v f p.1 p.2 L x).trans (hp p List.mem_cons_self x)
    · rw [View.writes_cons]
      refine (View.read_slice_write_of_not_mem _ _ _ _ (by rw [Rect.map_emb_univ]; exact h)).trans (ih (fun p hm => hp p (List.mem_cons_of_mem _ hm)) ?_)
      rcases hy with hy | ⟨p', hm, hy⟩
      · exact .inl hy
      · rcases List.mem_cons.mp hm with rfl | hm
        · exact absurd hy h
        · exact .inr ⟨p', hm, hy⟩

/-- What is added up over blocks of 256 rows, block after block, is the sum over all rows. -/
def upTo {N : ℕ} (f : Fin N → EReal) (n : ℕ) : EReal := ∑ k : Fin N, if k.val < n then f k else 0

theorem upTo_zero {N : ℕ} (f : Fin N → EReal) : upTo f 0 = 0 := by simp [upTo]
theorem upTo_all {N : ℕ} (f : Fin N → EReal) : upTo f N = ∑ k, f k := Finset.sum_congr rfl fun k _ => if_pos k.isLt
theorem upTo_block {N : ℕ} (f : Fin N → EReal) (n B : ℕ) (h : n + B ≤ N) : upTo f n + ∑ r : Fin B, f ⟨n + r.val, by omega⟩ = upTo f (n + B) := by
  have e : ∀ (M : ℕ) (hM : M ≤ N), upTo f M = ∑ k : Fin M, f ⟨k.val, by omega⟩ := fun M hM => by
    obtain ⟨d, rfl⟩ := Nat.exists_eq_add_of_le hM
    unfold upTo
    rw [Fin.sum_univ_add]
    refine (congrArg₂ (fun a b : EReal => a + b) (Finset.sum_congr rfl fun k _ => if_pos (show k.val < M from k.isLt)) (Finset.sum_eq_zero fun k _ => if_neg (show ¬ M + k.val < M by omega))).trans (add_zero _)
  rw [e n (by omega), e (n + B) h, Fin.sum_univ_add]
  rfl

end Cert.Proof.NormBack

end
-- ==== Proof.InProjBack.lean ====
module

public import proofs.«01_k».proof.Defs
public import proofs.«01_k».proof.Proof.Chunks
public import proofs.«01_k».proof.Proof.NormBack
public import proofs.«01_k».proof.Proof.InProjBackRun
public import proofs.«01_k».proof.Proof.Gen.Reference15Ideal.Run
public import proofs.«01_k».proof.Proof.Gen.Reference15Ideal.Read

/-! The backward of the input projection: each grid step joins the three gradients' columns, multiplies them by the
weights chunk by chunk, takes the product back through the normalisation, and adds the step's column sums to the two
sums over all rows. -/

@[expose] public section

set_option maxRecDepth 16384

noncomputable section

namespace Cert.Proof.InProjBack

open Cert.Kernel15Ideal Cert.Kernel15Ideal.Gen Cert.Kernel15Ideal.Resident Idealize.ShloMosaic.TcCoe Idealize.SL.Sem
open Idealize.ShloMosaic hiding ix1 ix2 ix3 eq_ix2
open Idealize.ShloMosaic.ValueIdx
open Idealize.ShloMosaic.Pipeline (Dat)

variable (m : (ℓ : Loc nD τ sig) → Buf (Elt Ideal) ℓ)

/-! ## The results, in the arguments -/

abbrev a0 (c : Dev nD) : S2048x1024.Idx → EReal := m ((c : Thread nD τ).loc main_arg0)
abbrev a1 (c : Dev nD) : S2048x1024.Idx → EReal := m ((c : Thread nD τ).loc main_arg1)
abbrev a2 (c : Dev nD) : S2048x512.Idx → EReal := m ((c : Thread nD τ).loc main_arg2)
abbrev a3 (c : Dev nD) : S2048x1024.Idx → EReal := m ((c : Thread nD τ).loc main_arg3)
abbrev a4 (c : Dev nD) : S2048x2048.Idx → EReal := m ((c : Thread nD τ).loc main_arg4)
abbrev a5 (c : Dev nD) : S1024.Idx → EReal := m ((c : Thread nD τ).loc main_arg5)
abbrev a6 (c : Dev nD) : S1024x3584.Idx → EReal := m ((c : Thread nD τ).loc main_arg6)

/-- Row `n` of three matrices, side by side. -/
def joined {N : ℕ} (u : (⟨2, ![N, 512]⟩ : Shape).Idx → EReal) (v : (⟨2, ![N, 1024]⟩ : Shape).Idx → EReal) (w : (⟨2, ![N, 2048]⟩ : Shape).Idx → EReal) (n : Fin N) (j : Fin 3584) : EReal :=
  if h : j.val < 512 then u (ix2 n ⟨j.val, h⟩) else if h' : j.val < 1536 then v (ix2 n ⟨j.val - 512, by omega⟩) else w (ix2 n ⟨j.val - 1536, by omega⟩)

/-- A row taken back through its normalisation and scaling by `g`, with `d` added. -/
def through (x d h g : Fin 1024 → EReal) (k : Fin 1024) : EReal :=
  d k + Norm.scale x * (h k * g k - (x k * Norm.scale x) * Norm.mean (fun j => h j * g j * (x j * Norm.scale x)))

/-- The gradient before the projection, of the joined columns, and of the normalised rows. -/
def dz (c : Dev nD) (n : Fin 2048) (j : Fin 3584) : EReal := joined (a2 m c) (a3 m c) (a4 m c) n j
def dh (c : Dev nD) (n : Fin 2048) (k : Fin 1024) : EReal := ∑ j : Fin 3584, dz m c n j * a6 m c (ix2 k j)
/-- What one row gives the gradient of the scaling vector. -/
def dg (c : Dev nD) (k : Fin 1024) (n : Fin 2048) : EReal := dh m c n k * (a0 m c (ix2 n k) * Norm.scale (fun j => a0 m c (ix2 n j)))
/-- A row of sums above rows of zeros. -/
def onTop {N : ℕ} (f : Fin N → EReal) (z : Fin 8) (k : Fin N) : EReal := if z.val = 0 then f k else 0
def G6 (c : Dev nD) : Buf (Elt Ideal) ((c : Thread nD τ).loc main_v4_0) := fun (i : S2048x1024.Idx) =>
  (through (fun k => a0 m c (ix2 (i 0) k)) (fun k => a1 m c (ix2 (i 0) k)) (dh m c (i 0)) (fun k => a5 m c (ix1 k)) (i 1) : EReal)
def G7 (c : Dev nD) : Buf (Elt Ideal) ((c : Thread nD τ).loc main_v4_1) := fun (i : S2048x3584.Idx) => (dz m c (i 0) (i 1) : EReal)
def G8 (c : Dev nD) : Buf (Elt Ideal) ((c : Thread nD τ).loc main_v4_2) := fun (i : S8x1024.Idx) => (onTop (fun k => ∑ n, dg m c k n) (i 0) (i 1) : EReal)
def G9 (c : Dev nD) : Buf (Elt Ideal) ((c : Thread nD τ).loc main_v4_3) := fun (i : S8x3584.Idx) => (onTop (fun j => ∑ n, dz m c n j) (i 0) (i 1) : EReal)

/-! ## What the launch finds in its operands -/

theorem operand5 (c : Dev nD) (k : Fin 1024) : (V m c main_v0 : S1x1024.Idx → EReal) (ix2 0 k) = a5 m c (ix1 k) := by
  rw [show V m c main_v0 = shapeCast S1x1024 (m ((c : Thread nD τ).loc main_arg5) : FVec Ideal S1024 .f32) shapeCasts_S1024_S1x1024 by rfl]
  refine shapeCast_apply _ _ (ix2 0 k) (ix1 k) ?_
  rewrite [Shape.rowMajor_val_two, Shape.rowMajor_val_one]
  show k.val = 0 * 1024 + k.val
  omega

theorem operandW (c : Dev nD) (q : Fin 4) (i : Fin 1024) (k : Fin 896) (j : Fin 3584) (h : j.val = q.val * 896 + k.val) :
    (V m c main_v3 : S4x1024x896.Idx → EReal) (ix3 q i k) = a6 m c (ix2 i j) := by
  rw [show V m c main_v3 = transpose S4x1024x896 [1, 0, 2] (shapeCast S1024x4x896
    (truncf .bf16 (m ((c : Thread nD τ).loc main_arg6)) bitsLt_bf16_f32 : FVec Ideal S1024x3584 .bf16) shapeCasts_S1024x3584_S1024x4x896) transposes_S1024x4x896_S4x1024x896_1_0_2 by
    rfl]
  exact Chunks.columns_at (by norm_num) _ _ _ q i k j h

/-! ## The windows' blocks -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx5 : ∀ t : Fin cfg0.N, win0_5.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)

/-- Where a block of 256 rows lies in its array: coordinate by coordinate. -/
theorem row_place (idx : Fin 2 → ℕ) (t W r k : ℕ) (e : idx = ![t, 0]) : idx 0 * 256 + 1 * r = t * 256 + r ∧ idx 1 * W + 1 * k = k := by
  subst e
  exact ⟨by show t * 256 + 1 * r = _; omega, by show 0 * W + 1 * k = k; omega⟩

theorem block0 (c : Dev nD) (t : Fin cfg0.N) (r : Fin 256) (k : Fin 1024) (n : Fin 2048) (h : n.val = t.val * 256 + r.val) :
    (iblk m c 0 t : S256x1024.Idx → EReal) (ix2 r k) = a0 m c (ix2 n k) := by
  have e := row_place _ _ 1024 r.val k.val (idx0 t)
  refine congrArg (V m c main_arg0) (funext fun a => Fin.ext ?_)
  match a with
  | ⟨0, _⟩ => exact e.1.trans h.symm
  | ⟨1, _⟩ => exact e.2

theorem block1 (c : Dev nD) (t : Fin cfg0.N) (r : Fin 256) (k : Fin 1024) (n : Fin 2048) (h : n.val = t.val * 256 + r.val) :
    (iblk m c 1 t : S256x1024.Idx → EReal) (ix2 r k) = a1 m c (ix2 n k) := by
  have e := row_place _ _ 1024 r.val k.val (idx1 t)
  refine congrArg (V m c main_arg1) (funext fun a => Fin.ext ?_)
  match a with
  | ⟨0, _⟩ => exact e.1.trans h.symm
  | ⟨1, _⟩ => exact e.2

theorem block2 (c : Dev nD) (t : Fin cfg0.N) (r : Fin 256) (k : Fin 512) (n : Fin 2048) (h : n.val = t.val * 256 + r.val) :
    (iblk m c 2 t : S256x512.Idx → EReal) (ix2 r k) = a2 m c (ix2 n k) := by
  have e := row_place _ _ 512 r.val k.val (idx2 t)
  refine congrArg (V m c main_arg2) (funext fun a => Fin.ext ?_)
  match a with
  | ⟨0, _⟩ => exact e.1.trans h.symm
  | ⟨1, _⟩ => exact e.2

theorem block3 (c : Dev nD) (t : Fin cfg0.N) (r : Fin 256) (k : Fin 1024) (n : Fin 2048) (h : n.val = t.val * 256 + r.val) :
    (iblk m c 3 t : S256x1024.Idx → EReal) (ix2 r k) = a3 m c (ix2 n k) := by
  have e := row_place _ _ 1024 r.val k.val (idx3 t)
  refine congrArg (V m c main_arg3) (funext fun a => Fin.ext ?_)
  match a with
  | ⟨0, _⟩ => exact e.1.trans h.symm
  | ⟨1, _⟩ => exact e.2

theorem block4 (c : Dev nD) (t : Fin cfg0.N) (r : Fin 256) (k : Fin 2048) (n : Fin 2048) (h : n.val = t.val * 256 + r.val) :
    (iblk m c 4 t : S256x2048.Idx → EReal) (ix2 r k) = a4 m c (ix2 n k) := by
  have e := row_place _ _ 2048 r.val k.val (idx4 t)
  refine congrArg (V m c main_arg4) (funext fun a => Fin.ext ?_)
  match a with
  | ⟨0, _⟩ => exact e.1.trans h.symm
  | ⟨1, _⟩ => exact e.2

theorem block5 (c : Dev nD) (t : Fin cfg0.N) (k : Fin 1024) : (iblk m c 5 t : S1x1024.Idx → EReal) (ix2 0 k) = a5 m c (ix1 k) := by
  have e := idx5 t
  refine (congrArg (V m c main_v0) (funext fun a => Fin.ext ?_)).trans (operand5 m c k)
  match a with
  | ⟨0, _⟩ => refine Eq.trans (b := win0_5.index t (0 : Fin 2) * 1 + 1 * 0) rfl ?_; rw [e]; show 0 * 1 + 1 * 0 = 0; omega
  | ⟨1, _⟩ => refine Eq.trans (b := win0_5.index t (1 : Fin 2) * 1024 + 1 * k.val) rfl ?_; rw [e]; show 0 * 1024 + 1 * k.val = k.val; omega

theorem emb6 (t : Fin cfg0.N) (y : S256x1024.Idx) : (((cfg0.win 6).blk t).view.emb y 0).val = t.val * 256 + (y 0).val ∧ (((cfg0.win 6).blk t).view.emb y 1).val = (y 1).val :=
  row_place _ _ 1024 (y 0).val (y 1).val (idx6 t)
theorem covered6 (i : S2048x1024.Idx) : ∃ t : Fin cfg0.N, (cfg0.win 6).flush t = true ∧ i ∈ ((cfg0.win 6).blk t).view.set := by
  have h0 : (i 0).val < 2048 := (i 0).isLt
  refine ⟨⟨(i 0).val / 256, lt_of_lt_of_eq (show (i 0).val / 256 < 8 by omega) (show 8 = cfg0.N from N_0.symm)⟩, flush0_6 _, ?_⟩
  have hm : ∀ t : Fin cfg0.N, i ∈ ((cfg0.win 6).blk t).view.set ↔ ∀ a : Fin 2, win0_6.index t a * S256x1024.size a ≤ (i a).val ∧ (i a).val < win0_6.index t a * S256x1024.size a + S256x1024.size a := fun t => by
    show i ∈ ((View.whole main_v4_0).slice (win0_6.rect t)).set ↔ _
    rw [View.set_slice_whole, Rect.mem_set_unit]
    exact Iff.rfl
  exact (hm _).mpr (Chunks.in_rows (W := 1024) i _ (idx6 _))

theorem emb7 (t : Fin cfg0.N) (y : S256x3584.Idx) : (((cfg0.win 7).blk t).view.emb y 0).val = t.val * 256 + (y 0).val ∧ (((cfg0.win 7).blk t).view.emb y 1).val = (y 1).val :=
  row_place _ _ 3584 (y 0).val (y 1).val (idx7 t)
theorem covered7 (i : S2048x3584.Idx) : ∃ t : Fin cfg0.N, (cfg0.win 7).flush t = true ∧ i ∈ ((cfg0.win 7).blk t).view.set := by
  have h0 : (i 0).val < 2048 := (i 0).isLt
  refine ⟨⟨(i 0).val / 256, lt_of_lt_of_eq (show (i 0).val / 256 < 8 by omega) (show 8 = cfg0.N from N_0.symm)⟩, flush0_7 _, ?_⟩
  have hm : ∀ t : Fin cfg0.N, i ∈ ((cfg0.win 7).blk t).view.set ↔ ∀ a : Fin 2, win0_7.index t a * S256x3584.size a ≤ (i a).val ∧ (i a).val < win0_7.index t a * S256x3584.size a + S256x3584.size a := fun t => by
    show i ∈ ((View.whole main_v4_1).slice (win0_7.rect t)).set ↔ _
    rw [View.set_slice_whole, Rect.mem_set_unit]
    exact Iff.rfl
  exact (hm _).mpr (Chunks.in_rows (W := 3584) i _ (idx7 _))

theorem emb8 (t : Fin cfg0.N) (y : S8x1024.Idx) : ((cfg0.win 8).blk t).view.emb y = y := by
  have e := idx8 t
  refine funext fun a => Fin.ext ?_
  match a with
  | ⟨0, _⟩ => refine Eq.trans (b := win0_8.index t (0 : Fin 2) * 8 + 1 * (y 0).val) rfl ?_; rw [e]; show 0 * 8 + 1 * (y 0).val = (y 0).val; omega
  | ⟨1, _⟩ => refine Eq.trans (b := win0_8.index t (1 : Fin 2) * 1024 + 1 * (y 1).val) rfl ?_; rw [e]; show 0 * 1024 + 1 * (y 1).val = (y 1).val; omega
theorem covered8 (i : S8x1024.Idx) : ∃ t : Fin cfg0.N, (cfg0.win 8).flush t = true ∧ i ∈ ((cfg0.win 8).blk t).view.set := by
  refine ⟨⟨7, lt_of_lt_of_eq (show 7 < 8 by omega) (show 8 = cfg0.N from N_0.symm)⟩, (flush0_8 _).mpr rfl, ?_⟩
  have hm : ∀ t : Fin cfg0.N, i ∈ ((cfg0.win 8).blk t).view.set ↔ ∀ a : Fin 2, win0_8.index t a * S8x1024.size a ≤ (i a).val ∧ (i a).val < win0_8.index t a * S8x1024.size a + S8x1024.size a := fun t => by
    show i ∈ ((View.whole main_v4_2).slice (win0_8.rect t)).set ↔ _
    rw [View.set_slice_whole, Rect.mem_set_unit]
    exact Iff.rfl
  refine (hm _).mpr fun a => ?_
  rw [idx8 _]
  match a with
  | ⟨0, _⟩ => exact ⟨Nat.le_of_eq (Nat.zero_mul _) |>.trans (Nat.zero_le _), (i 0).isLt.trans_eq (by show 8 = 0 * 8 + 8; rfl)⟩
  | ⟨1, _⟩ => exact ⟨Nat.le_of_eq (Nat.zero_mul _) |>.trans (Nat.zero_le _), (i 1).isLt.trans_eq (by show 1024 = 0 * 1024 + 1024; omega)⟩

theorem emb9 (t : Fin cfg0.N) (y : S8x3584.Idx) : ((cfg0.win 9).blk t).view.emb y = y := by
  have e := idx9 t
  refine funext fun a => Fin.ext ?_
  match a with
  | ⟨0, _⟩ => refine Eq.trans (b := win0_9.index t (0 : Fin 2) * 8 + 1 * (y 0).val) rfl ?_; rw [e]; show 0 * 8 + 1 * (y 0).val = (y 0).val; omega
  | ⟨1, _⟩ => refine Eq.trans (b := win0_9.index t (1 : Fin 2) * 3584 + 1 * (y 1).val) rfl ?_; rw [e]; show 0 * 3584 + 1 * (y 1).val = (y 1).val; omega
theorem covered9 (i : S8x3584.Idx) : ∃ t : Fin cfg0.N, (cfg0.win 9).flush t = true ∧ i ∈ ((cfg0.win 9).blk t).view.set := by
  refine ⟨⟨7, lt_of_lt_of_eq (show 7 < 8 by omega) (show 8 = cfg0.N from N_0.symm)⟩, (flush0_9 _).mpr rfl, ?_⟩
  have hm : ∀ t : Fin cfg0.N, i ∈ ((cfg0.win 9).blk t).view.set ↔ ∀ a : Fin 2, win0_9.index t a * S8x3584.size a ≤ (i a).val ∧ (i a).val < win0_9.index t a * S8x3584.size a + S8x3584.size a := fun t => by
    show i ∈ ((View.whole main_v4_3).slice (win0_9.rect t)).set ↔ _
    rw [View.set_slice_whole, Rect.mem_set_unit]
    exact Iff.rfl
  refine (hm _).mpr fun a => ?_
  rw [idx9 _]
  match a with
  | ⟨0, _⟩ => exact ⟨Nat.le_of_eq (Nat.zero_mul _) |>.trans (Nat.zero_le _), (i 0).isLt.trans_eq (by show 8 = 0 * 8 + 8; rfl)⟩
  | ⟨1, _⟩ => exact ⟨Nat.le_of_eq (Nat.zero_mul _) |>.trans (Nat.zero_le _), (i 1).isLt.trans_eq (by show 3584 = 0 * 3584 + 3584; omega)⟩

/-! ## What a grid step computes -/

abbrev weightOf (w : Vec Ideal S4x1024x896 .bf16) (q : ℕ) (h : ∀ a, (![q, 0, 0] : Fin 3 → ℕ) a + S1x1024x896.size a ≤ S4x1024x896.size a) : Vec Ideal S1x1024x896 .bf16 :=
  View.ld w (Rect.unit (s := S4x1024x896) ![q, 0, 0] S1x1024x896.size h)
theorem resident_load (r : Rect S4x1024x896) (X : S4x1024x896.Idx → Elt Ideal .bf16) : View.readAt (Elt Ideal) scM0.view r.toLoadRect X = View.ld X r := rfl

/-- The product with one chunk of the weights, read at an index. -/
theorem chunk_product (v : Vec Ideal S256x896 .bf16) (w : Vec Ideal S4x1024x896 .bf16) (q : ℕ) (hq : q < 4) (hw) (r : Fin 256) (k : Fin 1024) :
    (matmul (F := Ideal) (φ₁ := .bf16) (φ₂ := .bf16) dot_S256x896_S1024x896_S256x1024_1_1_0_0_n_n none (shapeCast S256x896 v shapeCasts_S256x896_S256x896)
      (shapeCast S1024x896 (weightOf w q hw) shapeCasts_S1x1024x896_S1024x896) (constant S256x1024 .f32 0x00000000#32) (ix2 r k) : EReal)
      = ∑ j : Fin 896, (v (ix2 r j) : EReal) * w (ix3 (⟨q, hq⟩ : Fin 4) k j) := by
  rw [shapeCast_self]
  exact (Shared.product_nt (M := 256) (K := 896) (N := 1024) (φ₁ := .bf16) (φ₂ := .bf16) _ _ r k).trans
    (Finset.sum_congr rfl fun j _ => congrArg (fun b : EReal => (v (ix2 r j) : EReal) * b) ((Chunks.matrix_at _ _ k j).trans (Chunks.slab_at w q hq hw k j)))

/-- The four chunks' products together. -/
theorem product_at (w : Vec Ideal S4x1024x896 .bf16) (v0 v1 v2 v3 : Vec Ideal S256x896 .bf16) (h0 h1 h2 h3) (Z : Fin 256 → Fin (896 + 896 + 896 + 896) → EReal) (U : Fin 1024 → Fin (896 + 896 + 896 + 896) → EReal)
    (e0 : ∀ (r : Fin 256) (j : Fin 896), (v0 (ix2 r j) : EReal) = Z r ⟨j.val, by omega⟩) (e1 : ∀ (r : Fin 256) (j : Fin 896), (v1 (ix2 r j) : EReal) = Z r ⟨896 + j.val, by omega⟩)
    (e2 : ∀ (r : Fin 256) (j : Fin 896), (v2 (ix2 r j) : EReal) = Z r ⟨896 + 896 + j.val, by omega⟩) (e3 : ∀ (r : Fin 256) (j : Fin 896), (v3 (ix2 r j) : EReal) = Z r ⟨896 + 896 + 896 + j.val, by omega⟩)
    (hU : ∀ (q : Fin 4) (k : Fin 1024) (j : Fin 896) (J), J.val = q.val * 896 + j.val → (w (ix3 q k j) : EReal) = U k J) (r : Fin 256) (k : Fin 1024) :
    (k0_pay11 (F := Ideal) (k0_pay10 v0 (weightOf w 0 h0) v1 (weightOf w 1 h1) v2 (weightOf w 2 h2)) v3 (weightOf w 3 h3) (ix2 r k) : EReal) = ∑ j, Z r j * U k j := by
  unfold k0_pay11 k0_pay10
  rw [Shared.sum_runs 896]
  refine congrArg₂ (fun a b : EReal => a + b) (congrArg₂ (fun a b : EReal => a + b) (congrArg₂ (fun a b : EReal => a + b) ?_ ?_) ?_) ?_
  · refine (congrArg (fun a : EReal => a + _) Ideal.ofBits_zero_f32).trans ((zero_add _).trans ((chunk_product v0 w 0 (by omega) h0 r k).trans (Finset.sum_congr rfl fun j _ => congrArg₂ (fun a b : EReal => a * b) (e0 r j) (hU _ k j _ ?_))))
    show j.val = 0 * 896 + j.val; omega
  · refine (chunk_product v1 w 1 (by omega) h1 r k).trans (Finset.sum_congr rfl fun j _ => congrArg₂ (fun a b : EReal => a * b) (e1 r j) (hU _ k j _ ?_))
    show 896 + j.val = 1 * 896 + j.val; omega
  · refine (chunk_product v2 w 2 (by omega) h2 r k).trans (Finset.sum_congr rfl fun j _ => congrArg₂ (fun a b : EReal => a * b) (e2 r j) (hU _ k j _ ?_))
    show 896 + 896 + j.val = 2 * 896 + j.val; omega
  · refine (chunk_product v3 w 3 (by omega) h3 r k).trans (Finset.sum_congr rfl fun j _ => congrArg₂ (fun a b : EReal => a * b) (e3 r j) (hU _ k j _ ?_))
    show 896 + 896 + 896 + j.val = 3 * 896 + j.val; omega

section Step
variable (v51 : FVec Ideal S256x1024 .f32) (v52 : Vec Ideal S256x896 .bf16) (v54 : Vec Ideal S1x1024x896 .bf16) (x : Vec Ideal S256x1024 .f32) (H : Fin 256 → Fin 1024 → EReal)
  (hH : ∀ r k, (k0_pay11 (F := Ideal) v51 v52 v54 (ix2 r k) : EReal) = H r k)

theorem factor_at (r : Fin 256) (z : Fin 1) : (k0_pay12 (F := Ideal) x (ix2 r z) : EReal) = Norm.scale (fun k => x (ix2 r k)) := Norm.scale_at x _ _ _ _ r z
theorem scaled_at (r : Fin 256) (k : Fin 1024) : (k0_pay13 (F := Ideal) x (ix2 r k) : EReal) = x (ix2 r k) * Norm.scale (fun k => x (ix2 r k)) :=
  congrArg (fun a : EReal => (x (ix2 r k) : EReal) * a) ((Norm.spread _ _ r k).trans (factor_at x r 0))

include hH in
/-- What a step stores of the gradient, read at an index. -/
theorem through_at (d : Vec Ideal S256x1024 .f32) (g : Vec Ideal S1x1024 .f32) (r : Fin 256) (k : Fin 1024) :
    (k0_pay1 (F := Ideal) d (k0_pay15 v51 v52 v54 x g) (k0_pay16 x) (ix2 r k) : EReal)
      = through (fun k => x (ix2 r k)) (fun k => d (ix2 r k)) (H r) (fun k => g (ix2 0 k)) k := by
  have hd : ∀ k : Fin 1024, (mulf (F := Ideal) (φ := .f32) (k0_pay11 (F := Ideal) v51 v52 v54) (broadcastTo S256x1024 (shapeCast S1x1024 g shapeCasts_S1x1024_S1x1024) broadcasts_S1x1024_S256x1024) (ix2 r k) : EReal)
      = H r k * g (ix2 0 k) := fun k => by
    rw [shapeCast_self]
    exact congrArg₂ (fun a b : EReal => a * b) (hH r k) (Norm.spread_row g _ r k)
  unfold k0_pay1 k0_pay15 k0_pay16 through
  refine congrArg (fun a : EReal => (d (ix2 r k) : EReal) + a) (congrArg₂ (fun a b : EReal => a * b) ((Norm.spread _ _ r k).trans (factor_at x r 0)) ?_)
  refine congrArg₂ (fun a b : EReal => a - b) (hd k) (congrArg₂ (fun a b : EReal => a * b) (scaled_at x r k) ((Norm.spread _ _ r k).trans ?_))
  refine congrArg (fun s : EReal => Ideal.div s (Ideal.ofBits .f32 0x44800000#32)) ((Norm.row_sum _ _ _ _ _ r 0).trans (Finset.sum_congr rfl fun j _ => ?_))
  exact congrArg₂ (fun a b : EReal => a * b) (hd j) (scaled_at x r j)

include hH in
/-- What a step adds to the sum for the scaling vector, read at an index. -/
theorem gain_at (p : Vec Ideal S1x1024 .f32) (z : Fin 1) (k : Fin 1024) :
    (k0_pay14 (F := Ideal) v51 v52 v54 x p (ix2 z k) : EReal) = p (ix2 z k) + ∑ r : Fin 256, H r k * (x (ix2 r k) * Norm.scale (fun k => x (ix2 r k))) := by
  unfold k0_pay14
  rw [shapeCast_self]
  exact congrArg (fun a : EReal => (p (ix2 z k) : EReal) + a) ((NormBack.column_sum _ _ _ _ _ z k).trans (Finset.sum_congr rfl fun r _ => congrArg₂ (fun a b : EReal => a * b) (hH r k) (scaled_at x r k)))
end Step

/-- The joined columns of a step's blocks. -/
def zB (c : Dev nD) (t : Fin cfg0.N) (r : Fin 256) (j : Fin 3584) : EReal := joined (N := 256) (iblk m c 2 t) (iblk m c 3 t) (iblk m c 4 t) r j

theorem zB_at (c : Dev nD) (t : Fin cfg0.N) (r : Fin 256) (j : Fin 3584) (n : Fin 2048) (h : n.val = t.val * 256 + r.val) : zB m c t r j = dz m c n j := by
  unfold zB dz joined
  split_ifs with h1 h2
  · exact block2 m c t r _ n h
  · exact block3 m c t r _ n h
  · exact block4 m c t r _ n h

/-- The three stores of a step's joined columns, each in its place. -/
theorem joined_first (c : Dev nD) (t : Fin cfg0.N) (h) (z : S256x512.Idx) :
    ((iblk m c 2 t : S256x512.Idx → EReal) z) = zB m c t (((Rect.unit (s := S256x3584) ![0, 0] S256x512.size h).emb z) 0) (((Rect.unit (s := S256x3584) ![0, 0] S256x512.size h).emb z) 1) := by
  have h1 : (z 1).val < 512 := (z 1).isLt
  have e : (((Rect.unit (s := S256x3584) ![0, 0] S256x512.size h).emb z) 1).val = (z 1).val := by show 0 + 1 * (z 1).val = (z 1).val; omega
  unfold zB joined
  rw [dif_pos (by omega)]
  refine congrArg _ (funext fun a => Fin.ext ?_)
  match a with
  | ⟨0, _⟩ => show (z 0).val = 0 + 1 * (z 0).val; omega
  | ⟨1, _⟩ => exact e.symm
theorem joined_second (c : Dev nD) (t : Fin cfg0.N) (h) (z : S256x1024.Idx) :
    ((iblk m c 3 t : S256x1024.Idx → EReal) z) = zB m c t (((Rect.unit (s := S256x3584) ![0, 512] S256x1024.size h).emb z) 0) (((Rect.unit (s := S256x3584) ![0, 512] S256x1024.size h).emb z) 1) := by
  have h1 : (z 1).val < 1024 := (z 1).isLt
  have e : (((Rect.unit (s := S256x3584) ![0, 512] S256x1024.size h).emb z) 1).val = 512 + (z 1).val := by show 512 + 1 * (z 1).val = _; omega
  unfold zB joined
  rw [dif_neg (by omega), dif_pos (by omega)]
  refine congrArg _ (funext fun a => Fin.ext ?_)
  match a with
  | ⟨0, _⟩ => show (z 0).val = 0 + 1 * (z 0).val; omega
  | ⟨1, _⟩ => show (z 1).val = _ - 512; rw [e]; omega
theorem joined_third (c : Dev nD) (t : Fin cfg0.N) (h) (z : S256x2048.Idx) :
    ((iblk m c 4 t : S256x2048.Idx → EReal) z) = zB m c t (((Rect.unit (s := S256x3584) ![0, 1536] S256x2048.size h).emb z) 0) (((Rect.unit (s := S256x3584) ![0, 1536] S256x2048.size h).emb z) 1) := by
  have h1 : (z 1).val < 2048 := (z 1).isLt
  have e : (((Rect.unit (s := S256x3584) ![0, 1536] S256x2048.size h).emb z) 1).val = 1536 + (z 1).val := by show 1536 + 1 * (z 1).val = _; omega
  unfold zB joined
  rw [dif_neg (by omega), dif_neg (by omega)]
  refine congrArg _ (funext fun a => Fin.ext ?_)
  match a with
  | ⟨0, _⟩ => show (z 0).val = 0 + 1 * (z 0).val; omega
  | ⟨1, _⟩ => show (z 1).val = _ - 1536; rw [e]; omega

/-- The pieces a step stores into the joined columns' block. -/
abbrev pieces (c : Dev nD) (t : Fin cfg0.N) : List (View.Piece (Elt Ideal) S256x3584 .bf16) :=
  tileRun.sl.H7_3 (F := Ideal) c (ms2 t) (hs2 t) (ms3 t) (hs3 t) (ms4 t) (hs4 t) (iblk m c 2 t) (iblk m c 3 t) (iblk m c 4 t)

theorem pieces_agree (c : Dev nD) (t : Fin cfg0.N) : ∀ p ∈ pieces m c t, ∀ x, p.2 x = (fun y : S256x3584.Idx => (zB m c t (y 0) (y 1) : EReal)) (p.1.emb x) := by
  intro pc hpc
  unfold pieces tileRun.sl.H7_3 at hpc
  rw [Chunks.load_whole (S := S256x512) (hs2 t) Chunks.zero2, Chunks.load_whole (S := S256x1024) (hs3 t) Chunks.zero2, Chunks.load_whole (S := S256x2048) (hs4 t) Chunks.zero2] at hpc
  rcases List.mem_cons.mp hpc with rfl | hpc
  · intro z; exact joined_third m c t inb_S256x3584_S256x2048_0_1536 z
  rcases List.mem_cons.mp hpc with rfl | hpc
  · intro z; exact joined_second m c t inb_S256x3584_S256x1024_0_512 z
  rcases List.mem_cons.mp hpc with rfl | hpc
  · intro z; exact joined_first m c t inb_S256x3584_S256x512_0_0 z
  · exact absurd hpc List.not_mem_nil

theorem pieces_cover (c : Dev nD) (t : Fin cfg0.N) (y : S256x3584.Idx) : ∃ p ∈ pieces m c t, y ∈ p.1.set :=
  cover7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
    (iblk m c 0 t) (iblk m c 1 t) (iblk m c 2 t) (iblk m c 3 t) (iblk m c 4 t) (iblk m c 5 t) (k0_pay2 (F := Ideal)) (k0_pay3 (F := Ideal)) (V m c main_v3) y

theorem left7_at (c : Dev nD) (t : Fin cfg0.N) (p8 p9) (y : S256x3584.Idx) (n : Fin 2048) (h : n.val = t.val * 256 + (y 0).val) :
    (left7 m c t p8 p9 y : EReal) = dz m c n (y 1) := by
  unfold left7
  rw [View.read_writes_junk_eq_canon]
  exact (View.canon_apply_of_pieces (Val := Elt Ideal) (e := .bf16) (fun y : S256x3584.Idx => (zB m c t (y 0) (y 1) : EReal)) (pieces m c t) (pieces_agree m c t) y (pieces_cover m c t y)).trans (zB_at m c t (y 0) (y 1) n h)

/-- A run of columns read back from the block of the joined columns. -/
theorem read_back (c : Dev nD) (t : Fin cfg0.N) (o : ℕ) (ho) (r : Fin 256) (j : Fin 896) (J : Fin 3584) (hJ : J.val = o + j.val) :
    ((ms7 t).view.readCov (pieces m c t) (Rect.unit (s := S256x3584) ![0, o] S256x896.size ho).toLoadRect (ix2 r j) : EReal) = zB m c t r J := by
  rw [View.readCov_eq_canon _ _ _ fun _ => pieces_cover m c t _]
  refine (View.canon_apply_of_pieces (Val := Elt Ideal) (e := .bf16) (fun y : S256x3584.Idx => (zB m c t (y 0) (y 1) : EReal)) (pieces m c t) (pieces_agree m c t) _ (pieces_cover m c t _)).trans ?_
  refine congrArg₂ (zB m c t) (Fin.ext ?_) (Fin.ext ?_)
  · show 0 + 1 * r.val = r.val; omega
  · show o + 1 * j.val = J.val; omega

/-! ## The step's three other results -/

/-- The gradient of a block's normalised rows. -/
def hB (c : Dev nD) (t : Fin cfg0.N) (r : Fin 256) (k : Fin 1024) : EReal := ∑ j : Fin 3584, zB m c t r j * a6 m c (ix2 k j)

theorem hB_at (c : Dev nD) (t : Fin cfg0.N) (r : Fin 256) (k : Fin 1024) (n : Fin 2048) (h : n.val = t.val * 256 + r.val) : hB m c t r k = dh m c n k :=
  Finset.sum_congr rfl fun j _ => congrArg (fun a : EReal => a * a6 m c (ix2 k j)) (zB_at m c t r j n h)

/-- The four runs of columns a step multiplies. -/
abbrev run (c : Dev nD) (t : Fin cfg0.N) (o : ℕ) (ho : ∀ a, (![0, o] : Fin 2 → ℕ) a + S256x896.size a ≤ S256x3584.size a) : Vec Ideal S256x896 .bf16 :=
  (ms7 t).view.readCov (pieces m c t) (Rect.unit (s := S256x3584) ![0, o] S256x896.size ho).toLoadRect
abbrev first3 (c : Dev nD) (t : Fin cfg0.N) : FVec Ideal S256x1024 .f32 :=
  k0_pay10 (F := Ideal) (run m c t 0 inb_S256x3584_S256x896_0_0) (weightOf (V m c main_v3) 0 inb_S4x1024x896_S1x1024x896_0_0_0) (run m c t 896 inb_S256x3584_S256x896_0_896) (weightOf (V m c main_v3) 1 inb_S4x1024x896_S1x1024x896_1_0_0)
    (run m c t 1792 inb_S256x3584_S256x896_0_1792) (weightOf (V m c main_v3) 2 inb_S4x1024x896_S1x1024x896_2_0_0)
abbrev last (c : Dev nD) (t : Fin cfg0.N) : Vec Ideal S256x896 .bf16 := run m c t 2688 inb_S256x3584_S256x896_0_2688
abbrev lastW (c : Dev nD) : Vec Ideal S1x1024x896 .bf16 := weightOf (V m c main_v3) 3 inb_S4x1024x896_S1x1024x896_3_0_0

theorem product_step (c : Dev nD) (t : Fin cfg0.N) (r : Fin 256) (k : Fin 1024) :
    (k0_pay11 (F := Ideal) (first3 m c t) (last m c t) (lastW m c) (ix2 r k) : EReal) = hB m c t r k :=
  product_at (V m c main_v3) _ _ _ _ _ _ _ _ (fun r j => zB m c t r j) (fun k j => a6 m c (ix2 k j))
    (fun r j => read_back m c t 0 _ r j _ (by show j.val = 0 + j.val; omega)) (fun r j => read_back m c t 896 _ r j _ rfl)
    (fun r j => read_back m c t 1792 _ r j _ rfl) (fun r j => read_back m c t 2688 _ r j _ rfl)
    (fun q k j J h => operandW m c q k j J h) r k

theorem left6_at (c : Dev nD) (t : Fin cfg0.N) (p8 p9) (r : Fin 256) (k : Fin 1024) (n : Fin 2048) (h : n.val = t.val * 256 + r.val) :
    (left6 m c t p8 p9 (ix2 r k) : EReal) = through (fun k => a0 m c (ix2 n k)) (fun k => a1 m c (ix2 n k)) (dh m c n) (fun k => a5 m c (ix1 k)) k := by
  unfold left6
  rw [View.read_writes_junk_eq_canon]
  dsimp only [runAt, tileRun]
  rw [View.canon_unit_zero (S := S256x1024) Chunks.zero2]
  unfold tileRun.sl.r_2 tileRun.sl.r_3 tileRun.sl.r_4
  rw [Chunks.load_whole (S := S256x1024) (hs0 t) Chunks.zero2, Chunks.load_whole (S := S256x1024) (hs1 t) Chunks.zero2, Chunks.load_whole (S := S1x1024) (hs5 t) Chunks.zero2]
  refine (through_at (first3 m c t) (last m c t) (lastW m c) (iblk m c 0 t) (hB m c t) (product_step m c t) (iblk m c 1 t) (iblk m c 5 t) r k).trans ?_
  simp only [block0 m c t r _ n h, block1 m c t r _ n h, block5 m c t]
  exact congrArg (fun f => through _ _ f _ k) (funext fun k => hB_at m c t r k n h)

/-- A step's block of the first array, and what one of its rows gives the sum for the scaling vector. -/
abbrev xB (c : Dev nD) (t : Fin cfg0.N) : S256x1024.Idx → EReal := iblk m c 0 t
def gB (c : Dev nD) (t : Fin cfg0.N) (r : Fin 256) (k : Fin 1024) : EReal := hB m c t r k * (xB m c t (ix2 r k) * Norm.scale (fun k => xB m c t (ix2 r k)))

theorem left8_at (c : Dev nD) (t : Fin cfg0.N) (p8 : Vec Ideal S8x1024 .f32) (p9) (y : S8x1024.Idx) :
    (left8 m c t p8 p9 y : EReal) = if (y 0).val = 0 then p8 y + ∑ r : Fin 256, gB m c t r (y 1) else p8 y := by
  unfold left8
  dsimp only [runAt, tileRun]
  rw [Chunks.load_whole (S := S256x1024) (hs0 t) Chunks.zero2]
  refine NormBack.read_agree _ _ (fun y : S8x1024.Idx => if (y 0).val = 0 then p8 y + ∑ r : Fin 256, gB m c t r (y 1) else p8 y) _ ?_ y ?_
  · intro pc hpc
    rcases List.mem_cons.mp hpc with rfl | hpc
    · intro (z : S1x1024.Idx)
      have hz : (z 0).val < 1 := (z 0).isLt
      have e : (Rect.unit (s := S8x1024) ![0, 0] S1x1024.size inb_S8x1024_S1x1024_0_0).emb z = ix2 0 (z 1) := funext fun a => Fin.ext (match a with
        | ⟨0, _⟩ => by show 0 + 1 * (z 0).val = 0; omega
        | ⟨1, _⟩ => by show 0 + 1 * (z 1).val = (z 1).val; omega)
      refine Eq.trans ?_ (congrArg (fun y : S8x1024.Idx => (if (y 0).val = 0 then p8 y + ∑ r : Fin 256, gB m c t r (y 1) else p8 y : EReal)) e).symm
      refine Eq.trans ?_ (if_pos rfl).symm
      refine (congrArg _ (eq_ix2 z)).trans ((gain_at (first3 m c t) (last m c t) (lastW m c) (iblk m c 0 t) (hB m c t) (product_step m c t) _ (z 0) (z 1)).trans ?_)
      refine congrArg (fun a : EReal => a + _) ?_
      refine (congrFun (Chunks.load (hs8 t) _ p8) _).trans (congrArg p8 ?_)
      exact (congrArg _ (eq_ix2 z).symm).trans e
    · exact absurd hpc List.not_mem_nil
  · by_cases h : (y 0).val = 0
    · refine .inr ⟨_, List.mem_cons_self, ?_⟩
      rw [Rect.mem_set_unit]
      intro a
      match a with
      | ⟨0, _⟩ => exact ⟨Nat.zero_le _, by show (y 0).val < 0 + 1; omega⟩
      | ⟨1, _⟩ => exact ⟨Nat.zero_le _, (y 1).isLt.trans_eq (by show 1024 = 0 + 1024; omega)⟩
    · refine .inl ((congrFun ((hs8 t).read_unread p8) y).trans (if_neg h).symm)

/-- What a step stores into a run of columns of its sum of the joined columns. -/
theorem sum_run {W : ℕ} (c : Dev nD) (t : Fin cfg0.N) (p9 : Vec Ideal S8x3584 .f32) (o : ℕ) (u : FVec Ideal ⟨2, ![256, W]⟩ .f32) (p : FVec Ideal ⟨2, ![1, W]⟩ .f32)
    (hs : (⟨2, ![1, W]⟩ : Shape).ShapeCasts ⟨2, ![1, W]⟩) (hr : (⟨2, ![256, W]⟩ : Shape).Reduces [0] ⟨1, ![W]⟩) (hc : (⟨1, ![W]⟩ : Shape).ShapeCasts ⟨2, ![1, W]⟩) (hf) (hn)
    (hin : ∀ a, (![0, o] : Fin 2 → ℕ) a + (![1, W] : Fin 2 → ℕ) a ≤ S8x3584.size a) (hin' : ∀ a, (![0, o] : Fin 2 → ℕ) a + (![256, W] : Fin 2 → ℕ) a ≤ S256x3584.size a)
    (hp : p = View.ld p9 (Rect.unit (s := S8x3584) ![0, o] ![1, W] hin))
    (hu : ∀ z : (⟨2, ![256, W]⟩ : Shape).Idx, (u z : EReal) = zB m c t (((Rect.unit (s := S256x3584) ![0, o] ![256, W] hin').emb z) 0) (((Rect.unit (s := S256x3584) ![0, o] ![256, W] hin').emb z) 1))
    (z : (⟨2, ![1, W]⟩ : Shape).Idx) :
    (addf (shapeCast ⟨2, ![1, W]⟩ p hs) (shapeCast ⟨2, ![1, W]⟩ (multiReduction (F := Ideal) .add [0] ⟨1, ![W]⟩ u 0x00000000#32 hr hf hn) hc) z : EReal)
      = (fun y : S8x3584.Idx => if (y 0).val = 0 then p9 y + ∑ r : Fin 256, zB m c t r (y 1) else p9 y) ((Rect.unit (s := S8x3584) ![0, o] ![1, W] hin).emb z) := by
  have hz : (z 0).val < 1 := (z 0).isLt
  refine Eq.trans ?_ (if_pos (show 0 + 1 * (z 0).val = 0 by omega)).symm
  rw [shapeCast_self, hp]
  refine congrArg₂ (fun a b : EReal => a + b) rfl ?_
  refine (congrArg _ (eq_ix2 z)).trans ((NormBack.column_sum u hr hc hf hn (z 0) (z 1)).trans (Finset.sum_congr rfl fun r _ => (hu _).trans (congrArg₂ (zB m c t) (Fin.ext ?_) (Fin.ext rfl))))
  show 0 + 1 * r.val = r.val; omega

theorem left9_at (c : Dev nD) (t : Fin cfg0.N) (p8) (p9 : Vec Ideal S8x3584 .f32) (y : S8x3584.Idx) :
    (left9 m c t p8 p9 y : EReal) = if (y 0).val = 0 then p9 y + ∑ r : Fin 256, zB m c t r (y 1) else p9 y := by
  unfold left9
  dsimp only [runAt, tileRun]
  unfold tileRun.sl.r tileRun.sl.v18 tileRun.sl.v27
  rw [Chunks.load_whole (S := S256x512) (hs2 t) Chunks.zero2, Chunks.load_whole (S := S256x1024) (hs3 t) Chunks.zero2, Chunks.load_whole (S := S256x2048) (hs4 t) Chunks.zero2]
  refine NormBack.read_agree _ _ (fun y : S8x3584.Idx => if (y 0).val = 0 then p9 y + ∑ r : Fin 256, zB m c t r (y 1) else p9 y) _ ?_ y ?_
  · intro pc hpc
    rcases List.mem_cons.mp hpc with rfl | hpc
    · exact sum_run m c t p9 1536 (iblk m c 4 t) _ _ _ _ _ _ _ inb_S256x3584_S256x2048_0_1536 (Chunks.load (hs9 t) _ p9) (joined_third m c t _)
    rcases List.mem_cons.mp hpc with rfl | hpc
    · exact sum_run m c t p9 512 (iblk m c 3 t) _ _ _ _ _ _ _ inb_S256x3584_S256x1024_0_512 (Chunks.load (hs9 t) _ p9) (joined_second m c t _)
    rcases List.mem_cons.mp hpc with rfl | hpc
    · exact sum_run m c t p9 0 (iblk m c 2 t) _ _ _ _ _ _ _ inb_S256x3584_S256x512_0_0 (Chunks.load (hs9 t) _ p9) (joined_first m c t _)
    · exact absurd hpc List.not_mem_nil
  · by_cases h : (y 0).val = 0
    · have h1 : (y 1).val < 3584 := (y 1).isLt
      refine .inr ?_
      rcases lt_or_ge (y 1).val 512 with g | g
      · refine ⟨_, List.mem_cons_of_mem _ (List.mem_cons_of_mem _ List.mem_cons_self), ?_⟩
        rw [Rect.mem_set_unit]
        intro a
        match a with
        | ⟨0, _⟩ => exact ⟨Nat.zero_le _, by show (y 0).val < 0 + 1; omega⟩
        | ⟨1, _⟩ => exact ⟨Nat.zero_le _, by show (y 1).val < 0 + 512; omega⟩
      rcases lt_or_ge (y 1).val 1536 with g' | g'
      · refine ⟨_, List.mem_cons_of_mem _ List.mem_cons_self, ?_⟩
        rw [Rect.mem_set_unit]
        intro a
        match a with
        | ⟨0, _⟩ => exact ⟨Nat.zero_le _, by show (y 0).val < 0 + 1; omega⟩
        | ⟨1, _⟩ => exact ⟨g, by show (y 1).val < 512 + 1024; omega⟩
      · refine ⟨_, List.mem_cons_self, ?_⟩
        rw [Rect.mem_set_unit]
        intro a
        match a with
        | ⟨0, _⟩ => exact ⟨Nat.zero_le _, by show (y 0).val < 0 + 1; omega⟩
        | ⟨1, _⟩ => exact ⟨g', by show (y 1).val < 1536 + 2048; omega⟩
    · refine .inl ((congrFun ((hs9 t).read_unread p9) y).trans (if_neg h).symm)

/-! ## The sums over the steps -/

/-- A step's sum over its 256 rows, of what the whole array's rows give. -/
theorem gain8 (c : Dev nD) (t : Fin cfg0.N) (h : t.val * 256 + 256 ≤ 2048) (k : Fin 1024) :
    (∑ r : Fin 256, gB m c t r k)
      = ∑ r : Fin 256, dg m c k ⟨t.val * 256 + r.val, by omega⟩ := by
  refine Finset.sum_congr rfl fun r _ => ?_
  unfold dg gB xB
  simp only [block0 m c t r _ ⟨t.val * 256 + r.val, by omega⟩ rfl, hB_at m c t r k ⟨t.val * 256 + r.val, by omega⟩ rfl]
theorem gain9 (c : Dev nD) (t : Fin cfg0.N) (h : t.val * 256 + 256 ≤ 2048) (j : Fin 3584) :
    (∑ r : Fin 256, zB m c t r j) = ∑ r : Fin 256, dz m c ⟨t.val * 256 + r.val, by omega⟩ j :=
  Finset.sum_congr rfl fun r _ => zB_at m c t r j _ rfl

/-- The two sums after the rows before `n`. -/
def upto8 (c : Dev nD) (n : ℕ) : Vec Ideal S8x1024 .f32 := fun y : S8x1024.Idx => (onTop (fun k => NormBack.upTo (dg m c k) n) (y 0) (y 1) : EReal)
def upto9 (c : Dev nD) (n : ℕ) : Vec Ideal S8x3584 .f32 := fun y : S8x3584.Idx => (onTop (fun j => NormBack.upTo (fun n => dz m c n j) n) (y 0) (y 1) : EReal)

theorem step8 (c : Dev nD) (t : Fin cfg0.N) (p9) : left8 m c t (upto8 m c (t.val * 256)) p9 = upto8 m c (t.val * 256 + 256) := by
  have hN : t.val < 8 := lt_of_lt_of_eq t.isLt (show cfg0.N = 8 from N_0)
  funext (y : S8x1024.Idx)
  refine (left8_at m c t _ _ y).trans ?_
  unfold upto8 onTop
  by_cases h : (y 0).val = 0
  · refine (if_pos h).trans (Eq.trans ?_ (if_pos h).symm)
    exact (congrArg₂ (fun a b : EReal => a + b) (if_pos h) (gain8 m c t (by omega) (y 1))).trans (NormBack.upTo_block (dg m c (y 1)) (t.val * 256) 256 (by omega))
  · exact (if_neg h).trans ((if_neg h).trans (if_neg h).symm)
theorem step9 (c : Dev nD) (t : Fin cfg0.N) (p8) : left9 m c t p8 (upto9 m c (t.val * 256)) = upto9 m c (t.val * 256 + 256) := by
  have hN : t.val < 8 := lt_of_lt_of_eq t.isLt (show cfg0.N = 8 from N_0)
  funext (y : S8x3584.Idx)
  refine (left9_at m c t _ _ y).trans ?_
  unfold upto9 onTop
  by_cases h : (y 0).val = 0
  · refine (if_pos h).trans (Eq.trans ?_ (if_pos h).symm)
    exact (congrArg₂ (fun a b : EReal => a + b) (if_pos h) (gain9 m c t (by omega) (y 1))).trans (NormBack.upTo_block (fun n => dz m c n (y 1)) (t.val * 256) 256 (by omega))
  · exact (if_neg h).trans ((if_neg h).trans (if_neg h).symm)

theorem none_yet (c : Dev nD) : k0_pay2 (F := Ideal) = upto8 m c 0 ∧ k0_pay3 (F := Ideal) = upto9 m c 0 := by
  constructor
  · funext (y : S8x1024.Idx)
    refine Eq.trans (b := (0 : EReal)) Ideal.ofBits_zero_f32 ?_
    unfold upto8 onTop
    simp only [NormBack.upTo_zero, ite_self]
  · funext (y : S8x3584.Idx)
    refine Eq.trans (b := (0 : EReal)) Ideal.ofBits_zero_f32 ?_
    unfold upto9 onTop
    simp only [NormBack.upTo_zero, ite_self]

theorem sums_at (c : Dev nD) : ∀ (n : ℕ) (hn : n < cfg0.N), sums m c n hn = (upto8 m c (n * 256 + 256), upto9 m c (n * 256 + 256))
  | 0, hn => by
    unfold sums
    have h := none_yet m c
    rw [h.1, h.2]
    exact congrArg₂ Prod.mk (step8 m c ⟨0, hn⟩ _) (step9 m c ⟨0, hn⟩ _)
  | n + 1, hn => by
    unfold sums
    rw [sums_at c n _]
    have e : n * 256 + 256 = (n + 1) * 256 := by omega
    rw [e]
    exact congrArg₂ Prod.mk (step8 m c ⟨n + 1, hn⟩ _) (step9 m c ⟨n + 1, hn⟩ _)

theorem after_last (c : Dev nD) (t : Fin cfg0.N) (h : t.val = 7) :
    left8 m c t (sumsBefore m c t).1 (sumsBefore m c t).2 = upto8 m c 2048 ∧ left9 m c t (sumsBefore m c t).1 (sumsBefore m c t).2 = upto9 m c 2048 := by
  have e := (sums_eq m c t).symm.trans (sums_at m c t.val t.isLt)
  have hn : t.val * 256 + 256 = 2048 := by omega
  rw [hn] at e
  exact ⟨congrArg Prod.fst e, congrArg Prod.snd e⟩

theorem flushed6_eq (c : Dev nD) (t : Fin cfg0.N) : (dats m 0 c).flushed 6 t = ((cfg0.win 6).blk t).view.read (Elt Ideal) (G6 m c) := by
  unfold Dat.flushed
  rw [after6]
  funext (y : S256x1024.Idx)
  have hc : (((cfg0.win 6).blk t).view.emb y 1 : Fin 1024) = y 1 := Fin.ext (emb6 t y).2
  show (left6 m c t _ _ y : EReal) = through (fun k => a0 m c (ix2 (((cfg0.win 6).blk t).view.emb y 0) k)) (fun k => a1 m c (ix2 (((cfg0.win 6).blk t).view.emb y 0) k))
    (dh m c (((cfg0.win 6).blk t).view.emb y 0)) (fun k => a5 m c (ix1 k)) (((cfg0.win 6).blk t).view.emb y 1)
  rw [hc]
  exact Eq.trans (congrArg _ (show y = ix2 (y 0) (y 1) from eq_ix2 y)) (left6_at m c t _ _ (y 0) (y 1) _ (emb6 t y).1)
theorem final6 (c : Dev nD) : (dats m 0 c).arrAt 6 cfg0.N = G6 m c :=
  (dats m 0 c).arrAt_eq_of_cover 6 _ (fun t _ => flushed6_eq m c t) covered6

theorem flushed7_eq (c : Dev nD) (t : Fin cfg0.N) : (dats m 0 c).flushed 7 t = ((cfg0.win 7).blk t).view.read (Elt Ideal) (G7 m c) := by
  unfold Dat.flushed
  rw [after7]
  funext (y : S256x3584.Idx)
  have hc : (((cfg0.win 7).blk t).view.emb y 1 : Fin 3584) = y 1 := Fin.ext (emb7 t y).2
  show (left7 m c t _ _ y : EReal) = dz m c (((cfg0.win 7).blk t).view.emb y 0) (((cfg0.win 7).blk t).view.emb y 1)
  rw [hc]
  exact left7_at m c t _ _ y _ (emb7 t y).1
theorem final7 (c : Dev nD) : (dats m 0 c).arrAt 7 cfg0.N = G7 m c :=
  (dats m 0 c).arrAt_eq_of_cover 7 _ (fun t _ => flushed7_eq m c t) covered7

theorem flushed8_eq (c : Dev nD) (t : Fin cfg0.N) (h : (cfg0.win 8).flush t = true) : (dats m 0 c).flushed 8 t = ((cfg0.win 8).blk t).view.read (Elt Ideal) (G8 m c) := by
  have hN : t.val < 8 := lt_of_lt_of_eq t.isLt (show cfg0.N = 8 from N_0)
  unfold Dat.flushed
  rw [after8, (after_last m c t (by have := (flush0_8 t).mp h; omega)).1]
  funext (y : S8x1024.Idx)
  refine Eq.trans ?_ (congrArg (G8 m c) (emb8 t y)).symm
  show (onTop _ (y 0) (y 1) : EReal) = onTop _ (y 0) (y 1)
  unfold onTop
  split_ifs
  · exact NormBack.upTo_all (dg m c (y 1))
  · rfl
theorem final8 (c : Dev nD) : (dats m 0 c).arrAt 8 cfg0.N = G8 m c :=
  (dats m 0 c).arrAt_eq_of_cover 8 _ (fun t h => flushed8_eq m c t h) covered8

theorem flushed9_eq (c : Dev nD) (t : Fin cfg0.N) (h : (cfg0.win 9).flush t = true) : (dats m 0 c).flushed 9 t = ((cfg0.win 9).blk t).view.read (Elt Ideal) (G9 m c) := by
  have hN : t.val < 8 := lt_of_lt_of_eq t.isLt (show cfg0.N = 8 from N_0)
  unfold Dat.flushed
  rw [after9, (after_last m c t (by have := (flush0_9 t).mp h; omega)).2]
  funext (y : S8x3584.Idx)
  refine Eq.trans ?_ (congrArg (G9 m c) (emb9 t y)).symm
  show (onTop _ (y 0) (y 1) : EReal) = onTop _ (y 0) (y 1)
  unfold onTop
  split_ifs
  · exact NormBack.upTo_all (fun n => dz m c n (y 1))
  · rfl
theorem final9 (c : Dev nD) : (dats m 0 c).arrAt 9 cfg0.N = G9 m c :=
  (dats m 0 c).arrAt_eq_of_cover 9 _ (fun t h => flushed9_eq m c t h) covered9

/-! ## The reference -/

open Cert.Reference15Ideal.Read in
theorem ref_dz (c : Dev nD) (n : Fin 2048) (j : Fin 3584) : (val_main_v0 (F := Ideal) (a2 m c) (a3 m c) (a4 m c) (ix2 n j) : EReal) = dz m c n j := by
  unfold val_main_v0 dz joined
  have other : ∀ b : Fin 2, b ≠ 1 → b = 0 := by decide
  let pieces : List ((s : Shape) × (s.Idx → EReal)) := [⟨(⟨2, ![2048, 512]⟩ : Shape), a2 m c⟩, ⟨(⟨2, ![2048, 1024]⟩ : Shape), a3 m c⟩, ⟨(⟨2, ![2048, 2048]⟩ : Shape), a4 m c⟩]
  split_ifs with h1 h2
  · refine concatenate_apply_piece (t := (⟨2, ![2048, 3584]⟩ : Shape)) (1 : Fin 2) pieces _ _ 0 (show 0 < 3 by omega) (⟨2, ![2048, 512]⟩ : Shape) _ rfl rfl 0 rfl (ix2 n (⟨j.val, h1⟩ : Fin 512)) (fun b hb => ?_) ?_
    · obtain rfl := other b hb; rfl
    · show 0 + j.val = j.val; omega
  · refine concatenate_apply_piece (t := (⟨2, ![2048, 3584]⟩ : Shape)) (1 : Fin 2) pieces _ _ 1 (show 1 < 3 by omega) (⟨2, ![2048, 1024]⟩ : Shape) _ rfl rfl 512 rfl (ix2 n (⟨j.val - 512, by omega⟩ : Fin 1024)) (fun b hb => ?_) ?_
    · obtain rfl := other b hb; rfl
    · show 512 + (j.val - 512) = j.val; omega
  · refine concatenate_apply_piece (t := (⟨2, ![2048, 3584]⟩ : Shape)) (1 : Fin 2) pieces _ _ 2 (show 2 < 3 by omega) (⟨2, ![2048, 2048]⟩ : Shape) _ rfl rfl 1536 rfl (ix2 n (⟨j.val - 1536, by omega⟩ : Fin 2048)) (fun b hb => ?_) ?_
    · obtain rfl := other b hb; rfl
    · show 1536 + (j.val - 1536) = j.val; omega

open Cert.Reference15Ideal.Read in
theorem ref_base (c : Dev nD) (n : Fin 2048) (z : Fin 1) : (val_main_v8 (F := Ideal) (a0 m c) (ix2 n z) : EReal) = NormBack.base (fun k => a0 m c (ix2 n k)) := by
  have hs : (val_main_v3 (F := Ideal) (a0 m c) (ix1 n) : EReal) = ∑ k : Fin 1024, a0 m c (ix2 n k) * a0 m c (ix2 n k) := by
    rw [val_main_v3_apply, val_main_cst_0_apply]
    refine (congrArg (fun a : EReal => a + _) (Ideal.ofBits_zero_f32)).trans ((zero_add _).trans (Finset.sum_congr rfl fun k _ => ?_))
    exact congrArg (fun i : S2048x1024.Idx => a0 m c i * a0 m c i) (funext fun a => match a with
      | ⟨0, _⟩ => rfl
      | ⟨1, _⟩ => rfl)
  rw [val_main_v8_apply, val_main_v6_apply, val_main_v4_apply, val_main_v5_apply, val_main_v7_apply, val_main_cst_1_apply, val_main_cst_2_apply]
  refine congrArg (fun s : EReal => Ideal.div s (Ideal.ofBits .f32 0x44800000#32) + Ideal.ofBits .f32 0x358637BD#32) (Eq.trans (congrArg _ (funext fun a => ?_)) hs)
  match a with
  | ⟨0, _⟩ => rfl

open Cert.Reference15Ideal.Read in
theorem ref_scaled (c : Dev nD) (n : Fin 2048) (k : Fin 1024) :
    (val_main_v14 (F := Ideal) (a0 m c) (ix2 n k) : EReal) = a0 m c (ix2 n k) * Norm.scale (fun k => a0 m c (ix2 n k)) := by
  rw [val_main_v14_apply, val_main_v13_apply, val_main_v9_apply]
  refine congrArg (fun b : EReal => a0 m c (ix2 n k) * Ideal.rsqrt b) (Eq.trans (congrArg _ (funext fun a => ?_)) (ref_base m c n 0))
  match a with
  | ⟨0, _⟩ => rfl
  | ⟨1, _⟩ => rfl

open Cert.Reference15Ideal.Read in
theorem ref_dh (c : Dev nD) (n : Fin 2048) (k : Fin 1024) : (val_main_v25 (F := Ideal) (a2 m c) (a3 m c) (a4 m c) (a6 m c) (ix2 n k) : EReal) = dh m c n k := by
  rw [val_main_v25_apply]
  refine Finset.sum_congr rfl fun j _ => congrArg₂ (fun a b : EReal => a * b) (Eq.trans (congrArg _ (funext fun a => ?_)) (ref_dz m c n j)) (congrArg (a6 m c) (funext fun a => ?_))
  · match a with
    | ⟨0, _⟩ => rfl
    | ⟨1, _⟩ => rfl
  · match a with
    | ⟨0, _⟩ => rfl
    | ⟨1, _⟩ => rfl

open Cert.Reference15Ideal.Read in
/-- The gradient of the normalised rows, scaled. -/
theorem ref_dy (c : Dev nD) (n : Fin 2048) (k : Fin 1024) : (val_main_v30 (F := Ideal) (a2 m c) (a3 m c) (a4 m c) (a5 m c) (a6 m c) (ix2 n k) : EReal) = dh m c n k * a5 m c (ix1 k) := by
  rw [val_main_v30_apply, val_main_v29_apply, val_main_v15_apply]
  exact congrArg₂ (fun a b : EReal => a * b) (ref_dh m c n k) (congrArg (a5 m c) (funext fun a => match a with
    | ⟨0, _⟩ => rfl))

open Cert.Reference15Ideal.Read in
theorem ref_coef (c : Dev nD) (n : Fin 2048) : (val_main_v40 (F := Ideal) (a0 m c) (a2 m c) (a3 m c) (a4 m c) (a5 m c) (a6 m c) (ix1 n) : EReal)
    = Ideal.div ((∑ j, a0 m c (ix2 n j) * (dh m c n j * a5 m c (ix1 j))) * (Ideal.ofBits .f32 0xBF000000#32 * Ideal.div (Ideal.rsqrt (NormBack.base (fun k => a0 m c (ix2 n k)))) (NormBack.base (fun k => a0 m c (ix2 n k)))))
      (Ideal.ofBits .f32 0x44800000#32) := by
  have hs : (val_main_v33 (F := Ideal) (a0 m c) (a2 m c) (a3 m c) (a4 m c) (a5 m c) (a6 m c) (ix1 n) : EReal) = ∑ j, a0 m c (ix2 n j) * (dh m c n j * a5 m c (ix1 j)) := by
    rw [val_main_v33_apply, val_main_cst_8_apply]
    refine (congrArg (fun a : EReal => a + _) (Ideal.ofBits_zero_f32)).trans ((zero_add _).trans (Finset.sum_congr rfl fun j _ => ?_))
    have e : idx_main_v33 (ix1 n) j = ix2 n j := funext fun a => match a with
      | ⟨0, _⟩ => rfl
      | ⟨1, _⟩ => rfl
    rw [e, val_main_v32_apply]
    exact congrArg (fun b : EReal => a0 m c (ix2 n j) * b) (ref_dy m c n j)
  rw [val_main_v40_apply, val_main_cst_10_apply]
  refine (congrArg (fun a : EReal => a + _) (Ideal.ofBits_zero_f32)).trans ((zero_add _).trans ((Fin.sum_univ_one _).trans ?_))
  have e : idx_main_v40 (ix1 n) 0 = ix2 n 0 := funext fun a => match a with
    | ⟨0, _⟩ => rfl
    | ⟨1, _⟩ => rfl
  rw [e, val_main_v39_apply, val_main_v37_apply, val_main_v34_apply, val_main_v12_apply, val_main_v11_apply, val_main_v10_apply, val_main_v9_apply, val_main_v38_apply, val_main_cst_3_apply, val_main_cst_9_apply]
  have e' : idx_main_v34 (ix2 n 0) = ix1 n := funext fun a => match a with
    | ⟨0, _⟩ => Fin.ext (show n.val * 1 + 0 = n.val by omega)
  rw [e']
  refine congrArg (fun a : EReal => Ideal.div a (Ideal.ofBits .f32 0x44800000#32)) (congrArg₂ (fun a b : EReal => a * b) hs ?_)
  exact congrArg (fun b : EReal => Ideal.ofBits .f32 0xBF000000#32 * Ideal.div (Ideal.rsqrt b) b) (ref_base m c n 0)

open Cert.Reference15Ideal.Read in
theorem ref6 (c : Dev nD) : val_main_v46 (F := Ideal) (a0 m c) (a1 m c) (a2 m c) (a3 m c) (a4 m c) (a5 m c) (a6 m c) = G6 m c := by
  funext (i : S2048x1024.Idx)
  obtain ⟨n, k, rfl⟩ : ∃ (n : Fin 2048) (k : Fin 1024), i = ix2 n k := ⟨i 0, i 1, eq_ix2 i⟩
  have hc : (val_main_v41 (F := Ideal) (a0 m c) (a2 m c) (a3 m c) (a4 m c) (a5 m c) (a6 m c) (ix2 n k) : EReal) = val_main_v40 (F := Ideal) (a0 m c) (a2 m c) (a3 m c) (a4 m c) (a5 m c) (a6 m c) (ix1 n) := by
    rw [val_main_v41_apply]
    exact congrArg _ (funext fun a => match a with
      | ⟨0, _⟩ => rfl)
  rw [ref_coef m c n] at hc
  have hr : (val_main_v35 (F := Ideal) (a0 m c) (ix2 n k) : EReal) = Ideal.rsqrt (NormBack.base (fun k => a0 m c (ix2 n k))) := by
    rw [val_main_v35_apply, val_main_v9_apply]
    refine congrArg Ideal.rsqrt (Eq.trans (congrArg _ (funext fun a => ?_)) (ref_base m c n 0))
    match a with
    | ⟨0, _⟩ => rfl
    | ⟨1, _⟩ => rfl
  rw [val_main_v46_apply, val_main_v45_apply, val_main_v43_apply, val_main_v44_apply, val_main_v36_apply, val_main_v42_apply]
  refine congrArg (fun b : EReal => a1 m c (ix2 n k) + b) (Eq.trans ?_ (NormBack.entry (NormBack.base (fun k => a0 m c (ix2 n k))) (NormBack.base_pos _) (fun k => a0 m c (ix2 n k)) (fun j => dh m c n j * a5 m c (ix1 j)) k).symm)
  exact congrArg₂ (fun a b : EReal => a + b) (congrArg₂ (fun a b : EReal => a + b) (congrArg₂ (fun a b : EReal => a * b) (ref_dy m c n k) hr) (congrArg (fun b : EReal => a0 m c (ix2 n k) * b) hc)) (congrArg (fun b : EReal => b * a0 m c (ix2 n k)) hc)

open Cert.Reference15Ideal.Read in
theorem ref7 (c : Dev nD) : val_main_v47 (F := Ideal) (a2 m c) (a3 m c) (a4 m c) = G7 m c := by
  funext (i : S2048x3584.Idx)
  exact Eq.trans (congrArg (fun i => (val_main_v0 (F := Ideal) (a2 m c) (a3 m c) (a4 m c) i : EReal)) (show i = ix2 (i 0) (i 1) from eq_ix2 i)) (ref_dz m c (i 0) (i 1))

/-- A row put above seven rows of zeros. -/
theorem stacked {N : ℕ} (x : FVec Ideal ⟨2, ![1, N]⟩ .f32) (y : FVec Ideal ⟨2, ![7, N]⟩ .f32) (h : Shape.Concatenates [(⟨2, ![1, N]⟩ : Shape), ⟨2, ![7, N]⟩] ⟨2, ![8, N]⟩ 0) (f : Fin N → EReal)
    (hx : ∀ k, (x (ix2 0 k) : EReal) = f k) (hy : ∀ i, (y i : EReal) = 0) (z : Fin 8) (k : Fin N) :
    (concatenate ⟨2, ![8, N]⟩ 0 [⟨⟨2, ![1, N]⟩, x⟩, ⟨⟨2, ![7, N]⟩, y⟩] h (ix2 z k) : EReal) = onTop f z k := by
  unfold onTop
  split_ifs with g
  · refine (concatenate_pair_apply_left (t := ⟨2, ![8, N]⟩) (s₁ := ⟨2, ![1, N]⟩) (s₂ := ⟨2, ![7, N]⟩) (0 : Fin 2) x y h (ix2 z k) rfl (ix2 0 k) (fun b => ?_)).trans (hx k)
    match b with
    | ⟨0, _⟩ => exact g.symm
    | ⟨1, _⟩ => rfl
  · refine (concatenate_pair_apply_right (t := ⟨2, ![8, N]⟩) (s₁ := ⟨2, ![1, N]⟩) (s₂ := ⟨2, ![7, N]⟩) (0 : Fin 2) x y h (ix2 z k) rfl rfl (ix2 (⟨z.val - 1, by omega⟩ : Fin 7) k) (fun b hb => ?_) ?_).trans (hy _)
    · match b with
      | ⟨0, _⟩ => exact absurd rfl hb
      | ⟨1, _⟩ => rfl
    · show z.val - 1 + 1 = z.val; omega

open Cert.Reference15Ideal.Read in
theorem ref8 (c : Dev nD) : val_main_v50 (F := Ideal) (a0 m c) (a2 m c) (a3 m c) (a4 m c) (a6 m c) = G8 m c := by
  funext (i : S8x1024.Idx)
  have hx : ∀ k : Fin 1024, (val_main_v48 (F := Ideal) (a0 m c) (a2 m c) (a3 m c) (a4 m c) (a6 m c) (ix2 0 k) : EReal) = ∑ n, dg m c k n := fun k => by
    rw [val_main_v48_apply, val_main_v31_apply, val_main_cst_7_apply]
    refine (congrArg (fun a : EReal => a + _) (Ideal.ofBits_zero_f32)).trans ((zero_add _).trans ((Fin.sum_univ_one _).trans ?_))
    rw [val_main_v28_apply, val_main_v27_apply, val_main_cst_6_apply]
    refine (congrArg (fun a : EReal => a + _) (Ideal.ofBits_zero_f32)).trans ((zero_add _).trans (Finset.sum_congr rfl fun n _ => ?_))
    rw [val_main_v26_apply]
    refine (mul_comm _ _).trans (congrArg₂ (fun a b : EReal => a * b) (Eq.trans (congrArg _ (funext fun a => ?_)) (ref_dh m c n k)) (Eq.trans (congrArg _ (funext fun a => ?_)) (ref_scaled m c n k)))
    · match a with
      | ⟨0, _⟩ => rfl
      | ⟨1, _⟩ => exact Fin.ext (show 0 * 1024 + k.val = k.val by omega)
    · match a with
      | ⟨0, _⟩ => rfl
      | ⟨1, _⟩ => exact Fin.ext (show 0 * 1024 + k.val = k.val by omega)
  exact Eq.trans (congrArg (fun i => (val_main_v50 (F := Ideal) (a0 m c) (a2 m c) (a3 m c) (a4 m c) (a6 m c) i : EReal)) (show i = ix2 (i 0) (i 1) from eq_ix2 i))
    (stacked (N := 1024) _ _ _ _ hx (fun i => (val_main_v49_apply (F := Ideal) i).trans Ideal.ofBits_zero_f32) (i 0) (i 1))

open Cert.Reference15Ideal.Read in
theorem ref9 (c : Dev nD) : val_main_v53 (F := Ideal) (a2 m c) (a3 m c) (a4 m c) = G9 m c := by
  funext (i : S8x3584.Idx)
  have hx : ∀ k : Fin 3584, (val_main_v51 (F := Ideal) (a2 m c) (a3 m c) (a4 m c) (ix2 0 k) : EReal) = ∑ n, dz m c n k := fun k => by
    rw [val_main_v51_apply, val_main_v24_apply, val_main_cst_5_apply]
    refine (congrArg (fun a : EReal => a + _) (Ideal.ofBits_zero_f32)).trans ((zero_add _).trans ((Fin.sum_univ_one _).trans ?_))
    rw [val_main_v23_apply, val_main_v22_apply, val_main_cst_4_apply]
    refine (congrArg (fun a : EReal => a + _) (Ideal.ofBits_zero_f32)).trans ((zero_add _).trans (Finset.sum_congr rfl fun n _ => ?_))
    refine Eq.trans (congrArg _ (funext fun a => ?_)) (ref_dz m c n k)
    match a with
    | ⟨0, _⟩ => rfl
    | ⟨1, _⟩ => exact Fin.ext (show 0 * 3584 + k.val = k.val by omega)
  exact Eq.trans (congrArg (fun i => (val_main_v53 (F := Ideal) (a2 m c) (a3 m c) (a4 m c) i : EReal)) (show i = ix2 (i 0) (i 1) from eq_ix2 i))
    (stacked (N := 3584) _ _ _ _ hx (fun i => (val_main_v52_apply (F := Ideal) i).trans Ideal.ofBits_zero_f32) (i 0) (i 1))

open Cert.Reference15Ideal.Read in
theorem algebraic : Cert.algebraic_Kernel15Ideal_Reference15Ideal := by
  intro m g m' g' _ hagree
  refine ⟨G6 m, G7 m, G8 m, G9 m, ?_, ?_⟩
  · refine (θ_run defs _ _).mono (fun r hh c => ?_) (run_main (F := Ideal) m g)
    have h := hh.1 c
    exact ⟨(h.1 6).trans (final6 m c), (h.1 7).trans (final7 m c), (h.1 8).trans (final8 m c), (h.1 9).trans (final9 m c),
      (h.1 0).trans (((dats m 0 c).arrAt_in 0 rfl _).trans ((A_eq m c 0).trans (V_main_arg0 m c))),
      (h.1 1).trans (((dats m 0 c).arrAt_in 1 rfl _).trans ((A_eq m c 1).trans (V_main_arg1 m c))),
      (h.1 2).trans (((dats m 0 c).arrAt_in 2 rfl _).trans ((A_eq m c 2).trans (V_main_arg2 m c))),
      (h.1 3).trans (((dats m 0 c).arrAt_in 3 rfl _).trans ((A_eq m c 3).trans (V_main_arg3 m c))),
      (h.1 4).trans (((dats m 0 c).arrAt_in 4 rfl _).trans ((A_eq m c 4).trans (V_main_arg4 m c))),
      (h.2 main_arg5 (Pipeline.mem_restRefs_of main_arg5 (by decide) (by decide))).trans (V_main_arg5 m c),
      (h.2 main_arg6 (Pipeline.mem_restRefs_of main_arg6 (by decide) (by decide))).trans (V_main_arg6 m c)⟩
  · refine (θ_run Cert.Reference15Ideal.defs _ _).mono (fun r h c => ?_) (Cert.Reference15Ideal.Value.run (F := Ideal) m' g')
    obtain ⟨e0, e1, e2, e3, e4, e5, e6⟩ := hagree c
    refine ⟨((h c).1.trans (val_main_v46_eq _ _)).trans ?_, ((h c).2.1.trans (val_main_v47_eq _ _ _)).trans ?_, ((h c).2.2.1.trans (val_main_v50_eq _ _ _ _ _)).trans ?_,
      ((h c).2.2.2.1.trans (val_main_v53_eq _ _ _)).trans ?_, (h c).2.2.2.2⟩
    · rw [e0, e1, e2, e3, e4, e5, e6]; exact ref6 m c
    · rw [e2, e3, e4]; exact ref7 m c
    · rw [e0, e2, e3, e4, e6]; exact ref8 m c
    · rw [e2, e3, e4]; exact ref9 m c

end Cert.Proof.InProjBack

end
-- ==== Proof.TnBlocks.lean ====
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.Value
public import Idealize.ShloMosaic.Lib.Pipeline.CanonAppend
public import Idealize.ShloMosaic.Lib.Pipeline.ReadBack
public import Idealize.ShloMosaic.Lib.ValueIdx
public import Idealize.ShloMosaic.Lib.Pointwise.Reduce
public import Idealize.ShloMosaic.PureOps.Ideal.Laws

/-! The gradients of the recurrence's two gate weights, whose sixteen blocks of 64 by 64 are the diagonal blocks of a
product over the tokens. The call forms tiles of 128 by 128, adds two halves of the tokens, and keeps of each tile the
two blocks on its diagonal. -/

@[expose] public section

set_option maxRecDepth 16384

noncomputable section

namespace Cert.Proof.TnBlocks

open Cert.Kernel21Ideal Cert.Kernel21Ideal.Gen Cert.Kernel21Ideal.Value Idealize.ShloMosaic.TcCoe Idealize.SL.Sem
open Idealize.ShloMosaic hiding ix1 ix2 ix3 eq_ix2
open Idealize.ShloMosaic.ValueIdx
open Idealize.ShloMosaic.Pipeline (Dat)

variable (m : (ℓ : Loc nD τ sig) → Buf (Elt Ideal) ℓ) (ρ : Dev nD → PrngReg)

/-! ## A tile's product over the tokens of a block -/

abbrev D := dot_S1024x128_S1024x128_S128x128_0_0_1_1_n_n

theorem lhs0 (i : S128x128.Idx) (q : D.contr.Idx) : (D.lhsIdx i q 0).val = (q ⟨0, by decide⟩).val := D.lhsIdx_val_of_single rfl i q
theorem rhs0 (i : S128x128.Idx) (q : D.contr.Idx) : (D.rhsIdx i q 0).val = (q ⟨0, by decide⟩).val := D.rhsIdx_val_of_single rfl i q
theorem lhs1 (i : S128x128.Idx) (q : D.contr.Idx) : (D.lhsIdx i q 1).val = (i 0).val := by
  unfold DotDims.lhsIdx
  rw [dif_neg (show ¬(1 : Fin S1024x128.rank) ∈ D.lhsBatch by decide), dif_pos (show (1 : Fin S1024x128.rank) ∈ D.lhsNonContracting by decide)]
  rfl
theorem rhs1 (i : S128x128.Idx) (q : D.contr.Idx) : (D.rhsIdx i q 1).val = (i 1).val := by
  unfold DotDims.rhsIdx
  rw [dif_neg (show ¬(1 : Fin S1024x128.rank) ∈ D.rhsBatch by decide), dif_pos (show (1 : Fin S1024x128.rank) ∈ D.rhsNonContracting by decide)]
  rfl

theorem dot_apply (x y : FVec Ideal S1024x128 .bf16) (i : S128x128.Idx) :
    matmul D none x y (constant S128x128 .f32 0x00000000#32) i = ∑ k : Fin 1024, (x (ix2 k (i 0)) : EReal) * y (ix2 k (i 1)) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx i ((contrEquiv1 D 1024 rfl rfl).symm k) = ix2 k (i 0) := funext fun a => Fin.ext (by
    match a with
    | ⟨0, _⟩ => exact (lhs0 _ _).trans hk
    | ⟨1, _⟩ => exact lhs1 _ _)
  have er : D.rhsIdx i ((contrEquiv1 D 1024 rfl rfl).symm k) = ix2 k (i 1) := funext fun a => Fin.ext (by
    match a with
    | ⟨0, _⟩ => exact (rhs0 _ _).trans hk
    | ⟨1, _⟩ => exact rhs1 _ _)
  rw [el, er]; rfl

theorem columns (o : Nat) (h : S1024x1024.Slices ![0, o] S1024x128) (ho : o + 128 ≤ 1024) (x : FVec Ideal S1024x1024 .bf16) (k : Fin 1024) (r : Fin 128) :
    extractStridedSlice S1024x128 ![0, o] x h (ix2 k r) = x (ix2 k (⟨o + r.val, by omega⟩ : Fin 1024)) :=
  extractStridedSlice_apply _ x h (ix2 k r) (ix2 k (⟨o + r.val, by omega⟩ : Fin 1024)) (fun a => by
    match a with
    | ⟨0, _⟩ => show k.val = 0 + k.val; omega
    | ⟨1, _⟩ => rfl)

/-- What is stored in a tile: what was there, and the product of 128 columns of each operand. -/
theorem tile (o : Nat) (h : S1024x1024.Slices ![0, o] S1024x128) (ho : o + 128 ≤ 1024) (x y : FVec Ideal S1024x1024 .bf16) (v : Vec Ideal S1x128x128 .f32) (z : S1x128x128.Idx) :
    shapeCast S1x128x128 (addf (shapeCast S128x128 v shapeCasts_S1x128x128_S128x128 : FVec Ideal S128x128 .f32)
        (matmul D none (extractStridedSlice S1024x128 ![0, o] x h) (extractStridedSlice S1024x128 ![0, o] y h) (constant S128x128 .f32 0x00000000#32))) shapeCasts_S128x128_S1x128x128 z
      = (v (ix3 0 (z 1) (z 2)) : EReal) + ∑ k : Fin 1024, (x (ix2 k (⟨o + (z 1).val, by have h : (z 1).val < 128 := (z 1).isLt; omega⟩ : Fin 1024)) : EReal) * y (ix2 k (⟨o + (z 2).val, by have h : (z 2).val < 128 := (z 2).isLt; omega⟩ : Fin 1024)) := by
  rw [shapeCast_apply _ shapeCasts_S128x128_S1x128x128 z (ix2 (z 1) (z 2)) (by
    rewrite [Shape.rowMajor_val_two, Shape.rowMajor_val_three]
    have h0 : (z 0).val < 1 := (z 0).isLt
    show (z 1).val * 128 + (z 2).val = ((z 0).val * 128 + (z 1).val) * 128 + (z 2).val
    omega)]
  show ((shapeCast S128x128 v shapeCasts_S1x128x128_S128x128 : FVec Ideal S128x128 .f32) (ix2 (z 1) (z 2)) : EReal) + matmul D none _ _ _ (ix2 (z 1) (z 2)) = _
  rw [dot_apply, shapeCast_apply _ shapeCasts_S1x128x128_S128x128 (ix2 (z 1) (z 2)) (ix3 0 (z 1) (z 2)) (by
    rewrite [Shape.rowMajor_val_two, Shape.rowMajor_val_three]
    show (0 * 128 + (z 1).val) * 128 + (z 2).val = (z 1).val * 128 + (z 2).val
    omega)]
  refine congrArg (fun b : EReal => (v (ix3 0 (z 1) (z 2)) : EReal) + b) (Finset.sum_congr rfl fun k _ => ?_)
  exact congrArg₂ (fun a b : EReal => a * b) (columns o h ho x k (z 1)) (columns o h ho y k (z 2))

/-- The tiles after the tokens of one block are added to them. -/
def added (x y : S1024x1024.Idx → EReal) (v : S8x128x128.Idx → EReal) (i : S8x128x128.Idx) : EReal :=
  v i + ∑ k : Fin 1024, x (ix2 k (⟨128 * (i 0).val + (i 1).val, by have h : (i 0).val < 8 := (i 0).isLt; have h' : (i 1).val < 128 := (i 1).isLt; omega⟩ : Fin 1024))
    * y (ix2 k (⟨128 * (i 0).val + (i 2).val, by have h : (i 0).val < 8 := (i 0).isLt; have h' : (i 2).val < 128 := (i 2).isLt; omega⟩ : Fin 1024))

/-- A tile is its slab of the tiles. -/
theorem tile_added (q o : Nat) (hq : q < 8) (ho : o = 128 * q) (inb : ∀ a, (![q, 0, 0] : Fin 3 → Nat) a + S1x128x128.size a ≤ S8x128x128.size a)
    (x y : S1024x1024.Idx → EReal) (v : S8x128x128.Idx → EReal) (w : Vec Ideal S1x128x128 .f32) (z : S1x128x128.Idx)
    (hw : ∀ z : S1x128x128.Idx, w z = v ((Rect.unit (s := S8x128x128) ![q, 0, 0] S1x128x128.size inb).emb z)) :
    (w (ix3 0 (z 1) (z 2)) : EReal) + ∑ k : Fin 1024, x (ix2 k (⟨o + (z 1).val, by have h : (z 1).val < 128 := (z 1).isLt; omega⟩ : Fin 1024)) * y (ix2 k (⟨o + (z 2).val, by have h : (z 2).val < 128 := (z 2).isLt; omega⟩ : Fin 1024))
      = added x y v ((Rect.unit (s := S8x128x128) ![q, 0, 0] S1x128x128.size inb).emb z) := by
  have h0 : (z 0).val < 1 := (z 0).isLt
  have hz : ix3 0 (z 1) (z 2) = z := funext fun a => Fin.ext (by
    match a with
    | ⟨0, _⟩ => show 0 = (z 0).val; omega
    | ⟨1, _⟩ => rfl
    | ⟨2, _⟩ => rfl)
  unfold added
  refine congrArg₂ (fun a b : EReal => a + b) ((congrArg w hz).trans (hw z)) (Finset.sum_congr rfl fun k _ => ?_)
  refine congrArg₂ (fun a b : EReal => a * b) (congrArg (fun u : Fin 1024 => x (ix2 k u)) (Fin.ext ?_)) (congrArg (fun u : Fin 1024 => y (ix2 k u)) (Fin.ext ?_))
  · show o + (z 1).val = 128 * (q + 1 * (z 0).val) + (0 + 1 * (z 1).val); omega
  · show o + (z 2).val = 128 * (q + 1 * (z 0).val) + (0 + 1 * (z 2).val); omega

/-! ## What the kernel keeps of a tile -/

theorem half_row : ∀ r : Fin 128, k0_pay2 (ix2 r 0) = BitVec.ofNat 32 (r.val / 64) := by decide +kernel
theorem half_col : ∀ r : Fin 128, select k0_pay4 (subi k0_pay3 (broadcast S128x128 1#32)) k0_pay3 (ix2 0 r) = BitVec.ofNat 32 (r.val / 64) := by decide +kernel

/-- The mask of the two blocks on a tile's diagonal. -/
theorem own_apply (r c : Fin 128) : k0_pay5 k0_pay2 k0_pay3 k0_pay4 (ix2 r c) = if r.val / 64 = c.val / 64 then 1#1 else 0#1 := by
  have e : k0_pay5 k0_pay2 k0_pay3 k0_pay4 (ix2 r c)
      = BitVec.ofBool (k0_pay2 (ix2 r 0) == select k0_pay4 (subi k0_pay3 (broadcast S128x128 1#32)) k0_pay3 (ix2 0 c)) := rfl
  rw [e, half_row, half_col]
  have hr : r.val / 64 < 2 := by omega
  have hc : c.val / 64 < 2 := by omega
  generalize r.val / 64 = a at hr
  generalize c.val / 64 = b at hc
  revert a b
  decide

/-- What is kept of a tile: of the two blocks of a column the one on the diagonal. -/
theorem kept_apply (v : Vec Ideal S1x128x128 .f32) (a : Fin 64) (b : Fin 128) :
    multiReduction .add [0] S64x128 (shapeCast S2x64x128 (select (k0_pay5 k0_pay2 k0_pay3 k0_pay4) (shapeCast S128x128 v shapeCasts_S1x128x128_S128x128)
        (broadcast S128x128 (Scalar.ofBits .f32 0x00000000#32 : Ideal .f32)) : FVec Ideal S128x128 .f32) shapeCasts_S128x128_S2x64x128 : FVec Ideal S2x64x128 .f32)
        0x00000000#32 reduces_S2x64x128_S64x128 (.inl rfl) rfl (ix2 a b)
      = v (ix3 0 (⟨b.val / 64 * 64 + a.val, by omega⟩ : Fin 128) b) := by
  have part : ∀ p : Fin 2, (shapeCast S2x64x128 (select (k0_pay5 k0_pay2 k0_pay3 k0_pay4) (shapeCast S128x128 v shapeCasts_S1x128x128_S128x128)
        (broadcast S128x128 (Scalar.ofBits .f32 0x00000000#32 : Ideal .f32)) : FVec Ideal S128x128 .f32) shapeCasts_S128x128_S2x64x128 : FVec Ideal S2x64x128 .f32) (ix3 p a b)
      = if p.val = b.val / 64 then v (ix3 0 (⟨b.val / 64 * 64 + a.val, by omega⟩ : Fin 128) b) else (0 : EReal) := fun p => by
    refine (shapeCast_apply _ shapeCasts_S128x128_S2x64x128 (ix3 p a b) (ix2 (⟨p.val * 64 + a.val, by omega⟩ : Fin 128) b) (by
      rewrite [Shape.rowMajor_val_two, Shape.rowMajor_val_three]
      show (p.val * 64 + a.val) * 128 + b.val = (p.val * 64 + a.val) * 128 + b.val
      rfl)).trans ?_
    have hown := own_apply (⟨p.val * 64 + a.val, by omega⟩ : Fin 128) b
    have hp : (p.val * 64 + a.val) / 64 = p.val := by omega
    by_cases h : p.val = b.val / 64
    · rw [if_pos h]
      rw [if_pos (hp.trans h)] at hown
      refine (if_pos hown).trans ?_
      exact shapeCast_apply _ shapeCasts_S1x128x128_S128x128 _ (ix3 0 (⟨b.val / 64 * 64 + a.val, by omega⟩ : Fin 128) b) (by
        rewrite [Shape.rowMajor_val_two, Shape.rowMajor_val_three]
        show (0 * 128 + (b.val / 64 * 64 + a.val)) * 128 + b.val = (p.val * 64 + a.val) * 128 + b.val
        omega)
    · rw [if_neg h]
      rw [if_neg (fun e => h (hp.symm.trans e))] at hown
      refine (if_neg (by rw [hown]; decide)).trans ?_
      exact Ideal.ofBits_zero_f32
  refine (Ideal.reduceAdd_r3_a0 reduces_S2x64x128_S64x128 _ (ix2 a b)).trans ?_
  rw [Fin.sum_univ_two]
  refine (congrArg₂ (fun x y : EReal => x + y) (part 0) (part 1)).trans ?_
  have hb : b.val / 64 = 0 ∨ b.val / 64 = 1 := by omega
  rcases hb with e | e <;> simp [e]

/-- Eight stores, one of each slab, leave the function that each of them is a slab of. -/
theorem slabs (G : S8x128x128.Idx → EReal) (w0 w1 w2 w3 w4 w5 w6 w7 : Vec Ideal S1x128x128 .f32) (L : List (View.Piece (Elt Ideal) S8x128x128 .f32))
    (h7 : ∀ z : S1x128x128.Idx, w7 z = G ((Rect.unit (s := S8x128x128) ![7, 0, 0] S1x128x128.size inb_S8x128x128_S1x128x128_7_0_0).emb z))
    (h6 : ∀ z : S1x128x128.Idx, w6 z = G ((Rect.unit (s := S8x128x128) ![6, 0, 0] S1x128x128.size inb_S8x128x128_S1x128x128_6_0_0).emb z))
    (h5 : ∀ z : S1x128x128.Idx, w5 z = G ((Rect.unit (s := S8x128x128) ![5, 0, 0] S1x128x128.size inb_S8x128x128_S1x128x128_5_0_0).emb z))
    (h4 : ∀ z : S1x128x128.Idx, w4 z = G ((Rect.unit (s := S8x128x128) ![4, 0, 0] S1x128x128.size inb_S8x128x128_S1x128x128_4_0_0).emb z))
    (h3 : ∀ z : S1x128x128.Idx, w3 z = G ((Rect.unit (s := S8x128x128) ![3, 0, 0] S1x128x128.size inb_S8x128x128_S1x128x128_3_0_0).emb z))
    (h2 : ∀ z : S1x128x128.Idx, w2 z = G ((Rect.unit (s := S8x128x128) ![2, 0, 0] S1x128x128.size inb_S8x128x128_S1x128x128_2_0_0).emb z))
    (h1 : ∀ z : S1x128x128.Idx, w1 z = G ((Rect.unit (s := S8x128x128) ![1, 0, 0] S1x128x128.size inb_S8x128x128_S1x128x128_1_0_0).emb z))
    (h0 : ∀ z : S1x128x128.Idx, w0 z = G ((Rect.unit (s := S8x128x128) ![0, 0, 0] S1x128x128.size inb_S8x128x128_S1x128x128_0_0_0).emb z)) (y : S8x128x128.Idx) :
    View.canon (Val := Elt Ideal) (e := .f32) (⟨Rect.unit (s := S8x128x128) ![7, 0, 0] S1x128x128.size inb_S8x128x128_S1x128x128_7_0_0, w7⟩ ::
      ⟨Rect.unit (s := S8x128x128) ![6, 0, 0] S1x128x128.size inb_S8x128x128_S1x128x128_6_0_0, w6⟩ ::
      ⟨Rect.unit (s := S8x128x128) ![5, 0, 0] S1x128x128.size inb_S8x128x128_S1x128x128_5_0_0, w5⟩ ::
      ⟨Rect.unit (s := S8x128x128) ![4, 0, 0] S1x128x128.size inb_S8x128x128_S1x128x128_4_0_0, w4⟩ ::
      ⟨Rect.unit (s := S8x128x128) ![3, 0, 0] S1x128x128.size inb_S8x128x128_S1x128x128_3_0_0, w3⟩ ::
      ⟨Rect.unit (s := S8x128x128) ![2, 0, 0] S1x128x128.size inb_S8x128x128_S1x128x128_2_0_0, w2⟩ ::
      ⟨Rect.unit (s := S8x128x128) ![1, 0, 0] S1x128x128.size inb_S8x128x128_S1x128x128_1_0_0, w1⟩ ::
      ⟨Rect.unit (s := S8x128x128) ![0, 0, 0] S1x128x128.size inb_S8x128x128_S1x128x128_0_0_0, w0⟩ :: L) y = G y := by
  refine View.canon_append_of_pieces (Val := Elt Ideal) (e := .f32) G L [⟨Rect.unit (s := S8x128x128) ![7, 0, 0] S1x128x128.size inb_S8x128x128_S1x128x128_7_0_0, w7⟩,
      ⟨Rect.unit (s := S8x128x128) ![6, 0, 0] S1x128x128.size inb_S8x128x128_S1x128x128_6_0_0, w6⟩,
      ⟨Rect.unit (s := S8x128x128) ![5, 0, 0] S1x128x128.size inb_S8x128x128_S1x128x128_5_0_0, w5⟩,
      ⟨Rect.unit (s := S8x128x128) ![4, 0, 0] S1x128x128.size inb_S8x128x128_S1x128x128_4_0_0, w4⟩,
      ⟨Rect.unit (s := S8x128x128) ![3, 0, 0] S1x128x128.size inb_S8x128x128_S1x128x128_3_0_0, w3⟩,
      ⟨Rect.unit (s := S8x128x128) ![2, 0, 0] S1x128x128.size inb_S8x128x128_S1x128x128_2_0_0, w2⟩,
      ⟨Rect.unit (s := S8x128x128) ![1, 0, 0] S1x128x128.size inb_S8x128x128_S1x128x128_1_0_0, w1⟩,
      ⟨Rect.unit (s := S8x128x128) ![0, 0, 0] S1x128x128.size inb_S8x128x128_S1x128x128_0_0_0, w0⟩] ?_ y ?_
  · intro pc hpc
    simp only [List.mem_cons, List.not_mem_nil, or_false] at hpc
    rcases hpc with rfl | rfl | rfl | rfl | rfl | rfl | rfl | rfl
    exacts [h7, h6, h5, h4, h3, h2, h1, h0]
  · have b0 : (y 0).val < 8 := (y 0).isLt
    have b1 : (y 1).val < 128 := (y 1).isLt
    have b2 : (y 2).val < 128 := (y 2).isLt
    have mem : ∀ (q : Nat) (inb : ∀ a, (![q, 0, 0] : Fin 3 → Nat) a + S1x128x128.size a ≤ S8x128x128.size a), (y 0).val = q →
        y ∈ (Rect.unit (s := S8x128x128) ![q, 0, 0] S1x128x128.size inb).set := fun q inb hq => by
      rw [Rect.mem_set_unit]
      intro a
      match a with
      | ⟨0, _⟩ => show q ≤ (y 0).val ∧ (y 0).val < q + 1; omega
      | ⟨1, _⟩ => show 0 ≤ (y 1).val ∧ (y 1).val < 0 + 128; omega
      | ⟨2, _⟩ => show 0 ≤ (y 2).val ∧ (y 2).val < 0 + 128; omega
    simp only [List.exists_mem_cons_iff]
    have : (y 0).val = 7 ∨ (y 0).val = 6 ∨ (y 0).val = 5 ∨ (y 0).val = 4 ∨ (y 0).val = 3 ∨ (y 0).val = 2 ∨ (y 0).val = 1 ∨ (y 0).val = 0 := by omega
    rcases this with h | h | h | h | h | h | h | h
    · exact Or.inl (mem 7 _ h)
    · exact Or.inr (Or.inl (mem 6 _ h))
    · exact Or.inr (Or.inr (Or.inl (mem 5 _ h)))
    · exact Or.inr (Or.inr (Or.inr (Or.inl (mem 4 _ h))))
    · exact Or.inr (Or.inr (Or.inr (Or.inr (Or.inl (mem 3 _ h)))))
    · exact Or.inr (Or.inr (Or.inr (Or.inr (Or.inr (Or.inl (mem 2 _ h))))))
    · exact Or.inr (Or.inr (Or.inr (Or.inr (Or.inr (Or.inr (Or.inl (mem 1 _ h)))))))
    · exact Or.inr (Or.inr (Or.inr (Or.inr (Or.inr (Or.inr (Or.inr (Or.inl (mem 0 _ h))))))))

/-- What the call keeps of the eight tiles. -/
def folded (T : S8x128x128.Idx → EReal) (y : S64x1024.Idx) : EReal :=
  T (ix3 (⟨(y 1).val / 128, by have h : (y 1).val < 1024 := (y 1).isLt; omega⟩ : Fin 8)
    (⟨(y 1).val % 128 / 64 * 64 + (y 0).val, by have h : (y 0).val < 64 := (y 0).isLt; omega⟩ : Fin 128) (⟨(y 1).val % 128, Nat.mod_lt _ (by omega)⟩ : Fin 128))

/-- Eight stores, one of each strip of 128 columns, likewise. -/
theorem strips (G : S64x1024.Idx → EReal) (w0 w1 w2 w3 w4 w5 w6 w7 : Vec Ideal S64x128 .f32)
    (h7 : ∀ z : S64x128.Idx, w7 z = G ((Rect.unit (s := S64x1024) ![0, 896] S64x128.size inb_S64x1024_S64x128_0_896).emb z))
    (h6 : ∀ z : S64x128.Idx, w6 z = G ((Rect.unit (s := S64x1024) ![0, 768] S64x128.size inb_S64x1024_S64x128_0_768).emb z))
    (h5 : ∀ z : S64x128.Idx, w5 z = G ((Rect.unit (s := S64x1024) ![0, 640] S64x128.size inb_S64x1024_S64x128_0_640).emb z))
    (h4 : ∀ z : S64x128.Idx, w4 z = G ((Rect.unit (s := S64x1024) ![0, 512] S64x128.size inb_S64x1024_S64x128_0_512).emb z))
    (h3 : ∀ z : S64x128.Idx, w3 z = G ((Rect.unit (s := S64x1024) ![0, 384] S64x128.size inb_S64x1024_S64x128_0_384).emb z))
    (h2 : ∀ z : S64x128.Idx, w2 z = G ((Rect.unit (s := S64x1024) ![0, 256] S64x128.size inb_S64x1024_S64x128_0_256).emb z))
    (h1 : ∀ z : S64x128.Idx, w1 z = G ((Rect.unit (s := S64x1024) ![0, 128] S64x128.size inb_S64x1024_S64x128_0_128).emb z))
    (h0 : ∀ z : S64x128.Idx, w0 z = G ((Rect.unit (s := S64x1024) ![0, 0] S64x128.size inb_S64x1024_S64x128_0_0).emb z)) (y : S64x1024.Idx) :
    View.canon (Val := Elt Ideal) (e := .f32) [⟨Rect.unit (s := S64x1024) ![0, 896] S64x128.size inb_S64x1024_S64x128_0_896, w7⟩,
      ⟨Rect.unit (s := S64x1024) ![0, 768] S64x128.size inb_S64x1024_S64x128_0_768, w6⟩,
      ⟨Rect.unit (s := S64x1024) ![0, 640] S64x128.size inb_S64x1024_S64x128_0_640, w5⟩,
      ⟨Rect.unit (s := S64x1024) ![0, 512] S64x128.size inb_S64x1024_S64x128_0_512, w4⟩,
      ⟨Rect.unit (s := S64x1024) ![0, 384] S64x128.size inb_S64x1024_S64x128_0_384, w3⟩,
      ⟨Rect.unit (s := S64x1024) ![0, 256] S64x128.size inb_S64x1024_S64x128_0_256, w2⟩,
      ⟨Rect.unit (s := S64x1024) ![0, 128] S64x128.size inb_S64x1024_S64x128_0_128, w1⟩,
      ⟨Rect.unit (s := S64x1024) ![0, 0] S64x128.size inb_S64x1024_S64x128_0_0, w0⟩] y = G y := by
  refine View.canon_apply_of_pieces (Val := Elt Ideal) (e := .f32) G _ ?_ y ?_
  · intro pc hpc
    simp only [List.mem_cons, List.not_mem_nil, or_false] at hpc
    rcases hpc with rfl | rfl | rfl | rfl | rfl | rfl | rfl | rfl
    exacts [h7, h6, h5, h4, h3, h2, h1, h0]
  · have b0 : (y 0).val < 64 := (y 0).isLt
    have b1 : (y 1).val < 1024 := (y 1).isLt
    have mem : ∀ (q o : Nat) (inb : ∀ a, (![0, o] : Fin 2 → Nat) a + S64x128.size a ≤ S64x1024.size a), o = 128 * q → (y 1).val / 128 = q →
        y ∈ (Rect.unit (s := S64x1024) ![0, o] S64x128.size inb).set := fun q o inb ho hq => by
      rw [Rect.mem_set_unit]
      intro a
      match a with
      | ⟨0, _⟩ => show 0 ≤ (y 0).val ∧ (y 0).val < 0 + 64; omega
      | ⟨1, _⟩ => show o ≤ (y 1).val ∧ (y 1).val < o + 128; omega
    simp only [List.exists_mem_cons_iff]
    have : (y 1).val / 128 = 7 ∨ (y 1).val / 128 = 6 ∨ (y 1).val / 128 = 5 ∨ (y 1).val / 128 = 4 ∨ (y 1).val / 128 = 3 ∨ (y 1).val / 128 = 2 ∨ (y 1).val / 128 = 1 ∨ (y 1).val / 128 = 0 := by omega
    rcases this with h | h | h | h | h | h | h | h
    · exact Or.inl (mem 7 _ _ rfl h)
    · exact Or.inr (Or.inl (mem 6 _ _ rfl h))
    · exact Or.inr (Or.inr (Or.inl (mem 5 _ _ rfl h)))
    · exact Or.inr (Or.inr (Or.inr (Or.inl (mem 4 _ _ rfl h))))
    · exact Or.inr (Or.inr (Or.inr (Or.inr (Or.inl (mem 3 _ _ rfl h)))))
    · exact Or.inr (Or.inr (Or.inr (Or.inr (Or.inr (Or.inl (mem 2 _ _ rfl h))))))
    · exact Or.inr (Or.inr (Or.inr (Or.inr (Or.inr (Or.inr (Or.inl (mem 1 _ _ rfl h)))))))
    · exact Or.inr (Or.inr (Or.inr (Or.inr (Or.inr (Or.inr (Or.inr (Or.inl (mem 0 _ _ rfl h))))))))

/-- One slab's store: the tile's sum is the slab of what the tiles become. -/
theorem part (q o : Nat) (hq : q < 8) (ho : o = 128 * q) (h : S1024x1024.Slices ![0, o] S1024x128) (inb : ∀ a, (![q, 0, 0] : Fin 3 → Nat) a + S1x128x128.size a ≤ S8x128x128.size a)
    {X Y : FVec Ideal S1024x1024 .bf16} {x y : S1024x1024.Idx → EReal} (hX : X = x) (hY : Y = y) (v : S8x128x128.Idx → EReal) (w : Vec Ideal S1x128x128 .f32)
    (hw : ∀ z : S1x128x128.Idx, w z = v ((Rect.unit (s := S8x128x128) ![q, 0, 0] S1x128x128.size inb).emb z)) (z : S1x128x128.Idx) :
    shapeCast S1x128x128 (addf (shapeCast S128x128 w shapeCasts_S1x128x128_S128x128 : FVec Ideal S128x128 .f32)
        (matmul D none (extractStridedSlice S1024x128 ![0, o] X h) (extractStridedSlice S1024x128 ![0, o] Y h) (constant S128x128 .f32 0x00000000#32))) shapeCasts_S128x128_S1x128x128 z
      = added x y v ((Rect.unit (s := S8x128x128) ![q, 0, 0] S1x128x128.size inb).emb z) := by
  subst hX hY
  exact (tile o h (by omega) X Y w z).trans (tile_added q o hq ho inb X Y v w z hw)

/-- One strip's store: what is kept of a tile. -/
theorem keep (q o : Nat) (hq : q < 8) (ho : o = 128 * q) (inb : ∀ a, (![0, o] : Fin 2 → Nat) a + S64x128.size a ≤ S64x1024.size a)
    (inb' : ∀ a, (![q, 0, 0] : Fin 3 → Nat) a + S1x128x128.size a ≤ S8x128x128.size a)
    (T : S8x128x128.Idx → EReal) (w : Vec Ideal S1x128x128 .f32) (hw : ∀ z : S1x128x128.Idx, w z = T ((Rect.unit (s := S8x128x128) ![q, 0, 0] S1x128x128.size inb').emb z)) (z : S64x128.Idx) :
    multiReduction .add [0] S64x128 (shapeCast S2x64x128 (select (k0_pay5 k0_pay2 k0_pay3 k0_pay4) (shapeCast S128x128 w shapeCasts_S1x128x128_S128x128)
        (broadcast S128x128 (Scalar.ofBits .f32 0x00000000#32 : Ideal .f32)) : FVec Ideal S128x128 .f32) shapeCasts_S128x128_S2x64x128 : FVec Ideal S2x64x128 .f32)
        0x00000000#32 reduces_S2x64x128_S64x128 (.inl rfl) rfl z
      = folded T ((Rect.unit (s := S64x1024) ![0, o] S64x128.size inb).emb z) := by
  have h0 : (z 0).val < 64 := (z 0).isLt
  have h1 : (z 1).val < 128 := (z 1).isLt
  refine (Eq.trans (congrArg _ (show z = ix2 (z 0) (z 1) from eq_ix2 z)) (kept_apply w (z 0) (z 1))).trans ?_
  rw [hw]
  unfold folded
  refine congrArg T (funext fun a => Fin.ext ?_)
  match a with
  | ⟨0, _⟩ => show q + 1 * 0 = (o + 1 * (z 1).val) / 128; omega
  | ⟨1, _⟩ => show 0 + 1 * ((z 1).val / 64 * 64 + (z 0).val) = (o + 1 * (z 1).val) % 128 / 64 * 64 + (0 + 1 * (z 0).val); omega
  | ⟨2, _⟩ => show 0 + 1 * (z 1).val = (o + 1 * (z 1).val) % 128; omega

/-! ## What each of the two grid points leaves -/

theorem zero2 : (![0, 0] : Fin 2 → Nat) = fun _ => 0 := funext fun a => by fin_cases a <;> rfl

/-- A load of the whole of a buffer reads its contents. -/
theorem load_whole {S : Shape} {e : EltTy} {b : Memref sig .tc .vmem S e} (h : b.IsWhole) {off : Fin S.rank → Nat} (hz : off = fun _ => 0)
    (inb : ∀ a, off a + S.size a ≤ S.size a) (X : S.Idx → Elt Ideal e) :
    View.readAt (Elt Ideal) b.view (Rect.unit off S.size inb).toLoadRect (h.unread X) = X :=
  funext fun x => (congrFun (h.read_unread X) _).trans (congrFun (View.ld_unit_zero hz inb X) x)

theorem load_left {b : Memref sig .tc .vmem S1024x1024 .f32} (h : b.IsWhole) (X : Vec Ideal S1024x1024 .f32) :
    (k0_pay27 (F := Ideal) (View.readAt (Elt Ideal) b.view (Rect.unit ![0, 0] S1024x1024.size inb_S1024x1024_S1024x1024_0_0).toLoadRect (h.unread X)) : S1024x1024.Idx → EReal) = X :=
  load_whole h zero2 _ X

theorem load_right {b : Memref sig .tc .vmem S1024x1024 .bf16} (h : b.IsWhole) (X : Vec Ideal S1024x1024 .bf16) :
    (k0_pay28 (F := Ideal) (View.readAt (Elt Ideal) b.view (Rect.unit ![0, 0] S1024x1024.size inb_S1024x1024_S1024x1024_0_0).toLoadRect (h.unread X)) : S1024x1024.Idx → EReal) = X :=
  (shapeCast_self _ _).trans (load_whole h zero2 _ X)

theorem load_right' {b : Memref sig .tc .vmem S1024x1024 .bf16} (h : b.IsWhole) (X : Vec Ideal S1024x1024 .bf16) :
    (k0_pay38 (F := Ideal) (View.readAt (Elt Ideal) b.view (Rect.unit ![0, 0] S1024x1024.size inb_S1024x1024_S1024x1024_0_0).toLoadRect (h.unread X)) : S1024x1024.Idx → EReal) = X :=
  (shapeCast_self _ _).trans (load_whole h zero2 _ X)

theorem fill_first (i : S8x128x128.Idx) : k0_pay25 (F := Ideal) i = (0 : EReal) := by
  unfold k0_pay25
  rw [shapeCast_self]
  exact Ideal.ofBits_zero_f32

theorem fill_second (i : S8x128x128.Idx) : k0_pay26 (F := Ideal) i = (0 : EReal) := by
  unfold k0_pay26
  rw [shapeCast_self]
  exact Ideal.ofBits_zero_f32

theorem zero3 : ∀ a : Fin 3, (![0, 0, 0] : Fin 3 → Nat) a = 0 := by decide

/-- A store of one slab leaves the later slabs as they were. -/
theorem beyond (q : Nat) (inb : ∀ a, (![q, 0, 0] : Fin 3 → Nat) a + S1x128x128.size a ≤ S8x128x128.size a) (w : Vec Ideal S1x128x128 .f32)
    (L : List (View.Piece (Elt Ideal) S8x128x128 .f32)) (y : S8x128x128.Idx) (h : q + 1 ≤ (y 0).val) :
    View.canon (Val := Elt Ideal) (e := .f32) (⟨Rect.unit (s := S8x128x128) ![q, 0, 0] S1x128x128.size inb, w⟩ :: L) y = View.canon (Val := Elt Ideal) (e := .f32) L y := by
  refine View.canon_cons_of_not_mem (Val := Elt Ideal) (e := .f32) _ L fun hy => ?_
  rw [Rect.mem_set_unit] at hy
  have h0 : (y 0).val < q + 1 := (hy 0).2
  omega

section Points
variable (c : Dev nD) (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S64x1024 .f32) (harg4 : arg4.IsWhole) (arg5 : Memref sig .tc .vmem S64x1024 .f32) (harg5 : arg5.IsWhole) (arg6 : Memref sig .tc .vmem S8x128x128 .f32) (harg6 : arg6.IsWhole) (arg7 : Memref sig .tc .vmem S8x128x128 .f32) (harg7 : arg7.IsWhole)
  (x0 : Vec Ideal S1024x1024 .f32) (x1 : Vec Ideal S1024x1024 .bf16) (x2 : Vec Ideal S1024x1024 .bf16) (xs0 xs1 : Vec Ideal S8x128x128 .f32)

theorem rest_first_0 (y : S8x128x128.Idx) (_ : 0 ≤ (y 0).val) : View.canon (Val := Elt Ideal) (e := .f32) (kernelRun0_A.sl.HS0_1 (F := Ideal)) y = (0 : EReal) :=
  (congrFun (View.canon_unit_zero (funext zero3) _ _) y).trans (fill_first y)

theorem rest_first_1 (y : S8x128x128.Idx) (h : 1 ≤ (y 0).val) : View.canon (Val := Elt Ideal) (e := .f32) (kernelRun0_A.sl.HS0_2 (F := Ideal) c arg1 harg1 arg2 harg2 arg6 x0 x1) y = (0 : EReal) :=
  (beyond 0 _ _ _ y h).trans (rest_first_0 y (by omega))

theorem rest_first_2 (y : S8x128x128.Idx) (h : 2 ≤ (y 0).val) : View.canon (Val := Elt Ideal) (e := .f32) (kernelRun0_A.sl.HS0_3 (F := Ideal) c arg1 harg1 arg2 harg2 arg6 x0 x1) y = (0 : EReal) :=
  (beyond 1 _ _ _ y h).trans (rest_first_1 c arg1 harg1 arg2 harg2 arg6 x0 x1 y (by omega))

theorem rest_first_3 (y : S8x128x128.Idx) (h : 3 ≤ (y 0).val) : View.canon (Val := Elt Ideal) (e := .f32) (kernelRun0_A.sl.HS0_4 (F := Ideal) c arg1 harg1 arg2 harg2 arg6 x0 x1) y = (0 : EReal) :=
  (beyond 2 _ _ _ y h).trans (rest_first_2 c arg1 harg1 arg2 harg2 arg6 x0 x1 y (by omega))

theorem rest_first_4 (y : S8x128x128.Idx) (h : 4 ≤ (y 0).val) : View.canon (Val := Elt Ideal) (e := .f32) (kernelRun0_A.sl.HS0_5 (F := Ideal) c arg1 harg1 arg2 harg2 arg6 x0 x1) y = (0 : EReal) :=
  (beyond 3 _ _ _ y h).trans (rest_first_3 c arg1 harg1 arg2 harg2 arg6 x0 x1 y (by omega))

theorem rest_first_5 (y : S8x128x128.Idx) (h : 5 ≤ (y 0).val) : View.canon (Val := Elt Ideal) (e := .f32) (kernelRun0_A.sl.HS0_6 (F := Ideal) c arg1 harg1 arg2 harg2 arg6 x0 x1) y = (0 : EReal) :=
  (beyond 4 _ _ _ y h).trans (rest_first_4 c arg1 harg1 arg2 harg2 arg6 x0 x1 y (by omega))

theorem rest_first_6 (y : S8x128x128.Idx) (h : 6 ≤ (y 0).val) : View.canon (Val := Elt Ideal) (e := .f32) (kernelRun0_A.sl.HS0_7 (F := Ideal) c arg1 harg1 arg2 harg2 arg6 x0 x1) y = (0 : EReal) :=
  (beyond 5 _ _ _ y h).trans (rest_first_5 c arg1 harg1 arg2 harg2 arg6 x0 x1 y (by omega))

theorem rest_first_7 (y : S8x128x128.Idx) (h : 7 ≤ (y 0).val) : View.canon (Val := Elt Ideal) (e := .f32) (kernelRun0_A.sl.HS0_8 (F := Ideal) c arg1 harg1 arg2 harg2 arg6 x0 x1) y = (0 : EReal) :=
  (beyond 6 _ _ _ y h).trans (rest_first_6 c arg1 harg1 arg2 harg2 arg6 x0 x1 y (by omega))

theorem clear_first_0 (z : S1x128x128.Idx) : (kernelRun0_A.sl.v7 (F := Ideal) c arg6) z = (0 : EReal) :=
  (congrFun (View.readCov_eq_canon' arg6.view (kernelRun0_A.sl.HS0_1 (F := Ideal)) (Rect.unit (s := S8x128x128) ![0, 0, 0] S1x128x128.size inb_S8x128x128_S1x128x128_0_0_0).toLoadRect) z).trans
    (rest_first_0 _ (show 0 ≤ 0 + 1 * (z 0).val by omega))

theorem clear_first_1 (z : S1x128x128.Idx) : (kernelRun0_A.sl.v16 (F := Ideal) c arg1 harg1 arg2 harg2 arg6 x0 x1) z = (0 : EReal) :=
  (congrFun (View.readCov_eq_canon' arg6.view (kernelRun0_A.sl.HS0_2 (F := Ideal) c arg1 harg1 arg2 harg2 arg6 x0 x1) (Rect.unit (s := S8x128x128) ![1, 0, 0] S1x128x128.size inb_S8x128x128_S1x128x128_1_0_0).toLoadRect) z).trans
    (rest_first_1 c arg1 harg1 arg2 harg2 arg6 x0 x1 _ (show 1 ≤ 1 + 1 * (z 0).val by omega))

theorem clear_first_2 (z : S1x128x128.Idx) : (kernelRun0_A.sl.v25 (F := Ideal) c arg1 harg1 arg2 harg2 arg6 x0 x1) z = (0 : EReal) :=
  (congrFun (View.readCov_eq_canon' arg6.view (kernelRun0_A.sl.HS0_3 (F := Ideal) c arg1 harg1 arg2 harg2 arg6 x0 x1) (Rect.unit (s := S8x128x128) ![2, 0, 0] S1x128x128.size inb_S8x128x128_S1x128x128_2_0_0).toLoadRect) z).trans
    (rest_first_2 c arg1 harg1 arg2 harg2 arg6 x0 x1 _ (show 2 ≤ 2 + 1 * (z 0).val by omega))

theorem clear_first_3 (z : S1x128x128.Idx) : (kernelRun0_A.sl.v34 (F := Ideal) c arg1 harg1 arg2 harg2 arg6 x0 x1) z = (0 : EReal) :=
  (congrFun (View.readCov_eq_canon' arg6.view (kernelRun0_A.sl.HS0_4 (F := Ideal) c arg1 harg1 arg2 harg2 arg6 x0 x1) (Rect.unit (s := S8x128x128) ![3, 0, 0] S1x128x128.size inb_S8x128x128_S1x128x128_3_0_0).toLoadRect) z).trans
    (rest_first_3 c arg1 harg1 arg2 harg2 arg6 x0 x1 _ (show 3 ≤ 3 + 1 * (z 0).val by omega))

theorem clear_first_4 (z : S1x128x128.Idx) : (kernelRun0_A.sl.v43 (F := Ideal) c arg1 harg1 arg2 harg2 arg6 x0 x1) z = (0 : EReal) :=
  (congrFun (View.readCov_eq_canon' arg6.view (kernelRun0_A.sl.HS0_5 (F := Ideal) c arg1 harg1 arg2 harg2 arg6 x0 x1) (Rect.unit (s := S8x128x128) ![4, 0, 0] S1x128x128.size inb_S8x128x128_S1x128x128_4_0_0).toLoadRect) z).trans
    (rest_first_4 c arg1 harg1 arg2 harg2 arg6 x0 x1 _ (show 4 ≤ 4 + 1 * (z 0).val by omega))

theorem clear_first_5 (z : S1x128x128.Idx) : (kernelRun0_A.sl.v52 (F := Ideal) c arg1 harg1 arg2 harg2 arg6 x0 x1) z = (0 : EReal) :=
  (congrFun (View.readCov_eq_canon' arg6.view (kernelRun0_A.sl.HS0_6 (F := Ideal) c arg1 harg1 arg2 harg2 arg6 x0 x1) (Rect.unit (s := S8x128x128) ![5, 0, 0] S1x128x128.size inb_S8x128x128_S1x128x128_5_0_0).toLoadRect) z).trans
    (rest_first_5 c arg1 harg1 arg2 harg2 arg6 x0 x1 _ (show 5 ≤ 5 + 1 * (z 0).val by omega))

theorem clear_first_6 (z : S1x128x128.Idx) : (kernelRun0_A.sl.v61 (F := Ideal) c arg1 harg1 arg2 harg2 arg6 x0 x1) z = (0 : EReal) :=
  (congrFun (View.readCov_eq_canon' arg6.view (kernelRun0_A.sl.HS0_7 (F := Ideal) c arg1 harg1 arg2 harg2 arg6 x0 x1) (Rect.unit (s := S8x128x128) ![6, 0, 0] S1x128x128.size inb_S8x128x128_S1x128x128_6_0_0).toLoadRect) z).trans
    (rest_first_6 c arg1 harg1 arg2 harg2 arg6 x0 x1 _ (show 6 ≤ 6 + 1 * (z 0).val by omega))

theorem clear_first_7 (z : S1x128x128.Idx) : (kernelRun0_A.sl.v70 (F := Ideal) c arg1 harg1 arg2 harg2 arg6 x0 x1) z = (0 : EReal) :=
  (congrFun (View.readCov_eq_canon' arg6.view (kernelRun0_A.sl.HS0_8 (F := Ideal) c arg1 harg1 arg2 harg2 arg6 x0 x1) (Rect.unit (s := S8x128x128) ![7, 0, 0] S1x128x128.size inb_S8x128x128_S1x128x128_7_0_0).toLoadRect) z).trans
    (rest_first_7 c arg1 harg1 arg2 harg2 arg6 x0 x1 _ (show 7 ≤ 7 + 1 * (z 0).val by omega))

theorem start_first (hc0 : cond0_0 i) (hc1 : ¬cond0_1 i) : sout0_A_0 (F := Ideal) c i arg1 harg1 arg2 harg2 arg3 harg3 arg4 harg4 arg5 harg5 arg6 harg6 arg7 harg7 hc0 hc1 x0 x1 x2 = added x0 x1 (fun _ => 0) := by
  unfold sout0_A_0
  rw [View.read_writes_junk_eq_canon]
  dsimp only [kernelRun0_A]
  funext y
  refine slabs _ _ _ _ _ _ _ _ _ _ ?_ ?_ ?_ ?_ ?_ ?_ ?_ ?_ y
  · intro z
    exact part 7 896 (by omega) rfl _ _ (load_left harg1 x0) (load_right harg2 x1) (fun _ => 0) _ (clear_first_7 c arg1 harg1 arg2 harg2 arg6 x0 x1) z
  · intro z
    exact part 6 768 (by omega) rfl _ _ (load_left harg1 x0) (load_right harg2 x1) (fun _ => 0) _ (clear_first_6 c arg1 harg1 arg2 harg2 arg6 x0 x1) z
  · intro z
    exact part 5 640 (by omega) rfl _ _ (load_left harg1 x0) (load_right harg2 x1) (fun _ => 0) _ (clear_first_5 c arg1 harg1 arg2 harg2 arg6 x0 x1) z
  · intro z
    exact part 4 512 (by omega) rfl _ _ (load_left harg1 x0) (load_right harg2 x1) (fun _ => 0) _ (clear_first_4 c arg1 harg1 arg2 harg2 arg6 x0 x1) z
  · intro z
    exact part 3 384 (by omega) rfl _ _ (load_left harg1 x0) (load_right harg2 x1) (fun _ => 0) _ (clear_first_3 c arg1 harg1 arg2 harg2 arg6 x0 x1) z
  · intro z
    exact part 2 256 (by omega) rfl _ _ (load_left harg1 x0) (load_right harg2 x1) (fun _ => 0) _ (clear_first_2 c arg1 harg1 arg2 harg2 arg6 x0 x1) z
  · intro z
    exact part 1 128 (by omega) rfl _ _ (load_left harg1 x0) (load_right harg2 x1) (fun _ => 0) _ (clear_first_1 c arg1 harg1 arg2 harg2 arg6 x0 x1) z
  · intro z
    exact part 0 0 (by omega) rfl _ _ (load_left harg1 x0) (load_right harg2 x1) (fun _ => 0) _ (clear_first_0 c arg6) z

theorem rest_second_0 (y : S8x128x128.Idx) (_ : 0 ≤ (y 0).val) : View.canon (Val := Elt Ideal) (e := .f32) (kernelRun0_A.sl.HS1_1 (F := Ideal)) y = (0 : EReal) :=
  (congrFun (View.canon_unit_zero (funext zero3) _ _) y).trans (fill_second y)

theorem rest_second_1 (y : S8x128x128.Idx) (h : 1 ≤ (y 0).val) : View.canon (Val := Elt Ideal) (e := .f32) (kernelRun0_A.sl.HS1_2 (F := Ideal) c arg1 harg1 arg3 harg3 arg7 x0 x2) y = (0 : EReal) :=
  (beyond 0 _ _ _ y h).trans (rest_second_0 y (by omega))

theorem rest_second_2 (y : S8x128x128.Idx) (h : 2 ≤ (y 0).val) : View.canon (Val := Elt Ideal) (e := .f32) (kernelRun0_A.sl.HS1_3 (F := Ideal) c arg1 harg1 arg3 harg3 arg7 x0 x2) y = (0 : EReal) :=
  (beyond 1 _ _ _ y h).trans (rest_second_1 c arg1 harg1 arg3 harg3 arg7 x0 x2 y (by omega))

theorem rest_second_3 (y : S8x128x128.Idx) (h : 3 ≤ (y 0).val) : View.canon (Val := Elt Ideal) (e := .f32) (kernelRun0_A.sl.HS1_4 (F := Ideal) c arg1 harg1 arg3 harg3 arg7 x0 x2) y = (0 : EReal) :=
  (beyond 2 _ _ _ y h).trans (rest_second_2 c arg1 harg1 arg3 harg3 arg7 x0 x2 y (by omega))

theorem rest_second_4 (y : S8x128x128.Idx) (h : 4 ≤ (y 0).val) : View.canon (Val := Elt Ideal) (e := .f32) (kernelRun0_A.sl.HS1_5 (F := Ideal) c arg1 harg1 arg3 harg3 arg7 x0 x2) y = (0 : EReal) :=
  (beyond 3 _ _ _ y h).trans (rest_second_3 c arg1 harg1 arg3 harg3 arg7 x0 x2 y (by omega))

theorem rest_second_5 (y : S8x128x128.Idx) (h : 5 ≤ (y 0).val) : View.canon (Val := Elt Ideal) (e := .f32) (kernelRun0_A.sl.HS1_6 (F := Ideal) c arg1 harg1 arg3 harg3 arg7 x0 x2) y = (0 : EReal) :=
  (beyond 4 _ _ _ y h).trans (rest_second_4 c arg1 harg1 arg3 harg3 arg7 x0 x2 y (by omega))

theorem rest_second_6 (y : S8x128x128.Idx) (h : 6 ≤ (y 0).val) : View.canon (Val := Elt Ideal) (e := .f32) (kernelRun0_A.sl.HS1_7 (F := Ideal) c arg1 harg1 arg3 harg3 arg7 x0 x2) y = (0 : EReal) :=
  (beyond 5 _ _ _ y h).trans (rest_second_5 c arg1 harg1 arg3 harg3 arg7 x0 x2 y (by omega))

theorem rest_second_7 (y : S8x128x128.Idx) (h : 7 ≤ (y 0).val) : View.canon (Val := Elt Ideal) (e := .f32) (kernelRun0_A.sl.HS1_8 (F := Ideal) c arg1 harg1 arg3 harg3 arg7 x0 x2) y = (0 : EReal) :=
  (beyond 6 _ _ _ y h).trans (rest_second_6 c arg1 harg1 arg3 harg3 arg7 x0 x2 y (by omega))

theorem clear_second_0 (z : S1x128x128.Idx) : (kernelRun0_A.sl.v81 (F := Ideal) c arg7) z = (0 : EReal) :=
  (congrFun (View.readCov_eq_canon' arg7.view (kernelRun0_A.sl.HS1_1 (F := Ideal)) (Rect.unit (s := S8x128x128) ![0, 0, 0] S1x128x128.size inb_S8x128x128_S1x128x128_0_0_0).toLoadRect) z).trans
    (rest_second_0 _ (show 0 ≤ 0 + 1 * (z 0).val by omega))

theorem clear_second_1 (z : S1x128x128.Idx) : (kernelRun0_A.sl.v90 (F := Ideal) c arg1 harg1 arg3 harg3 arg7 x0 x2) z = (0 : EReal) :=
  (congrFun (View.readCov_eq_canon' arg7.view (kernelRun0_A.sl.HS1_2 (F := Ideal) c arg1 harg1 arg3 harg3 arg7 x0 x2) (Rect.unit (s := S8x128x128) ![1, 0, 0] S1x128x128.size inb_S8x128x128_S1x128x128_1_0_0).toLoadRect) z).trans
    (rest_second_1 c arg1 harg1 arg3 harg3 arg7 x0 x2 _ (show 1 ≤ 1 + 1 * (z 0).val by omega))

theorem clear_second_2 (z : S1x128x128.Idx) : (kernelRun0_A.sl.v99 (F := Ideal) c arg1 harg1 arg3 harg3 arg7 x0 x2) z = (0 : EReal) :=
  (congrFun (View.readCov_eq_canon' arg7.view (kernelRun0_A.sl.HS1_3 (F := Ideal) c arg1 harg1 arg3 harg3 arg7 x0 x2) (Rect.unit (s := S8x128x128) ![2, 0, 0] S1x128x128.size inb_S8x128x128_S1x128x128_2_0_0).toLoadRect) z).trans
    (rest_second_2 c arg1 harg1 arg3 harg3 arg7 x0 x2 _ (show 2 ≤ 2 + 1 * (z 0).val by omega))

theorem clear_second_3 (z : S1x128x128.Idx) : (kernelRun0_A.sl.v108 (F := Ideal) c arg1 harg1 arg3 harg3 arg7 x0 x2) z = (0 : EReal) :=
  (congrFun (View.readCov_eq_canon' arg7.view (kernelRun0_A.sl.HS1_4 (F := Ideal) c arg1 harg1 arg3 harg3 arg7 x0 x2) (Rect.unit (s := S8x128x128) ![3, 0, 0] S1x128x128.size inb_S8x128x128_S1x128x128_3_0_0).toLoadRect) z).trans
    (rest_second_3 c arg1 harg1 arg3 harg3 arg7 x0 x2 _ (show 3 ≤ 3 + 1 * (z 0).val by omega))

theorem clear_second_4 (z : S1x128x128.Idx) : (kernelRun0_A.sl.v117 (F := Ideal) c arg1 harg1 arg3 harg3 arg7 x0 x2) z = (0 : EReal) :=
  (congrFun (View.readCov_eq_canon' arg7.view (kernelRun0_A.sl.HS1_5 (F := Ideal) c arg1 harg1 arg3 harg3 arg7 x0 x2) (Rect.unit (s := S8x128x128) ![4, 0, 0] S1x128x128.size inb_S8x128x128_S1x128x128_4_0_0).toLoadRect) z).trans
    (rest_second_4 c arg1 harg1 arg3 harg3 arg7 x0 x2 _ (show 4 ≤ 4 + 1 * (z 0).val by omega))

theorem clear_second_5 (z : S1x128x128.Idx) : (kernelRun0_A.sl.v126 (F := Ideal) c arg1 harg1 arg3 harg3 arg7 x0 x2) z = (0 : EReal) :=
  (congrFun (View.readCov_eq_canon' arg7.view (kernelRun0_A.sl.HS1_6 (F := Ideal) c arg1 harg1 arg3 harg3 arg7 x0 x2) (Rect.unit (s := S8x128x128) ![5, 0, 0] S1x128x128.size inb_S8x128x128_S1x128x128_5_0_0).toLoadRect) z).trans
    (rest_second_5 c arg1 harg1 arg3 harg3 arg7 x0 x2 _ (show 5 ≤ 5 + 1 * (z 0).val by omega))

theorem clear_second_6 (z : S1x128x128.Idx) : (kernelRun0_A.sl.v135 (F := Ideal) c arg1 harg1 arg3 harg3 arg7 x0 x2) z = (0 : EReal) :=
  (congrFun (View.readCov_eq_canon' arg7.view (kernelRun0_A.sl.HS1_7 (F := Ideal) c arg1 harg1 arg3 harg3 arg7 x0 x2) (Rect.unit (s := S8x128x128) ![6, 0, 0] S1x128x128.size inb_S8x128x128_S1x128x128_6_0_0).toLoadRect) z).trans
    (rest_second_6 c arg1 harg1 arg3 harg3 arg7 x0 x2 _ (show 6 ≤ 6 + 1 * (z 0).val by omega))

theorem clear_second_7 (z : S1x128x128.Idx) : (kernelRun0_A.sl.v144 (F := Ideal) c arg1 harg1 arg3 harg3 arg7 x0 x2) z = (0 : EReal) :=
  (congrFun (View.readCov_eq_canon' arg7.view (kernelRun0_A.sl.HS1_8 (F := Ideal) c arg1 harg1 arg3 harg3 arg7 x0 x2) (Rect.unit (s := S8x128x128) ![7, 0, 0] S1x128x128.size inb_S8x128x128_S1x128x128_7_0_0).toLoadRect) z).trans
    (rest_second_7 c arg1 harg1 arg3 harg3 arg7 x0 x2 _ (show 7 ≤ 7 + 1 * (z 0).val by omega))

theorem start_second (hc0 : cond0_0 i) (hc1 : ¬cond0_1 i) : sout0_A_1 (F := Ideal) c i arg1 harg1 arg2 harg2 arg3 harg3 arg4 harg4 arg5 harg5 arg6 harg6 arg7 harg7 hc0 hc1 x0 x1 x2 = added x0 x2 (fun _ => 0) := by
  unfold sout0_A_1
  rw [View.read_writes_junk_eq_canon]
  dsimp only [kernelRun0_A]
  funext y
  refine slabs _ _ _ _ _ _ _ _ _ _ ?_ ?_ ?_ ?_ ?_ ?_ ?_ ?_ y
  · intro z
    exact part 7 896 (by omega) rfl _ _ (load_left harg1 x0) (load_right' harg3 x2) (fun _ => 0) _ (clear_second_7 c arg1 harg1 arg3 harg3 arg7 x0 x2) z
  · intro z
    exact part 6 768 (by omega) rfl _ _ (load_left harg1 x0) (load_right' harg3 x2) (fun _ => 0) _ (clear_second_6 c arg1 harg1 arg3 harg3 arg7 x0 x2) z
  · intro z
    exact part 5 640 (by omega) rfl _ _ (load_left harg1 x0) (load_right' harg3 x2) (fun _ => 0) _ (clear_second_5 c arg1 harg1 arg3 harg3 arg7 x0 x2) z
  · intro z
    exact part 4 512 (by omega) rfl _ _ (load_left harg1 x0) (load_right' harg3 x2) (fun _ => 0) _ (clear_second_4 c arg1 harg1 arg3 harg3 arg7 x0 x2) z
  · intro z
    exact part 3 384 (by omega) rfl _ _ (load_left harg1 x0) (load_right' harg3 x2) (fun _ => 0) _ (clear_second_3 c arg1 harg1 arg3 harg3 arg7 x0 x2) z
  · intro z
    exact part 2 256 (by omega) rfl _ _ (load_left harg1 x0) (load_right' harg3 x2) (fun _ => 0) _ (clear_second_2 c arg1 harg1 arg3 harg3 arg7 x0 x2) z
  · intro z
    dsimp only [kernelRun0_A.sl.r_4, kernelRun0_A.sl.r_5, kernelRun0_A.sl.r_6, kernelRun0_A.sl.cst_64, k0_pay40, k0_pay41, k0_pay42, k0_pay43]
    exact part 1 128 (by omega) rfl _ _ (load_left harg1 x0) (load_right' harg3 x2) (fun _ => 0) _ (clear_second_1 c arg1 harg1 arg3 harg3 arg7 x0 x2) z
  · intro z
    exact part 0 0 (by omega) rfl _ _ (load_left harg1 x0) (load_right' harg3 x2) (fun _ => 0) _ (clear_second_0 c arg7) z

theorem tiles_first : View.canon (Val := Elt Ideal) (e := .f32) (kernelRun0_B.sl.HS0_8 (F := Ideal) c arg1 harg1 arg2 harg2 arg6 harg6 x0 x1 xs0) = added x0 x1 xs0 := by
  funext y
  refine slabs _ _ _ _ _ _ _ _ _ _ ?_ ?_ ?_ ?_ ?_ ?_ ?_ ?_ y
  · exact part 7 896 (by omega) rfl _ _ (load_left harg1 x0) (load_right harg2 x1) xs0 _ (fun z => congrFun (harg6.read_unread xs0) _)
  · exact part 6 768 (by omega) rfl _ _ (load_left harg1 x0) (load_right harg2 x1) xs0 _ (fun z => congrFun (harg6.read_unread xs0) _)
  · exact part 5 640 (by omega) rfl _ _ (load_left harg1 x0) (load_right harg2 x1) xs0 _ (fun z => congrFun (harg6.read_unread xs0) _)
  · exact part 4 512 (by omega) rfl _ _ (load_left harg1 x0) (load_right harg2 x1) xs0 _ (fun z => congrFun (harg6.read_unread xs0) _)
  · exact part 3 384 (by omega) rfl _ _ (load_left harg1 x0) (load_right harg2 x1) xs0 _ (fun z => congrFun (harg6.read_unread xs0) _)
  · exact part 2 256 (by omega) rfl _ _ (load_left harg1 x0) (load_right harg2 x1) xs0 _ (fun z => congrFun (harg6.read_unread xs0) _)
  · exact part 1 128 (by omega) rfl _ _ (load_left harg1 x0) (load_right harg2 x1) xs0 _ (fun z => congrFun (harg6.read_unread xs0) _)
  · exact part 0 0 (by omega) rfl _ _ (load_left harg1 x0) (load_right harg2 x1) xs0 _ (fun z => congrFun (harg6.read_unread xs0) _)

theorem tiles_second : View.canon (Val := Elt Ideal) (e := .f32) (kernelRun0_B.sl.HS1_8 (F := Ideal) c arg1 harg1 arg3 harg3 arg7 harg7 x0 x2 xs1) = added x0 x2 xs1 := by
  funext y
  refine slabs _ _ _ _ _ _ _ _ _ _ ?_ ?_ ?_ ?_ ?_ ?_ ?_ ?_ y
  · exact part 7 896 (by omega) rfl _ _ (load_left harg1 x0) (load_right' harg3 x2) xs1 _ (fun z => congrFun (harg7.read_unread xs1) _)
  · exact part 6 768 (by omega) rfl _ _ (load_left harg1 x0) (load_right' harg3 x2) xs1 _ (fun z => congrFun (harg7.read_unread xs1) _)
  · exact part 5 640 (by omega) rfl _ _ (load_left harg1 x0) (load_right' harg3 x2) xs1 _ (fun z => congrFun (harg7.read_unread xs1) _)
  · exact part 4 512 (by omega) rfl _ _ (load_left harg1 x0) (load_right' harg3 x2) xs1 _ (fun z => congrFun (harg7.read_unread xs1) _)
  · exact part 3 384 (by omega) rfl _ _ (load_left harg1 x0) (load_right' harg3 x2) xs1 _ (fun z => congrFun (harg7.read_unread xs1) _)
  · exact part 2 256 (by omega) rfl _ _ (load_left harg1 x0) (load_right' harg3 x2) xs1 _ (fun z => congrFun (harg7.read_unread xs1) _)
  · dsimp only [kernelRun0_B.sl.r_4, kernelRun0_B.sl.r_5, kernelRun0_B.sl.r_6, kernelRun0_B.sl.cst_64, k0_pay40, k0_pay41, k0_pay42, k0_pay43]
    exact part 1 128 (by omega) rfl _ _ (load_left harg1 x0) (load_right' harg3 x2) xs1 _ (fun z => congrFun (harg7.read_unread xs1) _)
  · exact part 0 0 (by omega) rfl _ _ (load_left harg1 x0) (load_right' harg3 x2) xs1 _ (fun z => congrFun (harg7.read_unread xs1) _)

theorem slab_first_0 (z : S1x128x128.Idx) : (kernelRun0_B.sl.v207 (F := Ideal) c arg1 harg1 arg2 harg2 arg6 harg6 x0 x1 xs0) z = added x0 x1 xs0 ((Rect.unit (s := S8x128x128) ![0, 0, 0] S1x128x128.size inb_S8x128x128_S1x128x128_0_0_0).emb z) :=
  (congrFun (View.readCov_eq_canon' arg6.view (kernelRun0_B.sl.HS0_8 (F := Ideal) c arg1 harg1 arg2 harg2 arg6 harg6 x0 x1 xs0) (Rect.unit (s := S8x128x128) ![0, 0, 0] S1x128x128.size inb_S8x128x128_S1x128x128_0_0_0).toLoadRect) z).trans
    (congrFun (tiles_first c arg1 harg1 arg2 harg2 arg6 harg6 x0 x1 xs0) _)

theorem slab_first_1 (z : S1x128x128.Idx) : (kernelRun0_B.sl.v214 (F := Ideal) c arg1 harg1 arg2 harg2 arg6 harg6 x0 x1 xs0) z = added x0 x1 xs0 ((Rect.unit (s := S8x128x128) ![1, 0, 0] S1x128x128.size inb_S8x128x128_S1x128x128_1_0_0).emb z) :=
  (congrFun (View.readCov_eq_canon' arg6.view (kernelRun0_B.sl.HS0_8 (F := Ideal) c arg1 harg1 arg2 harg2 arg6 harg6 x0 x1 xs0) (Rect.unit (s := S8x128x128) ![1, 0, 0] S1x128x128.size inb_S8x128x128_S1x128x128_1_0_0).toLoadRect) z).trans
    (congrFun (tiles_first c arg1 harg1 arg2 harg2 arg6 harg6 x0 x1 xs0) _)

theorem slab_first_2 (z : S1x128x128.Idx) : (kernelRun0_B.sl.v221 (F := Ideal) c arg1 harg1 arg2 harg2 arg6 harg6 x0 x1 xs0) z = added x0 x1 xs0 ((Rect.unit (s := S8x128x128) ![2, 0, 0] S1x128x128.size inb_S8x128x128_S1x128x128_2_0_0).emb z) :=
  (congrFun (View.readCov_eq_canon' arg6.view (kernelRun0_B.sl.HS0_8 (F := Ideal) c arg1 harg1 arg2 harg2 arg6 harg6 x0 x1 xs0) (Rect.unit (s := S8x128x128) ![2, 0, 0] S1x128x128.size inb_S8x128x128_S1x128x128_2_0_0).toLoadRect) z).trans
    (congrFun (tiles_first c arg1 harg1 arg2 harg2 arg6 harg6 x0 x1 xs0) _)

theorem slab_first_3 (z : S1x128x128.Idx) : (kernelRun0_B.sl.v228 (F := Ideal) c arg1 harg1 arg2 harg2 arg6 harg6 x0 x1 xs0) z = added x0 x1 xs0 ((Rect.unit (s := S8x128x128) ![3, 0, 0] S1x128x128.size inb_S8x128x128_S1x128x128_3_0_0).emb z) :=
  (congrFun (View.readCov_eq_canon' arg6.view (kernelRun0_B.sl.HS0_8 (F := Ideal) c arg1 harg1 arg2 harg2 arg6 harg6 x0 x1 xs0) (Rect.unit (s := S8x128x128) ![3, 0, 0] S1x128x128.size inb_S8x128x128_S1x128x128_3_0_0).toLoadRect) z).trans
    (congrFun (tiles_first c arg1 harg1 arg2 harg2 arg6 harg6 x0 x1 xs0) _)

theorem slab_first_4 (z : S1x128x128.Idx) : (kernelRun0_B.sl.v235 (F := Ideal) c arg1 harg1 arg2 harg2 arg6 harg6 x0 x1 xs0) z = added x0 x1 xs0 ((Rect.unit (s := S8x128x128) ![4, 0, 0] S1x128x128.size inb_S8x128x128_S1x128x128_4_0_0).emb z) :=
  (congrFun (View.readCov_eq_canon' arg6.view (kernelRun0_B.sl.HS0_8 (F := Ideal) c arg1 harg1 arg2 harg2 arg6 harg6 x0 x1 xs0) (Rect.unit (s := S8x128x128) ![4, 0, 0] S1x128x128.size inb_S8x128x128_S1x128x128_4_0_0).toLoadRect) z).trans
    (congrFun (tiles_first c arg1 harg1 arg2 harg2 arg6 harg6 x0 x1 xs0) _)

theorem slab_first_5 (z : S1x128x128.Idx) : (kernelRun0_B.sl.v242 (F := Ideal) c arg1 harg1 arg2 harg2 arg6 harg6 x0 x1 xs0) z = added x0 x1 xs0 ((Rect.unit (s := S8x128x128) ![5, 0, 0] S1x128x128.size inb_S8x128x128_S1x128x128_5_0_0).emb z) :=
  (congrFun (View.readCov_eq_canon' arg6.view (kernelRun0_B.sl.HS0_8 (F := Ideal) c arg1 harg1 arg2 harg2 arg6 harg6 x0 x1 xs0) (Rect.unit (s := S8x128x128) ![5, 0, 0] S1x128x128.size inb_S8x128x128_S1x128x128_5_0_0).toLoadRect) z).trans
    (congrFun (tiles_first c arg1 harg1 arg2 harg2 arg6 harg6 x0 x1 xs0) _)

theorem slab_first_6 (z : S1x128x128.Idx) : (kernelRun0_B.sl.v249 (F := Ideal) c arg1 harg1 arg2 harg2 arg6 harg6 x0 x1 xs0) z = added x0 x1 xs0 ((Rect.unit (s := S8x128x128) ![6, 0, 0] S1x128x128.size inb_S8x128x128_S1x128x128_6_0_0).emb z) :=
  (congrFun (View.readCov_eq_canon' arg6.view (kernelRun0_B.sl.HS0_8 (F := Ideal) c arg1 harg1 arg2 harg2 arg6 harg6 x0 x1 xs0) (Rect.unit (s := S8x128x128) ![6, 0, 0] S1x128x128.size inb_S8x128x128_S1x128x128_6_0_0).toLoadRect) z).trans
    (congrFun (tiles_first c arg1 harg1 arg2 harg2 arg6 harg6 x0 x1 xs0) _)

theorem slab_first_7 (z : S1x128x128.Idx) : (kernelRun0_B.sl.v256 (F := Ideal) c arg1 harg1 arg2 harg2 arg6 harg6 x0 x1 xs0) z = added x0 x1 xs0 ((Rect.unit (s := S8x128x128) ![7, 0, 0] S1x128x128.size inb_S8x128x128_S1x128x128_7_0_0).emb z) :=
  (congrFun (View.readCov_eq_canon' arg6.view (kernelRun0_B.sl.HS0_8 (F := Ideal) c arg1 harg1 arg2 harg2 arg6 harg6 x0 x1 xs0) (Rect.unit (s := S8x128x128) ![7, 0, 0] S1x128x128.size inb_S8x128x128_S1x128x128_7_0_0).toLoadRect) z).trans
    (congrFun (tiles_first c arg1 harg1 arg2 harg2 arg6 harg6 x0 x1 xs0) _)

theorem end_first (hc0 : ¬cond0_0 i) (hc1 : cond0_1 i) : out0_B_3 (F := Ideal) c i arg1 harg1 arg2 harg2 arg3 harg3 arg4 harg4 arg5 harg5 arg6 harg6 arg7 harg7 hc0 hc1 x0 x1 x2 xs0 xs1 = folded (added x0 x1 xs0) := by
  unfold out0_B_3
  rw [View.read_writes_junk_eq_canon]
  dsimp only [kernelRun0_B]
  funext y
  refine strips _ _ _ _ _ _ _ _ _ ?_ ?_ ?_ ?_ ?_ ?_ ?_ ?_ y
  · exact keep 7 896 (by omega) rfl _ inb_S8x128x128_S1x128x128_7_0_0 _ _ (slab_first_7 c arg1 harg1 arg2 harg2 arg6 harg6 x0 x1 xs0)
  · exact keep 6 768 (by omega) rfl _ inb_S8x128x128_S1x128x128_6_0_0 _ _ (slab_first_6 c arg1 harg1 arg2 harg2 arg6 harg6 x0 x1 xs0)
  · exact keep 5 640 (by omega) rfl _ inb_S8x128x128_S1x128x128_5_0_0 _ _ (slab_first_5 c arg1 harg1 arg2 harg2 arg6 harg6 x0 x1 xs0)
  · exact keep 4 512 (by omega) rfl _ inb_S8x128x128_S1x128x128_4_0_0 _ _ (slab_first_4 c arg1 harg1 arg2 harg2 arg6 harg6 x0 x1 xs0)
  · exact keep 3 384 (by omega) rfl _ inb_S8x128x128_S1x128x128_3_0_0 _ _ (slab_first_3 c arg1 harg1 arg2 harg2 arg6 harg6 x0 x1 xs0)
  · exact keep 2 256 (by omega) rfl _ inb_S8x128x128_S1x128x128_2_0_0 _ _ (slab_first_2 c arg1 harg1 arg2 harg2 arg6 harg6 x0 x1 xs0)
  · exact keep 1 128 (by omega) rfl _ inb_S8x128x128_S1x128x128_1_0_0 _ _ (slab_first_1 c arg1 harg1 arg2 harg2 arg6 harg6 x0 x1 xs0)
  · exact keep 0 0 (by omega) rfl _ inb_S8x128x128_S1x128x128_0_0_0 _ _ (slab_first_0 c arg1 harg1 arg2 harg2 arg6 harg6 x0 x1 xs0)

theorem slab_second_0 (z : S1x128x128.Idx) : (kernelRun0_B.sl.v263 (F := Ideal) c arg1 harg1 arg3 harg3 arg7 harg7 x0 x2 xs1) z = added x0 x2 xs1 ((Rect.unit (s := S8x128x128) ![0, 0, 0] S1x128x128.size inb_S8x128x128_S1x128x128_0_0_0).emb z) :=
  (congrFun (View.readCov_eq_canon' arg7.view (kernelRun0_B.sl.HS1_8 (F := Ideal) c arg1 harg1 arg3 harg3 arg7 harg7 x0 x2 xs1) (Rect.unit (s := S8x128x128) ![0, 0, 0] S1x128x128.size inb_S8x128x128_S1x128x128_0_0_0).toLoadRect) z).trans
    (congrFun (tiles_second c arg1 harg1 arg3 harg3 arg7 harg7 x0 x2 xs1) _)

theorem slab_second_1 (z : S1x128x128.Idx) : (kernelRun0_B.sl.v270 (F := Ideal) c arg1 harg1 arg3 harg3 arg7 harg7 x0 x2 xs1) z = added x0 x2 xs1 ((Rect.unit (s := S8x128x128) ![1, 0, 0] S1x128x128.size inb_S8x128x128_S1x128x128_1_0_0).emb z) :=
  (congrFun (View.readCov_eq_canon' arg7.view (kernelRun0_B.sl.HS1_8 (F := Ideal) c arg1 harg1 arg3 harg3 arg7 harg7 x0 x2 xs1) (Rect.unit (s := S8x128x128) ![1, 0, 0] S1x128x128.size inb_S8x128x128_S1x128x128_1_0_0).toLoadRect) z).trans
    (congrFun (tiles_second c arg1 harg1 arg3 harg3 arg7 harg7 x0 x2 xs1) _)

theorem slab_second_2 (z : S1x128x128.Idx) : (kernelRun0_B.sl.v277 (F := Ideal) c arg1 harg1 arg3 harg3 arg7 harg7 x0 x2 xs1) z = added x0 x2 xs1 ((Rect.unit (s := S8x128x128) ![2, 0, 0] S1x128x128.size inb_S8x128x128_S1x128x128_2_0_0).emb z) :=
  (congrFun (View.readCov_eq_canon' arg7.view (kernelRun0_B.sl.HS1_8 (F := Ideal) c arg1 harg1 arg3 harg3 arg7 harg7 x0 x2 xs1) (Rect.unit (s := S8x128x128) ![2, 0, 0] S1x128x128.size inb_S8x128x128_S1x128x128_2_0_0).toLoadRect) z).trans
    (congrFun (tiles_second c arg1 harg1 arg3 harg3 arg7 harg7 x0 x2 xs1) _)

theorem slab_second_3 (z : S1x128x128.Idx) : (kernelRun0_B.sl.v284 (F := Ideal) c arg1 harg1 arg3 harg3 arg7 harg7 x0 x2 xs1) z = added x0 x2 xs1 ((Rect.unit (s := S8x128x128) ![3, 0, 0] S1x128x128.size inb_S8x128x128_S1x128x128_3_0_0).emb z) :=
  (congrFun (View.readCov_eq_canon' arg7.view (kernelRun0_B.sl.HS1_8 (F := Ideal) c arg1 harg1 arg3 harg3 arg7 harg7 x0 x2 xs1) (Rect.unit (s := S8x128x128) ![3, 0, 0] S1x128x128.size inb_S8x128x128_S1x128x128_3_0_0).toLoadRect) z).trans
    (congrFun (tiles_second c arg1 harg1 arg3 harg3 arg7 harg7 x0 x2 xs1) _)

theorem slab_second_4 (z : S1x128x128.Idx) : (kernelRun0_B.sl.v291 (F := Ideal) c arg1 harg1 arg3 harg3 arg7 harg7 x0 x2 xs1) z = added x0 x2 xs1 ((Rect.unit (s := S8x128x128) ![4, 0, 0] S1x128x128.size inb_S8x128x128_S1x128x128_4_0_0).emb z) :=
  (congrFun (View.readCov_eq_canon' arg7.view (kernelRun0_B.sl.HS1_8 (F := Ideal) c arg1 harg1 arg3 harg3 arg7 harg7 x0 x2 xs1) (Rect.unit (s := S8x128x128) ![4, 0, 0] S1x128x128.size inb_S8x128x128_S1x128x128_4_0_0).toLoadRect) z).trans
    (congrFun (tiles_second c arg1 harg1 arg3 harg3 arg7 harg7 x0 x2 xs1) _)

theorem slab_second_5 (z : S1x128x128.Idx) : (kernelRun0_B.sl.v298 (F := Ideal) c arg1 harg1 arg3 harg3 arg7 harg7 x0 x2 xs1) z = added x0 x2 xs1 ((Rect.unit (s := S8x128x128) ![5, 0, 0] S1x128x128.size inb_S8x128x128_S1x128x128_5_0_0).emb z) :=
  (congrFun (View.readCov_eq_canon' arg7.view (kernelRun0_B.sl.HS1_8 (F := Ideal) c arg1 harg1 arg3 harg3 arg7 harg7 x0 x2 xs1) (Rect.unit (s := S8x128x128) ![5, 0, 0] S1x128x128.size inb_S8x128x128_S1x128x128_5_0_0).toLoadRect) z).trans
    (congrFun (tiles_second c arg1 harg1 arg3 harg3 arg7 harg7 x0 x2 xs1) _)

theorem slab_second_6 (z : S1x128x128.Idx) : (kernelRun0_B.sl.v305 (F := Ideal) c arg1 harg1 arg3 harg3 arg7 harg7 x0 x2 xs1) z = added x0 x2 xs1 ((Rect.unit (s := S8x128x128) ![6, 0, 0] S1x128x128.size inb_S8x128x128_S1x128x128_6_0_0).emb z) :=
  (congrFun (View.readCov_eq_canon' arg7.view (kernelRun0_B.sl.HS1_8 (F := Ideal) c arg1 harg1 arg3 harg3 arg7 harg7 x0 x2 xs1) (Rect.unit (s := S8x128x128) ![6, 0, 0] S1x128x128.size inb_S8x128x128_S1x128x128_6_0_0).toLoadRect) z).trans
    (congrFun (tiles_second c arg1 harg1 arg3 harg3 arg7 harg7 x0 x2 xs1) _)

theorem slab_second_7 (z : S1x128x128.Idx) : (kernelRun0_B.sl.v312 (F := Ideal) c arg1 harg1 arg3 harg3 arg7 harg7 x0 x2 xs1) z = added x0 x2 xs1 ((Rect.unit (s := S8x128x128) ![7, 0, 0] S1x128x128.size inb_S8x128x128_S1x128x128_7_0_0).emb z) :=
  (congrFun (View.readCov_eq_canon' arg7.view (kernelRun0_B.sl.HS1_8 (F := Ideal) c arg1 harg1 arg3 harg3 arg7 harg7 x0 x2 xs1) (Rect.unit (s := S8x128x128) ![7, 0, 0] S1x128x128.size inb_S8x128x128_S1x128x128_7_0_0).toLoadRect) z).trans
    (congrFun (tiles_second c arg1 harg1 arg3 harg3 arg7 harg7 x0 x2 xs1) _)

theorem end_second (hc0 : ¬cond0_0 i) (hc1 : cond0_1 i) : out0_B_4 (F := Ideal) c i arg1 harg1 arg2 harg2 arg3 harg3 arg4 harg4 arg5 harg5 arg6 harg6 arg7 harg7 hc0 hc1 x0 x1 x2 xs0 xs1 = folded (added x0 x2 xs1) := by
  unfold out0_B_4
  rw [View.read_writes_junk_eq_canon]
  dsimp only [kernelRun0_B]
  funext y
  refine strips _ _ _ _ _ _ _ _ _ ?_ ?_ ?_ ?_ ?_ ?_ ?_ ?_ y
  · exact keep 7 896 (by omega) rfl _ inb_S8x128x128_S1x128x128_7_0_0 _ _ (slab_second_7 c arg1 harg1 arg3 harg3 arg7 harg7 x0 x2 xs1)
  · exact keep 6 768 (by omega) rfl _ inb_S8x128x128_S1x128x128_6_0_0 _ _ (slab_second_6 c arg1 harg1 arg3 harg3 arg7 harg7 x0 x2 xs1)
  · exact keep 5 640 (by omega) rfl _ inb_S8x128x128_S1x128x128_5_0_0 _ _ (slab_second_5 c arg1 harg1 arg3 harg3 arg7 harg7 x0 x2 xs1)
  · exact keep 4 512 (by omega) rfl _ inb_S8x128x128_S1x128x128_4_0_0 _ _ (slab_second_4 c arg1 harg1 arg3 harg3 arg7 harg7 x0 x2 xs1)
  · exact keep 3 384 (by omega) rfl _ inb_S8x128x128_S1x128x128_3_0_0 _ _ (slab_second_3 c arg1 harg1 arg3 harg3 arg7 harg7 x0 x2 xs1)
  · exact keep 2 256 (by omega) rfl _ inb_S8x128x128_S1x128x128_2_0_0 _ _ (slab_second_2 c arg1 harg1 arg3 harg3 arg7 harg7 x0 x2 xs1)
  · exact keep 1 128 (by omega) rfl _ inb_S8x128x128_S1x128x128_1_0_0 _ _ (slab_second_1 c arg1 harg1 arg3 harg3 arg7 harg7 x0 x2 xs1)
  · exact keep 0 0 (by omega) rfl _ inb_S8x128x128_S1x128x128_0_0_0 _ _ (slab_second_0 c arg1 harg1 arg3 harg3 arg7 harg7 x0 x2 xs1)

end Points

/-! ## The two halves of the tokens, joined -/

/-- The sum over all tokens that both programs form: a column of `y` against the column of `x` in the same block of 64. -/
def diag (x y : S2048x1024.Idx → EReal) (i : S64x1024.Idx) : EReal :=
  ∑ n : Fin 2048, x (ix2 n (⟨(i 1).val / 64 * 64 + (i 0).val, by have h : (i 0).val < 64 := (i 0).isLt; have h' : (i 1).val < 1024 := (i 1).isLt; omega⟩ : Fin 1024)) * y (ix2 n (⟨(i 1).val, (i 1).isLt⟩ : Fin 1024))

theorem joined (x y : S2048x1024.Idx → EReal) (x0 x1 y0 y1 : S1024x1024.Idx → EReal)
    (hx0 : ∀ k r : Fin 1024, x0 (ix2 k r) = x (ix2 (⟨k.val, by omega⟩ : Fin 2048) r)) (hx1 : ∀ k r : Fin 1024, x1 (ix2 k r) = x (ix2 (⟨1024 + k.val, by omega⟩ : Fin 2048) r))
    (hy0 : ∀ k r : Fin 1024, y0 (ix2 k r) = y (ix2 (⟨k.val, by omega⟩ : Fin 2048) r)) (hy1 : ∀ k r : Fin 1024, y1 (ix2 k r) = y (ix2 (⟨1024 + k.val, by omega⟩ : Fin 2048) r)) :
    folded (added x1 y1 (added x0 y0 (fun _ => 0))) = diag x y := by
  funext i
  have h0 : (i 0).val < 64 := (i 0).isLt
  have h1 : (i 1).val < 1024 := (i 1).isLt
  unfold folded added diag
  rw [zero_add]
  refine Eq.trans ?_ (Fin.sum_univ_add (a := 1024) (b := 1024) _).symm
  refine congrArg₂ (fun a b : EReal => a + b) (Finset.sum_congr rfl fun k _ => ?_) (Finset.sum_congr rfl fun k _ => ?_)
  · rw [hx0, hy0]
    refine congrArg₂ (fun a b : EReal => a * b) (congrArg x ?_) (congrArg y ?_)
    · refine congrArg₂ ix2 rfl (Fin.ext ?_)
      show 128 * ((i 1).val / 128) + ((i 1).val % 128 / 64 * 64 + (i 0).val) = (i 1).val / 64 * 64 + (i 0).val
      omega
    · refine congrArg₂ ix2 rfl (Fin.ext ?_)
      show 128 * ((i 1).val / 128) + (i 1).val % 128 = (i 1).val
      omega
  · rw [hx1, hy1]
    refine congrArg₂ (fun a b : EReal => a * b) (congrArg x ?_) (congrArg y ?_)
    · refine congrArg₂ ix2 rfl (Fin.ext ?_)
      show 128 * ((i 1).val / 128) + ((i 1).val % 128 / 64 * 64 + (i 0).val) = (i 1).val / 64 * 64 + (i 0).val
      omega
    · refine congrArg₂ ix2 rfl (Fin.ext ?_)
      show 128 * ((i 1).val / 128) + (i 1).val % 128 = (i 1).val
      omega

/-! ## The blocks a grid point reads, and the arrays the launch leaves -/

theorem idx_facts : ∀ t : Fin cfg0.N, win0_0.index t = ![t.val, 0] ∧ win0_1.index t = ![t.val, 0] ∧ win0_2.index t = ![t.val, 0] :=
  (by decide +kernel : ∀ t : Fin grid0.N, _)

theorem block0 (c : Dev nD) (t : Fin cfg0.N) (k r : Fin 1024) (j : S2048x1024.Idx) (h0 : (j 0).val = t.val * 1024 + k.val) (h1 : (j 1).val = r.val) :
    (iblk m c 0 t : S1024x1024.Idx → EReal) (ix2 k r) = (m ((c : Thread nD τ).loc main_arg0) : S2048x1024.Idx → EReal) j := by
  have e := (idx_facts t).1
  refine congrArg (V m c main_arg0) (funext fun a => Fin.ext ?_)
  match a with
  | ⟨0, _⟩ => refine Eq.trans (b := win0_0.index t (0 : Fin 2) * 1024 + 1 * k.val) rfl ?_; rw [e]; refine Eq.trans ?_ h0.symm; show t.val * 1024 + 1 * k.val = t.val * 1024 + k.val; omega
  | ⟨1, _⟩ => refine Eq.trans (b := win0_0.index t (1 : Fin 2) * 1024 + 1 * r.val) rfl ?_; rw [e]; refine Eq.trans ?_ h1.symm; show 0 * 1024 + 1 * r.val = r.val; omega

theorem block1 (c : Dev nD) (t : Fin cfg0.N) (k r : Fin 1024) (j : S2048x1024.Idx) (h0 : (j 0).val = t.val * 1024 + k.val) (h1 : (j 1).val = r.val) :
    (iblk m c 1 t : S1024x1024.Idx → EReal) (ix2 k r) = (m ((c : Thread nD τ).loc main_arg1) : S2048x1024.Idx → EReal) j := by
  have e := (idx_facts t).2.1
  refine congrArg (V m c main_v0) (funext fun a => Fin.ext ?_)
  match a with
  | ⟨0, _⟩ => refine Eq.trans (b := win0_1.index t (0 : Fin 2) * 1024 + 1 * k.val) rfl ?_; rw [e]; refine Eq.trans ?_ h0.symm; show t.val * 1024 + 1 * k.val = t.val * 1024 + k.val; omega
  | ⟨1, _⟩ => refine Eq.trans (b := win0_1.index t (1 : Fin 2) * 1024 + 1 * r.val) rfl ?_; rw [e]; refine Eq.trans ?_ h1.symm; show 0 * 1024 + 1 * r.val = r.val; omega

theorem block2 (c : Dev nD) (t : Fin cfg0.N) (k r : Fin 1024) (j : S2048x1024.Idx) (h0 : (j 0).val = t.val * 1024 + k.val) (h1 : (j 1).val = r.val) :
    (iblk m c 2 t : S1024x1024.Idx → EReal) (ix2 k r) = (m ((c : Thread nD τ).loc main_arg2) : S2048x1024.Idx → EReal) j := by
  have e := (idx_facts t).2.2
  refine congrArg (V m c main_v1) (funext fun a => Fin.ext ?_)
  match a with
  | ⟨0, _⟩ => refine Eq.trans (b := win0_2.index t (0 : Fin 2) * 1024 + 1 * k.val) rfl ?_; rw [e]; refine Eq.trans ?_ h0.symm; show t.val * 1024 + 1 * k.val = t.val * 1024 + k.val; omega
  | ⟨1, _⟩ => refine Eq.trans (b := win0_2.index t (1 : Fin 2) * 1024 + 1 * r.val) rfl ?_; rw [e]; refine Eq.trans ?_ h1.symm; show 0 * 1024 + 1 * r.val = r.val; omega

theorem low_first (c : Dev nD) (t : Fin cfg0.N) (h0 : t.val % 2 = 0) (h1 : ¬t.val % 2 = 1) (q : Vec Ideal S64x1024 .f32 × Vec Ideal S64x1024 .f32 × Vec Ideal S8x128x128 .f32 × Vec Ideal S8x128x128 .f32) :
    (stAt0 m c t.val t.isLt q).2.2.1 = added (iblk m c 0 t) (iblk m c 1 t) (fun _ => 0) := by
  rw [stAt0_A m c t q h0 h1]
  dsimp only
  exact start_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) ((hcond0_0 t).mpr h0) (fun h => h1 ((hcond0_1 t).mp h))

theorem high_first (c : Dev nD) (t : Fin cfg0.N) (h0 : ¬t.val % 2 = 0) (h1 : t.val % 2 = 1) (q : Vec Ideal S64x1024 .f32 × Vec Ideal S64x1024 .f32 × Vec Ideal S8x128x128 .f32 × Vec Ideal S8x128x128 .f32) :
    (stAt0 m c t.val t.isLt q).1 = folded (added (iblk m c 0 t) (iblk m c 1 t) q.2.2.1) := by
  rw [stAt0_B m c t q h0 h1]
  dsimp only
  exact end_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) q.2.2.1 q.2.2.2 (fun h => h0 ((hcond0_0 t).mp h)) ((hcond0_1 t).mpr h1)

theorem final_first (c : Dev nD) : G3 m c = diag (m ((c : Thread nD τ).loc main_arg0)) (m ((c : Thread nD τ).loc main_arg1)) := by
  have l0 : 0 < cfg0.N := lt_of_lt_of_eq (by decide) N_0.symm
  have l1 : 1 < cfg0.N := lt_of_lt_of_eq (by decide) N_0.symm
  have e : Pipeline.accAt (fun n h => stAt0 m c n h junk0) (stAt0 m c) 0 1 (lt_of_lt_of_eq (by decide) N_0.symm) = stAt0 m c (⟨1, l1⟩ : Fin cfg0.N).val (⟨1, l1⟩ : Fin cfg0.N).isLt (stAt0 m c (⟨0, l0⟩ : Fin cfg0.N).val (⟨0, l0⟩ : Fin cfg0.N).isLt junk0) := by
    rw [Pipeline.accAt_succ, Pipeline.accAt_zero]
  rw [G3_last, e, high_first m c ⟨1, l1⟩ (show ¬1 % 2 = 0 by decide) rfl, low_first m c ⟨0, l0⟩ rfl (show ¬0 % 2 = 1 by decide)]
  exact joined _ _ _ _ _ _ (fun k r => block0 m c ⟨0, l0⟩ k r _ (by show k.val = 0 * 1024 + k.val; omega) rfl)
    (fun k r => block0 m c ⟨1, l1⟩ k r _ (by show 1024 + k.val = 1 * 1024 + k.val; omega) rfl)
    (fun k r => block1 m c ⟨0, l0⟩ k r _ (by show k.val = 0 * 1024 + k.val; omega) rfl)
    (fun k r => block1 m c ⟨1, l1⟩ k r _ (by show 1024 + k.val = 1 * 1024 + k.val; omega) rfl)

theorem low_second (c : Dev nD) (t : Fin cfg0.N) (h0 : t.val % 2 = 0) (h1 : ¬t.val % 2 = 1) (q : Vec Ideal S64x1024 .f32 × Vec Ideal S64x1024 .f32 × Vec Ideal S8x128x128 .f32 × Vec Ideal S8x128x128 .f32) :
    (stAt0 m c t.val t.isLt q).2.2.2 = added (iblk m c 0 t) (iblk m c 2 t) (fun _ => 0) := by
  rw [stAt0_A m c t q h0 h1]
  dsimp only
  exact start_second c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) ((hcond0_0 t).mpr h0) (fun h => h1 ((hcond0_1 t).mp h))

theorem high_second (c : Dev nD) (t : Fin cfg0.N) (h0 : ¬t.val % 2 = 0) (h1 : t.val % 2 = 1) (q : Vec Ideal S64x1024 .f32 × Vec Ideal S64x1024 .f32 × Vec Ideal S8x128x128 .f32 × Vec Ideal S8x128x128 .f32) :
    (stAt0 m c t.val t.isLt q).2.1 = folded (added (iblk m c 0 t) (iblk m c 2 t) q.2.2.2) := by
  rw [stAt0_B m c t q h0 h1]
  dsimp only
  exact end_second c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) q.2.2.1 q.2.2.2 (fun h => h0 ((hcond0_0 t).mp h)) ((hcond0_1 t).mpr h1)

theorem final_second (c : Dev nD) : G4 m c = diag (m ((c : Thread nD τ).loc main_arg0)) (m ((c : Thread nD τ).loc main_arg2)) := by
  have l0 : 0 < cfg0.N := lt_of_lt_of_eq (by decide) N_0.symm
  have l1 : 1 < cfg0.N := lt_of_lt_of_eq (by decide) N_0.symm
  have e : Pipeline.accAt (fun n h => stAt0 m c n h junk0) (stAt0 m c) 0 1 (lt_of_lt_of_eq (by decide) N_0.symm) = stAt0 m c (⟨1, l1⟩ : Fin cfg0.N).val (⟨1, l1⟩ : Fin cfg0.N).isLt (stAt0 m c (⟨0, l0⟩ : Fin cfg0.N).val (⟨0, l0⟩ : Fin cfg0.N).isLt junk0) := by
    rw [Pipeline.accAt_succ, Pipeline.accAt_zero]
  rw [G4_last, e, high_second m c ⟨1, l1⟩ (show ¬1 % 2 = 0 by decide) rfl, low_second m c ⟨0, l0⟩ rfl (show ¬0 % 2 = 1 by decide)]
  exact joined _ _ _ _ _ _ (fun k r => block0 m c ⟨0, l0⟩ k r _ (by show k.val = 0 * 1024 + k.val; omega) rfl)
    (fun k r => block0 m c ⟨1, l1⟩ k r _ (by show 1024 + k.val = 1 * 1024 + k.val; omega) rfl)
    (fun k r => block2 m c ⟨0, l0⟩ k r _ (by show k.val = 0 * 1024 + k.val; omega) rfl)
    (fun k r => block2 m c ⟨1, l1⟩ k r _ (by show 1024 + k.val = 1 * 1024 + k.val; omega) rfl)

/-! ## The reference's arrays, and the claim -/

open Cert.Reference21Ideal.Read in
theorem reference_first (x0 x1 : S2048x1024.Idx → EReal) : val_main_v16 (F := Ideal) x0 x1 = diag x0 x1 := by
  funext (i : S64x1024.Idx)
  have h0 : (i 0).val < 64 := (i 0).isLt
  have h1 : (i 1).val < 1024 := (i 1).isLt
  rw [val_main_v16_apply, val_main_v15_apply, val_main_v14_apply, val_main_v13_apply]
  unfold diag
  refine Finset.sum_congr rfl fun k _ => ?_
  have hk := k.isLt
  rw [val_main_v12_apply, val_main_v7_apply, val_main_v1_apply, mul_comm]
  refine congrArg₂ (fun a b : EReal => a * b) (congrArg x0 (funext fun a => Fin.ext ?_)) (congrArg x1 (funext fun a => Fin.ext ?_))
  · match a with
    | ⟨0, _⟩ => show ((k.val * 16 + ((i 0).val * 1024 + (i 1).val) / 64 % 16) * 64 + ((i 0).val * 1024 + (i 1).val) / 1024) / 1024 = k.val; omega
    | ⟨1, _⟩ => show ((k.val * 16 + ((i 0).val * 1024 + (i 1).val) / 64 % 16) * 64 + ((i 0).val * 1024 + (i 1).val) / 1024) % 1024 = (i 1).val / 64 * 64 + (i 0).val; omega
  · match a with
    | ⟨0, _⟩ => show ((k.val * 16 + ((i 0).val * 1024 + (i 1).val) / 64 % 16) * 64 + ((i 0).val * 1024 + (i 1).val) % 64) / 1024 = k.val; omega
    | ⟨1, _⟩ => show ((k.val * 16 + ((i 0).val * 1024 + (i 1).val) / 64 % 16) * 64 + ((i 0).val * 1024 + (i 1).val) % 64) % 1024 = (i 1).val; omega

open Cert.Reference21Ideal.Read in
theorem reference_second (x0 x2 : S2048x1024.Idx → EReal) : val_main_v18 (F := Ideal) x0 x2 = diag x0 x2 := by
  funext (i : S64x1024.Idx)
  have h0 : (i 0).val < 64 := (i 0).isLt
  have h1 : (i 1).val < 1024 := (i 1).isLt
  rw [val_main_v18_apply, val_main_v17_apply, val_main_v11_apply, val_main_v10_apply]
  unfold diag
  refine Finset.sum_congr rfl fun k _ => ?_
  have hk := k.isLt
  rw [val_main_v9_apply, val_main_v8_apply, val_main_v4_apply, mul_comm]
  refine congrArg₂ (fun a b : EReal => a * b) (congrArg x0 (funext fun a => Fin.ext ?_)) (congrArg x2 (funext fun a => Fin.ext ?_))
  · match a with
    | ⟨0, _⟩ => show ((k.val * 16 + ((i 0).val * 1024 + (i 1).val) / 64 % 16) * 64 + ((i 0).val * 1024 + (i 1).val) / 1024) / 1024 = k.val; omega
    | ⟨1, _⟩ => show ((k.val * 16 + ((i 0).val * 1024 + (i 1).val) / 64 % 16) * 64 + ((i 0).val * 1024 + (i 1).val) / 1024) % 1024 = (i 1).val / 64 * 64 + (i 0).val; omega
  · match a with
    | ⟨0, _⟩ => show ((k.val * 16 + ((i 0).val * 1024 + (i 1).val) / 64 % 16) * 64 + ((i 0).val * 1024 + (i 1).val) % 64) / 1024 = k.val; omega
    | ⟨1, _⟩ => show ((k.val * 16 + ((i 0).val * 1024 + (i 1).val) / 64 % 16) * 64 + ((i 0).val * 1024 + (i 1).val) % 64) % 1024 = (i 1).val; omega

theorem algebraic : Cert.algebraic_Kernel21Ideal_Reference21Ideal := by
  intro m g m' g' _ hagree
  refine ⟨G3 m, G4 m, Value.run m g, ?_⟩
  refine (θ_run Cert.Reference21Ideal.defs _ _).mono (fun r h c => ⟨?_, ?_, (h c).2.2⟩) (Cert.Reference21Ideal.Value.run (F := Ideal) m' g')
  · refine ((h c).1.trans (Cert.Reference21Ideal.Read.val_main_v16_eq _ _)).trans ?_
    rw [(hagree c).1, (hagree c).2.1, final_first m c]
    exact reference_first _ _
  · refine ((h c).2.1.trans (Cert.Reference21Ideal.Read.val_main_v18_eq _ _)).trans ?_
    rw [(hagree c).1, (hagree c).2.2, final_second m c]
    exact reference_second _ _

end Cert.Proof.TnBlocks

end
-- ==== Proof.Adam.lean ====
module

public import Idealize.ShloMosaic.PureOps.Ideal.Laws
public import Idealize.ShloMosaic.Lib.Pipeline.Value
public import Idealize.ShloMosaic.Lib.ValueIdx

/-! One step of the optimiser, written once for arrays of any shape: the two moments and the weight's change, element
by element. -/

@[expose] public section

noncomputable section

namespace Cert.Proof.Adam

open Idealize.ShloMosaic

variable {S : Shape}

/-- A constant array. -/
def const (S : Shape) (b : BitVec 32) : FVec Ideal S .f32 := broadcast S (Scalar.ofBits .f32 b : Ideal .f32)

/-- The first moment after the step. -/
def first (g m : FVec Ideal S .f32) : FVec Ideal S .f32 := addf (mulf (const S 0x3F666666#32) m) (mulf (const S 0x3DCCCCCD#32) g)

/-- The second moment after the step. -/
def second (g v : FVec Ideal S .f32) : FVec Ideal S .f32 := addf (mulf (const S 0x3F7FBE77#32) v) (mulf (const S 0x3A83126F#32) (mulf g g))

/-- The weight's change. -/
def change (w g m v : FVec Ideal S .f32) : FVec Ideal S .f32 :=
  mulf (const S 0xBA83126F#32) (addf (divf (divf (first g m) (const S 0x3F26BD02#32))
    (addf (sqrt (divf (second g v) (const S 0x3C231ACC#32))) (const S 0x322BCC77#32))) (mulf (const S 0x3C23D70A#32) w))

/-- The corner of a whole block. -/
theorem corner : (![0, 0] : Fin 2 → Nat) = fun _ => 0 := funext fun a => by fin_cases a <;> rfl

end Cert.Proof.Adam

end
-- ==== Proof.AdamIn.lean ====
module

public import proofs.«01_k».proof.Defs
public import proofs.«01_k».proof.Proof.Gen.Kernel22Ideal.Value
public import proofs.«01_k».proof.Proof.Gen.Reference22Ideal.Run
public import proofs.«01_k».proof.Proof.Gen.Reference22Ideal.Read
public import proofs.«01_k».proof.Proof.Adam

/-! The optimiser's step of the input and gate weights. Every launch point takes a quarter of the rows of
each array, all arrays of one weight by the same blocks, and the step is taken element by element, so each output
array is the step of the whole arrays. -/

@[expose] public section

set_option maxRecDepth 16384

noncomputable section

namespace Cert.Proof.AdamIn

open Cert.Kernel22Ideal Cert.Kernel22Ideal.Gen Idealize.ShloMosaic Idealize.ShloMosaic.TcCoe Idealize.SL.Sem Cert.Proof.Adam
open Idealize.ShloMosaic.Pipeline (Dat)

variable (m : (ℓ : Loc nD τ sig) → Buf (Elt Ideal) ℓ)

/-- The blocks of w_glu run down the rows. -/
theorem index_w_glu : ∀ t : Fin cfg0.N, win0_10.index t = ![t.val, 0] :=
  (by decide +kernel : ∀ t : Fin grid0.N, _)

/-- The four blocks of w_glu cover it. -/
theorem covered_w_glu (i : S128x512.Idx) : ∃ t : Fin cfg0.N, (cfg0.win 10).flush t = true ∧ i ∈ ((cfg0.win 10).blk t).view.set := by
  have h0 : (i 0).val < 128 := (i 0).isLt
  have h1 : (i 1).val < 512 := (i 1).isLt
  let t : Fin cfg0.N := ⟨(i 0).val / 32, lt_of_lt_of_eq (show (i 0).val / 32 < 4 by omega) (show 4 = cfg0.N from N_0.symm)⟩
  refine ⟨t, (by decide +kernel : ∀ t : Fin grid0.N, win0_10.flush t = true) t, ?_⟩
  show i ∈ ((View.whole main_v0_2).slice (win0_10.rect t)).set
  rw [View.set_slice_whole, Rect.mem_set_unit, index_w_glu]
  intro a
  match a with
  | ⟨0, _⟩ => show (i 0).val / 32 * 32 ≤ (i 0).val ∧ (i 0).val < (i 0).val / 32 * 32 + 32; omega
  | ⟨1, _⟩ => show 0 * 512 ≤ (i 1).val ∧ (i 1).val < 0 * 512 + 512; omega

/-- The change of w_glu. -/
theorem change_w_glu (c : Dev nD) : (dats m 0 c).arrAt 10 cfg0.N = change (m ((c : Thread nD τ).loc main_arg0)) (m ((c : Thread nD τ).loc main_arg2)) (m ((c : Thread nD τ).loc main_arg4)) (m ((c : Thread nD τ).loc main_arg6)) :=
  Dat.arrAt_eq_of_cover (dats m 0 c) 10 _ (fun t _ => by
    rw [Value.flushed10]; unfold out0_10 r0_0; rw [View.canon_unit_zero corner, View.ld_unit_zero corner, View.ld_unit_zero corner, View.ld_unit_zero corner, View.ld_unit_zero corner]; rfl) covered_w_glu

/-- The first moment of w_glu. -/
theorem first_w_glu (c : Dev nD) : (dats m 0 c).arrAt 12 cfg0.N = first (m ((c : Thread nD τ).loc main_arg2)) (m ((c : Thread nD τ).loc main_arg4)) :=
  Dat.arrAt_eq_of_cover (dats m 0 c) 12 _ (fun t _ => by
    rw [Value.flushed12]; unfold out0_12 r0_0; rw [View.canon_unit_zero corner, View.ld_unit_zero corner, View.ld_unit_zero corner]; rfl) covered_w_glu

/-- The second moment of w_glu. -/
theorem second_w_glu (c : Dev nD) : (dats m 0 c).arrAt 14 cfg0.N = second (m ((c : Thread nD τ).loc main_arg2)) (m ((c : Thread nD τ).loc main_arg6)) :=
  Dat.arrAt_eq_of_cover (dats m 0 c) 14 _ (fun t _ => by
    rw [Value.flushed14]; unfold out0_14 r0_0; rw [View.canon_unit_zero corner, View.ld_unit_zero corner, View.ld_unit_zero corner]; rfl) covered_w_glu

/-- The blocks of w_in run down the rows. -/
theorem index_w_in : ∀ t : Fin cfg0.N, win0_11.index t = ![t.val, 0] :=
  (by decide +kernel : ∀ t : Fin grid0.N, _)

/-- The four blocks of w_in cover it. -/
theorem covered_w_in (i : S1024x896.Idx) : ∃ t : Fin cfg0.N, (cfg0.win 11).flush t = true ∧ i ∈ ((cfg0.win 11).blk t).view.set := by
  have h0 : (i 0).val < 1024 := (i 0).isLt
  have h1 : (i 1).val < 896 := (i 1).isLt
  let t : Fin cfg0.N := ⟨(i 0).val / 256, lt_of_lt_of_eq (show (i 0).val / 256 < 4 by omega) (show 4 = cfg0.N from N_0.symm)⟩
  refine ⟨t, (by decide +kernel : ∀ t : Fin grid0.N, win0_11.flush t = true) t, ?_⟩
  show i ∈ ((View.whole main_v0_3).slice (win0_11.rect t)).set
  rw [View.set_slice_whole, Rect.mem_set_unit, index_w_in]
  intro a
  match a with
  | ⟨0, _⟩ => show (i 0).val / 256 * 256 ≤ (i 0).val ∧ (i 0).val < (i 0).val / 256 * 256 + 256; omega
  | ⟨1, _⟩ => show 0 * 896 ≤ (i 1).val ∧ (i 1).val < 0 * 896 + 896; omega

/-- The change of w_in. -/
theorem change_w_in (c : Dev nD) : (dats m 0 c).arrAt 11 cfg0.N = change (m ((c : Thread nD τ).loc main_arg1)) (m ((c : Thread nD τ).loc main_arg3)) (m ((c : Thread nD τ).loc main_arg5)) (m ((c : Thread nD τ).loc main_arg7)) :=
  Dat.arrAt_eq_of_cover (dats m 0 c) 11 _ (fun t _ => by
    rw [Value.flushed11]; unfold out0_11 r0_1; rw [View.canon_unit_zero corner, View.ld_unit_zero corner, View.ld_unit_zero corner, View.ld_unit_zero corner, View.ld_unit_zero corner]; rfl) covered_w_in

/-- The first moment of w_in. -/
theorem first_w_in (c : Dev nD) : (dats m 0 c).arrAt 13 cfg0.N = first (m ((c : Thread nD τ).loc main_arg3)) (m ((c : Thread nD τ).loc main_arg5)) :=
  Dat.arrAt_eq_of_cover (dats m 0 c) 13 _ (fun t _ => by
    rw [Value.flushed13]; unfold out0_13 r0_1; rw [View.canon_unit_zero corner, View.ld_unit_zero corner, View.ld_unit_zero corner]; rfl) covered_w_in

/-- The second moment of w_in. -/
theorem second_w_in (c : Dev nD) : (dats m 0 c).arrAt 15 cfg0.N = second (m ((c : Thread nD τ).loc main_arg3)) (m ((c : Thread nD τ).loc main_arg7)) :=
  Dat.arrAt_eq_of_cover (dats m 0 c) 15 _ (fun t _ => by
    rw [Value.flushed15]; unfold out0_15 r0_1; rw [View.canon_unit_zero corner, View.ld_unit_zero corner, View.ld_unit_zero corner]; rfl) covered_w_in

open Cert.Reference22Ideal.Read in
theorem algebraic : Cert.algebraic_Kernel22Ideal_Reference22Ideal := by
  intro m g m' g' _ hagree
  refine ⟨fun c => Adam.change (m ((c : Thread nD τ).loc main_arg0)) (m ((c : Thread nD τ).loc main_arg2)) (m ((c : Thread nD τ).loc main_arg4)) (m ((c : Thread nD τ).loc main_arg6)), fun c => Adam.change (m ((c : Thread nD τ).loc main_arg1)) (m ((c : Thread nD τ).loc main_arg3)) (m ((c : Thread nD τ).loc main_arg5)) (m ((c : Thread nD τ).loc main_arg7)), fun c => Adam.first (m ((c : Thread nD τ).loc main_arg2)) (m ((c : Thread nD τ).loc main_arg4)), fun c => Adam.first (m ((c : Thread nD τ).loc main_arg3)) (m ((c : Thread nD τ).loc main_arg5)), fun c => Adam.second (m ((c : Thread nD τ).loc main_arg2)) (m ((c : Thread nD τ).loc main_arg6)), fun c => Adam.second (m ((c : Thread nD τ).loc main_arg3)) (m ((c : Thread nD τ).loc main_arg7)), ?_, ?_⟩
  · exact (θ_run defs _ _).mono (fun r h c => ⟨(h c).2.2.1.trans (change_w_glu m c), (h c).2.2.2.1.trans (change_w_in m c), (h c).2.2.2.2.1.trans (first_w_glu m c), (h c).2.2.2.2.2.1.trans (first_w_in m c), (h c).2.2.2.2.2.2.1.trans (second_w_glu m c), (h c).2.2.2.2.2.2.2.1.trans (second_w_in m c), (h c).2.2.2.2.2.2.2.2⟩) (Value.run_blocks m g)
  · refine (θ_run Cert.Reference22Ideal.defs _ _).mono (fun r h c => ⟨?_, ?_, ?_, ?_, ?_, ?_, (h c).2.2.2.2.2.2⟩) (Cert.Reference22Ideal.Value.run (F := Ideal) m' g')
    · refine ((h c).1.trans (val_main_v23_eq _ _ _ _)).trans ?_
      rw [(hagree c).1, (hagree c).2.2.1, (hagree c).2.2.2.2.1, (hagree c).2.2.2.2.2.2.1]; rfl
    · refine ((h c).2.1.trans (val_main_v47_eq _ _ _ _)).trans ?_
      rw [(hagree c).2.1, (hagree c).2.2.2.1, (hagree c).2.2.2.2.2.1, (hagree c).2.2.2.2.2.2.2]; rfl
    · refine ((h c).2.2.1.trans (val_main_v4_eq _ _)).trans ?_
      rw [(hagree c).2.2.1, (hagree c).2.2.2.2.1]; rfl
    · refine ((h c).2.2.2.1.trans (val_main_v28_eq _ _)).trans ?_
      rw [(hagree c).2.2.2.1, (hagree c).2.2.2.2.2.1]; rfl
    · refine ((h c).2.2.2.2.1.trans (val_main_v10_eq _ _)).trans ?_
      rw [(hagree c).2.2.1, (hagree c).2.2.2.2.2.2.1]; rfl
    · refine ((h c).2.2.2.2.2.1.trans (val_main_v34_eq _ _)).trans ?_
      rw [(hagree c).2.2.2.1, (hagree c).2.2.2.2.2.2.2]; rfl

end Cert.Proof.AdamIn

end
-- ==== Proof.AdamFfn.lean ====
module

public import proofs.«01_k».proof.Defs
public import proofs.«01_k».proof.Proof.Gen.Kernel23Ideal.Value
public import proofs.«01_k».proof.Proof.Gen.Reference23Ideal.Run
public import proofs.«01_k».proof.Proof.Gen.Reference23Ideal.Read
public import proofs.«01_k».proof.Proof.Adam

/-! The optimiser's step of one feed-forward weight. Every launch point takes a quarter of the rows of
each array, all arrays of one weight by the same blocks, and the step is taken element by element, so each output
array is the step of the whole arrays. -/

@[expose] public section

set_option maxRecDepth 16384

noncomputable section

namespace Cert.Proof.AdamFfn

open Cert.Kernel23Ideal Cert.Kernel23Ideal.Gen Idealize.ShloMosaic Idealize.ShloMosaic.TcCoe Idealize.SL.Sem Cert.Proof.Adam
open Idealize.ShloMosaic.Pipeline (Dat)

variable (m : (ℓ : Loc nD τ sig) → Buf (Elt Ideal) ℓ)

/-- The blocks of the weight run down the rows. -/
theorem index : ∀ t : Fin cfg0.N, win0_5.index t = ![t.val, 0] :=
  (by decide +kernel : ∀ t : Fin grid0.N, _)

/-- The four blocks of the weight cover it. -/
theorem covered (i : S704x1024.Idx) : ∃ t : Fin cfg0.N, (cfg0.win 5).flush t = true ∧ i ∈ ((cfg0.win 5).blk t).view.set := by
  have h0 : (i 0).val < 704 := (i 0).isLt
  have h1 : (i 1).val < 1024 := (i 1).isLt
  let t : Fin cfg0.N := ⟨(i 0).val / 176, lt_of_lt_of_eq (show (i 0).val / 176 < 4 by omega) (show 4 = cfg0.N from N_0.symm)⟩
  refine ⟨t, (by decide +kernel : ∀ t : Fin grid0.N, win0_5.flush t = true) t, ?_⟩
  show i ∈ ((View.whole main_v0_1).slice (win0_5.rect t)).set
  rw [View.set_slice_whole, Rect.mem_set_unit, index]
  intro a
  match a with
  | ⟨0, _⟩ => show (i 0).val / 176 * 176 ≤ (i 0).val ∧ (i 0).val < (i 0).val / 176 * 176 + 176; omega
  | ⟨1, _⟩ => show 0 * 1024 ≤ (i 1).val ∧ (i 1).val < 0 * 1024 + 1024; omega

/-- The change of the weight. -/
theorem change (c : Dev nD) : (dats m 0 c).arrAt 5 cfg0.N = change (m ((c : Thread nD τ).loc main_arg0)) (m ((c : Thread nD τ).loc main_arg1)) (m ((c : Thread nD τ).loc main_arg2)) (m ((c : Thread nD τ).loc main_arg3)) :=
  Dat.arrAt_eq_of_cover (dats m 0 c) 5 _ (fun t _ => by
    rw [Value.flushed5]; unfold out0_5 r0_0; rw [View.canon_unit_zero corner, View.ld_unit_zero corner, View.ld_unit_zero corner, View.ld_unit_zero corner, View.ld_unit_zero corner]; rfl) covered

/-- The first moment of the weight. -/
theorem first (c : Dev nD) : (dats m 0 c).arrAt 6 cfg0.N = first (m ((c : Thread nD τ).loc main_arg1)) (m ((c : Thread nD τ).loc main_arg2)) :=
  Dat.arrAt_eq_of_cover (dats m 0 c) 6 _ (fun t _ => by
    rw [Value.flushed6]; unfold out0_6 r0_0; rw [View.canon_unit_zero corner, View.ld_unit_zero corner, View.ld_unit_zero corner]; rfl) covered

/-- The second moment of the weight. -/
theorem second (c : Dev nD) : (dats m 0 c).arrAt 7 cfg0.N = second (m ((c : Thread nD τ).loc main_arg1)) (m ((c : Thread nD τ).loc main_arg3)) :=
  Dat.arrAt_eq_of_cover (dats m 0 c) 7 _ (fun t _ => by
    rw [Value.flushed7]; unfold out0_7 r0_0; rw [View.canon_unit_zero corner, View.ld_unit_zero corner, View.ld_unit_zero corner]; rfl) covered

open Cert.Reference23Ideal.Read in
theorem algebraic : Cert.algebraic_Kernel23Ideal_Reference23Ideal := by
  intro m g m' g' _ hagree
  refine ⟨fun c => Adam.change (m ((c : Thread nD τ).loc main_arg0)) (m ((c : Thread nD τ).loc main_arg1)) (m ((c : Thread nD τ).loc main_arg2)) (m ((c : Thread nD τ).loc main_arg3)), fun c => Adam.first (m ((c : Thread nD τ).loc main_arg1)) (m ((c : Thread nD τ).loc main_arg2)), fun c => Adam.second (m ((c : Thread nD τ).loc main_arg1)) (m ((c : Thread nD τ).loc main_arg3)), ?_, ?_⟩
  · exact (θ_run defs _ _).mono (fun r h c => ⟨(h c).2.1.trans (change m c), (h c).2.2.1.trans (first m c), (h c).2.2.2.1.trans (second m c), (h c).2.2.2.2⟩) (Value.run_blocks m g)
  · refine (θ_run Cert.Reference23Ideal.defs _ _).mono (fun r h c => ⟨?_, ?_, ?_, (h c).2.2.2⟩) (Cert.Reference23Ideal.Value.run (F := Ideal) m' g')
    · refine ((h c).1.trans (val_main_v23_eq _ _ _ _)).trans ?_
      rw [(hagree c).1, (hagree c).2.1, (hagree c).2.2.1, (hagree c).2.2.2]; rfl
    · refine ((h c).2.1.trans (val_main_v4_eq _ _)).trans ?_
      rw [(hagree c).2.1, (hagree c).2.2.1]; rfl
    · refine ((h c).2.2.1.trans (val_main_v10_eq _ _)).trans ?_
      rw [(hagree c).2.1, (hagree c).2.2.2]; rfl

end Cert.Proof.AdamFfn

end
-- ==== Proof.AdamOut.lean ====
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import proofs.«01_k».proof.Proof.Adam

/-! The optimiser's step of the mixer's output weight. Every launch point takes a quarter of the rows of
each array, all arrays of one weight by the same blocks, and the step is taken element by element, so each output
array is the step of the whole arrays. -/

@[expose] public section

set_option maxRecDepth 16384

noncomputable section

namespace Cert.Proof.AdamOut

open Cert.Kernel24Ideal Cert.Kernel24Ideal.Gen Idealize.ShloMosaic Idealize.ShloMosaic.TcCoe Idealize.SL.Sem Cert.Proof.Adam
open Idealize.ShloMosaic.Pipeline (Dat)

variable (m : (ℓ : Loc nD τ sig) → Buf (Elt Ideal) ℓ)

/-- The blocks of w_o run down the rows. -/
theorem index : ∀ t : Fin cfg0.N, win0_5.index t = ![t.val, 0] :=
  (by decide +kernel : ∀ t : Fin grid0.N, _)

/-- The four blocks of w_o cover it. -/
theorem covered (i : S256x1024.Idx) : ∃ t : Fin cfg0.N, (cfg0.win 5).flush t = true ∧ i ∈ ((cfg0.win 5).blk t).view.set := by
  have h0 : (i 0).val < 256 := (i 0).isLt
  have h1 : (i 1).val < 1024 := (i 1).isLt
  let t : Fin cfg0.N := ⟨(i 0).val / 64, lt_of_lt_of_eq (show (i 0).val / 64 < 4 by omega) (show 4 = cfg0.N from N_0.symm)⟩
  refine ⟨t, (by decide +kernel : ∀ t : Fin grid0.N, win0_5.flush t = true) t, ?_⟩
  show i ∈ ((View.whole main_v0_1).slice (win0_5.rect t)).set
  rw [View.set_slice_whole, Rect.mem_set_unit, index]
  intro a
  match a with
  | ⟨0, _⟩ => show (i 0).val / 64 * 64 ≤ (i 0).val ∧ (i 0).val < (i 0).val / 64 * 64 + 64; omega
  | ⟨1, _⟩ => show 0 * 1024 ≤ (i 1).val ∧ (i 1).val < 0 * 1024 + 1024; omega

/-- The change of w_o. -/
theorem change (c : Dev nD) : (dats m 0 c).arrAt 5 cfg0.N = change (m ((c : Thread nD τ).loc main_arg0)) (m ((c : Thread nD τ).loc main_arg1)) (m ((c : Thread nD τ).loc main_arg2)) (m ((c : Thread nD τ).loc main_arg3)) :=
  Dat.arrAt_eq_of_cover (dats m 0 c) 5 _ (fun t _ => by
    rw [Value.flushed5]; unfold out0_5 r0_0; rw [View.canon_unit_zero corner, View.ld_unit_zero corner, View.ld_unit_zero corner, View.ld_unit_zero corner, View.ld_unit_zero corner]; rfl) covered

/-- The first moment of w_o. -/
theorem first (c : Dev nD) : (dats m 0 c).arrAt 6 cfg0.N = first (m ((c : Thread nD τ).loc main_arg1)) (m ((c : Thread nD τ).loc main_arg2)) :=
  Dat.arrAt_eq_of_cover (dats m 0 c) 6 _ (fun t _ => by
    rw [Value.flushed6]; unfold out0_6 r0_0; rw [View.canon_unit_zero corner, View.ld_unit_zero corner, View.ld_unit_zero corner]; rfl) covered

/-- The second moment of w_o. -/
theorem second (c : Dev nD) : (dats m 0 c).arrAt 7 cfg0.N = second (m ((c : Thread nD τ).loc main_arg1)) (m ((c : Thread nD τ).loc main_arg3)) :=
  Dat.arrAt_eq_of_cover (dats m 0 c) 7 _ (fun t _ => by
    rw [Value.flushed7]; unfold out0_7 r0_0; rw [View.canon_unit_zero corner, View.ld_unit_zero corner, View.ld_unit_zero corner]; rfl) covered

open Cert.Reference24Ideal.Read in
theorem algebraic : Cert.algebraic_Kernel24Ideal_Reference24Ideal := by
  intro m g m' g' _ hagree
  refine ⟨fun c => Adam.change (m ((c : Thread nD τ).loc main_arg0)) (m ((c : Thread nD τ).loc main_arg1)) (m ((c : Thread nD τ).loc main_arg2)) (m ((c : Thread nD τ).loc main_arg3)), fun c => Adam.first (m ((c : Thread nD τ).loc main_arg1)) (m ((c : Thread nD τ).loc main_arg2)), fun c => Adam.second (m ((c : Thread nD τ).loc main_arg1)) (m ((c : Thread nD τ).loc main_arg3)), ?_, ?_⟩
  · exact (θ_run defs _ _).mono (fun r h c => ⟨(h c).2.1.trans (change m c), (h c).2.2.1.trans (first m c), (h c).2.2.2.1.trans (second m c), (h c).2.2.2.2⟩) (Value.run_blocks m g)
  · refine (θ_run Cert.Reference24Ideal.defs _ _).mono (fun r h c => ⟨?_, ?_, ?_, (h c).2.2.2⟩) (Cert.Reference24Ideal.Value.run (F := Ideal) m' g')
    · refine ((h c).1.trans (val_main_v23_eq _ _ _ _)).trans ?_
      rw [(hagree c).1, (hagree c).2.1, (hagree c).2.2.1, (hagree c).2.2.2]; rfl
    · refine ((h c).2.1.trans (val_main_v4_eq _ _)).trans ?_
      rw [(hagree c).2.1, (hagree c).2.2.1]; rfl
    · refine ((h c).2.2.1.trans (val_main_v10_eq _ _)).trans ?_
      rw [(hagree c).2.1, (hagree c).2.2.2]; rfl

end Cert.Proof.AdamOut

end
-- ==== Proof.AdamPle.lean ====
module

public import proofs.«01_k».proof.Defs
public import proofs.«01_k».proof.Proof.Gen.Kernel25Ideal.Value
public import proofs.«01_k».proof.Proof.Gen.Reference25Ideal.Run
public import proofs.«01_k».proof.Proof.Gen.Reference25Ideal.Read
public import proofs.«01_k».proof.Proof.Adam

/-! The optimiser's step of the two per-layer embedding weights. Every launch point takes a quarter of the rows of
each array, all arrays of one weight by the same blocks, and the step is taken element by element, so each output
array is the step of the whole arrays. -/

@[expose] public section

set_option maxRecDepth 16384

noncomputable section

namespace Cert.Proof.AdamPle

open Cert.Kernel25Ideal Cert.Kernel25Ideal.Gen Idealize.ShloMosaic Idealize.ShloMosaic.TcCoe Idealize.SL.Sem Cert.Proof.Adam
open Idealize.ShloMosaic.Pipeline (Dat)

variable (m : (ℓ : Loc nD τ sig) → Buf (Elt Ideal) ℓ)

/-- The blocks of w_ple_gate run down the rows. -/
theorem index_w_ple_gate : ∀ t : Fin cfg0.N, win0_10.index t = ![t.val, 0] :=
  (by decide +kernel : ∀ t : Fin grid0.N, _)

/-- The four blocks of w_ple_gate cover it. -/
theorem covered_w_ple_gate (i : S256x1024.Idx) : ∃ t : Fin cfg0.N, (cfg0.win 10).flush t = true ∧ i ∈ ((cfg0.win 10).blk t).view.set := by
  have h0 : (i 0).val < 256 := (i 0).isLt
  have h1 : (i 1).val < 1024 := (i 1).isLt
  let t : Fin cfg0.N := ⟨(i 0).val / 64, lt_of_lt_of_eq (show (i 0).val / 64 < 4 by omega) (show 4 = cfg0.N from N_0.symm)⟩
  refine ⟨t, (by decide +kernel : ∀ t : Fin grid0.N, win0_10.flush t = true) t, ?_⟩
  show i ∈ ((View.whole main_v0_2).slice (win0_10.rect t)).set
  rw [View.set_slice_whole, Rect.mem_set_unit, index_w_ple_gate]
  intro a
  match a with
  | ⟨0, _⟩ => show (i 0).val / 64 * 64 ≤ (i 0).val ∧ (i 0).val < (i 0).val / 64 * 64 + 64; omega
  | ⟨1, _⟩ => show 0 * 1024 ≤ (i 1).val ∧ (i 1).val < 0 * 1024 + 1024; omega

/-- The change of w_ple_gate. -/
theorem change_w_ple_gate (c : Dev nD) : (dats m 0 c).arrAt 10 cfg0.N = change (m ((c : Thread nD τ).loc main_arg0)) (m ((c : Thread nD τ).loc main_arg2)) (m ((c : Thread nD τ).loc main_arg4)) (m ((c : Thread nD τ).loc main_arg6)) :=
  Dat.arrAt_eq_of_cover (dats m 0 c) 10 _ (fun t _ => by
    rw [Value.flushed10]; unfold out0_10 r0_0; rw [View.canon_unit_zero corner, View.ld_unit_zero corner, View.ld_unit_zero corner, View.ld_unit_zero corner, View.ld_unit_zero corner]; rfl) covered_w_ple_gate

/-- The first moment of w_ple_gate. -/
theorem first_w_ple_gate (c : Dev nD) : (dats m 0 c).arrAt 12 cfg0.N = first (m ((c : Thread nD τ).loc main_arg2)) (m ((c : Thread nD τ).loc main_arg4)) :=
  Dat.arrAt_eq_of_cover (dats m 0 c) 12 _ (fun t _ => by
    rw [Value.flushed12]; unfold out0_12 r0_0; rw [View.canon_unit_zero corner, View.ld_unit_zero corner, View.ld_unit_zero corner]; rfl) covered_w_ple_gate

/-- The second moment of w_ple_gate. -/
theorem second_w_ple_gate (c : Dev nD) : (dats m 0 c).arrAt 14 cfg0.N = second (m ((c : Thread nD τ).loc main_arg2)) (m ((c : Thread nD τ).loc main_arg6)) :=
  Dat.arrAt_eq_of_cover (dats m 0 c) 14 _ (fun t _ => by
    rw [Value.flushed14]; unfold out0_14 r0_0; rw [View.canon_unit_zero corner, View.ld_unit_zero corner, View.ld_unit_zero corner]; rfl) covered_w_ple_gate

/-- The blocks of w_ple run down the rows. -/
theorem index_w_ple : ∀ t : Fin cfg0.N, win0_11.index t = ![t.val, 0] :=
  (by decide +kernel : ∀ t : Fin grid0.N, _)

/-- The four blocks of w_ple cover it. -/
theorem covered_w_ple (i : S256x256.Idx) : ∃ t : Fin cfg0.N, (cfg0.win 11).flush t = true ∧ i ∈ ((cfg0.win 11).blk t).view.set := by
  have h0 : (i 0).val < 256 := (i 0).isLt
  have h1 : (i 1).val < 256 := (i 1).isLt
  let t : Fin cfg0.N := ⟨(i 0).val / 64, lt_of_lt_of_eq (show (i 0).val / 64 < 4 by omega) (show 4 = cfg0.N from N_0.symm)⟩
  refine ⟨t, (by decide +kernel : ∀ t : Fin grid0.N, win0_11.flush t = true) t, ?_⟩
  show i ∈ ((View.whole main_v0_3).slice (win0_11.rect t)).set
  rw [View.set_slice_whole, Rect.mem_set_unit, index_w_ple]
  intro a
  match a with
  | ⟨0, _⟩ => show (i 0).val / 64 * 64 ≤ (i 0).val ∧ (i 0).val < (i 0).val / 64 * 64 + 64; omega
  | ⟨1, _⟩ => show 0 * 256 ≤ (i 1).val ∧ (i 1).val < 0 * 256 + 256; omega

/-- The change of w_ple. -/
theorem change_w_ple (c : Dev nD) : (dats m 0 c).arrAt 11 cfg0.N = change (m ((c : Thread nD τ).loc main_arg1)) (m ((c : Thread nD τ).loc main_arg3)) (m ((c : Thread nD τ).loc main_arg5)) (m ((c : Thread nD τ).loc main_arg7)) :=
  Dat.arrAt_eq_of_cover (dats m 0 c) 11 _ (fun t _ => by
    rw [Value.flushed11]; unfold out0_11 r0_1; rw [View.canon_unit_zero corner, View.ld_unit_zero corner, View.ld_unit_zero corner, View.ld_unit_zero corner, View.ld_unit_zero corner]; rfl) covered_w_ple

/-- The first moment of w_ple. -/
theorem first_w_ple (c : Dev nD) : (dats m 0 c).arrAt 13 cfg0.N = first (m ((c : Thread nD τ).loc main_arg3)) (m ((c : Thread nD τ).loc main_arg5)) :=
  Dat.arrAt_eq_of_cover (dats m 0 c) 13 _ (fun t _ => by
    rw [Value.flushed13]; unfold out0_13 r0_1; rw [View.canon_unit_zero corner, View.ld_unit_zero corner, View.ld_unit_zero corner]; rfl) covered_w_ple

/-- The second moment of w_ple. -/
theorem second_w_ple (c : Dev nD) : (dats m 0 c).arrAt 15 cfg0.N = second (m ((c : Thread nD τ).loc main_arg3)) (m ((c : Thread nD τ).loc main_arg7)) :=
  Dat.arrAt_eq_of_cover (dats m 0 c) 15 _ (fun t _ => by
    rw [Value.flushed15]; unfold out0_15 r0_1; rw [View.canon_unit_zero corner, View.ld_unit_zero corner, View.ld_unit_zero corner]; rfl) covered_w_ple

open Cert.Reference25Ideal.Read in
theorem algebraic : Cert.algebraic_Kernel25Ideal_Reference25Ideal := by
  intro m g m' g' _ hagree
  refine ⟨fun c => Adam.change (m ((c : Thread nD τ).loc main_arg0)) (m ((c : Thread nD τ).loc main_arg2)) (m ((c : Thread nD τ).loc main_arg4)) (m ((c : Thread nD τ).loc main_arg6)), fun c => Adam.change (m ((c : Thread nD τ).loc main_arg1)) (m ((c : Thread nD τ).loc main_arg3)) (m ((c : Thread nD τ).loc main_arg5)) (m ((c : Thread nD τ).loc main_arg7)), fun c => Adam.first (m ((c : Thread nD τ).loc main_arg2)) (m ((c : Thread nD τ).loc main_arg4)), fun c => Adam.first (m ((c : Thread nD τ).loc main_arg3)) (m ((c : Thread nD τ).loc main_arg5)), fun c => Adam.second (m ((c : Thread nD τ).loc main_arg2)) (m ((c : Thread nD τ).loc main_arg6)), fun c => Adam.second (m ((c : Thread nD τ).loc main_arg3)) (m ((c : Thread nD τ).loc main_arg7)), ?_, ?_⟩
  · exact (θ_run defs _ _).mono (fun r h c => ⟨(h c).2.2.1.trans (change_w_ple_gate m c), (h c).2.2.2.1.trans (change_w_ple m c), (h c).2.2.2.2.1.trans (first_w_ple_gate m c), (h c).2.2.2.2.2.1.trans (first_w_ple m c), (h c).2.2.2.2.2.2.1.trans (second_w_ple_gate m c), (h c).2.2.2.2.2.2.2.1.trans (second_w_ple m c), (h c).2.2.2.2.2.2.2.2⟩) (Value.run_blocks m g)
  · refine (θ_run Cert.Reference25Ideal.defs _ _).mono (fun r h c => ⟨?_, ?_, ?_, ?_, ?_, ?_, (h c).2.2.2.2.2.2⟩) (Cert.Reference25Ideal.Value.run (F := Ideal) m' g')
    · refine ((h c).1.trans (val_main_v23_eq _ _ _ _)).trans ?_
      rw [(hagree c).1, (hagree c).2.2.1, (hagree c).2.2.2.2.1, (hagree c).2.2.2.2.2.2.1]; rfl
    · refine ((h c).2.1.trans (val_main_v47_eq _ _ _ _)).trans ?_
      rw [(hagree c).2.1, (hagree c).2.2.2.1, (hagree c).2.2.2.2.2.1, (hagree c).2.2.2.2.2.2.2]; rfl
    · refine ((h c).2.2.1.trans (val_main_v4_eq _ _)).trans ?_
      rw [(hagree c).2.2.1, (hagree c).2.2.2.2.1]; rfl
    · refine ((h c).2.2.2.1.trans (val_main_v28_eq _ _)).trans ?_
      rw [(hagree c).2.2.2.1, (hagree c).2.2.2.2.2.1]; rfl
    · refine ((h c).2.2.2.2.1.trans (val_main_v10_eq _ _)).trans ?_
      rw [(hagree c).2.2.1, (hagree c).2.2.2.2.2.2.1]; rfl
    · refine ((h c).2.2.2.2.2.1.trans (val_main_v34_eq _ _)).trans ?_
      rw [(hagree c).2.2.2.1, (hagree c).2.2.2.2.2.2.2]; rfl

end Cert.Proof.AdamPle

end
-- ==== Proof.AdamMerge.lean ====
module

public import proofs.«01_k».proof.Defs
public import proofs.«01_k».proof.Proof.Gen.Kernel26Ideal.Value
public import proofs.«01_k».proof.Proof.Gen.Reference26Ideal.Run
public import proofs.«01_k».proof.Proof.Gen.Reference26Ideal.Read
public import proofs.«01_k».proof.Proof.Adam

/-! The optimiser's step of the weights that merge the two branches. Every launch point takes a quarter of the rows of
each array, all arrays of one weight by the same blocks, and the step is taken element by element, so each output
array is the step of the whole arrays. -/

@[expose] public section

set_option maxRecDepth 16384

noncomputable section

namespace Cert.Proof.AdamMerge

open Cert.Kernel26Ideal Cert.Kernel26Ideal.Gen Idealize.ShloMosaic Idealize.ShloMosaic.TcCoe Idealize.SL.Sem Cert.Proof.Adam
open Idealize.ShloMosaic.Pipeline (Dat)

variable (m : (ℓ : Loc nD τ sig) → Buf (Elt Ideal) ℓ)

/-- The blocks of w_a_out run down the rows. -/
theorem index_w_a_out : ∀ t : Fin cfg0.N, win0_10.index t = ![t.val, 0] :=
  (by decide +kernel : ∀ t : Fin grid0.N, _)

/-- The four blocks of w_a_out cover it. -/
theorem covered_w_a_out (i : S512x256.Idx) : ∃ t : Fin cfg0.N, (cfg0.win 10).flush t = true ∧ i ∈ ((cfg0.win 10).blk t).view.set := by
  have h0 : (i 0).val < 512 := (i 0).isLt
  have h1 : (i 1).val < 256 := (i 1).isLt
  let t : Fin cfg0.N := ⟨(i 0).val / 128, lt_of_lt_of_eq (show (i 0).val / 128 < 4 by omega) (show 4 = cfg0.N from N_0.symm)⟩
  refine ⟨t, (by decide +kernel : ∀ t : Fin grid0.N, win0_10.flush t = true) t, ?_⟩
  show i ∈ ((View.whole main_v0_2).slice (win0_10.rect t)).set
  rw [View.set_slice_whole, Rect.mem_set_unit, index_w_a_out]
  intro a
  match a with
  | ⟨0, _⟩ => show (i 0).val / 128 * 128 ≤ (i 0).val ∧ (i 0).val < (i 0).val / 128 * 128 + 128; omega
  | ⟨1, _⟩ => show 0 * 256 ≤ (i 1).val ∧ (i 1).val < 0 * 256 + 256; omega

/-- The change of w_a_out. -/
theorem change_w_a_out (c : Dev nD) : (dats m 0 c).arrAt 10 cfg0.N = change (m ((c : Thread nD τ).loc main_arg0)) (m ((c : Thread nD τ).loc main_arg2)) (m ((c : Thread nD τ).loc main_arg4)) (m ((c : Thread nD τ).loc main_arg6)) :=
  Dat.arrAt_eq_of_cover (dats m 0 c) 10 _ (fun t _ => by
    rw [Value.flushed10]; unfold out0_10 r0_0; rw [View.canon_unit_zero corner, View.ld_unit_zero corner, View.ld_unit_zero corner, View.ld_unit_zero corner, View.ld_unit_zero corner]; rfl) covered_w_a_out

/-- The first moment of w_a_out. -/
theorem first_w_a_out (c : Dev nD) : (dats m 0 c).arrAt 12 cfg0.N = first (m ((c : Thread nD τ).loc main_arg2)) (m ((c : Thread nD τ).loc main_arg4)) :=
  Dat.arrAt_eq_of_cover (dats m 0 c) 12 _ (fun t _ => by
    rw [Value.flushed12]; unfold out0_12 r0_0; rw [View.canon_unit_zero corner, View.ld_unit_zero corner, View.ld_unit_zero corner]; rfl) covered_w_a_out

/-- The second moment of w_a_out. -/
theorem second_w_a_out (c : Dev nD) : (dats m 0 c).arrAt 14 cfg0.N = second (m ((c : Thread nD τ).loc main_arg2)) (m ((c : Thread nD τ).loc main_arg6)) :=
  Dat.arrAt_eq_of_cover (dats m 0 c) 14 _ (fun t _ => by
    rw [Value.flushed14]; unfold out0_14 r0_0; rw [View.canon_unit_zero corner, View.ld_unit_zero corner, View.ld_unit_zero corner]; rfl) covered_w_a_out

/-- The blocks of w_b_out run down the rows. -/
theorem index_w_b_out : ∀ t : Fin cfg0.N, win0_11.index t = ![t.val, 0] :=
  (by decide +kernel : ∀ t : Fin grid0.N, _)

/-- The four blocks of w_b_out cover it. -/
theorem covered_w_b_out (i : S256x1024.Idx) : ∃ t : Fin cfg0.N, (cfg0.win 11).flush t = true ∧ i ∈ ((cfg0.win 11).blk t).view.set := by
  have h0 : (i 0).val < 256 := (i 0).isLt
  have h1 : (i 1).val < 1024 := (i 1).isLt
  let t : Fin cfg0.N := ⟨(i 0).val / 64, lt_of_lt_of_eq (show (i 0).val / 64 < 4 by omega) (show 4 = cfg0.N from N_0.symm)⟩
  refine ⟨t, (by decide +kernel : ∀ t : Fin grid0.N, win0_11.flush t = true) t, ?_⟩
  show i ∈ ((View.whole main_v0_3).slice (win0_11.rect t)).set
  rw [View.set_slice_whole, Rect.mem_set_unit, index_w_b_out]
  intro a
  match a with
  | ⟨0, _⟩ => show (i 0).val / 64 * 64 ≤ (i 0).val ∧ (i 0).val < (i 0).val / 64 * 64 + 64; omega
  | ⟨1, _⟩ => show 0 * 1024 ≤ (i 1).val ∧ (i 1).val < 0 * 1024 + 1024; omega

/-- The change of w_b_out. -/
theorem change_w_b_out (c : Dev nD) : (dats m 0 c).arrAt 11 cfg0.N = change (m ((c : Thread nD τ).loc main_arg1)) (m ((c : Thread nD τ).loc main_arg3)) (m ((c : Thread nD τ).loc main_arg5)) (m ((c : Thread nD τ).loc main_arg7)) :=
  Dat.arrAt_eq_of_cover (dats m 0 c) 11 _ (fun t _ => by
    rw [Value.flushed11]; unfold out0_11 r0_1; rw [View.canon_unit_zero corner, View.ld_unit_zero corner, View.ld_unit_zero corner, View.ld_unit_zero corner, View.ld_unit_zero corner]; rfl) covered_w_b_out

/-- The first moment of w_b_out. -/
theorem first_w_b_out (c : Dev nD) : (dats m 0 c).arrAt 13 cfg0.N = first (m ((c : Thread nD τ).loc main_arg3)) (m ((c : Thread nD τ).loc main_arg5)) :=
  Dat.arrAt_eq_of_cover (dats m 0 c) 13 _ (fun t _ => by
    rw [Value.flushed13]; unfold out0_13 r0_1; rw [View.canon_unit_zero corner, View.ld_unit_zero corner, View.ld_unit_zero corner]; rfl) covered_w_b_out

/-- The second moment of w_b_out. -/
theorem second_w_b_out (c : Dev nD) : (dats m 0 c).arrAt 15 cfg0.N = second (m ((c : Thread nD τ).loc main_arg3)) (m ((c : Thread nD τ).loc main_arg7)) :=
  Dat.arrAt_eq_of_cover (dats m 0 c) 15 _ (fun t _ => by
    rw [Value.flushed15]; unfold out0_15 r0_1; rw [View.canon_unit_zero corner, View.ld_unit_zero corner, View.ld_unit_zero corner]; rfl) covered_w_b_out

open Cert.Reference26Ideal.Read in
theorem algebraic : Cert.algebraic_Kernel26Ideal_Reference26Ideal := by
  intro m g m' g' _ hagree
  refine ⟨fun c => Adam.change (m ((c : Thread nD τ).loc main_arg0)) (m ((c : Thread nD τ).loc main_arg2)) (m ((c : Thread nD τ).loc main_arg4)) (m ((c : Thread nD τ).loc main_arg6)), fun c => Adam.change (m ((c : Thread nD τ).loc main_arg1)) (m ((c : Thread nD τ).loc main_arg3)) (m ((c : Thread nD τ).loc main_arg5)) (m ((c : Thread nD τ).loc main_arg7)), fun c => Adam.first (m ((c : Thread nD τ).loc main_arg2)) (m ((c : Thread nD τ).loc main_arg4)), fun c => Adam.first (m ((c : Thread nD τ).loc main_arg3)) (m ((c : Thread nD τ).loc main_arg5)), fun c => Adam.second (m ((c : Thread nD τ).loc main_arg2)) (m ((c : Thread nD τ).loc main_arg6)), fun c => Adam.second (m ((c : Thread nD τ).loc main_arg3)) (m ((c : Thread nD τ).loc main_arg7)), ?_, ?_⟩
  · exact (θ_run defs _ _).mono (fun r h c => ⟨(h c).2.2.1.trans (change_w_a_out m c), (h c).2.2.2.1.trans (change_w_b_out m c), (h c).2.2.2.2.1.trans (first_w_a_out m c), (h c).2.2.2.2.2.1.trans (first_w_b_out m c), (h c).2.2.2.2.2.2.1.trans (second_w_a_out m c), (h c).2.2.2.2.2.2.2.1.trans (second_w_b_out m c), (h c).2.2.2.2.2.2.2.2⟩) (Value.run_blocks m g)
  · refine (θ_run Cert.Reference26Ideal.defs _ _).mono (fun r h c => ⟨?_, ?_, ?_, ?_, ?_, ?_, (h c).2.2.2.2.2.2⟩) (Cert.Reference26Ideal.Value.run (F := Ideal) m' g')
    · refine ((h c).1.trans (val_main_v23_eq _ _ _ _)).trans ?_
      rw [(hagree c).1, (hagree c).2.2.1, (hagree c).2.2.2.2.1, (hagree c).2.2.2.2.2.2.1]; rfl
    · refine ((h c).2.1.trans (val_main_v47_eq _ _ _ _)).trans ?_
      rw [(hagree c).2.1, (hagree c).2.2.2.1, (hagree c).2.2.2.2.2.1, (hagree c).2.2.2.2.2.2.2]; rfl
    · refine ((h c).2.2.1.trans (val_main_v4_eq _ _)).trans ?_
      rw [(hagree c).2.2.1, (hagree c).2.2.2.2.1]; rfl
    · refine ((h c).2.2.2.1.trans (val_main_v28_eq _ _)).trans ?_
      rw [(hagree c).2.2.2.1, (hagree c).2.2.2.2.2.1]; rfl
    · refine ((h c).2.2.2.2.1.trans (val_main_v10_eq _ _)).trans ?_
      rw [(hagree c).2.2.1, (hagree c).2.2.2.2.2.2.1]; rfl
    · refine ((h c).2.2.2.2.2.1.trans (val_main_v34_eq _ _)).trans ?_
      rw [(hagree c).2.2.2.1, (hagree c).2.2.2.2.2.2.2]; rfl

end Cert.Proof.AdamMerge

end
-- ==== Proof.ReadWeights.lean ====
module

public import proofs.«01_k».proof.Defs
public import proofs.«01_k».proof.Proof.Gen.Kernel27Ideal.Value
public import proofs.«01_k».proof.Proof.Gen.Reference27Ideal.Run
public import proofs.«01_k».proof.Proof.Gen.Reference27Ideal.Read
public import Idealize.ShloMosaic.Lib.Pipeline.Value
public import Idealize.ShloMosaic.Lib.Pipeline.CanonAppend
public import Idealize.ShloMosaic.Lib.Pipeline.ReadBack
public import Idealize.ShloMosaic.Lib.ValueIdx
public import Idealize.ShloMosaic.Lib.Pointwise.Reduce
public import Idealize.ShloMosaic.PureOps.Ideal.Laws

/-! The gradients of the state space's two output weights: thirty-two blocks of 16 by 64, the diagonal blocks of a product
over the tokens. The call forms four tiles of 128 by 512, adds two halves of the tokens, and keeps of each tile the eight
blocks on its diagonal. -/

@[expose] public section

set_option maxRecDepth 16384

noncomputable section

namespace Cert.Proof.ReadWeights

open Cert.Kernel27Ideal Cert.Kernel27Ideal.Gen Cert.Kernel27Ideal.Value Idealize.ShloMosaic.TcCoe Idealize.SL.Sem
open Idealize.ShloMosaic hiding ix1 ix2 ix3 eq_ix2
open Idealize.ShloMosaic.ValueIdx
open Idealize.ShloMosaic.Pipeline (Dat)

variable (m : (ℓ : Loc nD τ sig) → Buf (Elt Ideal) ℓ) (ρ : Dev nD → PrngReg)

/-! ## A tile's product over the tokens of a block -/

abbrev D := dot_S1024x128_S1024x512_S128x512_0_0_1_1_n_n

theorem lhs0 (i : S128x512.Idx) (q : D.contr.Idx) : (D.lhsIdx i q 0).val = (q ⟨0, by decide⟩).val := D.lhsIdx_val_of_single rfl i q
theorem rhs0 (i : S128x512.Idx) (q : D.contr.Idx) : (D.rhsIdx i q 0).val = (q ⟨0, by decide⟩).val := D.rhsIdx_val_of_single rfl i q
theorem lhs1 (i : S128x512.Idx) (q : D.contr.Idx) : (D.lhsIdx i q 1).val = (i 0).val := by
  unfold DotDims.lhsIdx
  rw [dif_neg (show ¬(1 : Fin S1024x128.rank) ∈ D.lhsBatch by decide), dif_pos (show (1 : Fin S1024x128.rank) ∈ D.lhsNonContracting by decide)]
  rfl
theorem rhs1 (i : S128x512.Idx) (q : D.contr.Idx) : (D.rhsIdx i q 1).val = (i 1).val := by
  unfold DotDims.rhsIdx
  rw [dif_neg (show ¬(1 : Fin S1024x512.rank) ∈ D.rhsBatch by decide), dif_pos (show (1 : Fin S1024x512.rank) ∈ D.rhsNonContracting by decide)]
  rfl

theorem dot_apply (x : FVec Ideal S1024x128 .bf16) (y : FVec Ideal S1024x512 .bf16) (i : S128x512.Idx) :
    matmul D none x y (constant S128x512 .f32 0x00000000#32) i = ∑ k : Fin 1024, (x (ix2 k (i 0)) : EReal) * y (ix2 k (i 1)) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx i ((contrEquiv1 D 1024 rfl rfl).symm k) = ix2 k (i 0) := funext fun a => Fin.ext (by
    match a with
    | ⟨0, _⟩ => exact (lhs0 _ _).trans hk
    | ⟨1, _⟩ => exact lhs1 _ _)
  have er : D.rhsIdx i ((contrEquiv1 D 1024 rfl rfl).symm k) = ix2 k (i 1) := funext fun a => Fin.ext (by
    match a with
    | ⟨0, _⟩ => exact (rhs0 _ _).trans hk
    | ⟨1, _⟩ => exact rhs1 _ _)
  rw [el, er]; rfl

theorem columns {n w : Nat} (o : Nat) (h : (⟨2, ![1024, n]⟩ : Shape).Slices ![0, o] ⟨2, ![1024, w]⟩) (ho : o + w ≤ n) (x : FVec Ideal ⟨2, ![1024, n]⟩ .bf16) (k : Fin 1024) (r : Fin w) :
    extractStridedSlice ⟨2, ![1024, w]⟩ ![0, o] x h (ix2 k r) = x (ix2 k (⟨o + r.val, by omega⟩ : Fin n)) :=
  extractStridedSlice_apply _ x h (ix2 k r) (ix2 k (⟨o + r.val, by omega⟩ : Fin n)) (fun a => by
    match a with
    | ⟨0, _⟩ => show k.val = 0 + k.val; omega
    | ⟨1, _⟩ => rfl)

/-- What is stored in a tile: what was there, and the product of 128 columns of one operand and 512 of the other. -/
theorem tile (o p : Nat) (h : S1024x512.Slices ![0, o] S1024x128) (h' : S1024x2048.Slices ![0, p] S1024x512) (ho : o + 128 ≤ 512) (hp : p + 512 ≤ 2048)
    (x : FVec Ideal S1024x512 .bf16) (y : FVec Ideal S1024x2048 .bf16) (v : Vec Ideal S1x128x512 .f32) (z : S1x128x512.Idx) :
    shapeCast S1x128x512 (addf (shapeCast S128x512 v shapeCasts_S1x128x512_S128x512 : FVec Ideal S128x512 .f32)
        (matmul D none (extractStridedSlice S1024x128 ![0, o] x h) (extractStridedSlice S1024x512 ![0, p] y h') (constant S128x512 .f32 0x00000000#32))) shapeCasts_S128x512_S1x128x512 z
      = (v (ix3 0 (z 1) (z 2)) : EReal) + ∑ k : Fin 1024, (x (ix2 k (⟨o + (z 1).val, by have h : (z 1).val < 128 := (z 1).isLt; omega⟩ : Fin 512)) : EReal) * y (ix2 k (⟨p + (z 2).val, by have h : (z 2).val < 512 := (z 2).isLt; omega⟩ : Fin 2048)) := by
  rw [shapeCast_apply _ shapeCasts_S128x512_S1x128x512 z (ix2 (z 1) (z 2)) (by
    rewrite [Shape.rowMajor_val_two, Shape.rowMajor_val_three]
    have h0 : (z 0).val < 1 := (z 0).isLt
    show (z 1).val * 512 + (z 2).val = ((z 0).val * 128 + (z 1).val) * 512 + (z 2).val
    omega)]
  show ((shapeCast S128x512 v shapeCasts_S1x128x512_S128x512 : FVec Ideal S128x512 .f32) (ix2 (z 1) (z 2)) : EReal) + matmul D none _ _ _ (ix2 (z 1) (z 2)) = _
  rw [dot_apply, shapeCast_apply _ shapeCasts_S1x128x512_S128x512 (ix2 (z 1) (z 2)) (ix3 0 (z 1) (z 2)) (by
    rewrite [Shape.rowMajor_val_two, Shape.rowMajor_val_three]
    show (0 * 128 + (z 1).val) * 512 + (z 2).val = (z 1).val * 512 + (z 2).val
    omega)]
  refine congrArg (fun b : EReal => (v (ix3 0 (z 1) (z 2)) : EReal) + b) (Finset.sum_congr rfl fun k _ => ?_)
  exact congrArg₂ (fun a b : EReal => a * b) (columns o h ho x k (z 1)) (columns p h' hp y k (z 2))

/-- The tiles after the tokens of one block are added to them. -/
def added (x : S1024x512.Idx → EReal) (y : S1024x2048.Idx → EReal) (v : S4x128x512.Idx → EReal) (i : S4x128x512.Idx) : EReal :=
  v i + ∑ k : Fin 1024, x (ix2 k (⟨128 * (i 0).val + (i 1).val, by have h : (i 0).val < 4 := (i 0).isLt; have h' : (i 1).val < 128 := (i 1).isLt; omega⟩ : Fin 512))
    * y (ix2 k (⟨512 * (i 0).val + (i 2).val, by have h : (i 0).val < 4 := (i 0).isLt; have h' : (i 2).val < 512 := (i 2).isLt; omega⟩ : Fin 2048))

/-- One slab's store: the tile's sum is the slab of what the tiles become. -/
theorem part (q o p : Nat) (hq : q < 4) (ho : o = 128 * q) (hp : p = 512 * q) (h : S1024x512.Slices ![0, o] S1024x128) (h' : S1024x2048.Slices ![0, p] S1024x512)
    (inb : ∀ a, (![q, 0, 0] : Fin 3 → Nat) a + S1x128x512.size a ≤ S4x128x512.size a)
    {X : FVec Ideal S1024x512 .bf16} {Y : FVec Ideal S1024x2048 .bf16} {x : S1024x512.Idx → EReal} {y : S1024x2048.Idx → EReal} (hX : X = x) (hY : Y = y) (v : S4x128x512.Idx → EReal) (w : Vec Ideal S1x128x512 .f32)
    (hw : ∀ z : S1x128x512.Idx, w z = v ((Rect.unit (s := S4x128x512) ![q, 0, 0] S1x128x512.size inb).emb z)) (z : S1x128x512.Idx) :
    shapeCast S1x128x512 (addf (shapeCast S128x512 w shapeCasts_S1x128x512_S128x512 : FVec Ideal S128x512 .f32)
        (matmul D none (extractStridedSlice S1024x128 ![0, o] X h) (extractStridedSlice S1024x512 ![0, p] Y h') (constant S128x512 .f32 0x00000000#32))) shapeCasts_S128x512_S1x128x512 z
      = added x y v ((Rect.unit (s := S4x128x512) ![q, 0, 0] S1x128x512.size inb).emb z) := by
  subst hX hY
  refine (tile o p h h' (by omega) (by omega) X Y w z).trans ?_
  have h0 : (z 0).val < 1 := (z 0).isLt
  have hz : ix3 0 (z 1) (z 2) = z := funext fun a => Fin.ext (by
    match a with
    | ⟨0, _⟩ => show 0 = (z 0).val; omega
    | ⟨1, _⟩ => rfl
    | ⟨2, _⟩ => rfl)
  unfold added
  refine congrArg₂ (fun a b : EReal => a + b) ((congrArg w hz).trans (hw z)) (Finset.sum_congr rfl fun k _ => ?_)
  refine congrArg₂ (fun a b : EReal => a * b) (congrArg (fun u : Fin 512 => (X (ix2 k u) : EReal)) (Fin.ext ?_)) (congrArg (fun u : Fin 2048 => (Y (ix2 k u) : EReal)) (Fin.ext ?_))
  · show o + (z 1).val = 128 * (q + 1 * (z 0).val) + (0 + 1 * (z 1).val); omega
  · show p + (z 2).val = 512 * (q + 1 * (z 0).val) + (0 + 1 * (z 2).val); omega

/-! ## What the kernel keeps of a tile -/

theorem block_row : ∀ r : Fin 128, k0_pay4 (ix2 r 0) = BitVec.ofNat 32 (r.val / 16) := by decide +kernel
theorem block_col : ∀ r : Fin 512, select k0_pay6 (subi k0_pay5 (broadcast S128x512 1#32)) k0_pay5 (ix2 0 r) = BitVec.ofNat 32 (r.val / 64) := by decide +kernel
theorem same_block : ∀ a b : Fin 8, BitVec.ofBool (BitVec.ofNat 32 a.val == BitVec.ofNat 32 b.val) = if a.val = b.val then 1#1 else 0#1 := by decide

/-- The mask of the eight blocks on a tile's diagonal. -/
theorem own_apply (r : Fin 128) (c : Fin 512) : k0_pay7 k0_pay4 k0_pay5 k0_pay6 (ix2 r c) = if r.val / 16 = c.val / 64 then 1#1 else 0#1 := by
  have e : k0_pay7 k0_pay4 k0_pay5 k0_pay6 (ix2 r c)
      = BitVec.ofBool (k0_pay4 (ix2 r 0) == select k0_pay6 (subi k0_pay5 (broadcast S128x512 1#32)) k0_pay5 (ix2 0 c)) := rfl
  rw [e, block_row, block_col]
  exact same_block ⟨r.val / 16, by omega⟩ ⟨c.val / 64, by omega⟩

/-- What is kept of a tile: of the eight blocks of a column the one on the diagonal. -/
theorem kept_apply (v : Vec Ideal S1x128x512 .f32) (a : Fin 16) (b : Fin 512) :
    multiReduction .add [0] S16x512 (shapeCast S8x16x512 (select (k0_pay7 k0_pay4 k0_pay5 k0_pay6) (shapeCast S128x512 v shapeCasts_S1x128x512_S128x512)
        (broadcast S128x512 (Scalar.ofBits .f32 0x00000000#32 : Ideal .f32)) : FVec Ideal S128x512 .f32) shapeCasts_S128x512_S8x16x512 : FVec Ideal S8x16x512 .f32)
        0x00000000#32 reduces_S8x16x512_S16x512 (.inl rfl) rfl (ix2 a b)
      = v (ix3 0 (⟨b.val / 64 * 16 + a.val, by omega⟩ : Fin 128) b) := by
  have part : ∀ p : Fin 8, (shapeCast S8x16x512 (select (k0_pay7 k0_pay4 k0_pay5 k0_pay6) (shapeCast S128x512 v shapeCasts_S1x128x512_S128x512)
        (broadcast S128x512 (Scalar.ofBits .f32 0x00000000#32 : Ideal .f32)) : FVec Ideal S128x512 .f32) shapeCasts_S128x512_S8x16x512 : FVec Ideal S8x16x512 .f32) (ix3 p a b)
      = if p = (⟨b.val / 64, by omega⟩ : Fin 8) then v (ix3 0 (⟨b.val / 64 * 16 + a.val, by omega⟩ : Fin 128) b) else (0 : EReal) := fun p => by
    refine (shapeCast_apply _ shapeCasts_S128x512_S8x16x512 (ix3 p a b) (ix2 (⟨p.val * 16 + a.val, by omega⟩ : Fin 128) b) (by
      rewrite [Shape.rowMajor_val_two, Shape.rowMajor_val_three]
      show (p.val * 16 + a.val) * 512 + b.val = (p.val * 16 + a.val) * 512 + b.val
      rfl)).trans ?_
    have hown := own_apply (⟨p.val * 16 + a.val, by omega⟩ : Fin 128) b
    have hp : (p.val * 16 + a.val) / 16 = p.val := by omega
    by_cases h : p.val = b.val / 64
    · rw [if_pos (Fin.ext h)]
      rw [if_pos (hp.trans h)] at hown
      refine (if_pos hown).trans ?_
      exact shapeCast_apply _ shapeCasts_S1x128x512_S128x512 _ (ix3 0 (⟨b.val / 64 * 16 + a.val, by omega⟩ : Fin 128) b) (by
        rewrite [Shape.rowMajor_val_two, Shape.rowMajor_val_three]
        show (0 * 128 + (b.val / 64 * 16 + a.val)) * 512 + b.val = (p.val * 16 + a.val) * 512 + b.val
        omega)
    · rw [if_neg (fun e => h (congrArg Fin.val e))]
      rw [if_neg (fun e => h (hp.symm.trans e))] at hown
      refine (if_neg (by rw [hown]; decide)).trans ?_
      exact Ideal.ofBits_zero_f32
  refine (Ideal.reduceAdd_r3_a0 reduces_S8x16x512_S16x512 _ (ix2 a b)).trans ?_
  refine (Finset.sum_congr rfl fun p _ => part p).trans ?_
  rw [Finset.sum_ite_eq' Finset.univ, if_pos (Finset.mem_univ _)]

/-- Four stores, one of each slab, leave the function that each of them is a slab of. -/
theorem slabs (G : S4x128x512.Idx → EReal) (w0 w1 w2 w3 : Vec Ideal S1x128x512 .f32) (L : List (View.Piece (Elt Ideal) S4x128x512 .f32))
    (h3 : ∀ z : S1x128x512.Idx, w3 z = G ((Rect.unit (s := S4x128x512) ![3, 0, 0] S1x128x512.size inb_S4x128x512_S1x128x512_3_0_0).emb z))
    (h2 : ∀ z : S1x128x512.Idx, w2 z = G ((Rect.unit (s := S4x128x512) ![2, 0, 0] S1x128x512.size inb_S4x128x512_S1x128x512_2_0_0).emb z))
    (h1 : ∀ z : S1x128x512.Idx, w1 z = G ((Rect.unit (s := S4x128x512) ![1, 0, 0] S1x128x512.size inb_S4x128x512_S1x128x512_1_0_0).emb z))
    (h0 : ∀ z : S1x128x512.Idx, w0 z = G ((Rect.unit (s := S4x128x512) ![0, 0, 0] S1x128x512.size inb_S4x128x512_S1x128x512_0_0_0).emb z)) (y : S4x128x512.Idx) :
    View.canon (Val := Elt Ideal) (e := .f32) (⟨Rect.unit (s := S4x128x512) ![3, 0, 0] S1x128x512.size inb_S4x128x512_S1x128x512_3_0_0, w3⟩ ::
      ⟨Rect.unit (s := S4x128x512) ![2, 0, 0] S1x128x512.size inb_S4x128x512_S1x128x512_2_0_0, w2⟩ ::
      ⟨Rect.unit (s := S4x128x512) ![1, 0, 0] S1x128x512.size inb_S4x128x512_S1x128x512_1_0_0, w1⟩ ::
      ⟨Rect.unit (s := S4x128x512) ![0, 0, 0] S1x128x512.size inb_S4x128x512_S1x128x512_0_0_0, w0⟩ :: L) y = G y := by
  refine View.canon_append_of_pieces (Val := Elt Ideal) (e := .f32) G L [⟨Rect.unit (s := S4x128x512) ![3, 0, 0] S1x128x512.size inb_S4x128x512_S1x128x512_3_0_0, w3⟩,
      ⟨Rect.unit (s := S4x128x512) ![2, 0, 0] S1x128x512.size inb_S4x128x512_S1x128x512_2_0_0, w2⟩,
      ⟨Rect.unit (s := S4x128x512) ![1, 0, 0] S1x128x512.size inb_S4x128x512_S1x128x512_1_0_0, w1⟩,
      ⟨Rect.unit (s := S4x128x512) ![0, 0, 0] S1x128x512.size inb_S4x128x512_S1x128x512_0_0_0, w0⟩] ?_ y ?_
  · intro pc hpc
    simp only [List.mem_cons, List.not_mem_nil, or_false] at hpc
    rcases hpc with rfl | rfl | rfl | rfl
    exacts [h3, h2, h1, h0]
  · have b0 : (y 0).val < 4 := (y 0).isLt
    have b1 : (y 1).val < 128 := (y 1).isLt
    have b2 : (y 2).val < 512 := (y 2).isLt
    have mem : ∀ (q : Nat) (inb : ∀ a, (![q, 0, 0] : Fin 3 → Nat) a + S1x128x512.size a ≤ S4x128x512.size a), (y 0).val = q →
        y ∈ (Rect.unit (s := S4x128x512) ![q, 0, 0] S1x128x512.size inb).set := fun q inb hq => by
      rw [Rect.mem_set_unit]
      intro a
      match a with
      | ⟨0, _⟩ => show q ≤ (y 0).val ∧ (y 0).val < q + 1; omega
      | ⟨1, _⟩ => show 0 ≤ (y 1).val ∧ (y 1).val < 0 + 128; omega
      | ⟨2, _⟩ => show 0 ≤ (y 2).val ∧ (y 2).val < 0 + 512; omega
    simp only [List.exists_mem_cons_iff]
    have : (y 0).val = 3 ∨ (y 0).val = 2 ∨ (y 0).val = 1 ∨ (y 0).val = 0 := by omega
    rcases this with h | h | h | h
    · exact Or.inl (mem 3 _ h)
    · exact Or.inr (Or.inl (mem 2 _ h))
    · exact Or.inr (Or.inr (Or.inl (mem 1 _ h)))
    · exact Or.inr (Or.inr (Or.inr (Or.inl (mem 0 _ h))))

/-- What the call keeps of the four tiles. -/
def folded (T : S4x128x512.Idx → EReal) (y : S16x2048.Idx) : EReal :=
  T (ix3 (⟨(y 1).val / 512, by have h : (y 1).val < 2048 := (y 1).isLt; omega⟩ : Fin 4)
    (⟨(y 1).val % 512 / 64 * 16 + (y 0).val, by have h : (y 0).val < 16 := (y 0).isLt; omega⟩ : Fin 128) (⟨(y 1).val % 512, Nat.mod_lt _ (by omega)⟩ : Fin 512))

/-- Four stores, one of each strip of 512 columns, likewise. -/
theorem strips (G : S16x2048.Idx → EReal) (w0 w1 w2 w3 : Vec Ideal S16x512 .f32)
    (h3 : ∀ z : S16x512.Idx, w3 z = G ((Rect.unit (s := S16x2048) ![0, 1536] S16x512.size inb_S16x2048_S16x512_0_1536).emb z))
    (h2 : ∀ z : S16x512.Idx, w2 z = G ((Rect.unit (s := S16x2048) ![0, 1024] S16x512.size inb_S16x2048_S16x512_0_1024).emb z))
    (h1 : ∀ z : S16x512.Idx, w1 z = G ((Rect.unit (s := S16x2048) ![0, 512] S16x512.size inb_S16x2048_S16x512_0_512).emb z))
    (h0 : ∀ z : S16x512.Idx, w0 z = G ((Rect.unit (s := S16x2048) ![0, 0] S16x512.size inb_S16x2048_S16x512_0_0).emb z)) (y : S16x2048.Idx) :
    View.canon (Val := Elt Ideal) (e := .f32) [⟨Rect.unit (s := S16x2048) ![0, 1536] S16x512.size inb_S16x2048_S16x512_0_1536, w3⟩,
      ⟨Rect.unit (s := S16x2048) ![0, 1024] S16x512.size inb_S16x2048_S16x512_0_1024, w2⟩,
      ⟨Rect.unit (s := S16x2048) ![0, 512] S16x512.size inb_S16x2048_S16x512_0_512, w1⟩,
      ⟨Rect.unit (s := S16x2048) ![0, 0] S16x512.size inb_S16x2048_S16x512_0_0, w0⟩] y = G y := by
  refine View.canon_apply_of_pieces (Val := Elt Ideal) (e := .f32) G _ ?_ y ?_
  · intro pc hpc
    simp only [List.mem_cons, List.not_mem_nil, or_false] at hpc
    rcases hpc with rfl | rfl | rfl | rfl
    exacts [h3, h2, h1, h0]
  · have b0 : (y 0).val < 16 := (y 0).isLt
    have b1 : (y 1).val < 2048 := (y 1).isLt
    have mem : ∀ (q o : Nat) (inb : ∀ a, (![0, o] : Fin 2 → Nat) a + S16x512.size a ≤ S16x2048.size a), o = 512 * q → (y 1).val / 512 = q →
        y ∈ (Rect.unit (s := S16x2048) ![0, o] S16x512.size inb).set := fun q o inb ho hq => by
      rw [Rect.mem_set_unit]
      intro a
      match a with
      | ⟨0, _⟩ => show 0 ≤ (y 0).val ∧ (y 0).val < 0 + 16; omega
      | ⟨1, _⟩ => show o ≤ (y 1).val ∧ (y 1).val < o + 512; omega
    simp only [List.exists_mem_cons_iff]
    have : (y 1).val / 512 = 3 ∨ (y 1).val / 512 = 2 ∨ (y 1).val / 512 = 1 ∨ (y 1).val / 512 = 0 := by omega
    rcases this with h | h | h | h
    · exact Or.inl (mem 3 _ _ rfl h)
    · exact Or.inr (Or.inl (mem 2 _ _ rfl h))
    · exact Or.inr (Or.inr (Or.inl (mem 1 _ _ rfl h)))
    · exact Or.inr (Or.inr (Or.inr (Or.inl (mem 0 _ _ rfl h))))

/-- One strip's store: what is kept of a tile. -/
theorem keep (q o : Nat) (hq : q < 4) (ho : o = 512 * q) (inb : ∀ a, (![0, o] : Fin 2 → Nat) a + S16x512.size a ≤ S16x2048.size a)
    (inb' : ∀ a, (![q, 0, 0] : Fin 3 → Nat) a + S1x128x512.size a ≤ S4x128x512.size a)
    (T : S4x128x512.Idx → EReal) (w : Vec Ideal S1x128x512 .f32) (hw : ∀ z : S1x128x512.Idx, w z = T ((Rect.unit (s := S4x128x512) ![q, 0, 0] S1x128x512.size inb').emb z)) (z : S16x512.Idx) :
    multiReduction .add [0] S16x512 (shapeCast S8x16x512 (select (k0_pay7 k0_pay4 k0_pay5 k0_pay6) (shapeCast S128x512 w shapeCasts_S1x128x512_S128x512)
        (broadcast S128x512 (Scalar.ofBits .f32 0x00000000#32 : Ideal .f32)) : FVec Ideal S128x512 .f32) shapeCasts_S128x512_S8x16x512 : FVec Ideal S8x16x512 .f32)
        0x00000000#32 reduces_S8x16x512_S16x512 (.inl rfl) rfl z
      = folded T ((Rect.unit (s := S16x2048) ![0, o] S16x512.size inb).emb z) := by
  have h0 : (z 0).val < 16 := (z 0).isLt
  have h1 : (z 1).val < 512 := (z 1).isLt
  refine (Eq.trans (congrArg _ (show z = ix2 (z 0) (z 1) from eq_ix2 z)) (kept_apply w (z 0) (z 1))).trans ?_
  rw [hw]
  unfold folded
  refine congrArg T (funext fun a => Fin.ext ?_)
  match a with
  | ⟨0, _⟩ => show q + 1 * 0 = (o + 1 * (z 1).val) / 512; omega
  | ⟨1, _⟩ => show 0 + 1 * ((z 1).val / 64 * 16 + (z 0).val) = (o + 1 * (z 1).val) % 512 / 64 * 16 + (0 + 1 * (z 0).val); omega
  | ⟨2, _⟩ => show 0 + 1 * (z 1).val = (o + 1 * (z 1).val) % 512; omega

/-! ## What each of the two grid points leaves -/

theorem zero2 : (![0, 0] : Fin 2 → Nat) = fun _ => 0 := funext fun a => by fin_cases a <;> rfl

/-- A load of the whole of a buffer reads its contents. -/
theorem load_whole {S : Shape} {e : EltTy} {b : Memref sig .tc .vmem S e} (h : b.IsWhole) {off : Fin S.rank → Nat} (hz : off = fun _ => 0)
    (inb : ∀ a, off a + S.size a ≤ S.size a) (X : S.Idx → Elt Ideal e) :
    View.readAt (Elt Ideal) b.view (Rect.unit off S.size inb).toLoadRect (h.unread X) = X :=
  funext fun x => (congrFun (h.read_unread X) _).trans (congrFun (View.ld_unit_zero hz inb X) x)

theorem load_left {b : Memref sig .tc .vmem S1024x512 .bf16} (h : b.IsWhole) (X : Vec Ideal S1024x512 .bf16) :
    (k0_pay19 (F := Ideal) (View.readAt (Elt Ideal) b.view (Rect.unit ![0, 0] S1024x512.size inb_S1024x512_S1024x512_0_0).toLoadRect (h.unread X)) : S1024x512.Idx → EReal) = X :=
  (shapeCast_self _ _).trans (load_whole h zero2 _ X)

theorem load_right {b : Memref sig .tc .vmem S1024x2048 .f32} (h : b.IsWhole) (X : Vec Ideal S1024x2048 .f32) :
    (k0_pay20 (F := Ideal) (View.readAt (Elt Ideal) b.view (Rect.unit ![0, 0] S1024x2048.size inb_S1024x2048_S1024x2048_0_0).toLoadRect (h.unread X)) : S1024x2048.Idx → EReal) = X :=
  load_whole h zero2 _ X

theorem fill_first (i : S4x128x512.Idx) : k0_pay17 (F := Ideal) i = (0 : EReal) := by
  unfold k0_pay17
  rw [shapeCast_self]
  exact Ideal.ofBits_zero_f32

theorem fill_second (i : S4x128x512.Idx) : k0_pay18 (F := Ideal) i = (0 : EReal) := by
  unfold k0_pay18
  rw [shapeCast_self]
  exact Ideal.ofBits_zero_f32

theorem zero3 : ∀ a : Fin 3, (![0, 0, 0] : Fin 3 → Nat) a = 0 := by decide

/-- A store of one slab leaves the later slabs as they were. -/
theorem beyond (q : Nat) (inb : ∀ a, (![q, 0, 0] : Fin 3 → Nat) a + S1x128x512.size a ≤ S4x128x512.size a) (w : Vec Ideal S1x128x512 .f32)
    (L : List (View.Piece (Elt Ideal) S4x128x512 .f32)) (y : S4x128x512.Idx) (h : q + 1 ≤ (y 0).val) :
    View.canon (Val := Elt Ideal) (e := .f32) (⟨Rect.unit (s := S4x128x512) ![q, 0, 0] S1x128x512.size inb, w⟩ :: L) y = View.canon (Val := Elt Ideal) (e := .f32) L y := by
  refine View.canon_cons_of_not_mem (Val := Elt Ideal) (e := .f32) _ L fun hy => ?_
  rw [Rect.mem_set_unit] at hy
  have h0 : (y 0).val < q + 1 := (hy 0).2
  omega

section Points
variable (c : Dev nD) (i : grid0.Coords) (arg1 : Memref sig .tc .vmem S1024x512 .bf16) (harg1 : arg1.IsWhole) (arg2 : Memref sig .tc .vmem S1024x2048 .f32) (harg2 : arg2.IsWhole) (arg3 : Memref sig .tc .vmem S1024x2048 .f32) (harg3 : arg3.IsWhole) (arg4 : Memref sig .tc .vmem S16x2048 .f32) (harg4 : arg4.IsWhole) (arg5 : Memref sig .tc .vmem S16x2048 .f32) (harg5 : arg5.IsWhole) (arg6 : Memref sig .tc .vmem S4x128x512 .f32) (harg6 : arg6.IsWhole) (arg7 : Memref sig .tc .vmem S4x128x512 .f32) (harg7 : arg7.IsWhole)
  (x0 : Vec Ideal S1024x512 .bf16) (x1 : Vec Ideal S1024x2048 .f32) (x2 : Vec Ideal S1024x2048 .f32) (xs0 xs1 : Vec Ideal S4x128x512 .f32)

theorem rest_first_0 (y : S4x128x512.Idx) (_ : 0 ≤ (y 0).val) : View.canon (Val := Elt Ideal) (e := .f32) (kernelRun0_A.sl.HS0_1 (F := Ideal)) y = (0 : EReal) :=
  (congrFun (View.canon_unit_zero (funext zero3) _ _) y).trans (fill_first y)

theorem rest_first_1 (y : S4x128x512.Idx) (h : 1 ≤ (y 0).val) : View.canon (Val := Elt Ideal) (e := .f32) (kernelRun0_A.sl.HS0_2 (F := Ideal) c arg1 harg1 arg2 harg2 arg6 x0 x1) y = (0 : EReal) :=
  (beyond 0 _ _ _ y h).trans (rest_first_0 y (by omega))

theorem rest_first_2 (y : S4x128x512.Idx) (h : 2 ≤ (y 0).val) : View.canon (Val := Elt Ideal) (e := .f32) (kernelRun0_A.sl.HS0_3 (F := Ideal) c arg1 harg1 arg2 harg2 arg6 x0 x1) y = (0 : EReal) :=
  (beyond 1 _ _ _ y h).trans (rest_first_1 c arg1 harg1 arg2 harg2 arg6 x0 x1 y (by omega))

theorem rest_first_3 (y : S4x128x512.Idx) (h : 3 ≤ (y 0).val) : View.canon (Val := Elt Ideal) (e := .f32) (kernelRun0_A.sl.HS0_4 (F := Ideal) c arg1 harg1 arg2 harg2 arg6 x0 x1) y = (0 : EReal) :=
  (beyond 2 _ _ _ y h).trans (rest_first_2 c arg1 harg1 arg2 harg2 arg6 x0 x1 y (by omega))

theorem clear_first_0 (z : S1x128x512.Idx) : (kernelRun0_A.sl.v7 (F := Ideal) c arg6) z = (0 : EReal) :=
  (congrFun (View.readCov_eq_canon' arg6.view (kernelRun0_A.sl.HS0_1 (F := Ideal)) (Rect.unit (s := S4x128x512) ![0, 0, 0] S1x128x512.size inb_S4x128x512_S1x128x512_0_0_0).toLoadRect) z).trans
    (rest_first_0 _ (show 0 ≤ 0 + 1 * (z 0).val by omega))

theorem clear_first_1 (z : S1x128x512.Idx) : (kernelRun0_A.sl.v16 (F := Ideal) c arg1 harg1 arg2 harg2 arg6 x0 x1) z = (0 : EReal) :=
  (congrFun (View.readCov_eq_canon' arg6.view (kernelRun0_A.sl.HS0_2 (F := Ideal) c arg1 harg1 arg2 harg2 arg6 x0 x1) (Rect.unit (s := S4x128x512) ![1, 0, 0] S1x128x512.size inb_S4x128x512_S1x128x512_1_0_0).toLoadRect) z).trans
    (rest_first_1 c arg1 harg1 arg2 harg2 arg6 x0 x1 _ (show 1 ≤ 1 + 1 * (z 0).val by omega))

theorem clear_first_2 (z : S1x128x512.Idx) : (kernelRun0_A.sl.v25 (F := Ideal) c arg1 harg1 arg2 harg2 arg6 x0 x1) z = (0 : EReal) :=
  (congrFun (View.readCov_eq_canon' arg6.view (kernelRun0_A.sl.HS0_3 (F := Ideal) c arg1 harg1 arg2 harg2 arg6 x0 x1) (Rect.unit (s := S4x128x512) ![2, 0, 0] S1x128x512.size inb_S4x128x512_S1x128x512_2_0_0).toLoadRect) z).trans
    (rest_first_2 c arg1 harg1 arg2 harg2 arg6 x0 x1 _ (show 2 ≤ 2 + 1 * (z 0).val by omega))

theorem clear_first_3 (z : S1x128x512.Idx) : (kernelRun0_A.sl.v34 (F := Ideal) c arg1 harg1 arg2 harg2 arg6 x0 x1) z = (0 : EReal) :=
  (congrFun (View.readCov_eq_canon' arg6.view (kernelRun0_A.sl.HS0_4 (F := Ideal) c arg1 harg1 arg2 harg2 arg6 x0 x1) (Rect.unit (s := S4x128x512) ![3, 0, 0] S1x128x512.size inb_S4x128x512_S1x128x512_3_0_0).toLoadRect) z).trans
    (rest_first_3 c arg1 harg1 arg2 harg2 arg6 x0 x1 _ (show 3 ≤ 3 + 1 * (z 0).val by omega))

theorem start_first (hc0 : cond0_0 i) (hc1 : ¬cond0_1 i) : sout0_A_0 (F := Ideal) c i arg1 harg1 arg2 harg2 arg3 harg3 arg4 harg4 arg5 harg5 arg6 harg6 arg7 harg7 hc0 hc1 x0 x1 x2 = added x0 x1 (fun _ => 0) := by
  unfold sout0_A_0
  rw [View.read_writes_junk_eq_canon]
  dsimp only [kernelRun0_A]
  funext y
  refine slabs _ _ _ _ _ _ ?_ ?_ ?_ ?_ y
  · exact part 3 384 1536 (by omega) rfl rfl _ _ _ (load_left harg1 x0) (load_right harg2 x1) (fun _ => 0) _ (clear_first_3 c arg1 harg1 arg2 harg2 arg6 x0 x1)
  · exact part 2 256 1024 (by omega) rfl rfl _ _ _ (load_left harg1 x0) (load_right harg2 x1) (fun _ => 0) _ (clear_first_2 c arg1 harg1 arg2 harg2 arg6 x0 x1)
  · exact part 1 128 512 (by omega) rfl rfl _ _ _ (load_left harg1 x0) (load_right harg2 x1) (fun _ => 0) _ (clear_first_1 c arg1 harg1 arg2 harg2 arg6 x0 x1)
  · exact part 0 0 0 (by omega) rfl rfl _ _ _ (load_left harg1 x0) (load_right harg2 x1) (fun _ => 0) _ (clear_first_0 c arg6)

theorem tiles_first : View.canon (Val := Elt Ideal) (e := .f32) (kernelRun0_B.sl.HS0_4 (F := Ideal) c arg1 harg1 arg2 harg2 arg6 harg6 x0 x1 xs0) = added x0 x1 xs0 := by
  funext y
  refine slabs _ _ _ _ _ _ ?_ ?_ ?_ ?_ y
  · exact part 3 384 1536 (by omega) rfl rfl _ _ _ (load_left harg1 x0) (load_right harg2 x1) xs0 _ (fun z => congrFun (harg6.read_unread xs0) _)
  · exact part 2 256 1024 (by omega) rfl rfl _ _ _ (load_left harg1 x0) (load_right harg2 x1) xs0 _ (fun z => congrFun (harg6.read_unread xs0) _)
  · exact part 1 128 512 (by omega) rfl rfl _ _ _ (load_left harg1 x0) (load_right harg2 x1) xs0 _ (fun z => congrFun (harg6.read_unread xs0) _)
  · exact part 0 0 0 (by omega) rfl rfl _ _ _ (load_left harg1 x0) (load_right harg2 x1) xs0 _ (fun z => congrFun (harg6.read_unread xs0) _)

theorem slab_first_0 (z : S1x128x512.Idx) : (kernelRun0_B.sl.v135 (F := Ideal) c arg1 harg1 arg2 harg2 arg6 harg6 x0 x1 xs0) z = added x0 x1 xs0 ((Rect.unit (s := S4x128x512) ![0, 0, 0] S1x128x512.size inb_S4x128x512_S1x128x512_0_0_0).emb z) :=
  (congrFun (View.readCov_eq_canon' arg6.view (kernelRun0_B.sl.HS0_4 (F := Ideal) c arg1 harg1 arg2 harg2 arg6 harg6 x0 x1 xs0) (Rect.unit (s := S4x128x512) ![0, 0, 0] S1x128x512.size inb_S4x128x512_S1x128x512_0_0_0).toLoadRect) z).trans
    (congrFun (tiles_first c arg1 harg1 arg2 harg2 arg6 harg6 x0 x1 xs0) _)

theorem slab_first_1 (z : S1x128x512.Idx) : (kernelRun0_B.sl.v142 (F := Ideal) c arg1 harg1 arg2 harg2 arg6 harg6 x0 x1 xs0) z = added x0 x1 xs0 ((Rect.unit (s := S4x128x512) ![1, 0, 0] S1x128x512.size inb_S4x128x512_S1x128x512_1_0_0).emb z) :=
  (congrFun (View.readCov_eq_canon' arg6.view (kernelRun0_B.sl.HS0_4 (F := Ideal) c arg1 harg1 arg2 harg2 arg6 harg6 x0 x1 xs0) (Rect.unit (s := S4x128x512) ![1, 0, 0] S1x128x512.size inb_S4x128x512_S1x128x512_1_0_0).toLoadRect) z).trans
    (congrFun (tiles_first c arg1 harg1 arg2 harg2 arg6 harg6 x0 x1 xs0) _)

theorem slab_first_2 (z : S1x128x512.Idx) : (kernelRun0_B.sl.v149 (F := Ideal) c arg1 harg1 arg2 harg2 arg6 harg6 x0 x1 xs0) z = added x0 x1 xs0 ((Rect.unit (s := S4x128x512) ![2, 0, 0] S1x128x512.size inb_S4x128x512_S1x128x512_2_0_0).emb z) :=
  (congrFun (View.readCov_eq_canon' arg6.view (kernelRun0_B.sl.HS0_4 (F := Ideal) c arg1 harg1 arg2 harg2 arg6 harg6 x0 x1 xs0) (Rect.unit (s := S4x128x512) ![2, 0, 0] S1x128x512.size inb_S4x128x512_S1x128x512_2_0_0).toLoadRect) z).trans
    (congrFun (tiles_first c arg1 harg1 arg2 harg2 arg6 harg6 x0 x1 xs0) _)

theorem slab_first_3 (z : S1x128x512.Idx) : (kernelRun0_B.sl.v156 (F := Ideal) c arg1 harg1 arg2 harg2 arg6 harg6 x0 x1 xs0) z = added x0 x1 xs0 ((Rect.unit (s := S4x128x512) ![3, 0, 0] S1x128x512.size inb_S4x128x512_S1x128x512_3_0_0).emb z) :=
  (congrFun (View.readCov_eq_canon' arg6.view (kernelRun0_B.sl.HS0_4 (F := Ideal) c arg1 harg1 arg2 harg2 arg6 harg6 x0 x1 xs0) (Rect.unit (s := S4x128x512) ![3, 0, 0] S1x128x512.size inb_S4x128x512_S1x128x512_3_0_0).toLoadRect) z).trans
    (congrFun (tiles_first c arg1 harg1 arg2 harg2 arg6 harg6 x0 x1 xs0) _)

theorem end_first (hc0 : ¬cond0_0 i) (hc1 : cond0_1 i) : out0_B_3 (F := Ideal) c i arg1 harg1 arg2 harg2 arg3 harg3 arg4 harg4 arg5 harg5 arg6 harg6 arg7 harg7 hc0 hc1 x0 x1 x2 xs0 xs1 = folded (added x0 x1 xs0) := by
  unfold out0_B_3
  rw [View.read_writes_junk_eq_canon]
  dsimp only [kernelRun0_B]
  funext y
  refine strips _ _ _ _ _ ?_ ?_ ?_ ?_ y
  · exact keep 3 1536 (by omega) rfl _ inb_S4x128x512_S1x128x512_3_0_0 _ _ (slab_first_3 c arg1 harg1 arg2 harg2 arg6 harg6 x0 x1 xs0)
  · exact keep 2 1024 (by omega) rfl _ inb_S4x128x512_S1x128x512_2_0_0 _ _ (slab_first_2 c arg1 harg1 arg2 harg2 arg6 harg6 x0 x1 xs0)
  · exact keep 1 512 (by omega) rfl _ inb_S4x128x512_S1x128x512_1_0_0 _ _ (slab_first_1 c arg1 harg1 arg2 harg2 arg6 harg6 x0 x1 xs0)
  · exact keep 0 0 (by omega) rfl _ inb_S4x128x512_S1x128x512_0_0_0 _ _ (slab_first_0 c arg1 harg1 arg2 harg2 arg6 harg6 x0 x1 xs0)

theorem rest_second_0 (y : S4x128x512.Idx) (_ : 0 ≤ (y 0).val) : View.canon (Val := Elt Ideal) (e := .f32) (kernelRun0_A.sl.HS1_1 (F := Ideal)) y = (0 : EReal) :=
  (congrFun (View.canon_unit_zero (funext zero3) _ _) y).trans (fill_second y)

theorem rest_second_1 (y : S4x128x512.Idx) (h : 1 ≤ (y 0).val) : View.canon (Val := Elt Ideal) (e := .f32) (kernelRun0_A.sl.HS1_2 (F := Ideal) c arg1 harg1 arg3 harg3 arg7 x0 x2) y = (0 : EReal) :=
  (beyond 0 _ _ _ y h).trans (rest_second_0 y (by omega))

theorem rest_second_2 (y : S4x128x512.Idx) (h : 2 ≤ (y 0).val) : View.canon (Val := Elt Ideal) (e := .f32) (kernelRun0_A.sl.HS1_3 (F := Ideal) c arg1 harg1 arg3 harg3 arg7 x0 x2) y = (0 : EReal) :=
  (beyond 1 _ _ _ y h).trans (rest_second_1 c arg1 harg1 arg3 harg3 arg7 x0 x2 y (by omega))

theorem rest_second_3 (y : S4x128x512.Idx) (h : 3 ≤ (y 0).val) : View.canon (Val := Elt Ideal) (e := .f32) (kernelRun0_A.sl.HS1_4 (F := Ideal) c arg1 harg1 arg3 harg3 arg7 x0 x2) y = (0 : EReal) :=
  (beyond 2 _ _ _ y h).trans (rest_second_2 c arg1 harg1 arg3 harg3 arg7 x0 x2 y (by omega))

theorem clear_second_0 (z : S1x128x512.Idx) : (kernelRun0_A.sl.v45 (F := Ideal) c arg7) z = (0 : EReal) :=
  (congrFun (View.readCov_eq_canon' arg7.view (kernelRun0_A.sl.HS1_1 (F := Ideal)) (Rect.unit (s := S4x128x512) ![0, 0, 0] S1x128x512.size inb_S4x128x512_S1x128x512_0_0_0).toLoadRect) z).trans
    (rest_second_0 _ (show 0 ≤ 0 + 1 * (z 0).val by omega))

theorem clear_second_1 (z : S1x128x512.Idx) : (kernelRun0_A.sl.v54 (F := Ideal) c arg1 harg1 arg3 harg3 arg7 x0 x2) z = (0 : EReal) :=
  (congrFun (View.readCov_eq_canon' arg7.view (kernelRun0_A.sl.HS1_2 (F := Ideal) c arg1 harg1 arg3 harg3 arg7 x0 x2) (Rect.unit (s := S4x128x512) ![1, 0, 0] S1x128x512.size inb_S4x128x512_S1x128x512_1_0_0).toLoadRect) z).trans
    (rest_second_1 c arg1 harg1 arg3 harg3 arg7 x0 x2 _ (show 1 ≤ 1 + 1 * (z 0).val by omega))

theorem clear_second_2 (z : S1x128x512.Idx) : (kernelRun0_A.sl.v63 (F := Ideal) c arg1 harg1 arg3 harg3 arg7 x0 x2) z = (0 : EReal) :=
  (congrFun (View.readCov_eq_canon' arg7.view (kernelRun0_A.sl.HS1_3 (F := Ideal) c arg1 harg1 arg3 harg3 arg7 x0 x2) (Rect.unit (s := S4x128x512) ![2, 0, 0] S1x128x512.size inb_S4x128x512_S1x128x512_2_0_0).toLoadRect) z).trans
    (rest_second_2 c arg1 harg1 arg3 harg3 arg7 x0 x2 _ (show 2 ≤ 2 + 1 * (z 0).val by omega))

theorem clear_second_3 (z : S1x128x512.Idx) : (kernelRun0_A.sl.v72 (F := Ideal) c arg1 harg1 arg3 harg3 arg7 x0 x2) z = (0 : EReal) :=
  (congrFun (View.readCov_eq_canon' arg7.view (kernelRun0_A.sl.HS1_4 (F := Ideal) c arg1 harg1 arg3 harg3 arg7 x0 x2) (Rect.unit (s := S4x128x512) ![3, 0, 0] S1x128x512.size inb_S4x128x512_S1x128x512_3_0_0).toLoadRect) z).trans
    (rest_second_3 c arg1 harg1 arg3 harg3 arg7 x0 x2 _ (show 3 ≤ 3 + 1 * (z 0).val by omega))

theorem start_second (hc0 : cond0_0 i) (hc1 : ¬cond0_1 i) : sout0_A_1 (F := Ideal) c i arg1 harg1 arg2 harg2 arg3 harg3 arg4 harg4 arg5 harg5 arg6 harg6 arg7 harg7 hc0 hc1 x0 x1 x2 = added x0 x2 (fun _ => 0) := by
  unfold sout0_A_1
  rw [View.read_writes_junk_eq_canon]
  dsimp only [kernelRun0_A]
  funext y
  refine slabs _ _ _ _ _ _ ?_ ?_ ?_ ?_ y
  · exact part 3 384 1536 (by omega) rfl rfl _ _ _ (load_left harg1 x0) (load_right harg3 x2) (fun _ => 0) _ (clear_second_3 c arg1 harg1 arg3 harg3 arg7 x0 x2)
  · exact part 2 256 1024 (by omega) rfl rfl _ _ _ (load_left harg1 x0) (load_right harg3 x2) (fun _ => 0) _ (clear_second_2 c arg1 harg1 arg3 harg3 arg7 x0 x2)
  · exact part 1 128 512 (by omega) rfl rfl _ _ _ (load_left harg1 x0) (load_right harg3 x2) (fun _ => 0) _ (clear_second_1 c arg1 harg1 arg3 harg3 arg7 x0 x2)
  · exact part 0 0 0 (by omega) rfl rfl _ _ _ (load_left harg1 x0) (load_right harg3 x2) (fun _ => 0) _ (clear_second_0 c arg7)

theorem tiles_second : View.canon (Val := Elt Ideal) (e := .f32) (kernelRun0_B.sl.HS1_4 (F := Ideal) c arg1 harg1 arg3 harg3 arg7 harg7 x0 x2 xs1) = added x0 x2 xs1 := by
  funext y
  refine slabs _ _ _ _ _ _ ?_ ?_ ?_ ?_ y
  · exact part 3 384 1536 (by omega) rfl rfl _ _ _ (load_left harg1 x0) (load_right harg3 x2) xs1 _ (fun z => congrFun (harg7.read_unread xs1) _)
  · exact part 2 256 1024 (by omega) rfl rfl _ _ _ (load_left harg1 x0) (load_right harg3 x2) xs1 _ (fun z => congrFun (harg7.read_unread xs1) _)
  · exact part 1 128 512 (by omega) rfl rfl _ _ _ (load_left harg1 x0) (load_right harg3 x2) xs1 _ (fun z => congrFun (harg7.read_unread xs1) _)
  · exact part 0 0 0 (by omega) rfl rfl _ _ _ (load_left harg1 x0) (load_right harg3 x2) xs1 _ (fun z => congrFun (harg7.read_unread xs1) _)

theorem slab_second_0 (z : S1x128x512.Idx) : (kernelRun0_B.sl.v163 (F := Ideal) c arg1 harg1 arg3 harg3 arg7 harg7 x0 x2 xs1) z = added x0 x2 xs1 ((Rect.unit (s := S4x128x512) ![0, 0, 0] S1x128x512.size inb_S4x128x512_S1x128x512_0_0_0).emb z) :=
  (congrFun (View.readCov_eq_canon' arg7.view (kernelRun0_B.sl.HS1_4 (F := Ideal) c arg1 harg1 arg3 harg3 arg7 harg7 x0 x2 xs1) (Rect.unit (s := S4x128x512) ![0, 0, 0] S1x128x512.size inb_S4x128x512_S1x128x512_0_0_0).toLoadRect) z).trans
    (congrFun (tiles_second c arg1 harg1 arg3 harg3 arg7 harg7 x0 x2 xs1) _)

theorem slab_second_1 (z : S1x128x512.Idx) : (kernelRun0_B.sl.v170 (F := Ideal) c arg1 harg1 arg3 harg3 arg7 harg7 x0 x2 xs1) z = added x0 x2 xs1 ((Rect.unit (s := S4x128x512) ![1, 0, 0] S1x128x512.size inb_S4x128x512_S1x128x512_1_0_0).emb z) :=
  (congrFun (View.readCov_eq_canon' arg7.view (kernelRun0_B.sl.HS1_4 (F := Ideal) c arg1 harg1 arg3 harg3 arg7 harg7 x0 x2 xs1) (Rect.unit (s := S4x128x512) ![1, 0, 0] S1x128x512.size inb_S4x128x512_S1x128x512_1_0_0).toLoadRect) z).trans
    (congrFun (tiles_second c arg1 harg1 arg3 harg3 arg7 harg7 x0 x2 xs1) _)

theorem slab_second_2 (z : S1x128x512.Idx) : (kernelRun0_B.sl.v177 (F := Ideal) c arg1 harg1 arg3 harg3 arg7 harg7 x0 x2 xs1) z = added x0 x2 xs1 ((Rect.unit (s := S4x128x512) ![2, 0, 0] S1x128x512.size inb_S4x128x512_S1x128x512_2_0_0).emb z) :=
  (congrFun (View.readCov_eq_canon' arg7.view (kernelRun0_B.sl.HS1_4 (F := Ideal) c arg1 harg1 arg3 harg3 arg7 harg7 x0 x2 xs1) (Rect.unit (s := S4x128x512) ![2, 0, 0] S1x128x512.size inb_S4x128x512_S1x128x512_2_0_0).toLoadRect) z).trans
    (congrFun (tiles_second c arg1 harg1 arg3 harg3 arg7 harg7 x0 x2 xs1) _)

theorem slab_second_3 (z : S1x128x512.Idx) : (kernelRun0_B.sl.v184 (F := Ideal) c arg1 harg1 arg3 harg3 arg7 harg7 x0 x2 xs1) z = added x0 x2 xs1 ((Rect.unit (s := S4x128x512) ![3, 0, 0] S1x128x512.size inb_S4x128x512_S1x128x512_3_0_0).emb z) :=
  (congrFun (View.readCov_eq_canon' arg7.view (kernelRun0_B.sl.HS1_4 (F := Ideal) c arg1 harg1 arg3 harg3 arg7 harg7 x0 x2 xs1) (Rect.unit (s := S4x128x512) ![3, 0, 0] S1x128x512.size inb_S4x128x512_S1x128x512_3_0_0).toLoadRect) z).trans
    (congrFun (tiles_second c arg1 harg1 arg3 harg3 arg7 harg7 x0 x2 xs1) _)

theorem end_second (hc0 : ¬cond0_0 i) (hc1 : cond0_1 i) : out0_B_4 (F := Ideal) c i arg1 harg1 arg2 harg2 arg3 harg3 arg4 harg4 arg5 harg5 arg6 harg6 arg7 harg7 hc0 hc1 x0 x1 x2 xs0 xs1 = folded (added x0 x2 xs1) := by
  unfold out0_B_4
  rw [View.read_writes_junk_eq_canon]
  dsimp only [kernelRun0_B]
  funext y
  refine strips _ _ _ _ _ ?_ ?_ ?_ ?_ y
  · exact keep 3 1536 (by omega) rfl _ inb_S4x128x512_S1x128x512_3_0_0 _ _ (slab_second_3 c arg1 harg1 arg3 harg3 arg7 harg7 x0 x2 xs1)
  · exact keep 2 1024 (by omega) rfl _ inb_S4x128x512_S1x128x512_2_0_0 _ _ (slab_second_2 c arg1 harg1 arg3 harg3 arg7 harg7 x0 x2 xs1)
  · exact keep 1 512 (by omega) rfl _ inb_S4x128x512_S1x128x512_1_0_0 _ _ (slab_second_1 c arg1 harg1 arg3 harg3 arg7 harg7 x0 x2 xs1)
  · exact keep 0 0 (by omega) rfl _ inb_S4x128x512_S1x128x512_0_0_0 _ _ (slab_second_0 c arg1 harg1 arg3 harg3 arg7 harg7 x0 x2 xs1)

end Points

/-! ## The two halves of the tokens, joined -/

/-- The sum over all tokens that both programs form: a column of `y` against the columns of `x` in its group. -/
def diag (x : S2048x512.Idx → EReal) (y : S2048x2048.Idx → EReal) (i : S16x2048.Idx) : EReal :=
  ∑ n : Fin 2048, x (ix2 n (⟨(i 1).val / 64 * 16 + (i 0).val, by have h : (i 0).val < 16 := (i 0).isLt; have h' : (i 1).val < 2048 := (i 1).isLt; omega⟩ : Fin 512)) * y (ix2 n (⟨(i 1).val, (i 1).isLt⟩ : Fin 2048))

theorem joined (x : S2048x512.Idx → EReal) (y : S2048x2048.Idx → EReal) (x0 x1 : S1024x512.Idx → EReal) (y0 y1 : S1024x2048.Idx → EReal)
    (hx0 : ∀ (k : Fin 1024) (r : Fin 512), x0 (ix2 k r) = x (ix2 (⟨k.val, by omega⟩ : Fin 2048) r)) (hx1 : ∀ (k : Fin 1024) (r : Fin 512), x1 (ix2 k r) = x (ix2 (⟨1024 + k.val, by omega⟩ : Fin 2048) r))
    (hy0 : ∀ (k : Fin 1024) (r : Fin 2048), y0 (ix2 k r) = y (ix2 (⟨k.val, by omega⟩ : Fin 2048) r)) (hy1 : ∀ (k : Fin 1024) (r : Fin 2048), y1 (ix2 k r) = y (ix2 (⟨1024 + k.val, by omega⟩ : Fin 2048) r)) :
    folded (added x1 y1 (added x0 y0 (fun _ => 0))) = diag x y := by
  funext i
  have h0 : (i 0).val < 16 := (i 0).isLt
  have h1 : (i 1).val < 2048 := (i 1).isLt
  have er : 128 * ((i 1).val / 512) + ((i 1).val % 512 / 64 * 16 + (i 0).val) = (i 1).val / 64 * 16 + (i 0).val := by omega
  have ec : 512 * ((i 1).val / 512) + (i 1).val % 512 = (i 1).val := by omega
  unfold folded added diag
  rw [zero_add]
  refine Eq.trans ?_ (Fin.sum_univ_add (a := 1024) (b := 1024) _).symm
  refine congrArg₂ (fun a b : EReal => a + b) (Finset.sum_congr rfl fun k _ => ?_) (Finset.sum_congr rfl fun k _ => ?_)
  · rw [hx0, hy0]
    exact congrArg₂ (fun a b : EReal => a * b) (congrArg x (congrArg₂ ix2 rfl (Fin.ext er))) (congrArg y (congrArg₂ ix2 rfl (Fin.ext ec)))
  · rw [hx1, hy1]
    exact congrArg₂ (fun a b : EReal => a * b) (congrArg x (congrArg₂ ix2 rfl (Fin.ext er))) (congrArg y (congrArg₂ ix2 rfl (Fin.ext ec)))

/-! ## The blocks a grid point reads, and the arrays the launch leaves -/

theorem idx_facts : ∀ t : Fin cfg0.N, win0_0.index t = ![t.val, 0] ∧ win0_1.index t = ![t.val, 0] ∧ win0_2.index t = ![t.val, 0] :=
  (by decide +kernel : ∀ t : Fin grid0.N, _)

theorem block0 (c : Dev nD) (t : Fin cfg0.N) (k : Fin 1024) (r : Fin 512) (j : S2048x512.Idx) (h0 : (j 0).val = t.val * 1024 + k.val) (h1 : (j 1).val = r.val) :
    (iblk m c 0 t : S1024x512.Idx → EReal) (ix2 k r) = (m ((c : Thread nD τ).loc main_arg0) : S2048x512.Idx → EReal) j := by
  have e := (idx_facts t).1
  refine congrArg (V m c main_v0) (funext fun a => Fin.ext ?_)
  match a with
  | ⟨0, _⟩ => refine Eq.trans (b := win0_0.index t (0 : Fin 2) * 1024 + 1 * k.val) rfl ?_; rw [e]; refine Eq.trans ?_ h0.symm; show t.val * 1024 + 1 * k.val = t.val * 1024 + k.val; omega
  | ⟨1, _⟩ => refine Eq.trans (b := win0_0.index t (1 : Fin 2) * 512 + 1 * r.val) rfl ?_; rw [e]; refine Eq.trans ?_ h1.symm; show 0 * 512 + 1 * r.val = r.val; omega

theorem block1 (c : Dev nD) (t : Fin cfg0.N) (k : Fin 1024) (r : Fin 2048) (j : S2048x2048.Idx) (h0 : (j 0).val = t.val * 1024 + k.val) (h1 : (j 1).val = r.val) :
    (iblk m c 1 t : S1024x2048.Idx → EReal) (ix2 k r) = (m ((c : Thread nD τ).loc main_arg1) : S2048x2048.Idx → EReal) j := by
  have e := (idx_facts t).2.1
  refine congrArg (V m c main_arg1) (funext fun a => Fin.ext ?_)
  match a with
  | ⟨0, _⟩ => refine Eq.trans (b := win0_1.index t (0 : Fin 2) * 1024 + 1 * k.val) rfl ?_; rw [e]; refine Eq.trans ?_ h0.symm; show t.val * 1024 + 1 * k.val = t.val * 1024 + k.val; omega
  | ⟨1, _⟩ => refine Eq.trans (b := win0_1.index t (1 : Fin 2) * 2048 + 1 * r.val) rfl ?_; rw [e]; refine Eq.trans ?_ h1.symm; show 0 * 2048 + 1 * r.val = r.val; omega

theorem block2 (c : Dev nD) (t : Fin cfg0.N) (k : Fin 1024) (r : Fin 2048) (j : S2048x2048.Idx) (h0 : (j 0).val = t.val * 1024 + k.val) (h1 : (j 1).val = r.val) :
    (iblk m c 2 t : S1024x2048.Idx → EReal) (ix2 k r) = (m ((c : Thread nD τ).loc main_arg2) : S2048x2048.Idx → EReal) j := by
  have e := (idx_facts t).2.2
  refine congrArg (V m c main_arg2) (funext fun a => Fin.ext ?_)
  match a with
  | ⟨0, _⟩ => refine Eq.trans (b := win0_2.index t (0 : Fin 2) * 1024 + 1 * k.val) rfl ?_; rw [e]; refine Eq.trans ?_ h0.symm; show t.val * 1024 + 1 * k.val = t.val * 1024 + k.val; omega
  | ⟨1, _⟩ => refine Eq.trans (b := win0_2.index t (1 : Fin 2) * 2048 + 1 * r.val) rfl ?_; rw [e]; refine Eq.trans ?_ h1.symm; show 0 * 2048 + 1 * r.val = r.val; omega

theorem low_first (c : Dev nD) (t : Fin cfg0.N) (h0 : t.val % 2 = 0) (h1 : ¬t.val % 2 = 1) (q : Vec Ideal S16x2048 .f32 × Vec Ideal S16x2048 .f32 × Vec Ideal S4x128x512 .f32 × Vec Ideal S4x128x512 .f32) :
    (stAt0 m c t.val t.isLt q).2.2.1 = added (iblk m c 0 t) (iblk m c 1 t) (fun _ => 0) := by
  rw [stAt0_A m c t q h0 h1]
  dsimp only
  exact start_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) ((hcond0_0 t).mpr h0) (fun h => h1 ((hcond0_1 t).mp h))

theorem high_first (c : Dev nD) (t : Fin cfg0.N) (h0 : ¬t.val % 2 = 0) (h1 : t.val % 2 = 1) (q : Vec Ideal S16x2048 .f32 × Vec Ideal S16x2048 .f32 × Vec Ideal S4x128x512 .f32 × Vec Ideal S4x128x512 .f32) :
    (stAt0 m c t.val t.isLt q).1 = folded (added (iblk m c 0 t) (iblk m c 1 t) q.2.2.1) := by
  rw [stAt0_B m c t q h0 h1]
  dsimp only
  exact end_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) q.2.2.1 q.2.2.2 (fun h => h0 ((hcond0_0 t).mp h)) ((hcond0_1 t).mpr h1)

theorem final_first (c : Dev nD) : G3 m c = diag (m ((c : Thread nD τ).loc main_arg0)) (m ((c : Thread nD τ).loc main_arg1)) := by
  have l0 : 0 < cfg0.N := lt_of_lt_of_eq (by decide) N_0.symm
  have l1 : 1 < cfg0.N := lt_of_lt_of_eq (by decide) N_0.symm
  have e : Pipeline.accAt (fun n h => stAt0 m c n h junk0) (stAt0 m c) 0 1 (lt_of_lt_of_eq (by decide) N_0.symm) = stAt0 m c (⟨1, l1⟩ : Fin cfg0.N).val (⟨1, l1⟩ : Fin cfg0.N).isLt (stAt0 m c (⟨0, l0⟩ : Fin cfg0.N).val (⟨0, l0⟩ : Fin cfg0.N).isLt junk0) := by
    rw [Pipeline.accAt_succ, Pipeline.accAt_zero]
  rw [G3_last, e, high_first m c ⟨1, l1⟩ (show ¬1 % 2 = 0 by decide) rfl, low_first m c ⟨0, l0⟩ rfl (show ¬0 % 2 = 1 by decide)]
  exact joined _ _ _ _ _ _ (fun k r => block0 m c ⟨0, l0⟩ k r _ (by show k.val = 0 * 1024 + k.val; omega) rfl)
    (fun k r => block0 m c ⟨1, l1⟩ k r _ (by show 1024 + k.val = 1 * 1024 + k.val; omega) rfl)
    (fun k r => block1 m c ⟨0, l0⟩ k r _ (by show k.val = 0 * 1024 + k.val; omega) rfl)
    (fun k r => block1 m c ⟨1, l1⟩ k r _ (by show 1024 + k.val = 1 * 1024 + k.val; omega) rfl)

theorem low_second (c : Dev nD) (t : Fin cfg0.N) (h0 : t.val % 2 = 0) (h1 : ¬t.val % 2 = 1) (q : Vec Ideal S16x2048 .f32 × Vec Ideal S16x2048 .f32 × Vec Ideal S4x128x512 .f32 × Vec Ideal S4x128x512 .f32) :
    (stAt0 m c t.val t.isLt q).2.2.2 = added (iblk m c 0 t) (iblk m c 2 t) (fun _ => 0) := by
  rw [stAt0_A m c t q h0 h1]
  dsimp only
  exact start_second c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) ((hcond0_0 t).mpr h0) (fun h => h1 ((hcond0_1 t).mp h))

theorem high_second (c : Dev nD) (t : Fin cfg0.N) (h0 : ¬t.val % 2 = 0) (h1 : t.val % 2 = 1) (q : Vec Ideal S16x2048 .f32 × Vec Ideal S16x2048 .f32 × Vec Ideal S4x128x512 .f32 × Vec Ideal S4x128x512 .f32) :
    (stAt0 m c t.val t.isLt q).2.1 = folded (added (iblk m c 0 t) (iblk m c 2 t) q.2.2.2) := by
  rw [stAt0_B m c t q h0 h1]
  dsimp only
  exact end_second c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) q.2.2.1 q.2.2.2 (fun h => h0 ((hcond0_0 t).mp h)) ((hcond0_1 t).mpr h1)

theorem final_second (c : Dev nD) : G4 m c = diag (m ((c : Thread nD τ).loc main_arg0)) (m ((c : Thread nD τ).loc main_arg2)) := by
  have l0 : 0 < cfg0.N := lt_of_lt_of_eq (by decide) N_0.symm
  have l1 : 1 < cfg0.N := lt_of_lt_of_eq (by decide) N_0.symm
  have e : Pipeline.accAt (fun n h => stAt0 m c n h junk0) (stAt0 m c) 0 1 (lt_of_lt_of_eq (by decide) N_0.symm) = stAt0 m c (⟨1, l1⟩ : Fin cfg0.N).val (⟨1, l1⟩ : Fin cfg0.N).isLt (stAt0 m c (⟨0, l0⟩ : Fin cfg0.N).val (⟨0, l0⟩ : Fin cfg0.N).isLt junk0) := by
    rw [Pipeline.accAt_succ, Pipeline.accAt_zero]
  rw [G4_last, e, high_second m c ⟨1, l1⟩ (show ¬1 % 2 = 0 by decide) rfl, low_second m c ⟨0, l0⟩ rfl (show ¬0 % 2 = 1 by decide)]
  exact joined _ _ _ _ _ _ (fun k r => block0 m c ⟨0, l0⟩ k r _ (by show k.val = 0 * 1024 + k.val; omega) rfl)
    (fun k r => block0 m c ⟨1, l1⟩ k r _ (by show 1024 + k.val = 1 * 1024 + k.val; omega) rfl)
    (fun k r => block2 m c ⟨0, l0⟩ k r _ (by show k.val = 0 * 1024 + k.val; omega) rfl)
    (fun k r => block2 m c ⟨1, l1⟩ k r _ (by show 1024 + k.val = 1 * 1024 + k.val; omega) rfl)

/-! ## The reference's arrays, and the claim -/

open Cert.Reference27Ideal.Read in
theorem reference_first (x0 : S2048x512.Idx → EReal) (x1 : S2048x2048.Idx → EReal) : val_main_v14 (F := Ideal) x0 x1 = diag x0 x1 := by
  funext (i : S16x2048.Idx)
  have h0 : (i 0).val < 16 := (i 0).isLt
  have h1 : (i 1).val < 2048 := (i 1).isLt
  rw [val_main_v14_apply, val_main_v13_apply, val_main_v12_apply]
  unfold diag
  refine Finset.sum_congr rfl fun k _ => ?_
  have hk := k.isLt
  rw [val_main_v11_apply, val_main_v7_apply, val_main_v1_apply]
  refine congrArg₂ (fun a b : EReal => a * b) (congrArg x0 (funext fun a => Fin.ext ?_)) (congrArg x1 (funext fun a => Fin.ext ?_))
  · match a with
    | ⟨0, _⟩ => show ((k.val * 32 + ((i 0).val * 2048 + (i 1).val) / 64 % 32) * 16 + ((i 0).val * 2048 + (i 1).val) / 2048) / 512 = k.val; omega
    | ⟨1, _⟩ => show ((k.val * 32 + ((i 0).val * 2048 + (i 1).val) / 64 % 32) * 16 + ((i 0).val * 2048 + (i 1).val) / 2048) % 512 = (i 1).val / 64 * 16 + (i 0).val; omega
  · match a with
    | ⟨0, _⟩ => show ((k.val * 32 + ((i 0).val * 2048 + (i 1).val) / 64 % 32) * 64 + ((i 0).val * 2048 + (i 1).val) % 64) / 2048 = k.val; omega
    | ⟨1, _⟩ => show ((k.val * 32 + ((i 0).val * 2048 + (i 1).val) / 64 % 32) * 64 + ((i 0).val * 2048 + (i 1).val) % 64) % 2048 = (i 1).val; omega

open Cert.Reference27Ideal.Read in
theorem reference_second (x0 : S2048x512.Idx → EReal) (x2 : S2048x2048.Idx → EReal) : val_main_v16 (F := Ideal) x0 x2 = diag x0 x2 := by
  funext (i : S16x2048.Idx)
  have h0 : (i 0).val < 16 := (i 0).isLt
  have h1 : (i 1).val < 2048 := (i 1).isLt
  rw [val_main_v16_apply, val_main_v15_apply, val_main_v10_apply]
  unfold diag
  refine Finset.sum_congr rfl fun k _ => ?_
  have hk := k.isLt
  rw [val_main_v9_apply, val_main_v8_apply, val_main_v4_apply]
  refine congrArg₂ (fun a b : EReal => a * b) (congrArg x0 (funext fun a => Fin.ext ?_)) (congrArg x2 (funext fun a => Fin.ext ?_))
  · match a with
    | ⟨0, _⟩ => show ((k.val * 32 + ((i 0).val * 2048 + (i 1).val) / 64 % 32) * 16 + ((i 0).val * 2048 + (i 1).val) / 2048) / 512 = k.val; omega
    | ⟨1, _⟩ => show ((k.val * 32 + ((i 0).val * 2048 + (i 1).val) / 64 % 32) * 16 + ((i 0).val * 2048 + (i 1).val) / 2048) % 512 = (i 1).val / 64 * 16 + (i 0).val; omega
  · match a with
    | ⟨0, _⟩ => show ((k.val * 32 + ((i 0).val * 2048 + (i 1).val) / 64 % 32) * 64 + ((i 0).val * 2048 + (i 1).val) % 64) / 2048 = k.val; omega
    | ⟨1, _⟩ => show ((k.val * 32 + ((i 0).val * 2048 + (i 1).val) / 64 % 32) * 64 + ((i 0).val * 2048 + (i 1).val) % 64) % 2048 = (i 1).val; omega

theorem algebraic : Cert.algebraic_Kernel27Ideal_Reference27Ideal := by
  intro m g m' g' _ hagree
  refine ⟨G3 m, G4 m, Value.run m g, ?_⟩
  refine (θ_run Cert.Reference27Ideal.defs _ _).mono (fun r h c => ⟨?_, ?_, (h c).2.2⟩) (Cert.Reference27Ideal.Value.run (F := Ideal) m' g')
  · refine ((h c).1.trans (Cert.Reference27Ideal.Read.val_main_v14_eq _ _)).trans ?_
    rw [(hagree c).1, (hagree c).2.1, final_first m c]
    exact reference_first _ _
  · refine ((h c).2.1.trans (Cert.Reference27Ideal.Read.val_main_v16_eq _ _)).trans ?_
    rw [(hagree c).1, (hagree c).2.2, final_second m c]
    exact reference_second _ _

end Cert.Proof.ReadWeights

end
-- ==== Proof.lean ====
module

public import proofs.«01_k».proof.Defs
public import proofs.«01_k».proof.Proof.Gen.Kernel
public import proofs.«01_k».proof.Proof.LruFrame
public import proofs.«01_k».proof.Proof.Gen.Kernel2.Frame
public import proofs.«01_k».proof.Proof.Product2
public import proofs.«01_k».proof.Proof.Gen.Kernel3.Frame
public import proofs.«01_k».proof.Proof.Product3
public import proofs.«01_k».proof.Proof.Gen.Kernel4.Frame
public import proofs.«01_k».proof.Proof.Product4
public import proofs.«01_k».proof.Proof.Gen.Kernel5.Frame
public import proofs.«01_k».proof.Proof.Product5
public import proofs.«01_k».proof.Proof.Gen.Kernel6.Frame
public import proofs.«01_k».proof.Proof.Product6
public import proofs.«01_k».proof.Proof.Gen.Kernel7.Frame
public import proofs.«01_k».proof.Proof.Product7
public import proofs.«01_k».proof.Proof.Gen.Kernel8.Frame
public import proofs.«01_k».proof.Proof.Product8
public import proofs.«01_k».proof.Proof.Gen.Kernel9.Frame
public import proofs.«01_k».proof.Proof.Product9
public import proofs.«01_k».proof.Proof.Gen.Kernel10.Frame
public import proofs.«01_k».proof.Proof.Product10
public import proofs.«01_k».proof.Proof.Gen.Kernel11.Frame
public import proofs.«01_k».proof.Proof.Product11
public import proofs.«01_k».proof.Proof.Gen.Kernel12.Frame
public import proofs.«01_k».proof.Proof.Product12
public import proofs.«01_k».proof.Proof.Gen.Kernel13.Frame
public import proofs.«01_k».proof.Proof.MergeBack
public import proofs.«01_k».proof.Proof.Gen.Kernel18.Frame
public import proofs.«01_k».proof.Proof.MergeForward
public import proofs.«01_k».proof.Proof.Gen.Kernel17
public import proofs.«01_k».proof.Proof.FfnDownRun
public import proofs.«01_k».proof.Proof.FfnDown
public import proofs.«01_k».proof.Proof.Gen.Kernel16
public import proofs.«01_k».proof.Proof.FfnUpRun
public import proofs.«01_k».proof.Proof.FfnUp
public import proofs.«01_k».proof.Proof.Gen.Kernel19
public import proofs.«01_k».proof.Proof.InProjRun
public import proofs.«01_k».proof.Proof.InProj
public import proofs.«01_k».proof.Proof.Gen.Kernel15
public import proofs.«01_k».proof.Proof.InProjBackRun
public import proofs.«01_k».proof.Proof.InProjBack
public import proofs.«01_k».proof.Proof.Gen.Kernel21.Frame
public import proofs.«01_k».proof.Proof.TnBlocks
public import Idealize.ShloMosaic.Adequacy
public import Idealize.ShloMosaic.Init
public import proofs.«01_k».proof.Proof.Gen.Kernel22.Frame
public import proofs.«01_k».proof.Proof.AdamIn
public import proofs.«01_k».proof.Proof.Gen.Kernel23.Frame
public import proofs.«01_k».proof.Proof.AdamFfn
public import proofs.«01_k».proof.Proof.Gen.Kernel24.Frame
public import proofs.«01_k».proof.Proof.AdamOut
public import proofs.«01_k».proof.Proof.Gen.Kernel25.Frame
public import proofs.«01_k».proof.Proof.AdamPle
public import proofs.«01_k».proof.Proof.Gen.Kernel26.Frame
public import proofs.«01_k».proof.Proof.AdamMerge
public import proofs.«01_k».proof.Proof.Gen.Kernel27.Frame
public import proofs.«01_k».proof.Proof.ReadWeights

@[expose] public section

noncomputable section

namespace Cert.Proof

open Idealize.ShloMosaic Idealize.ShloMosaic.Tactic Idealize.SL.Sem

open Cert.KernelIdeal in
/-- The kernel's frame, stated of the program's other printing: the two printings are the same program. -/
theorem frame_same : Cert.quiescent_Kernel = (∀ (m : (ℓ : Loc nD τ sig) → Buf (Elt Bits) ℓ) (g : Dev nD → PrngReg), Cert.Pre_Kernel m →
    θ_run (defs (F := Bits)) (onTc (τ := τ) (main (F := Bits))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9))
        ∧ r.2.sem = fun _ => 0)) := by
  sl_kernel_rfl

theorem frame_kernel : Cert.quiescent_Kernel := frame_same.mpr fun m ρ _ => Cert.KernelIdeal.Lru.frame (F := Bits) m ρ

theorem frame_ideal : Cert.quiescent_KernelIdeal := fun m ρ _ => Cert.KernelIdeal.Lru.frame (F := Ideal) m ρ

theorem frame_kernel2 : Cert.quiescent_Kernel2 := fun m ρ _ => Cert.Kernel2.Gen.frame m ρ
theorem frame_ideal2 : Cert.quiescent_Kernel2Ideal := fun m ρ _ => Cert.Kernel2Ideal.Gen.frame m ρ
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_kernel3 : Cert.quiescent_Kernel3 := fun m ρ _ => Cert.Kernel3.Gen.frame m ρ
theorem frame_ideal3 : Cert.quiescent_Kernel3Ideal := fun m ρ _ => Cert.Kernel3Ideal.Gen.frame m ρ
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_kernel4 : Cert.quiescent_Kernel4 := fun m ρ _ => Cert.Kernel4.Gen.frame m ρ
theorem frame_ideal4 : Cert.quiescent_Kernel4Ideal := fun m ρ _ => Cert.Kernel4Ideal.Gen.frame m ρ
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_kernel5 : Cert.quiescent_Kernel5 := fun m ρ _ => Cert.Kernel5.Gen.frame m ρ
theorem frame_ideal5 : Cert.quiescent_Kernel5Ideal := fun m ρ _ => Cert.Kernel5Ideal.Gen.frame m ρ
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem frame_kernel6 : Cert.quiescent_Kernel6 := fun m ρ _ => Cert.Kernel6.Gen.frame m ρ
theorem frame_ideal6 : Cert.quiescent_Kernel6Ideal := fun m ρ _ => Cert.Kernel6Ideal.Gen.frame m ρ
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_kernel7 : Cert.quiescent_Kernel7 := fun m ρ _ => Cert.Kernel7.Gen.frame m ρ
theorem frame_ideal7 : Cert.quiescent_Kernel7Ideal := fun m ρ _ => Cert.Kernel7Ideal.Gen.frame m ρ
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem frame_kernel8 : Cert.quiescent_Kernel8 := fun m ρ _ => Cert.Kernel8.Gen.frame m ρ
theorem frame_ideal8 : Cert.quiescent_Kernel8Ideal := fun m ρ _ => Cert.Kernel8Ideal.Gen.frame m ρ
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem frame_kernel9 : Cert.quiescent_Kernel9 := fun m ρ _ => Cert.Kernel9.Gen.frame m ρ
theorem frame_ideal9 : Cert.quiescent_Kernel9Ideal := fun m ρ _ => Cert.Kernel9Ideal.Gen.frame m ρ
theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem frame_kernel10 : Cert.quiescent_Kernel10 := fun m ρ _ => Cert.Kernel10.Gen.frame m ρ
theorem frame_ideal10 : Cert.quiescent_Kernel10Ideal := fun m ρ _ => Cert.Kernel10Ideal.Gen.frame m ρ
theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem frame_kernel11 : Cert.quiescent_Kernel11 := fun m ρ _ => Cert.Kernel11.Gen.frame m ρ
theorem frame_ideal11 : Cert.quiescent_Kernel11Ideal := fun m ρ _ => Cert.Kernel11Ideal.Gen.frame m ρ
theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem frame_kernel12 : Cert.quiescent_Kernel12 := fun m ρ _ => Cert.Kernel12.Gen.frame m ρ
theorem frame_ideal12 : Cert.quiescent_Kernel12Ideal := fun m ρ _ => Cert.Kernel12Ideal.Gen.frame m ρ
theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem frame_kernel13 : Cert.quiescent_Kernel13 := fun m ρ _ => Cert.Kernel13.Gen.frame m ρ
theorem frame_ideal13 : Cert.quiescent_Kernel13Ideal := fun m ρ _ => Cert.Kernel13Ideal.Gen.frame m ρ
theorem frame_reference13 : Cert.quiescent_Reference13Ideal := fun m ρ _ =>
  (θ_run Cert.Reference13Ideal.defs _ _).mono (fun r h => ⟨fun c => (h c).2.2.2.2.2, sem_eq_zero_of_no_sems (by decide) r.2⟩)
    (Cert.Reference13Ideal.Value.run (F := Ideal) m ρ)

theorem frame_kernel18 : Cert.quiescent_Kernel18 := fun m ρ _ => Cert.Kernel18.Gen.frame m ρ
theorem frame_ideal18 : Cert.quiescent_Kernel18Ideal := fun m ρ _ => Cert.Kernel18Ideal.Gen.frame m ρ
theorem frame_reference18 : Cert.quiescent_Reference18Ideal := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

open Cert.Kernel17Ideal in
/-- The frame of this call, stated of the program's other printing. -/
theorem frame_same17 : Cert.quiescent_Kernel17 = (∀ (m : (ℓ : Loc nD τ sig) → Buf (Elt Bits) ℓ) (g : Dev nD → PrngReg), Cert.Pre_Kernel17 m →
    θ_run (defs (F := Bits)) (onTc (τ := τ) (main (F := Bits))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0)) := by
  sl_kernel_rfl
theorem frame_kernel17 : Cert.quiescent_Kernel17 := frame_same17.mpr fun m ρ _ => Cert.Kernel17Ideal.Resident.frame (F := Bits) m ρ
theorem frame_ideal17 : Cert.quiescent_Kernel17Ideal := fun m ρ _ => Cert.Kernel17Ideal.Resident.frame (F := Ideal) m ρ
theorem frame_reference17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

open Cert.Kernel16Ideal in
/-- The frame of this call, stated of the program's other printing. -/
theorem frame_same16 : Cert.quiescent_Kernel16 = (∀ (m : (ℓ : Loc nD τ sig) → Buf (Elt Bits) ℓ) (g : Dev nD → PrngReg), Cert.Pre_Kernel16 m →
    θ_run (defs (F := Bits)) (onTc (τ := τ) (main (F := Bits))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0)) := by
  sl_kernel_rfl
theorem frame_kernel16 : Cert.quiescent_Kernel16 := frame_same16.mpr fun m ρ _ => Cert.Kernel16Ideal.Resident.frame (F := Bits) m ρ
theorem frame_ideal16 : Cert.quiescent_Kernel16Ideal := fun m ρ _ => Cert.Kernel16Ideal.Resident.frame (F := Ideal) m ρ
theorem frame_reference16 : Cert.quiescent_Reference16Ideal := fun m ρ _ =>
  (θ_run Cert.Reference16Ideal.defs _ _).mono (fun r h => ⟨fun c => (h c).2.2.2, sem_eq_zero_of_no_sems (by decide) r.2⟩)
    (Cert.Reference16Ideal.Value.run (F := Ideal) m ρ)

open Cert.Kernel19Ideal in
/-- The frame of this call, stated of the program's other printing. -/
theorem frame_same19 : Cert.quiescent_Kernel19 = (∀ (m : (ℓ : Loc nD τ sig) → Buf (Elt Bits) ℓ) (g : Dev nD → PrngReg), Cert.Pre_Kernel19 m →
    θ_run (defs (F := Bits)) (onTc (τ := τ) (main (F := Bits))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0)) := by
  sl_kernel_rfl
theorem frame_kernel19 : Cert.quiescent_Kernel19 := frame_same19.mpr fun m ρ _ => Cert.Kernel19Ideal.Resident.frame (F := Bits) m ρ
theorem frame_ideal19 : Cert.quiescent_Kernel19Ideal := fun m ρ _ => Cert.Kernel19Ideal.Resident.frame (F := Ideal) m ρ
theorem frame_reference19 : Cert.quiescent_Reference19Ideal := fun m ρ _ =>
  (θ_run Cert.Reference19Ideal.defs _ _).mono (fun r h => ⟨fun c => (h c).2.2.2.2, sem_eq_zero_of_no_sems (by decide) r.2⟩)
    (Cert.Reference19Ideal.Value.run (F := Ideal) m ρ)

open Cert.Kernel15Ideal in
/-- The frame of this call, stated of the program's other printing. -/
theorem frame_same15 : Cert.quiescent_Kernel15 = (∀ (m : (ℓ : Loc nD τ sig) → Buf (Elt Bits) ℓ) (g : Dev nD → PrngReg), Cert.Pre_Kernel15 m →
    θ_run (defs (F := Bits)) (onTc (τ := τ) (main (F := Bits))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
        ∧ r.2.sem = fun _ => 0)) := by
  sl_kernel_rfl
theorem frame_kernel15 : Cert.quiescent_Kernel15 := frame_same15.mpr fun m ρ _ => Cert.Kernel15Ideal.Resident.frame (F := Bits) m ρ
theorem frame_ideal15 : Cert.quiescent_Kernel15Ideal := fun m ρ _ => Cert.Kernel15Ideal.Resident.frame (F := Ideal) m ρ
theorem frame_reference15 : Cert.quiescent_Reference15Ideal := fun m ρ _ =>
  (θ_run Cert.Reference15Ideal.defs _ _).mono (fun r h => ⟨fun c => (h c).2.2.2.2, sem_eq_zero_of_no_sems (by decide) r.2⟩)
    (Cert.Reference15Ideal.Value.run (F := Ideal) m ρ)

theorem frame_kernel21 : Cert.quiescent_Kernel21 := fun m ρ _ => Cert.Kernel21.Gen.frame m ρ
theorem frame_ideal21 : Cert.quiescent_Kernel21Ideal := fun m ρ _ => Cert.Kernel21Ideal.Gen.frame m ρ
theorem frame_reference21 : Cert.quiescent_Reference21Ideal := fun m ρ _ =>
  (θ_run Cert.Reference21Ideal.defs _ _).mono (fun r h => ⟨fun c => (h c).2.2, sem_eq_zero_of_no_sems (by decide) r.2⟩)
    (Cert.Reference21Ideal.Value.run (F := Ideal) m ρ)
theorem frame_kernel22 : Cert.quiescent_Kernel22 := fun m ρ _ => Cert.Kernel22.Gen.frame m ρ
theorem frame_ideal22 : Cert.quiescent_Kernel22Ideal := fun m ρ _ => Cert.Kernel22Ideal.Gen.frame m ρ
theorem frame_reference22 : Cert.quiescent_Reference22Ideal := fun m ρ _ =>
  (θ_run Cert.Reference22Ideal.defs _ _).mono (fun r h => ⟨fun c => (h c).2.2.2.2.2.2, sem_eq_zero_of_no_sems (by decide) r.2⟩)
    (Cert.Reference22Ideal.Value.run (F := Ideal) m ρ)
theorem frame_kernel23 : Cert.quiescent_Kernel23 := fun m ρ _ => Cert.Kernel23.Gen.frame m ρ
theorem frame_ideal23 : Cert.quiescent_Kernel23Ideal := fun m ρ _ => Cert.Kernel23Ideal.Gen.frame m ρ
theorem frame_reference23 : Cert.quiescent_Reference23Ideal := fun m ρ _ =>
  (θ_run Cert.Reference23Ideal.defs _ _).mono (fun r h => ⟨fun c => (h c).2.2.2, sem_eq_zero_of_no_sems (by decide) r.2⟩)
    (Cert.Reference23Ideal.Value.run (F := Ideal) m ρ)
theorem frame_kernel24 : Cert.quiescent_Kernel24 := fun m ρ _ => Cert.Kernel24.Gen.frame m ρ
theorem frame_ideal24 : Cert.quiescent_Kernel24Ideal := fun m ρ _ => Cert.Kernel24Ideal.Gen.frame m ρ
theorem frame_reference24 : Cert.quiescent_Reference24Ideal := fun m ρ _ =>
  (θ_run Cert.Reference24Ideal.defs _ _).mono (fun r h => ⟨fun c => (h c).2.2.2, sem_eq_zero_of_no_sems (by decide) r.2⟩)
    (Cert.Reference24Ideal.Value.run (F := Ideal) m ρ)
theorem frame_kernel25 : Cert.quiescent_Kernel25 := fun m ρ _ => Cert.Kernel25.Gen.frame m ρ
theorem frame_ideal25 : Cert.quiescent_Kernel25Ideal := fun m ρ _ => Cert.Kernel25Ideal.Gen.frame m ρ
theorem frame_reference25 : Cert.quiescent_Reference25Ideal := fun m ρ _ =>
  (θ_run Cert.Reference25Ideal.defs _ _).mono (fun r h => ⟨fun c => (h c).2.2.2.2.2.2, sem_eq_zero_of_no_sems (by decide) r.2⟩)
    (Cert.Reference25Ideal.Value.run (F := Ideal) m ρ)
theorem frame_kernel26 : Cert.quiescent_Kernel26 := fun m ρ _ => Cert.Kernel26.Gen.frame m ρ
theorem frame_ideal26 : Cert.quiescent_Kernel26Ideal := fun m ρ _ => Cert.Kernel26Ideal.Gen.frame m ρ
theorem frame_reference26 : Cert.quiescent_Reference26Ideal := fun m ρ _ =>
  (θ_run Cert.Reference26Ideal.defs _ _).mono (fun r h => ⟨fun c => (h c).2.2.2.2.2.2, sem_eq_zero_of_no_sems (by decide) r.2⟩)
    (Cert.Reference26Ideal.Value.run (F := Ideal) m ρ)

theorem frame_kernel27 : Cert.quiescent_Kernel27 := fun m ρ _ => Cert.Kernel27.Gen.frame m ρ
theorem frame_ideal27 : Cert.quiescent_Kernel27Ideal := fun m ρ _ => Cert.Kernel27Ideal.Gen.frame m ρ
theorem frame_reference27 : Cert.quiescent_Reference27Ideal := fun m ρ _ =>
  (θ_run Cert.Reference27Ideal.defs _ _).mono (fun r h => ⟨fun c => (h c).2.2, sem_eq_zero_of_no_sems (by decide) r.2⟩)
    (Cert.Reference27Ideal.Value.run (F := Ideal) m ρ)

theorem claim : Cert.Claim := ⟨Cert.Kernel.Gen.facts, Cert.KernelIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel18.Gen.facts, Cert.Kernel18Ideal.Gen.facts, Cert.Reference18Ideal.Gen.facts, Cert.Kernel17.Gen.facts, Cert.Kernel17Ideal.Gen.facts, Cert.Reference17Ideal.Gen.facts, Cert.Kernel16.Gen.facts, Cert.Kernel16Ideal.Gen.facts, Cert.Reference16Ideal.Gen.facts, Cert.Kernel19.Gen.facts, Cert.Kernel19Ideal.Gen.facts, Cert.Reference19Ideal.Gen.facts, Cert.Kernel15.Gen.facts, Cert.Kernel15Ideal.Gen.facts, Cert.Reference15Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts,
  frame_kernel, frame_ideal, frame_kernel2, frame_ideal2, frame_reference2, frame_kernel3, frame_ideal3, frame_reference3, frame_kernel4, frame_ideal4, frame_reference4, frame_kernel5, frame_ideal5, frame_reference5, frame_kernel6, frame_ideal6, frame_reference6, frame_kernel7, frame_ideal7, frame_reference7, frame_kernel8, frame_ideal8, frame_reference8, frame_kernel9, frame_ideal9, frame_reference9, frame_kernel10, frame_ideal10, frame_reference10, frame_kernel11, frame_ideal11, frame_reference11, frame_kernel12, frame_ideal12, frame_reference12, frame_kernel13, frame_ideal13, frame_reference13, frame_kernel18, frame_ideal18, frame_reference18, frame_kernel17, frame_ideal17, frame_reference17, frame_kernel16, frame_ideal16, frame_reference16, frame_kernel19, frame_ideal19, frame_reference19, frame_kernel15, frame_ideal15, frame_reference15, frame_kernel21, frame_ideal21, frame_reference21, frame_kernel22, frame_ideal22, frame_reference22, frame_kernel23, frame_ideal23, frame_reference23, frame_kernel24, frame_ideal24, frame_reference24, frame_kernel25, frame_ideal25, frame_reference25, frame_kernel26, frame_ideal26, frame_reference26, frame_kernel27, frame_ideal27, frame_reference27, trivial, trivial, Product2.algebraic, trivial, Product3.algebraic, trivial, Product4.algebraic, trivial, Product5.algebraic, trivial, Product6.algebraic, trivial, Product7.algebraic, trivial, Product8.algebraic, trivial, Product9.algebraic, trivial, Product10.algebraic, trivial, Product11.algebraic, trivial, Product12.algebraic, trivial, MergeBack.algebraic, trivial, MergeForward.algebraic, trivial, FfnDown.algebraic, trivial, FfnUp.algebraic, trivial, InProj.algebraic, trivial, InProjBack.algebraic, trivial, TnBlocks.algebraic, trivial, AdamIn.algebraic, trivial, AdamFfn.algebraic, trivial, AdamOut.algebraic, trivial, AdamPle.algebraic, trivial, AdamMerge.algebraic, trivial, ReadWeights.algebraic⟩

end Cert.Proof

end
